-- ==== Defs.lean ====
def Pre_Kernel [hPre_nonneg : Cert.Pre_nonneg.Facts] (m : (ℓ : Loc Cert.Kernel.nD Cert.Kernel.τ Cert.Kernel.sig) → Buf (Elt Bits) ℓ) : Prop :=
  ∀ c : Dev Cert.Kernel.nD,
    (Cert.Pre_nonneg.fn (F := Bits) (m ((c.tc : Thread Cert.Kernel.nD Cert.Kernel.τ).loc Cert.Kernel.main_arg0))) = (fun _ => 1#1)

def Pre_Reference (m : (ℓ : Loc Cert.Reference.nD Cert.Reference.τ Cert.Reference.sig) → Buf (Elt Bits) ℓ) : Prop :=
  True

def Pre_Reference_nonneg [hPre_nonneg : Cert.Pre_nonneg.Facts] (m : (ℓ : Loc Cert.Reference.nD Cert.Reference.τ Cert.Reference.sig) → Buf (Elt Bits) ℓ) : Prop :=
  ∀ c : Dev Cert.Reference.nD,
    (Cert.Pre_nonneg.fn (F := Bits) (m ((c.tc : Thread Cert.Reference.nD Cert.Reference.τ).loc Cert.Reference.main_arg0))) = (fun _ => 1#1)

def Pre_Encode (m : (ℓ : Loc Cert.Encode.nD Cert.Encode.τ Cert.Encode.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_EncodeRefIdeal (m : (ℓ : Loc Cert.EncodeRefIdeal.nD Cert.EncodeRefIdeal.τ Cert.EncodeRefIdeal.sig) → Buf (Elt Ideal) ℓ) : Prop :=
  True

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeRefIdeal (m : (ℓ : Loc Cert.DecodeRefIdeal.nD Cert.DecodeRefIdeal.τ Cert.DecodeRefIdeal.sig) → Buf (Elt Ideal) ℓ) : Prop :=
  True

def quiescent_Kernel [hKernel : Cert.Kernel.Facts] [hPre_nonneg : Cert.Pre_nonneg.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Reference_pre_nonneg [hReference : Cert.Reference.Facts] [hPre_nonneg : Cert.Pre_nonneg.Facts] : Prop :=
  ∀ (m : (ℓ : Loc Cert.Reference.nD Cert.Reference.τ Cert.Reference.sig) → Buf (Elt Bits) ℓ) (g : Dev Cert.Reference.nD → PrngReg), Pre_Reference_nonneg m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0)
      ∧ r.2.mem ((c.tc : Thread Cert.Encode.nD Cert.Encode.τ).loc Cert.Encode.main_arg1) = m ((c.tc : Thread Cert.Encode.nD Cert.Encode.τ).loc Cert.Encode.main_arg1)
      ∧ r.2.mem ((c.tc : Thread Cert.Encode.nD Cert.Encode.τ).loc Cert.Encode.main_arg2) = m ((c.tc : Thread Cert.Encode.nD Cert.Encode.τ).loc Cert.Encode.main_arg2))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2))
      ∧ r.2.sem = fun _ => 0)

def quiescent_EncodeRefIdeal [hEncodeRefIdeal : Cert.EncodeRefIdeal.Facts] : Prop :=
  ∀ (m : (ℓ : Loc Cert.EncodeRefIdeal.nD Cert.EncodeRefIdeal.τ Cert.EncodeRefIdeal.sig) → Buf (Elt Ideal) ℓ) (g : Dev Cert.EncodeRefIdeal.nD → PrngReg), Pre_EncodeRefIdeal m →
    θ_run (Cert.EncodeRefIdeal.defs (F := Ideal)) (onTc (τ := Cert.EncodeRefIdeal.τ) (Cert.EncodeRefIdeal.main (F := Ideal))) ⟨m, fun _ => 0, g⟩ (fun r => (∀ c : Dev Cert.EncodeRefIdeal.nD,
      r.2.mem ((c.tc : Thread Cert.EncodeRefIdeal.nD Cert.EncodeRefIdeal.τ).loc Cert.EncodeRefIdeal.main_arg0) = m ((c.tc : Thread Cert.EncodeRefIdeal.nD Cert.EncodeRefIdeal.τ).loc Cert.EncodeRefIdeal.main_arg0)
      ∧ r.2.mem ((c.tc : Thread Cert.EncodeRefIdeal.nD Cert.EncodeRefIdeal.τ).loc Cert.EncodeRefIdeal.main_arg1) = m ((c.tc : Thread Cert.EncodeRefIdeal.nD Cert.EncodeRefIdeal.τ).loc Cert.EncodeRefIdeal.main_arg1)
      ∧ r.2.mem ((c.tc : Thread Cert.EncodeRefIdeal.nD Cert.EncodeRefIdeal.τ).loc Cert.EncodeRefIdeal.main_arg2) = m ((c.tc : Thread Cert.EncodeRefIdeal.nD Cert.EncodeRefIdeal.τ).loc Cert.EncodeRefIdeal.main_arg2))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ r.2.sem = fun _ => 0)

def quiescent_DecodeRefIdeal [hDecodeRefIdeal : Cert.DecodeRefIdeal.Facts] : Prop :=
  ∀ (m : (ℓ : Loc Cert.DecodeRefIdeal.nD Cert.DecodeRefIdeal.τ Cert.DecodeRefIdeal.sig) → Buf (Elt Ideal) ℓ) (g : Dev Cert.DecodeRefIdeal.nD → PrngReg), Pre_DecodeRefIdeal m →
    θ_run (Cert.DecodeRefIdeal.defs (F := Ideal)) (onTc (τ := Cert.DecodeRefIdeal.τ) (Cert.DecodeRefIdeal.main (F := Ideal))) ⟨m, fun _ => 0, g⟩ (fun r => (∀ c : Dev Cert.DecodeRefIdeal.nD,
      r.2.mem ((c.tc : Thread Cert.DecodeRefIdeal.nD Cert.DecodeRefIdeal.τ).loc Cert.DecodeRefIdeal.main_arg0) = m ((c.tc : Thread Cert.DecodeRefIdeal.nD Cert.DecodeRefIdeal.τ).loc Cert.DecodeRefIdeal.main_arg0)
      ∧ r.2.mem ((c.tc : Thread Cert.DecodeRefIdeal.nD Cert.DecodeRefIdeal.τ).loc Cert.DecodeRefIdeal.main_arg1) = m ((c.tc : Thread Cert.DecodeRefIdeal.nD Cert.DecodeRefIdeal.τ).loc Cert.DecodeRefIdeal.main_arg1)
      ∧ r.2.mem ((c.tc : Thread Cert.DecodeRefIdeal.nD Cert.DecodeRefIdeal.τ).loc Cert.DecodeRefIdeal.main_arg2) = m ((c.tc : Thread Cert.DecodeRefIdeal.nD Cert.DecodeRefIdeal.τ).loc Cert.DecodeRefIdeal.main_arg2)
      ∧ r.2.mem ((c.tc : Thread Cert.DecodeRefIdeal.nD Cert.DecodeRefIdeal.τ).loc Cert.DecodeRefIdeal.main_arg3) = m ((c.tc : Thread Cert.DecodeRefIdeal.nD Cert.DecodeRefIdeal.τ).loc Cert.DecodeRefIdeal.main_arg3))
      ∧ r.2.sem = fun _ => 0)

def bitexact_Kernel_Reference [hKernel : Cert.Kernel.Facts] [hReference : Cert.Reference.Facts] [hPre_nonneg : Cert.Pre_nonneg.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0))

def preserves_Encode_EncodeIdeal : Prop :=
  True

def algebraic_EncodeIdeal_EncodeRefIdeal [hEncodeIdeal : Cert.EncodeIdeal.Facts] [hEncodeRefIdeal : Cert.EncodeRefIdeal.Facts] : Prop :=
  ∀ (m : (ℓ : Loc Cert.EncodeIdeal.nD Cert.EncodeIdeal.τ Cert.EncodeIdeal.sig) → Buf (Elt Ideal) ℓ) (g : Dev Cert.EncodeIdeal.nD → PrngReg)
    (m' : (ℓ : Loc Cert.EncodeRefIdeal.nD Cert.EncodeRefIdeal.τ Cert.EncodeRefIdeal.sig) → Buf (Elt Ideal) ℓ) (g' : Dev Cert.EncodeRefIdeal.nD → PrngReg), Pre_EncodeIdeal m →
    (∀ c : Dev Cert.EncodeIdeal.nD,
      m' ((c.tc : Thread Cert.EncodeRefIdeal.nD Cert.EncodeRefIdeal.τ).loc Cert.EncodeRefIdeal.main_arg0) = m ((c.tc : Thread Cert.EncodeIdeal.nD Cert.EncodeIdeal.τ).loc Cert.EncodeIdeal.main_arg0)
      ∧ m' ((c.tc : Thread Cert.EncodeRefIdeal.nD Cert.EncodeRefIdeal.τ).loc Cert.EncodeRefIdeal.main_arg1) = m ((c.tc : Thread Cert.EncodeIdeal.nD Cert.EncodeIdeal.τ).loc Cert.EncodeIdeal.main_arg1)
      ∧ m' ((c.tc : Thread Cert.EncodeRefIdeal.nD Cert.EncodeRefIdeal.τ).loc Cert.EncodeRefIdeal.main_arg2) = m ((c.tc : Thread Cert.EncodeIdeal.nD Cert.EncodeIdeal.τ).loc Cert.EncodeIdeal.main_arg2)) →
    ∃ (v0 : (c : Dev Cert.EncodeIdeal.nD) → Buf (Elt Ideal) ((c.tc : Thread Cert.EncodeIdeal.nD Cert.EncodeIdeal.τ).loc Cert.EncodeIdeal.main_v1)),
      θ_run (Cert.EncodeIdeal.defs (F := Ideal)) (onTc (τ := Cert.EncodeIdeal.τ) (Cert.EncodeIdeal.main (F := Ideal))) ⟨m, fun _ => 0, g⟩ (fun r => ∀ c : Dev Cert.EncodeIdeal.nD,
          r.2.mem ((c.tc : Thread Cert.EncodeIdeal.nD Cert.EncodeIdeal.τ).loc Cert.EncodeIdeal.main_v1) = v0 c
          ∧ r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
          ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
          ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2))
      ∧ θ_run (Cert.EncodeRefIdeal.defs (F := Ideal)) (onTc (τ := Cert.EncodeRefIdeal.τ) (Cert.EncodeRefIdeal.main (F := Ideal))) ⟨m', fun _ => 0, g'⟩ (fun r => ∀ c : Dev Cert.EncodeRefIdeal.nD,
          r.2.mem ((c.tc : Thread Cert.EncodeRefIdeal.nD Cert.EncodeRefIdeal.τ).loc Cert.EncodeRefIdeal.main_v5) = v0 c
          ∧ r.2.mem ((c.tc : Thread Cert.EncodeRefIdeal.nD Cert.EncodeRefIdeal.τ).loc Cert.EncodeRefIdeal.main_arg0) = m' ((c.tc : Thread Cert.EncodeRefIdeal.nD Cert.EncodeRefIdeal.τ).loc Cert.EncodeRefIdeal.main_arg0)
          ∧ r.2.mem ((c.tc : Thread Cert.EncodeRefIdeal.nD Cert.EncodeRefIdeal.τ).loc Cert.EncodeRefIdeal.main_arg1) = m' ((c.tc : Thread Cert.EncodeRefIdeal.nD Cert.EncodeRefIdeal.τ).loc Cert.EncodeRefIdeal.main_arg1)
          ∧ r.2.mem ((c.tc : Thread Cert.EncodeRefIdeal.nD Cert.EncodeRefIdeal.τ).loc Cert.EncodeRefIdeal.main_arg2) = m' ((c.tc : Thread Cert.EncodeRefIdeal.nD Cert.EncodeRefIdeal.τ).loc Cert.EncodeRefIdeal.main_arg2))

def preserves_Decode_DecodeIdeal : Prop :=
  True

def algebraic_DecodeIdeal_DecodeRefIdeal [hDecodeIdeal : Cert.DecodeIdeal.Facts] [hDecodeRefIdeal : Cert.DecodeRefIdeal.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeRefIdeal.nD Cert.DecodeRefIdeal.τ Cert.DecodeRefIdeal.sig) → Buf (Elt Ideal) ℓ) (g' : Dev Cert.DecodeRefIdeal.nD → PrngReg), Pre_DecodeIdeal m →
    (∀ c : Dev Cert.DecodeIdeal.nD,
      m' ((c.tc : Thread Cert.DecodeRefIdeal.nD Cert.DecodeRefIdeal.τ).loc Cert.DecodeRefIdeal.main_arg0) = m ((c.tc : Thread Cert.DecodeIdeal.nD Cert.DecodeIdeal.τ).loc Cert.DecodeIdeal.main_arg0)
      ∧ m' ((c.tc : Thread Cert.DecodeRefIdeal.nD Cert.DecodeRefIdeal.τ).loc Cert.DecodeRefIdeal.main_arg1) = m ((c.tc : Thread Cert.DecodeIdeal.nD Cert.DecodeIdeal.τ).loc Cert.DecodeIdeal.main_arg1)
      ∧ m' ((c.tc : Thread Cert.DecodeRefIdeal.nD Cert.DecodeRefIdeal.τ).loc Cert.DecodeRefIdeal.main_arg2) = m ((c.tc : Thread Cert.DecodeIdeal.nD Cert.DecodeIdeal.τ).loc Cert.DecodeIdeal.main_arg2)
      ∧ m' ((c.tc : Thread Cert.DecodeRefIdeal.nD Cert.DecodeRefIdeal.τ).loc Cert.DecodeRefIdeal.main_arg3) = m ((c.tc : Thread Cert.DecodeIdeal.nD Cert.DecodeIdeal.τ).loc Cert.DecodeIdeal.main_arg3)) →
    ∃ (v0 : (c : Dev Cert.DecodeIdeal.nD) → Buf (Elt Ideal) ((c.tc : Thread Cert.DecodeIdeal.nD Cert.DecodeIdeal.τ).loc Cert.DecodeIdeal.main_v1_1)) (v1 : (c : Dev Cert.DecodeIdeal.nD) → Buf (Elt Ideal) ((c.tc : Thread Cert.DecodeIdeal.nD Cert.DecodeIdeal.τ).loc Cert.DecodeIdeal.main_v1_0)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v1_1) = v0 c
          ∧ r.2.mem ((c.tc : Thread Cert.DecodeIdeal.nD Cert.DecodeIdeal.τ).loc Cert.DecodeIdeal.main_v1_0) = v1 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
          ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ θ_run (Cert.DecodeRefIdeal.defs (F := Ideal)) (onTc (τ := Cert.DecodeRefIdeal.τ) (Cert.DecodeRefIdeal.main (F := Ideal))) ⟨m', fun _ => 0, g'⟩ (fun r => ∀ c : Dev Cert.DecodeRefIdeal.nD,
          r.2.mem ((c.tc : Thread Cert.DecodeRefIdeal.nD Cert.DecodeRefIdeal.τ).loc Cert.DecodeRefIdeal.main_v9) = v0 c
          ∧ r.2.mem ((c.tc : Thread Cert.DecodeRefIdeal.nD Cert.DecodeRefIdeal.τ).loc Cert.DecodeRefIdeal.main_v4) = v1 c
          ∧ r.2.mem ((c.tc : Thread Cert.DecodeRefIdeal.nD Cert.DecodeRefIdeal.τ).loc Cert.DecodeRefIdeal.main_arg0) = m' ((c.tc : Thread Cert.DecodeRefIdeal.nD Cert.DecodeRefIdeal.τ).loc Cert.DecodeRefIdeal.main_arg0)
          ∧ r.2.mem ((c.tc : Thread Cert.DecodeRefIdeal.nD Cert.DecodeRefIdeal.τ).loc Cert.DecodeRefIdeal.main_arg1) = m' ((c.tc : Thread Cert.DecodeRefIdeal.nD Cert.DecodeRefIdeal.τ).loc Cert.DecodeRefIdeal.main_arg1)
          ∧ r.2.mem ((c.tc : Thread Cert.DecodeRefIdeal.nD Cert.DecodeRefIdeal.τ).loc Cert.DecodeRefIdeal.main_arg2) = m' ((c.tc : Thread Cert.DecodeRefIdeal.nD Cert.DecodeRefIdeal.τ).loc Cert.DecodeRefIdeal.main_arg2)
          ∧ r.2.mem ((c.tc : Thread Cert.DecodeRefIdeal.nD Cert.DecodeRefIdeal.τ).loc Cert.DecodeRefIdeal.main_arg3) = m' ((c.tc : Thread Cert.DecodeRefIdeal.nD Cert.DecodeRefIdeal.τ).loc Cert.DecodeRefIdeal.main_arg3))

def Claim : Prop :=
  ∃ (hKernel : Cert.Kernel.Facts) (hReference : Cert.Reference.Facts) (hEncode : Cert.Encode.Facts) (hEncodeIdeal : Cert.EncodeIdeal.Facts) (hEncodeRefIdeal : Cert.EncodeRefIdeal.Facts) (hDecode : Cert.Decode.Facts) (hDecodeIdeal : Cert.DecodeIdeal.Facts) (hDecodeRefIdeal : Cert.DecodeRefIdeal.Facts) (hPre_nonneg : Cert.Pre_nonneg.Facts),
    quiescent_Kernel (hKernel := hKernel) (hPre_nonneg := hPre_nonneg)
    ∧ quiescent_Reference (hReference := hReference)
    ∧ quiescent_Reference_pre_nonneg (hReference := hReference) (hPre_nonneg := hPre_nonneg)
    ∧ quiescent_Encode (hEncode := hEncode)
    ∧ quiescent_EncodeIdeal (hEncodeIdeal := hEncodeIdeal)
    ∧ quiescent_EncodeRefIdeal (hEncodeRefIdeal := hEncodeRefIdeal)
    ∧ quiescent_Decode (hDecode := hDecode)
    ∧ quiescent_DecodeIdeal (hDecodeIdeal := hDecodeIdeal)
    ∧ quiescent_DecodeRefIdeal (hDecodeRefIdeal := hDecodeRefIdeal)
    ∧ bitexact_Kernel_Reference (hKernel := hKernel) (hReference := hReference) (hPre_nonneg := hPre_nonneg)
    ∧ preserves_Encode_EncodeIdeal
    ∧ algebraic_EncodeIdeal_EncodeRefIdeal (hEncodeIdeal := hEncodeIdeal) (hEncodeRefIdeal := hEncodeRefIdeal)
    ∧ preserves_Decode_DecodeIdeal
    ∧ algebraic_DecodeIdeal_DecodeRefIdeal (hDecodeIdeal := hDecodeIdeal) (hDecodeRefIdeal := hDecodeRefIdeal)
-- ==== Pre_nonneg.lean ====
abbrev S64x32768 : Shape := ⟨2, ![64, 32768]⟩
abbrev S_ : Shape := ⟨0, ![]⟩

class Facts : Prop where
  bcast_S_S64x32768 : S_.BroadcastsInDim S64x32768 (![] : Fin 0 → Fin S64x32768.rank)
  reducesTo_S64x32768_S_d0_1 : S64x32768.ReducesTo [0, 1] S_
  h_S_ : 0 < S_.numel

variable [Facts]

def fn {F : FTy → Type} [BitOps F] (main_arg0 : FVec F S64x32768 .f32) : IVec S_ 1 :=
  let main_v0 : IVec S64x32768 32 := bitcastToInt main_arg0
  let main_c : IVec S_ 32 := constantI S_ 32 0#32
  let main_v1 : IVec S64x32768 32 := broadcastInDim S64x32768 ![] bcast_S_S64x32768 main_c
  let main_v2 : IVec S64x32768 1 := cmpi .sge main_v0 main_v1
  let main_c_0 : IVec S_ 1 := constantI S_ 1 1#1
  let main_v3 : IVec S_ 1 := (fun x v => Host.reduce IntOp.andi x v reducesTo_S64x32768_S_d0_1 h_S_) main_v2 main_c_0
  main_v3
-- ==== Kernel.lean ====
abbrev S64x32768 : Shape := ⟨2, ![64, 32768]⟩
abbrev S32x16 : Shape := ⟨2, ![32, 16]⟩
abbrev S32768 : Shape := ⟨1, ![32768]⟩
abbrev S4096 : Shape := ⟨1, ![4096]⟩
abbrev S256 : Shape := ⟨1, ![256]⟩
abbrev S128 : Shape := ⟨1, ![128]⟩
abbrev S16 : Shape := ⟨1, ![16]⟩
abbrev S_ : Shape := ⟨0, ![]⟩
abbrev S1x32768 : Shape := ⟨2, ![1, 32768]⟩
abbrev S1x16 : Shape := ⟨2, ![1, 16]⟩
abbrev S32x2 : Shape := ⟨2, ![32, 2]⟩
abbrev S64x1 : Shape := ⟨2, ![64, 1]⟩
abbrev S64x128 : Shape := ⟨2, ![64, 128]⟩

abbrev nBuf : Table → Nat
  | .hbm => 5
  | .local .scVector .vmem => 9
  | _ => 0

abbrev bufTy : (tb : Table) → Fin (nBuf tb) → BufTy
  | .hbm, ⟨0, _⟩ => ⟨S64x32768, .f32⟩
  | .hbm, ⟨1, _⟩ => ⟨S32x16, .f32⟩
  | .hbm, ⟨2, _⟩ => ⟨S32x2, .f32⟩
  | .hbm, ⟨3, _⟩ => ⟨S64x1, .f32⟩
  | .hbm, ⟨4, _⟩ => ⟨S64x128, .f32⟩
  | .local .scVector .vmem, ⟨0, _⟩ => ⟨S32768, .f32⟩
  | .local .scVector .vmem, ⟨1, _⟩ => ⟨S32768, .f32⟩
  | .local .scVector .vmem, ⟨2, _⟩ => ⟨S4096, .i32⟩
  | .local .scVector .vmem, ⟨3, _⟩ => ⟨S256, .i32⟩
  | .local .scVector .vmem, ⟨4, _⟩ => ⟨S4096, .i32⟩
  | .local .scVector .vmem, ⟨5, _⟩ => ⟨S256, .i32⟩
  | .local .scVector .vmem, ⟨6, _⟩ => ⟨S128, .i32⟩
  | .local .scVector .vmem, ⟨7, _⟩ => ⟨S16, .i32⟩
  | .local .scVector .vmem, ⟨8, _⟩ => ⟨S16, .f32⟩
  | _, _ => ⟨S64x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v7 : BitVec 32 := Scalar.muli v1 c2_i32_0
  let c0_i32_1 : BitVec 32 := 0#32
  ![v7.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v7 : BitVec 32 := Scalar.muli v1 c2_i32_0
  let c1_i32_3 : BitVec 32 := 1#32
  let v12 : BitVec 32 := Scalar.addi v7 c1_i32_3
  let c0_i32_4 : BitVec 32 := 0#32
  ![v12.toNat, 0]
@[reducible] def k0_t1_loop : Scf.Loop 32 :=
  let c0_i32_9 : BitVec 32 := 0#32
  let c256_i32 : BitVec 32 := 256#32
  let v22 : BitVec 32 := Scalar.addi c0_i32_9 c256_i32
  let c1_i32_10 : BitVec 32 := 1#32
  ⟨c0_i32_9, v22, c1_i32_10⟩
def k0_off3 (k0_t1 : Fin k0_t1_loop.trips) : Fin 1 → Nat :=
  let c0_i32_3473 : BitVec 32 := 0#32
  let c0_i32_9 : BitVec 32 := 0#32
  let c1_i32_10 : BitVec 32 := 1#32
  let arg15 : BitVec 32 := Scf.iv c0_i32_9 c1_i32_10 k0_t1
  let c1_i32_3472 : BitVec 32 := 1#32
  let v9096 : BitVec 32 := Scalar.muli arg15 c1_i32_3472
  let v9097 : BitVec 32 := Scalar.addi c0_i32_3473 v9096
  let c16_i32_3474 : BitVec 32 := 16#32
  let v9098 : BitVec 32 := Scalar.muli v9097 c16_i32_3474
  let v9099 : Index := Scalar.indexCast v9098
  ![v9099.toNat]
@[reducible] def k0_t2_loop : Scf.Loop 32 :=
  let c0_i32_13 : BitVec 32 := 0#32
  let c256_i32_14 : BitVec 32 := 256#32
  let v24 : BitVec 32 := Scalar.addi c0_i32_13 c256_i32_14
  let c1_i32_15 : BitVec 32 := 1#32
  ⟨c0_i32_13, v24, c1_i32_15⟩
def k0_off4 (k0_t2 : Fin k0_t2_loop.trips) : Fin 1 → Nat :=
  let c0_i32_3473 : BitVec 32 := 0#32
  let c0_i32_13 : BitVec 32 := 0#32
  let c1_i32_15 : BitVec 32 := 1#32
  let arg15 : BitVec 32 := Scf.iv c0_i32_13 c1_i32_15 k0_t2
  let c1_i32_3472 : BitVec 32 := 1#32
  let v9096 : BitVec 32 := Scalar.muli arg15 c1_i32_3472
  let v9097 : BitVec 32 := Scalar.addi c0_i32_3473 v9096
  let c16_i32_3474 : BitVec 32 := 16#32
  let v9098 : BitVec 32 := Scalar.muli v9097 c16_i32_3474
  let v9099 : Index := Scalar.indexCast v9098
  ![v9099.toNat]
@[reducible] def k0_t3_loop : Scf.Loop 32 :=
  let c0_i32_18 : BitVec 32 := 0#32
  let c8_i32 : BitVec 32 := 8#32
  let v26 : BitVec 32 := Scalar.addi c0_i32_18 c8_i32
  let c1_i32_19 : BitVec 32 := 1#32
  ⟨c0_i32_18, v26, c1_i32_19⟩
def k0_off5 (k0_t3 : Fin k0_t3_loop.trips) : Fin 1 → Nat :=
  let c0_i32_3473 : BitVec 32 := 0#32
  let c0_i32_18 : BitVec 32 := 0#32
  let c1_i32_19 : BitVec 32 := 1#32
  let arg15 : BitVec 32 := Scf.iv c0_i32_18 c1_i32_19 k0_t3
  let c1_i32_3472 : BitVec 32 := 1#32
  let v9096 : BitVec 32 := Scalar.muli arg15 c1_i32_3472
  let v9097 : BitVec 32 := Scalar.addi c0_i32_3473 v9096
  let c16_i32_3474 : BitVec 32 := 16#32
  let v9098 : BitVec 32 := Scalar.muli v9097 c16_i32_3474
  let v9099 : Index := Scalar.indexCast v9098
  ![v9099.toNat]
@[reducible] def k0_t4_loop : Scf.Loop 32 :=
  let c0_i32_21 : BitVec 32 := 0#32
  let c2048_i32 : BitVec 32 := 2048#32
  let v27 : BitVec 32 := Scalar.addi c0_i32_21 c2048_i32
  let c1_i32_22 : BitVec 32 := 1#32
  ⟨c0_i32_21, v27, c1_i32_22⟩
def k0_off6 (k0_t4 : Fin k0_t4_loop.trips) : Fin 1 → Nat :=
  let c0_i32_3473 : BitVec 32 := 0#32
  let c0_i32_21 : BitVec 32 := 0#32
  let c1_i32_22 : BitVec 32 := 1#32
  let arg15 : BitVec 32 := Scf.iv c0_i32_21 c1_i32_22 k0_t4
  let c1_i32_3472 : BitVec 32 := 1#32
  let v9096 : BitVec 32 := Scalar.muli arg15 c1_i32_3472
  let v9097 : BitVec 32 := Scalar.addi c0_i32_3473 v9096
  let c16_i32_3474 : BitVec 32 := 16#32
  let v9098 : BitVec 32 := Scalar.muli v9097 c16_i32_3474
  let v9099 : Index := Scalar.indexCast v9098
  ![v9099.toNat]

def k0_chk1 (v9103 : IVec S16 32) : Prop :=
  (∀ a x, ((![v9103] : Fin 1 → IVec S16 32) a x).toNat < S4096.size a)
theorem k0_idx1_inb : ∀ (v9103 : IVec S16 32) (k0_hw1 : k0_chk1 v9103), ∀ a x, ((![v9103] : Fin 1 → IVec S16 32) a x).toNat < S4096.size a := fun v9103 k0_hw1 => k0_hw1

def k0_chk2 (v35 : IVec S16 32) : Prop :=
  (∀ a x, ((![v35] : Fin 1 → IVec S16 32) a x).toNat < S4096.size a)
theorem k0_idx2_inb : ∀ (v35 : IVec S16 32) (k0_hw2 : k0_chk2 v35), ∀ a x, ((![v35] : Fin 1 → IVec S16 32) a x).toNat < S4096.size a := fun v35 k0_hw2 => k0_hw2

def k0_chk3 (v43 : IVec S16 32) : Prop :=
  (∀ a x, ((![v43] : Fin 1 → IVec S16 32) a x).toNat < S4096.size a)
theorem k0_idx3_inb : ∀ (v43 : IVec S16 32) (k0_hw3 : k0_chk3 v43), ∀ a x, ((![v43] : Fin 1 → IVec S16 32) a x).toNat < S4096.size a := fun v43 k0_hw3 => k0_hw3

def k0_chk4 (v51 : IVec S16 32) : Prop :=
  (∀ a x, ((![v51] : Fin 1 → IVec S16 32) a x).toNat < S4096.size a)
theorem k0_idx4_inb : ∀ (v51 : IVec S16 32) (k0_hw4 : k0_chk4 v51), ∀ a x, ((![v51] : Fin 1 → IVec S16 32) a x).toNat < S4096.size a := fun v51 k0_hw4 => k0_hw4

def k0_chk5 (v59 : IVec S16 32) : Prop :=
  (∀ a x, ((![v59] : Fin 1 → IVec S16 32) a x).toNat < S4096.size a)
theorem k0_idx5_inb : ∀ (v59 : IVec S16 32) (k0_hw5 : k0_chk5 v59), ∀ a x, ((![v59] : Fin 1 → IVec S16 32) a x).toNat < S4096.size a := fun v59 k0_hw5 => k0_hw5

def k0_chk6 (v67 : IVec S16 32) : Prop :=
  (∀ a x, ((![v67] : Fin 1 → IVec S16 32) a x).toNat < S4096.size a)
theorem k0_idx6_inb : ∀ (v67 : IVec S16 32) (k0_hw6 : k0_chk6 v67), ∀ a x, ((![v67] : Fin 1 → IVec S16 32) a x).toNat < S4096.size a := fun v67 k0_hw6 => k0_hw6

def k0_chk7 (v75 : IVec S16 32) : Prop :=
  (∀ a x, ((![v75] : Fin 1 → IVec S16 32) a x).toNat < S4096.size a)
theorem k0_idx7_inb : ∀ (v75 : IVec S16 32) (k0_hw7 : k0_chk7 v75), ∀ a x, ((![v75] : Fin 1 → IVec S16 32) a x).toNat < S4096.size a := fun v75 k0_hw7 => k0_hw7

def k0_chk8 (v83 : IVec S16 32) : Prop :=
  (∀ a x, ((![v83] : Fin 1 → IVec S16 32) a x).toNat < S4096.size a)
theorem k0_idx8_inb : ∀ (v83 : IVec S16 32) (k0_hw8 : k0_chk8 v83), ∀ a x, ((![v83] : Fin 1 → IVec S16 32) a x).toNat < S4096.size a := fun v83 k0_hw8 => k0_hw8

def k0_chk9 (v91 : IVec S16 32) : Prop :=
  (∀ a x, ((![v91] : Fin 1 → IVec S16 32) a x).toNat < S4096.size a)
theorem k0_idx9_inb : ∀ (v91 : IVec S16 32) (k0_hw9 : k0_chk9 v91), ∀ a x, ((![v91] : Fin 1 → IVec S16 32) a x).toNat < S4096.size a := fun v91 k0_hw9 => k0_hw9

def k0_chk10 (v99 : IVec S16 32) : Prop :=
  (∀ a x, ((![v99] : Fin 1 → IVec S16 32) a x).toNat < S4096.size a)
theorem k0_idx10_inb : ∀ (v99 : IVec S16 32) (k0_hw10 : k0_chk10 v99), ∀ a x, ((![v99] : Fin 1 → IVec S16 32) a x).toNat < S4096.size a := fun v99 k0_hw10 => k0_hw10

def k0_chk11 (v107 : IVec S16 32) : Prop :=
  (∀ a x, ((![v107] : Fin 1 → IVec S16 32) a x).toNat < S4096.size a)
theorem k0_idx11_inb : ∀ (v107 : IVec S16 32) (k0_hw11 : k0_chk11 v107), ∀ a x, ((![v107] : Fin 1 → IVec S16 32) a x).toNat < S4096.size a := fun v107 k0_hw11 => k0_hw11

def k0_chk12 (v115 : IVec S16 32) : Prop :=
  (∀ a x, ((![v115] : Fin 1 → IVec S16 32) a x).toNat < S4096.size a)
theorem k0_idx12_inb : ∀ (v115 : IVec S16 32) (k0_hw12 : k0_chk12 v115), ∀ a x, ((![v115] : Fin 1 → IVec S16 32) a x).toNat < S4096.size a := fun v115 k0_hw12 => k0_hw12

def k0_chk13 (v123 : IVec S16 32) : Prop :=
  (∀ a x, ((![v123] : Fin 1 → IVec S16 32) a x).toNat < S4096.size a)
theorem k0_idx13_inb : ∀ (v123 : IVec S16 32) (k0_hw13 : k0_chk13 v123), ∀ a x, ((![v123] : Fin 1 → IVec S16 32) a x).toNat < S4096.size a := fun v123 k0_hw13 => k0_hw13

def k0_chk14 (v131 : IVec S16 32) : Prop :=
  (∀ a x, ((![v131] : Fin 1 → IVec S16 32) a x).toNat < S4096.size a)
theorem k0_idx14_inb : ∀ (v131 : IVec S16 32) (k0_hw14 : k0_chk14 v131), ∀ a x, ((![v131] : Fin 1 → IVec S16 32) a x).toNat < S4096.size a := fun v131 k0_hw14 => k0_hw14

def k0_chk15 (v139 : IVec S16 32) : Prop :=
  (∀ a x, ((![v139] : Fin 1 → IVec S16 32) a x).toNat < S4096.size a)
theorem k0_idx15_inb : ∀ (v139 : IVec S16 32) (k0_hw15 : k0_chk15 v139), ∀ a x, ((![v139] : Fin 1 → IVec S16 32) a x).toNat < S4096.size a := fun v139 k0_hw15 => k0_hw15

def k0_chk16 (v147 : IVec S16 32) : Prop :=
  (∀ a x, ((![v147] : Fin 1 → IVec S16 32) a x).toNat < S4096.size a)
theorem k0_idx16_inb : ∀ (v147 : IVec S16 32) (k0_hw16 : k0_chk16 v147), ∀ a x, ((![v147] : Fin 1 → IVec S16 32) a x).toNat < S4096.size a := fun v147 k0_hw16 => k0_hw16

def k0_chk17 (v155 : IVec S16 32) : Prop :=
  (∀ a x, ((![v155] : Fin 1 → IVec S16 32) a x).toNat < S4096.size a)
theorem k0_idx17_inb : ∀ (v155 : IVec S16 32) (k0_hw17 : k0_chk17 v155), ∀ a x, ((![v155] : Fin 1 → IVec S16 32) a x).toNat < S4096.size a := fun v155 k0_hw17 => k0_hw17

def k0_chk18 (v166 : IVec S16 32) : Prop :=
  (∀ a x, ((![v166] : Fin 1 → IVec S16 32) a x).toNat < S4096.size a)
theorem k0_idx18_inb : ∀ (v166 : IVec S16 32) (k0_hw18 : k0_chk18 v166), ∀ a x, ((![v166] : Fin 1 → IVec S16 32) a x).toNat < S4096.size a := fun v166 k0_hw18 => k0_hw18

def k0_chk19 (v174 : IVec S16 32) : Prop :=
  (∀ a x, ((![v174] : Fin 1 → IVec S16 32) a x).toNat < S4096.size a)
theorem k0_idx19_inb : ∀ (v174 : IVec S16 32) (k0_hw19 : k0_chk19 v174), ∀ a x, ((![v174] : Fin 1 → IVec S16 32) a x).toNat < S4096.size a := fun v174 k0_hw19 => k0_hw19

def k0_chk20 (v182 : IVec S16 32) : Prop :=
  (∀ a x, ((![v182] : Fin 1 → IVec S16 32) a x).toNat < S4096.size a)
theorem k0_idx20_inb : ∀ (v182 : IVec S16 32) (k0_hw20 : k0_chk20 v182), ∀ a x, ((![v182] : Fin 1 → IVec S16 32) a x).toNat < S4096.size a := fun v182 k0_hw20 => k0_hw20

def k0_chk21 (v190 : IVec S16 32) : Prop :=
  (∀ a x, ((![v190] : Fin 1 → IVec S16 32) a x).toNat < S4096.size a)
theorem k0_idx21_inb : ∀ (v190 : IVec S16 32) (k0_hw21 : k0_chk21 v190), ∀ a x, ((![v190] : Fin 1 → IVec S16 32) a x).toNat < S4096.size a := fun v190 k0_hw21 => k0_hw21

def k0_chk22 (v198 : IVec S16 32) : Prop :=
  (∀ a x, ((![v198] : Fin 1 → IVec S16 32) a x).toNat < S4096.size a)
theorem k0_idx22_inb : ∀ (v198 : IVec S16 32) (k0_hw22 : k0_chk22 v198), ∀ a x, ((![v198] : Fin 1 → IVec S16 32) a x).toNat < S4096.size a := fun v198 k0_hw22 => k0_hw22

def k0_chk23 (v206 : IVec S16 32) : Prop :=
  (∀ a x, ((![v206] : Fin 1 → IVec S16 32) a x).toNat < S4096.size a)
theorem k0_idx23_inb : ∀ (v206 : IVec S16 32) (k0_hw23 : k0_chk23 v206), ∀ a x, ((![v206] : Fin 1 → IVec S16 32) a x).toNat < S4096.size a := fun v206 k0_hw23 => k0_hw23

def k0_chk24 (v214 : IVec S16 32) : Prop :=
  (∀ a x, ((![v214] : Fin 1 → IVec S16 32) a x).toNat < S4096.size a)
theorem k0_idx24_inb : ∀ (v214 : IVec S16 32) (k0_hw24 : k0_chk24 v214), ∀ a x, ((![v214] : Fin 1 → IVec S16 32) a x).toNat < S4096.size a := fun v214 k0_hw24 => k0_hw24

def k0_chk25 (v222 : IVec S16 32) : Prop :=
  (∀ a x, ((![v222] : Fin 1 → IVec S16 32) a x).toNat < S4096.size a)
theorem k0_idx25_inb : ∀ (v222 : IVec S16 32) (k0_hw25 : k0_chk25 v222), ∀ a x, ((![v222] : Fin 1 → IVec S16 32) a x).toNat < S4096.size a := fun v222 k0_hw25 => k0_hw25

def k0_chk26 (v230 : IVec S16 32) : Prop :=
  (∀ a x, ((![v230] : Fin 1 → IVec S16 32) a x).toNat < S4096.size a)
theorem k0_idx26_inb : ∀ (v230 : IVec S16 32) (k0_hw26 : k0_chk26 v230), ∀ a x, ((![v230] : Fin 1 → IVec S16 32) a x).toNat < S4096.size a := fun v230 k0_hw26 => k0_hw26

def k0_chk27 (v238 : IVec S16 32) : Prop :=
  (∀ a x, ((![v238] : Fin 1 → IVec S16 32) a x).toNat < S4096.size a)
theorem k0_idx27_inb : ∀ (v238 : IVec S16 32) (k0_hw27 : k0_chk27 v238), ∀ a x, ((![v238] : Fin 1 → IVec S16 32) a x).toNat < S4096.size a := fun v238 k0_hw27 => k0_hw27

def k0_chk28 (v246 : IVec S16 32) : Prop :=
  (∀ a x, ((![v246] : Fin 1 → IVec S16 32) a x).toNat < S4096.size a)
theorem k0_idx28_inb : ∀ (v246 : IVec S16 32) (k0_hw28 : k0_chk28 v246), ∀ a x, ((![v246] : Fin 1 → IVec S16 32) a x).toNat < S4096.size a := fun v246 k0_hw28 => k0_hw28

def k0_chk29 (v254 : IVec S16 32) : Prop :=
  (∀ a x, ((![v254] : Fin 1 → IVec S16 32) a x).toNat < S4096.size a)
theorem k0_idx29_inb : ∀ (v254 : IVec S16 32) (k0_hw29 : k0_chk29 v254), ∀ a x, ((![v254] : Fin 1 → IVec S16 32) a x).toNat < S4096.size a := fun v254 k0_hw29 => k0_hw29

def k0_chk30 (v262 : IVec S16 32) : Prop :=
  (∀ a x, ((![v262] : Fin 1 → IVec S16 32) a x).toNat < S4096.size a)
theorem k0_idx30_inb : ∀ (v262 : IVec S16 32) (k0_hw30 : k0_chk30 v262), ∀ a x, ((![v262] : Fin 1 → IVec S16 32) a x).toNat < S4096.size a := fun v262 k0_hw30 => k0_hw30

def k0_chk31 (v270 : IVec S16 32) : Prop :=
  (∀ a x, ((![v270] : Fin 1 → IVec S16 32) a x).toNat < S4096.size a)
theorem k0_idx31_inb : ∀ (v270 : IVec S16 32) (k0_hw31 : k0_chk31 v270), ∀ a x, ((![v270] : Fin 1 → IVec S16 32) a x).toNat < S4096.size a := fun v270 k0_hw31 => k0_hw31

def k0_chk32 (v278 : IVec S16 32) : Prop :=
  (∀ a x, ((![v278] : Fin 1 → IVec S16 32) a x).toNat < S4096.size a)
theorem k0_idx32_inb : ∀ (v278 : IVec S16 32) (k0_hw32 : k0_chk32 v278), ∀ a x, ((![v278] : Fin 1 → IVec S16 32) a x).toNat < S4096.size a := fun v278 k0_hw32 => k0_hw32

def k0_chk33 (v286 : IVec S16 32) : Prop :=
  (∀ a x, ((![v286] : Fin 1 → IVec S16 32) a x).toNat < S4096.size a)
theorem k0_idx33_inb : ∀ (v286 : IVec S16 32) (k0_hw33 : k0_chk33 v286), ∀ a x, ((![v286] : Fin 1 → IVec S16 32) a x).toNat < S4096.size a := fun v286 k0_hw33 => k0_hw33

def k0_chk34 (v297 : IVec S16 32) : Prop :=
  (∀ a x, ((![v297] : Fin 1 → IVec S16 32) a x).toNat < S4096.size a)
theorem k0_idx34_inb : ∀ (v297 : IVec S16 32) (k0_hw34 : k0_chk34 v297), ∀ a x, ((![v297] : Fin 1 → IVec S16 32) a x).toNat < S4096.size a := fun v297 k0_hw34 => k0_hw34

def k0_chk35 (v305 : IVec S16 32) : Prop :=
  (∀ a x, ((![v305] : Fin 1 → IVec S16 32) a x).toNat < S4096.size a)
theorem k0_idx35_inb : ∀ (v305 : IVec S16 32) (k0_hw35 : k0_chk35 v305), ∀ a x, ((![v305] : Fin 1 → IVec S16 32) a x).toNat < S4096.size a := fun v305 k0_hw35 => k0_hw35

def k0_chk36 (v313 : IVec S16 32) : Prop :=
  (∀ a x, ((![v313] : Fin 1 → IVec S16 32) a x).toNat < S4096.size a)
theorem k0_idx36_inb : ∀ (v313 : IVec S16 32) (k0_hw36 : k0_chk36 v313), ∀ a x, ((![v313] : Fin 1 → IVec S16 32) a x).toNat < S4096.size a := fun v313 k0_hw36 => k0_hw36

def k0_chk37 (v321 : IVec S16 32) : Prop :=
  (∀ a x, ((![v321] : Fin 1 → IVec S16 32) a x).toNat < S4096.size a)
theorem k0_idx37_inb : ∀ (v321 : IVec S16 32) (k0_hw37 : k0_chk37 v321), ∀ a x, ((![v321] : Fin 1 → IVec S16 32) a x).toNat < S4096.size a := fun v321 k0_hw37 => k0_hw37

def k0_chk38 (v329 : IVec S16 32) : Prop :=
  (∀ a x, ((![v329] : Fin 1 → IVec S16 32) a x).toNat < S4096.size a)
theorem k0_idx38_inb : ∀ (v329 : IVec S16 32) (k0_hw38 : k0_chk38 v329), ∀ a x, ((![v329] : Fin 1 → IVec S16 32) a x).toNat < S4096.size a := fun v329 k0_hw38 => k0_hw38

def k0_chk39 (v337 : IVec S16 32) : Prop :=
  (∀ a x, ((![v337] : Fin 1 → IVec S16 32) a x).toNat < S4096.size a)
theorem k0_idx39_inb : ∀ (v337 : IVec S16 32) (k0_hw39 : k0_chk39 v337), ∀ a x, ((![v337] : Fin 1 → IVec S16 32) a x).toNat < S4096.size a := fun v337 k0_hw39 => k0_hw39

def k0_chk40 (v345 : IVec S16 32) : Prop :=
  (∀ a x, ((![v345] : Fin 1 → IVec S16 32) a x).toNat < S4096.size a)
theorem k0_idx40_inb : ∀ (v345 : IVec S16 32) (k0_hw40 : k0_chk40 v345), ∀ a x, ((![v345] : Fin 1 → IVec S16 32) a x).toNat < S4096.size a := fun v345 k0_hw40 => k0_hw40

def k0_chk41 (v353 : IVec S16 32) : Prop :=
  (∀ a x, ((![v353] : Fin 1 → IVec S16 32) a x).toNat < S4096.size a)
theorem k0_idx41_inb : ∀ (v353 : IVec S16 32) (k0_hw41 : k0_chk41 v353), ∀ a x, ((![v353] : Fin 1 → IVec S16 32) a x).toNat < S4096.size a := fun v353 k0_hw41 => k0_hw41

def k0_chk42 (v361 : IVec S16 32) : Prop :=
  (∀ a x, ((![v361] : Fin 1 → IVec S16 32) a x).toNat < S4096.size a)
theorem k0_idx42_inb : ∀ (v361 : IVec S16 32) (k0_hw42 : k0_chk42 v361), ∀ a x, ((![v361] : Fin 1 → IVec S16 32) a x).toNat < S4096.size a := fun v361 k0_hw42 => k0_hw42

def k0_chk43 (v369 : IVec S16 32) : Prop :=
  (∀ a x, ((![v369] : Fin 1 → IVec S16 32) a x).toNat < S4096.size a)
theorem k0_idx43_inb : ∀ (v369 : IVec S16 32) (k0_hw43 : k0_chk43 v369), ∀ a x, ((![v369] : Fin 1 → IVec S16 32) a x).toNat < S4096.size a := fun v369 k0_hw43 => k0_hw43

def k0_chk44 (v377 : IVec S16 32) : Prop :=
  (∀ a x, ((![v377] : Fin 1 → IVec S16 32) a x).toNat < S4096.size a)
theorem k0_idx44_inb : ∀ (v377 : IVec S16 32) (k0_hw44 : k0_chk44 v377), ∀ a x, ((![v377] : Fin 1 → IVec S16 32) a x).toNat < S4096.size a := fun v377 k0_hw44 => k0_hw44

def k0_chk45 (v385 : IVec S16 32) : Prop :=
  (∀ a x, ((![v385] : Fin 1 → IVec S16 32) a x).toNat < S4096.size a)
theorem k0_idx45_inb : ∀ (v385 : IVec S16 32) (k0_hw45 : k0_chk45 v385), ∀ a x, ((![v385] : Fin 1 → IVec S16 32) a x).toNat < S4096.size a := fun v385 k0_hw45 => k0_hw45

def k0_chk46 (v393 : IVec S16 32) : Prop :=
  (∀ a x, ((![v393] : Fin 1 → IVec S16 32) a x).toNat < S4096.size a)
theorem k0_idx46_inb : ∀ (v393 : IVec S16 32) (k0_hw46 : k0_chk46 v393), ∀ a x, ((![v393] : Fin 1 → IVec S16 32) a x).toNat < S4096.size a := fun v393 k0_hw46 => k0_hw46

def k0_chk47 (v401 : IVec S16 32) : Prop :=
  (∀ a x, ((![v401] : Fin 1 → IVec S16 32) a x).toNat < S4096.size a)
theorem k0_idx47_inb : ∀ (v401 : IVec S16 32) (k0_hw47 : k0_chk47 v401), ∀ a x, ((![v401] : Fin 1 → IVec S16 32) a x).toNat < S4096.size a := fun v401 k0_hw47 => k0_hw47

def k0_chk48 (v409 : IVec S16 32) : Prop :=
  (∀ a x, ((![v409] : Fin 1 → IVec S16 32) a x).toNat < S4096.size a)
theorem k0_idx48_inb : ∀ (v409 : IVec S16 32) (k0_hw48 : k0_chk48 v409), ∀ a x, ((![v409] : Fin 1 → IVec S16 32) a x).toNat < S4096.size a := fun v409 k0_hw48 => k0_hw48

def k0_chk49 (v417 : IVec S16 32) : Prop :=
  (∀ a x, ((![v417] : Fin 1 → IVec S16 32) a x).toNat < S4096.size a)
theorem k0_idx49_inb : ∀ (v417 : IVec S16 32) (k0_hw49 : k0_chk49 v417), ∀ a x, ((![v417] : Fin 1 → IVec S16 32) a x).toNat < S4096.size a := fun v417 k0_hw49 => k0_hw49

def k0_chk50 (v428 : IVec S16 32) : Prop :=
  (∀ a x, ((![v428] : Fin 1 → IVec S16 32) a x).toNat < S4096.size a)
theorem k0_idx50_inb : ∀ (v428 : IVec S16 32) (k0_hw50 : k0_chk50 v428), ∀ a x, ((![v428] : Fin 1 → IVec S16 32) a x).toNat < S4096.size a := fun v428 k0_hw50 => k0_hw50

def k0_chk51 (v436 : IVec S16 32) : Prop :=
  (∀ a x, ((![v436] : Fin 1 → IVec S16 32) a x).toNat < S4096.size a)
theorem k0_idx51_inb : ∀ (v436 : IVec S16 32) (k0_hw51 : k0_chk51 v436), ∀ a x, ((![v436] : Fin 1 → IVec S16 32) a x).toNat < S4096.size a := fun v436 k0_hw51 => k0_hw51

def k0_chk52 (v444 : IVec S16 32) : Prop :=
  (∀ a x, ((![v444] : Fin 1 → IVec S16 32) a x).toNat < S4096.size a)
theorem k0_idx52_inb : ∀ (v444 : IVec S16 32) (k0_hw52 : k0_chk52 v444), ∀ a x, ((![v444] : Fin 1 → IVec S16 32) a x).toNat < S4096.size a := fun v444 k0_hw52 => k0_hw52

def k0_chk53 (v452 : IVec S16 32) : Prop :=
  (∀ a x, ((![v452] : Fin 1 → IVec S16 32) a x).toNat < S4096.size a)
theorem k0_idx53_inb : ∀ (v452 : IVec S16 32) (k0_hw53 : k0_chk53 v452), ∀ a x, ((![v452] : Fin 1 → IVec S16 32) a x).toNat < S4096.size a := fun v452 k0_hw53 => k0_hw53

def k0_chk54 (v460 : IVec S16 32) : Prop :=
  (∀ a x, ((![v460] : Fin 1 → IVec S16 32) a x).toNat < S4096.size a)
theorem k0_idx54_inb : ∀ (v460 : IVec S16 32) (k0_hw54 : k0_chk54 v460), ∀ a x, ((![v460] : Fin 1 → IVec S16 32) a x).toNat < S4096.size a := fun v460 k0_hw54 => k0_hw54

def k0_chk55 (v468 : IVec S16 32) : Prop :=
  (∀ a x, ((![v468] : Fin 1 → IVec S16 32) a x).toNat < S4096.size a)
theorem k0_idx55_inb : ∀ (v468 : IVec S16 32) (k0_hw55 : k0_chk55 v468), ∀ a x, ((![v468] : Fin 1 → IVec S16 32) a x).toNat < S4096.size a := fun v468 k0_hw55 => k0_hw55

def k0_chk56 (v476 : IVec S16 32) : Prop :=
  (∀ a x, ((![v476] : Fin 1 → IVec S16 32) a x).toNat < S4096.size a)
theorem k0_idx56_inb : ∀ (v476 : IVec S16 32) (k0_hw56 : k0_chk56 v476), ∀ a x, ((![v476] : Fin 1 → IVec S16 32) a x).toNat < S4096.size a := fun v476 k0_hw56 => k0_hw56

def k0_chk57 (v484 : IVec S16 32) : Prop :=
  (∀ a x, ((![v484] : Fin 1 → IVec S16 32) a x).toNat < S4096.size a)
theorem k0_idx57_inb : ∀ (v484 : IVec S16 32) (k0_hw57 : k0_chk57 v484), ∀ a x, ((![v484] : Fin 1 → IVec S16 32) a x).toNat < S4096.size a := fun v484 k0_hw57 => k0_hw57

def k0_chk58 (v492 : IVec S16 32) : Prop :=
  (∀ a x, ((![v492] : Fin 1 → IVec S16 32) a x).toNat < S4096.size a)
theorem k0_idx58_inb : ∀ (v492 : IVec S16 32) (k0_hw58 : k0_chk58 v492), ∀ a x, ((![v492] : Fin 1 → IVec S16 32) a x).toNat < S4096.size a := fun v492 k0_hw58 => k0_hw58

def k0_chk59 (v500 : IVec S16 32) : Prop :=
  (∀ a x, ((![v500] : Fin 1 → IVec S16 32) a x).toNat < S4096.size a)
theorem k0_idx59_inb : ∀ (v500 : IVec S16 32) (k0_hw59 : k0_chk59 v500), ∀ a x, ((![v500] : Fin 1 → IVec S16 32) a x).toNat < S4096.size a := fun v500 k0_hw59 => k0_hw59

def k0_chk60 (v508 : IVec S16 32) : Prop :=
  (∀ a x, ((![v508] : Fin 1 → IVec S16 32) a x).toNat < S4096.size a)
theorem k0_idx60_inb : ∀ (v508 : IVec S16 32) (k0_hw60 : k0_chk60 v508), ∀ a x, ((![v508] : Fin 1 → IVec S16 32) a x).toNat < S4096.size a := fun v508 k0_hw60 => k0_hw60

def k0_chk61 (v516 : IVec S16 32) : Prop :=
  (∀ a x, ((![v516] : Fin 1 → IVec S16 32) a x).toNat < S4096.size a)
theorem k0_idx61_inb : ∀ (v516 : IVec S16 32) (k0_hw61 : k0_chk61 v516), ∀ a x, ((![v516] : Fin 1 → IVec S16 32) a x).toNat < S4096.size a := fun v516 k0_hw61 => k0_hw61

def k0_chk62 (v524 : IVec S16 32) : Prop :=
  (∀ a x, ((![v524] : Fin 1 → IVec S16 32) a x).toNat < S4096.size a)
theorem k0_idx62_inb : ∀ (v524 : IVec S16 32) (k0_hw62 : k0_chk62 v524), ∀ a x, ((![v524] : Fin 1 → IVec S16 32) a x).toNat < S4096.size a := fun v524 k0_hw62 => k0_hw62

def k0_chk63 (v532 : IVec S16 32) : Prop :=
  (∀ a x, ((![v532] : Fin 1 → IVec S16 32) a x).toNat < S4096.size a)
theorem k0_idx63_inb : ∀ (v532 : IVec S16 32) (k0_hw63 : k0_chk63 v532), ∀ a x, ((![v532] : Fin 1 → IVec S16 32) a x).toNat < S4096.size a := fun v532 k0_hw63 => k0_hw63

def k0_chk64 (v540 : IVec S16 32) : Prop :=
  (∀ a x, ((![v540] : Fin 1 → IVec S16 32) a x).toNat < S4096.size a)
theorem k0_idx64_inb : ∀ (v540 : IVec S16 32) (k0_hw64 : k0_chk64 v540), ∀ a x, ((![v540] : Fin 1 → IVec S16 32) a x).toNat < S4096.size a := fun v540 k0_hw64 => k0_hw64

def k0_chk65 (v548 : IVec S16 32) : Prop :=
  (∀ a x, ((![v548] : Fin 1 → IVec S16 32) a x).toNat < S4096.size a)
theorem k0_idx65_inb : ∀ (v548 : IVec S16 32) (k0_hw65 : k0_chk65 v548), ∀ a x, ((![v548] : Fin 1 → IVec S16 32) a x).toNat < S4096.size a := fun v548 k0_hw65 => k0_hw65

def k0_chk66 (v559 : IVec S16 32) : Prop :=
  (∀ a x, ((![v559] : Fin 1 → IVec S16 32) a x).toNat < S4096.size a)
theorem k0_idx66_inb : ∀ (v559 : IVec S16 32) (k0_hw66 : k0_chk66 v559), ∀ a x, ((![v559] : Fin 1 → IVec S16 32) a x).toNat < S4096.size a := fun v559 k0_hw66 => k0_hw66

def k0_chk67 (v567 : IVec S16 32) : Prop :=
  (∀ a x, ((![v567] : Fin 1 → IVec S16 32) a x).toNat < S4096.size a)
theorem k0_idx67_inb : ∀ (v567 : IVec S16 32) (k0_hw67 : k0_chk67 v567), ∀ a x, ((![v567] : Fin 1 → IVec S16 32) a x).toNat < S4096.size a := fun v567 k0_hw67 => k0_hw67

def k0_chk68 (v575 : IVec S16 32) : Prop :=
  (∀ a x, ((![v575] : Fin 1 → IVec S16 32) a x).toNat < S4096.size a)
theorem k0_idx68_inb : ∀ (v575 : IVec S16 32) (k0_hw68 : k0_chk68 v575), ∀ a x, ((![v575] : Fin 1 → IVec S16 32) a x).toNat < S4096.size a := fun v575 k0_hw68 => k0_hw68

def k0_chk69 (v583 : IVec S16 32) : Prop :=
  (∀ a x, ((![v583] : Fin 1 → IVec S16 32) a x).toNat < S4096.size a)
theorem k0_idx69_inb : ∀ (v583 : IVec S16 32) (k0_hw69 : k0_chk69 v583), ∀ a x, ((![v583] : Fin 1 → IVec S16 32) a x).toNat < S4096.size a := fun v583 k0_hw69 => k0_hw69

def k0_chk70 (v591 : IVec S16 32) : Prop :=
  (∀ a x, ((![v591] : Fin 1 → IVec S16 32) a x).toNat < S4096.size a)
theorem k0_idx70_inb : ∀ (v591 : IVec S16 32) (k0_hw70 : k0_chk70 v591), ∀ a x, ((![v591] : Fin 1 → IVec S16 32) a x).toNat < S4096.size a := fun v591 k0_hw70 => k0_hw70

def k0_chk71 (v599 : IVec S16 32) : Prop :=
  (∀ a x, ((![v599] : Fin 1 → IVec S16 32) a x).toNat < S4096.size a)
theorem k0_idx71_inb : ∀ (v599 : IVec S16 32) (k0_hw71 : k0_chk71 v599), ∀ a x, ((![v599] : Fin 1 → IVec S16 32) a x).toNat < S4096.size a := fun v599 k0_hw71 => k0_hw71

def k0_chk72 (v607 : IVec S16 32) : Prop :=
  (∀ a x, ((![v607] : Fin 1 → IVec S16 32) a x).toNat < S4096.size a)
theorem k0_idx72_inb : ∀ (v607 : IVec S16 32) (k0_hw72 : k0_chk72 v607), ∀ a x, ((![v607] : Fin 1 → IVec S16 32) a x).toNat < S4096.size a := fun v607 k0_hw72 => k0_hw72

def k0_chk73 (v615 : IVec S16 32) : Prop :=
  (∀ a x, ((![v615] : Fin 1 → IVec S16 32) a x).toNat < S4096.size a)
theorem k0_idx73_inb : ∀ (v615 : IVec S16 32) (k0_hw73 : k0_chk73 v615), ∀ a x, ((![v615] : Fin 1 → IVec S16 32) a x).toNat < S4096.size a := fun v615 k0_hw73 => k0_hw73

def k0_chk74 (v623 : IVec S16 32) : Prop :=
  (∀ a x, ((![v623] : Fin 1 → IVec S16 32) a x).toNat < S4096.size a)
theorem k0_idx74_inb : ∀ (v623 : IVec S16 32) (k0_hw74 : k0_chk74 v623), ∀ a x, ((![v623] : Fin 1 → IVec S16 32) a x).toNat < S4096.size a := fun v623 k0_hw74 => k0_hw74

def k0_chk75 (v631 : IVec S16 32) : Prop :=
  (∀ a x, ((![v631] : Fin 1 → IVec S16 32) a x).toNat < S4096.size a)
theorem k0_idx75_inb : ∀ (v631 : IVec S16 32) (k0_hw75 : k0_chk75 v631), ∀ a x, ((![v631] : Fin 1 → IVec S16 32) a x).toNat < S4096.size a := fun v631 k0_hw75 => k0_hw75

def k0_chk76 (v639 : IVec S16 32) : Prop :=
  (∀ a x, ((![v639] : Fin 1 → IVec S16 32) a x).toNat < S4096.size a)
theorem k0_idx76_inb : ∀ (v639 : IVec S16 32) (k0_hw76 : k0_chk76 v639), ∀ a x, ((![v639] : Fin 1 → IVec S16 32) a x).toNat < S4096.size a := fun v639 k0_hw76 => k0_hw76

def k0_chk77 (v647 : IVec S16 32) : Prop :=
  (∀ a x, ((![v647] : Fin 1 → IVec S16 32) a x).toNat < S4096.size a)
theorem k0_idx77_inb : ∀ (v647 : IVec S16 32) (k0_hw77 : k0_chk77 v647), ∀ a x, ((![v647] : Fin 1 → IVec S16 32) a x).toNat < S4096.size a := fun v647 k0_hw77 => k0_hw77

def k0_chk78 (v655 : IVec S16 32) : Prop :=
  (∀ a x, ((![v655] : Fin 1 → IVec S16 32) a x).toNat < S4096.size a)
theorem k0_idx78_inb : ∀ (v655 : IVec S16 32) (k0_hw78 : k0_chk78 v655), ∀ a x, ((![v655] : Fin 1 → IVec S16 32) a x).toNat < S4096.size a := fun v655 k0_hw78 => k0_hw78

def k0_chk79 (v663 : IVec S16 32) : Prop :=
  (∀ a x, ((![v663] : Fin 1 → IVec S16 32) a x).toNat < S4096.size a)
theorem k0_idx79_inb : ∀ (v663 : IVec S16 32) (k0_hw79 : k0_chk79 v663), ∀ a x, ((![v663] : Fin 1 → IVec S16 32) a x).toNat < S4096.size a := fun v663 k0_hw79 => k0_hw79

def k0_chk80 (v671 : IVec S16 32) : Prop :=
  (∀ a x, ((![v671] : Fin 1 → IVec S16 32) a x).toNat < S4096.size a)
theorem k0_idx80_inb : ∀ (v671 : IVec S16 32) (k0_hw80 : k0_chk80 v671), ∀ a x, ((![v671] : Fin 1 → IVec S16 32) a x).toNat < S4096.size a := fun v671 k0_hw80 => k0_hw80

def k0_chk81 (v679 : IVec S16 32) : Prop :=
  (∀ a x, ((![v679] : Fin 1 → IVec S16 32) a x).toNat < S4096.size a)
theorem k0_idx81_inb : ∀ (v679 : IVec S16 32) (k0_hw81 : k0_chk81 v679), ∀ a x, ((![v679] : Fin 1 → IVec S16 32) a x).toNat < S4096.size a := fun v679 k0_hw81 => k0_hw81

def k0_chk82 (v690 : IVec S16 32) : Prop :=
  (∀ a x, ((![v690] : Fin 1 → IVec S16 32) a x).toNat < S4096.size a)
theorem k0_idx82_inb : ∀ (v690 : IVec S16 32) (k0_hw82 : k0_chk82 v690), ∀ a x, ((![v690] : Fin 1 → IVec S16 32) a x).toNat < S4096.size a := fun v690 k0_hw82 => k0_hw82

def k0_chk83 (v698 : IVec S16 32) : Prop :=
  (∀ a x, ((![v698] : Fin 1 → IVec S16 32) a x).toNat < S4096.size a)
theorem k0_idx83_inb : ∀ (v698 : IVec S16 32) (k0_hw83 : k0_chk83 v698), ∀ a x, ((![v698] : Fin 1 → IVec S16 32) a x).toNat < S4096.size a := fun v698 k0_hw83 => k0_hw83

def k0_chk84 (v706 : IVec S16 32) : Prop :=
  (∀ a x, ((![v706] : Fin 1 → IVec S16 32) a x).toNat < S4096.size a)
theorem k0_idx84_inb : ∀ (v706 : IVec S16 32) (k0_hw84 : k0_chk84 v706), ∀ a x, ((![v706] : Fin 1 → IVec S16 32) a x).toNat < S4096.size a := fun v706 k0_hw84 => k0_hw84

def k0_chk85 (v714 : IVec S16 32) : Prop :=
  (∀ a x, ((![v714] : Fin 1 → IVec S16 32) a x).toNat < S4096.size a)
theorem k0_idx85_inb : ∀ (v714 : IVec S16 32) (k0_hw85 : k0_chk85 v714), ∀ a x, ((![v714] : Fin 1 → IVec S16 32) a x).toNat < S4096.size a := fun v714 k0_hw85 => k0_hw85

def k0_chk86 (v722 : IVec S16 32) : Prop :=
  (∀ a x, ((![v722] : Fin 1 → IVec S16 32) a x).toNat < S4096.size a)
theorem k0_idx86_inb : ∀ (v722 : IVec S16 32) (k0_hw86 : k0_chk86 v722), ∀ a x, ((![v722] : Fin 1 → IVec S16 32) a x).toNat < S4096.size a := fun v722 k0_hw86 => k0_hw86

def k0_chk87 (v730 : IVec S16 32) : Prop :=
  (∀ a x, ((![v730] : Fin 1 → IVec S16 32) a x).toNat < S4096.size a)
theorem k0_idx87_inb : ∀ (v730 : IVec S16 32) (k0_hw87 : k0_chk87 v730), ∀ a x, ((![v730] : Fin 1 → IVec S16 32) a x).toNat < S4096.size a := fun v730 k0_hw87 => k0_hw87

def k0_chk88 (v738 : IVec S16 32) : Prop :=
  (∀ a x, ((![v738] : Fin 1 → IVec S16 32) a x).toNat < S4096.size a)
theorem k0_idx88_inb : ∀ (v738 : IVec S16 32) (k0_hw88 : k0_chk88 v738), ∀ a x, ((![v738] : Fin 1 → IVec S16 32) a x).toNat < S4096.size a := fun v738 k0_hw88 => k0_hw88

def k0_chk89 (v746 : IVec S16 32) : Prop :=
  (∀ a x, ((![v746] : Fin 1 → IVec S16 32) a x).toNat < S4096.size a)
theorem k0_idx89_inb : ∀ (v746 : IVec S16 32) (k0_hw89 : k0_chk89 v746), ∀ a x, ((![v746] : Fin 1 → IVec S16 32) a x).toNat < S4096.size a := fun v746 k0_hw89 => k0_hw89

def k0_chk90 (v754 : IVec S16 32) : Prop :=
  (∀ a x, ((![v754] : Fin 1 → IVec S16 32) a x).toNat < S4096.size a)
theorem k0_idx90_inb : ∀ (v754 : IVec S16 32) (k0_hw90 : k0_chk90 v754), ∀ a x, ((![v754] : Fin 1 → IVec S16 32) a x).toNat < S4096.size a := fun v754 k0_hw90 => k0_hw90

def k0_chk91 (v762 : IVec S16 32) : Prop :=
  (∀ a x, ((![v762] : Fin 1 → IVec S16 32) a x).toNat < S4096.size a)
theorem k0_idx91_inb : ∀ (v762 : IVec S16 32) (k0_hw91 : k0_chk91 v762), ∀ a x, ((![v762] : Fin 1 → IVec S16 32) a x).toNat < S4096.size a := fun v762 k0_hw91 => k0_hw91

def k0_chk92 (v770 : IVec S16 32) : Prop :=
  (∀ a x, ((![v770] : Fin 1 → IVec S16 32) a x).toNat < S4096.size a)
theorem k0_idx92_inb : ∀ (v770 : IVec S16 32) (k0_hw92 : k0_chk92 v770), ∀ a x, ((![v770] : Fin 1 → IVec S16 32) a x).toNat < S4096.size a := fun v770 k0_hw92 => k0_hw92

def k0_chk93 (v778 : IVec S16 32) : Prop :=
  (∀ a x, ((![v778] : Fin 1 → IVec S16 32) a x).toNat < S4096.size a)
theorem k0_idx93_inb : ∀ (v778 : IVec S16 32) (k0_hw93 : k0_chk93 v778), ∀ a x, ((![v778] : Fin 1 → IVec S16 32) a x).toNat < S4096.size a := fun v778 k0_hw93 => k0_hw93

def k0_chk94 (v786 : IVec S16 32) : Prop :=
  (∀ a x, ((![v786] : Fin 1 → IVec S16 32) a x).toNat < S4096.size a)
theorem k0_idx94_inb : ∀ (v786 : IVec S16 32) (k0_hw94 : k0_chk94 v786), ∀ a x, ((![v786] : Fin 1 → IVec S16 32) a x).toNat < S4096.size a := fun v786 k0_hw94 => k0_hw94

def k0_chk95 (v794 : IVec S16 32) : Prop :=
  (∀ a x, ((![v794] : Fin 1 → IVec S16 32) a x).toNat < S4096.size a)
theorem k0_idx95_inb : ∀ (v794 : IVec S16 32) (k0_hw95 : k0_chk95 v794), ∀ a x, ((![v794] : Fin 1 → IVec S16 32) a x).toNat < S4096.size a := fun v794 k0_hw95 => k0_hw95

def k0_chk96 (v802 : IVec S16 32) : Prop :=
  (∀ a x, ((![v802] : Fin 1 → IVec S16 32) a x).toNat < S4096.size a)
theorem k0_idx96_inb : ∀ (v802 : IVec S16 32) (k0_hw96 : k0_chk96 v802), ∀ a x, ((![v802] : Fin 1 → IVec S16 32) a x).toNat < S4096.size a := fun v802 k0_hw96 => k0_hw96

def k0_chk97 (v810 : IVec S16 32) : Prop :=
  (∀ a x, ((![v810] : Fin 1 → IVec S16 32) a x).toNat < S4096.size a)
theorem k0_idx97_inb : ∀ (v810 : IVec S16 32) (k0_hw97 : k0_chk97 v810), ∀ a x, ((![v810] : Fin 1 → IVec S16 32) a x).toNat < S4096.size a := fun v810 k0_hw97 => k0_hw97

def k0_chk98 (v821 : IVec S16 32) : Prop :=
  (∀ a x, ((![v821] : Fin 1 → IVec S16 32) a x).toNat < S4096.size a)
theorem k0_idx98_inb : ∀ (v821 : IVec S16 32) (k0_hw98 : k0_chk98 v821), ∀ a x, ((![v821] : Fin 1 → IVec S16 32) a x).toNat < S4096.size a := fun v821 k0_hw98 => k0_hw98

def k0_chk99 (v829 : IVec S16 32) : Prop :=
  (∀ a x, ((![v829] : Fin 1 → IVec S16 32) a x).toNat < S4096.size a)
theorem k0_idx99_inb : ∀ (v829 : IVec S16 32) (k0_hw99 : k0_chk99 v829), ∀ a x, ((![v829] : Fin 1 → IVec S16 32) a x).toNat < S4096.size a := fun v829 k0_hw99 => k0_hw99

def k0_chk100 (v837 : IVec S16 32) : Prop :=
  (∀ a x, ((![v837] : Fin 1 → IVec S16 32) a x).toNat < S4096.size a)
theorem k0_idx100_inb : ∀ (v837 : IVec S16 32) (k0_hw100 : k0_chk100 v837), ∀ a x, ((![v837] : Fin 1 → IVec S16 32) a x).toNat < S4096.size a := fun v837 k0_hw100 => k0_hw100

def k0_chk101 (v845 : IVec S16 32) : Prop :=
  (∀ a x, ((![v845] : Fin 1 → IVec S16 32) a x).toNat < S4096.size a)
theorem k0_idx101_inb : ∀ (v845 : IVec S16 32) (k0_hw101 : k0_chk101 v845), ∀ a x, ((![v845] : Fin 1 → IVec S16 32) a x).toNat < S4096.size a := fun v845 k0_hw101 => k0_hw101

def k0_chk102 (v853 : IVec S16 32) : Prop :=
  (∀ a x, ((![v853] : Fin 1 → IVec S16 32) a x).toNat < S4096.size a)
theorem k0_idx102_inb : ∀ (v853 : IVec S16 32) (k0_hw102 : k0_chk102 v853), ∀ a x, ((![v853] : Fin 1 → IVec S16 32) a x).toNat < S4096.size a := fun v853 k0_hw102 => k0_hw102

def k0_chk103 (v861 : IVec S16 32) : Prop :=
  (∀ a x, ((![v861] : Fin 1 → IVec S16 32) a x).toNat < S4096.size a)
theorem k0_idx103_inb : ∀ (v861 : IVec S16 32) (k0_hw103 : k0_chk103 v861), ∀ a x, ((![v861] : Fin 1 → IVec S16 32) a x).toNat < S4096.size a := fun v861 k0_hw103 => k0_hw103

def k0_chk104 (v869 : IVec S16 32) : Prop :=
  (∀ a x, ((![v869] : Fin 1 → IVec S16 32) a x).toNat < S4096.size a)
theorem k0_idx104_inb : ∀ (v869 : IVec S16 32) (k0_hw104 : k0_chk104 v869), ∀ a x, ((![v869] : Fin 1 → IVec S16 32) a x).toNat < S4096.size a := fun v869 k0_hw104 => k0_hw104

def k0_chk105 (v877 : IVec S16 32) : Prop :=
  (∀ a x, ((![v877] : Fin 1 → IVec S16 32) a x).toNat < S4096.size a)
theorem k0_idx105_inb : ∀ (v877 : IVec S16 32) (k0_hw105 : k0_chk105 v877), ∀ a x, ((![v877] : Fin 1 → IVec S16 32) a x).toNat < S4096.size a := fun v877 k0_hw105 => k0_hw105

def k0_chk106 (v885 : IVec S16 32) : Prop :=
  (∀ a x, ((![v885] : Fin 1 → IVec S16 32) a x).toNat < S4096.size a)
theorem k0_idx106_inb : ∀ (v885 : IVec S16 32) (k0_hw106 : k0_chk106 v885), ∀ a x, ((![v885] : Fin 1 → IVec S16 32) a x).toNat < S4096.size a := fun v885 k0_hw106 => k0_hw106

def k0_chk107 (v893 : IVec S16 32) : Prop :=
  (∀ a x, ((![v893] : Fin 1 → IVec S16 32) a x).toNat < S4096.size a)
theorem k0_idx107_inb : ∀ (v893 : IVec S16 32) (k0_hw107 : k0_chk107 v893), ∀ a x, ((![v893] : Fin 1 → IVec S16 32) a x).toNat < S4096.size a := fun v893 k0_hw107 => k0_hw107

def k0_chk108 (v901 : IVec S16 32) : Prop :=
  (∀ a x, ((![v901] : Fin 1 → IVec S16 32) a x).toNat < S4096.size a)
theorem k0_idx108_inb : ∀ (v901 : IVec S16 32) (k0_hw108 : k0_chk108 v901), ∀ a x, ((![v901] : Fin 1 → IVec S16 32) a x).toNat < S4096.size a := fun v901 k0_hw108 => k0_hw108

def k0_chk109 (v909 : IVec S16 32) : Prop :=
  (∀ a x, ((![v909] : Fin 1 → IVec S16 32) a x).toNat < S4096.size a)
theorem k0_idx109_inb : ∀ (v909 : IVec S16 32) (k0_hw109 : k0_chk109 v909), ∀ a x, ((![v909] : Fin 1 → IVec S16 32) a x).toNat < S4096.size a := fun v909 k0_hw109 => k0_hw109

def k0_chk110 (v917 : IVec S16 32) : Prop :=
  (∀ a x, ((![v917] : Fin 1 → IVec S16 32) a x).toNat < S4096.size a)
theorem k0_idx110_inb : ∀ (v917 : IVec S16 32) (k0_hw110 : k0_chk110 v917), ∀ a x, ((![v917] : Fin 1 → IVec S16 32) a x).toNat < S4096.size a := fun v917 k0_hw110 => k0_hw110

def k0_chk111 (v925 : IVec S16 32) : Prop :=
  (∀ a x, ((![v925] : Fin 1 → IVec S16 32) a x).toNat < S4096.size a)
theorem k0_idx111_inb : ∀ (v925 : IVec S16 32) (k0_hw111 : k0_chk111 v925), ∀ a x, ((![v925] : Fin 1 → IVec S16 32) a x).toNat < S4096.size a := fun v925 k0_hw111 => k0_hw111

def k0_chk112 (v933 : IVec S16 32) : Prop :=
  (∀ a x, ((![v933] : Fin 1 → IVec S16 32) a x).toNat < S4096.size a)
theorem k0_idx112_inb : ∀ (v933 : IVec S16 32) (k0_hw112 : k0_chk112 v933), ∀ a x, ((![v933] : Fin 1 → IVec S16 32) a x).toNat < S4096.size a := fun v933 k0_hw112 => k0_hw112

def k0_chk113 (v941 : IVec S16 32) : Prop :=
  (∀ a x, ((![v941] : Fin 1 → IVec S16 32) a x).toNat < S4096.size a)
theorem k0_idx113_inb : ∀ (v941 : IVec S16 32) (k0_hw113 : k0_chk113 v941), ∀ a x, ((![v941] : Fin 1 → IVec S16 32) a x).toNat < S4096.size a := fun v941 k0_hw113 => k0_hw113

def k0_chk114 (v952 : IVec S16 32) : Prop :=
  (∀ a x, ((![v952] : Fin 1 → IVec S16 32) a x).toNat < S4096.size a)
theorem k0_idx114_inb : ∀ (v952 : IVec S16 32) (k0_hw114 : k0_chk114 v952), ∀ a x, ((![v952] : Fin 1 → IVec S16 32) a x).toNat < S4096.size a := fun v952 k0_hw114 => k0_hw114

def k0_chk115 (v960 : IVec S16 32) : Prop :=
  (∀ a x, ((![v960] : Fin 1 → IVec S16 32) a x).toNat < S4096.size a)
theorem k0_idx115_inb : ∀ (v960 : IVec S16 32) (k0_hw115 : k0_chk115 v960), ∀ a x, ((![v960] : Fin 1 → IVec S16 32) a x).toNat < S4096.size a := fun v960 k0_hw115 => k0_hw115

def k0_chk116 (v968 : IVec S16 32) : Prop :=
  (∀ a x, ((![v968] : Fin 1 → IVec S16 32) a x).toNat < S4096.size a)
theorem k0_idx116_inb : ∀ (v968 : IVec S16 32) (k0_hw116 : k0_chk116 v968), ∀ a x, ((![v968] : Fin 1 → IVec S16 32) a x).toNat < S4096.size a := fun v968 k0_hw116 => k0_hw116

def k0_chk117 (v976 : IVec S16 32) : Prop :=
  (∀ a x, ((![v976] : Fin 1 → IVec S16 32) a x).toNat < S4096.size a)
theorem k0_idx117_inb : ∀ (v976 : IVec S16 32) (k0_hw117 : k0_chk117 v976), ∀ a x, ((![v976] : Fin 1 → IVec S16 32) a x).toNat < S4096.size a := fun v976 k0_hw117 => k0_hw117

def k0_chk118 (v984 : IVec S16 32) : Prop :=
  (∀ a x, ((![v984] : Fin 1 → IVec S16 32) a x).toNat < S4096.size a)
theorem k0_idx118_inb : ∀ (v984 : IVec S16 32) (k0_hw118 : k0_chk118 v984), ∀ a x, ((![v984] : Fin 1 → IVec S16 32) a x).toNat < S4096.size a := fun v984 k0_hw118 => k0_hw118

def k0_chk119 (v992 : IVec S16 32) : Prop :=
  (∀ a x, ((![v992] : Fin 1 → IVec S16 32) a x).toNat < S4096.size a)
theorem k0_idx119_inb : ∀ (v992 : IVec S16 32) (k0_hw119 : k0_chk119 v992), ∀ a x, ((![v992] : Fin 1 → IVec S16 32) a x).toNat < S4096.size a := fun v992 k0_hw119 => k0_hw119

def k0_chk120 (v1000 : IVec S16 32) : Prop :=
  (∀ a x, ((![v1000] : Fin 1 → IVec S16 32) a x).toNat < S4096.size a)
theorem k0_idx120_inb : ∀ (v1000 : IVec S16 32) (k0_hw120 : k0_chk120 v1000), ∀ a x, ((![v1000] : Fin 1 → IVec S16 32) a x).toNat < S4096.size a := fun v1000 k0_hw120 => k0_hw120

def k0_chk121 (v1008 : IVec S16 32) : Prop :=
  (∀ a x, ((![v1008] : Fin 1 → IVec S16 32) a x).toNat < S4096.size a)
theorem k0_idx121_inb : ∀ (v1008 : IVec S16 32) (k0_hw121 : k0_chk121 v1008), ∀ a x, ((![v1008] : Fin 1 → IVec S16 32) a x).toNat < S4096.size a := fun v1008 k0_hw121 => k0_hw121

def k0_chk122 (v1016 : IVec S16 32) : Prop :=
  (∀ a x, ((![v1016] : Fin 1 → IVec S16 32) a x).toNat < S4096.size a)
theorem k0_idx122_inb : ∀ (v1016 : IVec S16 32) (k0_hw122 : k0_chk122 v1016), ∀ a x, ((![v1016] : Fin 1 → IVec S16 32) a x).toNat < S4096.size a := fun v1016 k0_hw122 => k0_hw122

def k0_chk123 (v1024 : IVec S16 32) : Prop :=
  (∀ a x, ((![v1024] : Fin 1 → IVec S16 32) a x).toNat < S4096.size a)
theorem k0_idx123_inb : ∀ (v1024 : IVec S16 32) (k0_hw123 : k0_chk123 v1024), ∀ a x, ((![v1024] : Fin 1 → IVec S16 32) a x).toNat < S4096.size a := fun v1024 k0_hw123 => k0_hw123

def k0_chk124 (v1032 : IVec S16 32) : Prop :=
  (∀ a x, ((![v1032] : Fin 1 → IVec S16 32) a x).toNat < S4096.size a)
theorem k0_idx124_inb : ∀ (v1032 : IVec S16 32) (k0_hw124 : k0_chk124 v1032), ∀ a x, ((![v1032] : Fin 1 → IVec S16 32) a x).toNat < S4096.size a := fun v1032 k0_hw124 => k0_hw124

def k0_chk125 (v1040 : IVec S16 32) : Prop :=
  (∀ a x, ((![v1040] : Fin 1 → IVec S16 32) a x).toNat < S4096.size a)
theorem k0_idx125_inb : ∀ (v1040 : IVec S16 32) (k0_hw125 : k0_chk125 v1040), ∀ a x, ((![v1040] : Fin 1 → IVec S16 32) a x).toNat < S4096.size a := fun v1040 k0_hw125 => k0_hw125

def k0_chk126 (v1048 : IVec S16 32) : Prop :=
  (∀ a x, ((![v1048] : Fin 1 → IVec S16 32) a x).toNat < S4096.size a)
theorem k0_idx126_inb : ∀ (v1048 : IVec S16 32) (k0_hw126 : k0_chk126 v1048), ∀ a x, ((![v1048] : Fin 1 → IVec S16 32) a x).toNat < S4096.size a := fun v1048 k0_hw126 => k0_hw126

def k0_chk127 (v1056 : IVec S16 32) : Prop :=
  (∀ a x, ((![v1056] : Fin 1 → IVec S16 32) a x).toNat < S4096.size a)
theorem k0_idx127_inb : ∀ (v1056 : IVec S16 32) (k0_hw127 : k0_chk127 v1056), ∀ a x, ((![v1056] : Fin 1 → IVec S16 32) a x).toNat < S4096.size a := fun v1056 k0_hw127 => k0_hw127

def k0_chk128 (v1064 : IVec S16 32) : Prop :=
  (∀ a x, ((![v1064] : Fin 1 → IVec S16 32) a x).toNat < S4096.size a)
theorem k0_idx128_inb : ∀ (v1064 : IVec S16 32) (k0_hw128 : k0_chk128 v1064), ∀ a x, ((![v1064] : Fin 1 → IVec S16 32) a x).toNat < S4096.size a := fun v1064 k0_hw128 => k0_hw128

def k0_chk129 (v1072 : IVec S16 32) : Prop :=
  (∀ a x, ((![v1072] : Fin 1 → IVec S16 32) a x).toNat < S4096.size a)
theorem k0_idx129_inb : ∀ (v1072 : IVec S16 32) (k0_hw129 : k0_chk129 v1072), ∀ a x, ((![v1072] : Fin 1 → IVec S16 32) a x).toNat < S4096.size a := fun v1072 k0_hw129 => k0_hw129

def k0_chk130 (v1083 : IVec S16 32) : Prop :=
  (∀ a x, ((![v1083] : Fin 1 → IVec S16 32) a x).toNat < S4096.size a)
theorem k0_idx130_inb : ∀ (v1083 : IVec S16 32) (k0_hw130 : k0_chk130 v1083), ∀ a x, ((![v1083] : Fin 1 → IVec S16 32) a x).toNat < S4096.size a := fun v1083 k0_hw130 => k0_hw130

def k0_chk131 (v1091 : IVec S16 32) : Prop :=
  (∀ a x, ((![v1091] : Fin 1 → IVec S16 32) a x).toNat < S4096.size a)
theorem k0_idx131_inb : ∀ (v1091 : IVec S16 32) (k0_hw131 : k0_chk131 v1091), ∀ a x, ((![v1091] : Fin 1 → IVec S16 32) a x).toNat < S4096.size a := fun v1091 k0_hw131 => k0_hw131

def k0_chk132 (v1099 : IVec S16 32) : Prop :=
  (∀ a x, ((![v1099] : Fin 1 → IVec S16 32) a x).toNat < S4096.size a)
theorem k0_idx132_inb : ∀ (v1099 : IVec S16 32) (k0_hw132 : k0_chk132 v1099), ∀ a x, ((![v1099] : Fin 1 → IVec S16 32) a x).toNat < S4096.size a := fun v1099 k0_hw132 => k0_hw132

def k0_chk133 (v1107 : IVec S16 32) : Prop :=
  (∀ a x, ((![v1107] : Fin 1 → IVec S16 32) a x).toNat < S4096.size a)
theorem k0_idx133_inb : ∀ (v1107 : IVec S16 32) (k0_hw133 : k0_chk133 v1107), ∀ a x, ((![v1107] : Fin 1 → IVec S16 32) a x).toNat < S4096.size a := fun v1107 k0_hw133 => k0_hw133

def k0_chk134 (v1115 : IVec S16 32) : Prop :=
  (∀ a x, ((![v1115] : Fin 1 → IVec S16 32) a x).toNat < S4096.size a)
theorem k0_idx134_inb : ∀ (v1115 : IVec S16 32) (k0_hw134 : k0_chk134 v1115), ∀ a x, ((![v1115] : Fin 1 → IVec S16 32) a x).toNat < S4096.size a := fun v1115 k0_hw134 => k0_hw134

def k0_chk135 (v1123 : IVec S16 32) : Prop :=
  (∀ a x, ((![v1123] : Fin 1 → IVec S16 32) a x).toNat < S4096.size a)
theorem k0_idx135_inb : ∀ (v1123 : IVec S16 32) (k0_hw135 : k0_chk135 v1123), ∀ a x, ((![v1123] : Fin 1 → IVec S16 32) a x).toNat < S4096.size a := fun v1123 k0_hw135 => k0_hw135

def k0_chk136 (v1131 : IVec S16 32) : Prop :=
  (∀ a x, ((![v1131] : Fin 1 → IVec S16 32) a x).toNat < S4096.size a)
theorem k0_idx136_inb : ∀ (v1131 : IVec S16 32) (k0_hw136 : k0_chk136 v1131), ∀ a x, ((![v1131] : Fin 1 → IVec S16 32) a x).toNat < S4096.size a := fun v1131 k0_hw136 => k0_hw136

def k0_chk137 (v1139 : IVec S16 32) : Prop :=
  (∀ a x, ((![v1139] : Fin 1 → IVec S16 32) a x).toNat < S4096.size a)
theorem k0_idx137_inb : ∀ (v1139 : IVec S16 32) (k0_hw137 : k0_chk137 v1139), ∀ a x, ((![v1139] : Fin 1 → IVec S16 32) a x).toNat < S4096.size a := fun v1139 k0_hw137 => k0_hw137

def k0_chk138 (v1147 : IVec S16 32) : Prop :=
  (∀ a x, ((![v1147] : Fin 1 → IVec S16 32) a x).toNat < S4096.size a)
theorem k0_idx138_inb : ∀ (v1147 : IVec S16 32) (k0_hw138 : k0_chk138 v1147), ∀ a x, ((![v1147] : Fin 1 → IVec S16 32) a x).toNat < S4096.size a := fun v1147 k0_hw138 => k0_hw138

def k0_chk139 (v1155 : IVec S16 32) : Prop :=
  (∀ a x, ((![v1155] : Fin 1 → IVec S16 32) a x).toNat < S4096.size a)
theorem k0_idx139_inb : ∀ (v1155 : IVec S16 32) (k0_hw139 : k0_chk139 v1155), ∀ a x, ((![v1155] : Fin 1 → IVec S16 32) a x).toNat < S4096.size a := fun v1155 k0_hw139 => k0_hw139

def k0_chk140 (v1163 : IVec S16 32) : Prop :=
  (∀ a x, ((![v1163] : Fin 1 → IVec S16 32) a x).toNat < S4096.size a)
theorem k0_idx140_inb : ∀ (v1163 : IVec S16 32) (k0_hw140 : k0_chk140 v1163), ∀ a x, ((![v1163] : Fin 1 → IVec S16 32) a x).toNat < S4096.size a := fun v1163 k0_hw140 => k0_hw140

def k0_chk141 (v1171 : IVec S16 32) : Prop :=
  (∀ a x, ((![v1171] : Fin 1 → IVec S16 32) a x).toNat < S4096.size a)
theorem k0_idx141_inb : ∀ (v1171 : IVec S16 32) (k0_hw141 : k0_chk141 v1171), ∀ a x, ((![v1171] : Fin 1 → IVec S16 32) a x).toNat < S4096.size a := fun v1171 k0_hw141 => k0_hw141

def k0_chk142 (v1179 : IVec S16 32) : Prop :=
  (∀ a x, ((![v1179] : Fin 1 → IVec S16 32) a x).toNat < S4096.size a)
theorem k0_idx142_inb : ∀ (v1179 : IVec S16 32) (k0_hw142 : k0_chk142 v1179), ∀ a x, ((![v1179] : Fin 1 → IVec S16 32) a x).toNat < S4096.size a := fun v1179 k0_hw142 => k0_hw142

def k0_chk143 (v1187 : IVec S16 32) : Prop :=
  (∀ a x, ((![v1187] : Fin 1 → IVec S16 32) a x).toNat < S4096.size a)
theorem k0_idx143_inb : ∀ (v1187 : IVec S16 32) (k0_hw143 : k0_chk143 v1187), ∀ a x, ((![v1187] : Fin 1 → IVec S16 32) a x).toNat < S4096.size a := fun v1187 k0_hw143 => k0_hw143

def k0_chk144 (v1195 : IVec S16 32) : Prop :=
  (∀ a x, ((![v1195] : Fin 1 → IVec S16 32) a x).toNat < S4096.size a)
theorem k0_idx144_inb : ∀ (v1195 : IVec S16 32) (k0_hw144 : k0_chk144 v1195), ∀ a x, ((![v1195] : Fin 1 → IVec S16 32) a x).toNat < S4096.size a := fun v1195 k0_hw144 => k0_hw144

def k0_chk145 (v1203 : IVec S16 32) : Prop :=
  (∀ a x, ((![v1203] : Fin 1 → IVec S16 32) a x).toNat < S4096.size a)
theorem k0_idx145_inb : ∀ (v1203 : IVec S16 32) (k0_hw145 : k0_chk145 v1203), ∀ a x, ((![v1203] : Fin 1 → IVec S16 32) a x).toNat < S4096.size a := fun v1203 k0_hw145 => k0_hw145

def k0_chk146 (v1214 : IVec S16 32) : Prop :=
  (∀ a x, ((![v1214] : Fin 1 → IVec S16 32) a x).toNat < S4096.size a)
theorem k0_idx146_inb : ∀ (v1214 : IVec S16 32) (k0_hw146 : k0_chk146 v1214), ∀ a x, ((![v1214] : Fin 1 → IVec S16 32) a x).toNat < S4096.size a := fun v1214 k0_hw146 => k0_hw146

def k0_chk147 (v1222 : IVec S16 32) : Prop :=
  (∀ a x, ((![v1222] : Fin 1 → IVec S16 32) a x).toNat < S4096.size a)
theorem k0_idx147_inb : ∀ (v1222 : IVec S16 32) (k0_hw147 : k0_chk147 v1222), ∀ a x, ((![v1222] : Fin 1 → IVec S16 32) a x).toNat < S4096.size a := fun v1222 k0_hw147 => k0_hw147

def k0_chk148 (v1230 : IVec S16 32) : Prop :=
  (∀ a x, ((![v1230] : Fin 1 → IVec S16 32) a x).toNat < S4096.size a)
theorem k0_idx148_inb : ∀ (v1230 : IVec S16 32) (k0_hw148 : k0_chk148 v1230), ∀ a x, ((![v1230] : Fin 1 → IVec S16 32) a x).toNat < S4096.size a := fun v1230 k0_hw148 => k0_hw148

def k0_chk149 (v1238 : IVec S16 32) : Prop :=
  (∀ a x, ((![v1238] : Fin 1 → IVec S16 32) a x).toNat < S4096.size a)
theorem k0_idx149_inb : ∀ (v1238 : IVec S16 32) (k0_hw149 : k0_chk149 v1238), ∀ a x, ((![v1238] : Fin 1 → IVec S16 32) a x).toNat < S4096.size a := fun v1238 k0_hw149 => k0_hw149

def k0_chk150 (v1246 : IVec S16 32) : Prop :=
  (∀ a x, ((![v1246] : Fin 1 → IVec S16 32) a x).toNat < S4096.size a)
theorem k0_idx150_inb : ∀ (v1246 : IVec S16 32) (k0_hw150 : k0_chk150 v1246), ∀ a x, ((![v1246] : Fin 1 → IVec S16 32) a x).toNat < S4096.size a := fun v1246 k0_hw150 => k0_hw150

def k0_chk151 (v1254 : IVec S16 32) : Prop :=
  (∀ a x, ((![v1254] : Fin 1 → IVec S16 32) a x).toNat < S4096.size a)
theorem k0_idx151_inb : ∀ (v1254 : IVec S16 32) (k0_hw151 : k0_chk151 v1254), ∀ a x, ((![v1254] : Fin 1 → IVec S16 32) a x).toNat < S4096.size a := fun v1254 k0_hw151 => k0_hw151

def k0_chk152 (v1262 : IVec S16 32) : Prop :=
  (∀ a x, ((![v1262] : Fin 1 → IVec S16 32) a x).toNat < S4096.size a)
theorem k0_idx152_inb : ∀ (v1262 : IVec S16 32) (k0_hw152 : k0_chk152 v1262), ∀ a x, ((![v1262] : Fin 1 → IVec S16 32) a x).toNat < S4096.size a := fun v1262 k0_hw152 => k0_hw152

def k0_chk153 (v1270 : IVec S16 32) : Prop :=
  (∀ a x, ((![v1270] : Fin 1 → IVec S16 32) a x).toNat < S4096.size a)
theorem k0_idx153_inb : ∀ (v1270 : IVec S16 32) (k0_hw153 : k0_chk153 v1270), ∀ a x, ((![v1270] : Fin 1 → IVec S16 32) a x).toNat < S4096.size a := fun v1270 k0_hw153 => k0_hw153

def k0_chk154 (v1278 : IVec S16 32) : Prop :=
  (∀ a x, ((![v1278] : Fin 1 → IVec S16 32) a x).toNat < S4096.size a)
theorem k0_idx154_inb : ∀ (v1278 : IVec S16 32) (k0_hw154 : k0_chk154 v1278), ∀ a x, ((![v1278] : Fin 1 → IVec S16 32) a x).toNat < S4096.size a := fun v1278 k0_hw154 => k0_hw154

def k0_chk155 (v1286 : IVec S16 32) : Prop :=
  (∀ a x, ((![v1286] : Fin 1 → IVec S16 32) a x).toNat < S4096.size a)
theorem k0_idx155_inb : ∀ (v1286 : IVec S16 32) (k0_hw155 : k0_chk155 v1286), ∀ a x, ((![v1286] : Fin 1 → IVec S16 32) a x).toNat < S4096.size a := fun v1286 k0_hw155 => k0_hw155

def k0_chk156 (v1294 : IVec S16 32) : Prop :=
  (∀ a x, ((![v1294] : Fin 1 → IVec S16 32) a x).toNat < S4096.size a)
theorem k0_idx156_inb : ∀ (v1294 : IVec S16 32) (k0_hw156 : k0_chk156 v1294), ∀ a x, ((![v1294] : Fin 1 → IVec S16 32) a x).toNat < S4096.size a := fun v1294 k0_hw156 => k0_hw156

def k0_chk157 (v1302 : IVec S16 32) : Prop :=
  (∀ a x, ((![v1302] : Fin 1 → IVec S16 32) a x).toNat < S4096.size a)
theorem k0_idx157_inb : ∀ (v1302 : IVec S16 32) (k0_hw157 : k0_chk157 v1302), ∀ a x, ((![v1302] : Fin 1 → IVec S16 32) a x).toNat < S4096.size a := fun v1302 k0_hw157 => k0_hw157

def k0_chk158 (v1310 : IVec S16 32) : Prop :=
  (∀ a x, ((![v1310] : Fin 1 → IVec S16 32) a x).toNat < S4096.size a)
theorem k0_idx158_inb : ∀ (v1310 : IVec S16 32) (k0_hw158 : k0_chk158 v1310), ∀ a x, ((![v1310] : Fin 1 → IVec S16 32) a x).toNat < S4096.size a := fun v1310 k0_hw158 => k0_hw158

def k0_chk159 (v1318 : IVec S16 32) : Prop :=
  (∀ a x, ((![v1318] : Fin 1 → IVec S16 32) a x).toNat < S4096.size a)
theorem k0_idx159_inb : ∀ (v1318 : IVec S16 32) (k0_hw159 : k0_chk159 v1318), ∀ a x, ((![v1318] : Fin 1 → IVec S16 32) a x).toNat < S4096.size a := fun v1318 k0_hw159 => k0_hw159

def k0_chk160 (v1326 : IVec S16 32) : Prop :=
  (∀ a x, ((![v1326] : Fin 1 → IVec S16 32) a x).toNat < S4096.size a)
theorem k0_idx160_inb : ∀ (v1326 : IVec S16 32) (k0_hw160 : k0_chk160 v1326), ∀ a x, ((![v1326] : Fin 1 → IVec S16 32) a x).toNat < S4096.size a := fun v1326 k0_hw160 => k0_hw160

def k0_chk161 (v1334 : IVec S16 32) : Prop :=
  (∀ a x, ((![v1334] : Fin 1 → IVec S16 32) a x).toNat < S4096.size a)
theorem k0_idx161_inb : ∀ (v1334 : IVec S16 32) (k0_hw161 : k0_chk161 v1334), ∀ a x, ((![v1334] : Fin 1 → IVec S16 32) a x).toNat < S4096.size a := fun v1334 k0_hw161 => k0_hw161

def k0_chk162 (v1345 : IVec S16 32) : Prop :=
  (∀ a x, ((![v1345] : Fin 1 → IVec S16 32) a x).toNat < S4096.size a)
theorem k0_idx162_inb : ∀ (v1345 : IVec S16 32) (k0_hw162 : k0_chk162 v1345), ∀ a x, ((![v1345] : Fin 1 → IVec S16 32) a x).toNat < S4096.size a := fun v1345 k0_hw162 => k0_hw162

def k0_chk163 (v1353 : IVec S16 32) : Prop :=
  (∀ a x, ((![v1353] : Fin 1 → IVec S16 32) a x).toNat < S4096.size a)
theorem k0_idx163_inb : ∀ (v1353 : IVec S16 32) (k0_hw163 : k0_chk163 v1353), ∀ a x, ((![v1353] : Fin 1 → IVec S16 32) a x).toNat < S4096.size a := fun v1353 k0_hw163 => k0_hw163

def k0_chk164 (v1361 : IVec S16 32) : Prop :=
  (∀ a x, ((![v1361] : Fin 1 → IVec S16 32) a x).toNat < S4096.size a)
theorem k0_idx164_inb : ∀ (v1361 : IVec S16 32) (k0_hw164 : k0_chk164 v1361), ∀ a x, ((![v1361] : Fin 1 → IVec S16 32) a x).toNat < S4096.size a := fun v1361 k0_hw164 => k0_hw164

def k0_chk165 (v1369 : IVec S16 32) : Prop :=
  (∀ a x, ((![v1369] : Fin 1 → IVec S16 32) a x).toNat < S4096.size a)
theorem k0_idx165_inb : ∀ (v1369 : IVec S16 32) (k0_hw165 : k0_chk165 v1369), ∀ a x, ((![v1369] : Fin 1 → IVec S16 32) a x).toNat < S4096.size a := fun v1369 k0_hw165 => k0_hw165

def k0_chk166 (v1377 : IVec S16 32) : Prop :=
  (∀ a x, ((![v1377] : Fin 1 → IVec S16 32) a x).toNat < S4096.size a)
theorem k0_idx166_inb : ∀ (v1377 : IVec S16 32) (k0_hw166 : k0_chk166 v1377), ∀ a x, ((![v1377] : Fin 1 → IVec S16 32) a x).toNat < S4096.size a := fun v1377 k0_hw166 => k0_hw166

def k0_chk167 (v1385 : IVec S16 32) : Prop :=
  (∀ a x, ((![v1385] : Fin 1 → IVec S16 32) a x).toNat < S4096.size a)
theorem k0_idx167_inb : ∀ (v1385 : IVec S16 32) (k0_hw167 : k0_chk167 v1385), ∀ a x, ((![v1385] : Fin 1 → IVec S16 32) a x).toNat < S4096.size a := fun v1385 k0_hw167 => k0_hw167

def k0_chk168 (v1393 : IVec S16 32) : Prop :=
  (∀ a x, ((![v1393] : Fin 1 → IVec S16 32) a x).toNat < S4096.size a)
theorem k0_idx168_inb : ∀ (v1393 : IVec S16 32) (k0_hw168 : k0_chk168 v1393), ∀ a x, ((![v1393] : Fin 1 → IVec S16 32) a x).toNat < S4096.size a := fun v1393 k0_hw168 => k0_hw168

def k0_chk169 (v1401 : IVec S16 32) : Prop :=
  (∀ a x, ((![v1401] : Fin 1 → IVec S16 32) a x).toNat < S4096.size a)
theorem k0_idx169_inb : ∀ (v1401 : IVec S16 32) (k0_hw169 : k0_chk169 v1401), ∀ a x, ((![v1401] : Fin 1 → IVec S16 32) a x).toNat < S4096.size a := fun v1401 k0_hw169 => k0_hw169

def k0_chk170 (v1409 : IVec S16 32) : Prop :=
  (∀ a x, ((![v1409] : Fin 1 → IVec S16 32) a x).toNat < S4096.size a)
theorem k0_idx170_inb : ∀ (v1409 : IVec S16 32) (k0_hw170 : k0_chk170 v1409), ∀ a x, ((![v1409] : Fin 1 → IVec S16 32) a x).toNat < S4096.size a := fun v1409 k0_hw170 => k0_hw170

def k0_chk171 (v1417 : IVec S16 32) : Prop :=
  (∀ a x, ((![v1417] : Fin 1 → IVec S16 32) a x).toNat < S4096.size a)
theorem k0_idx171_inb : ∀ (v1417 : IVec S16 32) (k0_hw171 : k0_chk171 v1417), ∀ a x, ((![v1417] : Fin 1 → IVec S16 32) a x).toNat < S4096.size a := fun v1417 k0_hw171 => k0_hw171

def k0_chk172 (v1425 : IVec S16 32) : Prop :=
  (∀ a x, ((![v1425] : Fin 1 → IVec S16 32) a x).toNat < S4096.size a)
theorem k0_idx172_inb : ∀ (v1425 : IVec S16 32) (k0_hw172 : k0_chk172 v1425), ∀ a x, ((![v1425] : Fin 1 → IVec S16 32) a x).toNat < S4096.size a := fun v1425 k0_hw172 => k0_hw172

def k0_chk173 (v1433 : IVec S16 32) : Prop :=
  (∀ a x, ((![v1433] : Fin 1 → IVec S16 32) a x).toNat < S4096.size a)
theorem k0_idx173_inb : ∀ (v1433 : IVec S16 32) (k0_hw173 : k0_chk173 v1433), ∀ a x, ((![v1433] : Fin 1 → IVec S16 32) a x).toNat < S4096.size a := fun v1433 k0_hw173 => k0_hw173

def k0_chk174 (v1441 : IVec S16 32) : Prop :=
  (∀ a x, ((![v1441] : Fin 1 → IVec S16 32) a x).toNat < S4096.size a)
theorem k0_idx174_inb : ∀ (v1441 : IVec S16 32) (k0_hw174 : k0_chk174 v1441), ∀ a x, ((![v1441] : Fin 1 → IVec S16 32) a x).toNat < S4096.size a := fun v1441 k0_hw174 => k0_hw174

def k0_chk175 (v1449 : IVec S16 32) : Prop :=
  (∀ a x, ((![v1449] : Fin 1 → IVec S16 32) a x).toNat < S4096.size a)
theorem k0_idx175_inb : ∀ (v1449 : IVec S16 32) (k0_hw175 : k0_chk175 v1449), ∀ a x, ((![v1449] : Fin 1 → IVec S16 32) a x).toNat < S4096.size a := fun v1449 k0_hw175 => k0_hw175

def k0_chk176 (v1457 : IVec S16 32) : Prop :=
  (∀ a x, ((![v1457] : Fin 1 → IVec S16 32) a x).toNat < S4096.size a)
theorem k0_idx176_inb : ∀ (v1457 : IVec S16 32) (k0_hw176 : k0_chk176 v1457), ∀ a x, ((![v1457] : Fin 1 → IVec S16 32) a x).toNat < S4096.size a := fun v1457 k0_hw176 => k0_hw176

def k0_chk177 (v1465 : IVec S16 32) : Prop :=
  (∀ a x, ((![v1465] : Fin 1 → IVec S16 32) a x).toNat < S4096.size a)
theorem k0_idx177_inb : ∀ (v1465 : IVec S16 32) (k0_hw177 : k0_chk177 v1465), ∀ a x, ((![v1465] : Fin 1 → IVec S16 32) a x).toNat < S4096.size a := fun v1465 k0_hw177 => k0_hw177

def k0_chk178 (v1476 : IVec S16 32) : Prop :=
  (∀ a x, ((![v1476] : Fin 1 → IVec S16 32) a x).toNat < S4096.size a)
theorem k0_idx178_inb : ∀ (v1476 : IVec S16 32) (k0_hw178 : k0_chk178 v1476), ∀ a x, ((![v1476] : Fin 1 → IVec S16 32) a x).toNat < S4096.size a := fun v1476 k0_hw178 => k0_hw178

def k0_chk179 (v1484 : IVec S16 32) : Prop :=
  (∀ a x, ((![v1484] : Fin 1 → IVec S16 32) a x).toNat < S4096.size a)
theorem k0_idx179_inb : ∀ (v1484 : IVec S16 32) (k0_hw179 : k0_chk179 v1484), ∀ a x, ((![v1484] : Fin 1 → IVec S16 32) a x).toNat < S4096.size a := fun v1484 k0_hw179 => k0_hw179

def k0_chk180 (v1492 : IVec S16 32) : Prop :=
  (∀ a x, ((![v1492] : Fin 1 → IVec S16 32) a x).toNat < S4096.size a)
theorem k0_idx180_inb : ∀ (v1492 : IVec S16 32) (k0_hw180 : k0_chk180 v1492), ∀ a x, ((![v1492] : Fin 1 → IVec S16 32) a x).toNat < S4096.size a := fun v1492 k0_hw180 => k0_hw180

def k0_chk181 (v1500 : IVec S16 32) : Prop :=
  (∀ a x, ((![v1500] : Fin 1 → IVec S16 32) a x).toNat < S4096.size a)
theorem k0_idx181_inb : ∀ (v1500 : IVec S16 32) (k0_hw181 : k0_chk181 v1500), ∀ a x, ((![v1500] : Fin 1 → IVec S16 32) a x).toNat < S4096.size a := fun v1500 k0_hw181 => k0_hw181

def k0_chk182 (v1508 : IVec S16 32) : Prop :=
  (∀ a x, ((![v1508] : Fin 1 → IVec S16 32) a x).toNat < S4096.size a)
theorem k0_idx182_inb : ∀ (v1508 : IVec S16 32) (k0_hw182 : k0_chk182 v1508), ∀ a x, ((![v1508] : Fin 1 → IVec S16 32) a x).toNat < S4096.size a := fun v1508 k0_hw182 => k0_hw182

def k0_chk183 (v1516 : IVec S16 32) : Prop :=
  (∀ a x, ((![v1516] : Fin 1 → IVec S16 32) a x).toNat < S4096.size a)
theorem k0_idx183_inb : ∀ (v1516 : IVec S16 32) (k0_hw183 : k0_chk183 v1516), ∀ a x, ((![v1516] : Fin 1 → IVec S16 32) a x).toNat < S4096.size a := fun v1516 k0_hw183 => k0_hw183

def k0_chk184 (v1524 : IVec S16 32) : Prop :=
  (∀ a x, ((![v1524] : Fin 1 → IVec S16 32) a x).toNat < S4096.size a)
theorem k0_idx184_inb : ∀ (v1524 : IVec S16 32) (k0_hw184 : k0_chk184 v1524), ∀ a x, ((![v1524] : Fin 1 → IVec S16 32) a x).toNat < S4096.size a := fun v1524 k0_hw184 => k0_hw184

def k0_chk185 (v1532 : IVec S16 32) : Prop :=
  (∀ a x, ((![v1532] : Fin 1 → IVec S16 32) a x).toNat < S4096.size a)
theorem k0_idx185_inb : ∀ (v1532 : IVec S16 32) (k0_hw185 : k0_chk185 v1532), ∀ a x, ((![v1532] : Fin 1 → IVec S16 32) a x).toNat < S4096.size a := fun v1532 k0_hw185 => k0_hw185

def k0_chk186 (v1540 : IVec S16 32) : Prop :=
  (∀ a x, ((![v1540] : Fin 1 → IVec S16 32) a x).toNat < S4096.size a)
theorem k0_idx186_inb : ∀ (v1540 : IVec S16 32) (k0_hw186 : k0_chk186 v1540), ∀ a x, ((![v1540] : Fin 1 → IVec S16 32) a x).toNat < S4096.size a := fun v1540 k0_hw186 => k0_hw186

def k0_chk187 (v1548 : IVec S16 32) : Prop :=
  (∀ a x, ((![v1548] : Fin 1 → IVec S16 32) a x).toNat < S4096.size a)
theorem k0_idx187_inb : ∀ (v1548 : IVec S16 32) (k0_hw187 : k0_chk187 v1548), ∀ a x, ((![v1548] : Fin 1 → IVec S16 32) a x).toNat < S4096.size a := fun v1548 k0_hw187 => k0_hw187

def k0_chk188 (v1556 : IVec S16 32) : Prop :=
  (∀ a x, ((![v1556] : Fin 1 → IVec S16 32) a x).toNat < S4096.size a)
theorem k0_idx188_inb : ∀ (v1556 : IVec S16 32) (k0_hw188 : k0_chk188 v1556), ∀ a x, ((![v1556] : Fin 1 → IVec S16 32) a x).toNat < S4096.size a := fun v1556 k0_hw188 => k0_hw188

def k0_chk189 (v1564 : IVec S16 32) : Prop :=
  (∀ a x, ((![v1564] : Fin 1 → IVec S16 32) a x).toNat < S4096.size a)
theorem k0_idx189_inb : ∀ (v1564 : IVec S16 32) (k0_hw189 : k0_chk189 v1564), ∀ a x, ((![v1564] : Fin 1 → IVec S16 32) a x).toNat < S4096.size a := fun v1564 k0_hw189 => k0_hw189

def k0_chk190 (v1572 : IVec S16 32) : Prop :=
  (∀ a x, ((![v1572] : Fin 1 → IVec S16 32) a x).toNat < S4096.size a)
theorem k0_idx190_inb : ∀ (v1572 : IVec S16 32) (k0_hw190 : k0_chk190 v1572), ∀ a x, ((![v1572] : Fin 1 → IVec S16 32) a x).toNat < S4096.size a := fun v1572 k0_hw190 => k0_hw190

def k0_chk191 (v1580 : IVec S16 32) : Prop :=
  (∀ a x, ((![v1580] : Fin 1 → IVec S16 32) a x).toNat < S4096.size a)
theorem k0_idx191_inb : ∀ (v1580 : IVec S16 32) (k0_hw191 : k0_chk191 v1580), ∀ a x, ((![v1580] : Fin 1 → IVec S16 32) a x).toNat < S4096.size a := fun v1580 k0_hw191 => k0_hw191

def k0_chk192 (v1588 : IVec S16 32) : Prop :=
  (∀ a x, ((![v1588] : Fin 1 → IVec S16 32) a x).toNat < S4096.size a)
theorem k0_idx192_inb : ∀ (v1588 : IVec S16 32) (k0_hw192 : k0_chk192 v1588), ∀ a x, ((![v1588] : Fin 1 → IVec S16 32) a x).toNat < S4096.size a := fun v1588 k0_hw192 => k0_hw192

def k0_chk193 (v1596 : IVec S16 32) : Prop :=
  (∀ a x, ((![v1596] : Fin 1 → IVec S16 32) a x).toNat < S4096.size a)
theorem k0_idx193_inb : ∀ (v1596 : IVec S16 32) (k0_hw193 : k0_chk193 v1596), ∀ a x, ((![v1596] : Fin 1 → IVec S16 32) a x).toNat < S4096.size a := fun v1596 k0_hw193 => k0_hw193

def k0_chk194 (v1607 : IVec S16 32) : Prop :=
  (∀ a x, ((![v1607] : Fin 1 → IVec S16 32) a x).toNat < S4096.size a)
theorem k0_idx194_inb : ∀ (v1607 : IVec S16 32) (k0_hw194 : k0_chk194 v1607), ∀ a x, ((![v1607] : Fin 1 → IVec S16 32) a x).toNat < S4096.size a := fun v1607 k0_hw194 => k0_hw194

def k0_chk195 (v1615 : IVec S16 32) : Prop :=
  (∀ a x, ((![v1615] : Fin 1 → IVec S16 32) a x).toNat < S4096.size a)
theorem k0_idx195_inb : ∀ (v1615 : IVec S16 32) (k0_hw195 : k0_chk195 v1615), ∀ a x, ((![v1615] : Fin 1 → IVec S16 32) a x).toNat < S4096.size a := fun v1615 k0_hw195 => k0_hw195

def k0_chk196 (v1623 : IVec S16 32) : Prop :=
  (∀ a x, ((![v1623] : Fin 1 → IVec S16 32) a x).toNat < S4096.size a)
theorem k0_idx196_inb : ∀ (v1623 : IVec S16 32) (k0_hw196 : k0_chk196 v1623), ∀ a x, ((![v1623] : Fin 1 → IVec S16 32) a x).toNat < S4096.size a := fun v1623 k0_hw196 => k0_hw196

def k0_chk197 (v1631 : IVec S16 32) : Prop :=
  (∀ a x, ((![v1631] : Fin 1 → IVec S16 32) a x).toNat < S4096.size a)
theorem k0_idx197_inb : ∀ (v1631 : IVec S16 32) (k0_hw197 : k0_chk197 v1631), ∀ a x, ((![v1631] : Fin 1 → IVec S16 32) a x).toNat < S4096.size a := fun v1631 k0_hw197 => k0_hw197

def k0_chk198 (v1639 : IVec S16 32) : Prop :=
  (∀ a x, ((![v1639] : Fin 1 → IVec S16 32) a x).toNat < S4096.size a)
theorem k0_idx198_inb : ∀ (v1639 : IVec S16 32) (k0_hw198 : k0_chk198 v1639), ∀ a x, ((![v1639] : Fin 1 → IVec S16 32) a x).toNat < S4096.size a := fun v1639 k0_hw198 => k0_hw198

def k0_chk199 (v1647 : IVec S16 32) : Prop :=
  (∀ a x, ((![v1647] : Fin 1 → IVec S16 32) a x).toNat < S4096.size a)
theorem k0_idx199_inb : ∀ (v1647 : IVec S16 32) (k0_hw199 : k0_chk199 v1647), ∀ a x, ((![v1647] : Fin 1 → IVec S16 32) a x).toNat < S4096.size a := fun v1647 k0_hw199 => k0_hw199

def k0_chk200 (v1655 : IVec S16 32) : Prop :=
  (∀ a x, ((![v1655] : Fin 1 → IVec S16 32) a x).toNat < S4096.size a)
theorem k0_idx200_inb : ∀ (v1655 : IVec S16 32) (k0_hw200 : k0_chk200 v1655), ∀ a x, ((![v1655] : Fin 1 → IVec S16 32) a x).toNat < S4096.size a := fun v1655 k0_hw200 => k0_hw200

def k0_chk201 (v1663 : IVec S16 32) : Prop :=
  (∀ a x, ((![v1663] : Fin 1 → IVec S16 32) a x).toNat < S4096.size a)
theorem k0_idx201_inb : ∀ (v1663 : IVec S16 32) (k0_hw201 : k0_chk201 v1663), ∀ a x, ((![v1663] : Fin 1 → IVec S16 32) a x).toNat < S4096.size a := fun v1663 k0_hw201 => k0_hw201

def k0_chk202 (v1671 : IVec S16 32) : Prop :=
  (∀ a x, ((![v1671] : Fin 1 → IVec S16 32) a x).toNat < S4096.size a)
theorem k0_idx202_inb : ∀ (v1671 : IVec S16 32) (k0_hw202 : k0_chk202 v1671), ∀ a x, ((![v1671] : Fin 1 → IVec S16 32) a x).toNat < S4096.size a := fun v1671 k0_hw202 => k0_hw202

def k0_chk203 (v1679 : IVec S16 32) : Prop :=
  (∀ a x, ((![v1679] : Fin 1 → IVec S16 32) a x).toNat < S4096.size a)
theorem k0_idx203_inb : ∀ (v1679 : IVec S16 32) (k0_hw203 : k0_chk203 v1679), ∀ a x, ((![v1679] : Fin 1 → IVec S16 32) a x).toNat < S4096.size a := fun v1679 k0_hw203 => k0_hw203

def k0_chk204 (v1687 : IVec S16 32) : Prop :=
  (∀ a x, ((![v1687] : Fin 1 → IVec S16 32) a x).toNat < S4096.size a)
theorem k0_idx204_inb : ∀ (v1687 : IVec S16 32) (k0_hw204 : k0_chk204 v1687), ∀ a x, ((![v1687] : Fin 1 → IVec S16 32) a x).toNat < S4096.size a := fun v1687 k0_hw204 => k0_hw204

def k0_chk205 (v1695 : IVec S16 32) : Prop :=
  (∀ a x, ((![v1695] : Fin 1 → IVec S16 32) a x).toNat < S4096.size a)
theorem k0_idx205_inb : ∀ (v1695 : IVec S16 32) (k0_hw205 : k0_chk205 v1695), ∀ a x, ((![v1695] : Fin 1 → IVec S16 32) a x).toNat < S4096.size a := fun v1695 k0_hw205 => k0_hw205

def k0_chk206 (v1703 : IVec S16 32) : Prop :=
  (∀ a x, ((![v1703] : Fin 1 → IVec S16 32) a x).toNat < S4096.size a)
theorem k0_idx206_inb : ∀ (v1703 : IVec S16 32) (k0_hw206 : k0_chk206 v1703), ∀ a x, ((![v1703] : Fin 1 → IVec S16 32) a x).toNat < S4096.size a := fun v1703 k0_hw206 => k0_hw206

def k0_chk207 (v1711 : IVec S16 32) : Prop :=
  (∀ a x, ((![v1711] : Fin 1 → IVec S16 32) a x).toNat < S4096.size a)
theorem k0_idx207_inb : ∀ (v1711 : IVec S16 32) (k0_hw207 : k0_chk207 v1711), ∀ a x, ((![v1711] : Fin 1 → IVec S16 32) a x).toNat < S4096.size a := fun v1711 k0_hw207 => k0_hw207

def k0_chk208 (v1719 : IVec S16 32) : Prop :=
  (∀ a x, ((![v1719] : Fin 1 → IVec S16 32) a x).toNat < S4096.size a)
theorem k0_idx208_inb : ∀ (v1719 : IVec S16 32) (k0_hw208 : k0_chk208 v1719), ∀ a x, ((![v1719] : Fin 1 → IVec S16 32) a x).toNat < S4096.size a := fun v1719 k0_hw208 => k0_hw208

def k0_chk209 (v1727 : IVec S16 32) : Prop :=
  (∀ a x, ((![v1727] : Fin 1 → IVec S16 32) a x).toNat < S4096.size a)
theorem k0_idx209_inb : ∀ (v1727 : IVec S16 32) (k0_hw209 : k0_chk209 v1727), ∀ a x, ((![v1727] : Fin 1 → IVec S16 32) a x).toNat < S4096.size a := fun v1727 k0_hw209 => k0_hw209

def k0_chk210 (v1738 : IVec S16 32) : Prop :=
  (∀ a x, ((![v1738] : Fin 1 → IVec S16 32) a x).toNat < S4096.size a)
theorem k0_idx210_inb : ∀ (v1738 : IVec S16 32) (k0_hw210 : k0_chk210 v1738), ∀ a x, ((![v1738] : Fin 1 → IVec S16 32) a x).toNat < S4096.size a := fun v1738 k0_hw210 => k0_hw210

def k0_chk211 (v1746 : IVec S16 32) : Prop :=
  (∀ a x, ((![v1746] : Fin 1 → IVec S16 32) a x).toNat < S4096.size a)
theorem k0_idx211_inb : ∀ (v1746 : IVec S16 32) (k0_hw211 : k0_chk211 v1746), ∀ a x, ((![v1746] : Fin 1 → IVec S16 32) a x).toNat < S4096.size a := fun v1746 k0_hw211 => k0_hw211

def k0_chk212 (v1754 : IVec S16 32) : Prop :=
  (∀ a x, ((![v1754] : Fin 1 → IVec S16 32) a x).toNat < S4096.size a)
theorem k0_idx212_inb : ∀ (v1754 : IVec S16 32) (k0_hw212 : k0_chk212 v1754), ∀ a x, ((![v1754] : Fin 1 → IVec S16 32) a x).toNat < S4096.size a := fun v1754 k0_hw212 => k0_hw212

def k0_chk213 (v1762 : IVec S16 32) : Prop :=
  (∀ a x, ((![v1762] : Fin 1 → IVec S16 32) a x).toNat < S4096.size a)
theorem k0_idx213_inb : ∀ (v1762 : IVec S16 32) (k0_hw213 : k0_chk213 v1762), ∀ a x, ((![v1762] : Fin 1 → IVec S16 32) a x).toNat < S4096.size a := fun v1762 k0_hw213 => k0_hw213

def k0_chk214 (v1770 : IVec S16 32) : Prop :=
  (∀ a x, ((![v1770] : Fin 1 → IVec S16 32) a x).toNat < S4096.size a)
theorem k0_idx214_inb : ∀ (v1770 : IVec S16 32) (k0_hw214 : k0_chk214 v1770), ∀ a x, ((![v1770] : Fin 1 → IVec S16 32) a x).toNat < S4096.size a := fun v1770 k0_hw214 => k0_hw214

def k0_chk215 (v1778 : IVec S16 32) : Prop :=
  (∀ a x, ((![v1778] : Fin 1 → IVec S16 32) a x).toNat < S4096.size a)
theorem k0_idx215_inb : ∀ (v1778 : IVec S16 32) (k0_hw215 : k0_chk215 v1778), ∀ a x, ((![v1778] : Fin 1 → IVec S16 32) a x).toNat < S4096.size a := fun v1778 k0_hw215 => k0_hw215

def k0_chk216 (v1786 : IVec S16 32) : Prop :=
  (∀ a x, ((![v1786] : Fin 1 → IVec S16 32) a x).toNat < S4096.size a)
theorem k0_idx216_inb : ∀ (v1786 : IVec S16 32) (k0_hw216 : k0_chk216 v1786), ∀ a x, ((![v1786] : Fin 1 → IVec S16 32) a x).toNat < S4096.size a := fun v1786 k0_hw216 => k0_hw216

def k0_chk217 (v1794 : IVec S16 32) : Prop :=
  (∀ a x, ((![v1794] : Fin 1 → IVec S16 32) a x).toNat < S4096.size a)
theorem k0_idx217_inb : ∀ (v1794 : IVec S16 32) (k0_hw217 : k0_chk217 v1794), ∀ a x, ((![v1794] : Fin 1 → IVec S16 32) a x).toNat < S4096.size a := fun v1794 k0_hw217 => k0_hw217

def k0_chk218 (v1802 : IVec S16 32) : Prop :=
  (∀ a x, ((![v1802] : Fin 1 → IVec S16 32) a x).toNat < S4096.size a)
theorem k0_idx218_inb : ∀ (v1802 : IVec S16 32) (k0_hw218 : k0_chk218 v1802), ∀ a x, ((![v1802] : Fin 1 → IVec S16 32) a x).toNat < S4096.size a := fun v1802 k0_hw218 => k0_hw218

def k0_chk219 (v1810 : IVec S16 32) : Prop :=
  (∀ a x, ((![v1810] : Fin 1 → IVec S16 32) a x).toNat < S4096.size a)
theorem k0_idx219_inb : ∀ (v1810 : IVec S16 32) (k0_hw219 : k0_chk219 v1810), ∀ a x, ((![v1810] : Fin 1 → IVec S16 32) a x).toNat < S4096.size a := fun v1810 k0_hw219 => k0_hw219

def k0_chk220 (v1818 : IVec S16 32) : Prop :=
  (∀ a x, ((![v1818] : Fin 1 → IVec S16 32) a x).toNat < S4096.size a)
theorem k0_idx220_inb : ∀ (v1818 : IVec S16 32) (k0_hw220 : k0_chk220 v1818), ∀ a x, ((![v1818] : Fin 1 → IVec S16 32) a x).toNat < S4096.size a := fun v1818 k0_hw220 => k0_hw220

def k0_chk221 (v1826 : IVec S16 32) : Prop :=
  (∀ a x, ((![v1826] : Fin 1 → IVec S16 32) a x).toNat < S4096.size a)
theorem k0_idx221_inb : ∀ (v1826 : IVec S16 32) (k0_hw221 : k0_chk221 v1826), ∀ a x, ((![v1826] : Fin 1 → IVec S16 32) a x).toNat < S4096.size a := fun v1826 k0_hw221 => k0_hw221

def k0_chk222 (v1834 : IVec S16 32) : Prop :=
  (∀ a x, ((![v1834] : Fin 1 → IVec S16 32) a x).toNat < S4096.size a)
theorem k0_idx222_inb : ∀ (v1834 : IVec S16 32) (k0_hw222 : k0_chk222 v1834), ∀ a x, ((![v1834] : Fin 1 → IVec S16 32) a x).toNat < S4096.size a := fun v1834 k0_hw222 => k0_hw222

def k0_chk223 (v1842 : IVec S16 32) : Prop :=
  (∀ a x, ((![v1842] : Fin 1 → IVec S16 32) a x).toNat < S4096.size a)
theorem k0_idx223_inb : ∀ (v1842 : IVec S16 32) (k0_hw223 : k0_chk223 v1842), ∀ a x, ((![v1842] : Fin 1 → IVec S16 32) a x).toNat < S4096.size a := fun v1842 k0_hw223 => k0_hw223

def k0_chk224 (v1850 : IVec S16 32) : Prop :=
  (∀ a x, ((![v1850] : Fin 1 → IVec S16 32) a x).toNat < S4096.size a)
theorem k0_idx224_inb : ∀ (v1850 : IVec S16 32) (k0_hw224 : k0_chk224 v1850), ∀ a x, ((![v1850] : Fin 1 → IVec S16 32) a x).toNat < S4096.size a := fun v1850 k0_hw224 => k0_hw224

def k0_chk225 (v1858 : IVec S16 32) : Prop :=
  (∀ a x, ((![v1858] : Fin 1 → IVec S16 32) a x).toNat < S4096.size a)
theorem k0_idx225_inb : ∀ (v1858 : IVec S16 32) (k0_hw225 : k0_chk225 v1858), ∀ a x, ((![v1858] : Fin 1 → IVec S16 32) a x).toNat < S4096.size a := fun v1858 k0_hw225 => k0_hw225

def k0_chk226 (v1869 : IVec S16 32) : Prop :=
  (∀ a x, ((![v1869] : Fin 1 → IVec S16 32) a x).toNat < S4096.size a)
theorem k0_idx226_inb : ∀ (v1869 : IVec S16 32) (k0_hw226 : k0_chk226 v1869), ∀ a x, ((![v1869] : Fin 1 → IVec S16 32) a x).toNat < S4096.size a := fun v1869 k0_hw226 => k0_hw226

def k0_chk227 (v1877 : IVec S16 32) : Prop :=
  (∀ a x, ((![v1877] : Fin 1 → IVec S16 32) a x).toNat < S4096.size a)
theorem k0_idx227_inb : ∀ (v1877 : IVec S16 32) (k0_hw227 : k0_chk227 v1877), ∀ a x, ((![v1877] : Fin 1 → IVec S16 32) a x).toNat < S4096.size a := fun v1877 k0_hw227 => k0_hw227

def k0_chk228 (v1885 : IVec S16 32) : Prop :=
  (∀ a x, ((![v1885] : Fin 1 → IVec S16 32) a x).toNat < S4096.size a)
theorem k0_idx228_inb : ∀ (v1885 : IVec S16 32) (k0_hw228 : k0_chk228 v1885), ∀ a x, ((![v1885] : Fin 1 → IVec S16 32) a x).toNat < S4096.size a := fun v1885 k0_hw228 => k0_hw228

def k0_chk229 (v1893 : IVec S16 32) : Prop :=
  (∀ a x, ((![v1893] : Fin 1 → IVec S16 32) a x).toNat < S4096.size a)
theorem k0_idx229_inb : ∀ (v1893 : IVec S16 32) (k0_hw229 : k0_chk229 v1893), ∀ a x, ((![v1893] : Fin 1 → IVec S16 32) a x).toNat < S4096.size a := fun v1893 k0_hw229 => k0_hw229

def k0_chk230 (v1901 : IVec S16 32) : Prop :=
  (∀ a x, ((![v1901] : Fin 1 → IVec S16 32) a x).toNat < S4096.size a)
theorem k0_idx230_inb : ∀ (v1901 : IVec S16 32) (k0_hw230 : k0_chk230 v1901), ∀ a x, ((![v1901] : Fin 1 → IVec S16 32) a x).toNat < S4096.size a := fun v1901 k0_hw230 => k0_hw230

def k0_chk231 (v1909 : IVec S16 32) : Prop :=
  (∀ a x, ((![v1909] : Fin 1 → IVec S16 32) a x).toNat < S4096.size a)
theorem k0_idx231_inb : ∀ (v1909 : IVec S16 32) (k0_hw231 : k0_chk231 v1909), ∀ a x, ((![v1909] : Fin 1 → IVec S16 32) a x).toNat < S4096.size a := fun v1909 k0_hw231 => k0_hw231

def k0_chk232 (v1917 : IVec S16 32) : Prop :=
  (∀ a x, ((![v1917] : Fin 1 → IVec S16 32) a x).toNat < S4096.size a)
theorem k0_idx232_inb : ∀ (v1917 : IVec S16 32) (k0_hw232 : k0_chk232 v1917), ∀ a x, ((![v1917] : Fin 1 → IVec S16 32) a x).toNat < S4096.size a := fun v1917 k0_hw232 => k0_hw232

def k0_chk233 (v1925 : IVec S16 32) : Prop :=
  (∀ a x, ((![v1925] : Fin 1 → IVec S16 32) a x).toNat < S4096.size a)
theorem k0_idx233_inb : ∀ (v1925 : IVec S16 32) (k0_hw233 : k0_chk233 v1925), ∀ a x, ((![v1925] : Fin 1 → IVec S16 32) a x).toNat < S4096.size a := fun v1925 k0_hw233 => k0_hw233

def k0_chk234 (v1933 : IVec S16 32) : Prop :=
  (∀ a x, ((![v1933] : Fin 1 → IVec S16 32) a x).toNat < S4096.size a)
theorem k0_idx234_inb : ∀ (v1933 : IVec S16 32) (k0_hw234 : k0_chk234 v1933), ∀ a x, ((![v1933] : Fin 1 → IVec S16 32) a x).toNat < S4096.size a := fun v1933 k0_hw234 => k0_hw234

def k0_chk235 (v1941 : IVec S16 32) : Prop :=
  (∀ a x, ((![v1941] : Fin 1 → IVec S16 32) a x).toNat < S4096.size a)
theorem k0_idx235_inb : ∀ (v1941 : IVec S16 32) (k0_hw235 : k0_chk235 v1941), ∀ a x, ((![v1941] : Fin 1 → IVec S16 32) a x).toNat < S4096.size a := fun v1941 k0_hw235 => k0_hw235

def k0_chk236 (v1949 : IVec S16 32) : Prop :=
  (∀ a x, ((![v1949] : Fin 1 → IVec S16 32) a x).toNat < S4096.size a)
theorem k0_idx236_inb : ∀ (v1949 : IVec S16 32) (k0_hw236 : k0_chk236 v1949), ∀ a x, ((![v1949] : Fin 1 → IVec S16 32) a x).toNat < S4096.size a := fun v1949 k0_hw236 => k0_hw236

def k0_chk237 (v1957 : IVec S16 32) : Prop :=
  (∀ a x, ((![v1957] : Fin 1 → IVec S16 32) a x).toNat < S4096.size a)
theorem k0_idx237_inb : ∀ (v1957 : IVec S16 32) (k0_hw237 : k0_chk237 v1957), ∀ a x, ((![v1957] : Fin 1 → IVec S16 32) a x).toNat < S4096.size a := fun v1957 k0_hw237 => k0_hw237

def k0_chk238 (v1965 : IVec S16 32) : Prop :=
  (∀ a x, ((![v1965] : Fin 1 → IVec S16 32) a x).toNat < S4096.size a)
theorem k0_idx238_inb : ∀ (v1965 : IVec S16 32) (k0_hw238 : k0_chk238 v1965), ∀ a x, ((![v1965] : Fin 1 → IVec S16 32) a x).toNat < S4096.size a := fun v1965 k0_hw238 => k0_hw238

def k0_chk239 (v1973 : IVec S16 32) : Prop :=
  (∀ a x, ((![v1973] : Fin 1 → IVec S16 32) a x).toNat < S4096.size a)
theorem k0_idx239_inb : ∀ (v1973 : IVec S16 32) (k0_hw239 : k0_chk239 v1973), ∀ a x, ((![v1973] : Fin 1 → IVec S16 32) a x).toNat < S4096.size a := fun v1973 k0_hw239 => k0_hw239

def k0_chk240 (v1981 : IVec S16 32) : Prop :=
  (∀ a x, ((![v1981] : Fin 1 → IVec S16 32) a x).toNat < S4096.size a)
theorem k0_idx240_inb : ∀ (v1981 : IVec S16 32) (k0_hw240 : k0_chk240 v1981), ∀ a x, ((![v1981] : Fin 1 → IVec S16 32) a x).toNat < S4096.size a := fun v1981 k0_hw240 => k0_hw240

def k0_chk241 (v1989 : IVec S16 32) : Prop :=
  (∀ a x, ((![v1989] : Fin 1 → IVec S16 32) a x).toNat < S4096.size a)
theorem k0_idx241_inb : ∀ (v1989 : IVec S16 32) (k0_hw241 : k0_chk241 v1989), ∀ a x, ((![v1989] : Fin 1 → IVec S16 32) a x).toNat < S4096.size a := fun v1989 k0_hw241 => k0_hw241

def k0_chk242 (v2000 : IVec S16 32) : Prop :=
  (∀ a x, ((![v2000] : Fin 1 → IVec S16 32) a x).toNat < S4096.size a)
theorem k0_idx242_inb : ∀ (v2000 : IVec S16 32) (k0_hw242 : k0_chk242 v2000), ∀ a x, ((![v2000] : Fin 1 → IVec S16 32) a x).toNat < S4096.size a := fun v2000 k0_hw242 => k0_hw242

def k0_chk243 (v2008 : IVec S16 32) : Prop :=
  (∀ a x, ((![v2008] : Fin 1 → IVec S16 32) a x).toNat < S4096.size a)
theorem k0_idx243_inb : ∀ (v2008 : IVec S16 32) (k0_hw243 : k0_chk243 v2008), ∀ a x, ((![v2008] : Fin 1 → IVec S16 32) a x).toNat < S4096.size a := fun v2008 k0_hw243 => k0_hw243

def k0_chk244 (v2016 : IVec S16 32) : Prop :=
  (∀ a x, ((![v2016] : Fin 1 → IVec S16 32) a x).toNat < S4096.size a)
theorem k0_idx244_inb : ∀ (v2016 : IVec S16 32) (k0_hw244 : k0_chk244 v2016), ∀ a x, ((![v2016] : Fin 1 → IVec S16 32) a x).toNat < S4096.size a := fun v2016 k0_hw244 => k0_hw244

def k0_chk245 (v2024 : IVec S16 32) : Prop :=
  (∀ a x, ((![v2024] : Fin 1 → IVec S16 32) a x).toNat < S4096.size a)
theorem k0_idx245_inb : ∀ (v2024 : IVec S16 32) (k0_hw245 : k0_chk245 v2024), ∀ a x, ((![v2024] : Fin 1 → IVec S16 32) a x).toNat < S4096.size a := fun v2024 k0_hw245 => k0_hw245

def k0_chk246 (v2032 : IVec S16 32) : Prop :=
  (∀ a x, ((![v2032] : Fin 1 → IVec S16 32) a x).toNat < S4096.size a)
theorem k0_idx246_inb : ∀ (v2032 : IVec S16 32) (k0_hw246 : k0_chk246 v2032), ∀ a x, ((![v2032] : Fin 1 → IVec S16 32) a x).toNat < S4096.size a := fun v2032 k0_hw246 => k0_hw246

def k0_chk247 (v2040 : IVec S16 32) : Prop :=
  (∀ a x, ((![v2040] : Fin 1 → IVec S16 32) a x).toNat < S4096.size a)
theorem k0_idx247_inb : ∀ (v2040 : IVec S16 32) (k0_hw247 : k0_chk247 v2040), ∀ a x, ((![v2040] : Fin 1 → IVec S16 32) a x).toNat < S4096.size a := fun v2040 k0_hw247 => k0_hw247

def k0_chk248 (v2048 : IVec S16 32) : Prop :=
  (∀ a x, ((![v2048] : Fin 1 → IVec S16 32) a x).toNat < S4096.size a)
theorem k0_idx248_inb : ∀ (v2048 : IVec S16 32) (k0_hw248 : k0_chk248 v2048), ∀ a x, ((![v2048] : Fin 1 → IVec S16 32) a x).toNat < S4096.size a := fun v2048 k0_hw248 => k0_hw248

def k0_chk249 (v2056 : IVec S16 32) : Prop :=
  (∀ a x, ((![v2056] : Fin 1 → IVec S16 32) a x).toNat < S4096.size a)
theorem k0_idx249_inb : ∀ (v2056 : IVec S16 32) (k0_hw249 : k0_chk249 v2056), ∀ a x, ((![v2056] : Fin 1 → IVec S16 32) a x).toNat < S4096.size a := fun v2056 k0_hw249 => k0_hw249

def k0_chk250 (v2064 : IVec S16 32) : Prop :=
  (∀ a x, ((![v2064] : Fin 1 → IVec S16 32) a x).toNat < S4096.size a)
theorem k0_idx250_inb : ∀ (v2064 : IVec S16 32) (k0_hw250 : k0_chk250 v2064), ∀ a x, ((![v2064] : Fin 1 → IVec S16 32) a x).toNat < S4096.size a := fun v2064 k0_hw250 => k0_hw250

def k0_chk251 (v2072 : IVec S16 32) : Prop :=
  (∀ a x, ((![v2072] : Fin 1 → IVec S16 32) a x).toNat < S4096.size a)
theorem k0_idx251_inb : ∀ (v2072 : IVec S16 32) (k0_hw251 : k0_chk251 v2072), ∀ a x, ((![v2072] : Fin 1 → IVec S16 32) a x).toNat < S4096.size a := fun v2072 k0_hw251 => k0_hw251

def k0_chk252 (v2080 : IVec S16 32) : Prop :=
  (∀ a x, ((![v2080] : Fin 1 → IVec S16 32) a x).toNat < S4096.size a)
theorem k0_idx252_inb : ∀ (v2080 : IVec S16 32) (k0_hw252 : k0_chk252 v2080), ∀ a x, ((![v2080] : Fin 1 → IVec S16 32) a x).toNat < S4096.size a := fun v2080 k0_hw252 => k0_hw252

def k0_chk253 (v2088 : IVec S16 32) : Prop :=
  (∀ a x, ((![v2088] : Fin 1 → IVec S16 32) a x).toNat < S4096.size a)
theorem k0_idx253_inb : ∀ (v2088 : IVec S16 32) (k0_hw253 : k0_chk253 v2088), ∀ a x, ((![v2088] : Fin 1 → IVec S16 32) a x).toNat < S4096.size a := fun v2088 k0_hw253 => k0_hw253

def k0_chk254 (v2096 : IVec S16 32) : Prop :=
  (∀ a x, ((![v2096] : Fin 1 → IVec S16 32) a x).toNat < S4096.size a)
theorem k0_idx254_inb : ∀ (v2096 : IVec S16 32) (k0_hw254 : k0_chk254 v2096), ∀ a x, ((![v2096] : Fin 1 → IVec S16 32) a x).toNat < S4096.size a := fun v2096 k0_hw254 => k0_hw254

def k0_chk255 (v2104 : IVec S16 32) : Prop :=
  (∀ a x, ((![v2104] : Fin 1 → IVec S16 32) a x).toNat < S4096.size a)
theorem k0_idx255_inb : ∀ (v2104 : IVec S16 32) (k0_hw255 : k0_chk255 v2104), ∀ a x, ((![v2104] : Fin 1 → IVec S16 32) a x).toNat < S4096.size a := fun v2104 k0_hw255 => k0_hw255

def k0_chk256 (v2112 : IVec S16 32) : Prop :=
  (∀ a x, ((![v2112] : Fin 1 → IVec S16 32) a x).toNat < S4096.size a)
theorem k0_idx256_inb : ∀ (v2112 : IVec S16 32) (k0_hw256 : k0_chk256 v2112), ∀ a x, ((![v2112] : Fin 1 → IVec S16 32) a x).toNat < S4096.size a := fun v2112 k0_hw256 => k0_hw256

def k0_chk257 (v2120 : IVec S16 32) : Prop :=
  (∀ a x, ((![v2120] : Fin 1 → IVec S16 32) a x).toNat < S4096.size a)
theorem k0_idx257_inb : ∀ (v2120 : IVec S16 32) (k0_hw257 : k0_chk257 v2120), ∀ a x, ((![v2120] : Fin 1 → IVec S16 32) a x).toNat < S4096.size a := fun v2120 k0_hw257 => k0_hw257
@[reducible] def k0_t5_loop : Scf.Loop 32 :=
  let c0_i32_785 : BitVec 32 := 0#32
  let c16_i32_786 : BitVec 32 := 16#32
  let v2130 : BitVec 32 := Scalar.addi c0_i32_785 c16_i32_786
  let c1_i32_787 : BitVec 32 := 1#32
  ⟨c0_i32_785, v2130, c1_i32_787⟩
def k0_off7 (k0_t5 : Fin k0_t5_loop.trips) : Fin 1 → Nat :=
  let c0_i32_785 : BitVec 32 := 0#32
  let c1_i32_787 : BitVec 32 := 1#32
  let arg15 : BitVec 32 := Scf.iv c0_i32_785 c1_i32_787 k0_t5
  let c16_i32_3472 : BitVec 32 := 16#32
  let v9096 : BitVec 32 := Scalar.muli arg15 c16_i32_3472
  let v9097 : Index := Scalar.indexCast v9096
  ![v9097.toNat]
def k0_off8 (v2131_1 : BitVec 32) : Fin 1 → Nat :=
  let c16_i32_789 : BitVec 32 := 16#32
  let v2132 : BitVec 32 := Scalar.muli v2131_1 c16_i32_789
  let v2133 : Index := Scalar.indexCast v2132
  ![v2133.toNat]

def k0_chk258 (v2131_1 : BitVec 32) : Prop :=
  (∀ a, (k0_off8 v2131_1) a + S16.size a ≤ S4096.size a)
theorem k0_off8_inb : ∀ (v2131_1 : BitVec 32) (k0_hw258 : k0_chk258 v2131_1), ∀ a, (k0_off8 v2131_1) a + S16.size a ≤ S4096.size a := fun v2131_1 k0_hw258 => k0_hw258

@[reducible] def k0_t6_loop : Scf.Loop 32 :=
  let c0_i32_800 : BitVec 32 := 0#32
  let c2048_i32_801 : BitVec 32 := 2048#32
  let v2174 : BitVec 32 := Scalar.addi c0_i32_800 c2048_i32_801
  let c1_i32_802 : BitVec 32 := 1#32
  ⟨c0_i32_800, v2174, c1_i32_802⟩
def k0_off9 (k0_t6 : Fin k0_t6_loop.trips) : Fin 1 → Nat :=
  let c0_i32_3473 : BitVec 32 := 0#32
  let c0_i32_800 : BitVec 32 := 0#32
  let c1_i32_802 : BitVec 32 := 1#32
  let arg15 : BitVec 32 := Scf.iv c0_i32_800 c1_i32_802 k0_t6
  let c1_i32_3472 : BitVec 32 := 1#32
  let v9096 : BitVec 32 := Scalar.muli arg15 c1_i32_3472
  let v9097 : BitVec 32 := Scalar.addi c0_i32_3473 v9096
  let c16_i32_3474 : BitVec 32 := 16#32
  let v9098 : BitVec 32 := Scalar.muli v9097 c16_i32_3474
  let v9099 : Index := Scalar.indexCast v9098
  ![v9099.toNat]

def k0_chk259 (v9111 : IVec S16 32) : Prop :=
  (∀ a x, ((![v9111] : Fin 1 → IVec S16 32) a x).toNat < S4096.size a)
theorem k0_idx258_inb : ∀ (v9111 : IVec S16 32) (k0_hw259 : k0_chk259 v9111), ∀ a x, ((![v9111] : Fin 1 → IVec S16 32) a x).toNat < S4096.size a := fun v9111 k0_hw259 => k0_hw259

def k0_chk260 (v2182 : IVec S16 32) : Prop :=
  (∀ a x, ((![v2182] : Fin 1 → IVec S16 32) a x).toNat < S4096.size a)
theorem k0_idx259_inb : ∀ (v2182 : IVec S16 32) (k0_hw260 : k0_chk260 v2182), ∀ a x, ((![v2182] : Fin 1 → IVec S16 32) a x).toNat < S4096.size a := fun v2182 k0_hw260 => k0_hw260

def k0_chk261 (v2190 : IVec S16 32) : Prop :=
  (∀ a x, ((![v2190] : Fin 1 → IVec S16 32) a x).toNat < S4096.size a)
theorem k0_idx260_inb : ∀ (v2190 : IVec S16 32) (k0_hw261 : k0_chk261 v2190), ∀ a x, ((![v2190] : Fin 1 → IVec S16 32) a x).toNat < S4096.size a := fun v2190 k0_hw261 => k0_hw261

def k0_chk262 (v2198 : IVec S16 32) : Prop :=
  (∀ a x, ((![v2198] : Fin 1 → IVec S16 32) a x).toNat < S4096.size a)
theorem k0_idx261_inb : ∀ (v2198 : IVec S16 32) (k0_hw262 : k0_chk262 v2198), ∀ a x, ((![v2198] : Fin 1 → IVec S16 32) a x).toNat < S4096.size a := fun v2198 k0_hw262 => k0_hw262

def k0_chk263 (v2206 : IVec S16 32) : Prop :=
  (∀ a x, ((![v2206] : Fin 1 → IVec S16 32) a x).toNat < S4096.size a)
theorem k0_idx262_inb : ∀ (v2206 : IVec S16 32) (k0_hw263 : k0_chk263 v2206), ∀ a x, ((![v2206] : Fin 1 → IVec S16 32) a x).toNat < S4096.size a := fun v2206 k0_hw263 => k0_hw263

def k0_chk264 (v2214 : IVec S16 32) : Prop :=
  (∀ a x, ((![v2214] : Fin 1 → IVec S16 32) a x).toNat < S4096.size a)
theorem k0_idx263_inb : ∀ (v2214 : IVec S16 32) (k0_hw264 : k0_chk264 v2214), ∀ a x, ((![v2214] : Fin 1 → IVec S16 32) a x).toNat < S4096.size a := fun v2214 k0_hw264 => k0_hw264

def k0_chk265 (v2222 : IVec S16 32) : Prop :=
  (∀ a x, ((![v2222] : Fin 1 → IVec S16 32) a x).toNat < S4096.size a)
theorem k0_idx264_inb : ∀ (v2222 : IVec S16 32) (k0_hw265 : k0_chk265 v2222), ∀ a x, ((![v2222] : Fin 1 → IVec S16 32) a x).toNat < S4096.size a := fun v2222 k0_hw265 => k0_hw265

def k0_chk266 (v2230 : IVec S16 32) : Prop :=
  (∀ a x, ((![v2230] : Fin 1 → IVec S16 32) a x).toNat < S4096.size a)
theorem k0_idx265_inb : ∀ (v2230 : IVec S16 32) (k0_hw266 : k0_chk266 v2230), ∀ a x, ((![v2230] : Fin 1 → IVec S16 32) a x).toNat < S4096.size a := fun v2230 k0_hw266 => k0_hw266

def k0_chk267 (v2238 : IVec S16 32) : Prop :=
  (∀ a x, ((![v2238] : Fin 1 → IVec S16 32) a x).toNat < S4096.size a)
theorem k0_idx266_inb : ∀ (v2238 : IVec S16 32) (k0_hw267 : k0_chk267 v2238), ∀ a x, ((![v2238] : Fin 1 → IVec S16 32) a x).toNat < S4096.size a := fun v2238 k0_hw267 => k0_hw267

def k0_chk268 (v2246 : IVec S16 32) : Prop :=
  (∀ a x, ((![v2246] : Fin 1 → IVec S16 32) a x).toNat < S4096.size a)
theorem k0_idx267_inb : ∀ (v2246 : IVec S16 32) (k0_hw268 : k0_chk268 v2246), ∀ a x, ((![v2246] : Fin 1 → IVec S16 32) a x).toNat < S4096.size a := fun v2246 k0_hw268 => k0_hw268

def k0_chk269 (v2254 : IVec S16 32) : Prop :=
  (∀ a x, ((![v2254] : Fin 1 → IVec S16 32) a x).toNat < S4096.size a)
theorem k0_idx268_inb : ∀ (v2254 : IVec S16 32) (k0_hw269 : k0_chk269 v2254), ∀ a x, ((![v2254] : Fin 1 → IVec S16 32) a x).toNat < S4096.size a := fun v2254 k0_hw269 => k0_hw269

def k0_chk270 (v2262 : IVec S16 32) : Prop :=
  (∀ a x, ((![v2262] : Fin 1 → IVec S16 32) a x).toNat < S4096.size a)
theorem k0_idx269_inb : ∀ (v2262 : IVec S16 32) (k0_hw270 : k0_chk270 v2262), ∀ a x, ((![v2262] : Fin 1 → IVec S16 32) a x).toNat < S4096.size a := fun v2262 k0_hw270 => k0_hw270

def k0_chk271 (v2270 : IVec S16 32) : Prop :=
  (∀ a x, ((![v2270] : Fin 1 → IVec S16 32) a x).toNat < S4096.size a)
theorem k0_idx270_inb : ∀ (v2270 : IVec S16 32) (k0_hw271 : k0_chk271 v2270), ∀ a x, ((![v2270] : Fin 1 → IVec S16 32) a x).toNat < S4096.size a := fun v2270 k0_hw271 => k0_hw271

def k0_chk272 (v2278 : IVec S16 32) : Prop :=
  (∀ a x, ((![v2278] : Fin 1 → IVec S16 32) a x).toNat < S4096.size a)
theorem k0_idx271_inb : ∀ (v2278 : IVec S16 32) (k0_hw272 : k0_chk272 v2278), ∀ a x, ((![v2278] : Fin 1 → IVec S16 32) a x).toNat < S4096.size a := fun v2278 k0_hw272 => k0_hw272

def k0_chk273 (v2286 : IVec S16 32) : Prop :=
  (∀ a x, ((![v2286] : Fin 1 → IVec S16 32) a x).toNat < S4096.size a)
theorem k0_idx272_inb : ∀ (v2286 : IVec S16 32) (k0_hw273 : k0_chk273 v2286), ∀ a x, ((![v2286] : Fin 1 → IVec S16 32) a x).toNat < S4096.size a := fun v2286 k0_hw273 => k0_hw273

def k0_chk274 (v2294 : IVec S16 32) : Prop :=
  (∀ a x, ((![v2294] : Fin 1 → IVec S16 32) a x).toNat < S4096.size a)
theorem k0_idx273_inb : ∀ (v2294 : IVec S16 32) (k0_hw274 : k0_chk274 v2294), ∀ a x, ((![v2294] : Fin 1 → IVec S16 32) a x).toNat < S4096.size a := fun v2294 k0_hw274 => k0_hw274

def k0_chk275 (v2302 : IVec S16 32) : Prop :=
  (∀ a x, ((![v2302] : Fin 1 → IVec S16 32) a x).toNat < S4096.size a)
theorem k0_idx274_inb : ∀ (v2302 : IVec S16 32) (k0_hw275 : k0_chk275 v2302), ∀ a x, ((![v2302] : Fin 1 → IVec S16 32) a x).toNat < S4096.size a := fun v2302 k0_hw275 => k0_hw275

def k0_chk276 (v2313 : IVec S16 32) : Prop :=
  (∀ a x, ((![v2313] : Fin 1 → IVec S16 32) a x).toNat < S4096.size a)
theorem k0_idx275_inb : ∀ (v2313 : IVec S16 32) (k0_hw276 : k0_chk276 v2313), ∀ a x, ((![v2313] : Fin 1 → IVec S16 32) a x).toNat < S4096.size a := fun v2313 k0_hw276 => k0_hw276

def k0_chk277 (v2321 : IVec S16 32) : Prop :=
  (∀ a x, ((![v2321] : Fin 1 → IVec S16 32) a x).toNat < S4096.size a)
theorem k0_idx276_inb : ∀ (v2321 : IVec S16 32) (k0_hw277 : k0_chk277 v2321), ∀ a x, ((![v2321] : Fin 1 → IVec S16 32) a x).toNat < S4096.size a := fun v2321 k0_hw277 => k0_hw277

def k0_chk278 (v2329 : IVec S16 32) : Prop :=
  (∀ a x, ((![v2329] : Fin 1 → IVec S16 32) a x).toNat < S4096.size a)
theorem k0_idx277_inb : ∀ (v2329 : IVec S16 32) (k0_hw278 : k0_chk278 v2329), ∀ a x, ((![v2329] : Fin 1 → IVec S16 32) a x).toNat < S4096.size a := fun v2329 k0_hw278 => k0_hw278

def k0_chk279 (v2337 : IVec S16 32) : Prop :=
  (∀ a x, ((![v2337] : Fin 1 → IVec S16 32) a x).toNat < S4096.size a)
theorem k0_idx278_inb : ∀ (v2337 : IVec S16 32) (k0_hw279 : k0_chk279 v2337), ∀ a x, ((![v2337] : Fin 1 → IVec S16 32) a x).toNat < S4096.size a := fun v2337 k0_hw279 => k0_hw279

def k0_chk280 (v2345 : IVec S16 32) : Prop :=
  (∀ a x, ((![v2345] : Fin 1 → IVec S16 32) a x).toNat < S4096.size a)
theorem k0_idx279_inb : ∀ (v2345 : IVec S16 32) (k0_hw280 : k0_chk280 v2345), ∀ a x, ((![v2345] : Fin 1 → IVec S16 32) a x).toNat < S4096.size a := fun v2345 k0_hw280 => k0_hw280

def k0_chk281 (v2353 : IVec S16 32) : Prop :=
  (∀ a x, ((![v2353] : Fin 1 → IVec S16 32) a x).toNat < S4096.size a)
theorem k0_idx280_inb : ∀ (v2353 : IVec S16 32) (k0_hw281 : k0_chk281 v2353), ∀ a x, ((![v2353] : Fin 1 → IVec S16 32) a x).toNat < S4096.size a := fun v2353 k0_hw281 => k0_hw281

def k0_chk282 (v2361 : IVec S16 32) : Prop :=
  (∀ a x, ((![v2361] : Fin 1 → IVec S16 32) a x).toNat < S4096.size a)
theorem k0_idx281_inb : ∀ (v2361 : IVec S16 32) (k0_hw282 : k0_chk282 v2361), ∀ a x, ((![v2361] : Fin 1 → IVec S16 32) a x).toNat < S4096.size a := fun v2361 k0_hw282 => k0_hw282

def k0_chk283 (v2369 : IVec S16 32) : Prop :=
  (∀ a x, ((![v2369] : Fin 1 → IVec S16 32) a x).toNat < S4096.size a)
theorem k0_idx282_inb : ∀ (v2369 : IVec S16 32) (k0_hw283 : k0_chk283 v2369), ∀ a x, ((![v2369] : Fin 1 → IVec S16 32) a x).toNat < S4096.size a := fun v2369 k0_hw283 => k0_hw283

def k0_chk284 (v2377 : IVec S16 32) : Prop :=
  (∀ a x, ((![v2377] : Fin 1 → IVec S16 32) a x).toNat < S4096.size a)
theorem k0_idx283_inb : ∀ (v2377 : IVec S16 32) (k0_hw284 : k0_chk284 v2377), ∀ a x, ((![v2377] : Fin 1 → IVec S16 32) a x).toNat < S4096.size a := fun v2377 k0_hw284 => k0_hw284

def k0_chk285 (v2385 : IVec S16 32) : Prop :=
  (∀ a x, ((![v2385] : Fin 1 → IVec S16 32) a x).toNat < S4096.size a)
theorem k0_idx284_inb : ∀ (v2385 : IVec S16 32) (k0_hw285 : k0_chk285 v2385), ∀ a x, ((![v2385] : Fin 1 → IVec S16 32) a x).toNat < S4096.size a := fun v2385 k0_hw285 => k0_hw285

def k0_chk286 (v2393 : IVec S16 32) : Prop :=
  (∀ a x, ((![v2393] : Fin 1 → IVec S16 32) a x).toNat < S4096.size a)
theorem k0_idx285_inb : ∀ (v2393 : IVec S16 32) (k0_hw286 : k0_chk286 v2393), ∀ a x, ((![v2393] : Fin 1 → IVec S16 32) a x).toNat < S4096.size a := fun v2393 k0_hw286 => k0_hw286

def k0_chk287 (v2401 : IVec S16 32) : Prop :=
  (∀ a x, ((![v2401] : Fin 1 → IVec S16 32) a x).toNat < S4096.size a)
theorem k0_idx286_inb : ∀ (v2401 : IVec S16 32) (k0_hw287 : k0_chk287 v2401), ∀ a x, ((![v2401] : Fin 1 → IVec S16 32) a x).toNat < S4096.size a := fun v2401 k0_hw287 => k0_hw287

def k0_chk288 (v2409 : IVec S16 32) : Prop :=
  (∀ a x, ((![v2409] : Fin 1 → IVec S16 32) a x).toNat < S4096.size a)
theorem k0_idx287_inb : ∀ (v2409 : IVec S16 32) (k0_hw288 : k0_chk288 v2409), ∀ a x, ((![v2409] : Fin 1 → IVec S16 32) a x).toNat < S4096.size a := fun v2409 k0_hw288 => k0_hw288

def k0_chk289 (v2417 : IVec S16 32) : Prop :=
  (∀ a x, ((![v2417] : Fin 1 → IVec S16 32) a x).toNat < S4096.size a)
theorem k0_idx288_inb : ∀ (v2417 : IVec S16 32) (k0_hw289 : k0_chk289 v2417), ∀ a x, ((![v2417] : Fin 1 → IVec S16 32) a x).toNat < S4096.size a := fun v2417 k0_hw289 => k0_hw289

def k0_chk290 (v2425 : IVec S16 32) : Prop :=
  (∀ a x, ((![v2425] : Fin 1 → IVec S16 32) a x).toNat < S4096.size a)
theorem k0_idx289_inb : ∀ (v2425 : IVec S16 32) (k0_hw290 : k0_chk290 v2425), ∀ a x, ((![v2425] : Fin 1 → IVec S16 32) a x).toNat < S4096.size a := fun v2425 k0_hw290 => k0_hw290

def k0_chk291 (v2433 : IVec S16 32) : Prop :=
  (∀ a x, ((![v2433] : Fin 1 → IVec S16 32) a x).toNat < S4096.size a)
theorem k0_idx290_inb : ∀ (v2433 : IVec S16 32) (k0_hw291 : k0_chk291 v2433), ∀ a x, ((![v2433] : Fin 1 → IVec S16 32) a x).toNat < S4096.size a := fun v2433 k0_hw291 => k0_hw291

def k0_chk292 (v2444 : IVec S16 32) : Prop :=
  (∀ a x, ((![v2444] : Fin 1 → IVec S16 32) a x).toNat < S4096.size a)
theorem k0_idx291_inb : ∀ (v2444 : IVec S16 32) (k0_hw292 : k0_chk292 v2444), ∀ a x, ((![v2444] : Fin 1 → IVec S16 32) a x).toNat < S4096.size a := fun v2444 k0_hw292 => k0_hw292

def k0_chk293 (v2452 : IVec S16 32) : Prop :=
  (∀ a x, ((![v2452] : Fin 1 → IVec S16 32) a x).toNat < S4096.size a)
theorem k0_idx292_inb : ∀ (v2452 : IVec S16 32) (k0_hw293 : k0_chk293 v2452), ∀ a x, ((![v2452] : Fin 1 → IVec S16 32) a x).toNat < S4096.size a := fun v2452 k0_hw293 => k0_hw293

def k0_chk294 (v2460 : IVec S16 32) : Prop :=
  (∀ a x, ((![v2460] : Fin 1 → IVec S16 32) a x).toNat < S4096.size a)
theorem k0_idx293_inb : ∀ (v2460 : IVec S16 32) (k0_hw294 : k0_chk294 v2460), ∀ a x, ((![v2460] : Fin 1 → IVec S16 32) a x).toNat < S4096.size a := fun v2460 k0_hw294 => k0_hw294

def k0_chk295 (v2468 : IVec S16 32) : Prop :=
  (∀ a x, ((![v2468] : Fin 1 → IVec S16 32) a x).toNat < S4096.size a)
theorem k0_idx294_inb : ∀ (v2468 : IVec S16 32) (k0_hw295 : k0_chk295 v2468), ∀ a x, ((![v2468] : Fin 1 → IVec S16 32) a x).toNat < S4096.size a := fun v2468 k0_hw295 => k0_hw295

def k0_chk296 (v2476 : IVec S16 32) : Prop :=
  (∀ a x, ((![v2476] : Fin 1 → IVec S16 32) a x).toNat < S4096.size a)
theorem k0_idx295_inb : ∀ (v2476 : IVec S16 32) (k0_hw296 : k0_chk296 v2476), ∀ a x, ((![v2476] : Fin 1 → IVec S16 32) a x).toNat < S4096.size a := fun v2476 k0_hw296 => k0_hw296

def k0_chk297 (v2484 : IVec S16 32) : Prop :=
  (∀ a x, ((![v2484] : Fin 1 → IVec S16 32) a x).toNat < S4096.size a)
theorem k0_idx296_inb : ∀ (v2484 : IVec S16 32) (k0_hw297 : k0_chk297 v2484), ∀ a x, ((![v2484] : Fin 1 → IVec S16 32) a x).toNat < S4096.size a := fun v2484 k0_hw297 => k0_hw297

def k0_chk298 (v2492 : IVec S16 32) : Prop :=
  (∀ a x, ((![v2492] : Fin 1 → IVec S16 32) a x).toNat < S4096.size a)
theorem k0_idx297_inb : ∀ (v2492 : IVec S16 32) (k0_hw298 : k0_chk298 v2492), ∀ a x, ((![v2492] : Fin 1 → IVec S16 32) a x).toNat < S4096.size a := fun v2492 k0_hw298 => k0_hw298

def k0_chk299 (v2500 : IVec S16 32) : Prop :=
  (∀ a x, ((![v2500] : Fin 1 → IVec S16 32) a x).toNat < S4096.size a)
theorem k0_idx298_inb : ∀ (v2500 : IVec S16 32) (k0_hw299 : k0_chk299 v2500), ∀ a x, ((![v2500] : Fin 1 → IVec S16 32) a x).toNat < S4096.size a := fun v2500 k0_hw299 => k0_hw299

def k0_chk300 (v2508 : IVec S16 32) : Prop :=
  (∀ a x, ((![v2508] : Fin 1 → IVec S16 32) a x).toNat < S4096.size a)
theorem k0_idx299_inb : ∀ (v2508 : IVec S16 32) (k0_hw300 : k0_chk300 v2508), ∀ a x, ((![v2508] : Fin 1 → IVec S16 32) a x).toNat < S4096.size a := fun v2508 k0_hw300 => k0_hw300

def k0_chk301 (v2516 : IVec S16 32) : Prop :=
  (∀ a x, ((![v2516] : Fin 1 → IVec S16 32) a x).toNat < S4096.size a)
theorem k0_idx300_inb : ∀ (v2516 : IVec S16 32) (k0_hw301 : k0_chk301 v2516), ∀ a x, ((![v2516] : Fin 1 → IVec S16 32) a x).toNat < S4096.size a := fun v2516 k0_hw301 => k0_hw301

def k0_chk302 (v2524 : IVec S16 32) : Prop :=
  (∀ a x, ((![v2524] : Fin 1 → IVec S16 32) a x).toNat < S4096.size a)
theorem k0_idx301_inb : ∀ (v2524 : IVec S16 32) (k0_hw302 : k0_chk302 v2524), ∀ a x, ((![v2524] : Fin 1 → IVec S16 32) a x).toNat < S4096.size a := fun v2524 k0_hw302 => k0_hw302

def k0_chk303 (v2532 : IVec S16 32) : Prop :=
  (∀ a x, ((![v2532] : Fin 1 → IVec S16 32) a x).toNat < S4096.size a)
theorem k0_idx302_inb : ∀ (v2532 : IVec S16 32) (k0_hw303 : k0_chk303 v2532), ∀ a x, ((![v2532] : Fin 1 → IVec S16 32) a x).toNat < S4096.size a := fun v2532 k0_hw303 => k0_hw303

def k0_chk304 (v2540 : IVec S16 32) : Prop :=
  (∀ a x, ((![v2540] : Fin 1 → IVec S16 32) a x).toNat < S4096.size a)
theorem k0_idx303_inb : ∀ (v2540 : IVec S16 32) (k0_hw304 : k0_chk304 v2540), ∀ a x, ((![v2540] : Fin 1 → IVec S16 32) a x).toNat < S4096.size a := fun v2540 k0_hw304 => k0_hw304

def k0_chk305 (v2548 : IVec S16 32) : Prop :=
  (∀ a x, ((![v2548] : Fin 1 → IVec S16 32) a x).toNat < S4096.size a)
theorem k0_idx304_inb : ∀ (v2548 : IVec S16 32) (k0_hw305 : k0_chk305 v2548), ∀ a x, ((![v2548] : Fin 1 → IVec S16 32) a x).toNat < S4096.size a := fun v2548 k0_hw305 => k0_hw305

def k0_chk306 (v2556 : IVec S16 32) : Prop :=
  (∀ a x, ((![v2556] : Fin 1 → IVec S16 32) a x).toNat < S4096.size a)
theorem k0_idx305_inb : ∀ (v2556 : IVec S16 32) (k0_hw306 : k0_chk306 v2556), ∀ a x, ((![v2556] : Fin 1 → IVec S16 32) a x).toNat < S4096.size a := fun v2556 k0_hw306 => k0_hw306

def k0_chk307 (v2564 : IVec S16 32) : Prop :=
  (∀ a x, ((![v2564] : Fin 1 → IVec S16 32) a x).toNat < S4096.size a)
theorem k0_idx306_inb : ∀ (v2564 : IVec S16 32) (k0_hw307 : k0_chk307 v2564), ∀ a x, ((![v2564] : Fin 1 → IVec S16 32) a x).toNat < S4096.size a := fun v2564 k0_hw307 => k0_hw307

def k0_chk308 (v2575 : IVec S16 32) : Prop :=
  (∀ a x, ((![v2575] : Fin 1 → IVec S16 32) a x).toNat < S4096.size a)
theorem k0_idx307_inb : ∀ (v2575 : IVec S16 32) (k0_hw308 : k0_chk308 v2575), ∀ a x, ((![v2575] : Fin 1 → IVec S16 32) a x).toNat < S4096.size a := fun v2575 k0_hw308 => k0_hw308

def k0_chk309 (v2583 : IVec S16 32) : Prop :=
  (∀ a x, ((![v2583] : Fin 1 → IVec S16 32) a x).toNat < S4096.size a)
theorem k0_idx308_inb : ∀ (v2583 : IVec S16 32) (k0_hw309 : k0_chk309 v2583), ∀ a x, ((![v2583] : Fin 1 → IVec S16 32) a x).toNat < S4096.size a := fun v2583 k0_hw309 => k0_hw309

def k0_chk310 (v2591 : IVec S16 32) : Prop :=
  (∀ a x, ((![v2591] : Fin 1 → IVec S16 32) a x).toNat < S4096.size a)
theorem k0_idx309_inb : ∀ (v2591 : IVec S16 32) (k0_hw310 : k0_chk310 v2591), ∀ a x, ((![v2591] : Fin 1 → IVec S16 32) a x).toNat < S4096.size a := fun v2591 k0_hw310 => k0_hw310

def k0_chk311 (v2599 : IVec S16 32) : Prop :=
  (∀ a x, ((![v2599] : Fin 1 → IVec S16 32) a x).toNat < S4096.size a)
theorem k0_idx310_inb : ∀ (v2599 : IVec S16 32) (k0_hw311 : k0_chk311 v2599), ∀ a x, ((![v2599] : Fin 1 → IVec S16 32) a x).toNat < S4096.size a := fun v2599 k0_hw311 => k0_hw311

def k0_chk312 (v2607 : IVec S16 32) : Prop :=
  (∀ a x, ((![v2607] : Fin 1 → IVec S16 32) a x).toNat < S4096.size a)
theorem k0_idx311_inb : ∀ (v2607 : IVec S16 32) (k0_hw312 : k0_chk312 v2607), ∀ a x, ((![v2607] : Fin 1 → IVec S16 32) a x).toNat < S4096.size a := fun v2607 k0_hw312 => k0_hw312

def k0_chk313 (v2615 : IVec S16 32) : Prop :=
  (∀ a x, ((![v2615] : Fin 1 → IVec S16 32) a x).toNat < S4096.size a)
theorem k0_idx312_inb : ∀ (v2615 : IVec S16 32) (k0_hw313 : k0_chk313 v2615), ∀ a x, ((![v2615] : Fin 1 → IVec S16 32) a x).toNat < S4096.size a := fun v2615 k0_hw313 => k0_hw313

def k0_chk314 (v2623 : IVec S16 32) : Prop :=
  (∀ a x, ((![v2623] : Fin 1 → IVec S16 32) a x).toNat < S4096.size a)
theorem k0_idx313_inb : ∀ (v2623 : IVec S16 32) (k0_hw314 : k0_chk314 v2623), ∀ a x, ((![v2623] : Fin 1 → IVec S16 32) a x).toNat < S4096.size a := fun v2623 k0_hw314 => k0_hw314

def k0_chk315 (v2631 : IVec S16 32) : Prop :=
  (∀ a x, ((![v2631] : Fin 1 → IVec S16 32) a x).toNat < S4096.size a)
theorem k0_idx314_inb : ∀ (v2631 : IVec S16 32) (k0_hw315 : k0_chk315 v2631), ∀ a x, ((![v2631] : Fin 1 → IVec S16 32) a x).toNat < S4096.size a := fun v2631 k0_hw315 => k0_hw315

def k0_chk316 (v2639 : IVec S16 32) : Prop :=
  (∀ a x, ((![v2639] : Fin 1 → IVec S16 32) a x).toNat < S4096.size a)
theorem k0_idx315_inb : ∀ (v2639 : IVec S16 32) (k0_hw316 : k0_chk316 v2639), ∀ a x, ((![v2639] : Fin 1 → IVec S16 32) a x).toNat < S4096.size a := fun v2639 k0_hw316 => k0_hw316

def k0_chk317 (v2647 : IVec S16 32) : Prop :=
  (∀ a x, ((![v2647] : Fin 1 → IVec S16 32) a x).toNat < S4096.size a)
theorem k0_idx316_inb : ∀ (v2647 : IVec S16 32) (k0_hw317 : k0_chk317 v2647), ∀ a x, ((![v2647] : Fin 1 → IVec S16 32) a x).toNat < S4096.size a := fun v2647 k0_hw317 => k0_hw317

def k0_chk318 (v2655 : IVec S16 32) : Prop :=
  (∀ a x, ((![v2655] : Fin 1 → IVec S16 32) a x).toNat < S4096.size a)
theorem k0_idx317_inb : ∀ (v2655 : IVec S16 32) (k0_hw318 : k0_chk318 v2655), ∀ a x, ((![v2655] : Fin 1 → IVec S16 32) a x).toNat < S4096.size a := fun v2655 k0_hw318 => k0_hw318

def k0_chk319 (v2663 : IVec S16 32) : Prop :=
  (∀ a x, ((![v2663] : Fin 1 → IVec S16 32) a x).toNat < S4096.size a)
theorem k0_idx318_inb : ∀ (v2663 : IVec S16 32) (k0_hw319 : k0_chk319 v2663), ∀ a x, ((![v2663] : Fin 1 → IVec S16 32) a x).toNat < S4096.size a := fun v2663 k0_hw319 => k0_hw319

def k0_chk320 (v2671 : IVec S16 32) : Prop :=
  (∀ a x, ((![v2671] : Fin 1 → IVec S16 32) a x).toNat < S4096.size a)
theorem k0_idx319_inb : ∀ (v2671 : IVec S16 32) (k0_hw320 : k0_chk320 v2671), ∀ a x, ((![v2671] : Fin 1 → IVec S16 32) a x).toNat < S4096.size a := fun v2671 k0_hw320 => k0_hw320

def k0_chk321 (v2679 : IVec S16 32) : Prop :=
  (∀ a x, ((![v2679] : Fin 1 → IVec S16 32) a x).toNat < S4096.size a)
theorem k0_idx320_inb : ∀ (v2679 : IVec S16 32) (k0_hw321 : k0_chk321 v2679), ∀ a x, ((![v2679] : Fin 1 → IVec S16 32) a x).toNat < S4096.size a := fun v2679 k0_hw321 => k0_hw321

def k0_chk322 (v2687 : IVec S16 32) : Prop :=
  (∀ a x, ((![v2687] : Fin 1 → IVec S16 32) a x).toNat < S4096.size a)
theorem k0_idx321_inb : ∀ (v2687 : IVec S16 32) (k0_hw322 : k0_chk322 v2687), ∀ a x, ((![v2687] : Fin 1 → IVec S16 32) a x).toNat < S4096.size a := fun v2687 k0_hw322 => k0_hw322

def k0_chk323 (v2695 : IVec S16 32) : Prop :=
  (∀ a x, ((![v2695] : Fin 1 → IVec S16 32) a x).toNat < S4096.size a)
theorem k0_idx322_inb : ∀ (v2695 : IVec S16 32) (k0_hw323 : k0_chk323 v2695), ∀ a x, ((![v2695] : Fin 1 → IVec S16 32) a x).toNat < S4096.size a := fun v2695 k0_hw323 => k0_hw323

def k0_chk324 (v2706 : IVec S16 32) : Prop :=
  (∀ a x, ((![v2706] : Fin 1 → IVec S16 32) a x).toNat < S4096.size a)
theorem k0_idx323_inb : ∀ (v2706 : IVec S16 32) (k0_hw324 : k0_chk324 v2706), ∀ a x, ((![v2706] : Fin 1 → IVec S16 32) a x).toNat < S4096.size a := fun v2706 k0_hw324 => k0_hw324

def k0_chk325 (v2714 : IVec S16 32) : Prop :=
  (∀ a x, ((![v2714] : Fin 1 → IVec S16 32) a x).toNat < S4096.size a)
theorem k0_idx324_inb : ∀ (v2714 : IVec S16 32) (k0_hw325 : k0_chk325 v2714), ∀ a x, ((![v2714] : Fin 1 → IVec S16 32) a x).toNat < S4096.size a := fun v2714 k0_hw325 => k0_hw325

def k0_chk326 (v2722 : IVec S16 32) : Prop :=
  (∀ a x, ((![v2722] : Fin 1 → IVec S16 32) a x).toNat < S4096.size a)
theorem k0_idx325_inb : ∀ (v2722 : IVec S16 32) (k0_hw326 : k0_chk326 v2722), ∀ a x, ((![v2722] : Fin 1 → IVec S16 32) a x).toNat < S4096.size a := fun v2722 k0_hw326 => k0_hw326

def k0_chk327 (v2730 : IVec S16 32) : Prop :=
  (∀ a x, ((![v2730] : Fin 1 → IVec S16 32) a x).toNat < S4096.size a)
theorem k0_idx326_inb : ∀ (v2730 : IVec S16 32) (k0_hw327 : k0_chk327 v2730), ∀ a x, ((![v2730] : Fin 1 → IVec S16 32) a x).toNat < S4096.size a := fun v2730 k0_hw327 => k0_hw327

def k0_chk328 (v2738 : IVec S16 32) : Prop :=
  (∀ a x, ((![v2738] : Fin 1 → IVec S16 32) a x).toNat < S4096.size a)
theorem k0_idx327_inb : ∀ (v2738 : IVec S16 32) (k0_hw328 : k0_chk328 v2738), ∀ a x, ((![v2738] : Fin 1 → IVec S16 32) a x).toNat < S4096.size a := fun v2738 k0_hw328 => k0_hw328

def k0_chk329 (v2746 : IVec S16 32) : Prop :=
  (∀ a x, ((![v2746] : Fin 1 → IVec S16 32) a x).toNat < S4096.size a)
theorem k0_idx328_inb : ∀ (v2746 : IVec S16 32) (k0_hw329 : k0_chk329 v2746), ∀ a x, ((![v2746] : Fin 1 → IVec S16 32) a x).toNat < S4096.size a := fun v2746 k0_hw329 => k0_hw329

def k0_chk330 (v2754 : IVec S16 32) : Prop :=
  (∀ a x, ((![v2754] : Fin 1 → IVec S16 32) a x).toNat < S4096.size a)
theorem k0_idx329_inb : ∀ (v2754 : IVec S16 32) (k0_hw330 : k0_chk330 v2754), ∀ a x, ((![v2754] : Fin 1 → IVec S16 32) a x).toNat < S4096.size a := fun v2754 k0_hw330 => k0_hw330

def k0_chk331 (v2762 : IVec S16 32) : Prop :=
  (∀ a x, ((![v2762] : Fin 1 → IVec S16 32) a x).toNat < S4096.size a)
theorem k0_idx330_inb : ∀ (v2762 : IVec S16 32) (k0_hw331 : k0_chk331 v2762), ∀ a x, ((![v2762] : Fin 1 → IVec S16 32) a x).toNat < S4096.size a := fun v2762 k0_hw331 => k0_hw331

def k0_chk332 (v2770 : IVec S16 32) : Prop :=
  (∀ a x, ((![v2770] : Fin 1 → IVec S16 32) a x).toNat < S4096.size a)
theorem k0_idx331_inb : ∀ (v2770 : IVec S16 32) (k0_hw332 : k0_chk332 v2770), ∀ a x, ((![v2770] : Fin 1 → IVec S16 32) a x).toNat < S4096.size a := fun v2770 k0_hw332 => k0_hw332

def k0_chk333 (v2778 : IVec S16 32) : Prop :=
  (∀ a x, ((![v2778] : Fin 1 → IVec S16 32) a x).toNat < S4096.size a)
theorem k0_idx332_inb : ∀ (v2778 : IVec S16 32) (k0_hw333 : k0_chk333 v2778), ∀ a x, ((![v2778] : Fin 1 → IVec S16 32) a x).toNat < S4096.size a := fun v2778 k0_hw333 => k0_hw333

def k0_chk334 (v2786 : IVec S16 32) : Prop :=
  (∀ a x, ((![v2786] : Fin 1 → IVec S16 32) a x).toNat < S4096.size a)
theorem k0_idx333_inb : ∀ (v2786 : IVec S16 32) (k0_hw334 : k0_chk334 v2786), ∀ a x, ((![v2786] : Fin 1 → IVec S16 32) a x).toNat < S4096.size a := fun v2786 k0_hw334 => k0_hw334

def k0_chk335 (v2794 : IVec S16 32) : Prop :=
  (∀ a x, ((![v2794] : Fin 1 → IVec S16 32) a x).toNat < S4096.size a)
theorem k0_idx334_inb : ∀ (v2794 : IVec S16 32) (k0_hw335 : k0_chk335 v2794), ∀ a x, ((![v2794] : Fin 1 → IVec S16 32) a x).toNat < S4096.size a := fun v2794 k0_hw335 => k0_hw335

def k0_chk336 (v2802 : IVec S16 32) : Prop :=
  (∀ a x, ((![v2802] : Fin 1 → IVec S16 32) a x).toNat < S4096.size a)
theorem k0_idx335_inb : ∀ (v2802 : IVec S16 32) (k0_hw336 : k0_chk336 v2802), ∀ a x, ((![v2802] : Fin 1 → IVec S16 32) a x).toNat < S4096.size a := fun v2802 k0_hw336 => k0_hw336

def k0_chk337 (v2810 : IVec S16 32) : Prop :=
  (∀ a x, ((![v2810] : Fin 1 → IVec S16 32) a x).toNat < S4096.size a)
theorem k0_idx336_inb : ∀ (v2810 : IVec S16 32) (k0_hw337 : k0_chk337 v2810), ∀ a x, ((![v2810] : Fin 1 → IVec S16 32) a x).toNat < S4096.size a := fun v2810 k0_hw337 => k0_hw337

def k0_chk338 (v2818 : IVec S16 32) : Prop :=
  (∀ a x, ((![v2818] : Fin 1 → IVec S16 32) a x).toNat < S4096.size a)
theorem k0_idx337_inb : ∀ (v2818 : IVec S16 32) (k0_hw338 : k0_chk338 v2818), ∀ a x, ((![v2818] : Fin 1 → IVec S16 32) a x).toNat < S4096.size a := fun v2818 k0_hw338 => k0_hw338

def k0_chk339 (v2826 : IVec S16 32) : Prop :=
  (∀ a x, ((![v2826] : Fin 1 → IVec S16 32) a x).toNat < S4096.size a)
theorem k0_idx338_inb : ∀ (v2826 : IVec S16 32) (k0_hw339 : k0_chk339 v2826), ∀ a x, ((![v2826] : Fin 1 → IVec S16 32) a x).toNat < S4096.size a := fun v2826 k0_hw339 => k0_hw339

def k0_chk340 (v2837 : IVec S16 32) : Prop :=
  (∀ a x, ((![v2837] : Fin 1 → IVec S16 32) a x).toNat < S4096.size a)
theorem k0_idx339_inb : ∀ (v2837 : IVec S16 32) (k0_hw340 : k0_chk340 v2837), ∀ a x, ((![v2837] : Fin 1 → IVec S16 32) a x).toNat < S4096.size a := fun v2837 k0_hw340 => k0_hw340

def k0_chk341 (v2845 : IVec S16 32) : Prop :=
  (∀ a x, ((![v2845] : Fin 1 → IVec S16 32) a x).toNat < S4096.size a)
theorem k0_idx340_inb : ∀ (v2845 : IVec S16 32) (k0_hw341 : k0_chk341 v2845), ∀ a x, ((![v2845] : Fin 1 → IVec S16 32) a x).toNat < S4096.size a := fun v2845 k0_hw341 => k0_hw341

def k0_chk342 (v2853 : IVec S16 32) : Prop :=
  (∀ a x, ((![v2853] : Fin 1 → IVec S16 32) a x).toNat < S4096.size a)
theorem k0_idx341_inb : ∀ (v2853 : IVec S16 32) (k0_hw342 : k0_chk342 v2853), ∀ a x, ((![v2853] : Fin 1 → IVec S16 32) a x).toNat < S4096.size a := fun v2853 k0_hw342 => k0_hw342

def k0_chk343 (v2861 : IVec S16 32) : Prop :=
  (∀ a x, ((![v2861] : Fin 1 → IVec S16 32) a x).toNat < S4096.size a)
theorem k0_idx342_inb : ∀ (v2861 : IVec S16 32) (k0_hw343 : k0_chk343 v2861), ∀ a x, ((![v2861] : Fin 1 → IVec S16 32) a x).toNat < S4096.size a := fun v2861 k0_hw343 => k0_hw343

def k0_chk344 (v2869 : IVec S16 32) : Prop :=
  (∀ a x, ((![v2869] : Fin 1 → IVec S16 32) a x).toNat < S4096.size a)
theorem k0_idx343_inb : ∀ (v2869 : IVec S16 32) (k0_hw344 : k0_chk344 v2869), ∀ a x, ((![v2869] : Fin 1 → IVec S16 32) a x).toNat < S4096.size a := fun v2869 k0_hw344 => k0_hw344

def k0_chk345 (v2877 : IVec S16 32) : Prop :=
  (∀ a x, ((![v2877] : Fin 1 → IVec S16 32) a x).toNat < S4096.size a)
theorem k0_idx344_inb : ∀ (v2877 : IVec S16 32) (k0_hw345 : k0_chk345 v2877), ∀ a x, ((![v2877] : Fin 1 → IVec S16 32) a x).toNat < S4096.size a := fun v2877 k0_hw345 => k0_hw345

def k0_chk346 (v2885 : IVec S16 32) : Prop :=
  (∀ a x, ((![v2885] : Fin 1 → IVec S16 32) a x).toNat < S4096.size a)
theorem k0_idx345_inb : ∀ (v2885 : IVec S16 32) (k0_hw346 : k0_chk346 v2885), ∀ a x, ((![v2885] : Fin 1 → IVec S16 32) a x).toNat < S4096.size a := fun v2885 k0_hw346 => k0_hw346

def k0_chk347 (v2893 : IVec S16 32) : Prop :=
  (∀ a x, ((![v2893] : Fin 1 → IVec S16 32) a x).toNat < S4096.size a)
theorem k0_idx346_inb : ∀ (v2893 : IVec S16 32) (k0_hw347 : k0_chk347 v2893), ∀ a x, ((![v2893] : Fin 1 → IVec S16 32) a x).toNat < S4096.size a := fun v2893 k0_hw347 => k0_hw347

def k0_chk348 (v2901 : IVec S16 32) : Prop :=
  (∀ a x, ((![v2901] : Fin 1 → IVec S16 32) a x).toNat < S4096.size a)
theorem k0_idx347_inb : ∀ (v2901 : IVec S16 32) (k0_hw348 : k0_chk348 v2901), ∀ a x, ((![v2901] : Fin 1 → IVec S16 32) a x).toNat < S4096.size a := fun v2901 k0_hw348 => k0_hw348

def k0_chk349 (v2909 : IVec S16 32) : Prop :=
  (∀ a x, ((![v2909] : Fin 1 → IVec S16 32) a x).toNat < S4096.size a)
theorem k0_idx348_inb : ∀ (v2909 : IVec S16 32) (k0_hw349 : k0_chk349 v2909), ∀ a x, ((![v2909] : Fin 1 → IVec S16 32) a x).toNat < S4096.size a := fun v2909 k0_hw349 => k0_hw349

def k0_chk350 (v2917 : IVec S16 32) : Prop :=
  (∀ a x, ((![v2917] : Fin 1 → IVec S16 32) a x).toNat < S4096.size a)
theorem k0_idx349_inb : ∀ (v2917 : IVec S16 32) (k0_hw350 : k0_chk350 v2917), ∀ a x, ((![v2917] : Fin 1 → IVec S16 32) a x).toNat < S4096.size a := fun v2917 k0_hw350 => k0_hw350

def k0_chk351 (v2925 : IVec S16 32) : Prop :=
  (∀ a x, ((![v2925] : Fin 1 → IVec S16 32) a x).toNat < S4096.size a)
theorem k0_idx350_inb : ∀ (v2925 : IVec S16 32) (k0_hw351 : k0_chk351 v2925), ∀ a x, ((![v2925] : Fin 1 → IVec S16 32) a x).toNat < S4096.size a := fun v2925 k0_hw351 => k0_hw351

def k0_chk352 (v2933 : IVec S16 32) : Prop :=
  (∀ a x, ((![v2933] : Fin 1 → IVec S16 32) a x).toNat < S4096.size a)
theorem k0_idx351_inb : ∀ (v2933 : IVec S16 32) (k0_hw352 : k0_chk352 v2933), ∀ a x, ((![v2933] : Fin 1 → IVec S16 32) a x).toNat < S4096.size a := fun v2933 k0_hw352 => k0_hw352

def k0_chk353 (v2941 : IVec S16 32) : Prop :=
  (∀ a x, ((![v2941] : Fin 1 → IVec S16 32) a x).toNat < S4096.size a)
theorem k0_idx352_inb : ∀ (v2941 : IVec S16 32) (k0_hw353 : k0_chk353 v2941), ∀ a x, ((![v2941] : Fin 1 → IVec S16 32) a x).toNat < S4096.size a := fun v2941 k0_hw353 => k0_hw353

def k0_chk354 (v2949 : IVec S16 32) : Prop :=
  (∀ a x, ((![v2949] : Fin 1 → IVec S16 32) a x).toNat < S4096.size a)
theorem k0_idx353_inb : ∀ (v2949 : IVec S16 32) (k0_hw354 : k0_chk354 v2949), ∀ a x, ((![v2949] : Fin 1 → IVec S16 32) a x).toNat < S4096.size a := fun v2949 k0_hw354 => k0_hw354

def k0_chk355 (v2957 : IVec S16 32) : Prop :=
  (∀ a x, ((![v2957] : Fin 1 → IVec S16 32) a x).toNat < S4096.size a)
theorem k0_idx354_inb : ∀ (v2957 : IVec S16 32) (k0_hw355 : k0_chk355 v2957), ∀ a x, ((![v2957] : Fin 1 → IVec S16 32) a x).toNat < S4096.size a := fun v2957 k0_hw355 => k0_hw355

def k0_chk356 (v2968 : IVec S16 32) : Prop :=
  (∀ a x, ((![v2968] : Fin 1 → IVec S16 32) a x).toNat < S4096.size a)
theorem k0_idx355_inb : ∀ (v2968 : IVec S16 32) (k0_hw356 : k0_chk356 v2968), ∀ a x, ((![v2968] : Fin 1 → IVec S16 32) a x).toNat < S4096.size a := fun v2968 k0_hw356 => k0_hw356

def k0_chk357 (v2976 : IVec S16 32) : Prop :=
  (∀ a x, ((![v2976] : Fin 1 → IVec S16 32) a x).toNat < S4096.size a)
theorem k0_idx356_inb : ∀ (v2976 : IVec S16 32) (k0_hw357 : k0_chk357 v2976), ∀ a x, ((![v2976] : Fin 1 → IVec S16 32) a x).toNat < S4096.size a := fun v2976 k0_hw357 => k0_hw357

def k0_chk358 (v2984 : IVec S16 32) : Prop :=
  (∀ a x, ((![v2984] : Fin 1 → IVec S16 32) a x).toNat < S4096.size a)
theorem k0_idx357_inb : ∀ (v2984 : IVec S16 32) (k0_hw358 : k0_chk358 v2984), ∀ a x, ((![v2984] : Fin 1 → IVec S16 32) a x).toNat < S4096.size a := fun v2984 k0_hw358 => k0_hw358

def k0_chk359 (v2992 : IVec S16 32) : Prop :=
  (∀ a x, ((![v2992] : Fin 1 → IVec S16 32) a x).toNat < S4096.size a)
theorem k0_idx358_inb : ∀ (v2992 : IVec S16 32) (k0_hw359 : k0_chk359 v2992), ∀ a x, ((![v2992] : Fin 1 → IVec S16 32) a x).toNat < S4096.size a := fun v2992 k0_hw359 => k0_hw359

def k0_chk360 (v3000 : IVec S16 32) : Prop :=
  (∀ a x, ((![v3000] : Fin 1 → IVec S16 32) a x).toNat < S4096.size a)
theorem k0_idx359_inb : ∀ (v3000 : IVec S16 32) (k0_hw360 : k0_chk360 v3000), ∀ a x, ((![v3000] : Fin 1 → IVec S16 32) a x).toNat < S4096.size a := fun v3000 k0_hw360 => k0_hw360

def k0_chk361 (v3008 : IVec S16 32) : Prop :=
  (∀ a x, ((![v3008] : Fin 1 → IVec S16 32) a x).toNat < S4096.size a)
theorem k0_idx360_inb : ∀ (v3008 : IVec S16 32) (k0_hw361 : k0_chk361 v3008), ∀ a x, ((![v3008] : Fin 1 → IVec S16 32) a x).toNat < S4096.size a := fun v3008 k0_hw361 => k0_hw361

def k0_chk362 (v3016 : IVec S16 32) : Prop :=
  (∀ a x, ((![v3016] : Fin 1 → IVec S16 32) a x).toNat < S4096.size a)
theorem k0_idx361_inb : ∀ (v3016 : IVec S16 32) (k0_hw362 : k0_chk362 v3016), ∀ a x, ((![v3016] : Fin 1 → IVec S16 32) a x).toNat < S4096.size a := fun v3016 k0_hw362 => k0_hw362

def k0_chk363 (v3024 : IVec S16 32) : Prop :=
  (∀ a x, ((![v3024] : Fin 1 → IVec S16 32) a x).toNat < S4096.size a)
theorem k0_idx362_inb : ∀ (v3024 : IVec S16 32) (k0_hw363 : k0_chk363 v3024), ∀ a x, ((![v3024] : Fin 1 → IVec S16 32) a x).toNat < S4096.size a := fun v3024 k0_hw363 => k0_hw363

def k0_chk364 (v3032 : IVec S16 32) : Prop :=
  (∀ a x, ((![v3032] : Fin 1 → IVec S16 32) a x).toNat < S4096.size a)
theorem k0_idx363_inb : ∀ (v3032 : IVec S16 32) (k0_hw364 : k0_chk364 v3032), ∀ a x, ((![v3032] : Fin 1 → IVec S16 32) a x).toNat < S4096.size a := fun v3032 k0_hw364 => k0_hw364

def k0_chk365 (v3040 : IVec S16 32) : Prop :=
  (∀ a x, ((![v3040] : Fin 1 → IVec S16 32) a x).toNat < S4096.size a)
theorem k0_idx364_inb : ∀ (v3040 : IVec S16 32) (k0_hw365 : k0_chk365 v3040), ∀ a x, ((![v3040] : Fin 1 → IVec S16 32) a x).toNat < S4096.size a := fun v3040 k0_hw365 => k0_hw365

def k0_chk366 (v3048 : IVec S16 32) : Prop :=
  (∀ a x, ((![v3048] : Fin 1 → IVec S16 32) a x).toNat < S4096.size a)
theorem k0_idx365_inb : ∀ (v3048 : IVec S16 32) (k0_hw366 : k0_chk366 v3048), ∀ a x, ((![v3048] : Fin 1 → IVec S16 32) a x).toNat < S4096.size a := fun v3048 k0_hw366 => k0_hw366

def k0_chk367 (v3056 : IVec S16 32) : Prop :=
  (∀ a x, ((![v3056] : Fin 1 → IVec S16 32) a x).toNat < S4096.size a)
theorem k0_idx366_inb : ∀ (v3056 : IVec S16 32) (k0_hw367 : k0_chk367 v3056), ∀ a x, ((![v3056] : Fin 1 → IVec S16 32) a x).toNat < S4096.size a := fun v3056 k0_hw367 => k0_hw367

def k0_chk368 (v3064 : IVec S16 32) : Prop :=
  (∀ a x, ((![v3064] : Fin 1 → IVec S16 32) a x).toNat < S4096.size a)
theorem k0_idx367_inb : ∀ (v3064 : IVec S16 32) (k0_hw368 : k0_chk368 v3064), ∀ a x, ((![v3064] : Fin 1 → IVec S16 32) a x).toNat < S4096.size a := fun v3064 k0_hw368 => k0_hw368

def k0_chk369 (v3072 : IVec S16 32) : Prop :=
  (∀ a x, ((![v3072] : Fin 1 → IVec S16 32) a x).toNat < S4096.size a)
theorem k0_idx368_inb : ∀ (v3072 : IVec S16 32) (k0_hw369 : k0_chk369 v3072), ∀ a x, ((![v3072] : Fin 1 → IVec S16 32) a x).toNat < S4096.size a := fun v3072 k0_hw369 => k0_hw369

def k0_chk370 (v3080 : IVec S16 32) : Prop :=
  (∀ a x, ((![v3080] : Fin 1 → IVec S16 32) a x).toNat < S4096.size a)
theorem k0_idx369_inb : ∀ (v3080 : IVec S16 32) (k0_hw370 : k0_chk370 v3080), ∀ a x, ((![v3080] : Fin 1 → IVec S16 32) a x).toNat < S4096.size a := fun v3080 k0_hw370 => k0_hw370

def k0_chk371 (v3088 : IVec S16 32) : Prop :=
  (∀ a x, ((![v3088] : Fin 1 → IVec S16 32) a x).toNat < S4096.size a)
theorem k0_idx370_inb : ∀ (v3088 : IVec S16 32) (k0_hw371 : k0_chk371 v3088), ∀ a x, ((![v3088] : Fin 1 → IVec S16 32) a x).toNat < S4096.size a := fun v3088 k0_hw371 => k0_hw371

def k0_chk372 (v3099 : IVec S16 32) : Prop :=
  (∀ a x, ((![v3099] : Fin 1 → IVec S16 32) a x).toNat < S4096.size a)
theorem k0_idx371_inb : ∀ (v3099 : IVec S16 32) (k0_hw372 : k0_chk372 v3099), ∀ a x, ((![v3099] : Fin 1 → IVec S16 32) a x).toNat < S4096.size a := fun v3099 k0_hw372 => k0_hw372

def k0_chk373 (v3107 : IVec S16 32) : Prop :=
  (∀ a x, ((![v3107] : Fin 1 → IVec S16 32) a x).toNat < S4096.size a)
theorem k0_idx372_inb : ∀ (v3107 : IVec S16 32) (k0_hw373 : k0_chk373 v3107), ∀ a x, ((![v3107] : Fin 1 → IVec S16 32) a x).toNat < S4096.size a := fun v3107 k0_hw373 => k0_hw373

def k0_chk374 (v3115 : IVec S16 32) : Prop :=
  (∀ a x, ((![v3115] : Fin 1 → IVec S16 32) a x).toNat < S4096.size a)
theorem k0_idx373_inb : ∀ (v3115 : IVec S16 32) (k0_hw374 : k0_chk374 v3115), ∀ a x, ((![v3115] : Fin 1 → IVec S16 32) a x).toNat < S4096.size a := fun v3115 k0_hw374 => k0_hw374

def k0_chk375 (v3123 : IVec S16 32) : Prop :=
  (∀ a x, ((![v3123] : Fin 1 → IVec S16 32) a x).toNat < S4096.size a)
theorem k0_idx374_inb : ∀ (v3123 : IVec S16 32) (k0_hw375 : k0_chk375 v3123), ∀ a x, ((![v3123] : Fin 1 → IVec S16 32) a x).toNat < S4096.size a := fun v3123 k0_hw375 => k0_hw375

def k0_chk376 (v3131 : IVec S16 32) : Prop :=
  (∀ a x, ((![v3131] : Fin 1 → IVec S16 32) a x).toNat < S4096.size a)
theorem k0_idx375_inb : ∀ (v3131 : IVec S16 32) (k0_hw376 : k0_chk376 v3131), ∀ a x, ((![v3131] : Fin 1 → IVec S16 32) a x).toNat < S4096.size a := fun v3131 k0_hw376 => k0_hw376

def k0_chk377 (v3139 : IVec S16 32) : Prop :=
  (∀ a x, ((![v3139] : Fin 1 → IVec S16 32) a x).toNat < S4096.size a)
theorem k0_idx376_inb : ∀ (v3139 : IVec S16 32) (k0_hw377 : k0_chk377 v3139), ∀ a x, ((![v3139] : Fin 1 → IVec S16 32) a x).toNat < S4096.size a := fun v3139 k0_hw377 => k0_hw377

def k0_chk378 (v3147 : IVec S16 32) : Prop :=
  (∀ a x, ((![v3147] : Fin 1 → IVec S16 32) a x).toNat < S4096.size a)
theorem k0_idx377_inb : ∀ (v3147 : IVec S16 32) (k0_hw378 : k0_chk378 v3147), ∀ a x, ((![v3147] : Fin 1 → IVec S16 32) a x).toNat < S4096.size a := fun v3147 k0_hw378 => k0_hw378

def k0_chk379 (v3155 : IVec S16 32) : Prop :=
  (∀ a x, ((![v3155] : Fin 1 → IVec S16 32) a x).toNat < S4096.size a)
theorem k0_idx378_inb : ∀ (v3155 : IVec S16 32) (k0_hw379 : k0_chk379 v3155), ∀ a x, ((![v3155] : Fin 1 → IVec S16 32) a x).toNat < S4096.size a := fun v3155 k0_hw379 => k0_hw379

def k0_chk380 (v3163 : IVec S16 32) : Prop :=
  (∀ a x, ((![v3163] : Fin 1 → IVec S16 32) a x).toNat < S4096.size a)
theorem k0_idx379_inb : ∀ (v3163 : IVec S16 32) (k0_hw380 : k0_chk380 v3163), ∀ a x, ((![v3163] : Fin 1 → IVec S16 32) a x).toNat < S4096.size a := fun v3163 k0_hw380 => k0_hw380

def k0_chk381 (v3171 : IVec S16 32) : Prop :=
  (∀ a x, ((![v3171] : Fin 1 → IVec S16 32) a x).toNat < S4096.size a)
theorem k0_idx380_inb : ∀ (v3171 : IVec S16 32) (k0_hw381 : k0_chk381 v3171), ∀ a x, ((![v3171] : Fin 1 → IVec S16 32) a x).toNat < S4096.size a := fun v3171 k0_hw381 => k0_hw381

def k0_chk382 (v3179 : IVec S16 32) : Prop :=
  (∀ a x, ((![v3179] : Fin 1 → IVec S16 32) a x).toNat < S4096.size a)
theorem k0_idx381_inb : ∀ (v3179 : IVec S16 32) (k0_hw382 : k0_chk382 v3179), ∀ a x, ((![v3179] : Fin 1 → IVec S16 32) a x).toNat < S4096.size a := fun v3179 k0_hw382 => k0_hw382

def k0_chk383 (v3187 : IVec S16 32) : Prop :=
  (∀ a x, ((![v3187] : Fin 1 → IVec S16 32) a x).toNat < S4096.size a)
theorem k0_idx382_inb : ∀ (v3187 : IVec S16 32) (k0_hw383 : k0_chk383 v3187), ∀ a x, ((![v3187] : Fin 1 → IVec S16 32) a x).toNat < S4096.size a := fun v3187 k0_hw383 => k0_hw383

def k0_chk384 (v3195 : IVec S16 32) : Prop :=
  (∀ a x, ((![v3195] : Fin 1 → IVec S16 32) a x).toNat < S4096.size a)
theorem k0_idx383_inb : ∀ (v3195 : IVec S16 32) (k0_hw384 : k0_chk384 v3195), ∀ a x, ((![v3195] : Fin 1 → IVec S16 32) a x).toNat < S4096.size a := fun v3195 k0_hw384 => k0_hw384

def k0_chk385 (v3203 : IVec S16 32) : Prop :=
  (∀ a x, ((![v3203] : Fin 1 → IVec S16 32) a x).toNat < S4096.size a)
theorem k0_idx384_inb : ∀ (v3203 : IVec S16 32) (k0_hw385 : k0_chk385 v3203), ∀ a x, ((![v3203] : Fin 1 → IVec S16 32) a x).toNat < S4096.size a := fun v3203 k0_hw385 => k0_hw385

def k0_chk386 (v3211 : IVec S16 32) : Prop :=
  (∀ a x, ((![v3211] : Fin 1 → IVec S16 32) a x).toNat < S4096.size a)
theorem k0_idx385_inb : ∀ (v3211 : IVec S16 32) (k0_hw386 : k0_chk386 v3211), ∀ a x, ((![v3211] : Fin 1 → IVec S16 32) a x).toNat < S4096.size a := fun v3211 k0_hw386 => k0_hw386

def k0_chk387 (v3219 : IVec S16 32) : Prop :=
  (∀ a x, ((![v3219] : Fin 1 → IVec S16 32) a x).toNat < S4096.size a)
theorem k0_idx386_inb : ∀ (v3219 : IVec S16 32) (k0_hw387 : k0_chk387 v3219), ∀ a x, ((![v3219] : Fin 1 → IVec S16 32) a x).toNat < S4096.size a := fun v3219 k0_hw387 => k0_hw387

def k0_chk388 (v3230 : IVec S16 32) : Prop :=
  (∀ a x, ((![v3230] : Fin 1 → IVec S16 32) a x).toNat < S4096.size a)
theorem k0_idx387_inb : ∀ (v3230 : IVec S16 32) (k0_hw388 : k0_chk388 v3230), ∀ a x, ((![v3230] : Fin 1 → IVec S16 32) a x).toNat < S4096.size a := fun v3230 k0_hw388 => k0_hw388

def k0_chk389 (v3238 : IVec S16 32) : Prop :=
  (∀ a x, ((![v3238] : Fin 1 → IVec S16 32) a x).toNat < S4096.size a)
theorem k0_idx388_inb : ∀ (v3238 : IVec S16 32) (k0_hw389 : k0_chk389 v3238), ∀ a x, ((![v3238] : Fin 1 → IVec S16 32) a x).toNat < S4096.size a := fun v3238 k0_hw389 => k0_hw389

def k0_chk390 (v3246 : IVec S16 32) : Prop :=
  (∀ a x, ((![v3246] : Fin 1 → IVec S16 32) a x).toNat < S4096.size a)
theorem k0_idx389_inb : ∀ (v3246 : IVec S16 32) (k0_hw390 : k0_chk390 v3246), ∀ a x, ((![v3246] : Fin 1 → IVec S16 32) a x).toNat < S4096.size a := fun v3246 k0_hw390 => k0_hw390

def k0_chk391 (v3254 : IVec S16 32) : Prop :=
  (∀ a x, ((![v3254] : Fin 1 → IVec S16 32) a x).toNat < S4096.size a)
theorem k0_idx390_inb : ∀ (v3254 : IVec S16 32) (k0_hw391 : k0_chk391 v3254), ∀ a x, ((![v3254] : Fin 1 → IVec S16 32) a x).toNat < S4096.size a := fun v3254 k0_hw391 => k0_hw391

def k0_chk392 (v3262 : IVec S16 32) : Prop :=
  (∀ a x, ((![v3262] : Fin 1 → IVec S16 32) a x).toNat < S4096.size a)
theorem k0_idx391_inb : ∀ (v3262 : IVec S16 32) (k0_hw392 : k0_chk392 v3262), ∀ a x, ((![v3262] : Fin 1 → IVec S16 32) a x).toNat < S4096.size a := fun v3262 k0_hw392 => k0_hw392

def k0_chk393 (v3270 : IVec S16 32) : Prop :=
  (∀ a x, ((![v3270] : Fin 1 → IVec S16 32) a x).toNat < S4096.size a)
theorem k0_idx392_inb : ∀ (v3270 : IVec S16 32) (k0_hw393 : k0_chk393 v3270), ∀ a x, ((![v3270] : Fin 1 → IVec S16 32) a x).toNat < S4096.size a := fun v3270 k0_hw393 => k0_hw393

def k0_chk394 (v3278 : IVec S16 32) : Prop :=
  (∀ a x, ((![v3278] : Fin 1 → IVec S16 32) a x).toNat < S4096.size a)
theorem k0_idx393_inb : ∀ (v3278 : IVec S16 32) (k0_hw394 : k0_chk394 v3278), ∀ a x, ((![v3278] : Fin 1 → IVec S16 32) a x).toNat < S4096.size a := fun v3278 k0_hw394 => k0_hw394

def k0_chk395 (v3286 : IVec S16 32) : Prop :=
  (∀ a x, ((![v3286] : Fin 1 → IVec S16 32) a x).toNat < S4096.size a)
theorem k0_idx394_inb : ∀ (v3286 : IVec S16 32) (k0_hw395 : k0_chk395 v3286), ∀ a x, ((![v3286] : Fin 1 → IVec S16 32) a x).toNat < S4096.size a := fun v3286 k0_hw395 => k0_hw395

def k0_chk396 (v3294 : IVec S16 32) : Prop :=
  (∀ a x, ((![v3294] : Fin 1 → IVec S16 32) a x).toNat < S4096.size a)
theorem k0_idx395_inb : ∀ (v3294 : IVec S16 32) (k0_hw396 : k0_chk396 v3294), ∀ a x, ((![v3294] : Fin 1 → IVec S16 32) a x).toNat < S4096.size a := fun v3294 k0_hw396 => k0_hw396

def k0_chk397 (v3302 : IVec S16 32) : Prop :=
  (∀ a x, ((![v3302] : Fin 1 → IVec S16 32) a x).toNat < S4096.size a)
theorem k0_idx396_inb : ∀ (v3302 : IVec S16 32) (k0_hw397 : k0_chk397 v3302), ∀ a x, ((![v3302] : Fin 1 → IVec S16 32) a x).toNat < S4096.size a := fun v3302 k0_hw397 => k0_hw397

def k0_chk398 (v3310 : IVec S16 32) : Prop :=
  (∀ a x, ((![v3310] : Fin 1 → IVec S16 32) a x).toNat < S4096.size a)
theorem k0_idx397_inb : ∀ (v3310 : IVec S16 32) (k0_hw398 : k0_chk398 v3310), ∀ a x, ((![v3310] : Fin 1 → IVec S16 32) a x).toNat < S4096.size a := fun v3310 k0_hw398 => k0_hw398

def k0_chk399 (v3318 : IVec S16 32) : Prop :=
  (∀ a x, ((![v3318] : Fin 1 → IVec S16 32) a x).toNat < S4096.size a)
theorem k0_idx398_inb : ∀ (v3318 : IVec S16 32) (k0_hw399 : k0_chk399 v3318), ∀ a x, ((![v3318] : Fin 1 → IVec S16 32) a x).toNat < S4096.size a := fun v3318 k0_hw399 => k0_hw399

def k0_chk400 (v3326 : IVec S16 32) : Prop :=
  (∀ a x, ((![v3326] : Fin 1 → IVec S16 32) a x).toNat < S4096.size a)
theorem k0_idx399_inb : ∀ (v3326 : IVec S16 32) (k0_hw400 : k0_chk400 v3326), ∀ a x, ((![v3326] : Fin 1 → IVec S16 32) a x).toNat < S4096.size a := fun v3326 k0_hw400 => k0_hw400

def k0_chk401 (v3334 : IVec S16 32) : Prop :=
  (∀ a x, ((![v3334] : Fin 1 → IVec S16 32) a x).toNat < S4096.size a)
theorem k0_idx400_inb : ∀ (v3334 : IVec S16 32) (k0_hw401 : k0_chk401 v3334), ∀ a x, ((![v3334] : Fin 1 → IVec S16 32) a x).toNat < S4096.size a := fun v3334 k0_hw401 => k0_hw401

def k0_chk402 (v3342 : IVec S16 32) : Prop :=
  (∀ a x, ((![v3342] : Fin 1 → IVec S16 32) a x).toNat < S4096.size a)
theorem k0_idx401_inb : ∀ (v3342 : IVec S16 32) (k0_hw402 : k0_chk402 v3342), ∀ a x, ((![v3342] : Fin 1 → IVec S16 32) a x).toNat < S4096.size a := fun v3342 k0_hw402 => k0_hw402

def k0_chk403 (v3350 : IVec S16 32) : Prop :=
  (∀ a x, ((![v3350] : Fin 1 → IVec S16 32) a x).toNat < S4096.size a)
theorem k0_idx402_inb : ∀ (v3350 : IVec S16 32) (k0_hw403 : k0_chk403 v3350), ∀ a x, ((![v3350] : Fin 1 → IVec S16 32) a x).toNat < S4096.size a := fun v3350 k0_hw403 => k0_hw403

def k0_chk404 (v3361 : IVec S16 32) : Prop :=
  (∀ a x, ((![v3361] : Fin 1 → IVec S16 32) a x).toNat < S4096.size a)
theorem k0_idx403_inb : ∀ (v3361 : IVec S16 32) (k0_hw404 : k0_chk404 v3361), ∀ a x, ((![v3361] : Fin 1 → IVec S16 32) a x).toNat < S4096.size a := fun v3361 k0_hw404 => k0_hw404

def k0_chk405 (v3369 : IVec S16 32) : Prop :=
  (∀ a x, ((![v3369] : Fin 1 → IVec S16 32) a x).toNat < S4096.size a)
theorem k0_idx404_inb : ∀ (v3369 : IVec S16 32) (k0_hw405 : k0_chk405 v3369), ∀ a x, ((![v3369] : Fin 1 → IVec S16 32) a x).toNat < S4096.size a := fun v3369 k0_hw405 => k0_hw405

def k0_chk406 (v3377 : IVec S16 32) : Prop :=
  (∀ a x, ((![v3377] : Fin 1 → IVec S16 32) a x).toNat < S4096.size a)
theorem k0_idx405_inb : ∀ (v3377 : IVec S16 32) (k0_hw406 : k0_chk406 v3377), ∀ a x, ((![v3377] : Fin 1 → IVec S16 32) a x).toNat < S4096.size a := fun v3377 k0_hw406 => k0_hw406

def k0_chk407 (v3385 : IVec S16 32) : Prop :=
  (∀ a x, ((![v3385] : Fin 1 → IVec S16 32) a x).toNat < S4096.size a)
theorem k0_idx406_inb : ∀ (v3385 : IVec S16 32) (k0_hw407 : k0_chk407 v3385), ∀ a x, ((![v3385] : Fin 1 → IVec S16 32) a x).toNat < S4096.size a := fun v3385 k0_hw407 => k0_hw407

def k0_chk408 (v3393 : IVec S16 32) : Prop :=
  (∀ a x, ((![v3393] : Fin 1 → IVec S16 32) a x).toNat < S4096.size a)
theorem k0_idx407_inb : ∀ (v3393 : IVec S16 32) (k0_hw408 : k0_chk408 v3393), ∀ a x, ((![v3393] : Fin 1 → IVec S16 32) a x).toNat < S4096.size a := fun v3393 k0_hw408 => k0_hw408

def k0_chk409 (v3401 : IVec S16 32) : Prop :=
  (∀ a x, ((![v3401] : Fin 1 → IVec S16 32) a x).toNat < S4096.size a)
theorem k0_idx408_inb : ∀ (v3401 : IVec S16 32) (k0_hw409 : k0_chk409 v3401), ∀ a x, ((![v3401] : Fin 1 → IVec S16 32) a x).toNat < S4096.size a := fun v3401 k0_hw409 => k0_hw409

def k0_chk410 (v3409 : IVec S16 32) : Prop :=
  (∀ a x, ((![v3409] : Fin 1 → IVec S16 32) a x).toNat < S4096.size a)
theorem k0_idx409_inb : ∀ (v3409 : IVec S16 32) (k0_hw410 : k0_chk410 v3409), ∀ a x, ((![v3409] : Fin 1 → IVec S16 32) a x).toNat < S4096.size a := fun v3409 k0_hw410 => k0_hw410

def k0_chk411 (v3417 : IVec S16 32) : Prop :=
  (∀ a x, ((![v3417] : Fin 1 → IVec S16 32) a x).toNat < S4096.size a)
theorem k0_idx410_inb : ∀ (v3417 : IVec S16 32) (k0_hw411 : k0_chk411 v3417), ∀ a x, ((![v3417] : Fin 1 → IVec S16 32) a x).toNat < S4096.size a := fun v3417 k0_hw411 => k0_hw411

def k0_chk412 (v3425 : IVec S16 32) : Prop :=
  (∀ a x, ((![v3425] : Fin 1 → IVec S16 32) a x).toNat < S4096.size a)
theorem k0_idx411_inb : ∀ (v3425 : IVec S16 32) (k0_hw412 : k0_chk412 v3425), ∀ a x, ((![v3425] : Fin 1 → IVec S16 32) a x).toNat < S4096.size a := fun v3425 k0_hw412 => k0_hw412

def k0_chk413 (v3433 : IVec S16 32) : Prop :=
  (∀ a x, ((![v3433] : Fin 1 → IVec S16 32) a x).toNat < S4096.size a)
theorem k0_idx412_inb : ∀ (v3433 : IVec S16 32) (k0_hw413 : k0_chk413 v3433), ∀ a x, ((![v3433] : Fin 1 → IVec S16 32) a x).toNat < S4096.size a := fun v3433 k0_hw413 => k0_hw413

def k0_chk414 (v3441 : IVec S16 32) : Prop :=
  (∀ a x, ((![v3441] : Fin 1 → IVec S16 32) a x).toNat < S4096.size a)
theorem k0_idx413_inb : ∀ (v3441 : IVec S16 32) (k0_hw414 : k0_chk414 v3441), ∀ a x, ((![v3441] : Fin 1 → IVec S16 32) a x).toNat < S4096.size a := fun v3441 k0_hw414 => k0_hw414

def k0_chk415 (v3449 : IVec S16 32) : Prop :=
  (∀ a x, ((![v3449] : Fin 1 → IVec S16 32) a x).toNat < S4096.size a)
theorem k0_idx414_inb : ∀ (v3449 : IVec S16 32) (k0_hw415 : k0_chk415 v3449), ∀ a x, ((![v3449] : Fin 1 → IVec S16 32) a x).toNat < S4096.size a := fun v3449 k0_hw415 => k0_hw415

def k0_chk416 (v3457 : IVec S16 32) : Prop :=
  (∀ a x, ((![v3457] : Fin 1 → IVec S16 32) a x).toNat < S4096.size a)
theorem k0_idx415_inb : ∀ (v3457 : IVec S16 32) (k0_hw416 : k0_chk416 v3457), ∀ a x, ((![v3457] : Fin 1 → IVec S16 32) a x).toNat < S4096.size a := fun v3457 k0_hw416 => k0_hw416

def k0_chk417 (v3465 : IVec S16 32) : Prop :=
  (∀ a x, ((![v3465] : Fin 1 → IVec S16 32) a x).toNat < S4096.size a)
theorem k0_idx416_inb : ∀ (v3465 : IVec S16 32) (k0_hw417 : k0_chk417 v3465), ∀ a x, ((![v3465] : Fin 1 → IVec S16 32) a x).toNat < S4096.size a := fun v3465 k0_hw417 => k0_hw417

def k0_chk418 (v3473 : IVec S16 32) : Prop :=
  (∀ a x, ((![v3473] : Fin 1 → IVec S16 32) a x).toNat < S4096.size a)
theorem k0_idx417_inb : ∀ (v3473 : IVec S16 32) (k0_hw418 : k0_chk418 v3473), ∀ a x, ((![v3473] : Fin 1 → IVec S16 32) a x).toNat < S4096.size a := fun v3473 k0_hw418 => k0_hw418

def k0_chk419 (v3481 : IVec S16 32) : Prop :=
  (∀ a x, ((![v3481] : Fin 1 → IVec S16 32) a x).toNat < S4096.size a)
theorem k0_idx418_inb : ∀ (v3481 : IVec S16 32) (k0_hw419 : k0_chk419 v3481), ∀ a x, ((![v3481] : Fin 1 → IVec S16 32) a x).toNat < S4096.size a := fun v3481 k0_hw419 => k0_hw419

def k0_chk420 (v3492 : IVec S16 32) : Prop :=
  (∀ a x, ((![v3492] : Fin 1 → IVec S16 32) a x).toNat < S4096.size a)
theorem k0_idx419_inb : ∀ (v3492 : IVec S16 32) (k0_hw420 : k0_chk420 v3492), ∀ a x, ((![v3492] : Fin 1 → IVec S16 32) a x).toNat < S4096.size a := fun v3492 k0_hw420 => k0_hw420

def k0_chk421 (v3500 : IVec S16 32) : Prop :=
  (∀ a x, ((![v3500] : Fin 1 → IVec S16 32) a x).toNat < S4096.size a)
theorem k0_idx420_inb : ∀ (v3500 : IVec S16 32) (k0_hw421 : k0_chk421 v3500), ∀ a x, ((![v3500] : Fin 1 → IVec S16 32) a x).toNat < S4096.size a := fun v3500 k0_hw421 => k0_hw421

def k0_chk422 (v3508 : IVec S16 32) : Prop :=
  (∀ a x, ((![v3508] : Fin 1 → IVec S16 32) a x).toNat < S4096.size a)
theorem k0_idx421_inb : ∀ (v3508 : IVec S16 32) (k0_hw422 : k0_chk422 v3508), ∀ a x, ((![v3508] : Fin 1 → IVec S16 32) a x).toNat < S4096.size a := fun v3508 k0_hw422 => k0_hw422

def k0_chk423 (v3516 : IVec S16 32) : Prop :=
  (∀ a x, ((![v3516] : Fin 1 → IVec S16 32) a x).toNat < S4096.size a)
theorem k0_idx422_inb : ∀ (v3516 : IVec S16 32) (k0_hw423 : k0_chk423 v3516), ∀ a x, ((![v3516] : Fin 1 → IVec S16 32) a x).toNat < S4096.size a := fun v3516 k0_hw423 => k0_hw423

def k0_chk424 (v3524 : IVec S16 32) : Prop :=
  (∀ a x, ((![v3524] : Fin 1 → IVec S16 32) a x).toNat < S4096.size a)
theorem k0_idx423_inb : ∀ (v3524 : IVec S16 32) (k0_hw424 : k0_chk424 v3524), ∀ a x, ((![v3524] : Fin 1 → IVec S16 32) a x).toNat < S4096.size a := fun v3524 k0_hw424 => k0_hw424

def k0_chk425 (v3532 : IVec S16 32) : Prop :=
  (∀ a x, ((![v3532] : Fin 1 → IVec S16 32) a x).toNat < S4096.size a)
theorem k0_idx424_inb : ∀ (v3532 : IVec S16 32) (k0_hw425 : k0_chk425 v3532), ∀ a x, ((![v3532] : Fin 1 → IVec S16 32) a x).toNat < S4096.size a := fun v3532 k0_hw425 => k0_hw425

def k0_chk426 (v3540 : IVec S16 32) : Prop :=
  (∀ a x, ((![v3540] : Fin 1 → IVec S16 32) a x).toNat < S4096.size a)
theorem k0_idx425_inb : ∀ (v3540 : IVec S16 32) (k0_hw426 : k0_chk426 v3540), ∀ a x, ((![v3540] : Fin 1 → IVec S16 32) a x).toNat < S4096.size a := fun v3540 k0_hw426 => k0_hw426

def k0_chk427 (v3548 : IVec S16 32) : Prop :=
  (∀ a x, ((![v3548] : Fin 1 → IVec S16 32) a x).toNat < S4096.size a)
theorem k0_idx426_inb : ∀ (v3548 : IVec S16 32) (k0_hw427 : k0_chk427 v3548), ∀ a x, ((![v3548] : Fin 1 → IVec S16 32) a x).toNat < S4096.size a := fun v3548 k0_hw427 => k0_hw427

def k0_chk428 (v3556 : IVec S16 32) : Prop :=
  (∀ a x, ((![v3556] : Fin 1 → IVec S16 32) a x).toNat < S4096.size a)
theorem k0_idx427_inb : ∀ (v3556 : IVec S16 32) (k0_hw428 : k0_chk428 v3556), ∀ a x, ((![v3556] : Fin 1 → IVec S16 32) a x).toNat < S4096.size a := fun v3556 k0_hw428 => k0_hw428

def k0_chk429 (v3564 : IVec S16 32) : Prop :=
  (∀ a x, ((![v3564] : Fin 1 → IVec S16 32) a x).toNat < S4096.size a)
theorem k0_idx428_inb : ∀ (v3564 : IVec S16 32) (k0_hw429 : k0_chk429 v3564), ∀ a x, ((![v3564] : Fin 1 → IVec S16 32) a x).toNat < S4096.size a := fun v3564 k0_hw429 => k0_hw429

def k0_chk430 (v3572 : IVec S16 32) : Prop :=
  (∀ a x, ((![v3572] : Fin 1 → IVec S16 32) a x).toNat < S4096.size a)
theorem k0_idx429_inb : ∀ (v3572 : IVec S16 32) (k0_hw430 : k0_chk430 v3572), ∀ a x, ((![v3572] : Fin 1 → IVec S16 32) a x).toNat < S4096.size a := fun v3572 k0_hw430 => k0_hw430

def k0_chk431 (v3580 : IVec S16 32) : Prop :=
  (∀ a x, ((![v3580] : Fin 1 → IVec S16 32) a x).toNat < S4096.size a)
theorem k0_idx430_inb : ∀ (v3580 : IVec S16 32) (k0_hw431 : k0_chk431 v3580), ∀ a x, ((![v3580] : Fin 1 → IVec S16 32) a x).toNat < S4096.size a := fun v3580 k0_hw431 => k0_hw431

def k0_chk432 (v3588 : IVec S16 32) : Prop :=
  (∀ a x, ((![v3588] : Fin 1 → IVec S16 32) a x).toNat < S4096.size a)
theorem k0_idx431_inb : ∀ (v3588 : IVec S16 32) (k0_hw432 : k0_chk432 v3588), ∀ a x, ((![v3588] : Fin 1 → IVec S16 32) a x).toNat < S4096.size a := fun v3588 k0_hw432 => k0_hw432

def k0_chk433 (v3596 : IVec S16 32) : Prop :=
  (∀ a x, ((![v3596] : Fin 1 → IVec S16 32) a x).toNat < S4096.size a)
theorem k0_idx432_inb : ∀ (v3596 : IVec S16 32) (k0_hw433 : k0_chk433 v3596), ∀ a x, ((![v3596] : Fin 1 → IVec S16 32) a x).toNat < S4096.size a := fun v3596 k0_hw433 => k0_hw433

def k0_chk434 (v3604 : IVec S16 32) : Prop :=
  (∀ a x, ((![v3604] : Fin 1 → IVec S16 32) a x).toNat < S4096.size a)
theorem k0_idx433_inb : ∀ (v3604 : IVec S16 32) (k0_hw434 : k0_chk434 v3604), ∀ a x, ((![v3604] : Fin 1 → IVec S16 32) a x).toNat < S4096.size a := fun v3604 k0_hw434 => k0_hw434

def k0_chk435 (v3612 : IVec S16 32) : Prop :=
  (∀ a x, ((![v3612] : Fin 1 → IVec S16 32) a x).toNat < S4096.size a)
theorem k0_idx434_inb : ∀ (v3612 : IVec S16 32) (k0_hw435 : k0_chk435 v3612), ∀ a x, ((![v3612] : Fin 1 → IVec S16 32) a x).toNat < S4096.size a := fun v3612 k0_hw435 => k0_hw435

def k0_chk436 (v3623 : IVec S16 32) : Prop :=
  (∀ a x, ((![v3623] : Fin 1 → IVec S16 32) a x).toNat < S4096.size a)
theorem k0_idx435_inb : ∀ (v3623 : IVec S16 32) (k0_hw436 : k0_chk436 v3623), ∀ a x, ((![v3623] : Fin 1 → IVec S16 32) a x).toNat < S4096.size a := fun v3623 k0_hw436 => k0_hw436

def k0_chk437 (v3631 : IVec S16 32) : Prop :=
  (∀ a x, ((![v3631] : Fin 1 → IVec S16 32) a x).toNat < S4096.size a)
theorem k0_idx436_inb : ∀ (v3631 : IVec S16 32) (k0_hw437 : k0_chk437 v3631), ∀ a x, ((![v3631] : Fin 1 → IVec S16 32) a x).toNat < S4096.size a := fun v3631 k0_hw437 => k0_hw437

def k0_chk438 (v3639 : IVec S16 32) : Prop :=
  (∀ a x, ((![v3639] : Fin 1 → IVec S16 32) a x).toNat < S4096.size a)
theorem k0_idx437_inb : ∀ (v3639 : IVec S16 32) (k0_hw438 : k0_chk438 v3639), ∀ a x, ((![v3639] : Fin 1 → IVec S16 32) a x).toNat < S4096.size a := fun v3639 k0_hw438 => k0_hw438

def k0_chk439 (v3647 : IVec S16 32) : Prop :=
  (∀ a x, ((![v3647] : Fin 1 → IVec S16 32) a x).toNat < S4096.size a)
theorem k0_idx438_inb : ∀ (v3647 : IVec S16 32) (k0_hw439 : k0_chk439 v3647), ∀ a x, ((![v3647] : Fin 1 → IVec S16 32) a x).toNat < S4096.size a := fun v3647 k0_hw439 => k0_hw439

def k0_chk440 (v3655 : IVec S16 32) : Prop :=
  (∀ a x, ((![v3655] : Fin 1 → IVec S16 32) a x).toNat < S4096.size a)
theorem k0_idx439_inb : ∀ (v3655 : IVec S16 32) (k0_hw440 : k0_chk440 v3655), ∀ a x, ((![v3655] : Fin 1 → IVec S16 32) a x).toNat < S4096.size a := fun v3655 k0_hw440 => k0_hw440

def k0_chk441 (v3663 : IVec S16 32) : Prop :=
  (∀ a x, ((![v3663] : Fin 1 → IVec S16 32) a x).toNat < S4096.size a)
theorem k0_idx440_inb : ∀ (v3663 : IVec S16 32) (k0_hw441 : k0_chk441 v3663), ∀ a x, ((![v3663] : Fin 1 → IVec S16 32) a x).toNat < S4096.size a := fun v3663 k0_hw441 => k0_hw441

def k0_chk442 (v3671 : IVec S16 32) : Prop :=
  (∀ a x, ((![v3671] : Fin 1 → IVec S16 32) a x).toNat < S4096.size a)
theorem k0_idx441_inb : ∀ (v3671 : IVec S16 32) (k0_hw442 : k0_chk442 v3671), ∀ a x, ((![v3671] : Fin 1 → IVec S16 32) a x).toNat < S4096.size a := fun v3671 k0_hw442 => k0_hw442

def k0_chk443 (v3679 : IVec S16 32) : Prop :=
  (∀ a x, ((![v3679] : Fin 1 → IVec S16 32) a x).toNat < S4096.size a)
theorem k0_idx442_inb : ∀ (v3679 : IVec S16 32) (k0_hw443 : k0_chk443 v3679), ∀ a x, ((![v3679] : Fin 1 → IVec S16 32) a x).toNat < S4096.size a := fun v3679 k0_hw443 => k0_hw443

def k0_chk444 (v3687 : IVec S16 32) : Prop :=
  (∀ a x, ((![v3687] : Fin 1 → IVec S16 32) a x).toNat < S4096.size a)
theorem k0_idx443_inb : ∀ (v3687 : IVec S16 32) (k0_hw444 : k0_chk444 v3687), ∀ a x, ((![v3687] : Fin 1 → IVec S16 32) a x).toNat < S4096.size a := fun v3687 k0_hw444 => k0_hw444

def k0_chk445 (v3695 : IVec S16 32) : Prop :=
  (∀ a x, ((![v3695] : Fin 1 → IVec S16 32) a x).toNat < S4096.size a)
theorem k0_idx444_inb : ∀ (v3695 : IVec S16 32) (k0_hw445 : k0_chk445 v3695), ∀ a x, ((![v3695] : Fin 1 → IVec S16 32) a x).toNat < S4096.size a := fun v3695 k0_hw445 => k0_hw445

def k0_chk446 (v3703 : IVec S16 32) : Prop :=
  (∀ a x, ((![v3703] : Fin 1 → IVec S16 32) a x).toNat < S4096.size a)
theorem k0_idx445_inb : ∀ (v3703 : IVec S16 32) (k0_hw446 : k0_chk446 v3703), ∀ a x, ((![v3703] : Fin 1 → IVec S16 32) a x).toNat < S4096.size a := fun v3703 k0_hw446 => k0_hw446

def k0_chk447 (v3711 : IVec S16 32) : Prop :=
  (∀ a x, ((![v3711] : Fin 1 → IVec S16 32) a x).toNat < S4096.size a)
theorem k0_idx446_inb : ∀ (v3711 : IVec S16 32) (k0_hw447 : k0_chk447 v3711), ∀ a x, ((![v3711] : Fin 1 → IVec S16 32) a x).toNat < S4096.size a := fun v3711 k0_hw447 => k0_hw447

def k0_chk448 (v3719 : IVec S16 32) : Prop :=
  (∀ a x, ((![v3719] : Fin 1 → IVec S16 32) a x).toNat < S4096.size a)
theorem k0_idx447_inb : ∀ (v3719 : IVec S16 32) (k0_hw448 : k0_chk448 v3719), ∀ a x, ((![v3719] : Fin 1 → IVec S16 32) a x).toNat < S4096.size a := fun v3719 k0_hw448 => k0_hw448

def k0_chk449 (v3727 : IVec S16 32) : Prop :=
  (∀ a x, ((![v3727] : Fin 1 → IVec S16 32) a x).toNat < S4096.size a)
theorem k0_idx448_inb : ∀ (v3727 : IVec S16 32) (k0_hw449 : k0_chk449 v3727), ∀ a x, ((![v3727] : Fin 1 → IVec S16 32) a x).toNat < S4096.size a := fun v3727 k0_hw449 => k0_hw449

def k0_chk450 (v3735 : IVec S16 32) : Prop :=
  (∀ a x, ((![v3735] : Fin 1 → IVec S16 32) a x).toNat < S4096.size a)
theorem k0_idx449_inb : ∀ (v3735 : IVec S16 32) (k0_hw450 : k0_chk450 v3735), ∀ a x, ((![v3735] : Fin 1 → IVec S16 32) a x).toNat < S4096.size a := fun v3735 k0_hw450 => k0_hw450

def k0_chk451 (v3743 : IVec S16 32) : Prop :=
  (∀ a x, ((![v3743] : Fin 1 → IVec S16 32) a x).toNat < S4096.size a)
theorem k0_idx450_inb : ∀ (v3743 : IVec S16 32) (k0_hw451 : k0_chk451 v3743), ∀ a x, ((![v3743] : Fin 1 → IVec S16 32) a x).toNat < S4096.size a := fun v3743 k0_hw451 => k0_hw451

def k0_chk452 (v3754 : IVec S16 32) : Prop :=
  (∀ a x, ((![v3754] : Fin 1 → IVec S16 32) a x).toNat < S4096.size a)
theorem k0_idx451_inb : ∀ (v3754 : IVec S16 32) (k0_hw452 : k0_chk452 v3754), ∀ a x, ((![v3754] : Fin 1 → IVec S16 32) a x).toNat < S4096.size a := fun v3754 k0_hw452 => k0_hw452

def k0_chk453 (v3762 : IVec S16 32) : Prop :=
  (∀ a x, ((![v3762] : Fin 1 → IVec S16 32) a x).toNat < S4096.size a)
theorem k0_idx452_inb : ∀ (v3762 : IVec S16 32) (k0_hw453 : k0_chk453 v3762), ∀ a x, ((![v3762] : Fin 1 → IVec S16 32) a x).toNat < S4096.size a := fun v3762 k0_hw453 => k0_hw453

def k0_chk454 (v3770 : IVec S16 32) : Prop :=
  (∀ a x, ((![v3770] : Fin 1 → IVec S16 32) a x).toNat < S4096.size a)
theorem k0_idx453_inb : ∀ (v3770 : IVec S16 32) (k0_hw454 : k0_chk454 v3770), ∀ a x, ((![v3770] : Fin 1 → IVec S16 32) a x).toNat < S4096.size a := fun v3770 k0_hw454 => k0_hw454

def k0_chk455 (v3778 : IVec S16 32) : Prop :=
  (∀ a x, ((![v3778] : Fin 1 → IVec S16 32) a x).toNat < S4096.size a)
theorem k0_idx454_inb : ∀ (v3778 : IVec S16 32) (k0_hw455 : k0_chk455 v3778), ∀ a x, ((![v3778] : Fin 1 → IVec S16 32) a x).toNat < S4096.size a := fun v3778 k0_hw455 => k0_hw455

def k0_chk456 (v3786 : IVec S16 32) : Prop :=
  (∀ a x, ((![v3786] : Fin 1 → IVec S16 32) a x).toNat < S4096.size a)
theorem k0_idx455_inb : ∀ (v3786 : IVec S16 32) (k0_hw456 : k0_chk456 v3786), ∀ a x, ((![v3786] : Fin 1 → IVec S16 32) a x).toNat < S4096.size a := fun v3786 k0_hw456 => k0_hw456

def k0_chk457 (v3794 : IVec S16 32) : Prop :=
  (∀ a x, ((![v3794] : Fin 1 → IVec S16 32) a x).toNat < S4096.size a)
theorem k0_idx456_inb : ∀ (v3794 : IVec S16 32) (k0_hw457 : k0_chk457 v3794), ∀ a x, ((![v3794] : Fin 1 → IVec S16 32) a x).toNat < S4096.size a := fun v3794 k0_hw457 => k0_hw457

def k0_chk458 (v3802 : IVec S16 32) : Prop :=
  (∀ a x, ((![v3802] : Fin 1 → IVec S16 32) a x).toNat < S4096.size a)
theorem k0_idx457_inb : ∀ (v3802 : IVec S16 32) (k0_hw458 : k0_chk458 v3802), ∀ a x, ((![v3802] : Fin 1 → IVec S16 32) a x).toNat < S4096.size a := fun v3802 k0_hw458 => k0_hw458

def k0_chk459 (v3810 : IVec S16 32) : Prop :=
  (∀ a x, ((![v3810] : Fin 1 → IVec S16 32) a x).toNat < S4096.size a)
theorem k0_idx458_inb : ∀ (v3810 : IVec S16 32) (k0_hw459 : k0_chk459 v3810), ∀ a x, ((![v3810] : Fin 1 → IVec S16 32) a x).toNat < S4096.size a := fun v3810 k0_hw459 => k0_hw459

def k0_chk460 (v3818 : IVec S16 32) : Prop :=
  (∀ a x, ((![v3818] : Fin 1 → IVec S16 32) a x).toNat < S4096.size a)
theorem k0_idx459_inb : ∀ (v3818 : IVec S16 32) (k0_hw460 : k0_chk460 v3818), ∀ a x, ((![v3818] : Fin 1 → IVec S16 32) a x).toNat < S4096.size a := fun v3818 k0_hw460 => k0_hw460

def k0_chk461 (v3826 : IVec S16 32) : Prop :=
  (∀ a x, ((![v3826] : Fin 1 → IVec S16 32) a x).toNat < S4096.size a)
theorem k0_idx460_inb : ∀ (v3826 : IVec S16 32) (k0_hw461 : k0_chk461 v3826), ∀ a x, ((![v3826] : Fin 1 → IVec S16 32) a x).toNat < S4096.size a := fun v3826 k0_hw461 => k0_hw461

def k0_chk462 (v3834 : IVec S16 32) : Prop :=
  (∀ a x, ((![v3834] : Fin 1 → IVec S16 32) a x).toNat < S4096.size a)
theorem k0_idx461_inb : ∀ (v3834 : IVec S16 32) (k0_hw462 : k0_chk462 v3834), ∀ a x, ((![v3834] : Fin 1 → IVec S16 32) a x).toNat < S4096.size a := fun v3834 k0_hw462 => k0_hw462

def k0_chk463 (v3842 : IVec S16 32) : Prop :=
  (∀ a x, ((![v3842] : Fin 1 → IVec S16 32) a x).toNat < S4096.size a)
theorem k0_idx462_inb : ∀ (v3842 : IVec S16 32) (k0_hw463 : k0_chk463 v3842), ∀ a x, ((![v3842] : Fin 1 → IVec S16 32) a x).toNat < S4096.size a := fun v3842 k0_hw463 => k0_hw463

def k0_chk464 (v3850 : IVec S16 32) : Prop :=
  (∀ a x, ((![v3850] : Fin 1 → IVec S16 32) a x).toNat < S4096.size a)
theorem k0_idx463_inb : ∀ (v3850 : IVec S16 32) (k0_hw464 : k0_chk464 v3850), ∀ a x, ((![v3850] : Fin 1 → IVec S16 32) a x).toNat < S4096.size a := fun v3850 k0_hw464 => k0_hw464

def k0_chk465 (v3858 : IVec S16 32) : Prop :=
  (∀ a x, ((![v3858] : Fin 1 → IVec S16 32) a x).toNat < S4096.size a)
theorem k0_idx464_inb : ∀ (v3858 : IVec S16 32) (k0_hw465 : k0_chk465 v3858), ∀ a x, ((![v3858] : Fin 1 → IVec S16 32) a x).toNat < S4096.size a := fun v3858 k0_hw465 => k0_hw465

def k0_chk466 (v3866 : IVec S16 32) : Prop :=
  (∀ a x, ((![v3866] : Fin 1 → IVec S16 32) a x).toNat < S4096.size a)
theorem k0_idx465_inb : ∀ (v3866 : IVec S16 32) (k0_hw466 : k0_chk466 v3866), ∀ a x, ((![v3866] : Fin 1 → IVec S16 32) a x).toNat < S4096.size a := fun v3866 k0_hw466 => k0_hw466

def k0_chk467 (v3874 : IVec S16 32) : Prop :=
  (∀ a x, ((![v3874] : Fin 1 → IVec S16 32) a x).toNat < S4096.size a)
theorem k0_idx466_inb : ∀ (v3874 : IVec S16 32) (k0_hw467 : k0_chk467 v3874), ∀ a x, ((![v3874] : Fin 1 → IVec S16 32) a x).toNat < S4096.size a := fun v3874 k0_hw467 => k0_hw467

def k0_chk468 (v3885 : IVec S16 32) : Prop :=
  (∀ a x, ((![v3885] : Fin 1 → IVec S16 32) a x).toNat < S4096.size a)
theorem k0_idx467_inb : ∀ (v3885 : IVec S16 32) (k0_hw468 : k0_chk468 v3885), ∀ a x, ((![v3885] : Fin 1 → IVec S16 32) a x).toNat < S4096.size a := fun v3885 k0_hw468 => k0_hw468

def k0_chk469 (v3893 : IVec S16 32) : Prop :=
  (∀ a x, ((![v3893] : Fin 1 → IVec S16 32) a x).toNat < S4096.size a)
theorem k0_idx468_inb : ∀ (v3893 : IVec S16 32) (k0_hw469 : k0_chk469 v3893), ∀ a x, ((![v3893] : Fin 1 → IVec S16 32) a x).toNat < S4096.size a := fun v3893 k0_hw469 => k0_hw469

def k0_chk470 (v3901 : IVec S16 32) : Prop :=
  (∀ a x, ((![v3901] : Fin 1 → IVec S16 32) a x).toNat < S4096.size a)
theorem k0_idx469_inb : ∀ (v3901 : IVec S16 32) (k0_hw470 : k0_chk470 v3901), ∀ a x, ((![v3901] : Fin 1 → IVec S16 32) a x).toNat < S4096.size a := fun v3901 k0_hw470 => k0_hw470

def k0_chk471 (v3909 : IVec S16 32) : Prop :=
  (∀ a x, ((![v3909] : Fin 1 → IVec S16 32) a x).toNat < S4096.size a)
theorem k0_idx470_inb : ∀ (v3909 : IVec S16 32) (k0_hw471 : k0_chk471 v3909), ∀ a x, ((![v3909] : Fin 1 → IVec S16 32) a x).toNat < S4096.size a := fun v3909 k0_hw471 => k0_hw471

def k0_chk472 (v3917 : IVec S16 32) : Prop :=
  (∀ a x, ((![v3917] : Fin 1 → IVec S16 32) a x).toNat < S4096.size a)
theorem k0_idx471_inb : ∀ (v3917 : IVec S16 32) (k0_hw472 : k0_chk472 v3917), ∀ a x, ((![v3917] : Fin 1 → IVec S16 32) a x).toNat < S4096.size a := fun v3917 k0_hw472 => k0_hw472

def k0_chk473 (v3925 : IVec S16 32) : Prop :=
  (∀ a x, ((![v3925] : Fin 1 → IVec S16 32) a x).toNat < S4096.size a)
theorem k0_idx472_inb : ∀ (v3925 : IVec S16 32) (k0_hw473 : k0_chk473 v3925), ∀ a x, ((![v3925] : Fin 1 → IVec S16 32) a x).toNat < S4096.size a := fun v3925 k0_hw473 => k0_hw473

def k0_chk474 (v3933 : IVec S16 32) : Prop :=
  (∀ a x, ((![v3933] : Fin 1 → IVec S16 32) a x).toNat < S4096.size a)
theorem k0_idx473_inb : ∀ (v3933 : IVec S16 32) (k0_hw474 : k0_chk474 v3933), ∀ a x, ((![v3933] : Fin 1 → IVec S16 32) a x).toNat < S4096.size a := fun v3933 k0_hw474 => k0_hw474

def k0_chk475 (v3941 : IVec S16 32) : Prop :=
  (∀ a x, ((![v3941] : Fin 1 → IVec S16 32) a x).toNat < S4096.size a)
theorem k0_idx474_inb : ∀ (v3941 : IVec S16 32) (k0_hw475 : k0_chk475 v3941), ∀ a x, ((![v3941] : Fin 1 → IVec S16 32) a x).toNat < S4096.size a := fun v3941 k0_hw475 => k0_hw475

def k0_chk476 (v3949 : IVec S16 32) : Prop :=
  (∀ a x, ((![v3949] : Fin 1 → IVec S16 32) a x).toNat < S4096.size a)
theorem k0_idx475_inb : ∀ (v3949 : IVec S16 32) (k0_hw476 : k0_chk476 v3949), ∀ a x, ((![v3949] : Fin 1 → IVec S16 32) a x).toNat < S4096.size a := fun v3949 k0_hw476 => k0_hw476

def k0_chk477 (v3957 : IVec S16 32) : Prop :=
  (∀ a x, ((![v3957] : Fin 1 → IVec S16 32) a x).toNat < S4096.size a)
theorem k0_idx476_inb : ∀ (v3957 : IVec S16 32) (k0_hw477 : k0_chk477 v3957), ∀ a x, ((![v3957] : Fin 1 → IVec S16 32) a x).toNat < S4096.size a := fun v3957 k0_hw477 => k0_hw477

def k0_chk478 (v3965 : IVec S16 32) : Prop :=
  (∀ a x, ((![v3965] : Fin 1 → IVec S16 32) a x).toNat < S4096.size a)
theorem k0_idx477_inb : ∀ (v3965 : IVec S16 32) (k0_hw478 : k0_chk478 v3965), ∀ a x, ((![v3965] : Fin 1 → IVec S16 32) a x).toNat < S4096.size a := fun v3965 k0_hw478 => k0_hw478

def k0_chk479 (v3973 : IVec S16 32) : Prop :=
  (∀ a x, ((![v3973] : Fin 1 → IVec S16 32) a x).toNat < S4096.size a)
theorem k0_idx478_inb : ∀ (v3973 : IVec S16 32) (k0_hw479 : k0_chk479 v3973), ∀ a x, ((![v3973] : Fin 1 → IVec S16 32) a x).toNat < S4096.size a := fun v3973 k0_hw479 => k0_hw479

def k0_chk480 (v3981 : IVec S16 32) : Prop :=
  (∀ a x, ((![v3981] : Fin 1 → IVec S16 32) a x).toNat < S4096.size a)
theorem k0_idx479_inb : ∀ (v3981 : IVec S16 32) (k0_hw480 : k0_chk480 v3981), ∀ a x, ((![v3981] : Fin 1 → IVec S16 32) a x).toNat < S4096.size a := fun v3981 k0_hw480 => k0_hw480

def k0_chk481 (v3989 : IVec S16 32) : Prop :=
  (∀ a x, ((![v3989] : Fin 1 → IVec S16 32) a x).toNat < S4096.size a)
theorem k0_idx480_inb : ∀ (v3989 : IVec S16 32) (k0_hw481 : k0_chk481 v3989), ∀ a x, ((![v3989] : Fin 1 → IVec S16 32) a x).toNat < S4096.size a := fun v3989 k0_hw481 => k0_hw481

def k0_chk482 (v3997 : IVec S16 32) : Prop :=
  (∀ a x, ((![v3997] : Fin 1 → IVec S16 32) a x).toNat < S4096.size a)
theorem k0_idx481_inb : ∀ (v3997 : IVec S16 32) (k0_hw482 : k0_chk482 v3997), ∀ a x, ((![v3997] : Fin 1 → IVec S16 32) a x).toNat < S4096.size a := fun v3997 k0_hw482 => k0_hw482

def k0_chk483 (v4005 : IVec S16 32) : Prop :=
  (∀ a x, ((![v4005] : Fin 1 → IVec S16 32) a x).toNat < S4096.size a)
theorem k0_idx482_inb : ∀ (v4005 : IVec S16 32) (k0_hw483 : k0_chk483 v4005), ∀ a x, ((![v4005] : Fin 1 → IVec S16 32) a x).toNat < S4096.size a := fun v4005 k0_hw483 => k0_hw483

def k0_chk484 (v4016 : IVec S16 32) : Prop :=
  (∀ a x, ((![v4016] : Fin 1 → IVec S16 32) a x).toNat < S4096.size a)
theorem k0_idx483_inb : ∀ (v4016 : IVec S16 32) (k0_hw484 : k0_chk484 v4016), ∀ a x, ((![v4016] : Fin 1 → IVec S16 32) a x).toNat < S4096.size a := fun v4016 k0_hw484 => k0_hw484

def k0_chk485 (v4024 : IVec S16 32) : Prop :=
  (∀ a x, ((![v4024] : Fin 1 → IVec S16 32) a x).toNat < S4096.size a)
theorem k0_idx484_inb : ∀ (v4024 : IVec S16 32) (k0_hw485 : k0_chk485 v4024), ∀ a x, ((![v4024] : Fin 1 → IVec S16 32) a x).toNat < S4096.size a := fun v4024 k0_hw485 => k0_hw485

def k0_chk486 (v4032 : IVec S16 32) : Prop :=
  (∀ a x, ((![v4032] : Fin 1 → IVec S16 32) a x).toNat < S4096.size a)
theorem k0_idx485_inb : ∀ (v4032 : IVec S16 32) (k0_hw486 : k0_chk486 v4032), ∀ a x, ((![v4032] : Fin 1 → IVec S16 32) a x).toNat < S4096.size a := fun v4032 k0_hw486 => k0_hw486

def k0_chk487 (v4040 : IVec S16 32) : Prop :=
  (∀ a x, ((![v4040] : Fin 1 → IVec S16 32) a x).toNat < S4096.size a)
theorem k0_idx486_inb : ∀ (v4040 : IVec S16 32) (k0_hw487 : k0_chk487 v4040), ∀ a x, ((![v4040] : Fin 1 → IVec S16 32) a x).toNat < S4096.size a := fun v4040 k0_hw487 => k0_hw487

def k0_chk488 (v4048 : IVec S16 32) : Prop :=
  (∀ a x, ((![v4048] : Fin 1 → IVec S16 32) a x).toNat < S4096.size a)
theorem k0_idx487_inb : ∀ (v4048 : IVec S16 32) (k0_hw488 : k0_chk488 v4048), ∀ a x, ((![v4048] : Fin 1 → IVec S16 32) a x).toNat < S4096.size a := fun v4048 k0_hw488 => k0_hw488

def k0_chk489 (v4056 : IVec S16 32) : Prop :=
  (∀ a x, ((![v4056] : Fin 1 → IVec S16 32) a x).toNat < S4096.size a)
theorem k0_idx488_inb : ∀ (v4056 : IVec S16 32) (k0_hw489 : k0_chk489 v4056), ∀ a x, ((![v4056] : Fin 1 → IVec S16 32) a x).toNat < S4096.size a := fun v4056 k0_hw489 => k0_hw489

def k0_chk490 (v4064 : IVec S16 32) : Prop :=
  (∀ a x, ((![v4064] : Fin 1 → IVec S16 32) a x).toNat < S4096.size a)
theorem k0_idx489_inb : ∀ (v4064 : IVec S16 32) (k0_hw490 : k0_chk490 v4064), ∀ a x, ((![v4064] : Fin 1 → IVec S16 32) a x).toNat < S4096.size a := fun v4064 k0_hw490 => k0_hw490

def k0_chk491 (v4072 : IVec S16 32) : Prop :=
  (∀ a x, ((![v4072] : Fin 1 → IVec S16 32) a x).toNat < S4096.size a)
theorem k0_idx490_inb : ∀ (v4072 : IVec S16 32) (k0_hw491 : k0_chk491 v4072), ∀ a x, ((![v4072] : Fin 1 → IVec S16 32) a x).toNat < S4096.size a := fun v4072 k0_hw491 => k0_hw491

def k0_chk492 (v4080 : IVec S16 32) : Prop :=
  (∀ a x, ((![v4080] : Fin 1 → IVec S16 32) a x).toNat < S4096.size a)
theorem k0_idx491_inb : ∀ (v4080 : IVec S16 32) (k0_hw492 : k0_chk492 v4080), ∀ a x, ((![v4080] : Fin 1 → IVec S16 32) a x).toNat < S4096.size a := fun v4080 k0_hw492 => k0_hw492

def k0_chk493 (v4088 : IVec S16 32) : Prop :=
  (∀ a x, ((![v4088] : Fin 1 → IVec S16 32) a x).toNat < S4096.size a)
theorem k0_idx492_inb : ∀ (v4088 : IVec S16 32) (k0_hw493 : k0_chk493 v4088), ∀ a x, ((![v4088] : Fin 1 → IVec S16 32) a x).toNat < S4096.size a := fun v4088 k0_hw493 => k0_hw493

def k0_chk494 (v4096 : IVec S16 32) : Prop :=
  (∀ a x, ((![v4096] : Fin 1 → IVec S16 32) a x).toNat < S4096.size a)
theorem k0_idx493_inb : ∀ (v4096 : IVec S16 32) (k0_hw494 : k0_chk494 v4096), ∀ a x, ((![v4096] : Fin 1 → IVec S16 32) a x).toNat < S4096.size a := fun v4096 k0_hw494 => k0_hw494

def k0_chk495 (v4104 : IVec S16 32) : Prop :=
  (∀ a x, ((![v4104] : Fin 1 → IVec S16 32) a x).toNat < S4096.size a)
theorem k0_idx494_inb : ∀ (v4104 : IVec S16 32) (k0_hw495 : k0_chk495 v4104), ∀ a x, ((![v4104] : Fin 1 → IVec S16 32) a x).toNat < S4096.size a := fun v4104 k0_hw495 => k0_hw495

def k0_chk496 (v4112 : IVec S16 32) : Prop :=
  (∀ a x, ((![v4112] : Fin 1 → IVec S16 32) a x).toNat < S4096.size a)
theorem k0_idx495_inb : ∀ (v4112 : IVec S16 32) (k0_hw496 : k0_chk496 v4112), ∀ a x, ((![v4112] : Fin 1 → IVec S16 32) a x).toNat < S4096.size a := fun v4112 k0_hw496 => k0_hw496

def k0_chk497 (v4120 : IVec S16 32) : Prop :=
  (∀ a x, ((![v4120] : Fin 1 → IVec S16 32) a x).toNat < S4096.size a)
theorem k0_idx496_inb : ∀ (v4120 : IVec S16 32) (k0_hw497 : k0_chk497 v4120), ∀ a x, ((![v4120] : Fin 1 → IVec S16 32) a x).toNat < S4096.size a := fun v4120 k0_hw497 => k0_hw497

def k0_chk498 (v4128 : IVec S16 32) : Prop :=
  (∀ a x, ((![v4128] : Fin 1 → IVec S16 32) a x).toNat < S4096.size a)
theorem k0_idx497_inb : ∀ (v4128 : IVec S16 32) (k0_hw498 : k0_chk498 v4128), ∀ a x, ((![v4128] : Fin 1 → IVec S16 32) a x).toNat < S4096.size a := fun v4128 k0_hw498 => k0_hw498

def k0_chk499 (v4136 : IVec S16 32) : Prop :=
  (∀ a x, ((![v4136] : Fin 1 → IVec S16 32) a x).toNat < S4096.size a)
theorem k0_idx498_inb : ∀ (v4136 : IVec S16 32) (k0_hw499 : k0_chk499 v4136), ∀ a x, ((![v4136] : Fin 1 → IVec S16 32) a x).toNat < S4096.size a := fun v4136 k0_hw499 => k0_hw499

def k0_chk500 (v4147 : IVec S16 32) : Prop :=
  (∀ a x, ((![v4147] : Fin 1 → IVec S16 32) a x).toNat < S4096.size a)
theorem k0_idx499_inb : ∀ (v4147 : IVec S16 32) (k0_hw500 : k0_chk500 v4147), ∀ a x, ((![v4147] : Fin 1 → IVec S16 32) a x).toNat < S4096.size a := fun v4147 k0_hw500 => k0_hw500

def k0_chk501 (v4155 : IVec S16 32) : Prop :=
  (∀ a x, ((![v4155] : Fin 1 → IVec S16 32) a x).toNat < S4096.size a)
theorem k0_idx500_inb : ∀ (v4155 : IVec S16 32) (k0_hw501 : k0_chk501 v4155), ∀ a x, ((![v4155] : Fin 1 → IVec S16 32) a x).toNat < S4096.size a := fun v4155 k0_hw501 => k0_hw501

def k0_chk502 (v4163 : IVec S16 32) : Prop :=
  (∀ a x, ((![v4163] : Fin 1 → IVec S16 32) a x).toNat < S4096.size a)
theorem k0_idx501_inb : ∀ (v4163 : IVec S16 32) (k0_hw502 : k0_chk502 v4163), ∀ a x, ((![v4163] : Fin 1 → IVec S16 32) a x).toNat < S4096.size a := fun v4163 k0_hw502 => k0_hw502

def k0_chk503 (v4171 : IVec S16 32) : Prop :=
  (∀ a x, ((![v4171] : Fin 1 → IVec S16 32) a x).toNat < S4096.size a)
theorem k0_idx502_inb : ∀ (v4171 : IVec S16 32) (k0_hw503 : k0_chk503 v4171), ∀ a x, ((![v4171] : Fin 1 → IVec S16 32) a x).toNat < S4096.size a := fun v4171 k0_hw503 => k0_hw503

def k0_chk504 (v4179 : IVec S16 32) : Prop :=
  (∀ a x, ((![v4179] : Fin 1 → IVec S16 32) a x).toNat < S4096.size a)
theorem k0_idx503_inb : ∀ (v4179 : IVec S16 32) (k0_hw504 : k0_chk504 v4179), ∀ a x, ((![v4179] : Fin 1 → IVec S16 32) a x).toNat < S4096.size a := fun v4179 k0_hw504 => k0_hw504

def k0_chk505 (v4187 : IVec S16 32) : Prop :=
  (∀ a x, ((![v4187] : Fin 1 → IVec S16 32) a x).toNat < S4096.size a)
theorem k0_idx504_inb : ∀ (v4187 : IVec S16 32) (k0_hw505 : k0_chk505 v4187), ∀ a x, ((![v4187] : Fin 1 → IVec S16 32) a x).toNat < S4096.size a := fun v4187 k0_hw505 => k0_hw505

def k0_chk506 (v4195 : IVec S16 32) : Prop :=
  (∀ a x, ((![v4195] : Fin 1 → IVec S16 32) a x).toNat < S4096.size a)
theorem k0_idx505_inb : ∀ (v4195 : IVec S16 32) (k0_hw506 : k0_chk506 v4195), ∀ a x, ((![v4195] : Fin 1 → IVec S16 32) a x).toNat < S4096.size a := fun v4195 k0_hw506 => k0_hw506

def k0_chk507 (v4203 : IVec S16 32) : Prop :=
  (∀ a x, ((![v4203] : Fin 1 → IVec S16 32) a x).toNat < S4096.size a)
theorem k0_idx506_inb : ∀ (v4203 : IVec S16 32) (k0_hw507 : k0_chk507 v4203), ∀ a x, ((![v4203] : Fin 1 → IVec S16 32) a x).toNat < S4096.size a := fun v4203 k0_hw507 => k0_hw507

def k0_chk508 (v4211 : IVec S16 32) : Prop :=
  (∀ a x, ((![v4211] : Fin 1 → IVec S16 32) a x).toNat < S4096.size a)
theorem k0_idx507_inb : ∀ (v4211 : IVec S16 32) (k0_hw508 : k0_chk508 v4211), ∀ a x, ((![v4211] : Fin 1 → IVec S16 32) a x).toNat < S4096.size a := fun v4211 k0_hw508 => k0_hw508

def k0_chk509 (v4219 : IVec S16 32) : Prop :=
  (∀ a x, ((![v4219] : Fin 1 → IVec S16 32) a x).toNat < S4096.size a)
theorem k0_idx508_inb : ∀ (v4219 : IVec S16 32) (k0_hw509 : k0_chk509 v4219), ∀ a x, ((![v4219] : Fin 1 → IVec S16 32) a x).toNat < S4096.size a := fun v4219 k0_hw509 => k0_hw509

def k0_chk510 (v4227 : IVec S16 32) : Prop :=
  (∀ a x, ((![v4227] : Fin 1 → IVec S16 32) a x).toNat < S4096.size a)
theorem k0_idx509_inb : ∀ (v4227 : IVec S16 32) (k0_hw510 : k0_chk510 v4227), ∀ a x, ((![v4227] : Fin 1 → IVec S16 32) a x).toNat < S4096.size a := fun v4227 k0_hw510 => k0_hw510

def k0_chk511 (v4235 : IVec S16 32) : Prop :=
  (∀ a x, ((![v4235] : Fin 1 → IVec S16 32) a x).toNat < S4096.size a)
theorem k0_idx510_inb : ∀ (v4235 : IVec S16 32) (k0_hw511 : k0_chk511 v4235), ∀ a x, ((![v4235] : Fin 1 → IVec S16 32) a x).toNat < S4096.size a := fun v4235 k0_hw511 => k0_hw511

def k0_chk512 (v4243 : IVec S16 32) : Prop :=
  (∀ a x, ((![v4243] : Fin 1 → IVec S16 32) a x).toNat < S4096.size a)
theorem k0_idx511_inb : ∀ (v4243 : IVec S16 32) (k0_hw512 : k0_chk512 v4243), ∀ a x, ((![v4243] : Fin 1 → IVec S16 32) a x).toNat < S4096.size a := fun v4243 k0_hw512 => k0_hw512

def k0_chk513 (v4251 : IVec S16 32) : Prop :=
  (∀ a x, ((![v4251] : Fin 1 → IVec S16 32) a x).toNat < S4096.size a)
theorem k0_idx512_inb : ∀ (v4251 : IVec S16 32) (k0_hw513 : k0_chk513 v4251), ∀ a x, ((![v4251] : Fin 1 → IVec S16 32) a x).toNat < S4096.size a := fun v4251 k0_hw513 => k0_hw513

def k0_chk514 (v4259 : IVec S16 32) : Prop :=
  (∀ a x, ((![v4259] : Fin 1 → IVec S16 32) a x).toNat < S4096.size a)
theorem k0_idx513_inb : ∀ (v4259 : IVec S16 32) (k0_hw514 : k0_chk514 v4259), ∀ a x, ((![v4259] : Fin 1 → IVec S16 32) a x).toNat < S4096.size a := fun v4259 k0_hw514 => k0_hw514

def k0_chk515 (v4267 : IVec S16 32) : Prop :=
  (∀ a x, ((![v4267] : Fin 1 → IVec S16 32) a x).toNat < S4096.size a)
theorem k0_idx514_inb : ∀ (v4267 : IVec S16 32) (k0_hw515 : k0_chk515 v4267), ∀ a x, ((![v4267] : Fin 1 → IVec S16 32) a x).toNat < S4096.size a := fun v4267 k0_hw515 => k0_hw515
@[reducible] def k0_t7_loop : Scf.Loop 32 :=
  let c0_i32_1609 : BitVec 32 := 0#32
  let c16_i32_1610 : BitVec 32 := 16#32
  let v4277 : BitVec 32 := Scalar.addi c0_i32_1609 c16_i32_1610
  let c1_i32_1611 : BitVec 32 := 1#32
  ⟨c0_i32_1609, v4277, c1_i32_1611⟩
def k0_off10 (k0_t7 : Fin k0_t7_loop.trips) : Fin 1 → Nat :=
  let c0_i32_1609 : BitVec 32 := 0#32
  let c1_i32_1611 : BitVec 32 := 1#32
  let arg15 : BitVec 32 := Scf.iv c0_i32_1609 c1_i32_1611 k0_t7
  let c16_i32_3472 : BitVec 32 := 16#32
  let v9096 : BitVec 32 := Scalar.muli arg15 c16_i32_3472
  let v9097 : Index := Scalar.indexCast v9096
  ![v9097.toNat]
def k0_off11 (v4278_1 : BitVec 32) : Fin 1 → Nat :=
  let c16_i32_1613 : BitVec 32 := 16#32
  let v4279 : BitVec 32 := Scalar.muli v4278_1 c16_i32_1613
  let v4280 : Index := Scalar.indexCast v4279
  ![v4280.toNat]

def k0_chk516 (v4278_1 : BitVec 32) : Prop :=
  (∀ a, (k0_off11 v4278_1) a + S16.size a ≤ S4096.size a)
theorem k0_off11_inb : ∀ (v4278_1 : BitVec 32) (k0_hw516 : k0_chk516 v4278_1), ∀ a, (k0_off11 v4278_1) a + S16.size a ≤ S4096.size a := fun v4278_1 k0_hw516 => k0_hw516

@[reducible] def k0_t8_loop : Scf.Loop 32 :=
  let c0_i32_1625 : BitVec 32 := 0#32
  let c2048_i32_1626 : BitVec 32 := 2048#32
  let v4323 : BitVec 32 := Scalar.addi c0_i32_1625 c2048_i32_1626
  let c1_i32_1627 : BitVec 32 := 1#32
  ⟨c0_i32_1625, v4323, c1_i32_1627⟩
def k0_off12 (k0_t8 : Fin k0_t8_loop.trips) : Fin 1 → Nat :=
  let c0_i32_3473 : BitVec 32 := 0#32
  let c0_i32_1625 : BitVec 32 := 0#32
  let c1_i32_1627 : BitVec 32 := 1#32
  let arg15 : BitVec 32 := Scf.iv c0_i32_1625 c1_i32_1627 k0_t8
  let c1_i32_3472 : BitVec 32 := 1#32
  let v9096 : BitVec 32 := Scalar.muli arg15 c1_i32_3472
  let v9097 : BitVec 32 := Scalar.addi c0_i32_3473 v9096
  let c16_i32_3474 : BitVec 32 := 16#32
  let v9098 : BitVec 32 := Scalar.muli v9097 c16_i32_3474
  let v9099 : Index := Scalar.indexCast v9098
  ![v9099.toNat]

def k0_chk517 (v9109 : IVec S16 32) : Prop :=
  (∀ a x, ((![v9109] : Fin 1 → IVec S16 32) a x).toNat < S128.size a)
theorem k0_idx515_inb : ∀ (v9109 : IVec S16 32) (k0_hw517 : k0_chk517 v9109), ∀ a x, ((![v9109] : Fin 1 → IVec S16 32) a x).toNat < S128.size a := fun v9109 k0_hw517 => k0_hw517

def k0_chk518 (v4330 : IVec S16 32) : Prop :=
  (∀ a x, ((![v4330] : Fin 1 → IVec S16 32) a x).toNat < S128.size a)
theorem k0_idx516_inb : ∀ (v4330 : IVec S16 32) (k0_hw518 : k0_chk518 v4330), ∀ a x, ((![v4330] : Fin 1 → IVec S16 32) a x).toNat < S128.size a := fun v4330 k0_hw518 => k0_hw518

def k0_chk519 (v4338 : IVec S16 32) : Prop :=
  (∀ a x, ((![v4338] : Fin 1 → IVec S16 32) a x).toNat < S128.size a)
theorem k0_idx517_inb : ∀ (v4338 : IVec S16 32) (k0_hw519 : k0_chk519 v4338), ∀ a x, ((![v4338] : Fin 1 → IVec S16 32) a x).toNat < S128.size a := fun v4338 k0_hw519 => k0_hw519

def k0_chk520 (v4346 : IVec S16 32) : Prop :=
  (∀ a x, ((![v4346] : Fin 1 → IVec S16 32) a x).toNat < S128.size a)
theorem k0_idx518_inb : ∀ (v4346 : IVec S16 32) (k0_hw520 : k0_chk520 v4346), ∀ a x, ((![v4346] : Fin 1 → IVec S16 32) a x).toNat < S128.size a := fun v4346 k0_hw520 => k0_hw520

def k0_chk521 (v4354 : IVec S16 32) : Prop :=
  (∀ a x, ((![v4354] : Fin 1 → IVec S16 32) a x).toNat < S128.size a)
theorem k0_idx519_inb : ∀ (v4354 : IVec S16 32) (k0_hw521 : k0_chk521 v4354), ∀ a x, ((![v4354] : Fin 1 → IVec S16 32) a x).toNat < S128.size a := fun v4354 k0_hw521 => k0_hw521

def k0_chk522 (v4362 : IVec S16 32) : Prop :=
  (∀ a x, ((![v4362] : Fin 1 → IVec S16 32) a x).toNat < S128.size a)
theorem k0_idx520_inb : ∀ (v4362 : IVec S16 32) (k0_hw522 : k0_chk522 v4362), ∀ a x, ((![v4362] : Fin 1 → IVec S16 32) a x).toNat < S128.size a := fun v4362 k0_hw522 => k0_hw522

def k0_chk523 (v4370 : IVec S16 32) : Prop :=
  (∀ a x, ((![v4370] : Fin 1 → IVec S16 32) a x).toNat < S128.size a)
theorem k0_idx521_inb : ∀ (v4370 : IVec S16 32) (k0_hw523 : k0_chk523 v4370), ∀ a x, ((![v4370] : Fin 1 → IVec S16 32) a x).toNat < S128.size a := fun v4370 k0_hw523 => k0_hw523

def k0_chk524 (v4378 : IVec S16 32) : Prop :=
  (∀ a x, ((![v4378] : Fin 1 → IVec S16 32) a x).toNat < S128.size a)
theorem k0_idx522_inb : ∀ (v4378 : IVec S16 32) (k0_hw524 : k0_chk524 v4378), ∀ a x, ((![v4378] : Fin 1 → IVec S16 32) a x).toNat < S128.size a := fun v4378 k0_hw524 => k0_hw524

def k0_chk525 (v4386 : IVec S16 32) : Prop :=
  (∀ a x, ((![v4386] : Fin 1 → IVec S16 32) a x).toNat < S128.size a)
theorem k0_idx523_inb : ∀ (v4386 : IVec S16 32) (k0_hw525 : k0_chk525 v4386), ∀ a x, ((![v4386] : Fin 1 → IVec S16 32) a x).toNat < S128.size a := fun v4386 k0_hw525 => k0_hw525

def k0_chk526 (v4394 : IVec S16 32) : Prop :=
  (∀ a x, ((![v4394] : Fin 1 → IVec S16 32) a x).toNat < S128.size a)
theorem k0_idx524_inb : ∀ (v4394 : IVec S16 32) (k0_hw526 : k0_chk526 v4394), ∀ a x, ((![v4394] : Fin 1 → IVec S16 32) a x).toNat < S128.size a := fun v4394 k0_hw526 => k0_hw526

def k0_chk527 (v4402 : IVec S16 32) : Prop :=
  (∀ a x, ((![v4402] : Fin 1 → IVec S16 32) a x).toNat < S128.size a)
theorem k0_idx525_inb : ∀ (v4402 : IVec S16 32) (k0_hw527 : k0_chk527 v4402), ∀ a x, ((![v4402] : Fin 1 → IVec S16 32) a x).toNat < S128.size a := fun v4402 k0_hw527 => k0_hw527

def k0_chk528 (v4410 : IVec S16 32) : Prop :=
  (∀ a x, ((![v4410] : Fin 1 → IVec S16 32) a x).toNat < S128.size a)
theorem k0_idx526_inb : ∀ (v4410 : IVec S16 32) (k0_hw528 : k0_chk528 v4410), ∀ a x, ((![v4410] : Fin 1 → IVec S16 32) a x).toNat < S128.size a := fun v4410 k0_hw528 => k0_hw528

def k0_chk529 (v4418 : IVec S16 32) : Prop :=
  (∀ a x, ((![v4418] : Fin 1 → IVec S16 32) a x).toNat < S128.size a)
theorem k0_idx527_inb : ∀ (v4418 : IVec S16 32) (k0_hw529 : k0_chk529 v4418), ∀ a x, ((![v4418] : Fin 1 → IVec S16 32) a x).toNat < S128.size a := fun v4418 k0_hw529 => k0_hw529

def k0_chk530 (v4426 : IVec S16 32) : Prop :=
  (∀ a x, ((![v4426] : Fin 1 → IVec S16 32) a x).toNat < S128.size a)
theorem k0_idx528_inb : ∀ (v4426 : IVec S16 32) (k0_hw530 : k0_chk530 v4426), ∀ a x, ((![v4426] : Fin 1 → IVec S16 32) a x).toNat < S128.size a := fun v4426 k0_hw530 => k0_hw530

def k0_chk531 (v4434 : IVec S16 32) : Prop :=
  (∀ a x, ((![v4434] : Fin 1 → IVec S16 32) a x).toNat < S128.size a)
theorem k0_idx529_inb : ∀ (v4434 : IVec S16 32) (k0_hw531 : k0_chk531 v4434), ∀ a x, ((![v4434] : Fin 1 → IVec S16 32) a x).toNat < S128.size a := fun v4434 k0_hw531 => k0_hw531

def k0_chk532 (v4442 : IVec S16 32) : Prop :=
  (∀ a x, ((![v4442] : Fin 1 → IVec S16 32) a x).toNat < S128.size a)
theorem k0_idx530_inb : ∀ (v4442 : IVec S16 32) (k0_hw532 : k0_chk532 v4442), ∀ a x, ((![v4442] : Fin 1 → IVec S16 32) a x).toNat < S128.size a := fun v4442 k0_hw532 => k0_hw532

def k0_chk533 (v4450 : IVec S16 32) : Prop :=
  (∀ a x, ((![v4450] : Fin 1 → IVec S16 32) a x).toNat < S128.size a)
theorem k0_idx531_inb : ∀ (v4450 : IVec S16 32) (k0_hw533 : k0_chk533 v4450), ∀ a x, ((![v4450] : Fin 1 → IVec S16 32) a x).toNat < S128.size a := fun v4450 k0_hw533 => k0_hw533
def k0_off13 : Fin 1 → Nat :=
  let c0_i32_1685 : BitVec 32 := 0#32
  let c16_i32_1686 : BitVec 32 := 16#32
  let v4463 : BitVec 32 := Scalar.muli c0_i32_1685 c16_i32_1686
  let v4464 : Index := Scalar.indexCast v4463
  ![v4464.toNat]
def k0_off14 (v4479 : BitVec 32) : Fin 1 → Nat :=
  let c16_i32_1691 : BitVec 32 := 16#32
  let v4480 : BitVec 1 := Scalar.cmpi .slt v4479 c16_i32_1691
  let c_m1_i32_1683 : BitVec 32 := 4294967295#32
  let c0_i32_1696 : BitVec 32 := 0#32
  let v4497 : BitVec 1 := Scalar.cmpi .slt c_m1_i32_1683 c0_i32_1696
  let v4498 : BitVec 1 := Scalar.andi v4480 v4497
  let c0_i32_1685 : BitVec 32 := 0#32
  let c16_i32_1697 : BitVec 32 := 16#32
  let v4499 : BitVec 32 := Scalar.muli c0_i32_1685 c16_i32_1697
  let v4500 : BitVec 32 := Scalar.addi v4499 v4479
  let v4501 : BitVec 32 := Scalar.select v4498 v4500 c_m1_i32_1683
  let c16_i32_1701 : BitVec 32 := 16#32
  let v4510 : BitVec 32 := Scalar.muli v4501 c16_i32_1701
  let v4511 : Index := Scalar.indexCast v4510
  ![v4511.toNat]

def k0_chk534 (v4479 : BitVec 32) : Prop :=
  (∀ a, (k0_off14 v4479) a + S16.size a ≤ S128.size a)
theorem k0_off14_inb : ∀ (v4479 : BitVec 32) (k0_hw534 : k0_chk534 v4479), ∀ a, (k0_off14 v4479) a + S16.size a ≤ S128.size a := fun v4479 k0_hw534 => k0_hw534

def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v7 : BitVec 32 := Scalar.muli v1 c2_i32_0
  let c1_i32_3 : BitVec 32 := 1#32
  let v12 : BitVec 32 := Scalar.addi v7 c1_i32_3
  let c0_i32_1712 : BitVec 32 := 0#32
  ![v12.toNat, 0]
@[reducible] def k0_t9_loop : Scf.Loop 32 :=
  let c0_i32_1715 : BitVec 32 := 0#32
  let c256_i32_1716 : BitVec 32 := 256#32
  let v4555 : BitVec 32 := Scalar.addi c0_i32_1715 c256_i32_1716
  let c1_i32_1717 : BitVec 32 := 1#32
  ⟨c0_i32_1715, v4555, c1_i32_1717⟩
def k0_off16 (k0_t9 : Fin k0_t9_loop.trips) : Fin 1 → Nat :=
  let c0_i32_3473 : BitVec 32 := 0#32
  let c0_i32_1715 : BitVec 32 := 0#32
  let c1_i32_1717 : BitVec 32 := 1#32
  let arg15 : BitVec 32 := Scf.iv c0_i32_1715 c1_i32_1717 k0_t9
  let c1_i32_3472 : BitVec 32 := 1#32
  let v9096 : BitVec 32 := Scalar.muli arg15 c1_i32_3472
  let v9097 : BitVec 32 := Scalar.addi c0_i32_3473 v9096
  let c16_i32_3474 : BitVec 32 := 16#32
  let v9098 : BitVec 32 := Scalar.muli v9097 c16_i32_3474
  let v9099 : Index := Scalar.indexCast v9098
  ![v9099.toNat]
@[reducible] def k0_t10_loop : Scf.Loop 32 :=
  let c0_i32_1720 : BitVec 32 := 0#32
  let c256_i32_1721 : BitVec 32 := 256#32
  let v4557 : BitVec 32 := Scalar.addi c0_i32_1720 c256_i32_1721
  let c1_i32_1722 : BitVec 32 := 1#32
  ⟨c0_i32_1720, v4557, c1_i32_1722⟩
def k0_off17 (k0_t10 : Fin k0_t10_loop.trips) : Fin 1 → Nat :=
  let c0_i32_3473 : BitVec 32 := 0#32
  let c0_i32_1720 : BitVec 32 := 0#32
  let c1_i32_1722 : BitVec 32 := 1#32
  let arg15 : BitVec 32 := Scf.iv c0_i32_1720 c1_i32_1722 k0_t10
  let c1_i32_3472 : BitVec 32 := 1#32
  let v9096 : BitVec 32 := Scalar.muli arg15 c1_i32_3472
  let v9097 : BitVec 32 := Scalar.addi c0_i32_3473 v9096
  let c16_i32_3474 : BitVec 32 := 16#32
  let v9098 : BitVec 32 := Scalar.muli v9097 c16_i32_3474
  let v9099 : Index := Scalar.indexCast v9098
  ![v9099.toNat]
@[reducible] def k0_t11_loop : Scf.Loop 32 :=
  let c0_i32_1725 : BitVec 32 := 0#32
  let c8_i32_1726 : BitVec 32 := 8#32
  let v4559 : BitVec 32 := Scalar.addi c0_i32_1725 c8_i32_1726
  let c1_i32_1727 : BitVec 32 := 1#32
  ⟨c0_i32_1725, v4559, c1_i32_1727⟩
def k0_off18 (k0_t11 : Fin k0_t11_loop.trips) : Fin 1 → Nat :=
  let c0_i32_3473 : BitVec 32 := 0#32
  let c0_i32_1725 : BitVec 32 := 0#32
  let c1_i32_1727 : BitVec 32 := 1#32
  let arg15 : BitVec 32 := Scf.iv c0_i32_1725 c1_i32_1727 k0_t11
  let c1_i32_3472 : BitVec 32 := 1#32
  let v9096 : BitVec 32 := Scalar.muli arg15 c1_i32_3472
  let v9097 : BitVec 32 := Scalar.addi c0_i32_3473 v9096
  let c16_i32_3474 : BitVec 32 := 16#32
  let v9098 : BitVec 32 := Scalar.muli v9097 c16_i32_3474
  let v9099 : Index := Scalar.indexCast v9098
  ![v9099.toNat]
@[reducible] def k0_t12_loop : Scf.Loop 32 :=
  let c0_i32_1729 : BitVec 32 := 0#32
  let c2048_i32_1730 : BitVec 32 := 2048#32
  let v4560 : BitVec 32 := Scalar.addi c0_i32_1729 c2048_i32_1730
  let c1_i32_1731 : BitVec 32 := 1#32
  ⟨c0_i32_1729, v4560, c1_i32_1731⟩
def k0_off19 (k0_t12 : Fin k0_t12_loop.trips) : Fin 1 → Nat :=
  let c0_i32_3473 : BitVec 32 := 0#32
  let c0_i32_1729 : BitVec 32 := 0#32
  let c1_i32_1731 : BitVec 32 := 1#32
  let arg15 : BitVec 32 := Scf.iv c0_i32_1729 c1_i32_1731 k0_t12
  let c1_i32_3472 : BitVec 32 := 1#32
  let v9096 : BitVec 32 := Scalar.muli arg15 c1_i32_3472
  let v9097 : BitVec 32 := Scalar.addi c0_i32_3473 v9096
  let c16_i32_3474 : BitVec 32 := 16#32
  let v9098 : BitVec 32 := Scalar.muli v9097 c16_i32_3474
  let v9099 : Index := Scalar.indexCast v9098
  ![v9099.toNat]

def k0_chk535 (v9103 : IVec S16 32) : Prop :=
  (∀ a x, ((![v9103] : Fin 1 → IVec S16 32) a x).toNat < S4096.size a)
theorem k0_idx532_inb : ∀ (v9103 : IVec S16 32) (k0_hw535 : k0_chk535 v9103), ∀ a x, ((![v9103] : Fin 1 → IVec S16 32) a x).toNat < S4096.size a := fun v9103 k0_hw535 => k0_hw535

def k0_chk536 (v4568 : IVec S16 32) : Prop :=
  (∀ a x, ((![v4568] : Fin 1 → IVec S16 32) a x).toNat < S4096.size a)
theorem k0_idx533_inb : ∀ (v4568 : IVec S16 32) (k0_hw536 : k0_chk536 v4568), ∀ a x, ((![v4568] : Fin 1 → IVec S16 32) a x).toNat < S4096.size a := fun v4568 k0_hw536 => k0_hw536

def k0_chk537 (v4576 : IVec S16 32) : Prop :=
  (∀ a x, ((![v4576] : Fin 1 → IVec S16 32) a x).toNat < S4096.size a)
theorem k0_idx534_inb : ∀ (v4576 : IVec S16 32) (k0_hw537 : k0_chk537 v4576), ∀ a x, ((![v4576] : Fin 1 → IVec S16 32) a x).toNat < S4096.size a := fun v4576 k0_hw537 => k0_hw537

def k0_chk538 (v4584 : IVec S16 32) : Prop :=
  (∀ a x, ((![v4584] : Fin 1 → IVec S16 32) a x).toNat < S4096.size a)
theorem k0_idx535_inb : ∀ (v4584 : IVec S16 32) (k0_hw538 : k0_chk538 v4584), ∀ a x, ((![v4584] : Fin 1 → IVec S16 32) a x).toNat < S4096.size a := fun v4584 k0_hw538 => k0_hw538

def k0_chk539 (v4592 : IVec S16 32) : Prop :=
  (∀ a x, ((![v4592] : Fin 1 → IVec S16 32) a x).toNat < S4096.size a)
theorem k0_idx536_inb : ∀ (v4592 : IVec S16 32) (k0_hw539 : k0_chk539 v4592), ∀ a x, ((![v4592] : Fin 1 → IVec S16 32) a x).toNat < S4096.size a := fun v4592 k0_hw539 => k0_hw539

def k0_chk540 (v4600 : IVec S16 32) : Prop :=
  (∀ a x, ((![v4600] : Fin 1 → IVec S16 32) a x).toNat < S4096.size a)
theorem k0_idx537_inb : ∀ (v4600 : IVec S16 32) (k0_hw540 : k0_chk540 v4600), ∀ a x, ((![v4600] : Fin 1 → IVec S16 32) a x).toNat < S4096.size a := fun v4600 k0_hw540 => k0_hw540

def k0_chk541 (v4608 : IVec S16 32) : Prop :=
  (∀ a x, ((![v4608] : Fin 1 → IVec S16 32) a x).toNat < S4096.size a)
theorem k0_idx538_inb : ∀ (v4608 : IVec S16 32) (k0_hw541 : k0_chk541 v4608), ∀ a x, ((![v4608] : Fin 1 → IVec S16 32) a x).toNat < S4096.size a := fun v4608 k0_hw541 => k0_hw541

def k0_chk542 (v4616 : IVec S16 32) : Prop :=
  (∀ a x, ((![v4616] : Fin 1 → IVec S16 32) a x).toNat < S4096.size a)
theorem k0_idx539_inb : ∀ (v4616 : IVec S16 32) (k0_hw542 : k0_chk542 v4616), ∀ a x, ((![v4616] : Fin 1 → IVec S16 32) a x).toNat < S4096.size a := fun v4616 k0_hw542 => k0_hw542

def k0_chk543 (v4624 : IVec S16 32) : Prop :=
  (∀ a x, ((![v4624] : Fin 1 → IVec S16 32) a x).toNat < S4096.size a)
theorem k0_idx540_inb : ∀ (v4624 : IVec S16 32) (k0_hw543 : k0_chk543 v4624), ∀ a x, ((![v4624] : Fin 1 → IVec S16 32) a x).toNat < S4096.size a := fun v4624 k0_hw543 => k0_hw543

def k0_chk544 (v4632 : IVec S16 32) : Prop :=
  (∀ a x, ((![v4632] : Fin 1 → IVec S16 32) a x).toNat < S4096.size a)
theorem k0_idx541_inb : ∀ (v4632 : IVec S16 32) (k0_hw544 : k0_chk544 v4632), ∀ a x, ((![v4632] : Fin 1 → IVec S16 32) a x).toNat < S4096.size a := fun v4632 k0_hw544 => k0_hw544

def k0_chk545 (v4640 : IVec S16 32) : Prop :=
  (∀ a x, ((![v4640] : Fin 1 → IVec S16 32) a x).toNat < S4096.size a)
theorem k0_idx542_inb : ∀ (v4640 : IVec S16 32) (k0_hw545 : k0_chk545 v4640), ∀ a x, ((![v4640] : Fin 1 → IVec S16 32) a x).toNat < S4096.size a := fun v4640 k0_hw545 => k0_hw545

def k0_chk546 (v4648 : IVec S16 32) : Prop :=
  (∀ a x, ((![v4648] : Fin 1 → IVec S16 32) a x).toNat < S4096.size a)
theorem k0_idx543_inb : ∀ (v4648 : IVec S16 32) (k0_hw546 : k0_chk546 v4648), ∀ a x, ((![v4648] : Fin 1 → IVec S16 32) a x).toNat < S4096.size a := fun v4648 k0_hw546 => k0_hw546

def k0_chk547 (v4656 : IVec S16 32) : Prop :=
  (∀ a x, ((![v4656] : Fin 1 → IVec S16 32) a x).toNat < S4096.size a)
theorem k0_idx544_inb : ∀ (v4656 : IVec S16 32) (k0_hw547 : k0_chk547 v4656), ∀ a x, ((![v4656] : Fin 1 → IVec S16 32) a x).toNat < S4096.size a := fun v4656 k0_hw547 => k0_hw547

def k0_chk548 (v4664 : IVec S16 32) : Prop :=
  (∀ a x, ((![v4664] : Fin 1 → IVec S16 32) a x).toNat < S4096.size a)
theorem k0_idx545_inb : ∀ (v4664 : IVec S16 32) (k0_hw548 : k0_chk548 v4664), ∀ a x, ((![v4664] : Fin 1 → IVec S16 32) a x).toNat < S4096.size a := fun v4664 k0_hw548 => k0_hw548

def k0_chk549 (v4672 : IVec S16 32) : Prop :=
  (∀ a x, ((![v4672] : Fin 1 → IVec S16 32) a x).toNat < S4096.size a)
theorem k0_idx546_inb : ∀ (v4672 : IVec S16 32) (k0_hw549 : k0_chk549 v4672), ∀ a x, ((![v4672] : Fin 1 → IVec S16 32) a x).toNat < S4096.size a := fun v4672 k0_hw549 => k0_hw549

def k0_chk550 (v4680 : IVec S16 32) : Prop :=
  (∀ a x, ((![v4680] : Fin 1 → IVec S16 32) a x).toNat < S4096.size a)
theorem k0_idx547_inb : ∀ (v4680 : IVec S16 32) (k0_hw550 : k0_chk550 v4680), ∀ a x, ((![v4680] : Fin 1 → IVec S16 32) a x).toNat < S4096.size a := fun v4680 k0_hw550 => k0_hw550

def k0_chk551 (v4688 : IVec S16 32) : Prop :=
  (∀ a x, ((![v4688] : Fin 1 → IVec S16 32) a x).toNat < S4096.size a)
theorem k0_idx548_inb : ∀ (v4688 : IVec S16 32) (k0_hw551 : k0_chk551 v4688), ∀ a x, ((![v4688] : Fin 1 → IVec S16 32) a x).toNat < S4096.size a := fun v4688 k0_hw551 => k0_hw551

def k0_chk552 (v4699 : IVec S16 32) : Prop :=
  (∀ a x, ((![v4699] : Fin 1 → IVec S16 32) a x).toNat < S4096.size a)
theorem k0_idx549_inb : ∀ (v4699 : IVec S16 32) (k0_hw552 : k0_chk552 v4699), ∀ a x, ((![v4699] : Fin 1 → IVec S16 32) a x).toNat < S4096.size a := fun v4699 k0_hw552 => k0_hw552

def k0_chk553 (v4707 : IVec S16 32) : Prop :=
  (∀ a x, ((![v4707] : Fin 1 → IVec S16 32) a x).toNat < S4096.size a)
theorem k0_idx550_inb : ∀ (v4707 : IVec S16 32) (k0_hw553 : k0_chk553 v4707), ∀ a x, ((![v4707] : Fin 1 → IVec S16 32) a x).toNat < S4096.size a := fun v4707 k0_hw553 => k0_hw553

def k0_chk554 (v4715 : IVec S16 32) : Prop :=
  (∀ a x, ((![v4715] : Fin 1 → IVec S16 32) a x).toNat < S4096.size a)
theorem k0_idx551_inb : ∀ (v4715 : IVec S16 32) (k0_hw554 : k0_chk554 v4715), ∀ a x, ((![v4715] : Fin 1 → IVec S16 32) a x).toNat < S4096.size a := fun v4715 k0_hw554 => k0_hw554

def k0_chk555 (v4723 : IVec S16 32) : Prop :=
  (∀ a x, ((![v4723] : Fin 1 → IVec S16 32) a x).toNat < S4096.size a)
theorem k0_idx552_inb : ∀ (v4723 : IVec S16 32) (k0_hw555 : k0_chk555 v4723), ∀ a x, ((![v4723] : Fin 1 → IVec S16 32) a x).toNat < S4096.size a := fun v4723 k0_hw555 => k0_hw555

def k0_chk556 (v4731 : IVec S16 32) : Prop :=
  (∀ a x, ((![v4731] : Fin 1 → IVec S16 32) a x).toNat < S4096.size a)
theorem k0_idx553_inb : ∀ (v4731 : IVec S16 32) (k0_hw556 : k0_chk556 v4731), ∀ a x, ((![v4731] : Fin 1 → IVec S16 32) a x).toNat < S4096.size a := fun v4731 k0_hw556 => k0_hw556

def k0_chk557 (v4739 : IVec S16 32) : Prop :=
  (∀ a x, ((![v4739] : Fin 1 → IVec S16 32) a x).toNat < S4096.size a)
theorem k0_idx554_inb : ∀ (v4739 : IVec S16 32) (k0_hw557 : k0_chk557 v4739), ∀ a x, ((![v4739] : Fin 1 → IVec S16 32) a x).toNat < S4096.size a := fun v4739 k0_hw557 => k0_hw557

def k0_chk558 (v4747 : IVec S16 32) : Prop :=
  (∀ a x, ((![v4747] : Fin 1 → IVec S16 32) a x).toNat < S4096.size a)
theorem k0_idx555_inb : ∀ (v4747 : IVec S16 32) (k0_hw558 : k0_chk558 v4747), ∀ a x, ((![v4747] : Fin 1 → IVec S16 32) a x).toNat < S4096.size a := fun v4747 k0_hw558 => k0_hw558

def k0_chk559 (v4755 : IVec S16 32) : Prop :=
  (∀ a x, ((![v4755] : Fin 1 → IVec S16 32) a x).toNat < S4096.size a)
theorem k0_idx556_inb : ∀ (v4755 : IVec S16 32) (k0_hw559 : k0_chk559 v4755), ∀ a x, ((![v4755] : Fin 1 → IVec S16 32) a x).toNat < S4096.size a := fun v4755 k0_hw559 => k0_hw559

def k0_chk560 (v4763 : IVec S16 32) : Prop :=
  (∀ a x, ((![v4763] : Fin 1 → IVec S16 32) a x).toNat < S4096.size a)
theorem k0_idx557_inb : ∀ (v4763 : IVec S16 32) (k0_hw560 : k0_chk560 v4763), ∀ a x, ((![v4763] : Fin 1 → IVec S16 32) a x).toNat < S4096.size a := fun v4763 k0_hw560 => k0_hw560

def k0_chk561 (v4771 : IVec S16 32) : Prop :=
  (∀ a x, ((![v4771] : Fin 1 → IVec S16 32) a x).toNat < S4096.size a)
theorem k0_idx558_inb : ∀ (v4771 : IVec S16 32) (k0_hw561 : k0_chk561 v4771), ∀ a x, ((![v4771] : Fin 1 → IVec S16 32) a x).toNat < S4096.size a := fun v4771 k0_hw561 => k0_hw561

def k0_chk562 (v4779 : IVec S16 32) : Prop :=
  (∀ a x, ((![v4779] : Fin 1 → IVec S16 32) a x).toNat < S4096.size a)
theorem k0_idx559_inb : ∀ (v4779 : IVec S16 32) (k0_hw562 : k0_chk562 v4779), ∀ a x, ((![v4779] : Fin 1 → IVec S16 32) a x).toNat < S4096.size a := fun v4779 k0_hw562 => k0_hw562

def k0_chk563 (v4787 : IVec S16 32) : Prop :=
  (∀ a x, ((![v4787] : Fin 1 → IVec S16 32) a x).toNat < S4096.size a)
theorem k0_idx560_inb : ∀ (v4787 : IVec S16 32) (k0_hw563 : k0_chk563 v4787), ∀ a x, ((![v4787] : Fin 1 → IVec S16 32) a x).toNat < S4096.size a := fun v4787 k0_hw563 => k0_hw563

def k0_chk564 (v4795 : IVec S16 32) : Prop :=
  (∀ a x, ((![v4795] : Fin 1 → IVec S16 32) a x).toNat < S4096.size a)
theorem k0_idx561_inb : ∀ (v4795 : IVec S16 32) (k0_hw564 : k0_chk564 v4795), ∀ a x, ((![v4795] : Fin 1 → IVec S16 32) a x).toNat < S4096.size a := fun v4795 k0_hw564 => k0_hw564

def k0_chk565 (v4803 : IVec S16 32) : Prop :=
  (∀ a x, ((![v4803] : Fin 1 → IVec S16 32) a x).toNat < S4096.size a)
theorem k0_idx562_inb : ∀ (v4803 : IVec S16 32) (k0_hw565 : k0_chk565 v4803), ∀ a x, ((![v4803] : Fin 1 → IVec S16 32) a x).toNat < S4096.size a := fun v4803 k0_hw565 => k0_hw565

def k0_chk566 (v4811 : IVec S16 32) : Prop :=
  (∀ a x, ((![v4811] : Fin 1 → IVec S16 32) a x).toNat < S4096.size a)
theorem k0_idx563_inb : ∀ (v4811 : IVec S16 32) (k0_hw566 : k0_chk566 v4811), ∀ a x, ((![v4811] : Fin 1 → IVec S16 32) a x).toNat < S4096.size a := fun v4811 k0_hw566 => k0_hw566

def k0_chk567 (v4819 : IVec S16 32) : Prop :=
  (∀ a x, ((![v4819] : Fin 1 → IVec S16 32) a x).toNat < S4096.size a)
theorem k0_idx564_inb : ∀ (v4819 : IVec S16 32) (k0_hw567 : k0_chk567 v4819), ∀ a x, ((![v4819] : Fin 1 → IVec S16 32) a x).toNat < S4096.size a := fun v4819 k0_hw567 => k0_hw567

def k0_chk568 (v4830 : IVec S16 32) : Prop :=
  (∀ a x, ((![v4830] : Fin 1 → IVec S16 32) a x).toNat < S4096.size a)
theorem k0_idx565_inb : ∀ (v4830 : IVec S16 32) (k0_hw568 : k0_chk568 v4830), ∀ a x, ((![v4830] : Fin 1 → IVec S16 32) a x).toNat < S4096.size a := fun v4830 k0_hw568 => k0_hw568

def k0_chk569 (v4838 : IVec S16 32) : Prop :=
  (∀ a x, ((![v4838] : Fin 1 → IVec S16 32) a x).toNat < S4096.size a)
theorem k0_idx566_inb : ∀ (v4838 : IVec S16 32) (k0_hw569 : k0_chk569 v4838), ∀ a x, ((![v4838] : Fin 1 → IVec S16 32) a x).toNat < S4096.size a := fun v4838 k0_hw569 => k0_hw569

def k0_chk570 (v4846 : IVec S16 32) : Prop :=
  (∀ a x, ((![v4846] : Fin 1 → IVec S16 32) a x).toNat < S4096.size a)
theorem k0_idx567_inb : ∀ (v4846 : IVec S16 32) (k0_hw570 : k0_chk570 v4846), ∀ a x, ((![v4846] : Fin 1 → IVec S16 32) a x).toNat < S4096.size a := fun v4846 k0_hw570 => k0_hw570

def k0_chk571 (v4854 : IVec S16 32) : Prop :=
  (∀ a x, ((![v4854] : Fin 1 → IVec S16 32) a x).toNat < S4096.size a)
theorem k0_idx568_inb : ∀ (v4854 : IVec S16 32) (k0_hw571 : k0_chk571 v4854), ∀ a x, ((![v4854] : Fin 1 → IVec S16 32) a x).toNat < S4096.size a := fun v4854 k0_hw571 => k0_hw571

def k0_chk572 (v4862 : IVec S16 32) : Prop :=
  (∀ a x, ((![v4862] : Fin 1 → IVec S16 32) a x).toNat < S4096.size a)
theorem k0_idx569_inb : ∀ (v4862 : IVec S16 32) (k0_hw572 : k0_chk572 v4862), ∀ a x, ((![v4862] : Fin 1 → IVec S16 32) a x).toNat < S4096.size a := fun v4862 k0_hw572 => k0_hw572

def k0_chk573 (v4870 : IVec S16 32) : Prop :=
  (∀ a x, ((![v4870] : Fin 1 → IVec S16 32) a x).toNat < S4096.size a)
theorem k0_idx570_inb : ∀ (v4870 : IVec S16 32) (k0_hw573 : k0_chk573 v4870), ∀ a x, ((![v4870] : Fin 1 → IVec S16 32) a x).toNat < S4096.size a := fun v4870 k0_hw573 => k0_hw573

def k0_chk574 (v4878 : IVec S16 32) : Prop :=
  (∀ a x, ((![v4878] : Fin 1 → IVec S16 32) a x).toNat < S4096.size a)
theorem k0_idx571_inb : ∀ (v4878 : IVec S16 32) (k0_hw574 : k0_chk574 v4878), ∀ a x, ((![v4878] : Fin 1 → IVec S16 32) a x).toNat < S4096.size a := fun v4878 k0_hw574 => k0_hw574

def k0_chk575 (v4886 : IVec S16 32) : Prop :=
  (∀ a x, ((![v4886] : Fin 1 → IVec S16 32) a x).toNat < S4096.size a)
theorem k0_idx572_inb : ∀ (v4886 : IVec S16 32) (k0_hw575 : k0_chk575 v4886), ∀ a x, ((![v4886] : Fin 1 → IVec S16 32) a x).toNat < S4096.size a := fun v4886 k0_hw575 => k0_hw575

def k0_chk576 (v4894 : IVec S16 32) : Prop :=
  (∀ a x, ((![v4894] : Fin 1 → IVec S16 32) a x).toNat < S4096.size a)
theorem k0_idx573_inb : ∀ (v4894 : IVec S16 32) (k0_hw576 : k0_chk576 v4894), ∀ a x, ((![v4894] : Fin 1 → IVec S16 32) a x).toNat < S4096.size a := fun v4894 k0_hw576 => k0_hw576

def k0_chk577 (v4902 : IVec S16 32) : Prop :=
  (∀ a x, ((![v4902] : Fin 1 → IVec S16 32) a x).toNat < S4096.size a)
theorem k0_idx574_inb : ∀ (v4902 : IVec S16 32) (k0_hw577 : k0_chk577 v4902), ∀ a x, ((![v4902] : Fin 1 → IVec S16 32) a x).toNat < S4096.size a := fun v4902 k0_hw577 => k0_hw577

def k0_chk578 (v4910 : IVec S16 32) : Prop :=
  (∀ a x, ((![v4910] : Fin 1 → IVec S16 32) a x).toNat < S4096.size a)
theorem k0_idx575_inb : ∀ (v4910 : IVec S16 32) (k0_hw578 : k0_chk578 v4910), ∀ a x, ((![v4910] : Fin 1 → IVec S16 32) a x).toNat < S4096.size a := fun v4910 k0_hw578 => k0_hw578

def k0_chk579 (v4918 : IVec S16 32) : Prop :=
  (∀ a x, ((![v4918] : Fin 1 → IVec S16 32) a x).toNat < S4096.size a)
theorem k0_idx576_inb : ∀ (v4918 : IVec S16 32) (k0_hw579 : k0_chk579 v4918), ∀ a x, ((![v4918] : Fin 1 → IVec S16 32) a x).toNat < S4096.size a := fun v4918 k0_hw579 => k0_hw579

def k0_chk580 (v4926 : IVec S16 32) : Prop :=
  (∀ a x, ((![v4926] : Fin 1 → IVec S16 32) a x).toNat < S4096.size a)
theorem k0_idx577_inb : ∀ (v4926 : IVec S16 32) (k0_hw580 : k0_chk580 v4926), ∀ a x, ((![v4926] : Fin 1 → IVec S16 32) a x).toNat < S4096.size a := fun v4926 k0_hw580 => k0_hw580

def k0_chk581 (v4934 : IVec S16 32) : Prop :=
  (∀ a x, ((![v4934] : Fin 1 → IVec S16 32) a x).toNat < S4096.size a)
theorem k0_idx578_inb : ∀ (v4934 : IVec S16 32) (k0_hw581 : k0_chk581 v4934), ∀ a x, ((![v4934] : Fin 1 → IVec S16 32) a x).toNat < S4096.size a := fun v4934 k0_hw581 => k0_hw581

def k0_chk582 (v4942 : IVec S16 32) : Prop :=
  (∀ a x, ((![v4942] : Fin 1 → IVec S16 32) a x).toNat < S4096.size a)
theorem k0_idx579_inb : ∀ (v4942 : IVec S16 32) (k0_hw582 : k0_chk582 v4942), ∀ a x, ((![v4942] : Fin 1 → IVec S16 32) a x).toNat < S4096.size a := fun v4942 k0_hw582 => k0_hw582

def k0_chk583 (v4950 : IVec S16 32) : Prop :=
  (∀ a x, ((![v4950] : Fin 1 → IVec S16 32) a x).toNat < S4096.size a)
theorem k0_idx580_inb : ∀ (v4950 : IVec S16 32) (k0_hw583 : k0_chk583 v4950), ∀ a x, ((![v4950] : Fin 1 → IVec S16 32) a x).toNat < S4096.size a := fun v4950 k0_hw583 => k0_hw583

def k0_chk584 (v4961 : IVec S16 32) : Prop :=
  (∀ a x, ((![v4961] : Fin 1 → IVec S16 32) a x).toNat < S4096.size a)
theorem k0_idx581_inb : ∀ (v4961 : IVec S16 32) (k0_hw584 : k0_chk584 v4961), ∀ a x, ((![v4961] : Fin 1 → IVec S16 32) a x).toNat < S4096.size a := fun v4961 k0_hw584 => k0_hw584

def k0_chk585 (v4969 : IVec S16 32) : Prop :=
  (∀ a x, ((![v4969] : Fin 1 → IVec S16 32) a x).toNat < S4096.size a)
theorem k0_idx582_inb : ∀ (v4969 : IVec S16 32) (k0_hw585 : k0_chk585 v4969), ∀ a x, ((![v4969] : Fin 1 → IVec S16 32) a x).toNat < S4096.size a := fun v4969 k0_hw585 => k0_hw585

def k0_chk586 (v4977 : IVec S16 32) : Prop :=
  (∀ a x, ((![v4977] : Fin 1 → IVec S16 32) a x).toNat < S4096.size a)
theorem k0_idx583_inb : ∀ (v4977 : IVec S16 32) (k0_hw586 : k0_chk586 v4977), ∀ a x, ((![v4977] : Fin 1 → IVec S16 32) a x).toNat < S4096.size a := fun v4977 k0_hw586 => k0_hw586

def k0_chk587 (v4985 : IVec S16 32) : Prop :=
  (∀ a x, ((![v4985] : Fin 1 → IVec S16 32) a x).toNat < S4096.size a)
theorem k0_idx584_inb : ∀ (v4985 : IVec S16 32) (k0_hw587 : k0_chk587 v4985), ∀ a x, ((![v4985] : Fin 1 → IVec S16 32) a x).toNat < S4096.size a := fun v4985 k0_hw587 => k0_hw587

def k0_chk588 (v4993 : IVec S16 32) : Prop :=
  (∀ a x, ((![v4993] : Fin 1 → IVec S16 32) a x).toNat < S4096.size a)
theorem k0_idx585_inb : ∀ (v4993 : IVec S16 32) (k0_hw588 : k0_chk588 v4993), ∀ a x, ((![v4993] : Fin 1 → IVec S16 32) a x).toNat < S4096.size a := fun v4993 k0_hw588 => k0_hw588

def k0_chk589 (v5001 : IVec S16 32) : Prop :=
  (∀ a x, ((![v5001] : Fin 1 → IVec S16 32) a x).toNat < S4096.size a)
theorem k0_idx586_inb : ∀ (v5001 : IVec S16 32) (k0_hw589 : k0_chk589 v5001), ∀ a x, ((![v5001] : Fin 1 → IVec S16 32) a x).toNat < S4096.size a := fun v5001 k0_hw589 => k0_hw589

def k0_chk590 (v5009 : IVec S16 32) : Prop :=
  (∀ a x, ((![v5009] : Fin 1 → IVec S16 32) a x).toNat < S4096.size a)
theorem k0_idx587_inb : ∀ (v5009 : IVec S16 32) (k0_hw590 : k0_chk590 v5009), ∀ a x, ((![v5009] : Fin 1 → IVec S16 32) a x).toNat < S4096.size a := fun v5009 k0_hw590 => k0_hw590

def k0_chk591 (v5017 : IVec S16 32) : Prop :=
  (∀ a x, ((![v5017] : Fin 1 → IVec S16 32) a x).toNat < S4096.size a)
theorem k0_idx588_inb : ∀ (v5017 : IVec S16 32) (k0_hw591 : k0_chk591 v5017), ∀ a x, ((![v5017] : Fin 1 → IVec S16 32) a x).toNat < S4096.size a := fun v5017 k0_hw591 => k0_hw591

def k0_chk592 (v5025 : IVec S16 32) : Prop :=
  (∀ a x, ((![v5025] : Fin 1 → IVec S16 32) a x).toNat < S4096.size a)
theorem k0_idx589_inb : ∀ (v5025 : IVec S16 32) (k0_hw592 : k0_chk592 v5025), ∀ a x, ((![v5025] : Fin 1 → IVec S16 32) a x).toNat < S4096.size a := fun v5025 k0_hw592 => k0_hw592

def k0_chk593 (v5033 : IVec S16 32) : Prop :=
  (∀ a x, ((![v5033] : Fin 1 → IVec S16 32) a x).toNat < S4096.size a)
theorem k0_idx590_inb : ∀ (v5033 : IVec S16 32) (k0_hw593 : k0_chk593 v5033), ∀ a x, ((![v5033] : Fin 1 → IVec S16 32) a x).toNat < S4096.size a := fun v5033 k0_hw593 => k0_hw593

def k0_chk594 (v5041 : IVec S16 32) : Prop :=
  (∀ a x, ((![v5041] : Fin 1 → IVec S16 32) a x).toNat < S4096.size a)
theorem k0_idx591_inb : ∀ (v5041 : IVec S16 32) (k0_hw594 : k0_chk594 v5041), ∀ a x, ((![v5041] : Fin 1 → IVec S16 32) a x).toNat < S4096.size a := fun v5041 k0_hw594 => k0_hw594

def k0_chk595 (v5049 : IVec S16 32) : Prop :=
  (∀ a x, ((![v5049] : Fin 1 → IVec S16 32) a x).toNat < S4096.size a)
theorem k0_idx592_inb : ∀ (v5049 : IVec S16 32) (k0_hw595 : k0_chk595 v5049), ∀ a x, ((![v5049] : Fin 1 → IVec S16 32) a x).toNat < S4096.size a := fun v5049 k0_hw595 => k0_hw595

def k0_chk596 (v5057 : IVec S16 32) : Prop :=
  (∀ a x, ((![v5057] : Fin 1 → IVec S16 32) a x).toNat < S4096.size a)
theorem k0_idx593_inb : ∀ (v5057 : IVec S16 32) (k0_hw596 : k0_chk596 v5057), ∀ a x, ((![v5057] : Fin 1 → IVec S16 32) a x).toNat < S4096.size a := fun v5057 k0_hw596 => k0_hw596

def k0_chk597 (v5065 : IVec S16 32) : Prop :=
  (∀ a x, ((![v5065] : Fin 1 → IVec S16 32) a x).toNat < S4096.size a)
theorem k0_idx594_inb : ∀ (v5065 : IVec S16 32) (k0_hw597 : k0_chk597 v5065), ∀ a x, ((![v5065] : Fin 1 → IVec S16 32) a x).toNat < S4096.size a := fun v5065 k0_hw597 => k0_hw597

def k0_chk598 (v5073 : IVec S16 32) : Prop :=
  (∀ a x, ((![v5073] : Fin 1 → IVec S16 32) a x).toNat < S4096.size a)
theorem k0_idx595_inb : ∀ (v5073 : IVec S16 32) (k0_hw598 : k0_chk598 v5073), ∀ a x, ((![v5073] : Fin 1 → IVec S16 32) a x).toNat < S4096.size a := fun v5073 k0_hw598 => k0_hw598

def k0_chk599 (v5081 : IVec S16 32) : Prop :=
  (∀ a x, ((![v5081] : Fin 1 → IVec S16 32) a x).toNat < S4096.size a)
theorem k0_idx596_inb : ∀ (v5081 : IVec S16 32) (k0_hw599 : k0_chk599 v5081), ∀ a x, ((![v5081] : Fin 1 → IVec S16 32) a x).toNat < S4096.size a := fun v5081 k0_hw599 => k0_hw599

def k0_chk600 (v5092 : IVec S16 32) : Prop :=
  (∀ a x, ((![v5092] : Fin 1 → IVec S16 32) a x).toNat < S4096.size a)
theorem k0_idx597_inb : ∀ (v5092 : IVec S16 32) (k0_hw600 : k0_chk600 v5092), ∀ a x, ((![v5092] : Fin 1 → IVec S16 32) a x).toNat < S4096.size a := fun v5092 k0_hw600 => k0_hw600

def k0_chk601 (v5100 : IVec S16 32) : Prop :=
  (∀ a x, ((![v5100] : Fin 1 → IVec S16 32) a x).toNat < S4096.size a)
theorem k0_idx598_inb : ∀ (v5100 : IVec S16 32) (k0_hw601 : k0_chk601 v5100), ∀ a x, ((![v5100] : Fin 1 → IVec S16 32) a x).toNat < S4096.size a := fun v5100 k0_hw601 => k0_hw601

def k0_chk602 (v5108 : IVec S16 32) : Prop :=
  (∀ a x, ((![v5108] : Fin 1 → IVec S16 32) a x).toNat < S4096.size a)
theorem k0_idx599_inb : ∀ (v5108 : IVec S16 32) (k0_hw602 : k0_chk602 v5108), ∀ a x, ((![v5108] : Fin 1 → IVec S16 32) a x).toNat < S4096.size a := fun v5108 k0_hw602 => k0_hw602

def k0_chk603 (v5116 : IVec S16 32) : Prop :=
  (∀ a x, ((![v5116] : Fin 1 → IVec S16 32) a x).toNat < S4096.size a)
theorem k0_idx600_inb : ∀ (v5116 : IVec S16 32) (k0_hw603 : k0_chk603 v5116), ∀ a x, ((![v5116] : Fin 1 → IVec S16 32) a x).toNat < S4096.size a := fun v5116 k0_hw603 => k0_hw603

def k0_chk604 (v5124 : IVec S16 32) : Prop :=
  (∀ a x, ((![v5124] : Fin 1 → IVec S16 32) a x).toNat < S4096.size a)
theorem k0_idx601_inb : ∀ (v5124 : IVec S16 32) (k0_hw604 : k0_chk604 v5124), ∀ a x, ((![v5124] : Fin 1 → IVec S16 32) a x).toNat < S4096.size a := fun v5124 k0_hw604 => k0_hw604

def k0_chk605 (v5132 : IVec S16 32) : Prop :=
  (∀ a x, ((![v5132] : Fin 1 → IVec S16 32) a x).toNat < S4096.size a)
theorem k0_idx602_inb : ∀ (v5132 : IVec S16 32) (k0_hw605 : k0_chk605 v5132), ∀ a x, ((![v5132] : Fin 1 → IVec S16 32) a x).toNat < S4096.size a := fun v5132 k0_hw605 => k0_hw605

def k0_chk606 (v5140 : IVec S16 32) : Prop :=
  (∀ a x, ((![v5140] : Fin 1 → IVec S16 32) a x).toNat < S4096.size a)
theorem k0_idx603_inb : ∀ (v5140 : IVec S16 32) (k0_hw606 : k0_chk606 v5140), ∀ a x, ((![v5140] : Fin 1 → IVec S16 32) a x).toNat < S4096.size a := fun v5140 k0_hw606 => k0_hw606

def k0_chk607 (v5148 : IVec S16 32) : Prop :=
  (∀ a x, ((![v5148] : Fin 1 → IVec S16 32) a x).toNat < S4096.size a)
theorem k0_idx604_inb : ∀ (v5148 : IVec S16 32) (k0_hw607 : k0_chk607 v5148), ∀ a x, ((![v5148] : Fin 1 → IVec S16 32) a x).toNat < S4096.size a := fun v5148 k0_hw607 => k0_hw607

def k0_chk608 (v5156 : IVec S16 32) : Prop :=
  (∀ a x, ((![v5156] : Fin 1 → IVec S16 32) a x).toNat < S4096.size a)
theorem k0_idx605_inb : ∀ (v5156 : IVec S16 32) (k0_hw608 : k0_chk608 v5156), ∀ a x, ((![v5156] : Fin 1 → IVec S16 32) a x).toNat < S4096.size a := fun v5156 k0_hw608 => k0_hw608

def k0_chk609 (v5164 : IVec S16 32) : Prop :=
  (∀ a x, ((![v5164] : Fin 1 → IVec S16 32) a x).toNat < S4096.size a)
theorem k0_idx606_inb : ∀ (v5164 : IVec S16 32) (k0_hw609 : k0_chk609 v5164), ∀ a x, ((![v5164] : Fin 1 → IVec S16 32) a x).toNat < S4096.size a := fun v5164 k0_hw609 => k0_hw609

def k0_chk610 (v5172 : IVec S16 32) : Prop :=
  (∀ a x, ((![v5172] : Fin 1 → IVec S16 32) a x).toNat < S4096.size a)
theorem k0_idx607_inb : ∀ (v5172 : IVec S16 32) (k0_hw610 : k0_chk610 v5172), ∀ a x, ((![v5172] : Fin 1 → IVec S16 32) a x).toNat < S4096.size a := fun v5172 k0_hw610 => k0_hw610

def k0_chk611 (v5180 : IVec S16 32) : Prop :=
  (∀ a x, ((![v5180] : Fin 1 → IVec S16 32) a x).toNat < S4096.size a)
theorem k0_idx608_inb : ∀ (v5180 : IVec S16 32) (k0_hw611 : k0_chk611 v5180), ∀ a x, ((![v5180] : Fin 1 → IVec S16 32) a x).toNat < S4096.size a := fun v5180 k0_hw611 => k0_hw611

def k0_chk612 (v5188 : IVec S16 32) : Prop :=
  (∀ a x, ((![v5188] : Fin 1 → IVec S16 32) a x).toNat < S4096.size a)
theorem k0_idx609_inb : ∀ (v5188 : IVec S16 32) (k0_hw612 : k0_chk612 v5188), ∀ a x, ((![v5188] : Fin 1 → IVec S16 32) a x).toNat < S4096.size a := fun v5188 k0_hw612 => k0_hw612

def k0_chk613 (v5196 : IVec S16 32) : Prop :=
  (∀ a x, ((![v5196] : Fin 1 → IVec S16 32) a x).toNat < S4096.size a)
theorem k0_idx610_inb : ∀ (v5196 : IVec S16 32) (k0_hw613 : k0_chk613 v5196), ∀ a x, ((![v5196] : Fin 1 → IVec S16 32) a x).toNat < S4096.size a := fun v5196 k0_hw613 => k0_hw613

def k0_chk614 (v5204 : IVec S16 32) : Prop :=
  (∀ a x, ((![v5204] : Fin 1 → IVec S16 32) a x).toNat < S4096.size a)
theorem k0_idx611_inb : ∀ (v5204 : IVec S16 32) (k0_hw614 : k0_chk614 v5204), ∀ a x, ((![v5204] : Fin 1 → IVec S16 32) a x).toNat < S4096.size a := fun v5204 k0_hw614 => k0_hw614

def k0_chk615 (v5212 : IVec S16 32) : Prop :=
  (∀ a x, ((![v5212] : Fin 1 → IVec S16 32) a x).toNat < S4096.size a)
theorem k0_idx612_inb : ∀ (v5212 : IVec S16 32) (k0_hw615 : k0_chk615 v5212), ∀ a x, ((![v5212] : Fin 1 → IVec S16 32) a x).toNat < S4096.size a := fun v5212 k0_hw615 => k0_hw615

def k0_chk616 (v5223 : IVec S16 32) : Prop :=
  (∀ a x, ((![v5223] : Fin 1 → IVec S16 32) a x).toNat < S4096.size a)
theorem k0_idx613_inb : ∀ (v5223 : IVec S16 32) (k0_hw616 : k0_chk616 v5223), ∀ a x, ((![v5223] : Fin 1 → IVec S16 32) a x).toNat < S4096.size a := fun v5223 k0_hw616 => k0_hw616

def k0_chk617 (v5231 : IVec S16 32) : Prop :=
  (∀ a x, ((![v5231] : Fin 1 → IVec S16 32) a x).toNat < S4096.size a)
theorem k0_idx614_inb : ∀ (v5231 : IVec S16 32) (k0_hw617 : k0_chk617 v5231), ∀ a x, ((![v5231] : Fin 1 → IVec S16 32) a x).toNat < S4096.size a := fun v5231 k0_hw617 => k0_hw617

def k0_chk618 (v5239 : IVec S16 32) : Prop :=
  (∀ a x, ((![v5239] : Fin 1 → IVec S16 32) a x).toNat < S4096.size a)
theorem k0_idx615_inb : ∀ (v5239 : IVec S16 32) (k0_hw618 : k0_chk618 v5239), ∀ a x, ((![v5239] : Fin 1 → IVec S16 32) a x).toNat < S4096.size a := fun v5239 k0_hw618 => k0_hw618

def k0_chk619 (v5247 : IVec S16 32) : Prop :=
  (∀ a x, ((![v5247] : Fin 1 → IVec S16 32) a x).toNat < S4096.size a)
theorem k0_idx616_inb : ∀ (v5247 : IVec S16 32) (k0_hw619 : k0_chk619 v5247), ∀ a x, ((![v5247] : Fin 1 → IVec S16 32) a x).toNat < S4096.size a := fun v5247 k0_hw619 => k0_hw619

def k0_chk620 (v5255 : IVec S16 32) : Prop :=
  (∀ a x, ((![v5255] : Fin 1 → IVec S16 32) a x).toNat < S4096.size a)
theorem k0_idx617_inb : ∀ (v5255 : IVec S16 32) (k0_hw620 : k0_chk620 v5255), ∀ a x, ((![v5255] : Fin 1 → IVec S16 32) a x).toNat < S4096.size a := fun v5255 k0_hw620 => k0_hw620

def k0_chk621 (v5263 : IVec S16 32) : Prop :=
  (∀ a x, ((![v5263] : Fin 1 → IVec S16 32) a x).toNat < S4096.size a)
theorem k0_idx618_inb : ∀ (v5263 : IVec S16 32) (k0_hw621 : k0_chk621 v5263), ∀ a x, ((![v5263] : Fin 1 → IVec S16 32) a x).toNat < S4096.size a := fun v5263 k0_hw621 => k0_hw621

def k0_chk622 (v5271 : IVec S16 32) : Prop :=
  (∀ a x, ((![v5271] : Fin 1 → IVec S16 32) a x).toNat < S4096.size a)
theorem k0_idx619_inb : ∀ (v5271 : IVec S16 32) (k0_hw622 : k0_chk622 v5271), ∀ a x, ((![v5271] : Fin 1 → IVec S16 32) a x).toNat < S4096.size a := fun v5271 k0_hw622 => k0_hw622

def k0_chk623 (v5279 : IVec S16 32) : Prop :=
  (∀ a x, ((![v5279] : Fin 1 → IVec S16 32) a x).toNat < S4096.size a)
theorem k0_idx620_inb : ∀ (v5279 : IVec S16 32) (k0_hw623 : k0_chk623 v5279), ∀ a x, ((![v5279] : Fin 1 → IVec S16 32) a x).toNat < S4096.size a := fun v5279 k0_hw623 => k0_hw623

def k0_chk624 (v5287 : IVec S16 32) : Prop :=
  (∀ a x, ((![v5287] : Fin 1 → IVec S16 32) a x).toNat < S4096.size a)
theorem k0_idx621_inb : ∀ (v5287 : IVec S16 32) (k0_hw624 : k0_chk624 v5287), ∀ a x, ((![v5287] : Fin 1 → IVec S16 32) a x).toNat < S4096.size a := fun v5287 k0_hw624 => k0_hw624

def k0_chk625 (v5295 : IVec S16 32) : Prop :=
  (∀ a x, ((![v5295] : Fin 1 → IVec S16 32) a x).toNat < S4096.size a)
theorem k0_idx622_inb : ∀ (v5295 : IVec S16 32) (k0_hw625 : k0_chk625 v5295), ∀ a x, ((![v5295] : Fin 1 → IVec S16 32) a x).toNat < S4096.size a := fun v5295 k0_hw625 => k0_hw625

def k0_chk626 (v5303 : IVec S16 32) : Prop :=
  (∀ a x, ((![v5303] : Fin 1 → IVec S16 32) a x).toNat < S4096.size a)
theorem k0_idx623_inb : ∀ (v5303 : IVec S16 32) (k0_hw626 : k0_chk626 v5303), ∀ a x, ((![v5303] : Fin 1 → IVec S16 32) a x).toNat < S4096.size a := fun v5303 k0_hw626 => k0_hw626

def k0_chk627 (v5311 : IVec S16 32) : Prop :=
  (∀ a x, ((![v5311] : Fin 1 → IVec S16 32) a x).toNat < S4096.size a)
theorem k0_idx624_inb : ∀ (v5311 : IVec S16 32) (k0_hw627 : k0_chk627 v5311), ∀ a x, ((![v5311] : Fin 1 → IVec S16 32) a x).toNat < S4096.size a := fun v5311 k0_hw627 => k0_hw627

def k0_chk628 (v5319 : IVec S16 32) : Prop :=
  (∀ a x, ((![v5319] : Fin 1 → IVec S16 32) a x).toNat < S4096.size a)
theorem k0_idx625_inb : ∀ (v5319 : IVec S16 32) (k0_hw628 : k0_chk628 v5319), ∀ a x, ((![v5319] : Fin 1 → IVec S16 32) a x).toNat < S4096.size a := fun v5319 k0_hw628 => k0_hw628

def k0_chk629 (v5327 : IVec S16 32) : Prop :=
  (∀ a x, ((![v5327] : Fin 1 → IVec S16 32) a x).toNat < S4096.size a)
theorem k0_idx626_inb : ∀ (v5327 : IVec S16 32) (k0_hw629 : k0_chk629 v5327), ∀ a x, ((![v5327] : Fin 1 → IVec S16 32) a x).toNat < S4096.size a := fun v5327 k0_hw629 => k0_hw629

def k0_chk630 (v5335 : IVec S16 32) : Prop :=
  (∀ a x, ((![v5335] : Fin 1 → IVec S16 32) a x).toNat < S4096.size a)
theorem k0_idx627_inb : ∀ (v5335 : IVec S16 32) (k0_hw630 : k0_chk630 v5335), ∀ a x, ((![v5335] : Fin 1 → IVec S16 32) a x).toNat < S4096.size a := fun v5335 k0_hw630 => k0_hw630

def k0_chk631 (v5343 : IVec S16 32) : Prop :=
  (∀ a x, ((![v5343] : Fin 1 → IVec S16 32) a x).toNat < S4096.size a)
theorem k0_idx628_inb : ∀ (v5343 : IVec S16 32) (k0_hw631 : k0_chk631 v5343), ∀ a x, ((![v5343] : Fin 1 → IVec S16 32) a x).toNat < S4096.size a := fun v5343 k0_hw631 => k0_hw631

def k0_chk632 (v5354 : IVec S16 32) : Prop :=
  (∀ a x, ((![v5354] : Fin 1 → IVec S16 32) a x).toNat < S4096.size a)
theorem k0_idx629_inb : ∀ (v5354 : IVec S16 32) (k0_hw632 : k0_chk632 v5354), ∀ a x, ((![v5354] : Fin 1 → IVec S16 32) a x).toNat < S4096.size a := fun v5354 k0_hw632 => k0_hw632

def k0_chk633 (v5362 : IVec S16 32) : Prop :=
  (∀ a x, ((![v5362] : Fin 1 → IVec S16 32) a x).toNat < S4096.size a)
theorem k0_idx630_inb : ∀ (v5362 : IVec S16 32) (k0_hw633 : k0_chk633 v5362), ∀ a x, ((![v5362] : Fin 1 → IVec S16 32) a x).toNat < S4096.size a := fun v5362 k0_hw633 => k0_hw633

def k0_chk634 (v5370 : IVec S16 32) : Prop :=
  (∀ a x, ((![v5370] : Fin 1 → IVec S16 32) a x).toNat < S4096.size a)
theorem k0_idx631_inb : ∀ (v5370 : IVec S16 32) (k0_hw634 : k0_chk634 v5370), ∀ a x, ((![v5370] : Fin 1 → IVec S16 32) a x).toNat < S4096.size a := fun v5370 k0_hw634 => k0_hw634

def k0_chk635 (v5378 : IVec S16 32) : Prop :=
  (∀ a x, ((![v5378] : Fin 1 → IVec S16 32) a x).toNat < S4096.size a)
theorem k0_idx632_inb : ∀ (v5378 : IVec S16 32) (k0_hw635 : k0_chk635 v5378), ∀ a x, ((![v5378] : Fin 1 → IVec S16 32) a x).toNat < S4096.size a := fun v5378 k0_hw635 => k0_hw635

def k0_chk636 (v5386 : IVec S16 32) : Prop :=
  (∀ a x, ((![v5386] : Fin 1 → IVec S16 32) a x).toNat < S4096.size a)
theorem k0_idx633_inb : ∀ (v5386 : IVec S16 32) (k0_hw636 : k0_chk636 v5386), ∀ a x, ((![v5386] : Fin 1 → IVec S16 32) a x).toNat < S4096.size a := fun v5386 k0_hw636 => k0_hw636

def k0_chk637 (v5394 : IVec S16 32) : Prop :=
  (∀ a x, ((![v5394] : Fin 1 → IVec S16 32) a x).toNat < S4096.size a)
theorem k0_idx634_inb : ∀ (v5394 : IVec S16 32) (k0_hw637 : k0_chk637 v5394), ∀ a x, ((![v5394] : Fin 1 → IVec S16 32) a x).toNat < S4096.size a := fun v5394 k0_hw637 => k0_hw637

def k0_chk638 (v5402 : IVec S16 32) : Prop :=
  (∀ a x, ((![v5402] : Fin 1 → IVec S16 32) a x).toNat < S4096.size a)
theorem k0_idx635_inb : ∀ (v5402 : IVec S16 32) (k0_hw638 : k0_chk638 v5402), ∀ a x, ((![v5402] : Fin 1 → IVec S16 32) a x).toNat < S4096.size a := fun v5402 k0_hw638 => k0_hw638

def k0_chk639 (v5410 : IVec S16 32) : Prop :=
  (∀ a x, ((![v5410] : Fin 1 → IVec S16 32) a x).toNat < S4096.size a)
theorem k0_idx636_inb : ∀ (v5410 : IVec S16 32) (k0_hw639 : k0_chk639 v5410), ∀ a x, ((![v5410] : Fin 1 → IVec S16 32) a x).toNat < S4096.size a := fun v5410 k0_hw639 => k0_hw639

def k0_chk640 (v5418 : IVec S16 32) : Prop :=
  (∀ a x, ((![v5418] : Fin 1 → IVec S16 32) a x).toNat < S4096.size a)
theorem k0_idx637_inb : ∀ (v5418 : IVec S16 32) (k0_hw640 : k0_chk640 v5418), ∀ a x, ((![v5418] : Fin 1 → IVec S16 32) a x).toNat < S4096.size a := fun v5418 k0_hw640 => k0_hw640

def k0_chk641 (v5426 : IVec S16 32) : Prop :=
  (∀ a x, ((![v5426] : Fin 1 → IVec S16 32) a x).toNat < S4096.size a)
theorem k0_idx638_inb : ∀ (v5426 : IVec S16 32) (k0_hw641 : k0_chk641 v5426), ∀ a x, ((![v5426] : Fin 1 → IVec S16 32) a x).toNat < S4096.size a := fun v5426 k0_hw641 => k0_hw641

def k0_chk642 (v5434 : IVec S16 32) : Prop :=
  (∀ a x, ((![v5434] : Fin 1 → IVec S16 32) a x).toNat < S4096.size a)
theorem k0_idx639_inb : ∀ (v5434 : IVec S16 32) (k0_hw642 : k0_chk642 v5434), ∀ a x, ((![v5434] : Fin 1 → IVec S16 32) a x).toNat < S4096.size a := fun v5434 k0_hw642 => k0_hw642

def k0_chk643 (v5442 : IVec S16 32) : Prop :=
  (∀ a x, ((![v5442] : Fin 1 → IVec S16 32) a x).toNat < S4096.size a)
theorem k0_idx640_inb : ∀ (v5442 : IVec S16 32) (k0_hw643 : k0_chk643 v5442), ∀ a x, ((![v5442] : Fin 1 → IVec S16 32) a x).toNat < S4096.size a := fun v5442 k0_hw643 => k0_hw643

def k0_chk644 (v5450 : IVec S16 32) : Prop :=
  (∀ a x, ((![v5450] : Fin 1 → IVec S16 32) a x).toNat < S4096.size a)
theorem k0_idx641_inb : ∀ (v5450 : IVec S16 32) (k0_hw644 : k0_chk644 v5450), ∀ a x, ((![v5450] : Fin 1 → IVec S16 32) a x).toNat < S4096.size a := fun v5450 k0_hw644 => k0_hw644

def k0_chk645 (v5458 : IVec S16 32) : Prop :=
  (∀ a x, ((![v5458] : Fin 1 → IVec S16 32) a x).toNat < S4096.size a)
theorem k0_idx642_inb : ∀ (v5458 : IVec S16 32) (k0_hw645 : k0_chk645 v5458), ∀ a x, ((![v5458] : Fin 1 → IVec S16 32) a x).toNat < S4096.size a := fun v5458 k0_hw645 => k0_hw645

def k0_chk646 (v5466 : IVec S16 32) : Prop :=
  (∀ a x, ((![v5466] : Fin 1 → IVec S16 32) a x).toNat < S4096.size a)
theorem k0_idx643_inb : ∀ (v5466 : IVec S16 32) (k0_hw646 : k0_chk646 v5466), ∀ a x, ((![v5466] : Fin 1 → IVec S16 32) a x).toNat < S4096.size a := fun v5466 k0_hw646 => k0_hw646

def k0_chk647 (v5474 : IVec S16 32) : Prop :=
  (∀ a x, ((![v5474] : Fin 1 → IVec S16 32) a x).toNat < S4096.size a)
theorem k0_idx644_inb : ∀ (v5474 : IVec S16 32) (k0_hw647 : k0_chk647 v5474), ∀ a x, ((![v5474] : Fin 1 → IVec S16 32) a x).toNat < S4096.size a := fun v5474 k0_hw647 => k0_hw647

def k0_chk648 (v5485 : IVec S16 32) : Prop :=
  (∀ a x, ((![v5485] : Fin 1 → IVec S16 32) a x).toNat < S4096.size a)
theorem k0_idx645_inb : ∀ (v5485 : IVec S16 32) (k0_hw648 : k0_chk648 v5485), ∀ a x, ((![v5485] : Fin 1 → IVec S16 32) a x).toNat < S4096.size a := fun v5485 k0_hw648 => k0_hw648

def k0_chk649 (v5493 : IVec S16 32) : Prop :=
  (∀ a x, ((![v5493] : Fin 1 → IVec S16 32) a x).toNat < S4096.size a)
theorem k0_idx646_inb : ∀ (v5493 : IVec S16 32) (k0_hw649 : k0_chk649 v5493), ∀ a x, ((![v5493] : Fin 1 → IVec S16 32) a x).toNat < S4096.size a := fun v5493 k0_hw649 => k0_hw649

def k0_chk650 (v5501 : IVec S16 32) : Prop :=
  (∀ a x, ((![v5501] : Fin 1 → IVec S16 32) a x).toNat < S4096.size a)
theorem k0_idx647_inb : ∀ (v5501 : IVec S16 32) (k0_hw650 : k0_chk650 v5501), ∀ a x, ((![v5501] : Fin 1 → IVec S16 32) a x).toNat < S4096.size a := fun v5501 k0_hw650 => k0_hw650

def k0_chk651 (v5509 : IVec S16 32) : Prop :=
  (∀ a x, ((![v5509] : Fin 1 → IVec S16 32) a x).toNat < S4096.size a)
theorem k0_idx648_inb : ∀ (v5509 : IVec S16 32) (k0_hw651 : k0_chk651 v5509), ∀ a x, ((![v5509] : Fin 1 → IVec S16 32) a x).toNat < S4096.size a := fun v5509 k0_hw651 => k0_hw651

def k0_chk652 (v5517 : IVec S16 32) : Prop :=
  (∀ a x, ((![v5517] : Fin 1 → IVec S16 32) a x).toNat < S4096.size a)
theorem k0_idx649_inb : ∀ (v5517 : IVec S16 32) (k0_hw652 : k0_chk652 v5517), ∀ a x, ((![v5517] : Fin 1 → IVec S16 32) a x).toNat < S4096.size a := fun v5517 k0_hw652 => k0_hw652

def k0_chk653 (v5525 : IVec S16 32) : Prop :=
  (∀ a x, ((![v5525] : Fin 1 → IVec S16 32) a x).toNat < S4096.size a)
theorem k0_idx650_inb : ∀ (v5525 : IVec S16 32) (k0_hw653 : k0_chk653 v5525), ∀ a x, ((![v5525] : Fin 1 → IVec S16 32) a x).toNat < S4096.size a := fun v5525 k0_hw653 => k0_hw653

def k0_chk654 (v5533 : IVec S16 32) : Prop :=
  (∀ a x, ((![v5533] : Fin 1 → IVec S16 32) a x).toNat < S4096.size a)
theorem k0_idx651_inb : ∀ (v5533 : IVec S16 32) (k0_hw654 : k0_chk654 v5533), ∀ a x, ((![v5533] : Fin 1 → IVec S16 32) a x).toNat < S4096.size a := fun v5533 k0_hw654 => k0_hw654

def k0_chk655 (v5541 : IVec S16 32) : Prop :=
  (∀ a x, ((![v5541] : Fin 1 → IVec S16 32) a x).toNat < S4096.size a)
theorem k0_idx652_inb : ∀ (v5541 : IVec S16 32) (k0_hw655 : k0_chk655 v5541), ∀ a x, ((![v5541] : Fin 1 → IVec S16 32) a x).toNat < S4096.size a := fun v5541 k0_hw655 => k0_hw655

def k0_chk656 (v5549 : IVec S16 32) : Prop :=
  (∀ a x, ((![v5549] : Fin 1 → IVec S16 32) a x).toNat < S4096.size a)
theorem k0_idx653_inb : ∀ (v5549 : IVec S16 32) (k0_hw656 : k0_chk656 v5549), ∀ a x, ((![v5549] : Fin 1 → IVec S16 32) a x).toNat < S4096.size a := fun v5549 k0_hw656 => k0_hw656

def k0_chk657 (v5557 : IVec S16 32) : Prop :=
  (∀ a x, ((![v5557] : Fin 1 → IVec S16 32) a x).toNat < S4096.size a)
theorem k0_idx654_inb : ∀ (v5557 : IVec S16 32) (k0_hw657 : k0_chk657 v5557), ∀ a x, ((![v5557] : Fin 1 → IVec S16 32) a x).toNat < S4096.size a := fun v5557 k0_hw657 => k0_hw657

def k0_chk658 (v5565 : IVec S16 32) : Prop :=
  (∀ a x, ((![v5565] : Fin 1 → IVec S16 32) a x).toNat < S4096.size a)
theorem k0_idx655_inb : ∀ (v5565 : IVec S16 32) (k0_hw658 : k0_chk658 v5565), ∀ a x, ((![v5565] : Fin 1 → IVec S16 32) a x).toNat < S4096.size a := fun v5565 k0_hw658 => k0_hw658

def k0_chk659 (v5573 : IVec S16 32) : Prop :=
  (∀ a x, ((![v5573] : Fin 1 → IVec S16 32) a x).toNat < S4096.size a)
theorem k0_idx656_inb : ∀ (v5573 : IVec S16 32) (k0_hw659 : k0_chk659 v5573), ∀ a x, ((![v5573] : Fin 1 → IVec S16 32) a x).toNat < S4096.size a := fun v5573 k0_hw659 => k0_hw659

def k0_chk660 (v5581 : IVec S16 32) : Prop :=
  (∀ a x, ((![v5581] : Fin 1 → IVec S16 32) a x).toNat < S4096.size a)
theorem k0_idx657_inb : ∀ (v5581 : IVec S16 32) (k0_hw660 : k0_chk660 v5581), ∀ a x, ((![v5581] : Fin 1 → IVec S16 32) a x).toNat < S4096.size a := fun v5581 k0_hw660 => k0_hw660

def k0_chk661 (v5589 : IVec S16 32) : Prop :=
  (∀ a x, ((![v5589] : Fin 1 → IVec S16 32) a x).toNat < S4096.size a)
theorem k0_idx658_inb : ∀ (v5589 : IVec S16 32) (k0_hw661 : k0_chk661 v5589), ∀ a x, ((![v5589] : Fin 1 → IVec S16 32) a x).toNat < S4096.size a := fun v5589 k0_hw661 => k0_hw661

def k0_chk662 (v5597 : IVec S16 32) : Prop :=
  (∀ a x, ((![v5597] : Fin 1 → IVec S16 32) a x).toNat < S4096.size a)
theorem k0_idx659_inb : ∀ (v5597 : IVec S16 32) (k0_hw662 : k0_chk662 v5597), ∀ a x, ((![v5597] : Fin 1 → IVec S16 32) a x).toNat < S4096.size a := fun v5597 k0_hw662 => k0_hw662

def k0_chk663 (v5605 : IVec S16 32) : Prop :=
  (∀ a x, ((![v5605] : Fin 1 → IVec S16 32) a x).toNat < S4096.size a)
theorem k0_idx660_inb : ∀ (v5605 : IVec S16 32) (k0_hw663 : k0_chk663 v5605), ∀ a x, ((![v5605] : Fin 1 → IVec S16 32) a x).toNat < S4096.size a := fun v5605 k0_hw663 => k0_hw663

def k0_chk664 (v5616 : IVec S16 32) : Prop :=
  (∀ a x, ((![v5616] : Fin 1 → IVec S16 32) a x).toNat < S4096.size a)
theorem k0_idx661_inb : ∀ (v5616 : IVec S16 32) (k0_hw664 : k0_chk664 v5616), ∀ a x, ((![v5616] : Fin 1 → IVec S16 32) a x).toNat < S4096.size a := fun v5616 k0_hw664 => k0_hw664

def k0_chk665 (v5624 : IVec S16 32) : Prop :=
  (∀ a x, ((![v5624] : Fin 1 → IVec S16 32) a x).toNat < S4096.size a)
theorem k0_idx662_inb : ∀ (v5624 : IVec S16 32) (k0_hw665 : k0_chk665 v5624), ∀ a x, ((![v5624] : Fin 1 → IVec S16 32) a x).toNat < S4096.size a := fun v5624 k0_hw665 => k0_hw665

def k0_chk666 (v5632 : IVec S16 32) : Prop :=
  (∀ a x, ((![v5632] : Fin 1 → IVec S16 32) a x).toNat < S4096.size a)
theorem k0_idx663_inb : ∀ (v5632 : IVec S16 32) (k0_hw666 : k0_chk666 v5632), ∀ a x, ((![v5632] : Fin 1 → IVec S16 32) a x).toNat < S4096.size a := fun v5632 k0_hw666 => k0_hw666

def k0_chk667 (v5640 : IVec S16 32) : Prop :=
  (∀ a x, ((![v5640] : Fin 1 → IVec S16 32) a x).toNat < S4096.size a)
theorem k0_idx664_inb : ∀ (v5640 : IVec S16 32) (k0_hw667 : k0_chk667 v5640), ∀ a x, ((![v5640] : Fin 1 → IVec S16 32) a x).toNat < S4096.size a := fun v5640 k0_hw667 => k0_hw667

def k0_chk668 (v5648 : IVec S16 32) : Prop :=
  (∀ a x, ((![v5648] : Fin 1 → IVec S16 32) a x).toNat < S4096.size a)
theorem k0_idx665_inb : ∀ (v5648 : IVec S16 32) (k0_hw668 : k0_chk668 v5648), ∀ a x, ((![v5648] : Fin 1 → IVec S16 32) a x).toNat < S4096.size a := fun v5648 k0_hw668 => k0_hw668

def k0_chk669 (v5656 : IVec S16 32) : Prop :=
  (∀ a x, ((![v5656] : Fin 1 → IVec S16 32) a x).toNat < S4096.size a)
theorem k0_idx666_inb : ∀ (v5656 : IVec S16 32) (k0_hw669 : k0_chk669 v5656), ∀ a x, ((![v5656] : Fin 1 → IVec S16 32) a x).toNat < S4096.size a := fun v5656 k0_hw669 => k0_hw669

def k0_chk670 (v5664 : IVec S16 32) : Prop :=
  (∀ a x, ((![v5664] : Fin 1 → IVec S16 32) a x).toNat < S4096.size a)
theorem k0_idx667_inb : ∀ (v5664 : IVec S16 32) (k0_hw670 : k0_chk670 v5664), ∀ a x, ((![v5664] : Fin 1 → IVec S16 32) a x).toNat < S4096.size a := fun v5664 k0_hw670 => k0_hw670

def k0_chk671 (v5672 : IVec S16 32) : Prop :=
  (∀ a x, ((![v5672] : Fin 1 → IVec S16 32) a x).toNat < S4096.size a)
theorem k0_idx668_inb : ∀ (v5672 : IVec S16 32) (k0_hw671 : k0_chk671 v5672), ∀ a x, ((![v5672] : Fin 1 → IVec S16 32) a x).toNat < S4096.size a := fun v5672 k0_hw671 => k0_hw671

def k0_chk672 (v5680 : IVec S16 32) : Prop :=
  (∀ a x, ((![v5680] : Fin 1 → IVec S16 32) a x).toNat < S4096.size a)
theorem k0_idx669_inb : ∀ (v5680 : IVec S16 32) (k0_hw672 : k0_chk672 v5680), ∀ a x, ((![v5680] : Fin 1 → IVec S16 32) a x).toNat < S4096.size a := fun v5680 k0_hw672 => k0_hw672

def k0_chk673 (v5688 : IVec S16 32) : Prop :=
  (∀ a x, ((![v5688] : Fin 1 → IVec S16 32) a x).toNat < S4096.size a)
theorem k0_idx670_inb : ∀ (v5688 : IVec S16 32) (k0_hw673 : k0_chk673 v5688), ∀ a x, ((![v5688] : Fin 1 → IVec S16 32) a x).toNat < S4096.size a := fun v5688 k0_hw673 => k0_hw673

def k0_chk674 (v5696 : IVec S16 32) : Prop :=
  (∀ a x, ((![v5696] : Fin 1 → IVec S16 32) a x).toNat < S4096.size a)
theorem k0_idx671_inb : ∀ (v5696 : IVec S16 32) (k0_hw674 : k0_chk674 v5696), ∀ a x, ((![v5696] : Fin 1 → IVec S16 32) a x).toNat < S4096.size a := fun v5696 k0_hw674 => k0_hw674

def k0_chk675 (v5704 : IVec S16 32) : Prop :=
  (∀ a x, ((![v5704] : Fin 1 → IVec S16 32) a x).toNat < S4096.size a)
theorem k0_idx672_inb : ∀ (v5704 : IVec S16 32) (k0_hw675 : k0_chk675 v5704), ∀ a x, ((![v5704] : Fin 1 → IVec S16 32) a x).toNat < S4096.size a := fun v5704 k0_hw675 => k0_hw675

def k0_chk676 (v5712 : IVec S16 32) : Prop :=
  (∀ a x, ((![v5712] : Fin 1 → IVec S16 32) a x).toNat < S4096.size a)
theorem k0_idx673_inb : ∀ (v5712 : IVec S16 32) (k0_hw676 : k0_chk676 v5712), ∀ a x, ((![v5712] : Fin 1 → IVec S16 32) a x).toNat < S4096.size a := fun v5712 k0_hw676 => k0_hw676

def k0_chk677 (v5720 : IVec S16 32) : Prop :=
  (∀ a x, ((![v5720] : Fin 1 → IVec S16 32) a x).toNat < S4096.size a)
theorem k0_idx674_inb : ∀ (v5720 : IVec S16 32) (k0_hw677 : k0_chk677 v5720), ∀ a x, ((![v5720] : Fin 1 → IVec S16 32) a x).toNat < S4096.size a := fun v5720 k0_hw677 => k0_hw677

def k0_chk678 (v5728 : IVec S16 32) : Prop :=
  (∀ a x, ((![v5728] : Fin 1 → IVec S16 32) a x).toNat < S4096.size a)
theorem k0_idx675_inb : ∀ (v5728 : IVec S16 32) (k0_hw678 : k0_chk678 v5728), ∀ a x, ((![v5728] : Fin 1 → IVec S16 32) a x).toNat < S4096.size a := fun v5728 k0_hw678 => k0_hw678

def k0_chk679 (v5736 : IVec S16 32) : Prop :=
  (∀ a x, ((![v5736] : Fin 1 → IVec S16 32) a x).toNat < S4096.size a)
theorem k0_idx676_inb : ∀ (v5736 : IVec S16 32) (k0_hw679 : k0_chk679 v5736), ∀ a x, ((![v5736] : Fin 1 → IVec S16 32) a x).toNat < S4096.size a := fun v5736 k0_hw679 => k0_hw679

def k0_chk680 (v5747 : IVec S16 32) : Prop :=
  (∀ a x, ((![v5747] : Fin 1 → IVec S16 32) a x).toNat < S4096.size a)
theorem k0_idx677_inb : ∀ (v5747 : IVec S16 32) (k0_hw680 : k0_chk680 v5747), ∀ a x, ((![v5747] : Fin 1 → IVec S16 32) a x).toNat < S4096.size a := fun v5747 k0_hw680 => k0_hw680

def k0_chk681 (v5755 : IVec S16 32) : Prop :=
  (∀ a x, ((![v5755] : Fin 1 → IVec S16 32) a x).toNat < S4096.size a)
theorem k0_idx678_inb : ∀ (v5755 : IVec S16 32) (k0_hw681 : k0_chk681 v5755), ∀ a x, ((![v5755] : Fin 1 → IVec S16 32) a x).toNat < S4096.size a := fun v5755 k0_hw681 => k0_hw681

def k0_chk682 (v5763 : IVec S16 32) : Prop :=
  (∀ a x, ((![v5763] : Fin 1 → IVec S16 32) a x).toNat < S4096.size a)
theorem k0_idx679_inb : ∀ (v5763 : IVec S16 32) (k0_hw682 : k0_chk682 v5763), ∀ a x, ((![v5763] : Fin 1 → IVec S16 32) a x).toNat < S4096.size a := fun v5763 k0_hw682 => k0_hw682

def k0_chk683 (v5771 : IVec S16 32) : Prop :=
  (∀ a x, ((![v5771] : Fin 1 → IVec S16 32) a x).toNat < S4096.size a)
theorem k0_idx680_inb : ∀ (v5771 : IVec S16 32) (k0_hw683 : k0_chk683 v5771), ∀ a x, ((![v5771] : Fin 1 → IVec S16 32) a x).toNat < S4096.size a := fun v5771 k0_hw683 => k0_hw683

def k0_chk684 (v5779 : IVec S16 32) : Prop :=
  (∀ a x, ((![v5779] : Fin 1 → IVec S16 32) a x).toNat < S4096.size a)
theorem k0_idx681_inb : ∀ (v5779 : IVec S16 32) (k0_hw684 : k0_chk684 v5779), ∀ a x, ((![v5779] : Fin 1 → IVec S16 32) a x).toNat < S4096.size a := fun v5779 k0_hw684 => k0_hw684

def k0_chk685 (v5787 : IVec S16 32) : Prop :=
  (∀ a x, ((![v5787] : Fin 1 → IVec S16 32) a x).toNat < S4096.size a)
theorem k0_idx682_inb : ∀ (v5787 : IVec S16 32) (k0_hw685 : k0_chk685 v5787), ∀ a x, ((![v5787] : Fin 1 → IVec S16 32) a x).toNat < S4096.size a := fun v5787 k0_hw685 => k0_hw685

def k0_chk686 (v5795 : IVec S16 32) : Prop :=
  (∀ a x, ((![v5795] : Fin 1 → IVec S16 32) a x).toNat < S4096.size a)
theorem k0_idx683_inb : ∀ (v5795 : IVec S16 32) (k0_hw686 : k0_chk686 v5795), ∀ a x, ((![v5795] : Fin 1 → IVec S16 32) a x).toNat < S4096.size a := fun v5795 k0_hw686 => k0_hw686

def k0_chk687 (v5803 : IVec S16 32) : Prop :=
  (∀ a x, ((![v5803] : Fin 1 → IVec S16 32) a x).toNat < S4096.size a)
theorem k0_idx684_inb : ∀ (v5803 : IVec S16 32) (k0_hw687 : k0_chk687 v5803), ∀ a x, ((![v5803] : Fin 1 → IVec S16 32) a x).toNat < S4096.size a := fun v5803 k0_hw687 => k0_hw687

def k0_chk688 (v5811 : IVec S16 32) : Prop :=
  (∀ a x, ((![v5811] : Fin 1 → IVec S16 32) a x).toNat < S4096.size a)
theorem k0_idx685_inb : ∀ (v5811 : IVec S16 32) (k0_hw688 : k0_chk688 v5811), ∀ a x, ((![v5811] : Fin 1 → IVec S16 32) a x).toNat < S4096.size a := fun v5811 k0_hw688 => k0_hw688

def k0_chk689 (v5819 : IVec S16 32) : Prop :=
  (∀ a x, ((![v5819] : Fin 1 → IVec S16 32) a x).toNat < S4096.size a)
theorem k0_idx686_inb : ∀ (v5819 : IVec S16 32) (k0_hw689 : k0_chk689 v5819), ∀ a x, ((![v5819] : Fin 1 → IVec S16 32) a x).toNat < S4096.size a := fun v5819 k0_hw689 => k0_hw689

def k0_chk690 (v5827 : IVec S16 32) : Prop :=
  (∀ a x, ((![v5827] : Fin 1 → IVec S16 32) a x).toNat < S4096.size a)
theorem k0_idx687_inb : ∀ (v5827 : IVec S16 32) (k0_hw690 : k0_chk690 v5827), ∀ a x, ((![v5827] : Fin 1 → IVec S16 32) a x).toNat < S4096.size a := fun v5827 k0_hw690 => k0_hw690

def k0_chk691 (v5835 : IVec S16 32) : Prop :=
  (∀ a x, ((![v5835] : Fin 1 → IVec S16 32) a x).toNat < S4096.size a)
theorem k0_idx688_inb : ∀ (v5835 : IVec S16 32) (k0_hw691 : k0_chk691 v5835), ∀ a x, ((![v5835] : Fin 1 → IVec S16 32) a x).toNat < S4096.size a := fun v5835 k0_hw691 => k0_hw691

def k0_chk692 (v5843 : IVec S16 32) : Prop :=
  (∀ a x, ((![v5843] : Fin 1 → IVec S16 32) a x).toNat < S4096.size a)
theorem k0_idx689_inb : ∀ (v5843 : IVec S16 32) (k0_hw692 : k0_chk692 v5843), ∀ a x, ((![v5843] : Fin 1 → IVec S16 32) a x).toNat < S4096.size a := fun v5843 k0_hw692 => k0_hw692

def k0_chk693 (v5851 : IVec S16 32) : Prop :=
  (∀ a x, ((![v5851] : Fin 1 → IVec S16 32) a x).toNat < S4096.size a)
theorem k0_idx690_inb : ∀ (v5851 : IVec S16 32) (k0_hw693 : k0_chk693 v5851), ∀ a x, ((![v5851] : Fin 1 → IVec S16 32) a x).toNat < S4096.size a := fun v5851 k0_hw693 => k0_hw693

def k0_chk694 (v5859 : IVec S16 32) : Prop :=
  (∀ a x, ((![v5859] : Fin 1 → IVec S16 32) a x).toNat < S4096.size a)
theorem k0_idx691_inb : ∀ (v5859 : IVec S16 32) (k0_hw694 : k0_chk694 v5859), ∀ a x, ((![v5859] : Fin 1 → IVec S16 32) a x).toNat < S4096.size a := fun v5859 k0_hw694 => k0_hw694

def k0_chk695 (v5867 : IVec S16 32) : Prop :=
  (∀ a x, ((![v5867] : Fin 1 → IVec S16 32) a x).toNat < S4096.size a)
theorem k0_idx692_inb : ∀ (v5867 : IVec S16 32) (k0_hw695 : k0_chk695 v5867), ∀ a x, ((![v5867] : Fin 1 → IVec S16 32) a x).toNat < S4096.size a := fun v5867 k0_hw695 => k0_hw695

def k0_chk696 (v5878 : IVec S16 32) : Prop :=
  (∀ a x, ((![v5878] : Fin 1 → IVec S16 32) a x).toNat < S4096.size a)
theorem k0_idx693_inb : ∀ (v5878 : IVec S16 32) (k0_hw696 : k0_chk696 v5878), ∀ a x, ((![v5878] : Fin 1 → IVec S16 32) a x).toNat < S4096.size a := fun v5878 k0_hw696 => k0_hw696

def k0_chk697 (v5886 : IVec S16 32) : Prop :=
  (∀ a x, ((![v5886] : Fin 1 → IVec S16 32) a x).toNat < S4096.size a)
theorem k0_idx694_inb : ∀ (v5886 : IVec S16 32) (k0_hw697 : k0_chk697 v5886), ∀ a x, ((![v5886] : Fin 1 → IVec S16 32) a x).toNat < S4096.size a := fun v5886 k0_hw697 => k0_hw697

def k0_chk698 (v5894 : IVec S16 32) : Prop :=
  (∀ a x, ((![v5894] : Fin 1 → IVec S16 32) a x).toNat < S4096.size a)
theorem k0_idx695_inb : ∀ (v5894 : IVec S16 32) (k0_hw698 : k0_chk698 v5894), ∀ a x, ((![v5894] : Fin 1 → IVec S16 32) a x).toNat < S4096.size a := fun v5894 k0_hw698 => k0_hw698

def k0_chk699 (v5902 : IVec S16 32) : Prop :=
  (∀ a x, ((![v5902] : Fin 1 → IVec S16 32) a x).toNat < S4096.size a)
theorem k0_idx696_inb : ∀ (v5902 : IVec S16 32) (k0_hw699 : k0_chk699 v5902), ∀ a x, ((![v5902] : Fin 1 → IVec S16 32) a x).toNat < S4096.size a := fun v5902 k0_hw699 => k0_hw699

def k0_chk700 (v5910 : IVec S16 32) : Prop :=
  (∀ a x, ((![v5910] : Fin 1 → IVec S16 32) a x).toNat < S4096.size a)
theorem k0_idx697_inb : ∀ (v5910 : IVec S16 32) (k0_hw700 : k0_chk700 v5910), ∀ a x, ((![v5910] : Fin 1 → IVec S16 32) a x).toNat < S4096.size a := fun v5910 k0_hw700 => k0_hw700

def k0_chk701 (v5918 : IVec S16 32) : Prop :=
  (∀ a x, ((![v5918] : Fin 1 → IVec S16 32) a x).toNat < S4096.size a)
theorem k0_idx698_inb : ∀ (v5918 : IVec S16 32) (k0_hw701 : k0_chk701 v5918), ∀ a x, ((![v5918] : Fin 1 → IVec S16 32) a x).toNat < S4096.size a := fun v5918 k0_hw701 => k0_hw701

def k0_chk702 (v5926 : IVec S16 32) : Prop :=
  (∀ a x, ((![v5926] : Fin 1 → IVec S16 32) a x).toNat < S4096.size a)
theorem k0_idx699_inb : ∀ (v5926 : IVec S16 32) (k0_hw702 : k0_chk702 v5926), ∀ a x, ((![v5926] : Fin 1 → IVec S16 32) a x).toNat < S4096.size a := fun v5926 k0_hw702 => k0_hw702

def k0_chk703 (v5934 : IVec S16 32) : Prop :=
  (∀ a x, ((![v5934] : Fin 1 → IVec S16 32) a x).toNat < S4096.size a)
theorem k0_idx700_inb : ∀ (v5934 : IVec S16 32) (k0_hw703 : k0_chk703 v5934), ∀ a x, ((![v5934] : Fin 1 → IVec S16 32) a x).toNat < S4096.size a := fun v5934 k0_hw703 => k0_hw703

def k0_chk704 (v5942 : IVec S16 32) : Prop :=
  (∀ a x, ((![v5942] : Fin 1 → IVec S16 32) a x).toNat < S4096.size a)
theorem k0_idx701_inb : ∀ (v5942 : IVec S16 32) (k0_hw704 : k0_chk704 v5942), ∀ a x, ((![v5942] : Fin 1 → IVec S16 32) a x).toNat < S4096.size a := fun v5942 k0_hw704 => k0_hw704

def k0_chk705 (v5950 : IVec S16 32) : Prop :=
  (∀ a x, ((![v5950] : Fin 1 → IVec S16 32) a x).toNat < S4096.size a)
theorem k0_idx702_inb : ∀ (v5950 : IVec S16 32) (k0_hw705 : k0_chk705 v5950), ∀ a x, ((![v5950] : Fin 1 → IVec S16 32) a x).toNat < S4096.size a := fun v5950 k0_hw705 => k0_hw705

def k0_chk706 (v5958 : IVec S16 32) : Prop :=
  (∀ a x, ((![v5958] : Fin 1 → IVec S16 32) a x).toNat < S4096.size a)
theorem k0_idx703_inb : ∀ (v5958 : IVec S16 32) (k0_hw706 : k0_chk706 v5958), ∀ a x, ((![v5958] : Fin 1 → IVec S16 32) a x).toNat < S4096.size a := fun v5958 k0_hw706 => k0_hw706

def k0_chk707 (v5966 : IVec S16 32) : Prop :=
  (∀ a x, ((![v5966] : Fin 1 → IVec S16 32) a x).toNat < S4096.size a)
theorem k0_idx704_inb : ∀ (v5966 : IVec S16 32) (k0_hw707 : k0_chk707 v5966), ∀ a x, ((![v5966] : Fin 1 → IVec S16 32) a x).toNat < S4096.size a := fun v5966 k0_hw707 => k0_hw707

def k0_chk708 (v5974 : IVec S16 32) : Prop :=
  (∀ a x, ((![v5974] : Fin 1 → IVec S16 32) a x).toNat < S4096.size a)
theorem k0_idx705_inb : ∀ (v5974 : IVec S16 32) (k0_hw708 : k0_chk708 v5974), ∀ a x, ((![v5974] : Fin 1 → IVec S16 32) a x).toNat < S4096.size a := fun v5974 k0_hw708 => k0_hw708

def k0_chk709 (v5982 : IVec S16 32) : Prop :=
  (∀ a x, ((![v5982] : Fin 1 → IVec S16 32) a x).toNat < S4096.size a)
theorem k0_idx706_inb : ∀ (v5982 : IVec S16 32) (k0_hw709 : k0_chk709 v5982), ∀ a x, ((![v5982] : Fin 1 → IVec S16 32) a x).toNat < S4096.size a := fun v5982 k0_hw709 => k0_hw709

def k0_chk710 (v5990 : IVec S16 32) : Prop :=
  (∀ a x, ((![v5990] : Fin 1 → IVec S16 32) a x).toNat < S4096.size a)
theorem k0_idx707_inb : ∀ (v5990 : IVec S16 32) (k0_hw710 : k0_chk710 v5990), ∀ a x, ((![v5990] : Fin 1 → IVec S16 32) a x).toNat < S4096.size a := fun v5990 k0_hw710 => k0_hw710

def k0_chk711 (v5998 : IVec S16 32) : Prop :=
  (∀ a x, ((![v5998] : Fin 1 → IVec S16 32) a x).toNat < S4096.size a)
theorem k0_idx708_inb : ∀ (v5998 : IVec S16 32) (k0_hw711 : k0_chk711 v5998), ∀ a x, ((![v5998] : Fin 1 → IVec S16 32) a x).toNat < S4096.size a := fun v5998 k0_hw711 => k0_hw711

def k0_chk712 (v6009 : IVec S16 32) : Prop :=
  (∀ a x, ((![v6009] : Fin 1 → IVec S16 32) a x).toNat < S4096.size a)
theorem k0_idx709_inb : ∀ (v6009 : IVec S16 32) (k0_hw712 : k0_chk712 v6009), ∀ a x, ((![v6009] : Fin 1 → IVec S16 32) a x).toNat < S4096.size a := fun v6009 k0_hw712 => k0_hw712

def k0_chk713 (v6017 : IVec S16 32) : Prop :=
  (∀ a x, ((![v6017] : Fin 1 → IVec S16 32) a x).toNat < S4096.size a)
theorem k0_idx710_inb : ∀ (v6017 : IVec S16 32) (k0_hw713 : k0_chk713 v6017), ∀ a x, ((![v6017] : Fin 1 → IVec S16 32) a x).toNat < S4096.size a := fun v6017 k0_hw713 => k0_hw713

def k0_chk714 (v6025 : IVec S16 32) : Prop :=
  (∀ a x, ((![v6025] : Fin 1 → IVec S16 32) a x).toNat < S4096.size a)
theorem k0_idx711_inb : ∀ (v6025 : IVec S16 32) (k0_hw714 : k0_chk714 v6025), ∀ a x, ((![v6025] : Fin 1 → IVec S16 32) a x).toNat < S4096.size a := fun v6025 k0_hw714 => k0_hw714

def k0_chk715 (v6033 : IVec S16 32) : Prop :=
  (∀ a x, ((![v6033] : Fin 1 → IVec S16 32) a x).toNat < S4096.size a)
theorem k0_idx712_inb : ∀ (v6033 : IVec S16 32) (k0_hw715 : k0_chk715 v6033), ∀ a x, ((![v6033] : Fin 1 → IVec S16 32) a x).toNat < S4096.size a := fun v6033 k0_hw715 => k0_hw715

def k0_chk716 (v6041 : IVec S16 32) : Prop :=
  (∀ a x, ((![v6041] : Fin 1 → IVec S16 32) a x).toNat < S4096.size a)
theorem k0_idx713_inb : ∀ (v6041 : IVec S16 32) (k0_hw716 : k0_chk716 v6041), ∀ a x, ((![v6041] : Fin 1 → IVec S16 32) a x).toNat < S4096.size a := fun v6041 k0_hw716 => k0_hw716

def k0_chk717 (v6049 : IVec S16 32) : Prop :=
  (∀ a x, ((![v6049] : Fin 1 → IVec S16 32) a x).toNat < S4096.size a)
theorem k0_idx714_inb : ∀ (v6049 : IVec S16 32) (k0_hw717 : k0_chk717 v6049), ∀ a x, ((![v6049] : Fin 1 → IVec S16 32) a x).toNat < S4096.size a := fun v6049 k0_hw717 => k0_hw717

def k0_chk718 (v6057 : IVec S16 32) : Prop :=
  (∀ a x, ((![v6057] : Fin 1 → IVec S16 32) a x).toNat < S4096.size a)
theorem k0_idx715_inb : ∀ (v6057 : IVec S16 32) (k0_hw718 : k0_chk718 v6057), ∀ a x, ((![v6057] : Fin 1 → IVec S16 32) a x).toNat < S4096.size a := fun v6057 k0_hw718 => k0_hw718

def k0_chk719 (v6065 : IVec S16 32) : Prop :=
  (∀ a x, ((![v6065] : Fin 1 → IVec S16 32) a x).toNat < S4096.size a)
theorem k0_idx716_inb : ∀ (v6065 : IVec S16 32) (k0_hw719 : k0_chk719 v6065), ∀ a x, ((![v6065] : Fin 1 → IVec S16 32) a x).toNat < S4096.size a := fun v6065 k0_hw719 => k0_hw719

def k0_chk720 (v6073 : IVec S16 32) : Prop :=
  (∀ a x, ((![v6073] : Fin 1 → IVec S16 32) a x).toNat < S4096.size a)
theorem k0_idx717_inb : ∀ (v6073 : IVec S16 32) (k0_hw720 : k0_chk720 v6073), ∀ a x, ((![v6073] : Fin 1 → IVec S16 32) a x).toNat < S4096.size a := fun v6073 k0_hw720 => k0_hw720

def k0_chk721 (v6081 : IVec S16 32) : Prop :=
  (∀ a x, ((![v6081] : Fin 1 → IVec S16 32) a x).toNat < S4096.size a)
theorem k0_idx718_inb : ∀ (v6081 : IVec S16 32) (k0_hw721 : k0_chk721 v6081), ∀ a x, ((![v6081] : Fin 1 → IVec S16 32) a x).toNat < S4096.size a := fun v6081 k0_hw721 => k0_hw721

def k0_chk722 (v6089 : IVec S16 32) : Prop :=
  (∀ a x, ((![v6089] : Fin 1 → IVec S16 32) a x).toNat < S4096.size a)
theorem k0_idx719_inb : ∀ (v6089 : IVec S16 32) (k0_hw722 : k0_chk722 v6089), ∀ a x, ((![v6089] : Fin 1 → IVec S16 32) a x).toNat < S4096.size a := fun v6089 k0_hw722 => k0_hw722

def k0_chk723 (v6097 : IVec S16 32) : Prop :=
  (∀ a x, ((![v6097] : Fin 1 → IVec S16 32) a x).toNat < S4096.size a)
theorem k0_idx720_inb : ∀ (v6097 : IVec S16 32) (k0_hw723 : k0_chk723 v6097), ∀ a x, ((![v6097] : Fin 1 → IVec S16 32) a x).toNat < S4096.size a := fun v6097 k0_hw723 => k0_hw723

def k0_chk724 (v6105 : IVec S16 32) : Prop :=
  (∀ a x, ((![v6105] : Fin 1 → IVec S16 32) a x).toNat < S4096.size a)
theorem k0_idx721_inb : ∀ (v6105 : IVec S16 32) (k0_hw724 : k0_chk724 v6105), ∀ a x, ((![v6105] : Fin 1 → IVec S16 32) a x).toNat < S4096.size a := fun v6105 k0_hw724 => k0_hw724

def k0_chk725 (v6113 : IVec S16 32) : Prop :=
  (∀ a x, ((![v6113] : Fin 1 → IVec S16 32) a x).toNat < S4096.size a)
theorem k0_idx722_inb : ∀ (v6113 : IVec S16 32) (k0_hw725 : k0_chk725 v6113), ∀ a x, ((![v6113] : Fin 1 → IVec S16 32) a x).toNat < S4096.size a := fun v6113 k0_hw725 => k0_hw725

def k0_chk726 (v6121 : IVec S16 32) : Prop :=
  (∀ a x, ((![v6121] : Fin 1 → IVec S16 32) a x).toNat < S4096.size a)
theorem k0_idx723_inb : ∀ (v6121 : IVec S16 32) (k0_hw726 : k0_chk726 v6121), ∀ a x, ((![v6121] : Fin 1 → IVec S16 32) a x).toNat < S4096.size a := fun v6121 k0_hw726 => k0_hw726

def k0_chk727 (v6129 : IVec S16 32) : Prop :=
  (∀ a x, ((![v6129] : Fin 1 → IVec S16 32) a x).toNat < S4096.size a)
theorem k0_idx724_inb : ∀ (v6129 : IVec S16 32) (k0_hw727 : k0_chk727 v6129), ∀ a x, ((![v6129] : Fin 1 → IVec S16 32) a x).toNat < S4096.size a := fun v6129 k0_hw727 => k0_hw727

def k0_chk728 (v6140 : IVec S16 32) : Prop :=
  (∀ a x, ((![v6140] : Fin 1 → IVec S16 32) a x).toNat < S4096.size a)
theorem k0_idx725_inb : ∀ (v6140 : IVec S16 32) (k0_hw728 : k0_chk728 v6140), ∀ a x, ((![v6140] : Fin 1 → IVec S16 32) a x).toNat < S4096.size a := fun v6140 k0_hw728 => k0_hw728

def k0_chk729 (v6148 : IVec S16 32) : Prop :=
  (∀ a x, ((![v6148] : Fin 1 → IVec S16 32) a x).toNat < S4096.size a)
theorem k0_idx726_inb : ∀ (v6148 : IVec S16 32) (k0_hw729 : k0_chk729 v6148), ∀ a x, ((![v6148] : Fin 1 → IVec S16 32) a x).toNat < S4096.size a := fun v6148 k0_hw729 => k0_hw729

def k0_chk730 (v6156 : IVec S16 32) : Prop :=
  (∀ a x, ((![v6156] : Fin 1 → IVec S16 32) a x).toNat < S4096.size a)
theorem k0_idx727_inb : ∀ (v6156 : IVec S16 32) (k0_hw730 : k0_chk730 v6156), ∀ a x, ((![v6156] : Fin 1 → IVec S16 32) a x).toNat < S4096.size a := fun v6156 k0_hw730 => k0_hw730

def k0_chk731 (v6164 : IVec S16 32) : Prop :=
  (∀ a x, ((![v6164] : Fin 1 → IVec S16 32) a x).toNat < S4096.size a)
theorem k0_idx728_inb : ∀ (v6164 : IVec S16 32) (k0_hw731 : k0_chk731 v6164), ∀ a x, ((![v6164] : Fin 1 → IVec S16 32) a x).toNat < S4096.size a := fun v6164 k0_hw731 => k0_hw731

def k0_chk732 (v6172 : IVec S16 32) : Prop :=
  (∀ a x, ((![v6172] : Fin 1 → IVec S16 32) a x).toNat < S4096.size a)
theorem k0_idx729_inb : ∀ (v6172 : IVec S16 32) (k0_hw732 : k0_chk732 v6172), ∀ a x, ((![v6172] : Fin 1 → IVec S16 32) a x).toNat < S4096.size a := fun v6172 k0_hw732 => k0_hw732

def k0_chk733 (v6180 : IVec S16 32) : Prop :=
  (∀ a x, ((![v6180] : Fin 1 → IVec S16 32) a x).toNat < S4096.size a)
theorem k0_idx730_inb : ∀ (v6180 : IVec S16 32) (k0_hw733 : k0_chk733 v6180), ∀ a x, ((![v6180] : Fin 1 → IVec S16 32) a x).toNat < S4096.size a := fun v6180 k0_hw733 => k0_hw733

def k0_chk734 (v6188 : IVec S16 32) : Prop :=
  (∀ a x, ((![v6188] : Fin 1 → IVec S16 32) a x).toNat < S4096.size a)
theorem k0_idx731_inb : ∀ (v6188 : IVec S16 32) (k0_hw734 : k0_chk734 v6188), ∀ a x, ((![v6188] : Fin 1 → IVec S16 32) a x).toNat < S4096.size a := fun v6188 k0_hw734 => k0_hw734

def k0_chk735 (v6196 : IVec S16 32) : Prop :=
  (∀ a x, ((![v6196] : Fin 1 → IVec S16 32) a x).toNat < S4096.size a)
theorem k0_idx732_inb : ∀ (v6196 : IVec S16 32) (k0_hw735 : k0_chk735 v6196), ∀ a x, ((![v6196] : Fin 1 → IVec S16 32) a x).toNat < S4096.size a := fun v6196 k0_hw735 => k0_hw735

def k0_chk736 (v6204 : IVec S16 32) : Prop :=
  (∀ a x, ((![v6204] : Fin 1 → IVec S16 32) a x).toNat < S4096.size a)
theorem k0_idx733_inb : ∀ (v6204 : IVec S16 32) (k0_hw736 : k0_chk736 v6204), ∀ a x, ((![v6204] : Fin 1 → IVec S16 32) a x).toNat < S4096.size a := fun v6204 k0_hw736 => k0_hw736

def k0_chk737 (v6212 : IVec S16 32) : Prop :=
  (∀ a x, ((![v6212] : Fin 1 → IVec S16 32) a x).toNat < S4096.size a)
theorem k0_idx734_inb : ∀ (v6212 : IVec S16 32) (k0_hw737 : k0_chk737 v6212), ∀ a x, ((![v6212] : Fin 1 → IVec S16 32) a x).toNat < S4096.size a := fun v6212 k0_hw737 => k0_hw737

def k0_chk738 (v6220 : IVec S16 32) : Prop :=
  (∀ a x, ((![v6220] : Fin 1 → IVec S16 32) a x).toNat < S4096.size a)
theorem k0_idx735_inb : ∀ (v6220 : IVec S16 32) (k0_hw738 : k0_chk738 v6220), ∀ a x, ((![v6220] : Fin 1 → IVec S16 32) a x).toNat < S4096.size a := fun v6220 k0_hw738 => k0_hw738

def k0_chk739 (v6228 : IVec S16 32) : Prop :=
  (∀ a x, ((![v6228] : Fin 1 → IVec S16 32) a x).toNat < S4096.size a)
theorem k0_idx736_inb : ∀ (v6228 : IVec S16 32) (k0_hw739 : k0_chk739 v6228), ∀ a x, ((![v6228] : Fin 1 → IVec S16 32) a x).toNat < S4096.size a := fun v6228 k0_hw739 => k0_hw739

def k0_chk740 (v6236 : IVec S16 32) : Prop :=
  (∀ a x, ((![v6236] : Fin 1 → IVec S16 32) a x).toNat < S4096.size a)
theorem k0_idx737_inb : ∀ (v6236 : IVec S16 32) (k0_hw740 : k0_chk740 v6236), ∀ a x, ((![v6236] : Fin 1 → IVec S16 32) a x).toNat < S4096.size a := fun v6236 k0_hw740 => k0_hw740

def k0_chk741 (v6244 : IVec S16 32) : Prop :=
  (∀ a x, ((![v6244] : Fin 1 → IVec S16 32) a x).toNat < S4096.size a)
theorem k0_idx738_inb : ∀ (v6244 : IVec S16 32) (k0_hw741 : k0_chk741 v6244), ∀ a x, ((![v6244] : Fin 1 → IVec S16 32) a x).toNat < S4096.size a := fun v6244 k0_hw741 => k0_hw741

def k0_chk742 (v6252 : IVec S16 32) : Prop :=
  (∀ a x, ((![v6252] : Fin 1 → IVec S16 32) a x).toNat < S4096.size a)
theorem k0_idx739_inb : ∀ (v6252 : IVec S16 32) (k0_hw742 : k0_chk742 v6252), ∀ a x, ((![v6252] : Fin 1 → IVec S16 32) a x).toNat < S4096.size a := fun v6252 k0_hw742 => k0_hw742

def k0_chk743 (v6260 : IVec S16 32) : Prop :=
  (∀ a x, ((![v6260] : Fin 1 → IVec S16 32) a x).toNat < S4096.size a)
theorem k0_idx740_inb : ∀ (v6260 : IVec S16 32) (k0_hw743 : k0_chk743 v6260), ∀ a x, ((![v6260] : Fin 1 → IVec S16 32) a x).toNat < S4096.size a := fun v6260 k0_hw743 => k0_hw743

def k0_chk744 (v6271 : IVec S16 32) : Prop :=
  (∀ a x, ((![v6271] : Fin 1 → IVec S16 32) a x).toNat < S4096.size a)
theorem k0_idx741_inb : ∀ (v6271 : IVec S16 32) (k0_hw744 : k0_chk744 v6271), ∀ a x, ((![v6271] : Fin 1 → IVec S16 32) a x).toNat < S4096.size a := fun v6271 k0_hw744 => k0_hw744

def k0_chk745 (v6279 : IVec S16 32) : Prop :=
  (∀ a x, ((![v6279] : Fin 1 → IVec S16 32) a x).toNat < S4096.size a)
theorem k0_idx742_inb : ∀ (v6279 : IVec S16 32) (k0_hw745 : k0_chk745 v6279), ∀ a x, ((![v6279] : Fin 1 → IVec S16 32) a x).toNat < S4096.size a := fun v6279 k0_hw745 => k0_hw745

def k0_chk746 (v6287 : IVec S16 32) : Prop :=
  (∀ a x, ((![v6287] : Fin 1 → IVec S16 32) a x).toNat < S4096.size a)
theorem k0_idx743_inb : ∀ (v6287 : IVec S16 32) (k0_hw746 : k0_chk746 v6287), ∀ a x, ((![v6287] : Fin 1 → IVec S16 32) a x).toNat < S4096.size a := fun v6287 k0_hw746 => k0_hw746

def k0_chk747 (v6295 : IVec S16 32) : Prop :=
  (∀ a x, ((![v6295] : Fin 1 → IVec S16 32) a x).toNat < S4096.size a)
theorem k0_idx744_inb : ∀ (v6295 : IVec S16 32) (k0_hw747 : k0_chk747 v6295), ∀ a x, ((![v6295] : Fin 1 → IVec S16 32) a x).toNat < S4096.size a := fun v6295 k0_hw747 => k0_hw747

def k0_chk748 (v6303 : IVec S16 32) : Prop :=
  (∀ a x, ((![v6303] : Fin 1 → IVec S16 32) a x).toNat < S4096.size a)
theorem k0_idx745_inb : ∀ (v6303 : IVec S16 32) (k0_hw748 : k0_chk748 v6303), ∀ a x, ((![v6303] : Fin 1 → IVec S16 32) a x).toNat < S4096.size a := fun v6303 k0_hw748 => k0_hw748

def k0_chk749 (v6311 : IVec S16 32) : Prop :=
  (∀ a x, ((![v6311] : Fin 1 → IVec S16 32) a x).toNat < S4096.size a)
theorem k0_idx746_inb : ∀ (v6311 : IVec S16 32) (k0_hw749 : k0_chk749 v6311), ∀ a x, ((![v6311] : Fin 1 → IVec S16 32) a x).toNat < S4096.size a := fun v6311 k0_hw749 => k0_hw749

def k0_chk750 (v6319 : IVec S16 32) : Prop :=
  (∀ a x, ((![v6319] : Fin 1 → IVec S16 32) a x).toNat < S4096.size a)
theorem k0_idx747_inb : ∀ (v6319 : IVec S16 32) (k0_hw750 : k0_chk750 v6319), ∀ a x, ((![v6319] : Fin 1 → IVec S16 32) a x).toNat < S4096.size a := fun v6319 k0_hw750 => k0_hw750

def k0_chk751 (v6327 : IVec S16 32) : Prop :=
  (∀ a x, ((![v6327] : Fin 1 → IVec S16 32) a x).toNat < S4096.size a)
theorem k0_idx748_inb : ∀ (v6327 : IVec S16 32) (k0_hw751 : k0_chk751 v6327), ∀ a x, ((![v6327] : Fin 1 → IVec S16 32) a x).toNat < S4096.size a := fun v6327 k0_hw751 => k0_hw751

def k0_chk752 (v6335 : IVec S16 32) : Prop :=
  (∀ a x, ((![v6335] : Fin 1 → IVec S16 32) a x).toNat < S4096.size a)
theorem k0_idx749_inb : ∀ (v6335 : IVec S16 32) (k0_hw752 : k0_chk752 v6335), ∀ a x, ((![v6335] : Fin 1 → IVec S16 32) a x).toNat < S4096.size a := fun v6335 k0_hw752 => k0_hw752

def k0_chk753 (v6343 : IVec S16 32) : Prop :=
  (∀ a x, ((![v6343] : Fin 1 → IVec S16 32) a x).toNat < S4096.size a)
theorem k0_idx750_inb : ∀ (v6343 : IVec S16 32) (k0_hw753 : k0_chk753 v6343), ∀ a x, ((![v6343] : Fin 1 → IVec S16 32) a x).toNat < S4096.size a := fun v6343 k0_hw753 => k0_hw753

def k0_chk754 (v6351 : IVec S16 32) : Prop :=
  (∀ a x, ((![v6351] : Fin 1 → IVec S16 32) a x).toNat < S4096.size a)
theorem k0_idx751_inb : ∀ (v6351 : IVec S16 32) (k0_hw754 : k0_chk754 v6351), ∀ a x, ((![v6351] : Fin 1 → IVec S16 32) a x).toNat < S4096.size a := fun v6351 k0_hw754 => k0_hw754

def k0_chk755 (v6359 : IVec S16 32) : Prop :=
  (∀ a x, ((![v6359] : Fin 1 → IVec S16 32) a x).toNat < S4096.size a)
theorem k0_idx752_inb : ∀ (v6359 : IVec S16 32) (k0_hw755 : k0_chk755 v6359), ∀ a x, ((![v6359] : Fin 1 → IVec S16 32) a x).toNat < S4096.size a := fun v6359 k0_hw755 => k0_hw755

def k0_chk756 (v6367 : IVec S16 32) : Prop :=
  (∀ a x, ((![v6367] : Fin 1 → IVec S16 32) a x).toNat < S4096.size a)
theorem k0_idx753_inb : ∀ (v6367 : IVec S16 32) (k0_hw756 : k0_chk756 v6367), ∀ a x, ((![v6367] : Fin 1 → IVec S16 32) a x).toNat < S4096.size a := fun v6367 k0_hw756 => k0_hw756

def k0_chk757 (v6375 : IVec S16 32) : Prop :=
  (∀ a x, ((![v6375] : Fin 1 → IVec S16 32) a x).toNat < S4096.size a)
theorem k0_idx754_inb : ∀ (v6375 : IVec S16 32) (k0_hw757 : k0_chk757 v6375), ∀ a x, ((![v6375] : Fin 1 → IVec S16 32) a x).toNat < S4096.size a := fun v6375 k0_hw757 => k0_hw757

def k0_chk758 (v6383 : IVec S16 32) : Prop :=
  (∀ a x, ((![v6383] : Fin 1 → IVec S16 32) a x).toNat < S4096.size a)
theorem k0_idx755_inb : ∀ (v6383 : IVec S16 32) (k0_hw758 : k0_chk758 v6383), ∀ a x, ((![v6383] : Fin 1 → IVec S16 32) a x).toNat < S4096.size a := fun v6383 k0_hw758 => k0_hw758

def k0_chk759 (v6391 : IVec S16 32) : Prop :=
  (∀ a x, ((![v6391] : Fin 1 → IVec S16 32) a x).toNat < S4096.size a)
theorem k0_idx756_inb : ∀ (v6391 : IVec S16 32) (k0_hw759 : k0_chk759 v6391), ∀ a x, ((![v6391] : Fin 1 → IVec S16 32) a x).toNat < S4096.size a := fun v6391 k0_hw759 => k0_hw759

def k0_chk760 (v6402 : IVec S16 32) : Prop :=
  (∀ a x, ((![v6402] : Fin 1 → IVec S16 32) a x).toNat < S4096.size a)
theorem k0_idx757_inb : ∀ (v6402 : IVec S16 32) (k0_hw760 : k0_chk760 v6402), ∀ a x, ((![v6402] : Fin 1 → IVec S16 32) a x).toNat < S4096.size a := fun v6402 k0_hw760 => k0_hw760

def k0_chk761 (v6410 : IVec S16 32) : Prop :=
  (∀ a x, ((![v6410] : Fin 1 → IVec S16 32) a x).toNat < S4096.size a)
theorem k0_idx758_inb : ∀ (v6410 : IVec S16 32) (k0_hw761 : k0_chk761 v6410), ∀ a x, ((![v6410] : Fin 1 → IVec S16 32) a x).toNat < S4096.size a := fun v6410 k0_hw761 => k0_hw761

def k0_chk762 (v6418 : IVec S16 32) : Prop :=
  (∀ a x, ((![v6418] : Fin 1 → IVec S16 32) a x).toNat < S4096.size a)
theorem k0_idx759_inb : ∀ (v6418 : IVec S16 32) (k0_hw762 : k0_chk762 v6418), ∀ a x, ((![v6418] : Fin 1 → IVec S16 32) a x).toNat < S4096.size a := fun v6418 k0_hw762 => k0_hw762

def k0_chk763 (v6426 : IVec S16 32) : Prop :=
  (∀ a x, ((![v6426] : Fin 1 → IVec S16 32) a x).toNat < S4096.size a)
theorem k0_idx760_inb : ∀ (v6426 : IVec S16 32) (k0_hw763 : k0_chk763 v6426), ∀ a x, ((![v6426] : Fin 1 → IVec S16 32) a x).toNat < S4096.size a := fun v6426 k0_hw763 => k0_hw763

def k0_chk764 (v6434 : IVec S16 32) : Prop :=
  (∀ a x, ((![v6434] : Fin 1 → IVec S16 32) a x).toNat < S4096.size a)
theorem k0_idx761_inb : ∀ (v6434 : IVec S16 32) (k0_hw764 : k0_chk764 v6434), ∀ a x, ((![v6434] : Fin 1 → IVec S16 32) a x).toNat < S4096.size a := fun v6434 k0_hw764 => k0_hw764

def k0_chk765 (v6442 : IVec S16 32) : Prop :=
  (∀ a x, ((![v6442] : Fin 1 → IVec S16 32) a x).toNat < S4096.size a)
theorem k0_idx762_inb : ∀ (v6442 : IVec S16 32) (k0_hw765 : k0_chk765 v6442), ∀ a x, ((![v6442] : Fin 1 → IVec S16 32) a x).toNat < S4096.size a := fun v6442 k0_hw765 => k0_hw765

def k0_chk766 (v6450 : IVec S16 32) : Prop :=
  (∀ a x, ((![v6450] : Fin 1 → IVec S16 32) a x).toNat < S4096.size a)
theorem k0_idx763_inb : ∀ (v6450 : IVec S16 32) (k0_hw766 : k0_chk766 v6450), ∀ a x, ((![v6450] : Fin 1 → IVec S16 32) a x).toNat < S4096.size a := fun v6450 k0_hw766 => k0_hw766

def k0_chk767 (v6458 : IVec S16 32) : Prop :=
  (∀ a x, ((![v6458] : Fin 1 → IVec S16 32) a x).toNat < S4096.size a)
theorem k0_idx764_inb : ∀ (v6458 : IVec S16 32) (k0_hw767 : k0_chk767 v6458), ∀ a x, ((![v6458] : Fin 1 → IVec S16 32) a x).toNat < S4096.size a := fun v6458 k0_hw767 => k0_hw767

def k0_chk768 (v6466 : IVec S16 32) : Prop :=
  (∀ a x, ((![v6466] : Fin 1 → IVec S16 32) a x).toNat < S4096.size a)
theorem k0_idx765_inb : ∀ (v6466 : IVec S16 32) (k0_hw768 : k0_chk768 v6466), ∀ a x, ((![v6466] : Fin 1 → IVec S16 32) a x).toNat < S4096.size a := fun v6466 k0_hw768 => k0_hw768

def k0_chk769 (v6474 : IVec S16 32) : Prop :=
  (∀ a x, ((![v6474] : Fin 1 → IVec S16 32) a x).toNat < S4096.size a)
theorem k0_idx766_inb : ∀ (v6474 : IVec S16 32) (k0_hw769 : k0_chk769 v6474), ∀ a x, ((![v6474] : Fin 1 → IVec S16 32) a x).toNat < S4096.size a := fun v6474 k0_hw769 => k0_hw769

def k0_chk770 (v6482 : IVec S16 32) : Prop :=
  (∀ a x, ((![v6482] : Fin 1 → IVec S16 32) a x).toNat < S4096.size a)
theorem k0_idx767_inb : ∀ (v6482 : IVec S16 32) (k0_hw770 : k0_chk770 v6482), ∀ a x, ((![v6482] : Fin 1 → IVec S16 32) a x).toNat < S4096.size a := fun v6482 k0_hw770 => k0_hw770

def k0_chk771 (v6490 : IVec S16 32) : Prop :=
  (∀ a x, ((![v6490] : Fin 1 → IVec S16 32) a x).toNat < S4096.size a)
theorem k0_idx768_inb : ∀ (v6490 : IVec S16 32) (k0_hw771 : k0_chk771 v6490), ∀ a x, ((![v6490] : Fin 1 → IVec S16 32) a x).toNat < S4096.size a := fun v6490 k0_hw771 => k0_hw771

def k0_chk772 (v6498 : IVec S16 32) : Prop :=
  (∀ a x, ((![v6498] : Fin 1 → IVec S16 32) a x).toNat < S4096.size a)
theorem k0_idx769_inb : ∀ (v6498 : IVec S16 32) (k0_hw772 : k0_chk772 v6498), ∀ a x, ((![v6498] : Fin 1 → IVec S16 32) a x).toNat < S4096.size a := fun v6498 k0_hw772 => k0_hw772

def k0_chk773 (v6506 : IVec S16 32) : Prop :=
  (∀ a x, ((![v6506] : Fin 1 → IVec S16 32) a x).toNat < S4096.size a)
theorem k0_idx770_inb : ∀ (v6506 : IVec S16 32) (k0_hw773 : k0_chk773 v6506), ∀ a x, ((![v6506] : Fin 1 → IVec S16 32) a x).toNat < S4096.size a := fun v6506 k0_hw773 => k0_hw773

def k0_chk774 (v6514 : IVec S16 32) : Prop :=
  (∀ a x, ((![v6514] : Fin 1 → IVec S16 32) a x).toNat < S4096.size a)
theorem k0_idx771_inb : ∀ (v6514 : IVec S16 32) (k0_hw774 : k0_chk774 v6514), ∀ a x, ((![v6514] : Fin 1 → IVec S16 32) a x).toNat < S4096.size a := fun v6514 k0_hw774 => k0_hw774

def k0_chk775 (v6522 : IVec S16 32) : Prop :=
  (∀ a x, ((![v6522] : Fin 1 → IVec S16 32) a x).toNat < S4096.size a)
theorem k0_idx772_inb : ∀ (v6522 : IVec S16 32) (k0_hw775 : k0_chk775 v6522), ∀ a x, ((![v6522] : Fin 1 → IVec S16 32) a x).toNat < S4096.size a := fun v6522 k0_hw775 => k0_hw775

def k0_chk776 (v6533 : IVec S16 32) : Prop :=
  (∀ a x, ((![v6533] : Fin 1 → IVec S16 32) a x).toNat < S4096.size a)
theorem k0_idx773_inb : ∀ (v6533 : IVec S16 32) (k0_hw776 : k0_chk776 v6533), ∀ a x, ((![v6533] : Fin 1 → IVec S16 32) a x).toNat < S4096.size a := fun v6533 k0_hw776 => k0_hw776

def k0_chk777 (v6541 : IVec S16 32) : Prop :=
  (∀ a x, ((![v6541] : Fin 1 → IVec S16 32) a x).toNat < S4096.size a)
theorem k0_idx774_inb : ∀ (v6541 : IVec S16 32) (k0_hw777 : k0_chk777 v6541), ∀ a x, ((![v6541] : Fin 1 → IVec S16 32) a x).toNat < S4096.size a := fun v6541 k0_hw777 => k0_hw777

def k0_chk778 (v6549 : IVec S16 32) : Prop :=
  (∀ a x, ((![v6549] : Fin 1 → IVec S16 32) a x).toNat < S4096.size a)
theorem k0_idx775_inb : ∀ (v6549 : IVec S16 32) (k0_hw778 : k0_chk778 v6549), ∀ a x, ((![v6549] : Fin 1 → IVec S16 32) a x).toNat < S4096.size a := fun v6549 k0_hw778 => k0_hw778

def k0_chk779 (v6557 : IVec S16 32) : Prop :=
  (∀ a x, ((![v6557] : Fin 1 → IVec S16 32) a x).toNat < S4096.size a)
theorem k0_idx776_inb : ∀ (v6557 : IVec S16 32) (k0_hw779 : k0_chk779 v6557), ∀ a x, ((![v6557] : Fin 1 → IVec S16 32) a x).toNat < S4096.size a := fun v6557 k0_hw779 => k0_hw779

def k0_chk780 (v6565 : IVec S16 32) : Prop :=
  (∀ a x, ((![v6565] : Fin 1 → IVec S16 32) a x).toNat < S4096.size a)
theorem k0_idx777_inb : ∀ (v6565 : IVec S16 32) (k0_hw780 : k0_chk780 v6565), ∀ a x, ((![v6565] : Fin 1 → IVec S16 32) a x).toNat < S4096.size a := fun v6565 k0_hw780 => k0_hw780

def k0_chk781 (v6573 : IVec S16 32) : Prop :=
  (∀ a x, ((![v6573] : Fin 1 → IVec S16 32) a x).toNat < S4096.size a)
theorem k0_idx778_inb : ∀ (v6573 : IVec S16 32) (k0_hw781 : k0_chk781 v6573), ∀ a x, ((![v6573] : Fin 1 → IVec S16 32) a x).toNat < S4096.size a := fun v6573 k0_hw781 => k0_hw781

def k0_chk782 (v6581 : IVec S16 32) : Prop :=
  (∀ a x, ((![v6581] : Fin 1 → IVec S16 32) a x).toNat < S4096.size a)
theorem k0_idx779_inb : ∀ (v6581 : IVec S16 32) (k0_hw782 : k0_chk782 v6581), ∀ a x, ((![v6581] : Fin 1 → IVec S16 32) a x).toNat < S4096.size a := fun v6581 k0_hw782 => k0_hw782

def k0_chk783 (v6589 : IVec S16 32) : Prop :=
  (∀ a x, ((![v6589] : Fin 1 → IVec S16 32) a x).toNat < S4096.size a)
theorem k0_idx780_inb : ∀ (v6589 : IVec S16 32) (k0_hw783 : k0_chk783 v6589), ∀ a x, ((![v6589] : Fin 1 → IVec S16 32) a x).toNat < S4096.size a := fun v6589 k0_hw783 => k0_hw783

def k0_chk784 (v6597 : IVec S16 32) : Prop :=
  (∀ a x, ((![v6597] : Fin 1 → IVec S16 32) a x).toNat < S4096.size a)
theorem k0_idx781_inb : ∀ (v6597 : IVec S16 32) (k0_hw784 : k0_chk784 v6597), ∀ a x, ((![v6597] : Fin 1 → IVec S16 32) a x).toNat < S4096.size a := fun v6597 k0_hw784 => k0_hw784

def k0_chk785 (v6605 : IVec S16 32) : Prop :=
  (∀ a x, ((![v6605] : Fin 1 → IVec S16 32) a x).toNat < S4096.size a)
theorem k0_idx782_inb : ∀ (v6605 : IVec S16 32) (k0_hw785 : k0_chk785 v6605), ∀ a x, ((![v6605] : Fin 1 → IVec S16 32) a x).toNat < S4096.size a := fun v6605 k0_hw785 => k0_hw785

def k0_chk786 (v6613 : IVec S16 32) : Prop :=
  (∀ a x, ((![v6613] : Fin 1 → IVec S16 32) a x).toNat < S4096.size a)
theorem k0_idx783_inb : ∀ (v6613 : IVec S16 32) (k0_hw786 : k0_chk786 v6613), ∀ a x, ((![v6613] : Fin 1 → IVec S16 32) a x).toNat < S4096.size a := fun v6613 k0_hw786 => k0_hw786

def k0_chk787 (v6621 : IVec S16 32) : Prop :=
  (∀ a x, ((![v6621] : Fin 1 → IVec S16 32) a x).toNat < S4096.size a)
theorem k0_idx784_inb : ∀ (v6621 : IVec S16 32) (k0_hw787 : k0_chk787 v6621), ∀ a x, ((![v6621] : Fin 1 → IVec S16 32) a x).toNat < S4096.size a := fun v6621 k0_hw787 => k0_hw787

def k0_chk788 (v6629 : IVec S16 32) : Prop :=
  (∀ a x, ((![v6629] : Fin 1 → IVec S16 32) a x).toNat < S4096.size a)
theorem k0_idx785_inb : ∀ (v6629 : IVec S16 32) (k0_hw788 : k0_chk788 v6629), ∀ a x, ((![v6629] : Fin 1 → IVec S16 32) a x).toNat < S4096.size a := fun v6629 k0_hw788 => k0_hw788

def k0_chk789 (v6637 : IVec S16 32) : Prop :=
  (∀ a x, ((![v6637] : Fin 1 → IVec S16 32) a x).toNat < S4096.size a)
theorem k0_idx786_inb : ∀ (v6637 : IVec S16 32) (k0_hw789 : k0_chk789 v6637), ∀ a x, ((![v6637] : Fin 1 → IVec S16 32) a x).toNat < S4096.size a := fun v6637 k0_hw789 => k0_hw789

def k0_chk790 (v6645 : IVec S16 32) : Prop :=
  (∀ a x, ((![v6645] : Fin 1 → IVec S16 32) a x).toNat < S4096.size a)
theorem k0_idx787_inb : ∀ (v6645 : IVec S16 32) (k0_hw790 : k0_chk790 v6645), ∀ a x, ((![v6645] : Fin 1 → IVec S16 32) a x).toNat < S4096.size a := fun v6645 k0_hw790 => k0_hw790

def k0_chk791 (v6653 : IVec S16 32) : Prop :=
  (∀ a x, ((![v6653] : Fin 1 → IVec S16 32) a x).toNat < S4096.size a)
theorem k0_idx788_inb : ∀ (v6653 : IVec S16 32) (k0_hw791 : k0_chk791 v6653), ∀ a x, ((![v6653] : Fin 1 → IVec S16 32) a x).toNat < S4096.size a := fun v6653 k0_hw791 => k0_hw791
@[reducible] def k0_t13_loop : Scf.Loop 32 :=
  let c0_i32_2539 : BitVec 32 := 0#32
  let c16_i32_2540 : BitVec 32 := 16#32
  let v6663 : BitVec 32 := Scalar.addi c0_i32_2539 c16_i32_2540
  let c1_i32_2541 : BitVec 32 := 1#32
  ⟨c0_i32_2539, v6663, c1_i32_2541⟩
def k0_off20 (k0_t13 : Fin k0_t13_loop.trips) : Fin 1 → Nat :=
  let c0_i32_2539 : BitVec 32 := 0#32
  let c1_i32_2541 : BitVec 32 := 1#32
  let arg15 : BitVec 32 := Scf.iv c0_i32_2539 c1_i32_2541 k0_t13
  let c16_i32_3472 : BitVec 32 := 16#32
  let v9096 : BitVec 32 := Scalar.muli arg15 c16_i32_3472
  let v9097 : Index := Scalar.indexCast v9096
  ![v9097.toNat]
def k0_off21 (v6664_1 : BitVec 32) : Fin 1 → Nat :=
  let c16_i32_2543 : BitVec 32 := 16#32
  let v6665 : BitVec 32 := Scalar.muli v6664_1 c16_i32_2543
  let v6666 : Index := Scalar.indexCast v6665
  ![v6666.toNat]

def k0_chk792 (v6664_1 : BitVec 32) : Prop :=
  (∀ a, (k0_off21 v6664_1) a + S16.size a ≤ S4096.size a)
theorem k0_off21_inb : ∀ (v6664_1 : BitVec 32) (k0_hw792 : k0_chk792 v6664_1), ∀ a, (k0_off21 v6664_1) a + S16.size a ≤ S4096.size a := fun v6664_1 k0_hw792 => k0_hw792

@[reducible] def k0_t14_loop : Scf.Loop 32 :=
  let c0_i32_2555 : BitVec 32 := 0#32
  let c2048_i32_2556 : BitVec 32 := 2048#32
  let v6707 : BitVec 32 := Scalar.addi c0_i32_2555 c2048_i32_2556
  let c1_i32_2557 : BitVec 32 := 1#32
  ⟨c0_i32_2555, v6707, c1_i32_2557⟩
def k0_off22 (k0_t14 : Fin k0_t14_loop.trips) : Fin 1 → Nat :=
  let c0_i32_3473 : BitVec 32 := 0#32
  let c0_i32_2555 : BitVec 32 := 0#32
  let c1_i32_2557 : BitVec 32 := 1#32
  let arg15 : BitVec 32 := Scf.iv c0_i32_2555 c1_i32_2557 k0_t14
  let c1_i32_3472 : BitVec 32 := 1#32
  let v9096 : BitVec 32 := Scalar.muli arg15 c1_i32_3472
  let v9097 : BitVec 32 := Scalar.addi c0_i32_3473 v9096
  let c16_i32_3474 : BitVec 32 := 16#32
  let v9098 : BitVec 32 := Scalar.muli v9097 c16_i32_3474
  let v9099 : Index := Scalar.indexCast v9098
  ![v9099.toNat]

def k0_chk793 (v9111 : IVec S16 32) : Prop :=
  (∀ a x, ((![v9111] : Fin 1 → IVec S16 32) a x).toNat < S4096.size a)
theorem k0_idx789_inb : ∀ (v9111 : IVec S16 32) (k0_hw793 : k0_chk793 v9111), ∀ a x, ((![v9111] : Fin 1 → IVec S16 32) a x).toNat < S4096.size a := fun v9111 k0_hw793 => k0_hw793

def k0_chk794 (v6715 : IVec S16 32) : Prop :=
  (∀ a x, ((![v6715] : Fin 1 → IVec S16 32) a x).toNat < S4096.size a)
theorem k0_idx790_inb : ∀ (v6715 : IVec S16 32) (k0_hw794 : k0_chk794 v6715), ∀ a x, ((![v6715] : Fin 1 → IVec S16 32) a x).toNat < S4096.size a := fun v6715 k0_hw794 => k0_hw794

def k0_chk795 (v6723 : IVec S16 32) : Prop :=
  (∀ a x, ((![v6723] : Fin 1 → IVec S16 32) a x).toNat < S4096.size a)
theorem k0_idx791_inb : ∀ (v6723 : IVec S16 32) (k0_hw795 : k0_chk795 v6723), ∀ a x, ((![v6723] : Fin 1 → IVec S16 32) a x).toNat < S4096.size a := fun v6723 k0_hw795 => k0_hw795

def k0_chk796 (v6731 : IVec S16 32) : Prop :=
  (∀ a x, ((![v6731] : Fin 1 → IVec S16 32) a x).toNat < S4096.size a)
theorem k0_idx792_inb : ∀ (v6731 : IVec S16 32) (k0_hw796 : k0_chk796 v6731), ∀ a x, ((![v6731] : Fin 1 → IVec S16 32) a x).toNat < S4096.size a := fun v6731 k0_hw796 => k0_hw796

def k0_chk797 (v6739 : IVec S16 32) : Prop :=
  (∀ a x, ((![v6739] : Fin 1 → IVec S16 32) a x).toNat < S4096.size a)
theorem k0_idx793_inb : ∀ (v6739 : IVec S16 32) (k0_hw797 : k0_chk797 v6739), ∀ a x, ((![v6739] : Fin 1 → IVec S16 32) a x).toNat < S4096.size a := fun v6739 k0_hw797 => k0_hw797

def k0_chk798 (v6747 : IVec S16 32) : Prop :=
  (∀ a x, ((![v6747] : Fin 1 → IVec S16 32) a x).toNat < S4096.size a)
theorem k0_idx794_inb : ∀ (v6747 : IVec S16 32) (k0_hw798 : k0_chk798 v6747), ∀ a x, ((![v6747] : Fin 1 → IVec S16 32) a x).toNat < S4096.size a := fun v6747 k0_hw798 => k0_hw798

def k0_chk799 (v6755 : IVec S16 32) : Prop :=
  (∀ a x, ((![v6755] : Fin 1 → IVec S16 32) a x).toNat < S4096.size a)
theorem k0_idx795_inb : ∀ (v6755 : IVec S16 32) (k0_hw799 : k0_chk799 v6755), ∀ a x, ((![v6755] : Fin 1 → IVec S16 32) a x).toNat < S4096.size a := fun v6755 k0_hw799 => k0_hw799

def k0_chk800 (v6763 : IVec S16 32) : Prop :=
  (∀ a x, ((![v6763] : Fin 1 → IVec S16 32) a x).toNat < S4096.size a)
theorem k0_idx796_inb : ∀ (v6763 : IVec S16 32) (k0_hw800 : k0_chk800 v6763), ∀ a x, ((![v6763] : Fin 1 → IVec S16 32) a x).toNat < S4096.size a := fun v6763 k0_hw800 => k0_hw800

def k0_chk801 (v6771 : IVec S16 32) : Prop :=
  (∀ a x, ((![v6771] : Fin 1 → IVec S16 32) a x).toNat < S4096.size a)
theorem k0_idx797_inb : ∀ (v6771 : IVec S16 32) (k0_hw801 : k0_chk801 v6771), ∀ a x, ((![v6771] : Fin 1 → IVec S16 32) a x).toNat < S4096.size a := fun v6771 k0_hw801 => k0_hw801

def k0_chk802 (v6779 : IVec S16 32) : Prop :=
  (∀ a x, ((![v6779] : Fin 1 → IVec S16 32) a x).toNat < S4096.size a)
theorem k0_idx798_inb : ∀ (v6779 : IVec S16 32) (k0_hw802 : k0_chk802 v6779), ∀ a x, ((![v6779] : Fin 1 → IVec S16 32) a x).toNat < S4096.size a := fun v6779 k0_hw802 => k0_hw802

def k0_chk803 (v6787 : IVec S16 32) : Prop :=
  (∀ a x, ((![v6787] : Fin 1 → IVec S16 32) a x).toNat < S4096.size a)
theorem k0_idx799_inb : ∀ (v6787 : IVec S16 32) (k0_hw803 : k0_chk803 v6787), ∀ a x, ((![v6787] : Fin 1 → IVec S16 32) a x).toNat < S4096.size a := fun v6787 k0_hw803 => k0_hw803

def k0_chk804 (v6795 : IVec S16 32) : Prop :=
  (∀ a x, ((![v6795] : Fin 1 → IVec S16 32) a x).toNat < S4096.size a)
theorem k0_idx800_inb : ∀ (v6795 : IVec S16 32) (k0_hw804 : k0_chk804 v6795), ∀ a x, ((![v6795] : Fin 1 → IVec S16 32) a x).toNat < S4096.size a := fun v6795 k0_hw804 => k0_hw804

def k0_chk805 (v6803 : IVec S16 32) : Prop :=
  (∀ a x, ((![v6803] : Fin 1 → IVec S16 32) a x).toNat < S4096.size a)
theorem k0_idx801_inb : ∀ (v6803 : IVec S16 32) (k0_hw805 : k0_chk805 v6803), ∀ a x, ((![v6803] : Fin 1 → IVec S16 32) a x).toNat < S4096.size a := fun v6803 k0_hw805 => k0_hw805

def k0_chk806 (v6811 : IVec S16 32) : Prop :=
  (∀ a x, ((![v6811] : Fin 1 → IVec S16 32) a x).toNat < S4096.size a)
theorem k0_idx802_inb : ∀ (v6811 : IVec S16 32) (k0_hw806 : k0_chk806 v6811), ∀ a x, ((![v6811] : Fin 1 → IVec S16 32) a x).toNat < S4096.size a := fun v6811 k0_hw806 => k0_hw806

def k0_chk807 (v6819 : IVec S16 32) : Prop :=
  (∀ a x, ((![v6819] : Fin 1 → IVec S16 32) a x).toNat < S4096.size a)
theorem k0_idx803_inb : ∀ (v6819 : IVec S16 32) (k0_hw807 : k0_chk807 v6819), ∀ a x, ((![v6819] : Fin 1 → IVec S16 32) a x).toNat < S4096.size a := fun v6819 k0_hw807 => k0_hw807

def k0_chk808 (v6827 : IVec S16 32) : Prop :=
  (∀ a x, ((![v6827] : Fin 1 → IVec S16 32) a x).toNat < S4096.size a)
theorem k0_idx804_inb : ∀ (v6827 : IVec S16 32) (k0_hw808 : k0_chk808 v6827), ∀ a x, ((![v6827] : Fin 1 → IVec S16 32) a x).toNat < S4096.size a := fun v6827 k0_hw808 => k0_hw808

def k0_chk809 (v6835 : IVec S16 32) : Prop :=
  (∀ a x, ((![v6835] : Fin 1 → IVec S16 32) a x).toNat < S4096.size a)
theorem k0_idx805_inb : ∀ (v6835 : IVec S16 32) (k0_hw809 : k0_chk809 v6835), ∀ a x, ((![v6835] : Fin 1 → IVec S16 32) a x).toNat < S4096.size a := fun v6835 k0_hw809 => k0_hw809

def k0_chk810 (v6846 : IVec S16 32) : Prop :=
  (∀ a x, ((![v6846] : Fin 1 → IVec S16 32) a x).toNat < S4096.size a)
theorem k0_idx806_inb : ∀ (v6846 : IVec S16 32) (k0_hw810 : k0_chk810 v6846), ∀ a x, ((![v6846] : Fin 1 → IVec S16 32) a x).toNat < S4096.size a := fun v6846 k0_hw810 => k0_hw810

def k0_chk811 (v6854 : IVec S16 32) : Prop :=
  (∀ a x, ((![v6854] : Fin 1 → IVec S16 32) a x).toNat < S4096.size a)
theorem k0_idx807_inb : ∀ (v6854 : IVec S16 32) (k0_hw811 : k0_chk811 v6854), ∀ a x, ((![v6854] : Fin 1 → IVec S16 32) a x).toNat < S4096.size a := fun v6854 k0_hw811 => k0_hw811

def k0_chk812 (v6862 : IVec S16 32) : Prop :=
  (∀ a x, ((![v6862] : Fin 1 → IVec S16 32) a x).toNat < S4096.size a)
theorem k0_idx808_inb : ∀ (v6862 : IVec S16 32) (k0_hw812 : k0_chk812 v6862), ∀ a x, ((![v6862] : Fin 1 → IVec S16 32) a x).toNat < S4096.size a := fun v6862 k0_hw812 => k0_hw812

def k0_chk813 (v6870 : IVec S16 32) : Prop :=
  (∀ a x, ((![v6870] : Fin 1 → IVec S16 32) a x).toNat < S4096.size a)
theorem k0_idx809_inb : ∀ (v6870 : IVec S16 32) (k0_hw813 : k0_chk813 v6870), ∀ a x, ((![v6870] : Fin 1 → IVec S16 32) a x).toNat < S4096.size a := fun v6870 k0_hw813 => k0_hw813

def k0_chk814 (v6878 : IVec S16 32) : Prop :=
  (∀ a x, ((![v6878] : Fin 1 → IVec S16 32) a x).toNat < S4096.size a)
theorem k0_idx810_inb : ∀ (v6878 : IVec S16 32) (k0_hw814 : k0_chk814 v6878), ∀ a x, ((![v6878] : Fin 1 → IVec S16 32) a x).toNat < S4096.size a := fun v6878 k0_hw814 => k0_hw814

def k0_chk815 (v6886 : IVec S16 32) : Prop :=
  (∀ a x, ((![v6886] : Fin 1 → IVec S16 32) a x).toNat < S4096.size a)
theorem k0_idx811_inb : ∀ (v6886 : IVec S16 32) (k0_hw815 : k0_chk815 v6886), ∀ a x, ((![v6886] : Fin 1 → IVec S16 32) a x).toNat < S4096.size a := fun v6886 k0_hw815 => k0_hw815

def k0_chk816 (v6894 : IVec S16 32) : Prop :=
  (∀ a x, ((![v6894] : Fin 1 → IVec S16 32) a x).toNat < S4096.size a)
theorem k0_idx812_inb : ∀ (v6894 : IVec S16 32) (k0_hw816 : k0_chk816 v6894), ∀ a x, ((![v6894] : Fin 1 → IVec S16 32) a x).toNat < S4096.size a := fun v6894 k0_hw816 => k0_hw816

def k0_chk817 (v6902 : IVec S16 32) : Prop :=
  (∀ a x, ((![v6902] : Fin 1 → IVec S16 32) a x).toNat < S4096.size a)
theorem k0_idx813_inb : ∀ (v6902 : IVec S16 32) (k0_hw817 : k0_chk817 v6902), ∀ a x, ((![v6902] : Fin 1 → IVec S16 32) a x).toNat < S4096.size a := fun v6902 k0_hw817 => k0_hw817

def k0_chk818 (v6910 : IVec S16 32) : Prop :=
  (∀ a x, ((![v6910] : Fin 1 → IVec S16 32) a x).toNat < S4096.size a)
theorem k0_idx814_inb : ∀ (v6910 : IVec S16 32) (k0_hw818 : k0_chk818 v6910), ∀ a x, ((![v6910] : Fin 1 → IVec S16 32) a x).toNat < S4096.size a := fun v6910 k0_hw818 => k0_hw818

def k0_chk819 (v6918 : IVec S16 32) : Prop :=
  (∀ a x, ((![v6918] : Fin 1 → IVec S16 32) a x).toNat < S4096.size a)
theorem k0_idx815_inb : ∀ (v6918 : IVec S16 32) (k0_hw819 : k0_chk819 v6918), ∀ a x, ((![v6918] : Fin 1 → IVec S16 32) a x).toNat < S4096.size a := fun v6918 k0_hw819 => k0_hw819

def k0_chk820 (v6926 : IVec S16 32) : Prop :=
  (∀ a x, ((![v6926] : Fin 1 → IVec S16 32) a x).toNat < S4096.size a)
theorem k0_idx816_inb : ∀ (v6926 : IVec S16 32) (k0_hw820 : k0_chk820 v6926), ∀ a x, ((![v6926] : Fin 1 → IVec S16 32) a x).toNat < S4096.size a := fun v6926 k0_hw820 => k0_hw820

def k0_chk821 (v6934 : IVec S16 32) : Prop :=
  (∀ a x, ((![v6934] : Fin 1 → IVec S16 32) a x).toNat < S4096.size a)
theorem k0_idx817_inb : ∀ (v6934 : IVec S16 32) (k0_hw821 : k0_chk821 v6934), ∀ a x, ((![v6934] : Fin 1 → IVec S16 32) a x).toNat < S4096.size a := fun v6934 k0_hw821 => k0_hw821

def k0_chk822 (v6942 : IVec S16 32) : Prop :=
  (∀ a x, ((![v6942] : Fin 1 → IVec S16 32) a x).toNat < S4096.size a)
theorem k0_idx818_inb : ∀ (v6942 : IVec S16 32) (k0_hw822 : k0_chk822 v6942), ∀ a x, ((![v6942] : Fin 1 → IVec S16 32) a x).toNat < S4096.size a := fun v6942 k0_hw822 => k0_hw822

def k0_chk823 (v6950 : IVec S16 32) : Prop :=
  (∀ a x, ((![v6950] : Fin 1 → IVec S16 32) a x).toNat < S4096.size a)
theorem k0_idx819_inb : ∀ (v6950 : IVec S16 32) (k0_hw823 : k0_chk823 v6950), ∀ a x, ((![v6950] : Fin 1 → IVec S16 32) a x).toNat < S4096.size a := fun v6950 k0_hw823 => k0_hw823

def k0_chk824 (v6958 : IVec S16 32) : Prop :=
  (∀ a x, ((![v6958] : Fin 1 → IVec S16 32) a x).toNat < S4096.size a)
theorem k0_idx820_inb : ∀ (v6958 : IVec S16 32) (k0_hw824 : k0_chk824 v6958), ∀ a x, ((![v6958] : Fin 1 → IVec S16 32) a x).toNat < S4096.size a := fun v6958 k0_hw824 => k0_hw824

def k0_chk825 (v6966 : IVec S16 32) : Prop :=
  (∀ a x, ((![v6966] : Fin 1 → IVec S16 32) a x).toNat < S4096.size a)
theorem k0_idx821_inb : ∀ (v6966 : IVec S16 32) (k0_hw825 : k0_chk825 v6966), ∀ a x, ((![v6966] : Fin 1 → IVec S16 32) a x).toNat < S4096.size a := fun v6966 k0_hw825 => k0_hw825

def k0_chk826 (v6977 : IVec S16 32) : Prop :=
  (∀ a x, ((![v6977] : Fin 1 → IVec S16 32) a x).toNat < S4096.size a)
theorem k0_idx822_inb : ∀ (v6977 : IVec S16 32) (k0_hw826 : k0_chk826 v6977), ∀ a x, ((![v6977] : Fin 1 → IVec S16 32) a x).toNat < S4096.size a := fun v6977 k0_hw826 => k0_hw826

def k0_chk827 (v6985 : IVec S16 32) : Prop :=
  (∀ a x, ((![v6985] : Fin 1 → IVec S16 32) a x).toNat < S4096.size a)
theorem k0_idx823_inb : ∀ (v6985 : IVec S16 32) (k0_hw827 : k0_chk827 v6985), ∀ a x, ((![v6985] : Fin 1 → IVec S16 32) a x).toNat < S4096.size a := fun v6985 k0_hw827 => k0_hw827

def k0_chk828 (v6993 : IVec S16 32) : Prop :=
  (∀ a x, ((![v6993] : Fin 1 → IVec S16 32) a x).toNat < S4096.size a)
theorem k0_idx824_inb : ∀ (v6993 : IVec S16 32) (k0_hw828 : k0_chk828 v6993), ∀ a x, ((![v6993] : Fin 1 → IVec S16 32) a x).toNat < S4096.size a := fun v6993 k0_hw828 => k0_hw828

def k0_chk829 (v7001 : IVec S16 32) : Prop :=
  (∀ a x, ((![v7001] : Fin 1 → IVec S16 32) a x).toNat < S4096.size a)
theorem k0_idx825_inb : ∀ (v7001 : IVec S16 32) (k0_hw829 : k0_chk829 v7001), ∀ a x, ((![v7001] : Fin 1 → IVec S16 32) a x).toNat < S4096.size a := fun v7001 k0_hw829 => k0_hw829

def k0_chk830 (v7009 : IVec S16 32) : Prop :=
  (∀ a x, ((![v7009] : Fin 1 → IVec S16 32) a x).toNat < S4096.size a)
theorem k0_idx826_inb : ∀ (v7009 : IVec S16 32) (k0_hw830 : k0_chk830 v7009), ∀ a x, ((![v7009] : Fin 1 → IVec S16 32) a x).toNat < S4096.size a := fun v7009 k0_hw830 => k0_hw830

def k0_chk831 (v7017 : IVec S16 32) : Prop :=
  (∀ a x, ((![v7017] : Fin 1 → IVec S16 32) a x).toNat < S4096.size a)
theorem k0_idx827_inb : ∀ (v7017 : IVec S16 32) (k0_hw831 : k0_chk831 v7017), ∀ a x, ((![v7017] : Fin 1 → IVec S16 32) a x).toNat < S4096.size a := fun v7017 k0_hw831 => k0_hw831

def k0_chk832 (v7025 : IVec S16 32) : Prop :=
  (∀ a x, ((![v7025] : Fin 1 → IVec S16 32) a x).toNat < S4096.size a)
theorem k0_idx828_inb : ∀ (v7025 : IVec S16 32) (k0_hw832 : k0_chk832 v7025), ∀ a x, ((![v7025] : Fin 1 → IVec S16 32) a x).toNat < S4096.size a := fun v7025 k0_hw832 => k0_hw832

def k0_chk833 (v7033 : IVec S16 32) : Prop :=
  (∀ a x, ((![v7033] : Fin 1 → IVec S16 32) a x).toNat < S4096.size a)
theorem k0_idx829_inb : ∀ (v7033 : IVec S16 32) (k0_hw833 : k0_chk833 v7033), ∀ a x, ((![v7033] : Fin 1 → IVec S16 32) a x).toNat < S4096.size a := fun v7033 k0_hw833 => k0_hw833

def k0_chk834 (v7041 : IVec S16 32) : Prop :=
  (∀ a x, ((![v7041] : Fin 1 → IVec S16 32) a x).toNat < S4096.size a)
theorem k0_idx830_inb : ∀ (v7041 : IVec S16 32) (k0_hw834 : k0_chk834 v7041), ∀ a x, ((![v7041] : Fin 1 → IVec S16 32) a x).toNat < S4096.size a := fun v7041 k0_hw834 => k0_hw834

def k0_chk835 (v7049 : IVec S16 32) : Prop :=
  (∀ a x, ((![v7049] : Fin 1 → IVec S16 32) a x).toNat < S4096.size a)
theorem k0_idx831_inb : ∀ (v7049 : IVec S16 32) (k0_hw835 : k0_chk835 v7049), ∀ a x, ((![v7049] : Fin 1 → IVec S16 32) a x).toNat < S4096.size a := fun v7049 k0_hw835 => k0_hw835

def k0_chk836 (v7057 : IVec S16 32) : Prop :=
  (∀ a x, ((![v7057] : Fin 1 → IVec S16 32) a x).toNat < S4096.size a)
theorem k0_idx832_inb : ∀ (v7057 : IVec S16 32) (k0_hw836 : k0_chk836 v7057), ∀ a x, ((![v7057] : Fin 1 → IVec S16 32) a x).toNat < S4096.size a := fun v7057 k0_hw836 => k0_hw836

def k0_chk837 (v7065 : IVec S16 32) : Prop :=
  (∀ a x, ((![v7065] : Fin 1 → IVec S16 32) a x).toNat < S4096.size a)
theorem k0_idx833_inb : ∀ (v7065 : IVec S16 32) (k0_hw837 : k0_chk837 v7065), ∀ a x, ((![v7065] : Fin 1 → IVec S16 32) a x).toNat < S4096.size a := fun v7065 k0_hw837 => k0_hw837

def k0_chk838 (v7073 : IVec S16 32) : Prop :=
  (∀ a x, ((![v7073] : Fin 1 → IVec S16 32) a x).toNat < S4096.size a)
theorem k0_idx834_inb : ∀ (v7073 : IVec S16 32) (k0_hw838 : k0_chk838 v7073), ∀ a x, ((![v7073] : Fin 1 → IVec S16 32) a x).toNat < S4096.size a := fun v7073 k0_hw838 => k0_hw838

def k0_chk839 (v7081 : IVec S16 32) : Prop :=
  (∀ a x, ((![v7081] : Fin 1 → IVec S16 32) a x).toNat < S4096.size a)
theorem k0_idx835_inb : ∀ (v7081 : IVec S16 32) (k0_hw839 : k0_chk839 v7081), ∀ a x, ((![v7081] : Fin 1 → IVec S16 32) a x).toNat < S4096.size a := fun v7081 k0_hw839 => k0_hw839

def k0_chk840 (v7089 : IVec S16 32) : Prop :=
  (∀ a x, ((![v7089] : Fin 1 → IVec S16 32) a x).toNat < S4096.size a)
theorem k0_idx836_inb : ∀ (v7089 : IVec S16 32) (k0_hw840 : k0_chk840 v7089), ∀ a x, ((![v7089] : Fin 1 → IVec S16 32) a x).toNat < S4096.size a := fun v7089 k0_hw840 => k0_hw840

def k0_chk841 (v7097 : IVec S16 32) : Prop :=
  (∀ a x, ((![v7097] : Fin 1 → IVec S16 32) a x).toNat < S4096.size a)
theorem k0_idx837_inb : ∀ (v7097 : IVec S16 32) (k0_hw841 : k0_chk841 v7097), ∀ a x, ((![v7097] : Fin 1 → IVec S16 32) a x).toNat < S4096.size a := fun v7097 k0_hw841 => k0_hw841

def k0_chk842 (v7108 : IVec S16 32) : Prop :=
  (∀ a x, ((![v7108] : Fin 1 → IVec S16 32) a x).toNat < S4096.size a)
theorem k0_idx838_inb : ∀ (v7108 : IVec S16 32) (k0_hw842 : k0_chk842 v7108), ∀ a x, ((![v7108] : Fin 1 → IVec S16 32) a x).toNat < S4096.size a := fun v7108 k0_hw842 => k0_hw842

def k0_chk843 (v7116 : IVec S16 32) : Prop :=
  (∀ a x, ((![v7116] : Fin 1 → IVec S16 32) a x).toNat < S4096.size a)
theorem k0_idx839_inb : ∀ (v7116 : IVec S16 32) (k0_hw843 : k0_chk843 v7116), ∀ a x, ((![v7116] : Fin 1 → IVec S16 32) a x).toNat < S4096.size a := fun v7116 k0_hw843 => k0_hw843

def k0_chk844 (v7124 : IVec S16 32) : Prop :=
  (∀ a x, ((![v7124] : Fin 1 → IVec S16 32) a x).toNat < S4096.size a)
theorem k0_idx840_inb : ∀ (v7124 : IVec S16 32) (k0_hw844 : k0_chk844 v7124), ∀ a x, ((![v7124] : Fin 1 → IVec S16 32) a x).toNat < S4096.size a := fun v7124 k0_hw844 => k0_hw844

def k0_chk845 (v7132 : IVec S16 32) : Prop :=
  (∀ a x, ((![v7132] : Fin 1 → IVec S16 32) a x).toNat < S4096.size a)
theorem k0_idx841_inb : ∀ (v7132 : IVec S16 32) (k0_hw845 : k0_chk845 v7132), ∀ a x, ((![v7132] : Fin 1 → IVec S16 32) a x).toNat < S4096.size a := fun v7132 k0_hw845 => k0_hw845

def k0_chk846 (v7140 : IVec S16 32) : Prop :=
  (∀ a x, ((![v7140] : Fin 1 → IVec S16 32) a x).toNat < S4096.size a)
theorem k0_idx842_inb : ∀ (v7140 : IVec S16 32) (k0_hw846 : k0_chk846 v7140), ∀ a x, ((![v7140] : Fin 1 → IVec S16 32) a x).toNat < S4096.size a := fun v7140 k0_hw846 => k0_hw846

def k0_chk847 (v7148 : IVec S16 32) : Prop :=
  (∀ a x, ((![v7148] : Fin 1 → IVec S16 32) a x).toNat < S4096.size a)
theorem k0_idx843_inb : ∀ (v7148 : IVec S16 32) (k0_hw847 : k0_chk847 v7148), ∀ a x, ((![v7148] : Fin 1 → IVec S16 32) a x).toNat < S4096.size a := fun v7148 k0_hw847 => k0_hw847

def k0_chk848 (v7156 : IVec S16 32) : Prop :=
  (∀ a x, ((![v7156] : Fin 1 → IVec S16 32) a x).toNat < S4096.size a)
theorem k0_idx844_inb : ∀ (v7156 : IVec S16 32) (k0_hw848 : k0_chk848 v7156), ∀ a x, ((![v7156] : Fin 1 → IVec S16 32) a x).toNat < S4096.size a := fun v7156 k0_hw848 => k0_hw848

def k0_chk849 (v7164 : IVec S16 32) : Prop :=
  (∀ a x, ((![v7164] : Fin 1 → IVec S16 32) a x).toNat < S4096.size a)
theorem k0_idx845_inb : ∀ (v7164 : IVec S16 32) (k0_hw849 : k0_chk849 v7164), ∀ a x, ((![v7164] : Fin 1 → IVec S16 32) a x).toNat < S4096.size a := fun v7164 k0_hw849 => k0_hw849

def k0_chk850 (v7172 : IVec S16 32) : Prop :=
  (∀ a x, ((![v7172] : Fin 1 → IVec S16 32) a x).toNat < S4096.size a)
theorem k0_idx846_inb : ∀ (v7172 : IVec S16 32) (k0_hw850 : k0_chk850 v7172), ∀ a x, ((![v7172] : Fin 1 → IVec S16 32) a x).toNat < S4096.size a := fun v7172 k0_hw850 => k0_hw850

def k0_chk851 (v7180 : IVec S16 32) : Prop :=
  (∀ a x, ((![v7180] : Fin 1 → IVec S16 32) a x).toNat < S4096.size a)
theorem k0_idx847_inb : ∀ (v7180 : IVec S16 32) (k0_hw851 : k0_chk851 v7180), ∀ a x, ((![v7180] : Fin 1 → IVec S16 32) a x).toNat < S4096.size a := fun v7180 k0_hw851 => k0_hw851

def k0_chk852 (v7188 : IVec S16 32) : Prop :=
  (∀ a x, ((![v7188] : Fin 1 → IVec S16 32) a x).toNat < S4096.size a)
theorem k0_idx848_inb : ∀ (v7188 : IVec S16 32) (k0_hw852 : k0_chk852 v7188), ∀ a x, ((![v7188] : Fin 1 → IVec S16 32) a x).toNat < S4096.size a := fun v7188 k0_hw852 => k0_hw852

def k0_chk853 (v7196 : IVec S16 32) : Prop :=
  (∀ a x, ((![v7196] : Fin 1 → IVec S16 32) a x).toNat < S4096.size a)
theorem k0_idx849_inb : ∀ (v7196 : IVec S16 32) (k0_hw853 : k0_chk853 v7196), ∀ a x, ((![v7196] : Fin 1 → IVec S16 32) a x).toNat < S4096.size a := fun v7196 k0_hw853 => k0_hw853

def k0_chk854 (v7204 : IVec S16 32) : Prop :=
  (∀ a x, ((![v7204] : Fin 1 → IVec S16 32) a x).toNat < S4096.size a)
theorem k0_idx850_inb : ∀ (v7204 : IVec S16 32) (k0_hw854 : k0_chk854 v7204), ∀ a x, ((![v7204] : Fin 1 → IVec S16 32) a x).toNat < S4096.size a := fun v7204 k0_hw854 => k0_hw854

def k0_chk855 (v7212 : IVec S16 32) : Prop :=
  (∀ a x, ((![v7212] : Fin 1 → IVec S16 32) a x).toNat < S4096.size a)
theorem k0_idx851_inb : ∀ (v7212 : IVec S16 32) (k0_hw855 : k0_chk855 v7212), ∀ a x, ((![v7212] : Fin 1 → IVec S16 32) a x).toNat < S4096.size a := fun v7212 k0_hw855 => k0_hw855

def k0_chk856 (v7220 : IVec S16 32) : Prop :=
  (∀ a x, ((![v7220] : Fin 1 → IVec S16 32) a x).toNat < S4096.size a)
theorem k0_idx852_inb : ∀ (v7220 : IVec S16 32) (k0_hw856 : k0_chk856 v7220), ∀ a x, ((![v7220] : Fin 1 → IVec S16 32) a x).toNat < S4096.size a := fun v7220 k0_hw856 => k0_hw856

def k0_chk857 (v7228 : IVec S16 32) : Prop :=
  (∀ a x, ((![v7228] : Fin 1 → IVec S16 32) a x).toNat < S4096.size a)
theorem k0_idx853_inb : ∀ (v7228 : IVec S16 32) (k0_hw857 : k0_chk857 v7228), ∀ a x, ((![v7228] : Fin 1 → IVec S16 32) a x).toNat < S4096.size a := fun v7228 k0_hw857 => k0_hw857

def k0_chk858 (v7239 : IVec S16 32) : Prop :=
  (∀ a x, ((![v7239] : Fin 1 → IVec S16 32) a x).toNat < S4096.size a)
theorem k0_idx854_inb : ∀ (v7239 : IVec S16 32) (k0_hw858 : k0_chk858 v7239), ∀ a x, ((![v7239] : Fin 1 → IVec S16 32) a x).toNat < S4096.size a := fun v7239 k0_hw858 => k0_hw858

def k0_chk859 (v7247 : IVec S16 32) : Prop :=
  (∀ a x, ((![v7247] : Fin 1 → IVec S16 32) a x).toNat < S4096.size a)
theorem k0_idx855_inb : ∀ (v7247 : IVec S16 32) (k0_hw859 : k0_chk859 v7247), ∀ a x, ((![v7247] : Fin 1 → IVec S16 32) a x).toNat < S4096.size a := fun v7247 k0_hw859 => k0_hw859

def k0_chk860 (v7255 : IVec S16 32) : Prop :=
  (∀ a x, ((![v7255] : Fin 1 → IVec S16 32) a x).toNat < S4096.size a)
theorem k0_idx856_inb : ∀ (v7255 : IVec S16 32) (k0_hw860 : k0_chk860 v7255), ∀ a x, ((![v7255] : Fin 1 → IVec S16 32) a x).toNat < S4096.size a := fun v7255 k0_hw860 => k0_hw860

def k0_chk861 (v7263 : IVec S16 32) : Prop :=
  (∀ a x, ((![v7263] : Fin 1 → IVec S16 32) a x).toNat < S4096.size a)
theorem k0_idx857_inb : ∀ (v7263 : IVec S16 32) (k0_hw861 : k0_chk861 v7263), ∀ a x, ((![v7263] : Fin 1 → IVec S16 32) a x).toNat < S4096.size a := fun v7263 k0_hw861 => k0_hw861

def k0_chk862 (v7271 : IVec S16 32) : Prop :=
  (∀ a x, ((![v7271] : Fin 1 → IVec S16 32) a x).toNat < S4096.size a)
theorem k0_idx858_inb : ∀ (v7271 : IVec S16 32) (k0_hw862 : k0_chk862 v7271), ∀ a x, ((![v7271] : Fin 1 → IVec S16 32) a x).toNat < S4096.size a := fun v7271 k0_hw862 => k0_hw862

def k0_chk863 (v7279 : IVec S16 32) : Prop :=
  (∀ a x, ((![v7279] : Fin 1 → IVec S16 32) a x).toNat < S4096.size a)
theorem k0_idx859_inb : ∀ (v7279 : IVec S16 32) (k0_hw863 : k0_chk863 v7279), ∀ a x, ((![v7279] : Fin 1 → IVec S16 32) a x).toNat < S4096.size a := fun v7279 k0_hw863 => k0_hw863

def k0_chk864 (v7287 : IVec S16 32) : Prop :=
  (∀ a x, ((![v7287] : Fin 1 → IVec S16 32) a x).toNat < S4096.size a)
theorem k0_idx860_inb : ∀ (v7287 : IVec S16 32) (k0_hw864 : k0_chk864 v7287), ∀ a x, ((![v7287] : Fin 1 → IVec S16 32) a x).toNat < S4096.size a := fun v7287 k0_hw864 => k0_hw864

def k0_chk865 (v7295 : IVec S16 32) : Prop :=
  (∀ a x, ((![v7295] : Fin 1 → IVec S16 32) a x).toNat < S4096.size a)
theorem k0_idx861_inb : ∀ (v7295 : IVec S16 32) (k0_hw865 : k0_chk865 v7295), ∀ a x, ((![v7295] : Fin 1 → IVec S16 32) a x).toNat < S4096.size a := fun v7295 k0_hw865 => k0_hw865

def k0_chk866 (v7303 : IVec S16 32) : Prop :=
  (∀ a x, ((![v7303] : Fin 1 → IVec S16 32) a x).toNat < S4096.size a)
theorem k0_idx862_inb : ∀ (v7303 : IVec S16 32) (k0_hw866 : k0_chk866 v7303), ∀ a x, ((![v7303] : Fin 1 → IVec S16 32) a x).toNat < S4096.size a := fun v7303 k0_hw866 => k0_hw866

def k0_chk867 (v7311 : IVec S16 32) : Prop :=
  (∀ a x, ((![v7311] : Fin 1 → IVec S16 32) a x).toNat < S4096.size a)
theorem k0_idx863_inb : ∀ (v7311 : IVec S16 32) (k0_hw867 : k0_chk867 v7311), ∀ a x, ((![v7311] : Fin 1 → IVec S16 32) a x).toNat < S4096.size a := fun v7311 k0_hw867 => k0_hw867

def k0_chk868 (v7319 : IVec S16 32) : Prop :=
  (∀ a x, ((![v7319] : Fin 1 → IVec S16 32) a x).toNat < S4096.size a)
theorem k0_idx864_inb : ∀ (v7319 : IVec S16 32) (k0_hw868 : k0_chk868 v7319), ∀ a x, ((![v7319] : Fin 1 → IVec S16 32) a x).toNat < S4096.size a := fun v7319 k0_hw868 => k0_hw868

def k0_chk869 (v7327 : IVec S16 32) : Prop :=
  (∀ a x, ((![v7327] : Fin 1 → IVec S16 32) a x).toNat < S4096.size a)
theorem k0_idx865_inb : ∀ (v7327 : IVec S16 32) (k0_hw869 : k0_chk869 v7327), ∀ a x, ((![v7327] : Fin 1 → IVec S16 32) a x).toNat < S4096.size a := fun v7327 k0_hw869 => k0_hw869

def k0_chk870 (v7335 : IVec S16 32) : Prop :=
  (∀ a x, ((![v7335] : Fin 1 → IVec S16 32) a x).toNat < S4096.size a)
theorem k0_idx866_inb : ∀ (v7335 : IVec S16 32) (k0_hw870 : k0_chk870 v7335), ∀ a x, ((![v7335] : Fin 1 → IVec S16 32) a x).toNat < S4096.size a := fun v7335 k0_hw870 => k0_hw870

def k0_chk871 (v7343 : IVec S16 32) : Prop :=
  (∀ a x, ((![v7343] : Fin 1 → IVec S16 32) a x).toNat < S4096.size a)
theorem k0_idx867_inb : ∀ (v7343 : IVec S16 32) (k0_hw871 : k0_chk871 v7343), ∀ a x, ((![v7343] : Fin 1 → IVec S16 32) a x).toNat < S4096.size a := fun v7343 k0_hw871 => k0_hw871

def k0_chk872 (v7351 : IVec S16 32) : Prop :=
  (∀ a x, ((![v7351] : Fin 1 → IVec S16 32) a x).toNat < S4096.size a)
theorem k0_idx868_inb : ∀ (v7351 : IVec S16 32) (k0_hw872 : k0_chk872 v7351), ∀ a x, ((![v7351] : Fin 1 → IVec S16 32) a x).toNat < S4096.size a := fun v7351 k0_hw872 => k0_hw872

def k0_chk873 (v7359 : IVec S16 32) : Prop :=
  (∀ a x, ((![v7359] : Fin 1 → IVec S16 32) a x).toNat < S4096.size a)
theorem k0_idx869_inb : ∀ (v7359 : IVec S16 32) (k0_hw873 : k0_chk873 v7359), ∀ a x, ((![v7359] : Fin 1 → IVec S16 32) a x).toNat < S4096.size a := fun v7359 k0_hw873 => k0_hw873

def k0_chk874 (v7370 : IVec S16 32) : Prop :=
  (∀ a x, ((![v7370] : Fin 1 → IVec S16 32) a x).toNat < S4096.size a)
theorem k0_idx870_inb : ∀ (v7370 : IVec S16 32) (k0_hw874 : k0_chk874 v7370), ∀ a x, ((![v7370] : Fin 1 → IVec S16 32) a x).toNat < S4096.size a := fun v7370 k0_hw874 => k0_hw874

def k0_chk875 (v7378 : IVec S16 32) : Prop :=
  (∀ a x, ((![v7378] : Fin 1 → IVec S16 32) a x).toNat < S4096.size a)
theorem k0_idx871_inb : ∀ (v7378 : IVec S16 32) (k0_hw875 : k0_chk875 v7378), ∀ a x, ((![v7378] : Fin 1 → IVec S16 32) a x).toNat < S4096.size a := fun v7378 k0_hw875 => k0_hw875

def k0_chk876 (v7386 : IVec S16 32) : Prop :=
  (∀ a x, ((![v7386] : Fin 1 → IVec S16 32) a x).toNat < S4096.size a)
theorem k0_idx872_inb : ∀ (v7386 : IVec S16 32) (k0_hw876 : k0_chk876 v7386), ∀ a x, ((![v7386] : Fin 1 → IVec S16 32) a x).toNat < S4096.size a := fun v7386 k0_hw876 => k0_hw876

def k0_chk877 (v7394 : IVec S16 32) : Prop :=
  (∀ a x, ((![v7394] : Fin 1 → IVec S16 32) a x).toNat < S4096.size a)
theorem k0_idx873_inb : ∀ (v7394 : IVec S16 32) (k0_hw877 : k0_chk877 v7394), ∀ a x, ((![v7394] : Fin 1 → IVec S16 32) a x).toNat < S4096.size a := fun v7394 k0_hw877 => k0_hw877

def k0_chk878 (v7402 : IVec S16 32) : Prop :=
  (∀ a x, ((![v7402] : Fin 1 → IVec S16 32) a x).toNat < S4096.size a)
theorem k0_idx874_inb : ∀ (v7402 : IVec S16 32) (k0_hw878 : k0_chk878 v7402), ∀ a x, ((![v7402] : Fin 1 → IVec S16 32) a x).toNat < S4096.size a := fun v7402 k0_hw878 => k0_hw878

def k0_chk879 (v7410 : IVec S16 32) : Prop :=
  (∀ a x, ((![v7410] : Fin 1 → IVec S16 32) a x).toNat < S4096.size a)
theorem k0_idx875_inb : ∀ (v7410 : IVec S16 32) (k0_hw879 : k0_chk879 v7410), ∀ a x, ((![v7410] : Fin 1 → IVec S16 32) a x).toNat < S4096.size a := fun v7410 k0_hw879 => k0_hw879

def k0_chk880 (v7418 : IVec S16 32) : Prop :=
  (∀ a x, ((![v7418] : Fin 1 → IVec S16 32) a x).toNat < S4096.size a)
theorem k0_idx876_inb : ∀ (v7418 : IVec S16 32) (k0_hw880 : k0_chk880 v7418), ∀ a x, ((![v7418] : Fin 1 → IVec S16 32) a x).toNat < S4096.size a := fun v7418 k0_hw880 => k0_hw880

def k0_chk881 (v7426 : IVec S16 32) : Prop :=
  (∀ a x, ((![v7426] : Fin 1 → IVec S16 32) a x).toNat < S4096.size a)
theorem k0_idx877_inb : ∀ (v7426 : IVec S16 32) (k0_hw881 : k0_chk881 v7426), ∀ a x, ((![v7426] : Fin 1 → IVec S16 32) a x).toNat < S4096.size a := fun v7426 k0_hw881 => k0_hw881

def k0_chk882 (v7434 : IVec S16 32) : Prop :=
  (∀ a x, ((![v7434] : Fin 1 → IVec S16 32) a x).toNat < S4096.size a)
theorem k0_idx878_inb : ∀ (v7434 : IVec S16 32) (k0_hw882 : k0_chk882 v7434), ∀ a x, ((![v7434] : Fin 1 → IVec S16 32) a x).toNat < S4096.size a := fun v7434 k0_hw882 => k0_hw882

def k0_chk883 (v7442 : IVec S16 32) : Prop :=
  (∀ a x, ((![v7442] : Fin 1 → IVec S16 32) a x).toNat < S4096.size a)
theorem k0_idx879_inb : ∀ (v7442 : IVec S16 32) (k0_hw883 : k0_chk883 v7442), ∀ a x, ((![v7442] : Fin 1 → IVec S16 32) a x).toNat < S4096.size a := fun v7442 k0_hw883 => k0_hw883

def k0_chk884 (v7450 : IVec S16 32) : Prop :=
  (∀ a x, ((![v7450] : Fin 1 → IVec S16 32) a x).toNat < S4096.size a)
theorem k0_idx880_inb : ∀ (v7450 : IVec S16 32) (k0_hw884 : k0_chk884 v7450), ∀ a x, ((![v7450] : Fin 1 → IVec S16 32) a x).toNat < S4096.size a := fun v7450 k0_hw884 => k0_hw884

def k0_chk885 (v7458 : IVec S16 32) : Prop :=
  (∀ a x, ((![v7458] : Fin 1 → IVec S16 32) a x).toNat < S4096.size a)
theorem k0_idx881_inb : ∀ (v7458 : IVec S16 32) (k0_hw885 : k0_chk885 v7458), ∀ a x, ((![v7458] : Fin 1 → IVec S16 32) a x).toNat < S4096.size a := fun v7458 k0_hw885 => k0_hw885

def k0_chk886 (v7466 : IVec S16 32) : Prop :=
  (∀ a x, ((![v7466] : Fin 1 → IVec S16 32) a x).toNat < S4096.size a)
theorem k0_idx882_inb : ∀ (v7466 : IVec S16 32) (k0_hw886 : k0_chk886 v7466), ∀ a x, ((![v7466] : Fin 1 → IVec S16 32) a x).toNat < S4096.size a := fun v7466 k0_hw886 => k0_hw886

def k0_chk887 (v7474 : IVec S16 32) : Prop :=
  (∀ a x, ((![v7474] : Fin 1 → IVec S16 32) a x).toNat < S4096.size a)
theorem k0_idx883_inb : ∀ (v7474 : IVec S16 32) (k0_hw887 : k0_chk887 v7474), ∀ a x, ((![v7474] : Fin 1 → IVec S16 32) a x).toNat < S4096.size a := fun v7474 k0_hw887 => k0_hw887

def k0_chk888 (v7482 : IVec S16 32) : Prop :=
  (∀ a x, ((![v7482] : Fin 1 → IVec S16 32) a x).toNat < S4096.size a)
theorem k0_idx884_inb : ∀ (v7482 : IVec S16 32) (k0_hw888 : k0_chk888 v7482), ∀ a x, ((![v7482] : Fin 1 → IVec S16 32) a x).toNat < S4096.size a := fun v7482 k0_hw888 => k0_hw888

def k0_chk889 (v7490 : IVec S16 32) : Prop :=
  (∀ a x, ((![v7490] : Fin 1 → IVec S16 32) a x).toNat < S4096.size a)
theorem k0_idx885_inb : ∀ (v7490 : IVec S16 32) (k0_hw889 : k0_chk889 v7490), ∀ a x, ((![v7490] : Fin 1 → IVec S16 32) a x).toNat < S4096.size a := fun v7490 k0_hw889 => k0_hw889

def k0_chk890 (v7501 : IVec S16 32) : Prop :=
  (∀ a x, ((![v7501] : Fin 1 → IVec S16 32) a x).toNat < S4096.size a)
theorem k0_idx886_inb : ∀ (v7501 : IVec S16 32) (k0_hw890 : k0_chk890 v7501), ∀ a x, ((![v7501] : Fin 1 → IVec S16 32) a x).toNat < S4096.size a := fun v7501 k0_hw890 => k0_hw890

def k0_chk891 (v7509 : IVec S16 32) : Prop :=
  (∀ a x, ((![v7509] : Fin 1 → IVec S16 32) a x).toNat < S4096.size a)
theorem k0_idx887_inb : ∀ (v7509 : IVec S16 32) (k0_hw891 : k0_chk891 v7509), ∀ a x, ((![v7509] : Fin 1 → IVec S16 32) a x).toNat < S4096.size a := fun v7509 k0_hw891 => k0_hw891

def k0_chk892 (v7517 : IVec S16 32) : Prop :=
  (∀ a x, ((![v7517] : Fin 1 → IVec S16 32) a x).toNat < S4096.size a)
theorem k0_idx888_inb : ∀ (v7517 : IVec S16 32) (k0_hw892 : k0_chk892 v7517), ∀ a x, ((![v7517] : Fin 1 → IVec S16 32) a x).toNat < S4096.size a := fun v7517 k0_hw892 => k0_hw892

def k0_chk893 (v7525 : IVec S16 32) : Prop :=
  (∀ a x, ((![v7525] : Fin 1 → IVec S16 32) a x).toNat < S4096.size a)
theorem k0_idx889_inb : ∀ (v7525 : IVec S16 32) (k0_hw893 : k0_chk893 v7525), ∀ a x, ((![v7525] : Fin 1 → IVec S16 32) a x).toNat < S4096.size a := fun v7525 k0_hw893 => k0_hw893

def k0_chk894 (v7533 : IVec S16 32) : Prop :=
  (∀ a x, ((![v7533] : Fin 1 → IVec S16 32) a x).toNat < S4096.size a)
theorem k0_idx890_inb : ∀ (v7533 : IVec S16 32) (k0_hw894 : k0_chk894 v7533), ∀ a x, ((![v7533] : Fin 1 → IVec S16 32) a x).toNat < S4096.size a := fun v7533 k0_hw894 => k0_hw894

def k0_chk895 (v7541 : IVec S16 32) : Prop :=
  (∀ a x, ((![v7541] : Fin 1 → IVec S16 32) a x).toNat < S4096.size a)
theorem k0_idx891_inb : ∀ (v7541 : IVec S16 32) (k0_hw895 : k0_chk895 v7541), ∀ a x, ((![v7541] : Fin 1 → IVec S16 32) a x).toNat < S4096.size a := fun v7541 k0_hw895 => k0_hw895

def k0_chk896 (v7549 : IVec S16 32) : Prop :=
  (∀ a x, ((![v7549] : Fin 1 → IVec S16 32) a x).toNat < S4096.size a)
theorem k0_idx892_inb : ∀ (v7549 : IVec S16 32) (k0_hw896 : k0_chk896 v7549), ∀ a x, ((![v7549] : Fin 1 → IVec S16 32) a x).toNat < S4096.size a := fun v7549 k0_hw896 => k0_hw896

def k0_chk897 (v7557 : IVec S16 32) : Prop :=
  (∀ a x, ((![v7557] : Fin 1 → IVec S16 32) a x).toNat < S4096.size a)
theorem k0_idx893_inb : ∀ (v7557 : IVec S16 32) (k0_hw897 : k0_chk897 v7557), ∀ a x, ((![v7557] : Fin 1 → IVec S16 32) a x).toNat < S4096.size a := fun v7557 k0_hw897 => k0_hw897

def k0_chk898 (v7565 : IVec S16 32) : Prop :=
  (∀ a x, ((![v7565] : Fin 1 → IVec S16 32) a x).toNat < S4096.size a)
theorem k0_idx894_inb : ∀ (v7565 : IVec S16 32) (k0_hw898 : k0_chk898 v7565), ∀ a x, ((![v7565] : Fin 1 → IVec S16 32) a x).toNat < S4096.size a := fun v7565 k0_hw898 => k0_hw898

def k0_chk899 (v7573 : IVec S16 32) : Prop :=
  (∀ a x, ((![v7573] : Fin 1 → IVec S16 32) a x).toNat < S4096.size a)
theorem k0_idx895_inb : ∀ (v7573 : IVec S16 32) (k0_hw899 : k0_chk899 v7573), ∀ a x, ((![v7573] : Fin 1 → IVec S16 32) a x).toNat < S4096.size a := fun v7573 k0_hw899 => k0_hw899

def k0_chk900 (v7581 : IVec S16 32) : Prop :=
  (∀ a x, ((![v7581] : Fin 1 → IVec S16 32) a x).toNat < S4096.size a)
theorem k0_idx896_inb : ∀ (v7581 : IVec S16 32) (k0_hw900 : k0_chk900 v7581), ∀ a x, ((![v7581] : Fin 1 → IVec S16 32) a x).toNat < S4096.size a := fun v7581 k0_hw900 => k0_hw900

def k0_chk901 (v7589 : IVec S16 32) : Prop :=
  (∀ a x, ((![v7589] : Fin 1 → IVec S16 32) a x).toNat < S4096.size a)
theorem k0_idx897_inb : ∀ (v7589 : IVec S16 32) (k0_hw901 : k0_chk901 v7589), ∀ a x, ((![v7589] : Fin 1 → IVec S16 32) a x).toNat < S4096.size a := fun v7589 k0_hw901 => k0_hw901

def k0_chk902 (v7597 : IVec S16 32) : Prop :=
  (∀ a x, ((![v7597] : Fin 1 → IVec S16 32) a x).toNat < S4096.size a)
theorem k0_idx898_inb : ∀ (v7597 : IVec S16 32) (k0_hw902 : k0_chk902 v7597), ∀ a x, ((![v7597] : Fin 1 → IVec S16 32) a x).toNat < S4096.size a := fun v7597 k0_hw902 => k0_hw902

def k0_chk903 (v7605 : IVec S16 32) : Prop :=
  (∀ a x, ((![v7605] : Fin 1 → IVec S16 32) a x).toNat < S4096.size a)
theorem k0_idx899_inb : ∀ (v7605 : IVec S16 32) (k0_hw903 : k0_chk903 v7605), ∀ a x, ((![v7605] : Fin 1 → IVec S16 32) a x).toNat < S4096.size a := fun v7605 k0_hw903 => k0_hw903

def k0_chk904 (v7613 : IVec S16 32) : Prop :=
  (∀ a x, ((![v7613] : Fin 1 → IVec S16 32) a x).toNat < S4096.size a)
theorem k0_idx900_inb : ∀ (v7613 : IVec S16 32) (k0_hw904 : k0_chk904 v7613), ∀ a x, ((![v7613] : Fin 1 → IVec S16 32) a x).toNat < S4096.size a := fun v7613 k0_hw904 => k0_hw904

def k0_chk905 (v7621 : IVec S16 32) : Prop :=
  (∀ a x, ((![v7621] : Fin 1 → IVec S16 32) a x).toNat < S4096.size a)
theorem k0_idx901_inb : ∀ (v7621 : IVec S16 32) (k0_hw905 : k0_chk905 v7621), ∀ a x, ((![v7621] : Fin 1 → IVec S16 32) a x).toNat < S4096.size a := fun v7621 k0_hw905 => k0_hw905

def k0_chk906 (v7632 : IVec S16 32) : Prop :=
  (∀ a x, ((![v7632] : Fin 1 → IVec S16 32) a x).toNat < S4096.size a)
theorem k0_idx902_inb : ∀ (v7632 : IVec S16 32) (k0_hw906 : k0_chk906 v7632), ∀ a x, ((![v7632] : Fin 1 → IVec S16 32) a x).toNat < S4096.size a := fun v7632 k0_hw906 => k0_hw906

def k0_chk907 (v7640 : IVec S16 32) : Prop :=
  (∀ a x, ((![v7640] : Fin 1 → IVec S16 32) a x).toNat < S4096.size a)
theorem k0_idx903_inb : ∀ (v7640 : IVec S16 32) (k0_hw907 : k0_chk907 v7640), ∀ a x, ((![v7640] : Fin 1 → IVec S16 32) a x).toNat < S4096.size a := fun v7640 k0_hw907 => k0_hw907

def k0_chk908 (v7648 : IVec S16 32) : Prop :=
  (∀ a x, ((![v7648] : Fin 1 → IVec S16 32) a x).toNat < S4096.size a)
theorem k0_idx904_inb : ∀ (v7648 : IVec S16 32) (k0_hw908 : k0_chk908 v7648), ∀ a x, ((![v7648] : Fin 1 → IVec S16 32) a x).toNat < S4096.size a := fun v7648 k0_hw908 => k0_hw908

def k0_chk909 (v7656 : IVec S16 32) : Prop :=
  (∀ a x, ((![v7656] : Fin 1 → IVec S16 32) a x).toNat < S4096.size a)
theorem k0_idx905_inb : ∀ (v7656 : IVec S16 32) (k0_hw909 : k0_chk909 v7656), ∀ a x, ((![v7656] : Fin 1 → IVec S16 32) a x).toNat < S4096.size a := fun v7656 k0_hw909 => k0_hw909

def k0_chk910 (v7664 : IVec S16 32) : Prop :=
  (∀ a x, ((![v7664] : Fin 1 → IVec S16 32) a x).toNat < S4096.size a)
theorem k0_idx906_inb : ∀ (v7664 : IVec S16 32) (k0_hw910 : k0_chk910 v7664), ∀ a x, ((![v7664] : Fin 1 → IVec S16 32) a x).toNat < S4096.size a := fun v7664 k0_hw910 => k0_hw910

def k0_chk911 (v7672 : IVec S16 32) : Prop :=
  (∀ a x, ((![v7672] : Fin 1 → IVec S16 32) a x).toNat < S4096.size a)
theorem k0_idx907_inb : ∀ (v7672 : IVec S16 32) (k0_hw911 : k0_chk911 v7672), ∀ a x, ((![v7672] : Fin 1 → IVec S16 32) a x).toNat < S4096.size a := fun v7672 k0_hw911 => k0_hw911

def k0_chk912 (v7680 : IVec S16 32) : Prop :=
  (∀ a x, ((![v7680] : Fin 1 → IVec S16 32) a x).toNat < S4096.size a)
theorem k0_idx908_inb : ∀ (v7680 : IVec S16 32) (k0_hw912 : k0_chk912 v7680), ∀ a x, ((![v7680] : Fin 1 → IVec S16 32) a x).toNat < S4096.size a := fun v7680 k0_hw912 => k0_hw912

def k0_chk913 (v7688 : IVec S16 32) : Prop :=
  (∀ a x, ((![v7688] : Fin 1 → IVec S16 32) a x).toNat < S4096.size a)
theorem k0_idx909_inb : ∀ (v7688 : IVec S16 32) (k0_hw913 : k0_chk913 v7688), ∀ a x, ((![v7688] : Fin 1 → IVec S16 32) a x).toNat < S4096.size a := fun v7688 k0_hw913 => k0_hw913

def k0_chk914 (v7696 : IVec S16 32) : Prop :=
  (∀ a x, ((![v7696] : Fin 1 → IVec S16 32) a x).toNat < S4096.size a)
theorem k0_idx910_inb : ∀ (v7696 : IVec S16 32) (k0_hw914 : k0_chk914 v7696), ∀ a x, ((![v7696] : Fin 1 → IVec S16 32) a x).toNat < S4096.size a := fun v7696 k0_hw914 => k0_hw914

def k0_chk915 (v7704 : IVec S16 32) : Prop :=
  (∀ a x, ((![v7704] : Fin 1 → IVec S16 32) a x).toNat < S4096.size a)
theorem k0_idx911_inb : ∀ (v7704 : IVec S16 32) (k0_hw915 : k0_chk915 v7704), ∀ a x, ((![v7704] : Fin 1 → IVec S16 32) a x).toNat < S4096.size a := fun v7704 k0_hw915 => k0_hw915

def k0_chk916 (v7712 : IVec S16 32) : Prop :=
  (∀ a x, ((![v7712] : Fin 1 → IVec S16 32) a x).toNat < S4096.size a)
theorem k0_idx912_inb : ∀ (v7712 : IVec S16 32) (k0_hw916 : k0_chk916 v7712), ∀ a x, ((![v7712] : Fin 1 → IVec S16 32) a x).toNat < S4096.size a := fun v7712 k0_hw916 => k0_hw916

def k0_chk917 (v7720 : IVec S16 32) : Prop :=
  (∀ a x, ((![v7720] : Fin 1 → IVec S16 32) a x).toNat < S4096.size a)
theorem k0_idx913_inb : ∀ (v7720 : IVec S16 32) (k0_hw917 : k0_chk917 v7720), ∀ a x, ((![v7720] : Fin 1 → IVec S16 32) a x).toNat < S4096.size a := fun v7720 k0_hw917 => k0_hw917

def k0_chk918 (v7728 : IVec S16 32) : Prop :=
  (∀ a x, ((![v7728] : Fin 1 → IVec S16 32) a x).toNat < S4096.size a)
theorem k0_idx914_inb : ∀ (v7728 : IVec S16 32) (k0_hw918 : k0_chk918 v7728), ∀ a x, ((![v7728] : Fin 1 → IVec S16 32) a x).toNat < S4096.size a := fun v7728 k0_hw918 => k0_hw918

def k0_chk919 (v7736 : IVec S16 32) : Prop :=
  (∀ a x, ((![v7736] : Fin 1 → IVec S16 32) a x).toNat < S4096.size a)
theorem k0_idx915_inb : ∀ (v7736 : IVec S16 32) (k0_hw919 : k0_chk919 v7736), ∀ a x, ((![v7736] : Fin 1 → IVec S16 32) a x).toNat < S4096.size a := fun v7736 k0_hw919 => k0_hw919

def k0_chk920 (v7744 : IVec S16 32) : Prop :=
  (∀ a x, ((![v7744] : Fin 1 → IVec S16 32) a x).toNat < S4096.size a)
theorem k0_idx916_inb : ∀ (v7744 : IVec S16 32) (k0_hw920 : k0_chk920 v7744), ∀ a x, ((![v7744] : Fin 1 → IVec S16 32) a x).toNat < S4096.size a := fun v7744 k0_hw920 => k0_hw920

def k0_chk921 (v7752 : IVec S16 32) : Prop :=
  (∀ a x, ((![v7752] : Fin 1 → IVec S16 32) a x).toNat < S4096.size a)
theorem k0_idx917_inb : ∀ (v7752 : IVec S16 32) (k0_hw921 : k0_chk921 v7752), ∀ a x, ((![v7752] : Fin 1 → IVec S16 32) a x).toNat < S4096.size a := fun v7752 k0_hw921 => k0_hw921

def k0_chk922 (v7763 : IVec S16 32) : Prop :=
  (∀ a x, ((![v7763] : Fin 1 → IVec S16 32) a x).toNat < S4096.size a)
theorem k0_idx918_inb : ∀ (v7763 : IVec S16 32) (k0_hw922 : k0_chk922 v7763), ∀ a x, ((![v7763] : Fin 1 → IVec S16 32) a x).toNat < S4096.size a := fun v7763 k0_hw922 => k0_hw922

def k0_chk923 (v7771 : IVec S16 32) : Prop :=
  (∀ a x, ((![v7771] : Fin 1 → IVec S16 32) a x).toNat < S4096.size a)
theorem k0_idx919_inb : ∀ (v7771 : IVec S16 32) (k0_hw923 : k0_chk923 v7771), ∀ a x, ((![v7771] : Fin 1 → IVec S16 32) a x).toNat < S4096.size a := fun v7771 k0_hw923 => k0_hw923

def k0_chk924 (v7779 : IVec S16 32) : Prop :=
  (∀ a x, ((![v7779] : Fin 1 → IVec S16 32) a x).toNat < S4096.size a)
theorem k0_idx920_inb : ∀ (v7779 : IVec S16 32) (k0_hw924 : k0_chk924 v7779), ∀ a x, ((![v7779] : Fin 1 → IVec S16 32) a x).toNat < S4096.size a := fun v7779 k0_hw924 => k0_hw924

def k0_chk925 (v7787 : IVec S16 32) : Prop :=
  (∀ a x, ((![v7787] : Fin 1 → IVec S16 32) a x).toNat < S4096.size a)
theorem k0_idx921_inb : ∀ (v7787 : IVec S16 32) (k0_hw925 : k0_chk925 v7787), ∀ a x, ((![v7787] : Fin 1 → IVec S16 32) a x).toNat < S4096.size a := fun v7787 k0_hw925 => k0_hw925

def k0_chk926 (v7795 : IVec S16 32) : Prop :=
  (∀ a x, ((![v7795] : Fin 1 → IVec S16 32) a x).toNat < S4096.size a)
theorem k0_idx922_inb : ∀ (v7795 : IVec S16 32) (k0_hw926 : k0_chk926 v7795), ∀ a x, ((![v7795] : Fin 1 → IVec S16 32) a x).toNat < S4096.size a := fun v7795 k0_hw926 => k0_hw926

def k0_chk927 (v7803 : IVec S16 32) : Prop :=
  (∀ a x, ((![v7803] : Fin 1 → IVec S16 32) a x).toNat < S4096.size a)
theorem k0_idx923_inb : ∀ (v7803 : IVec S16 32) (k0_hw927 : k0_chk927 v7803), ∀ a x, ((![v7803] : Fin 1 → IVec S16 32) a x).toNat < S4096.size a := fun v7803 k0_hw927 => k0_hw927

def k0_chk928 (v7811 : IVec S16 32) : Prop :=
  (∀ a x, ((![v7811] : Fin 1 → IVec S16 32) a x).toNat < S4096.size a)
theorem k0_idx924_inb : ∀ (v7811 : IVec S16 32) (k0_hw928 : k0_chk928 v7811), ∀ a x, ((![v7811] : Fin 1 → IVec S16 32) a x).toNat < S4096.size a := fun v7811 k0_hw928 => k0_hw928

def k0_chk929 (v7819 : IVec S16 32) : Prop :=
  (∀ a x, ((![v7819] : Fin 1 → IVec S16 32) a x).toNat < S4096.size a)
theorem k0_idx925_inb : ∀ (v7819 : IVec S16 32) (k0_hw929 : k0_chk929 v7819), ∀ a x, ((![v7819] : Fin 1 → IVec S16 32) a x).toNat < S4096.size a := fun v7819 k0_hw929 => k0_hw929

def k0_chk930 (v7827 : IVec S16 32) : Prop :=
  (∀ a x, ((![v7827] : Fin 1 → IVec S16 32) a x).toNat < S4096.size a)
theorem k0_idx926_inb : ∀ (v7827 : IVec S16 32) (k0_hw930 : k0_chk930 v7827), ∀ a x, ((![v7827] : Fin 1 → IVec S16 32) a x).toNat < S4096.size a := fun v7827 k0_hw930 => k0_hw930

def k0_chk931 (v7835 : IVec S16 32) : Prop :=
  (∀ a x, ((![v7835] : Fin 1 → IVec S16 32) a x).toNat < S4096.size a)
theorem k0_idx927_inb : ∀ (v7835 : IVec S16 32) (k0_hw931 : k0_chk931 v7835), ∀ a x, ((![v7835] : Fin 1 → IVec S16 32) a x).toNat < S4096.size a := fun v7835 k0_hw931 => k0_hw931

def k0_chk932 (v7843 : IVec S16 32) : Prop :=
  (∀ a x, ((![v7843] : Fin 1 → IVec S16 32) a x).toNat < S4096.size a)
theorem k0_idx928_inb : ∀ (v7843 : IVec S16 32) (k0_hw932 : k0_chk932 v7843), ∀ a x, ((![v7843] : Fin 1 → IVec S16 32) a x).toNat < S4096.size a := fun v7843 k0_hw932 => k0_hw932

def k0_chk933 (v7851 : IVec S16 32) : Prop :=
  (∀ a x, ((![v7851] : Fin 1 → IVec S16 32) a x).toNat < S4096.size a)
theorem k0_idx929_inb : ∀ (v7851 : IVec S16 32) (k0_hw933 : k0_chk933 v7851), ∀ a x, ((![v7851] : Fin 1 → IVec S16 32) a x).toNat < S4096.size a := fun v7851 k0_hw933 => k0_hw933

def k0_chk934 (v7859 : IVec S16 32) : Prop :=
  (∀ a x, ((![v7859] : Fin 1 → IVec S16 32) a x).toNat < S4096.size a)
theorem k0_idx930_inb : ∀ (v7859 : IVec S16 32) (k0_hw934 : k0_chk934 v7859), ∀ a x, ((![v7859] : Fin 1 → IVec S16 32) a x).toNat < S4096.size a := fun v7859 k0_hw934 => k0_hw934

def k0_chk935 (v7867 : IVec S16 32) : Prop :=
  (∀ a x, ((![v7867] : Fin 1 → IVec S16 32) a x).toNat < S4096.size a)
theorem k0_idx931_inb : ∀ (v7867 : IVec S16 32) (k0_hw935 : k0_chk935 v7867), ∀ a x, ((![v7867] : Fin 1 → IVec S16 32) a x).toNat < S4096.size a := fun v7867 k0_hw935 => k0_hw935

def k0_chk936 (v7875 : IVec S16 32) : Prop :=
  (∀ a x, ((![v7875] : Fin 1 → IVec S16 32) a x).toNat < S4096.size a)
theorem k0_idx932_inb : ∀ (v7875 : IVec S16 32) (k0_hw936 : k0_chk936 v7875), ∀ a x, ((![v7875] : Fin 1 → IVec S16 32) a x).toNat < S4096.size a := fun v7875 k0_hw936 => k0_hw936

def k0_chk937 (v7883 : IVec S16 32) : Prop :=
  (∀ a x, ((![v7883] : Fin 1 → IVec S16 32) a x).toNat < S4096.size a)
theorem k0_idx933_inb : ∀ (v7883 : IVec S16 32) (k0_hw937 : k0_chk937 v7883), ∀ a x, ((![v7883] : Fin 1 → IVec S16 32) a x).toNat < S4096.size a := fun v7883 k0_hw937 => k0_hw937

def k0_chk938 (v7894 : IVec S16 32) : Prop :=
  (∀ a x, ((![v7894] : Fin 1 → IVec S16 32) a x).toNat < S4096.size a)
theorem k0_idx934_inb : ∀ (v7894 : IVec S16 32) (k0_hw938 : k0_chk938 v7894), ∀ a x, ((![v7894] : Fin 1 → IVec S16 32) a x).toNat < S4096.size a := fun v7894 k0_hw938 => k0_hw938

def k0_chk939 (v7902 : IVec S16 32) : Prop :=
  (∀ a x, ((![v7902] : Fin 1 → IVec S16 32) a x).toNat < S4096.size a)
theorem k0_idx935_inb : ∀ (v7902 : IVec S16 32) (k0_hw939 : k0_chk939 v7902), ∀ a x, ((![v7902] : Fin 1 → IVec S16 32) a x).toNat < S4096.size a := fun v7902 k0_hw939 => k0_hw939

def k0_chk940 (v7910 : IVec S16 32) : Prop :=
  (∀ a x, ((![v7910] : Fin 1 → IVec S16 32) a x).toNat < S4096.size a)
theorem k0_idx936_inb : ∀ (v7910 : IVec S16 32) (k0_hw940 : k0_chk940 v7910), ∀ a x, ((![v7910] : Fin 1 → IVec S16 32) a x).toNat < S4096.size a := fun v7910 k0_hw940 => k0_hw940

def k0_chk941 (v7918 : IVec S16 32) : Prop :=
  (∀ a x, ((![v7918] : Fin 1 → IVec S16 32) a x).toNat < S4096.size a)
theorem k0_idx937_inb : ∀ (v7918 : IVec S16 32) (k0_hw941 : k0_chk941 v7918), ∀ a x, ((![v7918] : Fin 1 → IVec S16 32) a x).toNat < S4096.size a := fun v7918 k0_hw941 => k0_hw941

def k0_chk942 (v7926 : IVec S16 32) : Prop :=
  (∀ a x, ((![v7926] : Fin 1 → IVec S16 32) a x).toNat < S4096.size a)
theorem k0_idx938_inb : ∀ (v7926 : IVec S16 32) (k0_hw942 : k0_chk942 v7926), ∀ a x, ((![v7926] : Fin 1 → IVec S16 32) a x).toNat < S4096.size a := fun v7926 k0_hw942 => k0_hw942

def k0_chk943 (v7934 : IVec S16 32) : Prop :=
  (∀ a x, ((![v7934] : Fin 1 → IVec S16 32) a x).toNat < S4096.size a)
theorem k0_idx939_inb : ∀ (v7934 : IVec S16 32) (k0_hw943 : k0_chk943 v7934), ∀ a x, ((![v7934] : Fin 1 → IVec S16 32) a x).toNat < S4096.size a := fun v7934 k0_hw943 => k0_hw943

def k0_chk944 (v7942 : IVec S16 32) : Prop :=
  (∀ a x, ((![v7942] : Fin 1 → IVec S16 32) a x).toNat < S4096.size a)
theorem k0_idx940_inb : ∀ (v7942 : IVec S16 32) (k0_hw944 : k0_chk944 v7942), ∀ a x, ((![v7942] : Fin 1 → IVec S16 32) a x).toNat < S4096.size a := fun v7942 k0_hw944 => k0_hw944

def k0_chk945 (v7950 : IVec S16 32) : Prop :=
  (∀ a x, ((![v7950] : Fin 1 → IVec S16 32) a x).toNat < S4096.size a)
theorem k0_idx941_inb : ∀ (v7950 : IVec S16 32) (k0_hw945 : k0_chk945 v7950), ∀ a x, ((![v7950] : Fin 1 → IVec S16 32) a x).toNat < S4096.size a := fun v7950 k0_hw945 => k0_hw945

def k0_chk946 (v7958 : IVec S16 32) : Prop :=
  (∀ a x, ((![v7958] : Fin 1 → IVec S16 32) a x).toNat < S4096.size a)
theorem k0_idx942_inb : ∀ (v7958 : IVec S16 32) (k0_hw946 : k0_chk946 v7958), ∀ a x, ((![v7958] : Fin 1 → IVec S16 32) a x).toNat < S4096.size a := fun v7958 k0_hw946 => k0_hw946

def k0_chk947 (v7966 : IVec S16 32) : Prop :=
  (∀ a x, ((![v7966] : Fin 1 → IVec S16 32) a x).toNat < S4096.size a)
theorem k0_idx943_inb : ∀ (v7966 : IVec S16 32) (k0_hw947 : k0_chk947 v7966), ∀ a x, ((![v7966] : Fin 1 → IVec S16 32) a x).toNat < S4096.size a := fun v7966 k0_hw947 => k0_hw947

def k0_chk948 (v7974 : IVec S16 32) : Prop :=
  (∀ a x, ((![v7974] : Fin 1 → IVec S16 32) a x).toNat < S4096.size a)
theorem k0_idx944_inb : ∀ (v7974 : IVec S16 32) (k0_hw948 : k0_chk948 v7974), ∀ a x, ((![v7974] : Fin 1 → IVec S16 32) a x).toNat < S4096.size a := fun v7974 k0_hw948 => k0_hw948

def k0_chk949 (v7982 : IVec S16 32) : Prop :=
  (∀ a x, ((![v7982] : Fin 1 → IVec S16 32) a x).toNat < S4096.size a)
theorem k0_idx945_inb : ∀ (v7982 : IVec S16 32) (k0_hw949 : k0_chk949 v7982), ∀ a x, ((![v7982] : Fin 1 → IVec S16 32) a x).toNat < S4096.size a := fun v7982 k0_hw949 => k0_hw949

def k0_chk950 (v7990 : IVec S16 32) : Prop :=
  (∀ a x, ((![v7990] : Fin 1 → IVec S16 32) a x).toNat < S4096.size a)
theorem k0_idx946_inb : ∀ (v7990 : IVec S16 32) (k0_hw950 : k0_chk950 v7990), ∀ a x, ((![v7990] : Fin 1 → IVec S16 32) a x).toNat < S4096.size a := fun v7990 k0_hw950 => k0_hw950

def k0_chk951 (v7998 : IVec S16 32) : Prop :=
  (∀ a x, ((![v7998] : Fin 1 → IVec S16 32) a x).toNat < S4096.size a)
theorem k0_idx947_inb : ∀ (v7998 : IVec S16 32) (k0_hw951 : k0_chk951 v7998), ∀ a x, ((![v7998] : Fin 1 → IVec S16 32) a x).toNat < S4096.size a := fun v7998 k0_hw951 => k0_hw951

def k0_chk952 (v8006 : IVec S16 32) : Prop :=
  (∀ a x, ((![v8006] : Fin 1 → IVec S16 32) a x).toNat < S4096.size a)
theorem k0_idx948_inb : ∀ (v8006 : IVec S16 32) (k0_hw952 : k0_chk952 v8006), ∀ a x, ((![v8006] : Fin 1 → IVec S16 32) a x).toNat < S4096.size a := fun v8006 k0_hw952 => k0_hw952

def k0_chk953 (v8014 : IVec S16 32) : Prop :=
  (∀ a x, ((![v8014] : Fin 1 → IVec S16 32) a x).toNat < S4096.size a)
theorem k0_idx949_inb : ∀ (v8014 : IVec S16 32) (k0_hw953 : k0_chk953 v8014), ∀ a x, ((![v8014] : Fin 1 → IVec S16 32) a x).toNat < S4096.size a := fun v8014 k0_hw953 => k0_hw953

def k0_chk954 (v8025 : IVec S16 32) : Prop :=
  (∀ a x, ((![v8025] : Fin 1 → IVec S16 32) a x).toNat < S4096.size a)
theorem k0_idx950_inb : ∀ (v8025 : IVec S16 32) (k0_hw954 : k0_chk954 v8025), ∀ a x, ((![v8025] : Fin 1 → IVec S16 32) a x).toNat < S4096.size a := fun v8025 k0_hw954 => k0_hw954

def k0_chk955 (v8033 : IVec S16 32) : Prop :=
  (∀ a x, ((![v8033] : Fin 1 → IVec S16 32) a x).toNat < S4096.size a)
theorem k0_idx951_inb : ∀ (v8033 : IVec S16 32) (k0_hw955 : k0_chk955 v8033), ∀ a x, ((![v8033] : Fin 1 → IVec S16 32) a x).toNat < S4096.size a := fun v8033 k0_hw955 => k0_hw955

def k0_chk956 (v8041 : IVec S16 32) : Prop :=
  (∀ a x, ((![v8041] : Fin 1 → IVec S16 32) a x).toNat < S4096.size a)
theorem k0_idx952_inb : ∀ (v8041 : IVec S16 32) (k0_hw956 : k0_chk956 v8041), ∀ a x, ((![v8041] : Fin 1 → IVec S16 32) a x).toNat < S4096.size a := fun v8041 k0_hw956 => k0_hw956

def k0_chk957 (v8049 : IVec S16 32) : Prop :=
  (∀ a x, ((![v8049] : Fin 1 → IVec S16 32) a x).toNat < S4096.size a)
theorem k0_idx953_inb : ∀ (v8049 : IVec S16 32) (k0_hw957 : k0_chk957 v8049), ∀ a x, ((![v8049] : Fin 1 → IVec S16 32) a x).toNat < S4096.size a := fun v8049 k0_hw957 => k0_hw957

def k0_chk958 (v8057 : IVec S16 32) : Prop :=
  (∀ a x, ((![v8057] : Fin 1 → IVec S16 32) a x).toNat < S4096.size a)
theorem k0_idx954_inb : ∀ (v8057 : IVec S16 32) (k0_hw958 : k0_chk958 v8057), ∀ a x, ((![v8057] : Fin 1 → IVec S16 32) a x).toNat < S4096.size a := fun v8057 k0_hw958 => k0_hw958

def k0_chk959 (v8065 : IVec S16 32) : Prop :=
  (∀ a x, ((![v8065] : Fin 1 → IVec S16 32) a x).toNat < S4096.size a)
theorem k0_idx955_inb : ∀ (v8065 : IVec S16 32) (k0_hw959 : k0_chk959 v8065), ∀ a x, ((![v8065] : Fin 1 → IVec S16 32) a x).toNat < S4096.size a := fun v8065 k0_hw959 => k0_hw959

def k0_chk960 (v8073 : IVec S16 32) : Prop :=
  (∀ a x, ((![v8073] : Fin 1 → IVec S16 32) a x).toNat < S4096.size a)
theorem k0_idx956_inb : ∀ (v8073 : IVec S16 32) (k0_hw960 : k0_chk960 v8073), ∀ a x, ((![v8073] : Fin 1 → IVec S16 32) a x).toNat < S4096.size a := fun v8073 k0_hw960 => k0_hw960

def k0_chk961 (v8081 : IVec S16 32) : Prop :=
  (∀ a x, ((![v8081] : Fin 1 → IVec S16 32) a x).toNat < S4096.size a)
theorem k0_idx957_inb : ∀ (v8081 : IVec S16 32) (k0_hw961 : k0_chk961 v8081), ∀ a x, ((![v8081] : Fin 1 → IVec S16 32) a x).toNat < S4096.size a := fun v8081 k0_hw961 => k0_hw961

def k0_chk962 (v8089 : IVec S16 32) : Prop :=
  (∀ a x, ((![v8089] : Fin 1 → IVec S16 32) a x).toNat < S4096.size a)
theorem k0_idx958_inb : ∀ (v8089 : IVec S16 32) (k0_hw962 : k0_chk962 v8089), ∀ a x, ((![v8089] : Fin 1 → IVec S16 32) a x).toNat < S4096.size a := fun v8089 k0_hw962 => k0_hw962

def k0_chk963 (v8097 : IVec S16 32) : Prop :=
  (∀ a x, ((![v8097] : Fin 1 → IVec S16 32) a x).toNat < S4096.size a)
theorem k0_idx959_inb : ∀ (v8097 : IVec S16 32) (k0_hw963 : k0_chk963 v8097), ∀ a x, ((![v8097] : Fin 1 → IVec S16 32) a x).toNat < S4096.size a := fun v8097 k0_hw963 => k0_hw963

def k0_chk964 (v8105 : IVec S16 32) : Prop :=
  (∀ a x, ((![v8105] : Fin 1 → IVec S16 32) a x).toNat < S4096.size a)
theorem k0_idx960_inb : ∀ (v8105 : IVec S16 32) (k0_hw964 : k0_chk964 v8105), ∀ a x, ((![v8105] : Fin 1 → IVec S16 32) a x).toNat < S4096.size a := fun v8105 k0_hw964 => k0_hw964

def k0_chk965 (v8113 : IVec S16 32) : Prop :=
  (∀ a x, ((![v8113] : Fin 1 → IVec S16 32) a x).toNat < S4096.size a)
theorem k0_idx961_inb : ∀ (v8113 : IVec S16 32) (k0_hw965 : k0_chk965 v8113), ∀ a x, ((![v8113] : Fin 1 → IVec S16 32) a x).toNat < S4096.size a := fun v8113 k0_hw965 => k0_hw965

def k0_chk966 (v8121 : IVec S16 32) : Prop :=
  (∀ a x, ((![v8121] : Fin 1 → IVec S16 32) a x).toNat < S4096.size a)
theorem k0_idx962_inb : ∀ (v8121 : IVec S16 32) (k0_hw966 : k0_chk966 v8121), ∀ a x, ((![v8121] : Fin 1 → IVec S16 32) a x).toNat < S4096.size a := fun v8121 k0_hw966 => k0_hw966

def k0_chk967 (v8129 : IVec S16 32) : Prop :=
  (∀ a x, ((![v8129] : Fin 1 → IVec S16 32) a x).toNat < S4096.size a)
theorem k0_idx963_inb : ∀ (v8129 : IVec S16 32) (k0_hw967 : k0_chk967 v8129), ∀ a x, ((![v8129] : Fin 1 → IVec S16 32) a x).toNat < S4096.size a := fun v8129 k0_hw967 => k0_hw967

def k0_chk968 (v8137 : IVec S16 32) : Prop :=
  (∀ a x, ((![v8137] : Fin 1 → IVec S16 32) a x).toNat < S4096.size a)
theorem k0_idx964_inb : ∀ (v8137 : IVec S16 32) (k0_hw968 : k0_chk968 v8137), ∀ a x, ((![v8137] : Fin 1 → IVec S16 32) a x).toNat < S4096.size a := fun v8137 k0_hw968 => k0_hw968

def k0_chk969 (v8145 : IVec S16 32) : Prop :=
  (∀ a x, ((![v8145] : Fin 1 → IVec S16 32) a x).toNat < S4096.size a)
theorem k0_idx965_inb : ∀ (v8145 : IVec S16 32) (k0_hw969 : k0_chk969 v8145), ∀ a x, ((![v8145] : Fin 1 → IVec S16 32) a x).toNat < S4096.size a := fun v8145 k0_hw969 => k0_hw969

def k0_chk970 (v8156 : IVec S16 32) : Prop :=
  (∀ a x, ((![v8156] : Fin 1 → IVec S16 32) a x).toNat < S4096.size a)
theorem k0_idx966_inb : ∀ (v8156 : IVec S16 32) (k0_hw970 : k0_chk970 v8156), ∀ a x, ((![v8156] : Fin 1 → IVec S16 32) a x).toNat < S4096.size a := fun v8156 k0_hw970 => k0_hw970

def k0_chk971 (v8164 : IVec S16 32) : Prop :=
  (∀ a x, ((![v8164] : Fin 1 → IVec S16 32) a x).toNat < S4096.size a)
theorem k0_idx967_inb : ∀ (v8164 : IVec S16 32) (k0_hw971 : k0_chk971 v8164), ∀ a x, ((![v8164] : Fin 1 → IVec S16 32) a x).toNat < S4096.size a := fun v8164 k0_hw971 => k0_hw971

def k0_chk972 (v8172 : IVec S16 32) : Prop :=
  (∀ a x, ((![v8172] : Fin 1 → IVec S16 32) a x).toNat < S4096.size a)
theorem k0_idx968_inb : ∀ (v8172 : IVec S16 32) (k0_hw972 : k0_chk972 v8172), ∀ a x, ((![v8172] : Fin 1 → IVec S16 32) a x).toNat < S4096.size a := fun v8172 k0_hw972 => k0_hw972

def k0_chk973 (v8180 : IVec S16 32) : Prop :=
  (∀ a x, ((![v8180] : Fin 1 → IVec S16 32) a x).toNat < S4096.size a)
theorem k0_idx969_inb : ∀ (v8180 : IVec S16 32) (k0_hw973 : k0_chk973 v8180), ∀ a x, ((![v8180] : Fin 1 → IVec S16 32) a x).toNat < S4096.size a := fun v8180 k0_hw973 => k0_hw973

def k0_chk974 (v8188 : IVec S16 32) : Prop :=
  (∀ a x, ((![v8188] : Fin 1 → IVec S16 32) a x).toNat < S4096.size a)
theorem k0_idx970_inb : ∀ (v8188 : IVec S16 32) (k0_hw974 : k0_chk974 v8188), ∀ a x, ((![v8188] : Fin 1 → IVec S16 32) a x).toNat < S4096.size a := fun v8188 k0_hw974 => k0_hw974

def k0_chk975 (v8196 : IVec S16 32) : Prop :=
  (∀ a x, ((![v8196] : Fin 1 → IVec S16 32) a x).toNat < S4096.size a)
theorem k0_idx971_inb : ∀ (v8196 : IVec S16 32) (k0_hw975 : k0_chk975 v8196), ∀ a x, ((![v8196] : Fin 1 → IVec S16 32) a x).toNat < S4096.size a := fun v8196 k0_hw975 => k0_hw975

def k0_chk976 (v8204 : IVec S16 32) : Prop :=
  (∀ a x, ((![v8204] : Fin 1 → IVec S16 32) a x).toNat < S4096.size a)
theorem k0_idx972_inb : ∀ (v8204 : IVec S16 32) (k0_hw976 : k0_chk976 v8204), ∀ a x, ((![v8204] : Fin 1 → IVec S16 32) a x).toNat < S4096.size a := fun v8204 k0_hw976 => k0_hw976

def k0_chk977 (v8212 : IVec S16 32) : Prop :=
  (∀ a x, ((![v8212] : Fin 1 → IVec S16 32) a x).toNat < S4096.size a)
theorem k0_idx973_inb : ∀ (v8212 : IVec S16 32) (k0_hw977 : k0_chk977 v8212), ∀ a x, ((![v8212] : Fin 1 → IVec S16 32) a x).toNat < S4096.size a := fun v8212 k0_hw977 => k0_hw977

def k0_chk978 (v8220 : IVec S16 32) : Prop :=
  (∀ a x, ((![v8220] : Fin 1 → IVec S16 32) a x).toNat < S4096.size a)
theorem k0_idx974_inb : ∀ (v8220 : IVec S16 32) (k0_hw978 : k0_chk978 v8220), ∀ a x, ((![v8220] : Fin 1 → IVec S16 32) a x).toNat < S4096.size a := fun v8220 k0_hw978 => k0_hw978

def k0_chk979 (v8228 : IVec S16 32) : Prop :=
  (∀ a x, ((![v8228] : Fin 1 → IVec S16 32) a x).toNat < S4096.size a)
theorem k0_idx975_inb : ∀ (v8228 : IVec S16 32) (k0_hw979 : k0_chk979 v8228), ∀ a x, ((![v8228] : Fin 1 → IVec S16 32) a x).toNat < S4096.size a := fun v8228 k0_hw979 => k0_hw979

def k0_chk980 (v8236 : IVec S16 32) : Prop :=
  (∀ a x, ((![v8236] : Fin 1 → IVec S16 32) a x).toNat < S4096.size a)
theorem k0_idx976_inb : ∀ (v8236 : IVec S16 32) (k0_hw980 : k0_chk980 v8236), ∀ a x, ((![v8236] : Fin 1 → IVec S16 32) a x).toNat < S4096.size a := fun v8236 k0_hw980 => k0_hw980

def k0_chk981 (v8244 : IVec S16 32) : Prop :=
  (∀ a x, ((![v8244] : Fin 1 → IVec S16 32) a x).toNat < S4096.size a)
theorem k0_idx977_inb : ∀ (v8244 : IVec S16 32) (k0_hw981 : k0_chk981 v8244), ∀ a x, ((![v8244] : Fin 1 → IVec S16 32) a x).toNat < S4096.size a := fun v8244 k0_hw981 => k0_hw981

def k0_chk982 (v8252 : IVec S16 32) : Prop :=
  (∀ a x, ((![v8252] : Fin 1 → IVec S16 32) a x).toNat < S4096.size a)
theorem k0_idx978_inb : ∀ (v8252 : IVec S16 32) (k0_hw982 : k0_chk982 v8252), ∀ a x, ((![v8252] : Fin 1 → IVec S16 32) a x).toNat < S4096.size a := fun v8252 k0_hw982 => k0_hw982

def k0_chk983 (v8260 : IVec S16 32) : Prop :=
  (∀ a x, ((![v8260] : Fin 1 → IVec S16 32) a x).toNat < S4096.size a)
theorem k0_idx979_inb : ∀ (v8260 : IVec S16 32) (k0_hw983 : k0_chk983 v8260), ∀ a x, ((![v8260] : Fin 1 → IVec S16 32) a x).toNat < S4096.size a := fun v8260 k0_hw983 => k0_hw983

def k0_chk984 (v8268 : IVec S16 32) : Prop :=
  (∀ a x, ((![v8268] : Fin 1 → IVec S16 32) a x).toNat < S4096.size a)
theorem k0_idx980_inb : ∀ (v8268 : IVec S16 32) (k0_hw984 : k0_chk984 v8268), ∀ a x, ((![v8268] : Fin 1 → IVec S16 32) a x).toNat < S4096.size a := fun v8268 k0_hw984 => k0_hw984

def k0_chk985 (v8276 : IVec S16 32) : Prop :=
  (∀ a x, ((![v8276] : Fin 1 → IVec S16 32) a x).toNat < S4096.size a)
theorem k0_idx981_inb : ∀ (v8276 : IVec S16 32) (k0_hw985 : k0_chk985 v8276), ∀ a x, ((![v8276] : Fin 1 → IVec S16 32) a x).toNat < S4096.size a := fun v8276 k0_hw985 => k0_hw985

def k0_chk986 (v8287 : IVec S16 32) : Prop :=
  (∀ a x, ((![v8287] : Fin 1 → IVec S16 32) a x).toNat < S4096.size a)
theorem k0_idx982_inb : ∀ (v8287 : IVec S16 32) (k0_hw986 : k0_chk986 v8287), ∀ a x, ((![v8287] : Fin 1 → IVec S16 32) a x).toNat < S4096.size a := fun v8287 k0_hw986 => k0_hw986

def k0_chk987 (v8295 : IVec S16 32) : Prop :=
  (∀ a x, ((![v8295] : Fin 1 → IVec S16 32) a x).toNat < S4096.size a)
theorem k0_idx983_inb : ∀ (v8295 : IVec S16 32) (k0_hw987 : k0_chk987 v8295), ∀ a x, ((![v8295] : Fin 1 → IVec S16 32) a x).toNat < S4096.size a := fun v8295 k0_hw987 => k0_hw987

def k0_chk988 (v8303 : IVec S16 32) : Prop :=
  (∀ a x, ((![v8303] : Fin 1 → IVec S16 32) a x).toNat < S4096.size a)
theorem k0_idx984_inb : ∀ (v8303 : IVec S16 32) (k0_hw988 : k0_chk988 v8303), ∀ a x, ((![v8303] : Fin 1 → IVec S16 32) a x).toNat < S4096.size a := fun v8303 k0_hw988 => k0_hw988

def k0_chk989 (v8311 : IVec S16 32) : Prop :=
  (∀ a x, ((![v8311] : Fin 1 → IVec S16 32) a x).toNat < S4096.size a)
theorem k0_idx985_inb : ∀ (v8311 : IVec S16 32) (k0_hw989 : k0_chk989 v8311), ∀ a x, ((![v8311] : Fin 1 → IVec S16 32) a x).toNat < S4096.size a := fun v8311 k0_hw989 => k0_hw989

def k0_chk990 (v8319 : IVec S16 32) : Prop :=
  (∀ a x, ((![v8319] : Fin 1 → IVec S16 32) a x).toNat < S4096.size a)
theorem k0_idx986_inb : ∀ (v8319 : IVec S16 32) (k0_hw990 : k0_chk990 v8319), ∀ a x, ((![v8319] : Fin 1 → IVec S16 32) a x).toNat < S4096.size a := fun v8319 k0_hw990 => k0_hw990

def k0_chk991 (v8327 : IVec S16 32) : Prop :=
  (∀ a x, ((![v8327] : Fin 1 → IVec S16 32) a x).toNat < S4096.size a)
theorem k0_idx987_inb : ∀ (v8327 : IVec S16 32) (k0_hw991 : k0_chk991 v8327), ∀ a x, ((![v8327] : Fin 1 → IVec S16 32) a x).toNat < S4096.size a := fun v8327 k0_hw991 => k0_hw991

def k0_chk992 (v8335 : IVec S16 32) : Prop :=
  (∀ a x, ((![v8335] : Fin 1 → IVec S16 32) a x).toNat < S4096.size a)
theorem k0_idx988_inb : ∀ (v8335 : IVec S16 32) (k0_hw992 : k0_chk992 v8335), ∀ a x, ((![v8335] : Fin 1 → IVec S16 32) a x).toNat < S4096.size a := fun v8335 k0_hw992 => k0_hw992

def k0_chk993 (v8343 : IVec S16 32) : Prop :=
  (∀ a x, ((![v8343] : Fin 1 → IVec S16 32) a x).toNat < S4096.size a)
theorem k0_idx989_inb : ∀ (v8343 : IVec S16 32) (k0_hw993 : k0_chk993 v8343), ∀ a x, ((![v8343] : Fin 1 → IVec S16 32) a x).toNat < S4096.size a := fun v8343 k0_hw993 => k0_hw993

def k0_chk994 (v8351 : IVec S16 32) : Prop :=
  (∀ a x, ((![v8351] : Fin 1 → IVec S16 32) a x).toNat < S4096.size a)
theorem k0_idx990_inb : ∀ (v8351 : IVec S16 32) (k0_hw994 : k0_chk994 v8351), ∀ a x, ((![v8351] : Fin 1 → IVec S16 32) a x).toNat < S4096.size a := fun v8351 k0_hw994 => k0_hw994

def k0_chk995 (v8359 : IVec S16 32) : Prop :=
  (∀ a x, ((![v8359] : Fin 1 → IVec S16 32) a x).toNat < S4096.size a)
theorem k0_idx991_inb : ∀ (v8359 : IVec S16 32) (k0_hw995 : k0_chk995 v8359), ∀ a x, ((![v8359] : Fin 1 → IVec S16 32) a x).toNat < S4096.size a := fun v8359 k0_hw995 => k0_hw995

def k0_chk996 (v8367 : IVec S16 32) : Prop :=
  (∀ a x, ((![v8367] : Fin 1 → IVec S16 32) a x).toNat < S4096.size a)
theorem k0_idx992_inb : ∀ (v8367 : IVec S16 32) (k0_hw996 : k0_chk996 v8367), ∀ a x, ((![v8367] : Fin 1 → IVec S16 32) a x).toNat < S4096.size a := fun v8367 k0_hw996 => k0_hw996

def k0_chk997 (v8375 : IVec S16 32) : Prop :=
  (∀ a x, ((![v8375] : Fin 1 → IVec S16 32) a x).toNat < S4096.size a)
theorem k0_idx993_inb : ∀ (v8375 : IVec S16 32) (k0_hw997 : k0_chk997 v8375), ∀ a x, ((![v8375] : Fin 1 → IVec S16 32) a x).toNat < S4096.size a := fun v8375 k0_hw997 => k0_hw997

def k0_chk998 (v8383 : IVec S16 32) : Prop :=
  (∀ a x, ((![v8383] : Fin 1 → IVec S16 32) a x).toNat < S4096.size a)
theorem k0_idx994_inb : ∀ (v8383 : IVec S16 32) (k0_hw998 : k0_chk998 v8383), ∀ a x, ((![v8383] : Fin 1 → IVec S16 32) a x).toNat < S4096.size a := fun v8383 k0_hw998 => k0_hw998

def k0_chk999 (v8391 : IVec S16 32) : Prop :=
  (∀ a x, ((![v8391] : Fin 1 → IVec S16 32) a x).toNat < S4096.size a)
theorem k0_idx995_inb : ∀ (v8391 : IVec S16 32) (k0_hw999 : k0_chk999 v8391), ∀ a x, ((![v8391] : Fin 1 → IVec S16 32) a x).toNat < S4096.size a := fun v8391 k0_hw999 => k0_hw999

def k0_chk1000 (v8399 : IVec S16 32) : Prop :=
  (∀ a x, ((![v8399] : Fin 1 → IVec S16 32) a x).toNat < S4096.size a)
theorem k0_idx996_inb : ∀ (v8399 : IVec S16 32) (k0_hw1000 : k0_chk1000 v8399), ∀ a x, ((![v8399] : Fin 1 → IVec S16 32) a x).toNat < S4096.size a := fun v8399 k0_hw1000 => k0_hw1000

def k0_chk1001 (v8407 : IVec S16 32) : Prop :=
  (∀ a x, ((![v8407] : Fin 1 → IVec S16 32) a x).toNat < S4096.size a)
theorem k0_idx997_inb : ∀ (v8407 : IVec S16 32) (k0_hw1001 : k0_chk1001 v8407), ∀ a x, ((![v8407] : Fin 1 → IVec S16 32) a x).toNat < S4096.size a := fun v8407 k0_hw1001 => k0_hw1001

def k0_chk1002 (v8418 : IVec S16 32) : Prop :=
  (∀ a x, ((![v8418] : Fin 1 → IVec S16 32) a x).toNat < S4096.size a)
theorem k0_idx998_inb : ∀ (v8418 : IVec S16 32) (k0_hw1002 : k0_chk1002 v8418), ∀ a x, ((![v8418] : Fin 1 → IVec S16 32) a x).toNat < S4096.size a := fun v8418 k0_hw1002 => k0_hw1002

def k0_chk1003 (v8426 : IVec S16 32) : Prop :=
  (∀ a x, ((![v8426] : Fin 1 → IVec S16 32) a x).toNat < S4096.size a)
theorem k0_idx999_inb : ∀ (v8426 : IVec S16 32) (k0_hw1003 : k0_chk1003 v8426), ∀ a x, ((![v8426] : Fin 1 → IVec S16 32) a x).toNat < S4096.size a := fun v8426 k0_hw1003 => k0_hw1003

def k0_chk1004 (v8434 : IVec S16 32) : Prop :=
  (∀ a x, ((![v8434] : Fin 1 → IVec S16 32) a x).toNat < S4096.size a)
theorem k0_idx1000_inb : ∀ (v8434 : IVec S16 32) (k0_hw1004 : k0_chk1004 v8434), ∀ a x, ((![v8434] : Fin 1 → IVec S16 32) a x).toNat < S4096.size a := fun v8434 k0_hw1004 => k0_hw1004

def k0_chk1005 (v8442 : IVec S16 32) : Prop :=
  (∀ a x, ((![v8442] : Fin 1 → IVec S16 32) a x).toNat < S4096.size a)
theorem k0_idx1001_inb : ∀ (v8442 : IVec S16 32) (k0_hw1005 : k0_chk1005 v8442), ∀ a x, ((![v8442] : Fin 1 → IVec S16 32) a x).toNat < S4096.size a := fun v8442 k0_hw1005 => k0_hw1005

def k0_chk1006 (v8450 : IVec S16 32) : Prop :=
  (∀ a x, ((![v8450] : Fin 1 → IVec S16 32) a x).toNat < S4096.size a)
theorem k0_idx1002_inb : ∀ (v8450 : IVec S16 32) (k0_hw1006 : k0_chk1006 v8450), ∀ a x, ((![v8450] : Fin 1 → IVec S16 32) a x).toNat < S4096.size a := fun v8450 k0_hw1006 => k0_hw1006

def k0_chk1007 (v8458 : IVec S16 32) : Prop :=
  (∀ a x, ((![v8458] : Fin 1 → IVec S16 32) a x).toNat < S4096.size a)
theorem k0_idx1003_inb : ∀ (v8458 : IVec S16 32) (k0_hw1007 : k0_chk1007 v8458), ∀ a x, ((![v8458] : Fin 1 → IVec S16 32) a x).toNat < S4096.size a := fun v8458 k0_hw1007 => k0_hw1007

def k0_chk1008 (v8466 : IVec S16 32) : Prop :=
  (∀ a x, ((![v8466] : Fin 1 → IVec S16 32) a x).toNat < S4096.size a)
theorem k0_idx1004_inb : ∀ (v8466 : IVec S16 32) (k0_hw1008 : k0_chk1008 v8466), ∀ a x, ((![v8466] : Fin 1 → IVec S16 32) a x).toNat < S4096.size a := fun v8466 k0_hw1008 => k0_hw1008

def k0_chk1009 (v8474 : IVec S16 32) : Prop :=
  (∀ a x, ((![v8474] : Fin 1 → IVec S16 32) a x).toNat < S4096.size a)
theorem k0_idx1005_inb : ∀ (v8474 : IVec S16 32) (k0_hw1009 : k0_chk1009 v8474), ∀ a x, ((![v8474] : Fin 1 → IVec S16 32) a x).toNat < S4096.size a := fun v8474 k0_hw1009 => k0_hw1009

def k0_chk1010 (v8482 : IVec S16 32) : Prop :=
  (∀ a x, ((![v8482] : Fin 1 → IVec S16 32) a x).toNat < S4096.size a)
theorem k0_idx1006_inb : ∀ (v8482 : IVec S16 32) (k0_hw1010 : k0_chk1010 v8482), ∀ a x, ((![v8482] : Fin 1 → IVec S16 32) a x).toNat < S4096.size a := fun v8482 k0_hw1010 => k0_hw1010

def k0_chk1011 (v8490 : IVec S16 32) : Prop :=
  (∀ a x, ((![v8490] : Fin 1 → IVec S16 32) a x).toNat < S4096.size a)
theorem k0_idx1007_inb : ∀ (v8490 : IVec S16 32) (k0_hw1011 : k0_chk1011 v8490), ∀ a x, ((![v8490] : Fin 1 → IVec S16 32) a x).toNat < S4096.size a := fun v8490 k0_hw1011 => k0_hw1011

def k0_chk1012 (v8498 : IVec S16 32) : Prop :=
  (∀ a x, ((![v8498] : Fin 1 → IVec S16 32) a x).toNat < S4096.size a)
theorem k0_idx1008_inb : ∀ (v8498 : IVec S16 32) (k0_hw1012 : k0_chk1012 v8498), ∀ a x, ((![v8498] : Fin 1 → IVec S16 32) a x).toNat < S4096.size a := fun v8498 k0_hw1012 => k0_hw1012

def k0_chk1013 (v8506 : IVec S16 32) : Prop :=
  (∀ a x, ((![v8506] : Fin 1 → IVec S16 32) a x).toNat < S4096.size a)
theorem k0_idx1009_inb : ∀ (v8506 : IVec S16 32) (k0_hw1013 : k0_chk1013 v8506), ∀ a x, ((![v8506] : Fin 1 → IVec S16 32) a x).toNat < S4096.size a := fun v8506 k0_hw1013 => k0_hw1013

def k0_chk1014 (v8514 : IVec S16 32) : Prop :=
  (∀ a x, ((![v8514] : Fin 1 → IVec S16 32) a x).toNat < S4096.size a)
theorem k0_idx1010_inb : ∀ (v8514 : IVec S16 32) (k0_hw1014 : k0_chk1014 v8514), ∀ a x, ((![v8514] : Fin 1 → IVec S16 32) a x).toNat < S4096.size a := fun v8514 k0_hw1014 => k0_hw1014

def k0_chk1015 (v8522 : IVec S16 32) : Prop :=
  (∀ a x, ((![v8522] : Fin 1 → IVec S16 32) a x).toNat < S4096.size a)
theorem k0_idx1011_inb : ∀ (v8522 : IVec S16 32) (k0_hw1015 : k0_chk1015 v8522), ∀ a x, ((![v8522] : Fin 1 → IVec S16 32) a x).toNat < S4096.size a := fun v8522 k0_hw1015 => k0_hw1015

def k0_chk1016 (v8530 : IVec S16 32) : Prop :=
  (∀ a x, ((![v8530] : Fin 1 → IVec S16 32) a x).toNat < S4096.size a)
theorem k0_idx1012_inb : ∀ (v8530 : IVec S16 32) (k0_hw1016 : k0_chk1016 v8530), ∀ a x, ((![v8530] : Fin 1 → IVec S16 32) a x).toNat < S4096.size a := fun v8530 k0_hw1016 => k0_hw1016

def k0_chk1017 (v8538 : IVec S16 32) : Prop :=
  (∀ a x, ((![v8538] : Fin 1 → IVec S16 32) a x).toNat < S4096.size a)
theorem k0_idx1013_inb : ∀ (v8538 : IVec S16 32) (k0_hw1017 : k0_chk1017 v8538), ∀ a x, ((![v8538] : Fin 1 → IVec S16 32) a x).toNat < S4096.size a := fun v8538 k0_hw1017 => k0_hw1017

def k0_chk1018 (v8549 : IVec S16 32) : Prop :=
  (∀ a x, ((![v8549] : Fin 1 → IVec S16 32) a x).toNat < S4096.size a)
theorem k0_idx1014_inb : ∀ (v8549 : IVec S16 32) (k0_hw1018 : k0_chk1018 v8549), ∀ a x, ((![v8549] : Fin 1 → IVec S16 32) a x).toNat < S4096.size a := fun v8549 k0_hw1018 => k0_hw1018

def k0_chk1019 (v8557 : IVec S16 32) : Prop :=
  (∀ a x, ((![v8557] : Fin 1 → IVec S16 32) a x).toNat < S4096.size a)
theorem k0_idx1015_inb : ∀ (v8557 : IVec S16 32) (k0_hw1019 : k0_chk1019 v8557), ∀ a x, ((![v8557] : Fin 1 → IVec S16 32) a x).toNat < S4096.size a := fun v8557 k0_hw1019 => k0_hw1019

def k0_chk1020 (v8565 : IVec S16 32) : Prop :=
  (∀ a x, ((![v8565] : Fin 1 → IVec S16 32) a x).toNat < S4096.size a)
theorem k0_idx1016_inb : ∀ (v8565 : IVec S16 32) (k0_hw1020 : k0_chk1020 v8565), ∀ a x, ((![v8565] : Fin 1 → IVec S16 32) a x).toNat < S4096.size a := fun v8565 k0_hw1020 => k0_hw1020

def k0_chk1021 (v8573 : IVec S16 32) : Prop :=
  (∀ a x, ((![v8573] : Fin 1 → IVec S16 32) a x).toNat < S4096.size a)
theorem k0_idx1017_inb : ∀ (v8573 : IVec S16 32) (k0_hw1021 : k0_chk1021 v8573), ∀ a x, ((![v8573] : Fin 1 → IVec S16 32) a x).toNat < S4096.size a := fun v8573 k0_hw1021 => k0_hw1021

def k0_chk1022 (v8581 : IVec S16 32) : Prop :=
  (∀ a x, ((![v8581] : Fin 1 → IVec S16 32) a x).toNat < S4096.size a)
theorem k0_idx1018_inb : ∀ (v8581 : IVec S16 32) (k0_hw1022 : k0_chk1022 v8581), ∀ a x, ((![v8581] : Fin 1 → IVec S16 32) a x).toNat < S4096.size a := fun v8581 k0_hw1022 => k0_hw1022

def k0_chk1023 (v8589 : IVec S16 32) : Prop :=
  (∀ a x, ((![v8589] : Fin 1 → IVec S16 32) a x).toNat < S4096.size a)
theorem k0_idx1019_inb : ∀ (v8589 : IVec S16 32) (k0_hw1023 : k0_chk1023 v8589), ∀ a x, ((![v8589] : Fin 1 → IVec S16 32) a x).toNat < S4096.size a := fun v8589 k0_hw1023 => k0_hw1023

def k0_chk1024 (v8597 : IVec S16 32) : Prop :=
  (∀ a x, ((![v8597] : Fin 1 → IVec S16 32) a x).toNat < S4096.size a)
theorem k0_idx1020_inb : ∀ (v8597 : IVec S16 32) (k0_hw1024 : k0_chk1024 v8597), ∀ a x, ((![v8597] : Fin 1 → IVec S16 32) a x).toNat < S4096.size a := fun v8597 k0_hw1024 => k0_hw1024

def k0_chk1025 (v8605 : IVec S16 32) : Prop :=
  (∀ a x, ((![v8605] : Fin 1 → IVec S16 32) a x).toNat < S4096.size a)
theorem k0_idx1021_inb : ∀ (v8605 : IVec S16 32) (k0_hw1025 : k0_chk1025 v8605), ∀ a x, ((![v8605] : Fin 1 → IVec S16 32) a x).toNat < S4096.size a := fun v8605 k0_hw1025 => k0_hw1025

def k0_chk1026 (v8613 : IVec S16 32) : Prop :=
  (∀ a x, ((![v8613] : Fin 1 → IVec S16 32) a x).toNat < S4096.size a)
theorem k0_idx1022_inb : ∀ (v8613 : IVec S16 32) (k0_hw1026 : k0_chk1026 v8613), ∀ a x, ((![v8613] : Fin 1 → IVec S16 32) a x).toNat < S4096.size a := fun v8613 k0_hw1026 => k0_hw1026

def k0_chk1027 (v8621 : IVec S16 32) : Prop :=
  (∀ a x, ((![v8621] : Fin 1 → IVec S16 32) a x).toNat < S4096.size a)
theorem k0_idx1023_inb : ∀ (v8621 : IVec S16 32) (k0_hw1027 : k0_chk1027 v8621), ∀ a x, ((![v8621] : Fin 1 → IVec S16 32) a x).toNat < S4096.size a := fun v8621 k0_hw1027 => k0_hw1027

def k0_chk1028 (v8629 : IVec S16 32) : Prop :=
  (∀ a x, ((![v8629] : Fin 1 → IVec S16 32) a x).toNat < S4096.size a)
theorem k0_idx1024_inb : ∀ (v8629 : IVec S16 32) (k0_hw1028 : k0_chk1028 v8629), ∀ a x, ((![v8629] : Fin 1 → IVec S16 32) a x).toNat < S4096.size a := fun v8629 k0_hw1028 => k0_hw1028

def k0_chk1029 (v8637 : IVec S16 32) : Prop :=
  (∀ a x, ((![v8637] : Fin 1 → IVec S16 32) a x).toNat < S4096.size a)
theorem k0_idx1025_inb : ∀ (v8637 : IVec S16 32) (k0_hw1029 : k0_chk1029 v8637), ∀ a x, ((![v8637] : Fin 1 → IVec S16 32) a x).toNat < S4096.size a := fun v8637 k0_hw1029 => k0_hw1029

def k0_chk1030 (v8645 : IVec S16 32) : Prop :=
  (∀ a x, ((![v8645] : Fin 1 → IVec S16 32) a x).toNat < S4096.size a)
theorem k0_idx1026_inb : ∀ (v8645 : IVec S16 32) (k0_hw1030 : k0_chk1030 v8645), ∀ a x, ((![v8645] : Fin 1 → IVec S16 32) a x).toNat < S4096.size a := fun v8645 k0_hw1030 => k0_hw1030

def k0_chk1031 (v8653 : IVec S16 32) : Prop :=
  (∀ a x, ((![v8653] : Fin 1 → IVec S16 32) a x).toNat < S4096.size a)
theorem k0_idx1027_inb : ∀ (v8653 : IVec S16 32) (k0_hw1031 : k0_chk1031 v8653), ∀ a x, ((![v8653] : Fin 1 → IVec S16 32) a x).toNat < S4096.size a := fun v8653 k0_hw1031 => k0_hw1031

def k0_chk1032 (v8661 : IVec S16 32) : Prop :=
  (∀ a x, ((![v8661] : Fin 1 → IVec S16 32) a x).toNat < S4096.size a)
theorem k0_idx1028_inb : ∀ (v8661 : IVec S16 32) (k0_hw1032 : k0_chk1032 v8661), ∀ a x, ((![v8661] : Fin 1 → IVec S16 32) a x).toNat < S4096.size a := fun v8661 k0_hw1032 => k0_hw1032

def k0_chk1033 (v8669 : IVec S16 32) : Prop :=
  (∀ a x, ((![v8669] : Fin 1 → IVec S16 32) a x).toNat < S4096.size a)
theorem k0_idx1029_inb : ∀ (v8669 : IVec S16 32) (k0_hw1033 : k0_chk1033 v8669), ∀ a x, ((![v8669] : Fin 1 → IVec S16 32) a x).toNat < S4096.size a := fun v8669 k0_hw1033 => k0_hw1033

def k0_chk1034 (v8680 : IVec S16 32) : Prop :=
  (∀ a x, ((![v8680] : Fin 1 → IVec S16 32) a x).toNat < S4096.size a)
theorem k0_idx1030_inb : ∀ (v8680 : IVec S16 32) (k0_hw1034 : k0_chk1034 v8680), ∀ a x, ((![v8680] : Fin 1 → IVec S16 32) a x).toNat < S4096.size a := fun v8680 k0_hw1034 => k0_hw1034

def k0_chk1035 (v8688 : IVec S16 32) : Prop :=
  (∀ a x, ((![v8688] : Fin 1 → IVec S16 32) a x).toNat < S4096.size a)
theorem k0_idx1031_inb : ∀ (v8688 : IVec S16 32) (k0_hw1035 : k0_chk1035 v8688), ∀ a x, ((![v8688] : Fin 1 → IVec S16 32) a x).toNat < S4096.size a := fun v8688 k0_hw1035 => k0_hw1035

def k0_chk1036 (v8696 : IVec S16 32) : Prop :=
  (∀ a x, ((![v8696] : Fin 1 → IVec S16 32) a x).toNat < S4096.size a)
theorem k0_idx1032_inb : ∀ (v8696 : IVec S16 32) (k0_hw1036 : k0_chk1036 v8696), ∀ a x, ((![v8696] : Fin 1 → IVec S16 32) a x).toNat < S4096.size a := fun v8696 k0_hw1036 => k0_hw1036

def k0_chk1037 (v8704 : IVec S16 32) : Prop :=
  (∀ a x, ((![v8704] : Fin 1 → IVec S16 32) a x).toNat < S4096.size a)
theorem k0_idx1033_inb : ∀ (v8704 : IVec S16 32) (k0_hw1037 : k0_chk1037 v8704), ∀ a x, ((![v8704] : Fin 1 → IVec S16 32) a x).toNat < S4096.size a := fun v8704 k0_hw1037 => k0_hw1037

def k0_chk1038 (v8712 : IVec S16 32) : Prop :=
  (∀ a x, ((![v8712] : Fin 1 → IVec S16 32) a x).toNat < S4096.size a)
theorem k0_idx1034_inb : ∀ (v8712 : IVec S16 32) (k0_hw1038 : k0_chk1038 v8712), ∀ a x, ((![v8712] : Fin 1 → IVec S16 32) a x).toNat < S4096.size a := fun v8712 k0_hw1038 => k0_hw1038

def k0_chk1039 (v8720 : IVec S16 32) : Prop :=
  (∀ a x, ((![v8720] : Fin 1 → IVec S16 32) a x).toNat < S4096.size a)
theorem k0_idx1035_inb : ∀ (v8720 : IVec S16 32) (k0_hw1039 : k0_chk1039 v8720), ∀ a x, ((![v8720] : Fin 1 → IVec S16 32) a x).toNat < S4096.size a := fun v8720 k0_hw1039 => k0_hw1039

def k0_chk1040 (v8728 : IVec S16 32) : Prop :=
  (∀ a x, ((![v8728] : Fin 1 → IVec S16 32) a x).toNat < S4096.size a)
theorem k0_idx1036_inb : ∀ (v8728 : IVec S16 32) (k0_hw1040 : k0_chk1040 v8728), ∀ a x, ((![v8728] : Fin 1 → IVec S16 32) a x).toNat < S4096.size a := fun v8728 k0_hw1040 => k0_hw1040

def k0_chk1041 (v8736 : IVec S16 32) : Prop :=
  (∀ a x, ((![v8736] : Fin 1 → IVec S16 32) a x).toNat < S4096.size a)
theorem k0_idx1037_inb : ∀ (v8736 : IVec S16 32) (k0_hw1041 : k0_chk1041 v8736), ∀ a x, ((![v8736] : Fin 1 → IVec S16 32) a x).toNat < S4096.size a := fun v8736 k0_hw1041 => k0_hw1041

def k0_chk1042 (v8744 : IVec S16 32) : Prop :=
  (∀ a x, ((![v8744] : Fin 1 → IVec S16 32) a x).toNat < S4096.size a)
theorem k0_idx1038_inb : ∀ (v8744 : IVec S16 32) (k0_hw1042 : k0_chk1042 v8744), ∀ a x, ((![v8744] : Fin 1 → IVec S16 32) a x).toNat < S4096.size a := fun v8744 k0_hw1042 => k0_hw1042

def k0_chk1043 (v8752 : IVec S16 32) : Prop :=
  (∀ a x, ((![v8752] : Fin 1 → IVec S16 32) a x).toNat < S4096.size a)
theorem k0_idx1039_inb : ∀ (v8752 : IVec S16 32) (k0_hw1043 : k0_chk1043 v8752), ∀ a x, ((![v8752] : Fin 1 → IVec S16 32) a x).toNat < S4096.size a := fun v8752 k0_hw1043 => k0_hw1043

def k0_chk1044 (v8760 : IVec S16 32) : Prop :=
  (∀ a x, ((![v8760] : Fin 1 → IVec S16 32) a x).toNat < S4096.size a)
theorem k0_idx1040_inb : ∀ (v8760 : IVec S16 32) (k0_hw1044 : k0_chk1044 v8760), ∀ a x, ((![v8760] : Fin 1 → IVec S16 32) a x).toNat < S4096.size a := fun v8760 k0_hw1044 => k0_hw1044

def k0_chk1045 (v8768 : IVec S16 32) : Prop :=
  (∀ a x, ((![v8768] : Fin 1 → IVec S16 32) a x).toNat < S4096.size a)
theorem k0_idx1041_inb : ∀ (v8768 : IVec S16 32) (k0_hw1045 : k0_chk1045 v8768), ∀ a x, ((![v8768] : Fin 1 → IVec S16 32) a x).toNat < S4096.size a := fun v8768 k0_hw1045 => k0_hw1045

def k0_chk1046 (v8776 : IVec S16 32) : Prop :=
  (∀ a x, ((![v8776] : Fin 1 → IVec S16 32) a x).toNat < S4096.size a)
theorem k0_idx1042_inb : ∀ (v8776 : IVec S16 32) (k0_hw1046 : k0_chk1046 v8776), ∀ a x, ((![v8776] : Fin 1 → IVec S16 32) a x).toNat < S4096.size a := fun v8776 k0_hw1046 => k0_hw1046

def k0_chk1047 (v8784 : IVec S16 32) : Prop :=
  (∀ a x, ((![v8784] : Fin 1 → IVec S16 32) a x).toNat < S4096.size a)
theorem k0_idx1043_inb : ∀ (v8784 : IVec S16 32) (k0_hw1047 : k0_chk1047 v8784), ∀ a x, ((![v8784] : Fin 1 → IVec S16 32) a x).toNat < S4096.size a := fun v8784 k0_hw1047 => k0_hw1047

def k0_chk1048 (v8792 : IVec S16 32) : Prop :=
  (∀ a x, ((![v8792] : Fin 1 → IVec S16 32) a x).toNat < S4096.size a)
theorem k0_idx1044_inb : ∀ (v8792 : IVec S16 32) (k0_hw1048 : k0_chk1048 v8792), ∀ a x, ((![v8792] : Fin 1 → IVec S16 32) a x).toNat < S4096.size a := fun v8792 k0_hw1048 => k0_hw1048

def k0_chk1049 (v8800 : IVec S16 32) : Prop :=
  (∀ a x, ((![v8800] : Fin 1 → IVec S16 32) a x).toNat < S4096.size a)
theorem k0_idx1045_inb : ∀ (v8800 : IVec S16 32) (k0_hw1049 : k0_chk1049 v8800), ∀ a x, ((![v8800] : Fin 1 → IVec S16 32) a x).toNat < S4096.size a := fun v8800 k0_hw1049 => k0_hw1049
@[reducible] def k0_t15_loop : Scf.Loop 32 :=
  let c0_i32_3364 : BitVec 32 := 0#32
  let c16_i32_3365 : BitVec 32 := 16#32
  let v8810 : BitVec 32 := Scalar.addi c0_i32_3364 c16_i32_3365
  let c1_i32_3366 : BitVec 32 := 1#32
  ⟨c0_i32_3364, v8810, c1_i32_3366⟩
def k0_off23 (k0_t15 : Fin k0_t15_loop.trips) : Fin 1 → Nat :=
  let c0_i32_3364 : BitVec 32 := 0#32
  let c1_i32_3366 : BitVec 32 := 1#32
  let arg15 : BitVec 32 := Scf.iv c0_i32_3364 c1_i32_3366 k0_t15
  let c16_i32_3472 : BitVec 32 := 16#32
  let v9096 : BitVec 32 := Scalar.muli arg15 c16_i32_3472
  let v9097 : Index := Scalar.indexCast v9096
  ![v9097.toNat]
def k0_off24 (v8811_1 : BitVec 32) : Fin 1 → Nat :=
  let c16_i32_3368 : BitVec 32 := 16#32
  let v8812 : BitVec 32 := Scalar.muli v8811_1 c16_i32_3368
  let v8813 : Index := Scalar.indexCast v8812
  ![v8813.toNat]

def k0_chk1050 (v8811_1 : BitVec 32) : Prop :=
  (∀ a, (k0_off24 v8811_1) a + S16.size a ≤ S4096.size a)
theorem k0_off24_inb : ∀ (v8811_1 : BitVec 32) (k0_hw1050 : k0_chk1050 v8811_1), ∀ a, (k0_off24 v8811_1) a + S16.size a ≤ S4096.size a := fun v8811_1 k0_hw1050 => k0_hw1050

@[reducible] def k0_t16_loop : Scf.Loop 32 :=
  let c0_i32_3380 : BitVec 32 := 0#32
  let c2048_i32_3381 : BitVec 32 := 2048#32
  let v8856 : BitVec 32 := Scalar.addi c0_i32_3380 c2048_i32_3381
  let c1_i32_3382 : BitVec 32 := 1#32
  ⟨c0_i32_3380, v8856, c1_i32_3382⟩
def k0_off25 (k0_t16 : Fin k0_t16_loop.trips) : Fin 1 → Nat :=
  let c0_i32_3473 : BitVec 32 := 0#32
  let c0_i32_3380 : BitVec 32 := 0#32
  let c1_i32_3382 : BitVec 32 := 1#32
  let arg15 : BitVec 32 := Scf.iv c0_i32_3380 c1_i32_3382 k0_t16
  let c1_i32_3472 : BitVec 32 := 1#32
  let v9096 : BitVec 32 := Scalar.muli arg15 c1_i32_3472
  let v9097 : BitVec 32 := Scalar.addi c0_i32_3473 v9096
  let c16_i32_3474 : BitVec 32 := 16#32
  let v9098 : BitVec 32 := Scalar.muli v9097 c16_i32_3474
  let v9099 : Index := Scalar.indexCast v9098
  ![v9099.toNat]

def k0_chk1051 (v9109 : IVec S16 32) : Prop :=
  (∀ a x, ((![v9109] : Fin 1 → IVec S16 32) a x).toNat < S128.size a)
theorem k0_idx1046_inb : ∀ (v9109 : IVec S16 32) (k0_hw1051 : k0_chk1051 v9109), ∀ a x, ((![v9109] : Fin 1 → IVec S16 32) a x).toNat < S128.size a := fun v9109 k0_hw1051 => k0_hw1051

def k0_chk1052 (v8863 : IVec S16 32) : Prop :=
  (∀ a x, ((![v8863] : Fin 1 → IVec S16 32) a x).toNat < S128.size a)
theorem k0_idx1047_inb : ∀ (v8863 : IVec S16 32) (k0_hw1052 : k0_chk1052 v8863), ∀ a x, ((![v8863] : Fin 1 → IVec S16 32) a x).toNat < S128.size a := fun v8863 k0_hw1052 => k0_hw1052

def k0_chk1053 (v8871 : IVec S16 32) : Prop :=
  (∀ a x, ((![v8871] : Fin 1 → IVec S16 32) a x).toNat < S128.size a)
theorem k0_idx1048_inb : ∀ (v8871 : IVec S16 32) (k0_hw1053 : k0_chk1053 v8871), ∀ a x, ((![v8871] : Fin 1 → IVec S16 32) a x).toNat < S128.size a := fun v8871 k0_hw1053 => k0_hw1053

def k0_chk1054 (v8879 : IVec S16 32) : Prop :=
  (∀ a x, ((![v8879] : Fin 1 → IVec S16 32) a x).toNat < S128.size a)
theorem k0_idx1049_inb : ∀ (v8879 : IVec S16 32) (k0_hw1054 : k0_chk1054 v8879), ∀ a x, ((![v8879] : Fin 1 → IVec S16 32) a x).toNat < S128.size a := fun v8879 k0_hw1054 => k0_hw1054

def k0_chk1055 (v8887 : IVec S16 32) : Prop :=
  (∀ a x, ((![v8887] : Fin 1 → IVec S16 32) a x).toNat < S128.size a)
theorem k0_idx1050_inb : ∀ (v8887 : IVec S16 32) (k0_hw1055 : k0_chk1055 v8887), ∀ a x, ((![v8887] : Fin 1 → IVec S16 32) a x).toNat < S128.size a := fun v8887 k0_hw1055 => k0_hw1055

def k0_chk1056 (v8895 : IVec S16 32) : Prop :=
  (∀ a x, ((![v8895] : Fin 1 → IVec S16 32) a x).toNat < S128.size a)
theorem k0_idx1051_inb : ∀ (v8895 : IVec S16 32) (k0_hw1056 : k0_chk1056 v8895), ∀ a x, ((![v8895] : Fin 1 → IVec S16 32) a x).toNat < S128.size a := fun v8895 k0_hw1056 => k0_hw1056

def k0_chk1057 (v8903 : IVec S16 32) : Prop :=
  (∀ a x, ((![v8903] : Fin 1 → IVec S16 32) a x).toNat < S128.size a)
theorem k0_idx1052_inb : ∀ (v8903 : IVec S16 32) (k0_hw1057 : k0_chk1057 v8903), ∀ a x, ((![v8903] : Fin 1 → IVec S16 32) a x).toNat < S128.size a := fun v8903 k0_hw1057 => k0_hw1057

def k0_chk1058 (v8911 : IVec S16 32) : Prop :=
  (∀ a x, ((![v8911] : Fin 1 → IVec S16 32) a x).toNat < S128.size a)
theorem k0_idx1053_inb : ∀ (v8911 : IVec S16 32) (k0_hw1058 : k0_chk1058 v8911), ∀ a x, ((![v8911] : Fin 1 → IVec S16 32) a x).toNat < S128.size a := fun v8911 k0_hw1058 => k0_hw1058

def k0_chk1059 (v8919 : IVec S16 32) : Prop :=
  (∀ a x, ((![v8919] : Fin 1 → IVec S16 32) a x).toNat < S128.size a)
theorem k0_idx1054_inb : ∀ (v8919 : IVec S16 32) (k0_hw1059 : k0_chk1059 v8919), ∀ a x, ((![v8919] : Fin 1 → IVec S16 32) a x).toNat < S128.size a := fun v8919 k0_hw1059 => k0_hw1059

def k0_chk1060 (v8927 : IVec S16 32) : Prop :=
  (∀ a x, ((![v8927] : Fin 1 → IVec S16 32) a x).toNat < S128.size a)
theorem k0_idx1055_inb : ∀ (v8927 : IVec S16 32) (k0_hw1060 : k0_chk1060 v8927), ∀ a x, ((![v8927] : Fin 1 → IVec S16 32) a x).toNat < S128.size a := fun v8927 k0_hw1060 => k0_hw1060

def k0_chk1061 (v8935 : IVec S16 32) : Prop :=
  (∀ a x, ((![v8935] : Fin 1 → IVec S16 32) a x).toNat < S128.size a)
theorem k0_idx1056_inb : ∀ (v8935 : IVec S16 32) (k0_hw1061 : k0_chk1061 v8935), ∀ a x, ((![v8935] : Fin 1 → IVec S16 32) a x).toNat < S128.size a := fun v8935 k0_hw1061 => k0_hw1061

def k0_chk1062 (v8943 : IVec S16 32) : Prop :=
  (∀ a x, ((![v8943] : Fin 1 → IVec S16 32) a x).toNat < S128.size a)
theorem k0_idx1057_inb : ∀ (v8943 : IVec S16 32) (k0_hw1062 : k0_chk1062 v8943), ∀ a x, ((![v8943] : Fin 1 → IVec S16 32) a x).toNat < S128.size a := fun v8943 k0_hw1062 => k0_hw1062

def k0_chk1063 (v8951 : IVec S16 32) : Prop :=
  (∀ a x, ((![v8951] : Fin 1 → IVec S16 32) a x).toNat < S128.size a)
theorem k0_idx1058_inb : ∀ (v8951 : IVec S16 32) (k0_hw1063 : k0_chk1063 v8951), ∀ a x, ((![v8951] : Fin 1 → IVec S16 32) a x).toNat < S128.size a := fun v8951 k0_hw1063 => k0_hw1063

def k0_chk1064 (v8959 : IVec S16 32) : Prop :=
  (∀ a x, ((![v8959] : Fin 1 → IVec S16 32) a x).toNat < S128.size a)
theorem k0_idx1059_inb : ∀ (v8959 : IVec S16 32) (k0_hw1064 : k0_chk1064 v8959), ∀ a x, ((![v8959] : Fin 1 → IVec S16 32) a x).toNat < S128.size a := fun v8959 k0_hw1064 => k0_hw1064

def k0_chk1065 (v8967 : IVec S16 32) : Prop :=
  (∀ a x, ((![v8967] : Fin 1 → IVec S16 32) a x).toNat < S128.size a)
theorem k0_idx1060_inb : ∀ (v8967 : IVec S16 32) (k0_hw1065 : k0_chk1065 v8967), ∀ a x, ((![v8967] : Fin 1 → IVec S16 32) a x).toNat < S128.size a := fun v8967 k0_hw1065 => k0_hw1065

def k0_chk1066 (v8975 : IVec S16 32) : Prop :=
  (∀ a x, ((![v8975] : Fin 1 → IVec S16 32) a x).toNat < S128.size a)
theorem k0_idx1061_inb : ∀ (v8975 : IVec S16 32) (k0_hw1066 : k0_chk1066 v8975), ∀ a x, ((![v8975] : Fin 1 → IVec S16 32) a x).toNat < S128.size a := fun v8975 k0_hw1066 => k0_hw1066

def k0_chk1067 (v8983 : IVec S16 32) : Prop :=
  (∀ a x, ((![v8983] : Fin 1 → IVec S16 32) a x).toNat < S128.size a)
theorem k0_idx1062_inb : ∀ (v8983 : IVec S16 32) (k0_hw1067 : k0_chk1067 v8983), ∀ a x, ((![v8983] : Fin 1 → IVec S16 32) a x).toNat < S128.size a := fun v8983 k0_hw1067 => k0_hw1067
def k0_off26 : Fin 1 → Nat :=
  let c0_i32_3440 : BitVec 32 := 0#32
  let c16_i32_3441 : BitVec 32 := 16#32
  let v8996 : BitVec 32 := Scalar.muli c0_i32_3440 c16_i32_3441
  let v8997 : Index := Scalar.indexCast v8996
  ![v8997.toNat]
def k0_off27 (v9012 : BitVec 32) : Fin 1 → Nat :=
  let c16_i32_3446 : BitVec 32 := 16#32
  let v9013 : BitVec 1 := Scalar.cmpi .slt v9012 c16_i32_3446
  let c_m1_i32_3438 : BitVec 32 := 4294967295#32
  let c0_i32_3451 : BitVec 32 := 0#32
  let v9030 : BitVec 1 := Scalar.cmpi .slt c_m1_i32_3438 c0_i32_3451
  let v9031 : BitVec 1 := Scalar.andi v9013 v9030
  let c0_i32_3440 : BitVec 32 := 0#32
  let c16_i32_3452 : BitVec 32 := 16#32
  let v9032 : BitVec 32 := Scalar.muli c0_i32_3440 c16_i32_3452
  let v9033 : BitVec 32 := Scalar.addi v9032 v9012
  let v9034 : BitVec 32 := Scalar.select v9031 v9033 c_m1_i32_3438
  let c16_i32_3456 : BitVec 32 := 16#32
  let v9043 : BitVec 32 := Scalar.muli v9034 c16_i32_3456
  let v9044 : Index := Scalar.indexCast v9043
  ![v9044.toNat]

def k0_chk1068 (v9012 : BitVec 32) : Prop :=
  (∀ a, (k0_off27 v9012) a + S16.size a ≤ S128.size a)
theorem k0_off27_inb : ∀ (v9012 : BitVec 32) (k0_hw1068 : k0_chk1068 v9012), ∀ a, (k0_off27 v9012) a + S16.size a ≤ S128.size a := fun v9012 k0_hw1068 => k0_hw1068

def k0_off28 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3472_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S64x32768 : Shape := ⟨2, ![64, 32768]⟩
abbrev S64x64 : Shape := ⟨2, ![64, 64]⟩
abbrev S64x1 : Shape := ⟨2, ![64, 1]⟩
abbrev S64x128 : Shape := ⟨2, ![64, 128]⟩

abbrev nBuf : Space → Nat
  | .hbm => 5
  | .vmem => 0
  | .smem => 0
  | _ => 0

abbrev bufTy : (tb : Table) → Fin (tcTables nBuf tb) → BufTy
  | .hbm, ⟨0, _⟩ => ⟨S64x32768, .f32⟩
  | .hbm, ⟨1, _⟩ => ⟨S64x64, .f32⟩
  | .hbm, ⟨2, _⟩ => ⟨S64x64, .i32⟩
  | .hbm, ⟨3, _⟩ => ⟨S64x1, .f32⟩
  | .hbm, ⟨4, _⟩ => ⟨S64x128, .f32⟩
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Encode.lean ====
abbrev S64x1024 : Shape := ⟨2, ![64, 1024]⟩
abbrev S32768x1024 : Shape := ⟨2, ![32768, 1024]⟩
abbrev S32768 : Shape := ⟨1, ![32768]⟩
abbrev S1x32768 : Shape := ⟨2, ![1, 32768]⟩
abbrev S64x32768 : Shape := ⟨2, ![64, 32768]⟩
abbrev S2048x1024 : Shape := ⟨2, ![2048, 1024]⟩
abbrev S1x2048 : Shape := ⟨2, ![1, 2048]⟩
abbrev S64x2048 : Shape := ⟨2, ![64, 2048]⟩

abbrev nBuf : Space → Nat
  | .hbm => 5
  | .vmem => 7
  | .smem => 0
  | _ => 0

abbrev bufTy : (tb : Table) → Fin (tcTables nBuf tb) → BufTy
  | .hbm, ⟨0, _⟩ => ⟨S64x1024, .f32⟩
  | .hbm, ⟨1, _⟩ => ⟨S32768x1024, .f32⟩
  | .hbm, ⟨2, _⟩ => ⟨S32768, .f32⟩
  | .hbm, ⟨3, _⟩ => ⟨S1x32768, .f32⟩
  | .hbm, ⟨4, _⟩ => ⟨S64x32768, .f32⟩
  | .local _ .vmem, ⟨0, _⟩ => ⟨S64x1024, .f32⟩
  | .local _ .vmem, ⟨1, _⟩ => ⟨S2048x1024, .f32⟩
  | .local _ .vmem, ⟨2, _⟩ => ⟨S2048x1024, .f32⟩
  | .local _ .vmem, ⟨3, _⟩ => ⟨S1x2048, .f32⟩
  | .local _ .vmem, ⟨4, _⟩ => ⟨S1x2048, .f32⟩
  | .local _ .vmem, ⟨5, _⟩ => ⟨S64x2048, .f32⟩
  | .local _ .vmem, ⟨6, _⟩ => ⟨S64x2048, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EncodeRefIdeal.lean ====
abbrev S64x1024 : Shape := ⟨2, ![64, 1024]⟩
abbrev S32768x1024 : Shape := ⟨2, ![32768, 1024]⟩
abbrev S32768 : Shape := ⟨1, ![32768]⟩
abbrev S1024x32768 : Shape := ⟨2, ![1024, 32768]⟩
abbrev S64x32768 : Shape := ⟨2, ![64, 32768]⟩
abbrev S1x32768 : Shape := ⟨2, ![1, 32768]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S32768x1024, .f32⟩
  | .hbm, ⟨2, _⟩ => ⟨S32768, .f32⟩
  | .hbm, ⟨3, _⟩ => ⟨S1024x32768, .f32⟩
  | .hbm, ⟨4, _⟩ => ⟨S64x32768, .f32⟩
  | .hbm, ⟨5, _⟩ => ⟨S1x32768, .f32⟩
  | .hbm, ⟨6, _⟩ => ⟨S64x32768, .f32⟩
  | .hbm, ⟨7, _⟩ => ⟨S64x32768, .f32⟩
  | .hbm, ⟨8, _⟩ => ⟨S_, .f32⟩
  | .hbm, ⟨9, _⟩ => ⟨S64x32768, .f32⟩
  | .hbm, ⟨10, _⟩ => ⟨S64x32768, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Decode.lean ====
abbrev S64x32768 : Shape := ⟨2, ![64, 32768]⟩
abbrev S64x128 : Shape := ⟨2, ![64, 128]⟩
abbrev S1024x32768 : Shape := ⟨2, ![1024, 32768]⟩
abbrev S1024 : Shape := ⟨1, ![1024]⟩
abbrev S1x1024 : Shape := ⟨2, ![1, 1024]⟩
abbrev S64x1024 : Shape := ⟨2, ![64, 1024]⟩
abbrev S64x2048 : Shape := ⟨2, ![64, 2048]⟩
abbrev S1024x2048 : Shape := ⟨2, ![1024, 2048]⟩
abbrev S64x1 : Shape := ⟨2, ![64, 1]⟩

abbrev nBuf : Space → Nat
  | .hbm => 7
  | .vmem => 9
  | .smem => 0
  | _ => 0

abbrev bufTy : (tb : Table) → Fin (tcTables nBuf tb) → BufTy
  | .hbm, ⟨0, _⟩ => ⟨S64x32768, .f32⟩
  | .hbm, ⟨1, _⟩ => ⟨S64x128, .f32⟩
  | .hbm, ⟨2, _⟩ => ⟨S1024x32768, .f32⟩
  | .hbm, ⟨3, _⟩ => ⟨S1024, .f32⟩
  | .hbm, ⟨4, _⟩ => ⟨S1x1024, .f32⟩
  | .hbm, ⟨5, _⟩ => ⟨S64x32768, .f32⟩
  | .hbm, ⟨6, _⟩ => ⟨S64x1024, .f32⟩
  | .local _ .vmem, ⟨0, _⟩ => ⟨S64x2048, .f32⟩
  | .local _ .vmem, ⟨1, _⟩ => ⟨S64x2048, .f32⟩
  | .local _ .vmem, ⟨2, _⟩ => ⟨S64x128, .f32⟩
  | .local _ .vmem, ⟨3, _⟩ => ⟨S1024x2048, .f32⟩
  | .local _ .vmem, ⟨4, _⟩ => ⟨S1024x2048, .f32⟩
  | .local _ .vmem, ⟨5, _⟩ => ⟨S1x1024, .f32⟩
  | .local _ .vmem, ⟨6, _⟩ => ⟨S64x2048, .f32⟩
  | .local _ .vmem, ⟨7, _⟩ => ⟨S64x2048, .f32⟩
  | .local _ .vmem, ⟨8, _⟩ => ⟨S64x1024, .f32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_8 : BitVec 32 := 0#32
  let v13 : BitVec 1 := Scalar.cmpi .ne v12 c0_i32_8
  v13

def k0_cond2 (i : grid0.Coords) : BitVec 1 :=
  let arg0 : BitVec 32 := BitVec.ofNat 32 (i 0).val
  let c0_i32_9 : BitVec 32 := 0#32
  let v14 : BitVec 1 := Scalar.cmpi .ne arg0 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DecodeRefIdeal.lean ====
abbrev S64x32768 : Shape := ⟨2, ![64, 32768]⟩
abbrev S64x128 : Shape := ⟨2, ![64, 128]⟩
abbrev S1024x32768 : Shape := ⟨2, ![1024, 32768]⟩
abbrev S1024 : Shape := ⟨1, ![1024]⟩
abbrev S64x1 : Shape := ⟨2, ![64, 1]⟩
abbrev S_ : Shape := ⟨0, ![]⟩
abbrev S32768x1024 : Shape := ⟨2, ![32768, 1024]⟩
abbrev S64x1024 : Shape := ⟨2, ![64, 1024]⟩
abbrev S1x1024 : Shape := ⟨2, ![1, 1024]⟩

abbrev nBuf : Space → Nat
  | .hbm => 15
  | .vmem => 0
  | .smem => 0
  | _ => 0

abbrev bufTy : (tb : Table) → Fin (tcTables nBuf tb) → BufTy
  | .hbm, ⟨0, _⟩ => ⟨S64x32768, .f32⟩
  | .hbm, ⟨1, _⟩ => ⟨S64x128, .f32⟩
  | .hbm, ⟨2, _⟩ => ⟨S1024x32768, .f32⟩
  | .hbm, ⟨3, _⟩ => ⟨S1024, .f32⟩
  | .hbm, ⟨4, _⟩ => ⟨S64x1, .f32⟩
  | .hbm, ⟨5, _⟩ => ⟨S64x32768, .f32⟩
  | .hbm, ⟨6, _⟩ => ⟨S64x32768, .i1⟩
  | .hbm, ⟨7, _⟩ => ⟨S_, .f32⟩
  | .hbm, ⟨8, _⟩ => ⟨S64x32768, .f32⟩
  | .hbm, ⟨9, _⟩ => ⟨S64x32768, .f32⟩
  | .hbm, ⟨10, _⟩ => ⟨S32768x1024, .f32⟩
  | .hbm, ⟨11, _⟩ => ⟨S64x1024, .f32⟩
  | .hbm, ⟨12, _⟩ => ⟨S1x1024, .f32⟩
  | .hbm, ⟨13, _⟩ => ⟨S64x1024, .f32⟩
  | .hbm, ⟨14, _⟩ => ⟨S64x1024, .f32⟩
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Common.lean ====
/-
  The names every module of this certificate shares: the program as the launch sees it, the tile's memrefs, the
  processors' coordinates, and the indexed load and store restated as plain loads and stores of the whole memref.
-/
module

public import proofs.«01_k».proof.Proof.Gen.Kernel
public import proofs.«01_k».proof.Proof.Gen.Kernel.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The program as the launch theorem sees it -/

/-- The program's labels. -/
abbrev ΛP (F : FTy → Type) [BitOps F] : Labels := Pipeline.Sig Λ₀ (Fin 0) fun p => (pcfgs (F := F) p).Adm
/-- The program as the launch sees it. -/
abbrev K (F : FTy → Type) [BitOps F] : SparseCore.Cfg τ sig (ΛP F) 1 := sc (F := F)
/-- The program's functions. -/
abbrev D (F : FTy → Type) [BitOps F] : Defs nD τ sig (Elt F) (ΛP F) := Pipeline.defs pcfgs defs₀
/-- No loop needs a measure. -/
abbrev 𝒱₀ : Variants := Variants.none
/-- The same, for the launched program. -/
abbrev 𝒱 : Variants := 𝒱₀.lift
/-- The variant at the start. -/
abbrev v₀ : 𝒱.V := Sum.inl none

/-! ## The resource algebra: the handshakes' rounds beside the transfers' counters -/

/-- The ghost state of the handshakes. -/
abbrev UH : Type := URounds (GSem nD τ sig) ℕ
/-- The ghost state: the handshakes' and the transfers' counters. -/
abbrev UU : Type := UH × Counters
/-- The resources that assertions speak of. -/
abbrev 𝕄 (F : FTy → Type) : Type := MT nD τ sig (HIx 1) (Elt F) ℕ UU ℕ
/-- The handshakes' part of the ghost state. -/
abbrev EH (F : FTy → Type) : Emb UH (MT nD τ sig (HIx 1) (Elt F) ℕ UU ℕ) := embL

/-! ## The tile's memrefs -/

/-- The input, in HBM. -/
abbrev mX : Memref sig .scVector .hbm S64x32768 .f32 := Memref.whole main_arg0_scv
/-- The output, in HBM. -/
abbrev mO : Memref sig .scVector .hbm S32x16 .f32 := Memref.whole main_v0_scv
/-- The first row's buffer. -/
abbrev mA : Memref sig .scVector .vmem S32768 .f32 := Memref.whole cc0_scratch0
/-- The second row's buffer. -/
abbrev mB : Memref sig .scVector .vmem S32768 .f32 := Memref.whole cc0_scratch1
/-- The counts by the first digit. -/
abbrev mH1 : Memref sig .scVector .vmem S4096 .i32 := Memref.whole cc0_scratch2
/-- Their sums over runs of sixteen. -/
abbrev mC1 : Memref sig .scVector .vmem S256 .i32 := Memref.whole cc0_scratch3
/-- The counts by the second digit. -/
abbrev mH2 : Memref sig .scVector .vmem S4096 .i32 := Memref.whole cc0_scratch4
/-- Their sums over runs of sixteen. -/
abbrev mC2 : Memref sig .scVector .vmem S256 .i32 := Memref.whole cc0_scratch5
/-- The counts by the third digit. -/
abbrev mH3 : Memref sig .scVector .vmem S128 .i32 := Memref.whole cc0_scratch6
/-- Their sums over runs of sixteen. -/
abbrev mC3 : Memref sig .scVector .vmem S16 .i32 := Memref.whole cc0_scratch7
/-- The two words on their way out. -/
abbrev mT : Memref sig .scVector .vmem S16 .f32 := Memref.whole cc0_scratch8

/-- The SparseCore of a grid position. -/
abbrev cV (i : grid0.Coords) : Fin τ.nSC := (i 0).castLE hcore0
/-- The tile of a grid position. -/
abbrev jV (i : grid0.Coords) : Fin τ.nSub := (i 1).castLE hsub0
/-- The tile's thread on device `d`. -/
abbrev thr (d : Dev nD) (i : grid0.Coords) : Thread nD τ := V d (cV i) (jV i)

/-- The lane numbers. -/
abbrev lane : IVec S16 32 := iota .scVector S16 32 [0] iota_S16_d0_w32_scVector
/-- The vector of ones, as the body makes it. -/
abbrev ones : IVec S16 32 := addi (muli lane (broadcast S16 0#32)) (broadcast S16 1#32)

/-! ## Indexed loads and stores as loads and stores of the whole memref -/

section Ops

variable {F : FTy → Type} [BitOps F] {p : Proc τ} {s t : Shape} {e : EltTy}

/-- An indexed load reads the whole memref and gathers. -/
theorem loadIdx_eq (base : Memref sig p.kind .vmem s e) (idxs : Fin s.rank → IVec t 32)
    (h : ∀ a x, (idxs a x).toNat < s.size a) (hl : base.view.Loads) :
    (SparseCore.vectorLoadIdx base idxs h hl : Prog (TpuEff nD τ sig (Elt F) Λ₀ p) (Vec F t e))
      = .op (.load base (Rect.whole s).toLoadRect (View.loadsAt_whole hl)) fun f => .ret (Idealize.ShloMosaic.loadIdx f idxs h) := rfl

/-- An indexed store reads the whole memref and stores the scattered contents back. -/
theorem storeIdx_eq {dd : Fin 1 → Nat} (base : Memref sig p.kind .vmem s e) (idxs : Fin s.rank → IVec ⟨1, dd⟩ 32) (v : Vec F ⟨1, dd⟩ e)
    (mask : IVec ⟨1, dd⟩ 1) (add : Bool) (h : ∀ a x, (idxs a x).toNat < s.size a) (hs : (base.access (.whole s)).Stores Finset.univ) :
    (SparseCore.vectorStoreIdx base idxs v mask add h hs : Prog (TpuEff nD τ sig (Elt F) Λ₀ p) PUnit)
      = .op (.load base (Rect.whole s).toLoadRect (View.loadsAt_rect hs.loads)) fun f =>
        .op (.store base (.whole s) (Idealize.ShloMosaic.storeIdx f idxs v mask add h) Finset.univ hs (.inl rfl)) fun _ => .ret ⟨⟩ := rfl

end Ops

end Cert.Proof.Tile

end
-- ==== Proof.Counts.lean ====
/-
  Plain mathematics of the radix selection: running sums of a count table, the bin a target falls in, and the words that carry them.
-/
module

public import Mathlib.Algebra.BigOperators.Group.Finset.Basic
public import Mathlib.Algebra.BigOperators.Intervals
public import Mathlib.Data.Nat.Count
public import Mathlib.Tactic.Ring
public import Mathlib.Tactic.NormNum
public import Mathlib.Data.Fintype.Card
public import Idealize.ShloMosaic.PureOps.ShapeOps

@[expose] public section

namespace Cert.Proof.Counts

/-- The sum of the first `n` entries of a table. -/
def fsum (c : ℕ → ℕ) (n : ℕ) : ℕ := ∑ j ∈ Finset.range n, c j

/-- The empty sum is 0. -/
theorem fsum_zero (c : ℕ → ℕ) : fsum c 0 = 0 := rfl

/-- One more term. -/
theorem fsum_succ (c : ℕ → ℕ) (n : ℕ) : fsum c (n + 1) = fsum c n + c n := Finset.sum_range_succ _ _

/-- More terms sum to no less. -/
theorem fsum_mono (c : ℕ → ℕ) {m n : ℕ} (h : m ≤ n) : fsum c m ≤ fsum c n := by
  induction h with
  | refl => exact le_rfl
  | step _ ih => exact ih.trans (by rw [fsum_succ]; exact Nat.le_add_right _ _)

/-- A run of sixteen entries as one. -/
def coarse (c : ℕ → ℕ) (m : ℕ) : ℕ := fsum (fun k => c (16 * m + k)) 16

/-- A sum in two parts. -/
theorem fsum_add (c : ℕ → ℕ) (a b : ℕ) : fsum c (a + b) = fsum c a + fsum (fun k => c (a + k)) b := Finset.sum_range_add _ _ _

/-- The running sums of the runs of sixteen are the table's own at the multiples of sixteen. -/
theorem fsum_coarse (c : ℕ → ℕ) (n : ℕ) : fsum (coarse c) n = fsum c (16 * n) := by
  induction n with
  | zero => rw [Nat.mul_zero, fsum_zero, fsum_zero]
  | succ n ih => rw [fsum_succ, ih, show 16 * (n + 1) = 16 * n + 16 from rfl, fsum_add, coarse]

/-- `b` is the first bin at which the running sum passes `t`. -/
structure Sel (c : ℕ → ℕ) (t : ℤ) (b : ℕ) : Prop where
  passes : t < fsum c (b + 1)
  first : ∀ m < b, (fsum c (m + 1) : ℤ) ≤ t

/-- The first bin exists when the target is below the running sum somewhere. -/
theorem Sel.exists {c : ℕ → ℕ} {t : ℤ} {n : ℕ} (h : t < fsum c (n + 1)) : ∃ b ≤ n, Sel c t b := by
  classical
  have hx : ∃ b, t < fsum c (b + 1) := ⟨n, h⟩
  exact ⟨Nat.find hx, Nat.find_min' hx h, Nat.find_spec hx, fun m hm => not_lt.1 (Nat.find_min hx hm)⟩

/-- At most one bin is chosen. -/
theorem Sel.unique {c : ℕ → ℕ} {t : ℤ} {a b : ℕ} (ha : Sel c t a) (hb : Sel c t b) : a = b := by
  rcases lt_trichotomy a b with h | h | h
  · exact absurd ha.passes (not_lt.2 (hb.first a h))
  · exact h
  · exact absurd hb.passes (not_lt.2 (ha.first b h))

/-- Below the first bin the running sum has not passed the target, unless the bin is the very first. -/
theorem Sel.below {c : ℕ → ℕ} {t : ℤ} {b : ℕ} (h : Sel c t b) : b = 0 ∨ (fsum c b : ℤ) ≤ t := by
  cases b with
  | zero => exact Or.inl rfl
  | succ n => exact Or.inr (h.first n (Nat.lt_succ_self n))

/-- A bin found among the runs of sixteen, then one found inside that run, is the bin of the whole table. -/
theorem Sel.refine {c : ℕ → ℕ} {t : ℤ} {m p : ℕ} (hm : Sel (coarse c) t m) (hp : p < 16)
    (hpass : t < fsum c (16 * m + p + 1)) (hfirst : ∀ l < p, (fsum c (16 * m + l + 1) : ℤ) ≤ t) : Sel c t (16 * m + p) := by
  refine ⟨hpass, fun j hj => ?_⟩
  rcases Nat.lt_or_ge j (16 * m) with h | h
  · have h1 := hm.first (j / 16) (by omega)
    rw [fsum_coarse] at h1
    have h2 := fsum_mono c (show j + 1 ≤ 16 * (j / 16 + 1) by omega)
    omega
  · have := hfirst (j - 16 * m) (by omega)
    rwa [show 16 * m + (j - 16 * m) + 1 = j + 1 by omega] at this

/-- The number of the first `n` positions that hold. -/
abbrev cnt (p : ℕ → Prop) [DecidablePred p] (n : ℕ) : ℕ := Nat.count p n

end Cert.Proof.Counts
-- ==== Proof.Lanes.lean ====
/-
  Sixteen-lane words: running sums, minima and maxima of the lanes, and what a chain of gathers adds up to.
-/
module

public import proofs.«01_k».proof.Proof.Common
public import proofs.«01_k».proof.Proof.Counts

@[expose] public section

noncomputable section

namespace Cert.Proof.Tile

open Cert.Kernel Cert.Kernel.Gen Cert.Proof.Counts
open Idealize.ShloMosaic

/-- The vector whose lane `l` is the word of `c l`. -/
def vecN (c : ℕ → ℕ) : IVec S16 32 := fun x => BitVec.ofNat 32 (c (x 0).val)

/-- The array whose entry `j` is the word of `c j`. -/
def arr {n : Fin 1 → ℕ} (c : ℕ → ℕ) : IVec ⟨1, n⟩ 32 := fun x => BitVec.ofNat 32 (c (x 0).val)

/-- Vectors with equal lanes are equal. -/
theorem vecN_congr {a b : ℕ → ℕ} (h : ∀ l < 16, a l = b l) : vecN a = vecN b :=
  funext fun x => congrArg (BitVec.ofNat 32) (h _ (x 0).isLt)

/-- The lane numbers, lane by lane. -/
theorem lane_apply (x : S16.Idx) : lane x = BitVec.ofNat 32 (x 0).val := by
  show BitVec.ofNat 32 _ = _
  simp only [List.foldl, Nat.zero_mul, Nat.zero_add]

/-- The lane numbers as a vector of naturals. -/
theorem lane_eq : lane = vecN fun l => l := funext lane_apply

/-- A constant vector. -/
theorem bc_eq (n : ℕ) : broadcast S16 (BitVec.ofNat 32 n) = vecN fun _ => n := rfl

/-- A sum, lane by lane. -/
theorem addi_vecN (a b : ℕ → ℕ) : addi (vecN a) (vecN b) = vecN fun l => a l + b l :=
  funext fun x => (BitVec.ofNat_add _ _).symm

/-- A product, lane by lane. -/
theorem muli_vecN (a b : ℕ → ℕ) : muli (vecN a) (vecN b) = vecN fun l => a l * b l :=
  funext fun x => (BitVec.ofNat_mul _ _).symm

/-- The lanes that a running operation has passed after the first, in order. -/
theorem lanes_list : ∀ l : Fin 16, ((List.finRange 16).filter fun k => decide (0 < k.val ∧ k.val ≤ l.val))
    = (List.range' 1 l.val).map (fun k => Fin.ofNat 16 k) := by decide

/-- Lane `k` (read modulo sixteen) as an index. -/
def ln (k : ℕ) : S16.Idx := fun a => ⟨k % 16, by rw [Fin.eq_zero a]; exact Nat.mod_lt _ (by decide)⟩

/-- A lane's number. -/
theorem ln_zero_val {k : ℕ} (h : k < 16) : ((ln k) 0).val = k := Nat.mod_eq_of_lt h

/-- A scan as a left fold over the lanes' numbers. -/
theorem scan_apply (kind : ScanKind) (v : IVec S16 32) (x : S16.Idx) :
    scan kind v x = (List.range' 1 (x 0).val).foldl (fun r k => kind.step r (v (ln k))) (v (ln 0)) := by
  have h : scan kind v x = ((List.finRange 16).filter fun k => decide (0 < k.val ∧ k.val ≤ (x 0).val)).foldl
      (fun r k => kind.step r (v (ln k.val))) (v (ln 0)) := by
    have e : (fun (r : BitVec 32) (k : Fin 16) => kind.step r (v (ln k.val))) = fun r k => kind.step r (v (Shape.ofLane (d := ![16]) k)) := by
      funext r k
      refine congrArg (fun y => kind.step r (v y)) (funext fun a => Fin.ext ?_)
      show k.val % 16 = k.val
      exact Nat.mod_eq_of_lt k.isLt
    rw [e]; rfl
  rw [h]
  refine (congrArg (List.foldl _ _) (lanes_list (x 0))).trans ?_
  rw [List.foldl_map]
  refine congrArg (fun f => List.foldl f _ _) (funext fun r => funext fun k => congrArg (fun y => kind.step r (v y)) ?_)
  funext a
  refine Fin.ext ?_
  show k % 16 % 16 = k % 16
  exact Nat.mod_mod _ _

/-- A scan of words of numbers is the words of the numbers' running folds, when the step is one of numbers. -/
theorem scan_vecN (kind : ScanKind) (a r : ℕ → ℕ) (h0 : r 0 = a 0)
    (hs : ∀ l, l + 1 < 16 → kind.step (BitVec.ofNat 32 (r l)) (BitVec.ofNat 32 (a (l + 1))) = BitVec.ofNat 32 (r (l + 1))) :
    scan kind (vecN a) = vecN r := by
  funext x
  rw [scan_apply]
  have key : ∀ l, l < 16 → (List.range' 1 l).foldl (fun r k => kind.step r (vecN a (ln k))) (vecN a (ln 0)) = BitVec.ofNat 32 (r l) := by
    intro l
    induction l with
    | zero => intro _; rw [h0]; rfl
    | succ l ih =>
      intro hl
      rw [List.range'_1_concat, List.foldl_append, ih (by omega), List.foldl_cons, List.foldl_nil, ← hs l hl]
      have e : vecN a (ln (1 + l)) = BitVec.ofNat 32 (a (l + 1)) := by
        show BitVec.ofNat 32 (a ((1 + l) % 16)) = _
        rw [Nat.mod_eq_of_lt (by omega), Nat.add_comm]
      rw [e]
  exact key _ (x 0).isLt

/-- The running sum. -/
theorem scan_sum (a : ℕ → ℕ) : scan .sum (vecN a) = vecN fun l => fsum a (l + 1) :=
  scan_vecN _ _ _ (by simp [fsum]) fun l _ => by rw [fsum_succ a (l + 1)]; exact (BitVec.ofNat_add _ _).symm

/-- A small natural survives being made a word. -/
theorem toNat_ofNat32 {a : ℕ} (h : a < 2 ^ 32) : (BitVec.ofNat 32 a).toNat = a := by rw [BitVec.toNat_ofNat]; exact Nat.mod_eq_of_lt h

/-- The same, read as a signed number. -/
theorem toInt_ofNat32 {a : ℕ} (h : a < 2 ^ 31) : (BitVec.ofNat 32 a).toInt = a := by
  rw [BitVec.toInt_eq_toNat_of_lt (by rw [toNat_ofNat32 (by omega)]; omega), toNat_ofNat32 (by omega)]

/-- Equality of small words. -/
theorem eq_ofNat {a b : ℕ} (ha : a < 2 ^ 32) (hb : b < 2 ^ 32) :
    IntOp.cmpi .eq (BitVec.ofNat 32 a) (BitVec.ofNat 32 b) = BitVec.ofBool (decide (a = b)) := by
  show BitVec.ofBool (_ == _) = _
  congr 1
  rw [Bool.eq_iff_iff, beq_iff_eq, decide_eq_true_iff]
  constructor
  · intro h; have := congrArg BitVec.toNat h; rwa [toNat_ofNat32 ha, toNat_ofNat32 hb] at this
  · rintro rfl; rfl

/-- Signed comparison of small words. -/
theorem slt_ofNat {a b : ℕ} (ha : a < 2 ^ 31) (hb : b < 2 ^ 31) :
    Scalar.cmpi .slt (BitVec.ofNat 32 a) (BitVec.ofNat 32 b) = BitVec.ofBool (decide (a < b)) := by
  show BitVec.ofBool (BitVec.slt _ _) = _
  rw [BitVec.slt, toInt_ofNat32 ha, toInt_ofNat32 hb]
  congr 1
  exact decide_eq_decide.2 (by omega)

/-- The running minimum, given by its recursion. -/
theorem scan_min (a r : ℕ → ℕ) (ha : ∀ l < 16, a l < 2 ^ 32) (h0 : r 0 = a 0) (hs : ∀ l, l + 1 < 16 → r (l + 1) = min (r l) (a (l + 1))) :
    scan .min (vecN a) = vecN r := by
  have hr : ∀ l, l < 16 → r l < 2 ^ 32 := by
    intro l
    induction l with
    | zero => intro h; rw [h0]; exact ha 0 h
    | succ l ih => intro h; rw [hs l h]; exact lt_of_le_of_lt (min_le_right _ _) (ha _ h)
  refine scan_vecN _ _ _ h0 fun l hl => ?_
  show (if BitVec.ult _ _ then _ else _) = _
  rw [hs l hl, BitVec.ult, toNat_ofNat32 (hr l (by omega)), toNat_ofNat32 (ha _ hl)]
  rcases lt_or_ge (r l) (a (l + 1)) with h | h
  · rw [if_pos (by simpa using h), min_eq_left h.le]
  · rw [if_neg (by simpa using h), min_eq_right h]

/-- The running maximum, given by its recursion. -/
theorem scan_max (a r : ℕ → ℕ) (ha : ∀ l < 16, a l < 2 ^ 32) (h0 : r 0 = a 0) (hs : ∀ l, l + 1 < 16 → r (l + 1) = max (r l) (a (l + 1))) :
    scan .max (vecN a) = vecN r := by
  have hr : ∀ l, l < 16 → r l < 2 ^ 32 := by
    intro l
    induction l with
    | zero => intro h; rw [h0]; exact ha 0 h
    | succ l ih => intro h; rw [hs l h]; exact max_lt (ih (by omega)) (ha _ h)
  refine scan_vecN _ _ _ h0 fun l hl => ?_
  show (if BitVec.ult _ _ then _ else _) = _
  rw [hs l hl, BitVec.ult, toNat_ofNat32 (hr l (by omega)), toNat_ofNat32 (ha _ hl)]
  rcases lt_trichotomy (r l) (a (l + 1)) with h | h | h
  · rw [max_eq_right h.le, if_neg]; simpa using h.le
  · rw [h, max_self, ite_self]
  · rw [max_eq_left h.le, if_pos]; simpa using h

/-- Flipping the sign bit of a small word adds 2³¹. -/
theorem flip_small {a : ℕ} (h : a < 2 ^ 31) : BitVec.ofNat 32 a ^^^ 2147483648#32 = BitVec.ofNat 32 (a + 2 ^ 31) := by
  apply BitVec.eq_of_getLsbD_eq
  intro j hj
  rw [BitVec.getLsbD_xor, BitVec.getLsbD_ofNat, BitVec.getLsbD_ofNat, BitVec.getLsbD_ofNat, show (2147483648 : ℕ) = 2 ^ 31 from by norm_num,
    Nat.testBit_two_pow, Nat.add_comm, decide_eq_true hj, Bool.true_and, Bool.true_and, Bool.true_and]
  rcases Nat.lt_or_ge j 31 with h' | h'
  · rw [Nat.testBit_two_pow_add_gt h', decide_eq_false (by omega), Bool.xor_false]
  · obtain rfl : j = 31 := by omega
    rw [Nat.testBit_two_pow_add_eq, Nat.testBit_lt_two_pow h]; rfl

/-- Flipping the sign bit back. -/
theorem unflip_small {a : ℕ} (h : a < 2 ^ 31) : BitVec.ofNat 32 (a + 2 ^ 31) ^^^ 2147483648#32 = BitVec.ofNat 32 a := by
  rw [← flip_small h, BitVec.xor_assoc, BitVec.xor_self, BitVec.xor_zero]

end Cert.Proof.Tile
-- ==== Proof.Select.lean ====
/-
  The selection of one bin: the first lane whose running count passes the target, over a row of coarse sums sixteen at a time,
  then inside the run of sixteen bins found.
-/
module

public import proofs.«01_k».proof.Proof.Lanes

@[expose] public section

noncomputable section

namespace Cert.Proof.Tile

open Cert.Kernel Cert.Kernel.Gen Cert.Proof.Counts
open Idealize.ShloMosaic

/-! ## The words the body computes -/

/-- The sign bit in every lane. -/
abbrev signs : IVec S16 32 := broadcast S16 2147483648#32

/-- The first lane whose running count passes the target, sixteen if none does. -/
def selPos (pc : IVec S16 32) (t : BitVec 32) : BitVec 32 :=
  extractAt ![15] (xori (scan .min (xori (select (cmpi .sgt pc (broadcast S16 t)) lane (broadcast S16 16#32)) signs)) signs) inpos_S16_p15

/-- The word of the lane named, zero if the number names none. -/
def vext (v : IVec S16 32) (pos : BitVec 32) : BitVec 32 :=
  extractAt ![15] (scan .sum (select (cmpi .eq lane (broadcast S16 pos)) v (broadcast S16 0#32))) inpos_S16_p15

/-- The largest lane, the lanes read signed. -/
def runMax (pc : IVec S16 32) : BitVec 32 := extractAt ![15] (xori (scan .max (xori pc signs)) signs) inpos_S16_p15

/-- The running counts of sixteen lanes on top of a running total. -/
def pcOf (v : IVec S16 32) (run : BitVec 32) : IVec S16 32 := addi (scan .sum v) (broadcast S16 run)

/-- Whether this vector holds the first lane that passes. -/
def hitOf (v : IVec S16 32) (run t fc : BitVec 32) : BitVec 1 :=
  Scalar.andi (Scalar.cmpi .slt (selPos (pcOf v run) t) 16#32) (Scalar.cmpi .slt fc 0#32)

/-- One trip over a vector of coarse sums: the total so far, the coarse bin found, the total below it. -/
def tripOf (base : BitVec 32) (v : IVec S16 32) (run t fc fb : BitVec 32) : BitVec 32 × BitVec 32 × BitVec 32 :=
  (runMax (pcOf v run), Scalar.select (hitOf v run t fc) (Scalar.addi base (selPos (pcOf v run) t)) fc,
   Scalar.select (hitOf v run t fc) (Scalar.subi (vext (pcOf v run) (selPos (pcOf v run) t)) (vext v (selPos (pcOf v run) t))) fb)

/-- The bin inside the run of sixteen found. -/
def fineB (v : IVec S16 32) (fc fb t : BitVec 32) : BitVec 32 := Scalar.addi (Scalar.muli fc 16#32) (selPos (pcOf v fb) t)

/-- The running count up to and including that bin. -/
def fineAt (v : IVec S16 32) (fb t : BitVec 32) : BitVec 32 := vext (pcOf v fb) (selPos (pcOf v fb) t)

/-! ## What they are -/

/-- The last lane. -/
theorem last_vecN (a : ℕ → ℕ) : extractAt ![15] (vecN a) inpos_S16_p15 = BitVec.ofNat 32 (a 15) := rfl

/-- A small integer survives being made a word. -/
theorem toInt_ofInt32 {t : ℤ} (h1 : -2 ^ 31 ≤ t) (h2 : t < 2 ^ 31) : (BitVec.ofInt 32 t).toInt = t := by
  rw [BitVec.toInt_ofInt]; exact Int.bmod_eq_of_le (by norm_num; omega) (by norm_num; omega)

/-- A small natural compared with a small integer. -/
theorem sgt_ofNat {a : ℕ} {t : ℤ} (h : a < 2 ^ 31) (h1 : -2 ^ 31 ≤ t) (h2 : t < 2 ^ 31) :
    IntOp.cmpi .sgt (BitVec.ofNat 32 a) (BitVec.ofInt 32 t) = BitVec.ofBool (decide (t < a)) := by
  show BitVec.ofBool (BitVec.slt _ _) = _
  rw [BitVec.slt, toInt_ofNat32 h, toInt_ofInt32 h1 h2]

/-- A target the words hold. -/
def Small (t : ℤ) : Prop := -2 ^ 31 ≤ t ∧ t < 2 ^ 31

/-- The first lane that passes, among the first lanes. -/
def firstUpto (P : ℕ → ℕ) (t : ℤ) : ℕ → ℕ
  | 0 => if t < P 0 then 0 else 16
  | l + 1 => min (firstUpto P t l) (if t < P (l + 1) then l + 1 else 16)

/-- The first lane that passes the target, or 16 if none does. -/
theorem firstUpto_spec (P : ℕ → ℕ) (t : ℤ) : ∀ n < 16,
    (firstUpto P t n ≤ n ∧ t < P (firstUpto P t n) ∧ ∀ l < firstUpto P t n, (P l : ℤ) ≤ t) ∨ (firstUpto P t n = 16 ∧ ∀ l ≤ n, (P l : ℤ) ≤ t)
  | 0, _ => by
    unfold firstUpto
    split
    · rename_i h; exact Or.inl ⟨le_rfl, h, fun l hl => absurd hl (Nat.not_lt_zero _)⟩
    · rename_i h; refine Or.inr ⟨rfl, fun l hl => ?_⟩; obtain rfl : l = 0 := by omega
      exact not_lt.1 h
  | n + 1, hn => by
    rw [firstUpto]
    rcases firstUpto_spec P t n (by omega) with ⟨h1, h2, h3⟩ | ⟨h1, h2⟩
    · left
      have e : min (firstUpto P t n) (if t < P (n + 1) then n + 1 else 16) = firstUpto P t n := by split <;> omega
      rw [e]; exact ⟨by omega, h2, h3⟩
    · rw [h1]
      split
      · rename_i h
        rw [min_eq_right (by omega)]
        exact Or.inl ⟨le_rfl, h, fun l hl => h2 l (by omega)⟩
      · rename_i h
        refine Or.inr ⟨min_self _, fun l hl => ?_⟩
        rcases Nat.lt_or_ge l (n + 1) with h' | h'
        · exact h2 l (by omega)
        · obtain rfl : l = n + 1 := by omega
          exact not_lt.1 h

/-- Flipping the sign bits adds 2³¹ to small words. -/
theorem xori_signs (a : ℕ → ℕ) (h : ∀ l < 16, a l < 2 ^ 31) : xori (vecN a) signs = vecN fun l => a l + 2 ^ 31 :=
  funext fun x => flip_small (h _ (x 0).isLt)

/-- Flipping them back. -/
theorem xori_signs' (a : ℕ → ℕ) (h : ∀ l < 16, a l < 2 ^ 31) : xori (vecN fun l => a l + 2 ^ 31) signs = vecN a :=
  funext fun x => unflip_small (h _ (x 0).isLt)

/-- The lane found is at most 16. -/
theorem firstUpto_le (P : ℕ → ℕ) (t : ℤ) {n : ℕ} (h : n < 16) : firstUpto P t n ≤ 16 := by
  rcases firstUpto_spec P t n h with ⟨h1, _⟩ | ⟨h1, _⟩ <;> omega

/-- The kernel's lane is the first that passes the target. -/
theorem selPos_eq (P : ℕ → ℕ) {t : ℤ} (hP : ∀ l < 16, P l < 2 ^ 31) (ht : Small t) :
    selPos (vecN P) (BitVec.ofInt 32 t) = BitVec.ofNat 32 (firstUpto P t 15) := by
  have h1 : select (cmpi .sgt (vecN P) (broadcast S16 (BitVec.ofInt 32 t))) lane (broadcast S16 16#32) = vecN fun l => if t < P l then l else 16 := by
    funext x
    show Scalar.select (IntOp.cmpi .sgt (BitVec.ofNat 32 (P (x 0).val)) (BitVec.ofInt 32 t)) (lane x) (16#32) = BitVec.ofNat 32 (if t < P (x 0).val then (x 0).val else 16)
    rw [sgt_ofNat (hP _ (x 0).isLt) ht.1 ht.2, lane_apply]
    by_cases h : t < P (x 0).val
    · rw [if_pos h, decide_eq_true h]; rfl
    · rw [if_neg h, decide_eq_false h]; rfl
  have hb : ∀ l < 16, (if t < P l then l else 16) < 2 ^ 31 := by intro l hl; split <;> omega
  unfold selPos
  rw [h1, xori_signs _ hb, scan_min _ (fun l => firstUpto P t l + 2 ^ 31) (fun l hl => by have := hb l hl; omega) rfl
    (fun l _ => by rw [firstUpto]; omega), xori_signs' _ (fun l hl => by have := firstUpto_le P t hl; omega), last_vecN]

/-- A sum with one term. -/
theorem fsum_single (c : ℕ → ℕ) (p : ℕ) : ∀ n, fsum (fun l => if l = p then c l else 0) n = if p < n then c p else 0
  | 0 => by simp [fsum]
  | n + 1 => by
    rw [fsum_succ, fsum_single c p n]
    rcases lt_trichotomy n p with h | h | h
    · rw [if_neg (by omega), if_neg (by omega), if_neg (by omega)]
    · subst h; rw [if_neg (by omega), if_pos rfl, if_pos (by omega), Nat.zero_add]
    · rw [if_pos h, if_neg (by omega), if_pos (by omega), Nat.add_zero]

/-- The lane taken out of a vector. -/
theorem vext_eq (c : ℕ → ℕ) {p : ℕ} (hp : p < 16) : vext (vecN c) (BitVec.ofNat 32 p) = BitVec.ofNat 32 (c p) := by
  have h1 : select (cmpi .eq lane (broadcast S16 (BitVec.ofNat 32 p))) (vecN c) (broadcast S16 0#32) = vecN fun l => if l = p then c l else 0 := by
    funext x
    show Scalar.select (IntOp.cmpi .eq (lane x) (BitVec.ofNat 32 p)) (vecN c x) (0#32) = BitVec.ofNat 32 (if (x 0).val = p then c (x 0).val else 0)
    rw [lane_apply, eq_ofNat (by have : (x 0).val < 16 := (x 0).isLt; omega) (by omega)]
    by_cases h : (x 0).val = p
    · rw [if_pos h, decide_eq_true h]; rfl
    · rw [if_neg h, decide_eq_false h]; rfl
  unfold vext
  rw [h1, scan_sum, last_vecN, fsum_single, if_pos hp]

/-- The maximum of growing lanes is the last. -/
theorem runMax_eq (P : ℕ → ℕ) (hP : ∀ l < 16, P l < 2 ^ 31) (hm : ∀ l, P l ≤ P (l + 1)) : runMax (vecN P) = BitVec.ofNat 32 (P 15) := by
  unfold runMax
  rw [xori_signs _ hP, scan_max _ (fun l => P l + 2 ^ 31) (fun l hl => by have := hP l hl; omega) rfl
    (fun l _ => by have := hm l; omega), xori_signs' _ hP, last_vecN]

/-- The running counts from what came before. -/
theorem pcOf_eq (c : ℕ → ℕ) (n : ℕ) : pcOf (vecN c) (BitVec.ofNat 32 n) = vecN fun l => n + fsum c (l + 1) := by
  unfold pcOf
  rw [scan_sum, bc_eq, addi_vecN]
  exact vecN_congr fun l _ => Nat.add_comm _ _

/-! ## A trip over the coarse sums -/

/-- What the carried words are after the first `n` coarse sums. -/
def Inv (g : ℕ → ℕ) (t : ℤ) (n : ℕ) (a : BitVec 32 × BitVec 32 × BitVec 32) : Prop :=
  a.1 = BitVec.ofNat 32 (fsum g n) ∧
    ((∃ m < n, Sel g t m ∧ a.2.1 = BitVec.ofNat 32 m ∧ a.2.2 = BitVec.ofNat 32 (fsum g m))
      ∨ ((∀ m < n, (fsum g (m + 1) : ℤ) ≤ t) ∧ a.2.1 = 4294967295#32 ∧ a.2.2 = 0#32))

/-- The selection's invariant at the start. -/
theorem inv_zero (g : ℕ → ℕ) (t : ℤ) : Inv g t 0 (0#32, 4294967295#32, 0#32) :=
  ⟨rfl, Or.inr ⟨fun _ h => absurd h (Nat.not_lt_zero _), rfl, rfl⟩⟩

/-- One trip keeps it. -/
theorem inv_trip {g : ℕ → ℕ} {t : ℤ} {i : ℕ} {a : BitVec 32 × BitVec 32 × BitVec 32} {base : BitVec 32} {v : IVec S16 32}
    (hb : ∀ n, fsum g n ≤ 32768) (ht : Small t) (hi : i < 2 ^ 20) (hbase : base = BitVec.ofNat 32 (16 * i)) (hv : v = vecN fun l => g (16 * i + l))
    (h : Inv g t (16 * i) a) : Inv g t (16 * (i + 1)) (tripOf base v a.1 (BitVec.ofInt 32 t) a.2.1 a.2.2) := by
  obtain ⟨h1, h2⟩ := h
  have hpc : pcOf v a.1 = vecN fun l => fsum g (16 * i + l + 1) := by
    rw [hv, h1, pcOf_eq]
    exact vecN_congr fun l _ => by rw [Nat.add_assoc, fsum_add g (16 * i) (l + 1)]
  have hsm : ∀ l < 16, fsum g (16 * i + l + 1) < 2 ^ 31 := fun l _ => lt_of_le_of_lt (hb _) (by norm_num)
  have hpos := selPos_eq (fun l => fsum g (16 * i + l + 1)) hsm ht
  have hspec := firstUpto_spec (fun l => fsum g (16 * i + l + 1)) t 15 (by omega)
  rw [← hpc] at hpos
  generalize firstUpto (fun l => fsum g (16 * i + l + 1)) t 15 = p at hpos hspec
  have hp : p ≤ 16 := by rcases hspec with ⟨h, _⟩ | ⟨h, _⟩ <;> omega
  refine ⟨?_, ?_⟩
  · show runMax (pcOf v a.1) = _
    rw [hpc, runMax_eq _ hsm (fun l => fsum_mono _ (by omega))]
    rfl
  · show (∃ m < _, _ ∧ Scalar.select (hitOf v a.1 (BitVec.ofInt 32 t) a.2.1) _ _ = _ ∧ Scalar.select (hitOf v a.1 (BitVec.ofInt 32 t) a.2.1) _ _ = _)
      ∨ (_ ∧ Scalar.select (hitOf v a.1 (BitVec.ofInt 32 t) a.2.1) _ _ = _ ∧ Scalar.select (hitOf v a.1 (BitVec.ofInt 32 t) a.2.1) _ _ = _)
    have hhit : hitOf v a.1 (BitVec.ofInt 32 t) a.2.1 = IntOp.andi (BitVec.ofBool (decide (p < 16))) (Scalar.cmpi .slt a.2.1 0#32) := by
      unfold hitOf
      rw [hpos, show (16#32) = BitVec.ofNat 32 16 from rfl, slt_ofNat (by omega) (by norm_num)]; rfl
    rw [hhit, hpos]
    rcases h2 with ⟨m, hm, hsel, e1, e2⟩ | ⟨hnone, e1, e2⟩
    · left
      have : Scalar.cmpi .slt a.2.1 0#32 = 0#1 := by
        rw [e1]
        have hm' : m < 2 ^ 31 := by omega
        exact (slt_ofNat hm' (by norm_num : 0 < 2 ^ 31)).trans (by rw [decide_eq_false (by omega)]; rfl)
      rw [this]
      have z : IntOp.andi (BitVec.ofBool (decide (p < 16))) 0#1 = 0#1 := by cases decide (p < 16) <;> rfl
      rw [z]
      exact ⟨m, by omega, hsel, e1, e2⟩
    · have : Scalar.cmpi .slt a.2.1 0#32 = 1#1 := by rw [e1]; rfl
      rw [this]
      rcases hspec with ⟨p1, p2, p3⟩ | ⟨p1, p2⟩
      · left
        rw [decide_eq_true (by omega)]
        refine ⟨16 * i + p, by omega, ⟨p2, fun j hj => ?_⟩, ?_, ?_⟩
        · rcases Nat.lt_or_ge j (16 * i) with h | h
          · exact hnone j h
          · have := p3 (j - 16 * i) (by omega)
            rwa [show 16 * i + (j - 16 * i) + 1 = j + 1 by omega] at this
        · show base + _ = _
          rw [hbase, ← BitVec.ofNat_add]
        · show vext _ _ - vext _ _ = _
          rw [hpc, hv, vext_eq _ (by omega), vext_eq _ (by omega), fsum_succ, BitVec.ofNat_add, BitVec.add_sub_cancel]
      · right
        rw [decide_eq_false (by omega)]
        refine ⟨fun j hj => ?_, e1, e2⟩
        rcases Nat.lt_or_ge j (16 * i) with h | h
        · exact hnone j h
        · have := p2 (j - 16 * i) (by omega)
          rwa [show 16 * i + (j - 16 * i) + 1 = j + 1 by omega] at this

/-- After all the coarse sums, when the target is below their total, the first coarse bin is found. -/
theorem inv_found {g : ℕ → ℕ} {t : ℤ} {n : ℕ} {a : BitVec 32 × BitVec 32 × BitVec 32} (h : Inv g t n a) (hn : 0 < n) (ht : t < fsum g n) :
    ∃ m < n, Sel g t m ∧ a.2.1 = BitVec.ofNat 32 m ∧ a.2.2 = BitVec.ofNat 32 (fsum g m) := by
  rcases h.2 with h | ⟨h, _⟩
  · exact h
  · have := h (n - 1) (by omega)
    rw [show n - 1 + 1 = n by omega] at this
    omega

/-- The bin inside the run found, and the running count up to it. -/
theorem fine_eq {c : ℕ → ℕ} {t : ℤ} {m : ℕ} (hb : ∀ n, fsum c n ≤ 32768) (ht : Small t) (hm : Sel (coarse c) t m)
    {v : IVec S16 32} (hv : v = vecN fun l => c (16 * m + l)) :
    ∃ b, b < 16 * (m + 1) ∧ Sel c t b ∧ fineB v (BitVec.ofNat 32 m) (BitVec.ofNat 32 (fsum (coarse c) m)) (BitVec.ofInt 32 t) = BitVec.ofNat 32 b
      ∧ fineAt v (BitVec.ofNat 32 (fsum (coarse c) m)) (BitVec.ofInt 32 t) = BitVec.ofNat 32 (fsum c (b + 1)) := by
  have hpc : pcOf v (BitVec.ofNat 32 (fsum (coarse c) m)) = vecN fun l => fsum c (16 * m + l + 1) := by
    rw [hv, pcOf_eq]
    exact vecN_congr fun l _ => by rw [Nat.add_assoc, fsum_add c (16 * m) (l + 1), fsum_coarse]
  have hsm : ∀ l < 16, fsum c (16 * m + l + 1) < 2 ^ 31 := fun l _ => lt_of_le_of_lt (hb _) (by norm_num)
  have hpos := selPos_eq (fun l => fsum c (16 * m + l + 1)) hsm ht
  have hspec := firstUpto_spec (fun l => fsum c (16 * m + l + 1)) t 15 (by omega)
  rw [← hpc] at hpos
  generalize firstUpto (fun l => fsum c (16 * m + l + 1)) t 15 = p at hpos hspec
  have hpass := hm.passes
  rw [fsum_coarse] at hpass
  rcases hspec with ⟨p1, p2, p3⟩ | ⟨p1, p2⟩
  · refine ⟨16 * m + p, by omega, hm.refine (by omega) p2 p3, ?_, ?_⟩
    · unfold fineB
      rw [hpos]
      show BitVec.ofNat 32 m * BitVec.ofNat 32 16 + BitVec.ofNat 32 p = _
      rw [← BitVec.ofNat_mul, ← BitVec.ofNat_add, Nat.mul_comm]
    · unfold fineAt
      rw [hpos, hpc, vext_eq _ (by omega)]
  · have := p2 15 le_rfl
    rw [show 16 * m + 15 + 1 = 16 * (m + 1) by omega] at this
    omega

end Cert.Proof.Tile
-- ==== Proof.Hist.lean ====
/-
  The histograms of a row's words: digits of sixteen words at a time, the masked scatter that counts them, the stores that fill
  an array sixteen entries at a time, and the gathers that add up runs of sixteen bins.
-/
module

public import proofs.«01_k».proof.Proof.Lanes
public import Idealize.ShloMosaic.Lib.VecWindow

@[expose] public section

noncomputable section

namespace Cert.Proof.Tile

open Cert.Kernel Cert.Kernel.Gen Cert.Proof.Counts
open Idealize.ShloMosaic

/-! ## Digits -/

/-- The mask whose lane `l` is set when `p l`. -/
def maskN (p : ℕ → Bool) : IVec S16 1 := fun x => BitVec.ofBool (p (x 0).val)

/-- The conjunction of two masks, lane by lane. -/
theorem andi_maskN (p q : ℕ → Bool) : andi (maskN p) (maskN q) = maskN fun l => p l && q l :=
  funext fun x => by
    show BitVec.ofBool (p (x 0).val) &&& BitVec.ofBool (q (x 0).val) = BitVec.ofBool (p (x 0).val && q (x 0).val)
    cases p (x 0).val <;> cases q (x 0).val <;> rfl

/-- Equality, lane by lane. -/
theorem eq_vecN (a b : ℕ → ℕ) (ha : ∀ l, a l < 2 ^ 32) (hb : ∀ l, b l < 2 ^ 32) : cmpi .eq (vecN a) (vecN b) = maskN fun l => decide (a l = b l) :=
  funext fun _ => eq_ofNat (ha _) (hb _)

/-- Positivity, lane by lane. -/
theorem pos_vecN (a : ℕ → ℕ) (ha : ∀ l, a l < 2 ^ 31) : cmpi .sgt (vecN a) (broadcast S16 0#32) = maskN fun l => decide (0 < a l) := by
  funext x
  show BitVec.ofBool (BitVec.slt _ _) = _
  have h := ha (x 0).val
  have e : (BitVec.ofNat 32 (a (x 0).val)).toInt = a (x 0).val := toInt_ofNat32 h
  show BitVec.ofBool (BitVec.slt 0#32 (BitVec.ofNat 32 (a (x 0).val))) = BitVec.ofBool (decide (0 < a (x 0).val))
  rw [BitVec.slt, e]
  congr 1
  exact decide_eq_decide.2 (by simp)

/-- An arithmetic shift right of words with a clear sign bit is a division. -/
theorem shrsi_vecN (a : ℕ → ℕ) (ha : ∀ l, a l < 2 ^ 31) {k : ℕ} (hk : k < 32) :
    shrsi (vecN a) (broadcast S16 (BitVec.ofNat 32 k)) = vecN fun l => a l / 2 ^ k := by
  funext x
  have h := ha (x 0).val
  show IntOp.shrsi .vector (BitVec.ofNat 32 (a (x 0).val)) (BitVec.ofNat 32 k) = BitVec.ofNat 32 (a (x 0).val / 2 ^ k)
  unfold IntOp.shrsi
  rw [toNat_ofNat32 (show k < 2 ^ 32 by omega), if_pos hk]
  show (BitVec.ofNat 32 (a (x 0).val)).sshiftRight (BitVec.ofNat 32 k).toNat = _
  rw [toNat_ofNat32 (show k < 2 ^ 32 by omega), BitVec.sshiftRight_eq_of_msb_false]
  · apply BitVec.eq_of_toNat_eq
    rw [BitVec.toNat_ushiftRight, toNat_ofNat32 (show a (x 0).val < 2 ^ 32 by omega), Nat.shiftRight_eq_div_pow,
      toNat_ofNat32 (lt_of_le_of_lt (Nat.div_le_self _ _) (by omega))]
  · rw [BitVec.msb_eq_false_iff_two_mul_lt, toNat_ofNat32 (show a (x 0).val < 2 ^ 32 by omega)]; omega

/-- A conjunction with 2ᵏ − 1 is a remainder. -/
theorem andi_vecN (a : ℕ → ℕ) (ha : ∀ l, a l < 2 ^ 32) {m k : ℕ} (hm : m = 2 ^ k - 1) (hk : k < 32) :
    andi (vecN a) (broadcast S16 (BitVec.ofNat 32 m)) = vecN fun l => a l % 2 ^ k := by
  funext x
  have h := ha (x 0).val
  have hkk : 2 ^ k ≤ 2 ^ 31 := Nat.pow_le_pow_right (by omega) (by omega)
  have hp : 0 < 2 ^ k := Nat.two_pow_pos k
  show BitVec.ofNat 32 (a (x 0).val) &&& BitVec.ofNat 32 m = BitVec.ofNat 32 (a (x 0).val % 2 ^ k)
  apply BitVec.eq_of_toNat_eq
  rw [BitVec.toNat_and, toNat_ofNat32 h, hm, toNat_ofNat32 (show 2 ^ k - 1 < 2 ^ 32 by omega), Nat.and_two_pow_sub_one_eq_mod,
    toNat_ofNat32 (lt_of_le_of_lt (Nat.mod_le _ _) h)]

/-! ## Counting -/

/-- How many of the first `n` positions hold and have digit `j`. -/
def hist (P : ℕ → Prop) [DecidablePred P] (dig : ℕ → ℕ) (n j : ℕ) : ℕ := Nat.count (fun k => P k ∧ dig k = j) n

/-- Counting one more position. -/
theorem hist_succ (P : ℕ → Prop) [DecidablePred P] (dig : ℕ → ℕ) (n j : ℕ) :
    hist P dig (n + 1) j = hist P dig n j + if P n ∧ dig n = j then 1 else 0 := Nat.count_succ _ _

/-- Every lane of `ones` is 1. -/
theorem ones_apply (x : S16.Idx) : ones x = 1#32 := by
  show lane x * 0#32 + 1#32 = 1#32
  rw [BitVec.mul_zero, BitVec.zero_add]

/-- The sixteen lanes in order. -/
theorem lanes_all : List.finRange 16 = (List.range 16).map (fun k => Fin.ofNat 16 k) := by decide

/-- One lane of a masked scatter of ones. -/
def stepIx {F : FTy → Type} [BitOps F] {N : Fin 1 → ℕ} (idx : IVec S16 32) (mask : IVec S16 1)
    (h : ∀ a x, ((![idx] : Fin 1 → IVec S16 32) a x).toNat < (⟨1, N⟩ : Shape).size a) (g : Vec F ⟨1, N⟩ .i32) (x : S16.Idx) : Vec F ⟨1, N⟩ .i32 :=
  if mask x = 1 then fun j => if (∀ a, (j a).val = (idxAt (![idx] : Fin 1 → IVec S16 32) h x a).val) then
    Elt.idxAdd .i32 (g (idxAt (![idx] : Fin 1 → IVec S16 32) h x)) (ones x) else g j else g

/-- The same, the lane given by its number. -/
def stepAt {F : FTy → Type} [BitOps F] {N : Fin 1 → ℕ} (idx : IVec S16 32) (mask : IVec S16 1)
    (h : ∀ a x, ((![idx] : Fin 1 → IVec S16 32) a x).toNat < (⟨1, N⟩ : Shape).size a) (g : Vec F ⟨1, N⟩ .i32) (k : ℕ) : Vec F ⟨1, N⟩ .i32 :=
  stepIx idx mask h g (ln k)

/-- The masked scatter of ones counts sixteen more positions. -/
theorem scatter_hist {F : FTy → Type} [BitOps F] {N : Fin 1 → ℕ} (P : ℕ → Prop) [DecidablePred P] (dig : ℕ → ℕ) (base : ℕ)
    (hd : ∀ j, dig j < 2 ^ 32) (f : Vec F ⟨1, N⟩ .i32) (hf : f = arr (hist P dig base))
    (idx : IVec S16 32) (hidx : idx = vecN fun l => dig (base + l)) (mask : IVec S16 1) (hmask : mask = maskN fun l => decide (P (base + l)))
    (h : ∀ a x, ((![idx] : Fin 1 → IVec S16 32) a x).toNat < (⟨1, N⟩ : Shape).size a) :
    storeIdx (F := F) (e := .i32) (d := ![16]) f (![idx] : Fin 1 → IVec S16 32) ones mask true h = arr (hist P dig (base + 16)) := by
  have e0 : storeIdx (F := F) (e := .i32) (d := ![16]) f (![idx] : Fin 1 → IVec S16 32) ones mask true h
      = (List.finRange 16).foldl (fun g k => stepAt idx mask h g k.val) f := by
    unfold storeIdx
    refine congrArg (fun S => List.foldl S f (List.finRange 16)) (funext fun g => funext fun k => ?_)
    have e : ln k.val = Shape.ofLane (d := ![16]) k := funext fun a => Fin.ext (Nat.mod_eq_of_lt k.isLt)
    unfold stepAt stepIx
    rw [e]
    by_cases hm : mask (Shape.ofLane (d := ![16]) k) = 1
    · refine (if_pos hm).trans (Eq.trans (funext fun j => ?_) (if_pos hm).symm)
      by_cases hj : ∀ a, (j a).val = (idxAt (s := ⟨1, N⟩) (![idx] : Fin 1 → IVec S16 32) h (Shape.ofLane (d := ![16]) k) a).val
      · exact (if_pos hj).trans (if_pos hj).symm
      · exact (if_neg hj).trans (if_neg hj).symm
    · exact (if_neg hm).trans (if_neg hm).symm
  rw [e0, lanes_all, List.foldl_map]
  have e1 : ∀ (m : ℕ), m ≤ 16 → (List.range m).foldl (fun (g : Vec F ⟨1, N⟩ .i32) (k : ℕ) => stepAt idx mask h g (Fin.ofNat 16 k).val) f
      = (List.range m).foldl (stepAt idx mask h) f := fun m hm =>
    List.foldl_ext _ _ _ fun g k hk => congrArg (stepAt idx mask h g) (Nat.mod_eq_of_lt (by have := List.mem_range.1 hk; omega))
  rw [e1 16 le_rfl]
  suffices H : ∀ m ≤ 16, (List.range m).foldl (stepAt idx mask h) f = arr (hist P dig (base + m)) from H 16 le_rfl
  intro m
  induction m with
  | zero => intro _; exact hf
  | succ m ih =>
    intro hm
    rw [List.range_succ, List.foldl_append, ih (by omega), List.foldl_cons, List.foldl_nil]
    have hl : ((ln m) 0).val = m := ln_zero_val (by omega)
    have hi : idx (ln m) = BitVec.ofNat 32 (dig (base + m)) := by rw [hidx]; show BitVec.ofNat 32 (dig (base + ((ln m) 0).val)) = _; rw [hl]
    have hk : mask (ln m) = BitVec.ofBool (decide (P (base + m))) := by rw [hmask]; show BitVec.ofBool (decide (P (base + ((ln m) 0).val))) = _; rw [hl]
    unfold stepAt stepIx
    rw [hk]
    by_cases hP : P (base + m)
    · rw [if_pos (by rw [decide_eq_true hP]; rfl)]
      have hv : ∀ a, (idxAt (s := ⟨1, N⟩) (![idx] : Fin 1 → IVec S16 32) h (ln m) a).val = dig (base + m) := by
        intro a
        obtain rfl : a = 0 := Fin.eq_zero a
        show (idx (ln m)).toNat = _
        rw [hi, toNat_ofNat32 (hd _)]
      funext j
      show (if _ then _ else _) = BitVec.ofNat 32 (hist P dig (base + (m + 1)) (j 0).val)
      rw [← Nat.add_assoc, hist_succ]
      by_cases hj : dig (base + m) = (j 0).val
      · have e2 : arr (n := N) (hist P dig (base + m)) (idxAt (s := ⟨1, N⟩) (![idx] : Fin 1 → IVec S16 32) h (ln m))
            = BitVec.ofNat 32 (hist P dig (base + m) (j 0).val) :=
          congrArg (fun z => BitVec.ofNat 32 (hist P dig (base + m) z)) ((hv 0).trans hj)
        rw [if_pos (fun a => by rw [hv a, hj, Fin.eq_zero a]), if_pos ⟨hP, hj⟩, ones_apply, e2, BitVec.ofNat_add]
        rfl
      · rw [if_neg (fun h' => hj (by rw [h' 0, hv 0])), if_neg (fun h' => hj h'.2), Nat.add_zero]
        rfl
    · rw [if_neg (by rw [decide_eq_false hP]; decide)]
      funext j
      show BitVec.ofNat 32 (hist P dig (base + m) (j 0).val) = BitVec.ofNat 32 (hist P dig (base + (m + 1)) (j 0).val)
      rw [← Nat.add_assoc, hist_succ, if_neg (fun h' => hP h'.1), Nat.add_zero]

/-! ## Filling an array from the left -/

/-- The array agrees with the table below `n`. -/
def Below {n : Fin 1 → ℕ} (c : ℕ → ℕ) (m : ℕ) (f : IVec ⟨1, n⟩ 32) : Prop := ∀ x, (x 0).val < m → f x = BitVec.ofNat 32 (c (x 0).val)

/-- Of no entries anything holds. -/
theorem below_zero {n : Fin 1 → ℕ} (c : ℕ → ℕ) (f : IVec ⟨1, n⟩ 32) : Below c 0 f := fun _ h => absurd h (Nat.not_lt_zero _)

/-- An array right at all its entries is the table's array. -/
theorem Below.full {n : Fin 1 → ℕ} {c : ℕ → ℕ} {m : ℕ} {f : IVec ⟨1, n⟩ 32} (h : Below c m f) (hm : n 0 ≤ m) : f = arr c :=
  funext fun x => h x (lt_of_lt_of_le (x 0).isLt hm)

section Views

variable {F : FTy → Type} [BitOps F] {κ : Kind} {sp : Space}

/-- A store of the next sixteen entries extends the part filled by sixteen. -/
theorem below_cons {n : Fin 1 → ℕ} {c : ℕ → ℕ} {lo hi : ℕ} (v : View sig κ sp ⟨1, n⟩ .i32) (f : v.ty.Contents (Elt F))
    (L : List (View.Piece (Elt F) ⟨1, n⟩ .i32)) {off : Fin 1 → ℕ} (hoff : off = ![lo]) (hhi : hi = lo + 16)
    (inb : ∀ a, off a + S16.size a ≤ (⟨1, n⟩ : Shape).size a) (w : IVec S16 32) (hw : w = vecN fun l => c (lo + l))
    (h : Below c lo (v.read (Elt F) (v.writes (Elt F) f L))) :
    Below c hi (v.read (Elt F) (v.writes (Elt F) f (⟨Rect.unit off S16.size inb, w⟩ :: L))) := by
  subst hhi
  rw [View.read_writes_cons_put v f inb w L hoff]
  intro x hx
  unfold VecWindow.put
  split
  · rename_i hin
    have h0 := hin 0
    rw [hw]
    show BitVec.ofNat 32 (c (lo + ((x 0).val - lo))) = _
    have : lo ≤ (x 0).val := h0.1
    rw [show lo + ((x 0).val - lo) = (x 0).val by omega]
  · rename_i hout
    refine h x ?_
    by_contra hge
    refine hout fun a => ?_
    obtain rfl : a = 0 := Fin.eq_zero a
    exact ⟨not_lt.1 hge, hx⟩

/-- Sixteen entries of an array of words, read by a load. -/
theorem readAt_arr {n : Fin 1 → ℕ} {c : ℕ → ℕ} {lo : ℕ} (v : View sig κ sp ⟨1, n⟩ .i32) (f : v.ty.Contents (Elt F))
    (hf : v.read (Elt F) f = arr c) {off : Fin 1 → ℕ} (hoff : off = ![lo]) (inb : ∀ a, off a + S16.size a ≤ (⟨1, n⟩ : Shape).size a) :
    v.readAt (Elt F) (Rect.unit (s := ⟨1, n⟩) off S16.size inb).toLoadRect f = vecN fun l => c (lo + l) := by
  rw [View.readAt_unit v f inb hoff (hoff ▸ inb), hf]
  funext y
  show BitVec.ofNat 32 (c (lo + 1 * (y 0).val)) = _
  rw [Nat.one_mul]; rfl

/-- The word at position `j` of a row, read as a number; zero past the row's end. -/
def wd (f : S32768.Idx → F .f32) (j : ℕ) : ℕ :=
  if h : j < 32768 then (BitOps.toBits (f fun _ => ⟨j, by simpa using h⟩)).toNat else 0

/-- Sixteen words of a row, read by a load. -/
theorem bits_row {lo : ℕ} (v : View sig κ sp S32768 .f32) (f : v.ty.Contents (Elt F)) (r : S32768.Idx → F .f32)
    (hf : v.read (Elt F) f = r) {off : Fin 1 → ℕ} (hoff : off = ![lo]) (inb : ∀ a, off a + S16.size a ≤ S32768.size a) :
    bitcastToInt (F := F) (φ := .f32) (s := S16) (v.readAt (Elt F) (Rect.unit (s := S32768) off S16.size inb).toLoadRect f) = vecN fun l => wd r (lo + l) := by
  have hin : lo + 16 ≤ 32768 := by have := inb 0; rw [hoff] at this; exact this
  rw [View.readAt_unit v f inb hoff (hoff ▸ inb), hf]
  funext y
  have hy : (y 0).val < 16 := (y 0).isLt
  show BitOps.toBits (r _) = BitVec.ofNat 32 (wd r (lo + (y 0).val))
  rw [wd, dif_pos (by omega), BitVec.ofNat_toNat, BitVec.setWidth_eq]
  refine congrArg (fun z => BitOps.toBits (r z)) (funext fun a => Fin.ext ?_)
  obtain rfl : a = 0 := Fin.eq_zero a
  show lo + 1 * (y 0).val = _
  rw [Nat.one_mul]

end Views

/-! ## Gathers -/

/-- The indices of one gather of the coarse sums: every sixteenth from `a + b`. -/
theorem idx_vecN (a b : ℕ) : addi (addi (broadcast S16 (BitVec.ofNat 32 a)) (muli lane (broadcast S16 16#32))) (broadcast S16 (BitVec.ofNat 32 b))
    = vecN fun l => a + l * 16 + b := by
  rw [lane_eq, bc_eq, bc_eq, bc_eq, muli_vecN, addi_vecN, addi_vecN]

/-- The gather's index is in range. -/
theorem idx_ok {a b : BitVec 32} (h : (Nat.ble a.toNat 3840 && Nat.blt b.toNat 16) = true) :
    ∀ c x, ((![addi (addi (broadcast S16 a) (muli lane (broadcast S16 16#32))) (broadcast S16 b)] : Fin 1 → IVec S16 32) c x).toNat < S4096.size c := by
  rw [Bool.and_eq_true] at h
  have h1 : a.toNat ≤ 3840 := Nat.le_of_ble_eq_true h.1
  have h2 : b.toNat < 16 := Nat.le_of_ble_eq_true h.2
  intro c x
  obtain rfl : c = 0 := Fin.eq_zero c
  have hx : (x 0).val < 16 := (x 0).isLt
  show ((addi (addi (broadcast S16 a) (muli lane (broadcast S16 16#32))) (broadcast S16 b)) x).toNat < 4096
  have e := congrFun (idx_vecN a.toNat b.toNat) x
  rw [BitVec.ofNat_toNat, BitVec.ofNat_toNat, BitVec.setWidth_eq, BitVec.setWidth_eq] at e
  rw [e]
  show (BitVec.ofNat 32 (a.toNat + (x 0).val * 16 + b.toNat)).toNat < 4096
  rw [toNat_ofNat32 (by omega)]; omega

/-- The sum of `n` gathers of the run of bins from `a`. -/
def accOf (f : IVec S4096 32) (a : BitVec 32) (ha : Nat.ble a.toNat 3840 = true) : (n : ℕ) → n ≤ 16 → IVec S16 32
  | 0, _ => broadcast S16 0#32
  | n + 1, h => addi (accOf f a ha n (Nat.le_of_succ_le h)) fun x =>
      f (idxAt (s := S4096) (![addi (addi (broadcast S16 a) (muli lane (broadcast S16 16#32))) (broadcast S16 (BitVec.ofNat 32 n))] : Fin 1 → IVec S16 32)
        (idx_ok (by rw [ha, toNat_ofNat32 (by omega)]; exact Nat.ble_eq_true_of_le h)) x)

/-- Sixteen gathers add up to sixteen coarse sums. -/
theorem accOf_eq (c : ℕ → ℕ) (q : ℕ) (hq : q < 16) (ha) : accOf (arr c) (BitVec.ofNat 32 (256 * q)) ha 16 le_rfl = vecN fun l => coarse c (16 * q + l) := by
  have H : ∀ n (hn : n ≤ 16), accOf (arr c) (BitVec.ofNat 32 (256 * q)) ha n hn = vecN fun l => fsum (fun k => c (16 * (16 * q + l) + k)) n := by
    intro n
    induction n with
    | zero => intro _; rfl
    | succ n ih =>
      intro hn
      rw [accOf, ih]
      have e : (fun x : S16.Idx => arr (n := ![4096]) c (idxAt (s := S4096) (![addi (addi (broadcast S16 (BitVec.ofNat 32 (256 * q))) (muli lane (broadcast S16 16#32)))
          (broadcast S16 (BitVec.ofNat 32 n))] : Fin 1 → IVec S16 32) (idx_ok (by rw [ha, toNat_ofNat32 (by omega)]; exact Nat.ble_eq_true_of_le hn)) x))
          = vecN fun l => c (16 * (16 * q + l) + n) := by
        funext x
        have hx : (x 0).val < 16 := (x 0).isLt
        have e := congrFun (idx_vecN (256 * q) n) x
        refine congrArg (fun z => BitVec.ofNat 32 (c z)) ((congrArg BitVec.toNat e).trans ?_)
        show (BitVec.ofNat 32 (256 * q + (x 0).val * 16 + n)).toNat = _
        rw [toNat_ofNat32 (by omega)]; omega
      rw [e, addi_vecN]
      exact vecN_congr fun l _ => (fsum_succ _ _).symm
  exact H 16 le_rfl

/-- The sum of vectors. -/
def totOf (v : ℕ → IVec S16 32) : ℕ → IVec S16 32
  | 0 => broadcast S16 0#32
  | n + 1 => addi (totOf v n) (v n)

/-- Vectors added up, lane by lane. -/
theorem totOf_eq (g : ℕ → ℕ → ℕ) : ∀ n, totOf (fun q => vecN (g q)) n = vecN fun l => fsum (fun q => g q l) n
  | 0 => rfl
  | n + 1 => by rw [totOf, totOf_eq g n, addi_vecN]; exact vecN_congr fun l _ => (fsum_succ _ _).symm

/-- The two orders of a double sum. -/
theorem fsum_comm (g : ℕ → ℕ → ℕ) (m n : ℕ) : fsum (fun l => fsum (fun q => g q l) m) n = fsum (fun q => fsum (fun l => g q l) n) m := Finset.sum_comm

/-- The total of the coarse sums, summed vector by vector and then across lanes. -/
theorem tot_coarse (g : ℕ → ℕ) : fsum (fun l => fsum (fun q => g (16 * q + l)) 16) 16 = fsum g 256 := by
  rw [fsum_comm]
  exact fsum_coarse g 16

/-- The indices of one gather at the last level. -/
theorem idx3_vecN (b : ℕ) : addi (muli (andi lane (broadcast S16 7#32)) (broadcast S16 16#32)) (broadcast S16 (BitVec.ofNat 32 b))
    = vecN fun l => l % 8 * 16 + b := by
  have e : andi lane (broadcast S16 7#32) = vecN fun l => l % 8 := by
    funext x
    have hx : (x 0).val < 16 := (x 0).isLt
    show lane x &&& 7#32 = BitVec.ofNat 32 ((x 0).val % 8)
    rw [lane_apply]
    apply BitVec.eq_of_toNat_eq
    rw [BitVec.toNat_and, toNat_ofNat32 (show (x 0).val < 2 ^ 32 by omega), toNat_ofNat32 (show (x 0).val % 8 < 2 ^ 32 by omega)]
    exact Nat.and_two_pow_sub_one_eq_mod _ 3
  rw [e, bc_eq, bc_eq, muli_vecN, addi_vecN]

/-- They are in range. -/
theorem idx_ok3 {b : BitVec 32} (h : Nat.blt b.toNat 16 = true) :
    ∀ c x, ((![addi (muli (andi lane (broadcast S16 7#32)) (broadcast S16 16#32)) (broadcast S16 b)] : Fin 1 → IVec S16 32) c x).toNat < S128.size c := by
  have h2 : b.toNat < 16 := Nat.le_of_ble_eq_true h
  intro c x
  obtain rfl : c = 0 := Fin.eq_zero c
  have hx : (x 0).val < 16 := (x 0).isLt
  show ((addi (muli (andi lane (broadcast S16 7#32)) (broadcast S16 16#32)) (broadcast S16 b)) x).toNat < 128
  have e := congrFun (idx3_vecN b.toNat) x
  rw [BitVec.ofNat_toNat, BitVec.setWidth_eq] at e
  rw [e]
  show (BitVec.ofNat 32 ((x 0).val % 8 * 16 + b.toNat)).toNat < 128
  rw [toNat_ofNat32 (by omega)]; omega

/-- The sum of `n` gathers of the last digit's bins. -/
def acc3Of (f : IVec S128 32) : (n : ℕ) → n ≤ 16 → IVec S16 32
  | 0, _ => broadcast S16 0#32
  | n + 1, h => addi (acc3Of f n (Nat.le_of_succ_le h)) fun x =>
      f (idxAt (s := S128) (![addi (muli (andi lane (broadcast S16 7#32)) (broadcast S16 16#32)) (broadcast S16 (BitVec.ofNat 32 n))] : Fin 1 → IVec S16 32)
        (idx_ok3 (by rw [toNat_ofNat32 (by omega)]; exact Nat.ble_eq_true_of_le h)) x)

/-- Sixteen gathers at the last level add up to its coarse sums, twice over. -/
theorem acc3Of_eq (c : ℕ → ℕ) : acc3Of (arr c) 16 le_rfl = vecN fun l => fsum (fun k => c (l % 8 * 16 + k)) 16 := by
  have H : ∀ n (hn : n ≤ 16), acc3Of (arr c) n hn = vecN fun l => fsum (fun k => c (l % 8 * 16 + k)) n := by
    intro n
    induction n with
    | zero => intro _; rfl
    | succ n ih =>
      intro hn
      rw [acc3Of, ih]
      have e : (fun x : S16.Idx => arr (n := ![128]) c (idxAt (s := S128) (![addi (muli (andi lane (broadcast S16 7#32)) (broadcast S16 16#32))
          (broadcast S16 (BitVec.ofNat 32 n))] : Fin 1 → IVec S16 32) (idx_ok3 (by rw [toNat_ofNat32 (by omega)]; exact Nat.ble_eq_true_of_le hn)) x))
          = vecN fun l => c (l % 8 * 16 + n) := by
        funext x
        have hx : (x 0).val < 16 := (x 0).isLt
        have e := congrFun (idx3_vecN n) x
        refine congrArg (fun z => BitVec.ofNat 32 (c z)) ((congrArg BitVec.toNat e).trans ?_)
        show (BitVec.ofNat 32 ((x 0).val % 8 * 16 + n)).toNat = _
        rw [toNat_ofNat32 (by omega)]
      rw [e, addi_vecN]
      exact vecN_congr fun l _ => (fsum_succ _ _).symm
  exact H 16 le_rfl

/-- The last digit's coarse sums: eight lanes of them, zeros after. -/
theorem coarse3_eq {c : ℕ → ℕ} (hc : ∀ j, 128 ≤ j → c j = 0) :
    select (cmpi .slt lane (broadcast S16 8#32)) (acc3Of (arr c) 16 le_rfl) (broadcast S16 0#32) = vecN fun l => coarse c l := by
  rw [acc3Of_eq]
  funext x
  have hx : (x 0).val < 16 := (x 0).isLt
  show Scalar.select (IntOp.cmpi .slt (lane x) 8#32) (BitVec.ofNat 32 (fsum (fun k => c ((x 0).val % 8 * 16 + k)) 16)) (0#32) = BitVec.ofNat 32 (coarse c (x 0).val)
  have e : IntOp.cmpi .slt (lane x) 8#32 = BitVec.ofBool (decide ((x 0).val < 8)) := by
    rw [lane_apply]; exact slt_ofNat (by omega) (by norm_num)
  rw [e]
  by_cases h : (x 0).val < 8
  · rw [decide_eq_true h]
    rw [Nat.mod_eq_of_lt h, coarse]
    simp only [Nat.mul_comm 16]
    exact if_pos rfl
  · rw [decide_eq_false h]
    show (0#32) = _
    have h8 : 8 ≤ (x 0).val := not_lt.1 h
    generalize (x 0).val = y at h8
    have : coarse c y = 0 := by
      unfold coarse fsum
      refine Finset.sum_eq_zero fun k _ => hc (16 * y + k) ?_
      omega
    rw [this]

end Cert.Proof.Tile
-- ==== Proof.Row.lean ====
/-
  One row of words: the three histograms its digits make, the loops' offsets, and what one trip of each loop leaves.
-/
module

public import proofs.«01_k».proof.Proof.Select
public import proofs.«01_k».proof.Proof.Hist

@[expose] public section

noncomputable section

namespace Cert.Proof.Tile

open Cert.Kernel Cert.Kernel.Gen Cert.Proof.Counts
open Idealize.ShloMosaic
open Idealize.SL Idealize.SL.RA Idealize.SL.BI
open scoped Idealize.SL.BI
open Idealize.SL.BI.BIBase Idealize.SL.BI.Laws Idealize.SL.ProofMode Idealize.SL.Sem

/-! ## Offsets the loops compute -/

/-- The offset of trip `k` of a counted loop. -/
theorem offs_trip {k : ℕ} (h : k < 4096) :
    (Scalar.indexCast (Scalar.muli (Scalar.addi 0#32 (Scalar.muli (Scf.iv 0#32 1#32 k) 1#32)) 16#32)).toNat = 16 * k := by
  show ((0#32 + (0#32 + BitVec.ofNat 32 k * 1#32) * 1#32) * 16#32).toNat = _
  rw [BitVec.mul_one, BitVec.zero_add, BitVec.mul_one, BitVec.zero_add, BitVec.toNat_mul, toNat_ofNat32 (by omega)]
  show k * 16 % 2 ^ 32 = _
  rw [Nat.mod_eq_of_lt (by omega), Nat.mul_comm]

/-- The offset of trip `k` of the selection's loop. -/
theorem offs_step {k : ℕ} (h : k < 4096) : (Scalar.indexCast (Scalar.muli (Scf.iv 0#32 1#32 k) 16#32)).toNat = 16 * k := by
  rw [show Scalar.muli (Scf.iv 0#32 1#32 k) 16#32 = BitVec.ofNat 32 (16 * k) from ?_]
  · show (BitVec.ofNat 32 (16 * k)).toNat = _
    rw [toNat_ofNat32 (by omega)]
  · show (0#32 + BitVec.ofNat 32 k * 1#32) * BitVec.ofNat 32 16 = _
    rw [BitVec.mul_one, BitVec.zero_add, ← BitVec.ofNat_mul, Nat.mul_comm]

/-- The first bin of trip `k` of the selection's loop. -/
theorem base_trip (k : ℕ) : Scalar.muli (Scf.iv 0#32 1#32 k) 16#32 = BitVec.ofNat 32 (16 * k) := by
  show (0#32 + BitVec.ofNat 32 k * 1#32) * BitVec.ofNat 32 16 = _
  rw [BitVec.mul_one, BitVec.zero_add, ← BitVec.ofNat_mul, Nat.mul_comm]

/-- The offset of a run of sixteen bins. -/
theorem offs_bin {m : ℕ} (h : m < 4096) : (Scalar.indexCast (Scalar.muli (BitVec.ofNat 32 m) 16#32)).toNat = 16 * m := by
  show (BitVec.ofNat 32 m * BitVec.ofNat 32 16).toNat = _
  rw [← BitVec.ofNat_mul, toNat_ofNat32 (by omega), Nat.mul_comm]

/-- Equal offsets. -/
theorem vec_congr {a b : ℕ} (h : a = b) : (![a] : Fin 1 → ℕ) = ![b] := congrArg (fun z => ![z]) h

/-! ## The three tables -/

variable {F : FTy → Type} [BitOps F]

/-- Counts of the top twelve bits of the positive words. -/
def tab1 (r : S32768.Idx → F .f32) (n : ℕ) : ℕ → ℕ := hist (fun j => 0 < wd r j) (fun j => wd r j / 2 ^ 19) n

/-- Counts of the middle twelve bits of the positive words whose top bits are `b`. -/
def tab2 (r : S32768.Idx → F .f32) (b : ℕ) (n : ℕ) : ℕ → ℕ :=
  hist (fun j => wd r j / 2 ^ 19 = b ∧ 0 < wd r j) (fun j => wd r j / 2 ^ 7 % 2 ^ 12) n

/-- Counts of the low seven bits of the positive words whose other bits are `b`. -/
def tab3 (r : S32768.Idx → F .f32) (b : ℕ) (n : ℕ) : ℕ → ℕ :=
  hist (fun j => wd r j / 2 ^ 7 = b ∧ 0 < wd r j) (fun j => wd r j % 2 ^ 7) n

/-- Counts of no positions are 0. -/
theorem hist_zero (P : ℕ → Prop) [DecidablePred P] (dig : ℕ → ℕ) : hist P dig 0 = fun _ => 0 := funext fun _ => Nat.count_zero _

/-- A running sum of counts counts the positions with a smaller digit. -/
theorem fsum_hist (P : ℕ → Prop) [DecidablePred P] (dig : ℕ → ℕ) (n : ℕ) : ∀ m, fsum (hist P dig n) m = Nat.count (fun k => P k ∧ dig k < m) n
  | 0 => by
    rw [fsum_zero]
    induction n with
    | zero => rw [Nat.count_zero]
    | succ n ih => rw [Nat.count_succ, ← ih, if_neg (fun h => absurd h.2 (Nat.not_lt_zero _))]
  | m + 1 => by
    rw [fsum_succ, fsum_hist P dig n m, hist]
    induction n with
    | zero => simp only [Nat.count_zero]
    | succ n ih =>
      simp only [Nat.count_succ]
      rw [← ih]
      by_cases hP : P n
      · rcases lt_trichotomy (dig n) m with h | h | h
        · rw [if_pos ⟨hP, h⟩, if_neg (fun h' => absurd h'.2 h.ne), if_pos ⟨hP, by omega⟩]; omega
        · rw [if_neg (fun h' => absurd h'.2 (by omega)), if_pos ⟨hP, h⟩, if_pos ⟨hP, by omega⟩]; omega
        · rw [if_neg (fun h' => absurd h'.2 (by omega)), if_neg (fun h' => absurd h'.2 (by omega)), if_neg (fun h' => absurd h'.2 (by omega))]; omega
      · rw [if_neg (fun h' => hP h'.1), if_neg (fun h' => hP h'.1), if_neg (fun h' => hP h'.1), Nat.add_zero, Nat.add_zero, Nat.add_zero]

/-- It is at most the number of positions. -/
theorem fsum_hist_le (P : ℕ → Prop) [DecidablePred P] (dig : ℕ → ℕ) (n m : ℕ) : fsum (hist P dig n) m ≤ n := by
  rw [fsum_hist]; exact Nat.count_le _

/-! ## The scatters -/

variable {κ : Kind} {sp : Space}

/-- Words of a row none of which has its sign bit set. -/
def Nonneg (r : S32768.Idx → F .f32) : Prop := ∀ j, wd r j < 2 ^ 31

/-- The first digits of sixteen words. -/
theorem dig1 {r : S32768.Idx → F .f32} (hr : Nonneg r) (lo : ℕ) : shrsi (vecN fun l => wd r (lo + l)) (broadcast S16 19#32) = vecN fun l => wd r (lo + l) / 2 ^ 19 :=
  shrsi_vecN (fun l => wd r (lo + l)) (fun _ => hr _) (by norm_num)

/-- The upper two digits of sixteen words. -/
theorem dig2 {r : S32768.Idx → F .f32} (hr : Nonneg r) (lo : ℕ) : shrsi (vecN fun l => wd r (lo + l)) (broadcast S16 7#32) = vecN fun l => wd r (lo + l) / 2 ^ 7 :=
  shrsi_vecN (fun l => wd r (lo + l)) (fun _ => hr _) (by norm_num)

/-- Digits below the array's length are in range. -/
theorem chk_vecN {N : ℕ} {a : ℕ → ℕ} {v : IVec S16 32} (hv : v = vecN a) (ha : ∀ l, a l < N) (hN : N ≤ 2 ^ 32) :
    ∀ c x, ((![v] : Fin 1 → IVec S16 32) c x).toNat < (⟨1, ![N]⟩ : Shape).size c := by
  intro c x
  obtain rfl : c = 0 := Fin.eq_zero c
  show (v x).toNat < N
  rw [hv]
  show (BitVec.ofNat 32 (a (x 0).val)).toNat < N
  have := ha (x 0).val
  rw [toNat_ofNat32 (by omega)]; exact this

/-- One trip of the first count. -/
theorem scat1 {r : S32768.Idx → F .f32} (hr : Nonneg r) {k : ℕ} {bits : IVec S16 32} (hb : bits = vecN fun l => wd r (16 * k + l))
    {f : Vec F S4096 .i32} (hf : f = arr (tab1 r (16 * k))) (h) :
    storeIdx (F := F) (e := .i32) (s := S4096) (d := ![16]) f (![shrsi bits (broadcast S16 19#32)] : Fin 1 → IVec S16 32) ones
      (cmpi .sgt bits (broadcast S16 0#32)) true h = arr (tab1 r (16 * (k + 1))) := by
  subst hb
  refine scatter_hist (fun j => 0 < wd r j) (fun j => wd r j / 2 ^ 19) (16 * k) (fun j => lt_of_le_of_lt (Nat.div_le_self _ _) ((hr j).trans (by norm_num))) _ hf
    _ (dig1 hr _) _ ?_ h
  exact pos_vecN (fun l => wd r (16 * k + l)) fun _ => hr _

/-- One trip of the second count. -/
theorem scat2 {r : S32768.Idx → F .f32} (hr : Nonneg r) {k b : ℕ} (hbb : b < 2 ^ 32) {bits key : IVec S16 32} (hb : bits = vecN fun l => wd r (16 * k + l))
    (hk : key = vecN fun _ => b)
    {f : Vec F S4096 .i32} (hf : f = arr (tab2 r b (16 * k))) (h) :
    storeIdx (F := F) (e := .i32) (s := S4096) (d := ![16]) f
      (![andi (shrsi bits (broadcast S16 7#32)) (broadcast S16 4095#32)] : Fin 1 → IVec S16 32) ones
      (andi (cmpi .eq (shrsi bits (broadcast S16 19#32)) key) (cmpi .sgt bits (broadcast S16 0#32))) true h = arr (tab2 r b (16 * (k + 1))) := by
  subst hb; subst hk
  refine scatter_hist (fun j => wd r j / 2 ^ 19 = b ∧ 0 < wd r j) (fun j => wd r j / 2 ^ 7 % 2 ^ 12) (16 * k) (fun j => lt_of_lt_of_le (Nat.mod_lt _ (by norm_num)) (by norm_num : 2 ^ 12 ≤ 2 ^ 32)) _ hf _ ?_ _ ?_ h
  · rw [dig2 hr]
    exact andi_vecN (fun l => wd r (16 * k + l) / 2 ^ 7) (fun l => lt_of_le_of_lt (Nat.div_le_self _ _) ((hr _).trans (by norm_num))) (by norm_num) (by norm_num)
  · rw [dig1 hr, eq_vecN _ (fun _ => b) (fun l => lt_of_le_of_lt (Nat.div_le_self _ _) ((hr (16 * k + l)).trans (by norm_num))) (fun _ => hbb), pos_vecN (fun l => wd r (16 * k + l)) (fun _ => hr _), andi_maskN]
    congr 1; funext l; rw [Bool.decide_and]

/-- One trip of the third count. -/
theorem scat3 {r : S32768.Idx → F .f32} (hr : Nonneg r) {k b : ℕ} (hbb : b < 2 ^ 32) {bits key : IVec S16 32} (hb : bits = vecN fun l => wd r (16 * k + l))
    (hk : key = vecN fun _ => b)
    {f : Vec F S128 .i32} (hf : f = arr (tab3 r b (16 * k))) (h) :
    storeIdx (F := F) (e := .i32) (s := S128) (d := ![16]) f
      (![andi bits (broadcast S16 127#32)] : Fin 1 → IVec S16 32) ones
      (andi (cmpi .eq (shrsi bits (broadcast S16 7#32)) key) (cmpi .sgt bits (broadcast S16 0#32))) true h = arr (tab3 r b (16 * (k + 1))) := by
  subst hb; subst hk
  refine scatter_hist (fun j => wd r j / 2 ^ 7 = b ∧ 0 < wd r j) (fun j => wd r j % 2 ^ 7) (16 * k) (fun j => lt_of_le_of_lt (Nat.mod_le _ _) ((hr j).trans (by norm_num))) _ hf _ ?_ _ ?_ h
  · exact andi_vecN (fun l => wd r (16 * k + l)) (fun l => (hr _).trans (by norm_num)) (by norm_num) (by norm_num)
  · rw [dig2 hr, eq_vecN _ (fun _ => b) (fun l => lt_of_le_of_lt (Nat.div_le_self _ _) ((hr (16 * k + l)).trans (by norm_num))) (fun _ => hbb), pos_vecN (fun l => wd r (16 * k + l)) (fun _ => hr _), andi_maskN]
    congr 1; funext l; rw [Bool.decide_and]

/-- The first digits name bins. -/
theorem chk1_ok {r : S32768.Idx → F .f32} (hr : Nonneg r) {k : ℕ} {bits : IVec S16 32} (hb : bits = vecN fun l => wd r (16 * k + l)) :
    ∀ c x, ((![shrsi bits (broadcast S16 19#32)] : Fin 1 → IVec S16 32) c x).toNat < S4096.size c := by
  subst hb
  exact chk_vecN (dig1 hr _) (fun l => by have := hr (16 * k + l); omega) (by norm_num)

/-- The second digits name bins. -/
theorem chk2_ok {r : S32768.Idx → F .f32} (hr : Nonneg r) {k : ℕ} {bits : IVec S16 32} (hb : bits = vecN fun l => wd r (16 * k + l)) :
    ∀ c x, ((![andi (shrsi bits (broadcast S16 7#32)) (broadcast S16 4095#32)] : Fin 1 → IVec S16 32) c x).toNat < S4096.size c := by
  subst hb
  refine chk_vecN (a := fun l => wd r (16 * k + l) / 2 ^ 7 % 2 ^ 12) ?_ (fun l => Nat.mod_lt _ (by norm_num)) (by norm_num)
  rw [dig2 hr]
  exact andi_vecN (fun l => wd r (16 * k + l) / 2 ^ 7) (fun l => lt_of_le_of_lt (Nat.div_le_self _ _) ((hr _).trans (by norm_num))) (by norm_num) (by norm_num)

/-- The third digits name bins. -/
theorem chk3_ok {r : S32768.Idx → F .f32} (hr : Nonneg r) {k : ℕ} {bits : IVec S16 32} (hb : bits = vecN fun l => wd r (16 * k + l)) :
    ∀ c x, ((![andi bits (broadcast S16 127#32)] : Fin 1 → IVec S16 32) c x).toNat < S128.size c := by
  subst hb
  refine chk_vecN (a := fun l => wd r (16 * k + l) % 2 ^ 7) ?_ (fun l => Nat.mod_lt _ (by norm_num)) (by norm_num)
  exact andi_vecN (fun l => wd r (16 * k + l)) (fun l => (hr _).trans (by norm_num)) (by norm_num) (by norm_num)

/-! ## Whole-memref stores, and the chain of coarse stores -/

/-- A view read after a store over all of it. -/
theorem read_whole_store {s : Shape} {e : EltTy} (v : View sig κ sp s e) (f : v.ty.Contents (Elt F)) {w w' : s.Idx → Elt F e}
    (hw : w = w') : v.read (Elt F) (v.writes (Elt F) f [⟨Rect.whole s, w⟩]) = w' :=
  (View.read_writes_full v f _ w []).trans hw

/-- An indexed store of a whole memref leaves the stored array. -/
theorem scat_store {s : Shape} {d : Fin 1 → ℕ} (v : View sig κ sp s .i32) (f : v.ty.Contents (Elt F)) (idx : Fin s.rank → IVec ⟨1, d⟩ 32)
    (vals : IVec ⟨1, d⟩ 32) (mask : IVec ⟨1, d⟩ 1) (h) {w' : IVec s 32}
    (hw : storeIdx (F := F) (e := .i32) (v.read (Elt F) f) idx vals mask true h = w') :
    v.read (Elt F) (v.writes (Elt F) f [⟨Rect.whole s, storeIdx (F := F) (e := .i32) (v.readAt (Elt F) (Rect.whole s).toLoadRect f) idx vals mask true h⟩]) = w' := by
  refine read_whole_store v f (Eq.trans ?_ hw)
  congr 1
  exact View.readAt_full v f _

/-- A store of sixteen coarse sums extends the entries that are right by sixteen. -/
theorem below_acc {n : Fin 1 → ℕ} {c : ℕ → ℕ} {g : IVec S4096 32} (hg : g = arr c) (q : ℕ) (hq : q < 16) (v : View sig κ sp ⟨1, n⟩ .i32) (f : v.ty.Contents (Elt F))
    (L : List (View.Piece (Elt F) ⟨1, n⟩ .i32)) {off : Fin 1 → ℕ} (hoff : off = ![16 * q])
    (inb : ∀ a, off a + S16.size a ≤ (⟨1, n⟩ : Shape).size a) (w : IVec S16 32) (ha)
    (hw : w = accOf g (BitVec.ofNat 32 (256 * q)) ha 16 le_rfl)
    (h : Below (coarse c) (16 * q) (v.read (Elt F) (v.writes (Elt F) f L))) :
    Below (coarse c) (16 * (q + 1)) (v.read (Elt F) (v.writes (Elt F) f (⟨Rect.unit off S16.size inb, w⟩ :: L))) :=
  below_cons v f L hoff rfl inb w (by rw [hw, hg]; exact accOf_eq c q hq ha) h

/-! ## Words of targets -/

/-- A natural as a word, two ways. -/
theorem ofNat_ofInt (n : ℕ) : BitVec.ofNat 32 n = BitVec.ofInt 32 (n : ℤ) := (BitVec.ofInt_natCast 32 n).symm

/-- The difference of two words. -/
theorem subi_ofInt (a b : ℤ) : Scalar.subi (BitVec.ofInt 32 a) (BitVec.ofInt 32 b) = BitVec.ofInt 32 (a - b) := by
  show BitVec.ofInt 32 a - BitVec.ofInt 32 b = _
  rw [BitVec.sub_eq_add_neg, ← BitVec.ofInt_neg, ← BitVec.ofInt_add, Int.sub_eq_add_neg]

/-! ## The selection, at the words the loops carry -/

/-- One trip of the selection's loop keeps its invariant. -/
theorem inv_step {g : ℕ → ℕ} {t : ℤ} {tw : BitVec 32} (htw : tw = BitVec.ofInt 32 t) {i : ℕ} (hb : ∀ n, fsum g n ≤ 32768) (ht : Small t) (hi : i < 2 ^ 20)
    {base : BitVec 32} (hbase : base = BitVec.ofNat 32 (16 * i)) {v : IVec S16 32} (hv : v = vecN fun l => g (16 * i + l))
    {a : BitVec 32 × BitVec 32 × BitVec 32} (h : Inv g t (16 * i) a) {a' : BitVec 32 × BitVec 32 × BitVec 32}
    (ha : a' = tripOf base v a.1 tw a.2.1 a.2.2) : Inv g t (16 * (i + 1)) a' := by
  subst htw; rw [ha]; exact inv_trip hb ht hi hbase hv h

/-- The bin chosen, and the count up to it, at the words the body computes. -/
theorem fine_step {c : ℕ → ℕ} {t : ℤ} {tw : BitVec 32} (htw : tw = BitVec.ofInt 32 t) {m : ℕ} (hb : ∀ n, fsum c n ≤ 32768) (ht : Small t)
    (hm : Sel (coarse c) t m) {v : IVec S16 32} (hv : v = vecN fun l => c (16 * m + l)) :
    ∃ b, b < 16 * (m + 1) ∧ Sel c t b ∧ fineB v (BitVec.ofNat 32 m) (BitVec.ofNat 32 (fsum (coarse c) m)) tw = BitVec.ofNat 32 b
      ∧ fineAt v (BitVec.ofNat 32 (fsum (coarse c) m)) tw = BitVec.ofNat 32 (fsum c (b + 1)) := by
  subst htw; exact fine_eq hb ht hm hv

/-- Running sums of coarse sums are at most the row's length. -/
theorem coarse_le {c : ℕ → ℕ} (hb : ∀ n, fsum c n ≤ 32768) (n : ℕ) : fsum (coarse c) n ≤ 32768 := by
  rw [fsum_coarse]; exact hb _

/-- A run of sixteen bins lies in the count buffer. -/
theorem chk_bin {m : ℕ} (hm : m < 256) : ∀ a, (![(Scalar.indexCast (Scalar.muli (BitVec.ofNat 32 m) 16#32)).toNat] : Fin 1 → ℕ) a + S16.size a ≤ S4096.size a := by
  intro a
  obtain rfl : a = 0 := Fin.eq_zero a
  show (Scalar.indexCast (Scalar.muli (BitVec.ofNat 32 m) 16#32)).toNat + 16 ≤ 4096
  rw [offs_bin (by omega)]; omega

/-- What is left to find after the counts above a bin are taken off. -/
theorem left_eq {n a : ℕ} {z : ℤ} {kw nw aw : BitVec 32} (hk : kw = BitVec.ofInt 32 z) (hn : nw = BitVec.ofNat 32 n) (ha : aw = BitVec.ofNat 32 a) :
    Scalar.subi kw (Scalar.subi nw aw) = BitVec.ofInt 32 (z - (n - a)) := by
  rw [hk, hn, ha, ofNat_ofInt, ofNat_ofInt, subi_ofInt, subi_ofInt]

/-- The sixteen vectors of gathered sums, added up. -/
def totAcc (f : IVec S4096 32) : (n : ℕ) → n ≤ 16 → IVec S16 32
  | 0, _ => broadcast S16 0#32
  | n + 1, h => addi (totAcc f n (Nat.le_of_succ_le h)) (accOf f (BitVec.ofNat 32 (256 * n)) (by rw [toNat_ofNat32 (by omega)]; exact Nat.ble_eq_true_of_le (by omega)) 16 le_rfl)

/-- The total's partial sums, as vectors of coarse sums. -/
theorem totAcc_eq (c : ℕ → ℕ) : ∀ n h, totAcc (arr c) n h = totOf (fun q => vecN fun l => coarse c (16 * q + l)) n
  | 0, _ => rfl
  | n + 1, h => by rw [totAcc, totAcc_eq c n, accOf_eq c n (by omega), totOf]

/-- The total of all the sums. -/
theorem total_eq {c : ℕ → ℕ} {g : IVec S4096 32} (hg : g = arr c) (v : IVec S16 32) (hv : v = totAcc g 16 le_rfl) :
    extractAt ![15] (scan .sum v) inpos_S16_p15 = BitVec.ofNat 32 (fsum c 4096) := by
  rw [hv, hg, totAcc_eq, totOf_eq fun q l => coarse c (16 * q + l), scan_sum]
  show BitVec.ofNat 32 (fsum (fun l => fsum (fun q => coarse c (16 * q + l)) 16) 16) = _
  rw [tot_coarse, fsum_coarse]

/-- What the sixteen coarse stores leave. -/
theorem coarse_full {n : Fin 1 → ℕ} {c : ℕ → ℕ} (hn : n 0 ≤ 256) {f : Vec F ⟨1, n⟩ .i32} (h : Below (coarse c) (16 * (15 + 1)) f) : f = arr (coarse c) :=
  h.full hn

end Cert.Proof.Tile
-- ==== Proof.Stores.lean ====
/-
  The indexed stores into the three count buffers, as arrays.
-/
module

public import proofs.«01_k».proof.Proof.Row

@[expose] public section

noncomputable section

namespace Cert.Proof.Tile

open Cert.Kernel Cert.Kernel.Gen Cert.Proof.Counts
open Idealize.ShloMosaic

variable {F : FTy → Type} [BitOps F]

/-- An indexed store into the first count buffer, as an array. -/
theorem store_H1 (f : Vec F S4096 .i32) (idx : IVec S16 32) (vals : IVec S16 32) (mask : IVec S16 1) (h) :
    mH1.view.writes (Elt F) f [⟨Rect.whole S4096, storeIdx (F := F) (e := .i32) (mH1.view.readAt (Elt F) (Rect.whole S4096).toLoadRect f) ![idx] vals mask true h⟩]
      = storeIdx (F := F) (e := .i32) (s := S4096) f ![idx] vals mask true h := by
  refine ((View.read_whole cc0_scratch2 _).symm.trans (read_whole_store mH1.view f rfl)).trans ?_
  congr 1
  exact View.readAt_full mH1.view f _

/-- Into the second. -/
theorem store_H2 (f : Vec F S4096 .i32) (idx : IVec S16 32) (vals : IVec S16 32) (mask : IVec S16 1) (h) :
    mH2.view.writes (Elt F) f [⟨Rect.whole S4096, storeIdx (F := F) (e := .i32) (mH2.view.readAt (Elt F) (Rect.whole S4096).toLoadRect f) ![idx] vals mask true h⟩]
      = storeIdx (F := F) (e := .i32) (s := S4096) f ![idx] vals mask true h := by
  refine ((View.read_whole cc0_scratch4 _).symm.trans (read_whole_store mH2.view f rfl)).trans ?_
  congr 1
  exact View.readAt_full mH2.view f _

/-- Into the third. -/
theorem store_H3 (f : Vec F S128 .i32) (idx : IVec S16 32) (vals : IVec S16 32) (mask : IVec S16 1) (h) :
    mH3.view.writes (Elt F) f [⟨Rect.whole S128, storeIdx (F := F) (e := .i32) (mH3.view.readAt (Elt F) (Rect.whole S128).toLoadRect f) ![idx] vals mask true h⟩]
      = storeIdx (F := F) (e := .i32) (s := S128) f ![idx] vals mask true h := by
  refine ((View.read_whole cc0_scratch6 _).symm.trans (read_whole_store mH3.view f rfl)).trans ?_
  congr 1
  exact View.readAt_full mH3.view f _

/-- The first count buffer read whole. -/
theorem whole_H1 (f : Vec F S4096 .i32) : mH1.view.readAt (Elt F) (Rect.whole S4096).toLoadRect f = f := View.readAt_full mH1.view f _

/-- The second. -/
theorem whole_H2 (f : Vec F S4096 .i32) : mH2.view.readAt (Elt F) (Rect.whole S4096).toLoadRect f = f := View.readAt_full mH2.view f _

/-- The third. -/
theorem whole_H3 (f : Vec F S128 .i32) : mH3.view.readAt (Elt F) (Rect.whole S128).toLoadRect f = f := View.readAt_full mH3.view f _

/-! ## Loads of sixteen -/

/-- Sixteen entries of the first count buffer. -/
theorem load_H1 (c : ℕ → ℕ) {lo : ℕ} {off : Fin 1 → ℕ} (hoff : off = ![lo]) (inb) :
    mH1.view.readAt (Elt F) (Rect.unit (s := S4096) off S16.size inb).toLoadRect (arr c) = vecN fun l => c (lo + l) :=
  readAt_arr (c := c) mH1.view (arr c) (View.read_whole cc0_scratch2 _) hoff inb

/-- Sixteen of its coarse sums. -/
theorem load_C1 (c : ℕ → ℕ) {lo : ℕ} {off : Fin 1 → ℕ} (hoff : off = ![lo]) (inb) :
    mC1.view.readAt (Elt F) (Rect.unit (s := S256) off S16.size inb).toLoadRect (arr c) = vecN fun l => c (lo + l) :=
  readAt_arr (c := c) mC1.view (arr c) (View.read_whole cc0_scratch3 _) hoff inb

/-- Sixteen entries of the second count buffer. -/
theorem load_H2 (c : ℕ → ℕ) {lo : ℕ} {off : Fin 1 → ℕ} (hoff : off = ![lo]) (inb) :
    mH2.view.readAt (Elt F) (Rect.unit (s := S4096) off S16.size inb).toLoadRect (arr c) = vecN fun l => c (lo + l) :=
  readAt_arr (c := c) mH2.view (arr c) (View.read_whole cc0_scratch4 _) hoff inb

/-- Sixteen of its coarse sums. -/
theorem load_C2 (c : ℕ → ℕ) {lo : ℕ} {off : Fin 1 → ℕ} (hoff : off = ![lo]) (inb) :
    mC2.view.readAt (Elt F) (Rect.unit (s := S256) off S16.size inb).toLoadRect (arr c) = vecN fun l => c (lo + l) :=
  readAt_arr (c := c) mC2.view (arr c) (View.read_whole cc0_scratch5 _) hoff inb

/-- Sixteen entries of the third count buffer. -/
theorem load_H3 (c : ℕ → ℕ) {lo : ℕ} {off : Fin 1 → ℕ} (hoff : off = ![lo]) (inb) :
    mH3.view.readAt (Elt F) (Rect.unit (s := S128) off S16.size inb).toLoadRect (arr c) = vecN fun l => c (lo + l) :=
  readAt_arr (c := c) mH3.view (arr c) (View.read_whole cc0_scratch6 _) hoff inb

/-- Sixteen of its coarse sums. -/
theorem load_C3 (c : ℕ → ℕ) {lo : ℕ} {off : Fin 1 → ℕ} (hoff : off = ![lo]) (inb) :
    mC3.view.readAt (Elt F) (Rect.unit (s := S16) off S16.size inb).toLoadRect (arr c) = vecN fun l => c (lo + l) :=
  readAt_arr (c := c) mC3.view (arr c) (View.read_whole cc0_scratch7 _) hoff inb

/-- Sixteen words of the first row. -/
theorem bits_A (r : Vec F S32768 .f32) {k : ℕ} (hk : k < 4096) (inb) :
    bitcastToInt (F := F) (φ := .f32) (s := S16) (mA.view.readAt (Elt F) (Rect.unit (s := S32768)
        ![(Scalar.indexCast (Scalar.muli (Scalar.addi 0#32 (Scalar.muli (Scf.iv 0#32 1#32 k) 1#32)) 16#32)).toNat] S16.size inb).toLoadRect r)
      = vecN fun l => wd r (16 * k + l) :=
  bits_row mA.view r r (View.read_whole cc0_scratch0 _) (vec_congr (offs_trip hk)) inb

/-- Sixteen words of the second row. -/
theorem bits_B (r : Vec F S32768 .f32) {k : ℕ} (hk : k < 4096) (inb) :
    bitcastToInt (F := F) (φ := .f32) (s := S16) (mB.view.readAt (Elt F) (Rect.unit (s := S32768)
        ![(Scalar.indexCast (Scalar.muli (Scalar.addi 0#32 (Scalar.muli (Scf.iv 0#32 1#32 k) 1#32)) 16#32)).toNat] S16.size inb).toLoadRect r)
      = vecN fun l => wd r (16 * k + l) :=
  bits_row mB.view r r (View.read_whole cc0_scratch1 _) (vec_congr (offs_trip hk)) inb

/-- Sixteen gathered vectors stored one after the other fill the first coarse buffer. -/
theorem coarse_C1 {c : ℕ → ℕ} {f : Vec F S256 .i32} (L : List (View.Piece (Elt F) S256 .i32))
    (h : Below (coarse c) (16 * (15 + 1)) (mC1.view.read (Elt F) (mC1.view.writes (Elt F) f L))) : mC1.view.writes (Elt F) f L = arr (coarse c) :=
  (View.read_whole cc0_scratch3 _).symm.trans (coarse_full (by decide) h)

/-- The second level's coarse sums, all stored. -/
theorem coarse_C2 {c : ℕ → ℕ} {f : Vec F S256 .i32} (L : List (View.Piece (Elt F) S256 .i32))
    (h : Below (coarse c) (16 * (15 + 1)) (mC2.view.read (Elt F) (mC2.view.writes (Elt F) f L))) : mC2.view.writes (Elt F) f L = arr (coarse c) :=
  (View.read_whole cc0_scratch5 _).symm.trans (coarse_full (by decide) h)

end Cert.Proof.Tile
-- ==== Proof.Levels.lean ====
/-
  The three levels of the search over one row: which bin each chooses, and what is left to find below it.
-/
module

public import proofs.«01_k».proof.Proof.Stores

@[expose] public section

noncomputable section

namespace Cert.Proof.Tile

open Cert.Kernel Cert.Kernel.Gen Cert.Proof.Counts
open Idealize.ShloMosaic

variable {F : FTy → Type} [BitOps F]

/-- Positive words of the row. -/
def N1 (r : S32768.Idx → F .f32) : ℕ := fsum (tab1 r 32768) 4096
/-- The first target: words at or below the sought one, less one. -/
def T1 (r : S32768.Idx → F .f32) : ℤ := N1 r - 64
/-- How many of the largest words lie in the bin chosen first. -/
def K1 (r : S32768.Idx → F .f32) (b : ℕ) : ℤ := 64 - (N1 r - (fsum (tab1 r 32768) (b + 1) : ℕ))
/-- The bin chosen first. -/
def Lev1 (r : S32768.Idx → F .f32) (b : ℕ) : Prop := b < 4096 ∧ Sel (tab1 r 32768) (T1 r) b

/-- The words counted at the second level. -/
def N2 (r : S32768.Idx → F .f32) (b : ℕ) : ℕ := fsum (tab2 r b 32768) 4096
/-- The second level's target. -/
def T2 (r : S32768.Idx → F .f32) (b : ℕ) : ℤ := N2 r b - K1 r b
/-- How many are still to find at the third level. -/
def K2 (r : S32768.Idx → F .f32) (b c : ℕ) : ℤ := K1 r b - (N2 r b - (fsum (tab2 r b 32768) (c + 1) : ℕ))
/-- The bin chosen second, inside the first. -/
def Lev2 (r : S32768.Idx → F .f32) (b c : ℕ) : Prop := c < 4096 ∧ Sel (tab2 r b 32768) (T2 r b) c

/-- The words counted at the third level. -/
def N3 (r : S32768.Idx → F .f32) (b c : ℕ) : ℕ := fsum (tab3 r (b * 4096 + c) 32768) 128
/-- The third level's target. -/
def T3 (r : S32768.Idx → F .f32) (b c : ℕ) : ℤ := N3 r b c - K2 r b c
/-- The bin chosen last, inside the second. -/
def Lev3 (r : S32768.Idx → F .f32) (b c e : ℕ) : Prop := e < 128 ∧ Sel (tab3 r (b * 4096 + c) 32768) (T3 r b c) e

/-- The word the search ends with. -/
def Found (r : S32768.Idx → F .f32) (T : ℕ) : Prop :=
  ∃ b c e, Lev1 r b ∧ Lev2 r b c ∧ Lev3 r b c e ∧ T = b * 2 ^ 19 + c * 2 ^ 7 + e

/-- The first level counts at most the row's length. -/
theorem tab1_le (r : S32768.Idx → F .f32) (n : ℕ) : fsum (tab1 r 32768) n ≤ 32768 := fsum_hist_le _ _ _ _
/-- The second level too. -/
theorem tab2_le (r : S32768.Idx → F .f32) (b n : ℕ) : fsum (tab2 r b 32768) n ≤ 32768 := fsum_hist_le _ _ _ _
/-- The third level too. -/
theorem tab3_le (r : S32768.Idx → F .f32) (b n : ℕ) : fsum (tab3 r b 32768) n ≤ 32768 := fsum_hist_le _ _ _ _

/-- The first target is far from overflow. -/
theorem T1_small (r : S32768.Idx → F .f32) : Small (T1 r) := by
  have h := tab1_le r 4096
  unfold T1 N1; constructor <;> omega

/-- Between 1 and 64 words are left to find at the second level. -/
theorem K1_pos {r : S32768.Idx → F .f32} {b : ℕ} (h : Lev1 r b) : 0 < K1 r b ∧ K1 r b ≤ 64 := by
  have h2 := h.2.passes
  have h3 : fsum (tab1 r 32768) (b + 1) ≤ fsum (tab1 r 32768) 4096 := fsum_mono _ h.1
  unfold T1 N1 at h2; unfold K1 N1
  constructor <;> omega

/-- The second target is far from overflow. -/
theorem T2_small {r : S32768.Idx → F .f32} {b : ℕ} (h : Lev1 r b) : Small (T2 r b) := by
  have h1 := K1_pos h
  have h2 := tab2_le r b 4096
  unfold T2 N2; constructor <;> omega

/-- The second target is passed. -/
theorem T2_lt {r : S32768.Idx → F .f32} {b : ℕ} (h : Lev1 r b) : T2 r b < (fsum (tab2 r b 32768) 4096 : ℕ) := by
  have h1 := K1_pos h
  unfold T2 N2; omega

/-- Between 1 and 64 words are left to find at the third level. -/
theorem K2_pos {r : S32768.Idx → F .f32} {b c : ℕ} (h : Lev1 r b) (h' : Lev2 r b c) : 0 < K2 r b c ∧ K2 r b c ≤ 64 := by
  have h1 := K1_pos h
  have h2 := h'.2.passes
  have h3 : fsum (tab2 r b 32768) (c + 1) ≤ fsum (tab2 r b 32768) 4096 := fsum_mono _ h'.1
  unfold T2 N2 at h2; unfold K2 N2
  constructor <;> omega

/-- The third target is far from overflow. -/
theorem T3_small {r : S32768.Idx → F .f32} {b c : ℕ} (h : Lev1 r b) (h' : Lev2 r b c) : Small (T3 r b c) := by
  have h1 := K2_pos h h'
  have h2 := tab3_le r (b * 4096 + c) 128
  unfold T3 N3; constructor <;> omega

/-- The third target is passed. -/
theorem T3_lt {r : S32768.Idx → F .f32} {b c : ℕ} (h : Lev1 r b) (h' : Lev2 r b c) : T3 r b c < (fsum (tab3 r (b * 4096 + c) 32768) 128 : ℕ) := by
  have h1 := K2_pos h h'
  unfold T3 N3; omega

/-- The first target is passed. -/
theorem T1_lt (r : S32768.Idx → F .f32) : T1 r < (fsum (tab1 r 32768) 4096 : ℕ) := by unfold T1 N1; omega

/-- A word spread over the lanes the way the body spreads it. -/
theorem key_eq {n : ℕ} {w : BitVec 32} (h : w = BitVec.ofNat 32 n) : addi (muli lane (broadcast S16 0#32)) (broadcast S16 w) = vecN fun _ => n := by
  subst h
  funext x
  show lane x * 0#32 + BitVec.ofNat 32 n = BitVec.ofNat 32 n
  rw [BitVec.mul_zero, BitVec.zero_add]

/-- What the gathers read: the count buffer as it stands. -/
abbrev rd1 (F : FTy → Type) [BitOps F] (c : ℕ → ℕ) : IVec S4096 32 := mH1.view.readAt (Elt F) (Rect.whole S4096).toLoadRect (arr c)
/-- The second level's counts, read whole. -/
abbrev rd2 (F : FTy → Type) [BitOps F] (c : ℕ → ℕ) : IVec S4096 32 := mH2.view.readAt (Elt F) (Rect.whole S4096).toLoadRect (arr c)
/-- The third level's counts, read whole. -/
abbrev rd3 (F : FTy → Type) [BitOps F] (c : ℕ → ℕ) : IVec S128 32 := mH3.view.readAt (Elt F) (Rect.whole S128).toLoadRect (arr c)

/-- The row of the input that a tile copies to its first row buffer. -/
abbrev rowA (i : grid0.Coords) : Memref sig .scVector .hbm S32768 .f32 :=
  (mX.slice (Rect.unit (s := S64x32768) (k0_off1 i) S1x32768.size (k0_off1_inb i)) (fun _ => rfl)).squeeze S32768 squeezes_S1x32768_S32768
/-- The row of the input that a tile copies to its second row buffer. -/
abbrev rowB (i : grid0.Coords) : Memref sig .scVector .hbm S32768 .f32 :=
  (mX.slice (Rect.unit (s := S64x32768) (k0_off2 i) S1x32768.size (k0_off2_inb i)) (fun _ => rfl)).squeeze S32768 squeezes_S1x32768_S32768
/-- The row of the output that a tile writes. -/
abbrev outR (i : grid0.Coords) : Memref sig .scVector .hbm S16 .f32 :=
  (mO.slice (Rect.unit (s := S32x16) (k0_off28 i) S1x16.size (k0_off28_inb i)) (fun _ => rfl)).squeeze S16 squeezes_S1x16_S16

end Cert.Proof.Tile
-- ==== Proof.States.lean ====
/-
  What a tile holds between the stretches of its body.
-/
module

public import proofs.«01_k».proof.Proof.Levels

@[expose] public section

noncomputable section

namespace Cert.Proof.Tile

open Cert.Kernel Cert.Kernel.Gen Cert.Proof.Counts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- A count buffer zeroed below a trip's offset. -/
abbrev zeroInv {n : Fin 1 → ℕ} (m : Memref sig .scVector .vmem ⟨1, n⟩ .i32) (d : Dev nD) (i : grid0.Coords) (k : ℕ) : sProp (𝕄 F) :=
  iprop(∃ g : Buf (Elt F) (m.view.loc (thr d i)), ⌜Below (fun _ => 0) (16 * k) (m.view.read (Elt F) g)⌝ ∗ m.view.loc (thr d i) ↦{fullShare} g)

/-- The second row on its way into its buffer. -/
abbrev flightB (d : Dev nD) (i : grid0.Coords) (rB : Vec F S32768 .f32) (fX : Buf (Elt F) (mX.view.loc (thr d i))) : sProp (𝕄 F) :=
  Transfers.Flight countersEmb (thr d i) (SemLoc.dma cc0_scratch10.sem) default 1048576
    iprop((mB.view.loc (thr d i) ↦{fullShare} (rB : Buf (Elt F) (mB.view.loc (thr d i)))) ∗ ((rowB i).view.loc (thr d i) ↦[(rowB i).view.set]{fullShare} fX))

/-- The first row counted by its first and second digits, one vector of coarse sums of the second stored. -/
abbrev mid1 (d : Dev nD) (i : grid0.Coords) (rA rB : Vec F S32768 .f32) (fX : Buf (Elt F) (mX.view.loc (thr d i))) (O : CellTallies nD τ sig (HIx 1)) (W : Waits sig (HIx 1))
    (R : sProp (𝕄 F)) (b1 : ℕ) (g : Buf (Elt F) (mC2.view.loc (thr d i))) (f11 : Buf (Elt F) (mC3.view.loc (thr d i))) : sProp (𝕄 F) :=
  iprop(Transfers.MayWaits (thr d i) (none : HIx 1) O ∗ ((rowA i).view.loc (thr d i) ↦[(rowA i).view.set]{fullShare} fX)
    ∗ flightB d i rB fX
    ∗ (mA.view.loc (thr d i) ↦{fullShare} (rA : Buf (Elt F) (mA.view.loc (thr d i))))
    ∗ (mH1.view.loc (thr d i) ↦{fullShare} (arr (tab1 rA 32768) : Buf (Elt F) (mH1.view.loc (thr d i))))
    ∗ (mC1.view.loc (thr d i) ↦{fullShare} (arr (coarse (tab1 rA 32768)) : Buf (Elt F) (mC1.view.loc (thr d i))))
    ∗ (mH2.view.loc (thr d i) ↦{fullShare} (arr (tab2 rA b1 32768) : Buf (Elt F) (mH2.view.loc (thr d i))))
    ∗ (mC2.view.loc (thr d i) ↦{fullShare} g)
    ∗ (mH3.view.loc (thr d i) ↦{fullShare} (arr (fun _ => 0) : Buf (Elt F) (mH3.view.loc (thr d i))))
    ∗ (mC3.view.loc (thr d i) ↦{fullShare} f11)
    ∗ semVal (thr d i, SemLoc.dma cc0_scratch9.sem) 0
    ∗ owes (thr d i) O (insert (SemLoc.dma cc0_scratch9.sem, default) W) ∗ R)

/-- The first row's word found; the second row counted by its first digit, one vector of coarse sums stored. -/
abbrev mid2 (d : Dev nD) (i : grid0.Coords) (rB : Vec F S32768 .f32) (R : sProp (𝕄 F)) (g : Buf (Elt F) (mC1.view.loc (thr d i)))
    (f9 : Buf (Elt F) (mC2.view.loc (thr d i))) (f11 : Buf (Elt F) (mC3.view.loc (thr d i))) : sProp (𝕄 F) :=
  iprop((mB.view.loc (thr d i) ↦{fullShare} (rB : Buf (Elt F) (mB.view.loc (thr d i))))
    ∗ (mH1.view.loc (thr d i) ↦{fullShare} (arr (tab1 rB 32768) : Buf (Elt F) (mH1.view.loc (thr d i))))
    ∗ (mC1.view.loc (thr d i) ↦{fullShare} g)
    ∗ (mH2.view.loc (thr d i) ↦{fullShare} (arr (fun _ => 0) : Buf (Elt F) (mH2.view.loc (thr d i))))
    ∗ (mC2.view.loc (thr d i) ↦{fullShare} f9)
    ∗ (mH3.view.loc (thr d i) ↦{fullShare} (arr (fun _ => 0) : Buf (Elt F) (mH3.view.loc (thr d i))))
    ∗ (mC3.view.loc (thr d i) ↦{fullShare} f11) ∗ R)

/-- What the tile keeps of the first row once its word is found. -/
abbrev kept (d : Dev nD) (i : grid0.Coords) (rA : Vec F S32768 .f32) (fX : Buf (Elt F) (mX.view.loc (thr d i))) (O : CellTallies nD τ sig (HIx 1)) (W : Waits sig (HIx 1))
    (R : sProp (𝕄 F)) : sProp (𝕄 F) :=
  iprop(Transfers.MayWaits (thr d i) (none : HIx 1) O ∗ ((rowA i).view.loc (thr d i) ↦[(rowA i).view.set]{fullShare} fX)
    ∗ ((rowB i).view.loc (thr d i) ↦[(rowB i).view.set]{fullShare} fX)
    ∗ (mA.view.loc (thr d i) ↦{fullShare} (rA : Buf (Elt F) (mA.view.loc (thr d i))))
    ∗ semVal (thr d i, SemLoc.dma cc0_scratch9.sem) 0
    ∗ semVal (thr d i, SemLoc.dma cc0_scratch10.sem) 0
    ∗ owes (thr d i) O (insert (SemLoc.dma cc0_scratch10.sem, default) (insert (SemLoc.dma cc0_scratch9.sem, default) W)) ∗ R)

/-- The second row counted by its first and second digits, three vectors of coarse sums of the second stored. -/
abbrev mid3 (d : Dev nD) (i : grid0.Coords) (rB : Vec F S32768 .f32) (R : sProp (𝕄 F)) (b1 : ℕ)
    (g : Buf (Elt F) (mC2.view.loc (thr d i))) (f11 : Buf (Elt F) (mC3.view.loc (thr d i))) : sProp (𝕄 F) :=
  iprop((mB.view.loc (thr d i) ↦{fullShare} (rB : Buf (Elt F) (mB.view.loc (thr d i))))
    ∗ (∃ f, mH1.view.loc (thr d i) ↦{fullShare} f)
    ∗ (∃ f, mC1.view.loc (thr d i) ↦{fullShare} f)
    ∗ (mH2.view.loc (thr d i) ↦{fullShare} (arr (tab2 rB b1 32768) : Buf (Elt F) (mH2.view.loc (thr d i))))
    ∗ (mC2.view.loc (thr d i) ↦{fullShare} g)
    ∗ (mH3.view.loc (thr d i) ↦{fullShare} (arr (fun _ => 0) : Buf (Elt F) (mH3.view.loc (thr d i))))
    ∗ (mC3.view.loc (thr d i) ↦{fullShare} f11) ∗ R)

/-- Both words found. -/
abbrev mid4 (d : Dev nD) (i : grid0.Coords) (R : sProp (𝕄 F)) : sProp (𝕄 F) :=
  iprop((∃ f, mB.view.loc (thr d i) ↦{fullShare} f)
    ∗ (∃ f, mH1.view.loc (thr d i) ↦{fullShare} f)
    ∗ (∃ f, mC1.view.loc (thr d i) ↦{fullShare} f)
    ∗ (∃ f, mH2.view.loc (thr d i) ↦{fullShare} f)
    ∗ (∃ f, mC2.view.loc (thr d i) ↦{fullShare} f)
    ∗ (∃ f, mH3.view.loc (thr d i) ↦{fullShare} f)
    ∗ (∃ f, mC3.view.loc (thr d i) ↦{fullShare} f) ∗ R)

/-- What the first stretch of the body hands on. -/
abbrev out1 (F : FTy → Type) [BitOps F] (r : Vec F S32768 .f32) (b : ℕ) :
    (_ : IVec S16 32) ×' (_ : IVec S16 32) ×' (_ : BitVec 32) ×' (_ : BitVec 32) ×' (_ : IVec S16 32) ×' IVec S16 32 :=
  ⟨lane, ones, BitVec.ofNat 32 b, BitVec.ofInt 32 (K1 r b), totAcc (rd2 F (tab2 r b 32768)) 1 (by decide), accOf (rd2 F (tab2 r b 32768)) 256#32 (by decide) 7 (by decide)⟩

/-- What the second stretch hands on: the first row's word, and the sums gathered so far over the second row's counts. -/
abbrev out2 (F : FTy → Type) [BitOps F] (T : ℕ) (r : Vec F S32768 .f32) :
    (_ : BitVec 32) ×' (_ : IVec S16 32) ×' (_ : IVec S16 32) ×' Vec F S16 .i32 :=
  ⟨BitVec.ofNat 32 T, totAcc (rd1 F (tab1 r 32768)) 1 (by decide), accOf (rd1 F (tab1 r 32768)) 256#32 (by decide) 5 (by decide),
    fun x => rd1 F (tab1 r 32768) (idxAt (s := S4096) (![addi (addi (broadcast S16 256#32) (muli lane (broadcast S16 16#32))) (broadcast S16 5#32)] : Fin 1 → IVec S16 32)
      (idx_ok (by decide)) x)⟩

/-- What the third stretch hands on. -/
abbrev out3 (F : FTy → Type) [BitOps F] (r : Vec F S32768 .f32) (b : ℕ) :
    (_ : BitVec 32) ×' (_ : BitVec 32) ×' (_ : IVec S16 32) ×' (_ : IVec S16 32) ×' (_ : IVec S16 32) ×' BitVec 32 :=
  ⟨BitVec.ofNat 32 b, BitVec.ofInt 32 (K1 r b), totAcc (rd2 F (tab2 r b 32768)) 3 (by decide), accOf (rd2 F (tab2 r b 32768)) 768#32 (by decide) 2 (by decide),
    muli lane (broadcast S16 16#32), 768#32⟩

/-- Pairs with equal second parts are equal. -/
theorem out_eq {α : Sort _} {β : α → Sort _} {a : α} {b b' : β a} (h : b = b') : (PSigma.mk a b) = PSigma.mk a b' := h ▸ rfl

end Cert.Proof.Tile
-- ==== Proof.Run234.lean ====
/-
  The first stretch of a tile's body: the two copies started, the first row counted by its first digit, the bin of the
  first digit chosen, and the row counted by its second digit.
-/
module
public import proofs.«01_k».proof.Proof.States
@[expose] public section
noncomputable section
namespace Cert.Proof.Tile
open Cert.Kernel Cert.Kernel.Gen Cert.Proof.Counts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [BitOps F]

set_option maxRecDepth 8000 in
set_option maxHeartbeats 1600000 in
/-- From its rows in memory and its buffers in any state the first stretch reaches `mid1` at the first digit of the first row's
    word. -/
theorem run234 (d : Dev nD) (i : grid0.Coords) (rA rB : Vec F S32768 .f32) (hA : Nonneg rA) (fX : Buf (Elt F) (mX.view.loc (thr d i)))
    (hrA : (rowA i).view.read (Elt F) fX = rA) (hrB : (rowB i).view.read (Elt F) fX = rB)
    (f4 : Buf (Elt F) (mA.view.loc (thr d i))) (f5 : Buf (Elt F) (mB.view.loc (thr d i)))
    (f6 : Buf (Elt F) (mH1.view.loc (thr d i))) (f7 : Buf (Elt F) (mC1.view.loc (thr d i))) (f8 : Buf (Elt F) (mH2.view.loc (thr d i)))
    (f9 : Buf (Elt F) (mC2.view.loc (thr d i))) (f10 : Buf (Elt F) (mH3.view.loc (thr d i))) (f11 : Buf (Elt F) (mC3.view.loc (thr d i)))
    (O : CellTallies nD τ sig (HIx 1)) (W : Waits sig (HIx 1)) (R : sProp (𝕄 F)) (Q : _ → sProp (𝕄 F))
    (hQ : ∀ b1 g, Lev1 rA b1 → Below (coarse (tab2 rA b1 32768)) 16 (mC2.view.read (Elt F) g) → mid1 d i rA rB fX O W R b1 g f11 ⊢ Q (out1 F rA b1)) :
    iprop(Transfers.MayWaits (thr d i) (none : HIx 1) O ∗ ((rowA i).view.loc (thr d i) ↦[(rowA i).view.set]{fullShare} fX)
    ∗ ((rowB i).view.loc (thr d i) ↦[(rowB i).view.set]{fullShare} fX)
    ∗ (mA.view.loc (thr d i) ↦{fullShare} f4)
    ∗ (mB.view.loc (thr d i) ↦{fullShare} f5)
    ∗ (mH1.view.loc (thr d i) ↦{fullShare} f6)
    ∗ (mC1.view.loc (thr d i) ↦{fullShare} f7)
    ∗ (mH2.view.loc (thr d i) ↦{fullShare} f8)
    ∗ (mC2.view.loc (thr d i) ↦{fullShare} f9)
    ∗ (mH3.view.loc (thr d i) ↦{fullShare} f10)
    ∗ (mC3.view.loc (thr d i) ↦{fullShare} f11)
    ∗ semVal (thr d i, SemLoc.dma cc0_scratch9.sem) 0
    ∗ semVal (thr d i, SemLoc.dma cc0_scratch10.sem) 0
    ∗ owes (thr d i) O W ∗ R) ⊢ wp frame (wpE (defs₀ (F := F)) 𝒱₀ (thr d i) none) Set.univ
   (k0_part234 i mX (Memref.isWhole_whole _) mO (Memref.isWhole_whole _) mA (Memref.isWhole_whole _) mB (Memref.isWhole_whole _)
    mH1 (Memref.isWhole_whole _) mC1 (Memref.isWhole_whole _) mH2 (Memref.isWhole_whole _) mC2 (Memref.isWhole_whole _) mH3 (Memref.isWhole_whole _) mC3 (Memref.isWhole_whole _) mT (Memref.isWhole_whole _) cc0_scratch9 cc0_scratch10 cc0_scoped0) Q := by
  dsimp -zeta -proj only [k0_part234, k0_part1, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54, k0_part55, k0_part56, k0_part57, k0_part58, k0_part59, k0_part60, k0_part61, k0_part62, k0_part63, k0_part64, loadIdx_eq, storeIdx_eq]
  iintro ⟨Hmw, HxA, HxB, HA, HB, H1, HC1, H2, HC2, H3, HC3, Hs9, Hs10, HO, HR⟩
  sl_exec
  ihave HA := (Entails.of_eq (congrArg (fun f => (mA.view.loc (thr d i) ↦{fullShare} f : sProp (𝕄 F))) (show _ = (rA : Buf (Elt F) (mA.view.loc (thr d i))) from (View.write_whole_univ _ _ _).trans hrA))) $$ HA
  iapply (Entails.of_eq (wp_bind _ _ _ _ _ _).symm)
  sl_for (fun k _ => zeroInv mH1 d i k) $$ [H1]
  case region =>
    intro k _
    iintro ⟨%g, %hg, H1⟩
    sl_exec
    sl_step
    iexists _
    isplitr
    swap
    · iexact H1
    · ipureintro
      exact below_cons mH1.view g [] (vec_congr (offs_trip (lt_of_lt_of_le k.isLt (by decide)))) rfl _ _ rfl hg
  · iexists f6
    isplitr
    · ipureintro; exact below_zero _ _
    · iexact H1
  iintro %_ H1
  icases H1 with ⟨%g1, %hg1, H1⟩
  sl_exec
  sl_for (fun k _ => zeroInv mH2 d i k) $$ [H2]
  case region =>
    intro k _
    iintro ⟨%g, %hg, H2⟩
    sl_exec
    sl_step
    iexists _
    isplitr
    swap
    · iexact H2
    · ipureintro
      exact below_cons mH2.view g [] (vec_congr (offs_trip (lt_of_lt_of_le k.isLt (by decide)))) rfl _ _ rfl hg
  · iexists f8
    isplitr
    · ipureintro; exact below_zero _ _
    · iexact H2
  iintro %_ H2
  icases H2 with ⟨%g2, %hg2, H2⟩
  sl_exec
  sl_for (fun k _ => zeroInv mH3 d i k) $$ [H3]
  case region =>
    intro k _
    iintro ⟨%g, %hg, H3⟩
    sl_exec
    sl_step
    iexists _
    isplitr
    swap
    · iexact H3
    · ipureintro
      exact below_cons mH3.view g [] (vec_congr (offs_trip (lt_of_lt_of_le k.isLt (by decide)))) rfl _ _ rfl hg
  · iexists f10
    isplitr
    · ipureintro; exact below_zero _ _
    · iexact H3
  iintro %_ H3
  icases H3 with ⟨%g3, %hg3, H3⟩
  sl_exec
  obtain rfl : g1 = arr (fun _ => 0) := hg1.full (by decide)
  obtain rfl : g2 = arr (fun _ => 0) := hg2.full (by decide)
  obtain rfl : g3 = arr (fun _ => 0) := hg3.full (by decide)
  iapply (Entails.of_eq (wp_bind _ _ _ _ _ _).symm)
  sl_for (fun k _ => iprop((mA.view.loc (thr d i) ↦{fullShare} rA) ∗ (mH1.view.loc (thr d i) ↦{fullShare} (arr (tab1 rA (16 * k)) : Buf (Elt F) (mH1.view.loc (thr d i)))))) $$ [HA H1]
  case region =>
    intro k _
    iintro ⟨HA, H1⟩
    sl_exec (disch := first | exact chk1_ok hA (bits_A rA (lt_of_lt_of_le k.isLt (by decide)) _))
    sl_step
    isplitl [HA]
    · iexact HA
    · ihave H1 := (Entails.of_eq (congrArg (fun f => (mH1.view.loc (thr d i) ↦{fullShare} f : sProp (𝕄 F))) (show _ = (arr (tab1 rA (16 * (↑k + 1))) : Buf (Elt F) (mH1.view.loc (thr d i))) from by
        refine (store_H1 _ _ _ _ _).trans ?_
        exact scat1 hA (bits_A rA (lt_of_lt_of_le k.isLt (by decide)) _) rfl _))) $$ H1
      iexact H1
  · isplitl [HA]
    · iexact HA
    · ihave H1 := (Entails.of_eq (congrArg (fun f => (mH1.view.loc (thr d i) ↦{fullShare} f : sProp (𝕄 F))) (show _ = (arr (tab1 rA (16 * 0)) : Buf (Elt F) (mH1.view.loc (thr d i))) from
        congrArg arr (hist_zero _ _).symm))) $$ H1
      iexact H1
  iintro %_ H
  icases H with ⟨HA, H1⟩
  ihave H1 := (Entails.of_eq (congrArg (fun n => (mH1.view.loc (thr d i) ↦{fullShare} (arr (tab1 rA n) : Buf (Elt F) (mH1.view.loc (thr d i))) : sProp (𝕄 F))) (show _ = 32768 by decide))) $$ H1
  sl_exec (disch := first | exact idx_ok (by rfl) | exact idx_ok3 (by rfl))
  iapply (Entails.of_eq (wp_bind _ _ _ _ _ _).symm)
  ihave HC1 := (Entails.of_eq (congrArg (fun f => (mC1.view.loc (thr d i) ↦{fullShare} f : sProp (𝕄 F))) (show _ = (arr (coarse (tab1 rA 32768)) : Buf (Elt F) (mC1.view.loc (thr d i))) from by
    refine coarse_C1 _ ?_
    iterate 16 refine below_acc (whole_H1 _) _ (by decide) mC1.view _ _ (by rfl) _ _ (by rfl) (by rfl) ?_
    exact below_zero _ _))) $$ HC1
  have hN : run234.sl.v2127 rA = BitVec.ofNat 32 (N1 rA) := by
    refine total_eq (whole_H1 (F := F) _) _ ?_
    rfl
  have ht : run234.sl.v2128 rA = BitVec.ofInt 32 (T1 rA) := by
    refine Eq.trans (congrArg (fun z => Scalar.subi z 64#32) hN) ?_
    rw [ofNat_ofInt]; exact subi_ofInt _ 64
  sl_for (fun k acc => iprop(⌜Inv (coarse (tab1 rA 32768)) (T1 rA) (16 * k) acc⌝ ∗ (mC1.view.loc (thr d i) ↦{fullShare} (arr (coarse (tab1 rA 32768)) : Buf (Elt F) (mC1.view.loc (thr d i)))))) $$ [HC1]
  case region =>
    intro k acc
    iintro ⟨%hI, HC1⟩
    sl_exec
    sl_step
    isplitr
    · ipureintro
      have hk : (k : ℕ) < 16 := lt_of_lt_of_le k.isLt (by decide)
      refine inv_step ht (coarse_le (tab1_le rA)) (T1_small rA) (by omega) (base_trip k) (load_C1 (F := F) (coarse (tab1 rA 32768)) (vec_congr (offs_step (by omega))) (k0_off7_inb k)) hI ?_
      rfl
    · iexact HC1
  · isplitr
    · ipureintro; exact inv_zero _ _
    · iexact HC1
  iintro %acc H
  icases H with ⟨%hI, HC1⟩
  obtain ⟨run, fc, fb⟩ := acc
  obtain ⟨m1, hm1, hsel1, hfc, hfb⟩ := inv_found (n := 256) hI (by decide) (by rw [fsum_coarse]; exact T1_lt rA)
  dsimp only at hfc hfb
  subst hfc hfb
  sl_exec (disch := first | exact chk_bin hm1 | exact idx_ok (by rfl) | exact idx_ok3 (by rfl))
  obtain ⟨b1, hb1, hs1, e1, e2⟩ := fine_step ht (tab1_le rA) (T1_small rA) hsel1 (load_H1 (F := F) (tab1 rA 32768) (vec_congr (offs_bin (m := m1) (by omega))) (k0_off8_inb (BitVec.ofNat 32 m1) (chk_bin hm1)))
  have hL1 : Lev1 rA b1 := ⟨by omega, hs1⟩
  have h2150 : run234.sl.v2150 rA run m1 hm1 = BitVec.ofNat 32 b1 := e1
  have h2158 : run234.sl.v2158 rA run m1 hm1 = BitVec.ofNat 32 (fsum (tab1 rA 32768) (b1 + 1)) := e2
  have h2169 : run234.sl.v2169 rA run m1 hm1 = BitVec.ofInt 32 (K1 rA b1) := left_eq (kw := 64#32) (z := 64) rfl hN h2158
  iapply (Entails.of_eq (wp_bind _ _ _ _ _ _).symm)
  sl_for (fun k _ => iprop((mA.view.loc (thr d i) ↦{fullShare} rA) ∗ (mH2.view.loc (thr d i) ↦{fullShare} (arr (tab2 rA b1 (16 * k)) : Buf (Elt F) (mH2.view.loc (thr d i)))))) $$ [HA H2]
  case region =>
    intro k _
    iintro ⟨HA, H2⟩
    sl_exec (disch := first | exact chk2_ok hA (bits_A rA (lt_of_lt_of_le k.isLt (by decide)) _))
    sl_step
    isplitl [HA]
    · iexact HA
    · ihave H2 := (Entails.of_eq (congrArg (fun f => (mH2.view.loc (thr d i) ↦{fullShare} f : sProp (𝕄 F))) (show _ = (arr (tab2 rA b1 (16 * (↑k + 1))) : Buf (Elt F) (mH2.view.loc (thr d i))) from by
        refine (store_H2 _ _ _ _ _).trans ?_
        exact scat2 hA (hb1.trans_le (by omega)) (bits_A rA (lt_of_lt_of_le k.isLt (by decide)) _) (key_eq h2150) rfl _))) $$ H2
      iexact H2
  · isplitl [HA]
    · iexact HA
    · ihave H2 := (Entails.of_eq (congrArg (fun f => (mH2.view.loc (thr d i) ↦{fullShare} f : sProp (𝕄 F))) (show _ = (arr (tab2 rA b1 (16 * 0)) : Buf (Elt F) (mH2.view.loc (thr d i))) from
        congrArg arr (hist_zero _ _).symm))) $$ H2
      iexact H2
  iintro %_ H
  icases H with ⟨HA, H2⟩
  ihave H2 := (Entails.of_eq (congrArg (fun n => (mH2.view.loc (thr d i) ↦{fullShare} (arr (tab2 rA b1 n) : Buf (Elt F) (mH2.view.loc (thr d i))) : sProp (𝕄 F))) (show _ = 32768 by decide))) $$ H2
  sl_exec (disch := first | exact idx_ok (by rfl) | exact idx_ok3 (by rfl))
  have hfl : View.write (Elt F) mB.view f5 (run234.sl.dma0_1 d i fX) Finset.univ = (rB : Buf (Elt F) (mB.view.loc (thr d i))) := (View.write_whole_univ _ _ _).trans hrB
  rw [hfl]
  sl_step
  iapply (Entails.of_eq (congrArg Q (show out1 F rA b1 = _ from by rw [h2150, h2169]; rfl)))
  have hB := below_acc (whole_H2 (F := F) (arr (tab2 rA b1 32768))) 0 (by decide) mC2.view f9 [] (rfl : ![0] = ![16 * 0]) inb_S256_S16_0 (run234.sl.v2304 rA b1) (by decide) (by rfl) (below_zero _ _)
  iapply (hQ b1 _ hL1 hB)
  unfold mid1
  isplitl [Hmw]; · iexact Hmw
  isplitl [HxA]; · iexact HxA
  isplitl [Hs10]; · iexact Hs10
  isplitl [HA]; · iexact HA
  isplitl [H1]; · iexact H1
  isplitl [HC1]; · iexact HC1
  isplitl [H2]; · iexact H2
  isplitl [HC2]; · iexact HC2
  isplitl [H3]; · iexact H3
  isplitl [HC3]; · iexact HC3
  isplitl [Hs9]; · iexact Hs9
  isplitl [HO]; · iexact HO
  iexact HR
end Cert.Proof.Tile
-- ==== Proof.Last.lean ====
/-
  The last level of the search: eight sums in one vector, one trip, and the word put together from the three digits.
-/
module

public import proofs.«01_k».proof.Proof.Levels

@[expose] public section

noncomputable section

namespace Cert.Proof.Tile

open Cert.Kernel Cert.Kernel.Gen Cert.Proof.Counts
open Idealize.ShloMosaic

variable {F : FTy → Type} [BitOps F]

/-- No count beyond the last digit's 128 values. -/
theorem tab3_zero (r : S32768.Idx → F .f32) (b n j : ℕ) (hj : 128 ≤ j) : tab3 r b n j = 0 := by
  refine (Nat.count_iff_forall_not).2 ?_
  rintro k _ ⟨_, h⟩
  have : wd r k % 2 ^ 7 < 2 ^ 7 := Nat.mod_lt _ (by norm_num)
  dsimp only at h
  omega

/-- Zero terms add nothing. -/
theorem fsum_tail {c : ℕ → ℕ} {n : ℕ} (hc : ∀ j, n ≤ j → c j = 0) : ∀ m, fsum c (n + m) = fsum c n
  | 0 => rfl
  | m + 1 => by rw [← Nat.add_assoc, fsum_succ, fsum_tail hc m, hc _ (by omega), Nat.add_zero]

/-- The eight sums as the body stores them. -/
theorem coarse_last {c : ℕ → ℕ} (hc : ∀ j, 128 ≤ j → c j = 0) {g : IVec S128 32} (hg : g = arr c) {w : IVec S16 32}
    (hw : w = select (cmpi .slt lane (broadcast S16 8#32)) (acc3Of g 16 le_rfl) (broadcast S16 0#32)) : w = vecN fun l => coarse c l := by
  rw [hw, hg]; exact coarse3_eq hc

/-- The last level's coarse sums, stored. -/
theorem coarse_C3 {c : ℕ → ℕ} {f : Vec F S16 .i32} {off : Fin 1 → ℕ} (hoff : off = ![0]) (inb) (w : IVec S16 32) (hw : w = vecN fun l => coarse c l) :
    mC3.view.writes (Elt F) f [⟨Rect.unit (s := S16) off S16.size inb, w⟩] = arr (coarse c) := by
  refine (View.read_whole cc0_scratch7 _).symm.trans (Below.full (m := 16) ?_ (by decide))
  exact below_cons (c := coarse c) (lo := 0) mC3.view f [] hoff rfl inb w (by simpa only [Nat.zero_add] using hw) (below_zero _ _)

/-- The vector just stored, read back. -/
theorem readback_C3 {off off' : Fin 1 → ℕ} (inb : ∀ a, off a + S16.size a ≤ S16.size a) (inb' : ∀ a, off' a + S16.size a ≤ S16.size a) (w : IVec S16 32) :
    mC3.view.readCov (Val := Elt F) [⟨Rect.unit (s := S16) off' S16.size inb', w⟩] (Rect.unit (s := S16) off S16.size inb).toLoadRect = w :=
  View.readCov_full (Val := Elt F) mC3.view inb inb' w []

/-- Their total. -/
theorem total_last {c : ℕ → ℕ} (hc : ∀ j, 128 ≤ j → c j = 0) {w : IVec S16 32} (hw : w = vecN fun l => coarse c l) :
    extractAt ![15] (scan .sum w) inpos_S16_p15 = BitVec.ofNat 32 (fsum c 128) := by
  rw [hw, scan_sum]
  show BitVec.ofNat 32 (fsum (fun l => coarse c l) 16) = _
  rw [show fsum (fun l => coarse c l) 16 = fsum c (128 + 128) from fsum_coarse c 16, fsum_tail hc]

/-- The one trip of the last level finds the run of sixteen. -/
theorem last_found {c : ℕ → ℕ} (hc : ∀ j, 128 ≤ j → c j = 0) (hb : ∀ n, fsum c n ≤ 32768) {t : ℤ} {tw : BitVec 32} (htw : tw = BitVec.ofInt 32 t)
    (ht : Small t) (hlt : t < (fsum c 128 : ℕ)) {v : IVec S16 32} (hv : v = vecN fun l => coarse c l) {a' : BitVec 32 × BitVec 32 × BitVec 32}
    (ha : a' = tripOf (Scalar.muli 0#32 16#32) v 0#32 tw 4294967295#32 0#32) :
    ∃ m < 8, Sel (coarse c) t m ∧ a'.2.1 = BitVec.ofNat 32 m ∧ a'.2.2 = BitVec.ofNat 32 (fsum (coarse c) m) := by
  have h16 : fsum (coarse c) 16 = fsum c 128 := by
    rw [show fsum (coarse c) 16 = fsum c (128 + 128) from fsum_coarse c 16, fsum_tail hc]
  have hI := inv_step (i := 0) (g := coarse c) htw (coarse_le hb) ht (by norm_num) (base := Scalar.muli 0#32 16#32) rfl
    (by simpa only [Nat.mul_zero, Nat.zero_add] using hv) (inv_zero (coarse c) t) ha
  obtain ⟨m, hm, hs, h1, h2⟩ := inv_found (n := 16) hI (by norm_num) (by rw [h16]; exact hlt)
  refine ⟨m, ?_, hs, h1, h2⟩
  by_contra hm8
  have h7 := hs.first 7 (by omega)
  rw [show fsum (coarse c) (7 + 1) = fsum c 128 from fsum_coarse c 8] at h7
  omega

/-- A run of sixteen bins of the last level lies in its buffer. -/
theorem chk_last {off : Fin 1 → ℕ} {m : ℕ} (h : off = ![16 * m]) (hm : m < 8) : ∀ a, off a + S16.size a ≤ S128.size a := by
  subst h
  intro a
  obtain rfl : a = 0 := Fin.eq_zero a
  show 16 * m + 16 ≤ 128
  omega

/-- The run's offset. -/
theorem offs_last {fc : BitVec 32} {m : ℕ} (h : fc = BitVec.ofNat 32 m) (hm : m < 8) :
    (Scalar.indexCast (Scalar.muli fc 16#32)).toNat = 16 * m := by rw [h]; exact offs_bin (by omega)

/-- The bin found inside the run. -/
theorem fine_last {c : ℕ → ℕ} {t : ℤ} {tw fc fb : BitVec 32} (htw : tw = BitVec.ofInt 32 t) {m : ℕ} (hb : ∀ n, fsum c n ≤ 32768) (ht : Small t)
    (hm : Sel (coarse c) t m) (hfc : fc = BitVec.ofNat 32 m) (hfb : fb = BitVec.ofNat 32 (fsum (coarse c) m)) {v : IVec S16 32}
    (hv : v = vecN fun l => c (16 * m + l)) : ∃ b, b < 16 * (m + 1) ∧ Sel c t b ∧ fineB v fc fb tw = BitVec.ofNat 32 b := by
  subst hfc hfb
  obtain ⟨b, h1, h2, h3, _⟩ := fine_step htw hb ht hm hv
  exact ⟨b, h1, h2, h3⟩

/-- What remains below a bin, at the words the body computes. -/
theorem target_eq {n : ℕ} {z : ℤ} {kw nw : BitVec 32} (hk : kw = BitVec.ofInt 32 z) (hn : nw = BitVec.ofNat 32 n) :
    Scalar.subi nw kw = BitVec.ofInt 32 (n - z) := by
  rw [hk, hn, ofNat_ofInt, subi_ofInt]

/-- Two digits put together. -/
theorem ori_digits {a b s : ℕ} (ha : a * 2 ^ s < 2 ^ 32) (hb : b < 2 ^ s) (hs : s < 32) :
    Scalar.ori (Scalar.shli (BitVec.ofNat 32 a) (BitVec.ofNat 32 s)) (BitVec.ofNat 32 b) = BitVec.ofNat 32 (a * 2 ^ s + b) := by
  have hlt : a * 2 ^ s + b < 2 ^ 32 := by
    have h1 : 2 ^ 32 = 2 ^ (32 - s) * 2 ^ s := by rw [← pow_add]; congr 1; omega
    have h2 : a < 2 ^ (32 - s) := by
      rw [h1] at ha; exact lt_of_mul_lt_mul_right ha (Nat.zero_le _)
    have h3 : (a + 1) * 2 ^ s ≤ 2 ^ (32 - s) * 2 ^ s := Nat.mul_le_mul_right _ h2
    rw [Nat.add_mul, Nat.one_mul] at h3
    omega
  have hp : 1 ≤ 2 ^ s := Nat.one_le_two_pow
  have ha' : a < 2 ^ 32 := lt_of_le_of_lt (Nat.le_mul_of_pos_right a hp) ha
  have hb' : b < 2 ^ 32 := lt_of_lt_of_le hb (Nat.pow_le_pow_right (by norm_num) (by omega))
  apply BitVec.eq_of_toNat_eq
  have hsh : (Scalar.shli (BitVec.ofNat 32 a) (BitVec.ofNat 32 s)).toNat = a * 2 ^ s := by
    have e : Scalar.shli (BitVec.ofNat 32 a) (BitVec.ofNat 32 s) = BitVec.ofNat 32 a <<< s := by
      have hs' : (BitVec.ofNat 32 s).toNat = s := toNat_ofNat32 (by omega)
      show IntOp.shli .scalar (BitVec.ofNat 32 a) (BitVec.ofNat 32 s) = _
      rw [IntOp.shli, if_pos (by rw [hs']; exact hs), BitVec.shiftLeft_eq', hs']
    rw [e, BitVec.toNat_shiftLeft, toNat_ofNat32 ha', Nat.shiftLeft_eq, Nat.mod_eq_of_lt ha]
  show ((Scalar.shli (BitVec.ofNat 32 a) (BitVec.ofNat 32 s)) ||| BitVec.ofNat 32 b).toNat = _
  rw [BitVec.toNat_or, hsh, toNat_ofNat32 hb', toNat_ofNat32 hlt, ← Nat.shiftLeft_eq, Nat.shiftLeft_add_eq_or_of_lt hb]

/-- The first two digits put together. -/
theorem key3_eq {b c : ℕ} (hb : b < 4096) (hc : c < 4096) {w v : BitVec 32} (hw : w = BitVec.ofNat 32 b) (hv : v = BitVec.ofNat 32 c) :
    Scalar.ori (Scalar.shli w 12#32) v = BitVec.ofNat 32 (b * 4096 + c) := by
  subst hw hv; exact ori_digits (s := 12) (by omega) (by omega) (by norm_num)

/-- The word put together from its digits. -/
theorem word_eq {b c e : ℕ} (hb : b < 4096) (hc : c < 4096) (he : e < 128) {w v u : BitVec 32} (hw : w = BitVec.ofNat 32 b) (hv : v = BitVec.ofNat 32 c)
    (hu : u = BitVec.ofNat 32 e) :
    Scalar.ori (Scalar.ori (Scalar.shli w 19#32) (Scalar.shli v 7#32)) u = BitVec.ofNat 32 (b * 2 ^ 19 + c * 2 ^ 7 + e) := by
  subst hw hv hu
  have h0 : Scalar.shli (BitVec.ofNat 32 c) 7#32 = BitVec.ofNat 32 (c * 2 ^ 7) := by
    have := ori_digits (a := c) (b := 0) (s := 7) (by omega) (by norm_num) (by norm_num)
    rw [Nat.add_zero] at this
    rw [← this]; exact (BitVec.or_zero (x := _)).symm
  rw [h0, ori_digits (a := b) (b := c * 2 ^ 7) (s := 19) (by omega) (by omega) (by norm_num)]
  have h1 : BitVec.ofNat 32 (b * 2 ^ 19 + c * 2 ^ 7) = Scalar.shli (BitVec.ofNat 32 (b * 2 ^ 12 + c)) 7#32 := by
    have := ori_digits (a := b * 2 ^ 12 + c) (b := 0) (s := 7) (by omega) (by norm_num) (by norm_num)
    rw [Nat.add_zero] at this
    rw [show b * 2 ^ 19 + c * 2 ^ 7 = (b * 2 ^ 12 + c) * 2 ^ 7 by omega, ← this]; exact BitVec.or_zero (x := _)
  rw [h1, ori_digits (a := b * 2 ^ 12 + c) (b := e) (s := 7) (by omega) (by omega) (by norm_num)]
  congr 1; omega

end Cert.Proof.Tile
-- ==== Proof.Run235.lean ====
/-
  The second stretch of a tile's body: the second and third digits of the first row's word, the second copy waited for, and
  the second row counted by its first digit.
-/
module
public import proofs.«01_k».proof.Proof.States
public import proofs.«01_k».proof.Proof.Last
@[expose] public section
noncomputable section
namespace Cert.Proof.Tile
open Cert.Kernel Cert.Kernel.Gen Cert.Proof.Counts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [BitOps F]

set_option maxRecDepth 8000 in
set_option maxHeartbeats 1600000 in
/-- From `mid1` the second stretch finds the first row's word `T` and reaches `mid2`. -/
theorem run235 (d : Dev nD) (i : grid0.Coords) (rA rB : Vec F S32768 .f32) (hA : Nonneg rA) (hB : Nonneg rB) (fX : Buf (Elt F) (mX.view.loc (thr d i)))
    (b1 : ℕ) (hL1 : Lev1 rA b1) (g9 : Buf (Elt F) (mC2.view.loc (thr d i))) (hg9 : Below (coarse (tab2 rA b1 32768)) 16 (mC2.view.read (Elt F) g9))
    (f11 : Buf (Elt F) (mC3.view.loc (thr d i)))
    (O : CellTallies nD τ sig (HIx 1)) (W : Waits sig (HIx 1)) (R : sProp (𝕄 F)) (Q : _ → sProp (𝕄 F))
    (hQ : ∀ T g f9 f11, Found rA T → Below (coarse (tab1 rB 32768)) 16 (mC1.view.read (Elt F) g) → mid2 d i rB (kept d i rA fX O W R) g f9 f11 ⊢ Q (out2 F T rB)) :
    mid1 d i rA rB fX O W R b1 g9 f11 ⊢ wp frame (wpE (defs₀ (F := F)) 𝒱₀ (thr d i) none) Set.univ
   (k0_part235 i mX (Memref.isWhole_whole _) mO (Memref.isWhole_whole _) mA (Memref.isWhole_whole _) mB (Memref.isWhole_whole _)
    mH1 (Memref.isWhole_whole _) mC1 (Memref.isWhole_whole _) mH2 (Memref.isWhole_whole _) mC2 (Memref.isWhole_whole _) mH3 (Memref.isWhole_whole _) mC3 (Memref.isWhole_whole _) mT (Memref.isWhole_whole _) cc0_scratch9 cc0_scratch10 cc0_scoped0
    lane ones (BitVec.ofNat 32 b1) (BitVec.ofInt 32 (K1 rA b1)) (totAcc (rd2 F (tab2 rA b1 32768)) 1 (by decide)) (accOf (rd2 F (tab2 rA b1 32768)) 256#32 (by decide) 7 (by decide))) Q := by
  dsimp -zeta -proj only [k0_part235, k0_part2, k0_part65, k0_part66, k0_part67, k0_part68, k0_part69, k0_part70, k0_part71, k0_part72, k0_part73, k0_part74, k0_part75, k0_part76, k0_part77, k0_part78, k0_part79, k0_part80, k0_part81, k0_part82, k0_part83, k0_part84, k0_part85, k0_part86, k0_part87, k0_part88, k0_part89, k0_part90, k0_part91, k0_part92, k0_part93, k0_part94, k0_part95, k0_part96, k0_part97, k0_part98, k0_part99, k0_part100, k0_part101, k0_part102, k0_part103, k0_part104, k0_part105, k0_part106, k0_part107, k0_part108, k0_part109, k0_part110, k0_part111, k0_part112, k0_part113, k0_part114, k0_part115, k0_part116, k0_part117, k0_part118, k0_part119, k0_part120, k0_part121, k0_part122, k0_part123, k0_part124, loadIdx_eq, storeIdx_eq]
  iintro ⟨Hmw, HxA, Hs10, HA, H1, HC1, H2, HC2, H3, HC3, Hs9, HO, HR⟩
  sl_exec (disch := first | exact idx_ok (by rfl) | exact idx_ok3 (by rfl))
  iapply (Entails.of_eq (wp_bind _ _ _ _ _ _).symm)
  ihave HC2 := (Entails.of_eq (congrArg (fun f => (mC2.view.loc (thr d i) ↦{fullShare} f : sProp (𝕄 F))) (show _ = (arr (coarse (tab2 rA b1 32768)) : Buf (Elt F) (mC2.view.loc (thr d i))) from by
    refine coarse_C2 _ ?_
    iterate 15 refine below_acc (whole_H2 _) _ (by decide) mC2.view _ _ (by rfl) _ _ (by rfl) (by rfl) ?_
    exact hg9))) $$ HC2
  have hN : run235.sl.v4274 rA b1 = BitVec.ofNat 32 (N2 rA b1) := by
    refine total_eq (whole_H2 (F := F) _) _ ?_
    rfl
  have ht : run235.sl.v4275 rA b1 = BitVec.ofInt 32 (T2 rA b1) := target_eq rfl hN
  sl_for (fun k acc => iprop(⌜Inv (coarse (tab2 rA b1 32768)) (T2 rA b1) (16 * k) acc⌝ ∗ (mC2.view.loc (thr d i) ↦{fullShare} (arr (coarse (tab2 rA b1 32768)) : Buf (Elt F) (mC2.view.loc (thr d i)))))) $$ [HC2]
  case region =>
    intro k acc
    iintro ⟨%hI, HC2⟩
    sl_exec
    sl_step
    isplitr
    · ipureintro
      have hk : (k : ℕ) < 16 := lt_of_lt_of_le k.isLt (by decide)
      refine inv_step ht (coarse_le (tab2_le rA b1)) (T2_small hL1) (by omega) (base_trip k) (load_C2 (F := F) (coarse (tab2 rA b1 32768)) (vec_congr (offs_step (by omega))) (k0_off10_inb k)) hI ?_
      rfl
    · iexact HC2
  · isplitr
    · ipureintro; exact inv_zero _ _
    · iexact HC2
  iintro %acc H
  icases H with ⟨%hI, HC2⟩
  obtain ⟨run, fc, fb⟩ := acc
  obtain ⟨m2, hm2, hsel2, hfc, hfb⟩ := inv_found (n := 256) hI (by decide) (by rw [fsum_coarse]; exact T2_lt hL1)
  dsimp only at hfc hfb
  subst hfc hfb
  sl_exec (disch := first | exact chk_bin hm2 | exact idx_ok (by rfl) | exact idx_ok3 (by rfl))
  obtain ⟨b2, hb2, hs2, e1, e2⟩ := fine_step ht (tab2_le rA b1) (T2_small hL1) hsel2 (load_H2 (F := F) (tab2 rA b1 32768) (vec_congr (offs_bin (m := m2) (by omega))) (k0_off11_inb (BitVec.ofNat 32 m2) (chk_bin hm2)))
  have hL2 : Lev2 rA b1 b2 := ⟨by omega, hs2⟩
  have h4297 : run235.sl.v4297 rA b1 run m2 hm2 = BitVec.ofNat 32 b2 := e1
  have h4305 : run235.sl.v4305 rA b1 run m2 hm2 = BitVec.ofNat 32 (fsum (tab2 rA b1 32768) (b2 + 1)) := e2
  have h4316 : run235.sl.v4316 rA b1 run m2 hm2 = BitVec.ofInt 32 (K2 rA b1 b2) := left_eq rfl hN h4305
  have h4320 : run235.sl.v4320 rA b1 run m2 hm2 = BitVec.ofNat 32 (b1 * 4096 + b2) := key3_eq hL1.1 hL2.1 rfl h4297
  iapply (Entails.of_eq (wp_bind _ _ _ _ _ _).symm)
  sl_for (fun k _ => iprop((mA.view.loc (thr d i) ↦{fullShare} rA) ∗ (mH3.view.loc (thr d i) ↦{fullShare} (arr (tab3 rA (b1 * 4096 + b2) (16 * k)) : Buf (Elt F) (mH3.view.loc (thr d i)))))) $$ [HA H3]
  case region =>
    intro k _
    iintro ⟨HA, H3⟩
    sl_exec (disch := first | exact chk3_ok hA (bits_A rA (lt_of_lt_of_le k.isLt (by decide)) _))
    sl_step
    isplitl [HA]
    · iexact HA
    · ihave H3 := (Entails.of_eq (congrArg (fun f => (mH3.view.loc (thr d i) ↦{fullShare} f : sProp (𝕄 F))) (show _ = (arr (tab3 rA (b1 * 4096 + b2) (16 * (↑k + 1))) : Buf (Elt F) (mH3.view.loc (thr d i))) from by
        refine (store_H3 _ _ _ _ _).trans ?_
        exact scat3 hA (by have := hL1.1; have := hL2.1; omega) (bits_A rA (lt_of_lt_of_le k.isLt (by decide)) _) (key_eq h4320) rfl _))) $$ H3
      iexact H3
  · isplitl [HA]
    · iexact HA
    · ihave H3 := (Entails.of_eq (congrArg (fun f => (mH3.view.loc (thr d i) ↦{fullShare} f : sProp (𝕄 F))) (show _ = (arr (tab3 rA (b1 * 4096 + b2) (16 * 0)) : Buf (Elt F) (mH3.view.loc (thr d i))) from
        congrArg arr (hist_zero _ _).symm))) $$ H3
      iexact H3
  iintro %_ H
  icases H with ⟨HA, H3⟩
  ihave H3 := (Entails.of_eq (congrArg (fun n => (mH3.view.loc (thr d i) ↦{fullShare} (arr (tab3 rA (b1 * 4096 + b2) n) : Buf (Elt F) (mH3.view.loc (thr d i))) : sProp (𝕄 F))) (show _ = 32768 by decide))) $$ H3
  sl_exec (disch := first | exact idx_ok (by rfl) | exact idx_ok3 (by rfl) | fail)
  have hw : run235.sl.v4456 rA b1 b2 = vecN fun l => coarse (tab3 rA (b1 * 4096 + b2) 32768) l := coarse_last (tab3_zero rA _ _) (whole_H3 (F := F) _) (by rfl)
  ihave HC3 := (Entails.of_eq (congrArg (fun f => (mC3.view.loc (thr d i) ↦{fullShare} f : sProp (𝕄 F))) (show mC3.view.writes (Elt F) f11 (run235.sl.HC3_1 rA b1 b2) = (arr (coarse (tab3 rA (b1 * 4096 + b2) 32768)) : Buf (Elt F) (mC3.view.loc (thr d i))) from by
    refine coarse_C3 (F := F) (rfl : ![0] = ![0]) inb_S16_S16_0 _ hw))) $$ HC3
  have ht3 : run235.sl.v4461 rA b1 run m2 hm2 b2 = BitVec.ofInt 32 (T3 rA b1 b2) := target_eq h4316 (total_last (tab3_zero rA _ _) hw)
  have hv3 : run235.sl.v4465 rA b1 b2 = vecN fun l => coarse (tab3 rA (b1 * 4096 + b2) 32768) l := (readback_C3 (F := F) k0_off13_inb inb_S16_S16_0 _).trans hw
  obtain ⟨m3, hm3, hsel3, hfc3, hfb3⟩ := last_found (tab3_zero rA (b1 * 4096 + b2) 32768) (tab3_le rA _) ht3 (T3_small hL1 hL2) (T3_lt hL1 hL2) hv3 rfl
  have hoff : k0_off14 (run235.sl.v4479 rA b1 run m2 hm2 b2) = ![16 * m3] := vec_congr (offs_last hfc3 hm3)
  have hchk : k0_chk534 (run235.sl.v4479 rA b1 run m2 hm2 b2) := chk_last hoff hm3
  sl_exec (disch := first | exact idx_ok (by rfl) | exact idx_ok3 (by rfl) | fail)
  obtain ⟨b3, hb3, hs3, e3⟩ := fine_last ht3 (tab3_le rA _) (T3_small hL1 hL2) hsel3 hfc3 hfb3 (load_H3 (F := F) (tab3 rA (b1 * 4096 + b2) 32768) hoff (k0_off14_inb _ hchk))
  have hL3 : Lev3 rA b1 b2 b3 := ⟨by omega, hs3⟩
  have h4549 : run235.sl.v4549 rA b1 run m2 hm2 b2 hchk = BitVec.ofNat 32 (b1 * 2 ^ 19 + b2 * 2 ^ 7 + b3) := word_eq hL1.1 hL2.1 hL3.1 rfl h4297 e3
  iapply (Entails.of_eq (wp_bind _ _ _ _ _ _).symm)
  sl_for (fun k _ => zeroInv mH1 d i k) $$ [H1]
  case region =>
    intro k _
    iintro ⟨%g, %hg, H1⟩
    sl_exec
    sl_step
    iexists _
    isplitr
    swap
    · iexact H1
    · ipureintro
      exact below_cons mH1.view g [] (vec_congr (offs_trip (lt_of_lt_of_le k.isLt (by decide)))) rfl _ _ rfl hg
  · iexists _
    isplitr
    swap
    · iexact H1
    · ipureintro; exact below_zero _ _
  iintro %_ H1
  icases H1 with ⟨%gH1, %hgH1, H1⟩
  sl_exec
  sl_for (fun k _ => zeroInv mH2 d i k) $$ [H2]
  case region =>
    intro k _
    iintro ⟨%g, %hg, H2⟩
    sl_exec
    sl_step
    iexists _
    isplitr
    swap
    · iexact H2
    · ipureintro
      exact below_cons mH2.view g [] (vec_congr (offs_trip (lt_of_lt_of_le k.isLt (by decide)))) rfl _ _ rfl hg
  · iexists _
    isplitr
    swap
    · iexact H2
    · ipureintro; exact below_zero _ _
  iintro %_ H2
  icases H2 with ⟨%gH2, %hgH2, H2⟩
  sl_exec
  sl_for (fun k _ => zeroInv mH3 d i k) $$ [H3]
  case region =>
    intro k _
    iintro ⟨%g, %hg, H3⟩
    sl_exec
    sl_step
    iexists _
    isplitr
    swap
    · iexact H3
    · ipureintro
      exact below_cons mH3.view g [] (vec_congr (offs_trip (lt_of_lt_of_le k.isLt (by decide)))) rfl _ _ rfl hg
  · iexists _
    isplitr
    swap
    · iexact H3
    · ipureintro; exact below_zero _ _
  iintro %_ H3
  icases H3 with ⟨%gH3, %hgH3, H3⟩
  sl_exec
  obtain rfl : gH1 = arr (fun _ => 0) := hgH1.full (by decide)
  obtain rfl : gH2 = arr (fun _ => 0) := hgH2.full (by decide)
  obtain rfl : gH3 = arr (fun _ => 0) := hgH3.full (by decide)
  sl_for (fun k _ => iprop((mB.view.loc (thr d i) ↦{fullShare} rB) ∗ (mH1.view.loc (thr d i) ↦{fullShare} (arr (tab1 rB (16 * k)) : Buf (Elt F) (mH1.view.loc (thr d i)))))) $$ [Hs10_dst H1]
  case region =>
    intro k _
    iintro ⟨HB, H1⟩
    sl_exec (disch := first | exact chk1_ok hB (bits_B rB (lt_of_lt_of_le k.isLt (by decide)) _))
    sl_step
    isplitl [HB]
    · iexact HB
    · ihave H1 := (Entails.of_eq (congrArg (fun f => (mH1.view.loc (thr d i) ↦{fullShare} f : sProp (𝕄 F))) (show _ = (arr (tab1 rB (16 * (↑k + 1))) : Buf (Elt F) (mH1.view.loc (thr d i))) from by
        refine (store_H1 _ _ _ _ _).trans ?_
        exact scat1 hB (bits_B rB (lt_of_lt_of_le k.isLt (by decide)) _) rfl _))) $$ H1
      iexact H1
  · isplitl [Hs10_dst]
    · iexact Hs10_dst
    · ihave H1 := (Entails.of_eq (congrArg (fun f => (mH1.view.loc (thr d i) ↦{fullShare} f : sProp (𝕄 F))) (show _ = (arr (tab1 rB (16 * 0)) : Buf (Elt F) (mH1.view.loc (thr d i))) from
        congrArg arr (hist_zero _ _).symm))) $$ H1
      iexact H1
  iintro %_ H
  icases H with ⟨HB, H1⟩
  ihave H1 := (Entails.of_eq (congrArg (fun n => (mH1.view.loc (thr d i) ↦{fullShare} (arr (tab1 rB n) : Buf (Elt F) (mH1.view.loc (thr d i))) : sProp (𝕄 F))) (show _ = 32768 by decide))) $$ H1
  sl_exec (disch := first | exact idx_ok (by rfl) | exact idx_ok3 (by rfl) | fail)
  sl_step
  iapply (Entails.of_eq (congrArg Q (show out2 F (b1 * 2 ^ 19 + b2 * 2 ^ 7 + b3) rB = _ from by rw [h4549]; rfl)))
  have hB1 := below_acc (F := F) (whole_H1 (F := F) (arr (tab1 rB 32768))) 0 (by decide) mC1.view (arr (coarse (tab1 rA 32768)) : Buf (Elt F) (mC1.view.loc (thr d i))) [] (rfl : ![0] = ![16 * 0]) inb_S256_S16_0 (run235.sl.v4690 rB) (by decide) (by rfl) (below_zero _ _)
  iapply (hQ _ _ _ _ ⟨b1, b2, b3, hL1, hL2, hL3, rfl⟩ hB1)
  unfold mid2 kept
  isplitl [HB]; · iexact HB
  isplitl [H1]; · iexact H1
  isplitl [HC1]; · iexact HC1
  isplitl [H2]; · iexact H2
  isplitl [HC2]; · iexact HC2
  isplitl [H3]; · iexact H3
  isplitl [HC3]; · iexact HC3
  isplitl [Hmw]; · iexact Hmw
  isplitl [HxA]; · iexact HxA
  isplitl [Hs10_src]; · iexact Hs10_src
  isplitl [HA]; · iexact HA
  isplitl [Hs9]; · iexact Hs9
  isplitl [Hs10]; · iexact Hs10
  isplitl [HO]; · iexact HO
  iexact HR
end Cert.Proof.Tile
-- ==== Proof.Run236.lean ====
/-
  The third stretch of a tile's body: the first digit of the second row's word, and the row counted by its second digit.
-/
module
public import proofs.«01_k».proof.Proof.States
public import proofs.«01_k».proof.Proof.Last
@[expose] public section
noncomputable section
namespace Cert.Proof.Tile
open Cert.Kernel Cert.Kernel.Gen Cert.Proof.Counts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [BitOps F]

set_option maxRecDepth 40000 in
set_option maxHeartbeats 1600000 in
/-- From `mid2` the third stretch reaches `mid3` at the first digit of the second row's word. -/
theorem run236 (d : Dev nD) (i : grid0.Coords) (rB : Vec F S32768 .f32) (hB : Nonneg rB)
    (g7 : Buf (Elt F) (mC1.view.loc (thr d i))) (hg7 : Below (coarse (tab1 rB 32768)) 16 (mC1.view.read (Elt F) g7))
    (f9 : Buf (Elt F) (mC2.view.loc (thr d i))) (f11 : Buf (Elt F) (mC3.view.loc (thr d i))) (R : sProp (𝕄 F)) (Q : _ → sProp (𝕄 F))
    (hQ : ∀ b1 g, Lev1 rB b1 → Below (coarse (tab2 rB b1 32768)) 48 (mC2.view.read (Elt F) g) → mid3 d i rB R b1 g f11 ⊢ Q (out3 F rB b1)) :
    mid2 d i rB R g7 f9 f11 ⊢ wp frame (wpE (defs₀ (F := F)) 𝒱₀ (thr d i) none) Set.univ
   (k0_part236 i mX (Memref.isWhole_whole _) mO (Memref.isWhole_whole _) mA (Memref.isWhole_whole _) mB (Memref.isWhole_whole _)
    mH1 (Memref.isWhole_whole _) mC1 (Memref.isWhole_whole _) mH2 (Memref.isWhole_whole _) mC2 (Memref.isWhole_whole _) mH3 (Memref.isWhole_whole _) mC3 (Memref.isWhole_whole _) mT (Memref.isWhole_whole _) cc0_scratch9 cc0_scratch10 cc0_scoped0
    lane ones (totAcc (rd1 F (tab1 rB 32768)) 1 (by decide)) (accOf (rd1 F (tab1 rB 32768)) 256#32 (by decide) 5 (by decide))
    (fun x => rd1 F (tab1 rB 32768) (idxAt (s := S4096) (![addi (addi (broadcast S16 256#32) (muli lane (broadcast S16 16#32))) (broadcast S16 5#32)] : Fin 1 → IVec S16 32)
      (idx_ok (by decide)) x))) Q := by
  dsimp -zeta -proj only [k0_part236, k0_part3, k0_part125, k0_part126, k0_part127, k0_part128, k0_part129, k0_part130, k0_part131, k0_part132, k0_part133, k0_part134, k0_part135, k0_part136, k0_part137, k0_part138, k0_part139, k0_part140, k0_part141, k0_part142, k0_part143, k0_part144, k0_part145, k0_part146, k0_part147, k0_part148, k0_part149, k0_part150, k0_part151, k0_part152, k0_part153, k0_part154, k0_part155, k0_part156, k0_part157, k0_part158, k0_part159, k0_part160, k0_part161, k0_part162, k0_part163, k0_part164, k0_part165, k0_part166, k0_part167, k0_part168, k0_part169, k0_part170, k0_part171, k0_part172, k0_part173, k0_part174, k0_part175, k0_part176, k0_part177, k0_part178, k0_part179, k0_part180, k0_part181, k0_part182, k0_part183, k0_part184, loadIdx_eq, storeIdx_eq]
  iintro ⟨HB, H1, HC1, H2, HC2, H3, HC3, HR⟩
  sl_exec (disch := first | exact idx_ok (by rfl) | exact idx_ok3 (by rfl) | fail)
  iapply (Entails.of_eq (wp_bind _ _ _ _ _ _).symm)
  ihave HC1 := (Entails.of_eq (congrArg (fun f => (mC1.view.loc (thr d i) ↦{fullShare} f : sProp (𝕄 F))) (show _ = (arr (coarse (tab1 rB 32768)) : Buf (Elt F) (mC1.view.loc (thr d i))) from by
    refine coarse_C1 _ ?_
    iterate 15 refine below_acc (whole_H1 _) _ (by decide) mC1.view _ _ (by rfl) _ _ (by rfl) (by rfl) ?_
    exact hg7))) $$ HC1
  have hN : run236.sl.v6660 rB = BitVec.ofNat 32 (N1 rB) := by
    refine total_eq (whole_H1 (F := F) _) _ ?_
    rfl
  have ht : run236.sl.v6661 rB = BitVec.ofInt 32 (T1 rB) := by
    refine Eq.trans (congrArg (fun z => Scalar.subi z 64#32) hN) ?_
    rw [ofNat_ofInt]; exact subi_ofInt _ 64
  sl_for (fun k acc => iprop(⌜Inv (coarse (tab1 rB 32768)) (T1 rB) (16 * k) acc⌝ ∗ (mC1.view.loc (thr d i) ↦{fullShare} (arr (coarse (tab1 rB 32768)) : Buf (Elt F) (mC1.view.loc (thr d i)))))) $$ [HC1]
  case region =>
    intro k acc
    iintro ⟨%hI, HC1⟩
    sl_exec
    sl_step
    isplitr
    · ipureintro
      have hk : (k : ℕ) < 16 := lt_of_lt_of_le k.isLt (by decide)
      refine inv_step ht (coarse_le (tab1_le rB)) (T1_small rB) (by omega) (base_trip k) (load_C1 (F := F) (coarse (tab1 rB 32768)) (vec_congr (offs_step (by omega))) (k0_off20_inb k)) hI ?_
      rfl
    · iexact HC1
  · isplitr
    · ipureintro; exact inv_zero _ _
    · iexact HC1
  iintro %acc H
  icases H with ⟨%hI, HC1⟩
  obtain ⟨run, fc, fb⟩ := acc
  obtain ⟨m1, hm1, hsel1, hfc, hfb⟩ := inv_found (n := 256) hI (by decide) (by rw [fsum_coarse]; exact T1_lt rB)
  dsimp only at hfc hfb
  subst hfc hfb
  sl_exec (disch := first | exact chk_bin hm1 | exact idx_ok (by rfl) | exact idx_ok3 (by rfl))
  obtain ⟨b1, hb1, hs1, e1, e2⟩ := fine_step ht (tab1_le rB) (T1_small rB) hsel1 (load_H1 (F := F) (tab1 rB 32768) (vec_congr (offs_bin (m := m1) (by omega))) (k0_off21_inb (BitVec.ofNat 32 m1) (chk_bin hm1)))
  have hL1 : Lev1 rB b1 := ⟨by omega, hs1⟩
  have h6683 : run236.sl.v6683 rB run m1 hm1 = BitVec.ofNat 32 b1 := e1
  have h6691 : run236.sl.v6691 rB run m1 hm1 = BitVec.ofNat 32 (fsum (tab1 rB 32768) (b1 + 1)) := e2
  have h6702 : run236.sl.v6702 rB run m1 hm1 = BitVec.ofInt 32 (K1 rB b1) := left_eq (kw := 64#32) (z := 64) rfl hN h6691
  iapply (Entails.of_eq (wp_bind _ _ _ _ _ _).symm)
  sl_for (fun k _ => iprop((mB.view.loc (thr d i) ↦{fullShare} rB) ∗ (mH2.view.loc (thr d i) ↦{fullShare} (arr (tab2 rB b1 (16 * k)) : Buf (Elt F) (mH2.view.loc (thr d i)))))) $$ [HB H2]
  case region =>
    intro k _
    iintro ⟨HB, H2⟩
    sl_exec (disch := first | exact chk2_ok hB (bits_B rB (lt_of_lt_of_le k.isLt (by decide)) _))
    sl_step
    isplitl [HB]
    · iexact HB
    · ihave H2 := (Entails.of_eq (congrArg (fun f => (mH2.view.loc (thr d i) ↦{fullShare} f : sProp (𝕄 F))) (show _ = (arr (tab2 rB b1 (16 * (↑k + 1))) : Buf (Elt F) (mH2.view.loc (thr d i))) from by
        refine (store_H2 _ _ _ _ _).trans ?_
        exact scat2 hB (hb1.trans_le (by omega)) (bits_B rB (lt_of_lt_of_le k.isLt (by decide)) _) (key_eq h6683) rfl _))) $$ H2
      iexact H2
  · isplitl [HB]
    · iexact HB
    · ihave H2 := (Entails.of_eq (congrArg (fun f => (mH2.view.loc (thr d i) ↦{fullShare} f : sProp (𝕄 F))) (show _ = (arr (tab2 rB b1 (16 * 0)) : Buf (Elt F) (mH2.view.loc (thr d i))) from
        congrArg arr (hist_zero _ _).symm))) $$ H2
      iexact H2
  iintro %_ H
  icases H with ⟨HB, H2⟩
  ihave H2 := (Entails.of_eq (congrArg (fun n => (mH2.view.loc (thr d i) ↦{fullShare} (arr (tab2 rB b1 n) : Buf (Elt F) (mH2.view.loc (thr d i))) : sProp (𝕄 F))) (show _ = 32768 by decide))) $$ H2
  sl_exec (disch := first | exact idx_ok (by rfl) | exact idx_ok3 (by rfl) | fail)
  sl_step
  iapply (Entails.of_eq (congrArg Q (show out3 F rB b1 = _ from by rw [h6683, h6702]; rfl)))
  have hB0 := below_acc (F := F) (whole_H2 (F := F) (arr (tab2 rB b1 32768))) 0 (by decide) mC2.view f9 [] (rfl : ![0] = ![16 * 0]) inb_S256_S16_0 (run236.sl.v6837 rB b1) (by decide) (by rfl) (below_zero _ _)
  have hB1 := below_acc (F := F) (whole_H2 (F := F) (arr (tab2 rB b1 32768))) 1 (by decide) mC2.view f9 [⟨Rect.unit ![0] S16.size inb_S256_S16_0, run236.sl.v6837 rB b1⟩] (rfl : ![16] = ![16 * 1]) inb_S256_S16_16 (run236.sl.v6968 rB b1) (by decide) (by rfl) hB0
  have hB2 := below_acc (F := F) (whole_H2 (F := F) (arr (tab2 rB b1 32768))) 2 (by decide) mC2.view f9 [⟨Rect.unit ![16] S16.size inb_S256_S16_16, run236.sl.v6968 rB b1⟩, ⟨Rect.unit ![0] S16.size inb_S256_S16_0, run236.sl.v6837 rB b1⟩] (rfl : ![32] = ![16 * 2]) inb_S256_S16_32 (run236.sl.v7099 rB b1) (by decide) (by rfl) hB1
  iapply (hQ b1 _ hL1 hB2)
  unfold mid3
  isplitl [HB]; · iexact HB
  isplitl [H1]
  · iexists _
    iexact H1
  isplitl [HC1]
  · iexists _
    iexact HC1
  isplitl [H2]; · iexact H2
  isplitl [HC2]; · iexact HC2
  isplitl [H3]; · iexact H3
  isplitl [HC3]; · iexact HC3
  iexact HR
end Cert.Proof.Tile
-- ==== Proof.Run237.lean ====
/-
  The fourth stretch of a tile's body: the second and third digits of the second row's word.
-/
module
public import proofs.«01_k».proof.Proof.States
public import proofs.«01_k».proof.Proof.Last
@[expose] public section
noncomputable section
namespace Cert.Proof.Tile
open Cert.Kernel Cert.Kernel.Gen Cert.Proof.Counts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [BitOps F]

set_option maxRecDepth 40000 in
set_option maxHeartbeats 1600000 in
/-- From `mid3` the fourth stretch finds the second row's word `T` and reaches `mid4`. -/
theorem run237 (d : Dev nD) (i : grid0.Coords) (rB : Vec F S32768 .f32) (hB : Nonneg rB)
    (b1 : ℕ) (hL1 : Lev1 rB b1) (g9 : Buf (Elt F) (mC2.view.loc (thr d i))) (hg9 : Below (coarse (tab2 rB b1 32768)) 48 (mC2.view.read (Elt F) g9))
    (f11 : Buf (Elt F) (mC3.view.loc (thr d i))) (R : sProp (𝕄 F)) (Q : _ → sProp (𝕄 F))
    (hQ : ∀ T, Found rB T → mid4 d i R ⊢ Q ⟨BitVec.ofNat 32 T, 0#32⟩) :
    mid3 d i rB R b1 g9 f11 ⊢ wp frame (wpE (defs₀ (F := F)) 𝒱₀ (thr d i) none) Set.univ
   (k0_part237 i mX (Memref.isWhole_whole _) mO (Memref.isWhole_whole _) mA (Memref.isWhole_whole _) mB (Memref.isWhole_whole _)
    mH1 (Memref.isWhole_whole _) mC1 (Memref.isWhole_whole _) mH2 (Memref.isWhole_whole _) mC2 (Memref.isWhole_whole _) mH3 (Memref.isWhole_whole _) mC3 (Memref.isWhole_whole _) mT (Memref.isWhole_whole _) cc0_scratch9 cc0_scratch10 cc0_scoped0
    lane ones (BitVec.ofNat 32 b1) (BitVec.ofInt 32 (K1 rB b1)) (totAcc (rd2 F (tab2 rB b1 32768)) 3 (by decide)) (accOf (rd2 F (tab2 rB b1 32768)) 768#32 (by decide) 2 (by decide))
    (muli lane (broadcast S16 16#32)) 768#32) Q := by
  dsimp -zeta -proj only [k0_part237, k0_part4, k0_part185, k0_part186, k0_part187, k0_part188, k0_part189, k0_part190, k0_part191, k0_part192, k0_part193, k0_part194, k0_part195, k0_part196, k0_part197, k0_part198, k0_part199, k0_part200, k0_part201, k0_part202, k0_part203, k0_part204, k0_part205, k0_part206, k0_part207, k0_part208, k0_part209, k0_part210, k0_part211, k0_part212, k0_part213, k0_part214, k0_part215, k0_part216, k0_part217, k0_part218, k0_part219, k0_part220, k0_part221, k0_part222, k0_part223, k0_part224, k0_part225, k0_part226, k0_part227, k0_part228, k0_part229, k0_part230, k0_part231, k0_part232, k0_part233, loadIdx_eq, storeIdx_eq]
  iintro ⟨HB, ⟨%fh, H1⟩, ⟨%fc, HC1⟩, H2, HC2, H3, HC3, HR⟩
  sl_exec (disch := first | exact idx_ok (by rfl) | exact idx_ok3 (by rfl) | fail)
  iapply (Entails.of_eq (wp_bind _ _ _ _ _ _).symm)
  ihave HC2 := (Entails.of_eq (congrArg (fun f => (mC2.view.loc (thr d i) ↦{fullShare} f : sProp (𝕄 F))) (show _ = (arr (coarse (tab2 rB b1 32768)) : Buf (Elt F) (mC2.view.loc (thr d i))) from by
    refine coarse_C2 _ ?_
    iterate 13 refine below_acc (whole_H2 _) _ (by decide) mC2.view _ _ (by rfl) _ _ (by rfl) (by rfl) ?_
    exact hg9))) $$ HC2
  have hN : run237.sl.v8807 rB b1 = BitVec.ofNat 32 (N2 rB b1) := by
    refine total_eq (whole_H2 (F := F) _) _ ?_
    rfl
  have ht : run237.sl.v8808 rB b1 = BitVec.ofInt 32 (T2 rB b1) := target_eq rfl hN
  sl_for (fun k acc => iprop(⌜Inv (coarse (tab2 rB b1 32768)) (T2 rB b1) (16 * k) acc⌝ ∗ (mC2.view.loc (thr d i) ↦{fullShare} (arr (coarse (tab2 rB b1 32768)) : Buf (Elt F) (mC2.view.loc (thr d i)))))) $$ [HC2]
  case region =>
    intro k acc
    iintro ⟨%hI, HC2⟩
    sl_exec
    sl_step
    isplitr
    · ipureintro
      have hk : (k : ℕ) < 16 := lt_of_lt_of_le k.isLt (by decide)
      refine inv_step ht (coarse_le (tab2_le rB b1)) (T2_small hL1) (by omega) (base_trip k) (load_C2 (F := F) (coarse (tab2 rB b1 32768)) (vec_congr (offs_step (by omega))) (k0_off23_inb k)) hI ?_
      rfl
    · iexact HC2
  · isplitr
    · ipureintro; exact inv_zero _ _
    · iexact HC2
  iintro %acc H
  icases H with ⟨%hI, HC2⟩
  obtain ⟨run, fc, fb⟩ := acc
  obtain ⟨m2, hm2, hsel2, hfc, hfb⟩ := inv_found (n := 256) hI (by decide) (by rw [fsum_coarse]; exact T2_lt hL1)
  dsimp only at hfc hfb
  subst hfc hfb
  sl_exec (disch := first | exact chk_bin hm2 | exact idx_ok (by rfl) | exact idx_ok3 (by rfl))
  obtain ⟨b2, hb2, hs2, e1, e2⟩ := fine_step ht (tab2_le rB b1) (T2_small hL1) hsel2 (load_H2 (F := F) (tab2 rB b1 32768) (vec_congr (offs_bin (m := m2) (by omega))) (k0_off24_inb (BitVec.ofNat 32 m2) (chk_bin hm2)))
  have hL2 : Lev2 rB b1 b2 := ⟨by omega, hs2⟩
  have h8830 : run237.sl.v8830 rB b1 run m2 hm2 = BitVec.ofNat 32 b2 := e1
  have h8838 : run237.sl.v8838 rB b1 run m2 hm2 = BitVec.ofNat 32 (fsum (tab2 rB b1 32768) (b2 + 1)) := e2
  have h8849 : run237.sl.v8849 rB b1 run m2 hm2 = BitVec.ofInt 32 (K2 rB b1 b2) := left_eq rfl hN h8838
  have h8853 : run237.sl.v8853 rB b1 run m2 hm2 = BitVec.ofNat 32 (b1 * 4096 + b2) := key3_eq hL1.1 hL2.1 rfl h8830
  iapply (Entails.of_eq (wp_bind _ _ _ _ _ _).symm)
  sl_for (fun k _ => iprop((mB.view.loc (thr d i) ↦{fullShare} rB) ∗ (mH3.view.loc (thr d i) ↦{fullShare} (arr (tab3 rB (b1 * 4096 + b2) (16 * k)) : Buf (Elt F) (mH3.view.loc (thr d i)))))) $$ [HB H3]
  case region =>
    intro k _
    iintro ⟨HB, H3⟩
    sl_exec (disch := first | exact chk3_ok hB (bits_B rB (lt_of_lt_of_le k.isLt (by decide)) _))
    sl_step
    isplitl [HB]
    · iexact HB
    · ihave H3 := (Entails.of_eq (congrArg (fun f => (mH3.view.loc (thr d i) ↦{fullShare} f : sProp (𝕄 F))) (show _ = (arr (tab3 rB (b1 * 4096 + b2) (16 * (↑k + 1))) : Buf (Elt F) (mH3.view.loc (thr d i))) from by
        refine (store_H3 _ _ _ _ _).trans ?_
        exact scat3 hB (by have := hL1.1; have := hL2.1; omega) (bits_B rB (lt_of_lt_of_le k.isLt (by decide)) _) (key_eq h8853) rfl _))) $$ H3
      iexact H3
  · isplitl [HB]
    · iexact HB
    · ihave H3 := (Entails.of_eq (congrArg (fun f => (mH3.view.loc (thr d i) ↦{fullShare} f : sProp (𝕄 F))) (show _ = (arr (tab3 rB (b1 * 4096 + b2) (16 * 0)) : Buf (Elt F) (mH3.view.loc (thr d i))) from
        congrArg arr (hist_zero _ _).symm))) $$ H3
      iexact H3
  iintro %_ H
  icases H with ⟨HB, H3⟩
  ihave H3 := (Entails.of_eq (congrArg (fun n => (mH3.view.loc (thr d i) ↦{fullShare} (arr (tab3 rB (b1 * 4096 + b2) n) : Buf (Elt F) (mH3.view.loc (thr d i))) : sProp (𝕄 F))) (show _ = 32768 by decide))) $$ H3
  sl_exec (disch := first | exact idx_ok3 (by rfl) | fail)
  have hw : run237.sl.v8989 rB b1 b2 = vecN fun l => coarse (tab3 rB (b1 * 4096 + b2) 32768) l := coarse_last (tab3_zero rB _ _) (whole_H3 (F := F) _) (by rfl)
  ihave HC3 := (Entails.of_eq (congrArg (fun f => (mC3.view.loc (thr d i) ↦{fullShare} f : sProp (𝕄 F))) (show mC3.view.writes (Elt F) f11 (run237.sl.HC3_1 rB b1 b2) = (arr (coarse (tab3 rB (b1 * 4096 + b2) 32768)) : Buf (Elt F) (mC3.view.loc (thr d i))) from by
    refine coarse_C3 (F := F) (rfl : ![0] = ![0]) inb_S16_S16_0 _ hw))) $$ HC3
  have ht3 : run237.sl.v8994 rB b1 run m2 hm2 b2 = BitVec.ofInt 32 (T3 rB b1 b2) := target_eq h8849 (total_last (tab3_zero rB _ _) hw)
  have hv3 : run237.sl.v8998 rB b1 b2 = vecN fun l => coarse (tab3 rB (b1 * 4096 + b2) 32768) l := (readback_C3 (F := F) k0_off26_inb inb_S16_S16_0 _).trans hw
  obtain ⟨m3, hm3, hsel3, hfc3, hfb3⟩ := last_found (tab3_zero rB (b1 * 4096 + b2) 32768) (tab3_le rB _) ht3 (T3_small hL1 hL2) (T3_lt hL1 hL2) hv3 rfl
  have hoff : k0_off27 (run237.sl.v9012 rB b1 run m2 hm2 b2) = ![16 * m3] := vec_congr (offs_last hfc3 hm3)
  have hchk : k0_chk1068 (run237.sl.v9012 rB b1 run m2 hm2 b2) := chk_last hoff hm3
  sl_exec (disch := first | exact idx_ok3 (by rfl) | fail)
  obtain ⟨b3, hb3, hs3, e3⟩ := fine_last ht3 (tab3_le rB _) (T3_small hL1 hL2) hsel3 hfc3 hfb3 (load_H3 (F := F) (tab3 rB (b1 * 4096 + b2) 32768) hoff (k0_off27_inb _ hchk))
  have hL3 : Lev3 rB b1 b2 b3 := ⟨by omega, hs3⟩
  have h9082 : run237.sl.v9082 rB b1 run m2 hm2 b2 hchk = BitVec.ofNat 32 (b1 * 2 ^ 19 + b2 * 2 ^ 7 + b3) := word_eq hL1.1 hL2.1 hL3.1 rfl h8830 e3
  sl_step
  iapply (Entails.of_eq (congrArg Q (show (⟨BitVec.ofNat 32 (b1 * 2 ^ 19 + b2 * 2 ^ 7 + b3), 0#32⟩ : (_ : BitVec 32) ×' BitVec 32) = _ from by rw [← h9082])))
  iapply (hQ _ ⟨b1, b2, b3, hL1, hL2, hL3, rfl⟩)
  unfold mid4
  isplitl [HB]
  · iexists _
    iexact HB
  isplitl [H1]
  · iexists _
    iexact H1
  isplitl [HC1]
  · iexists _
    iexact HC1
  isplitl [H2]
  · iexists _
    iexact H2
  isplitl [HC2]
  · iexists _
    iexact HC2
  isplitl [H3]
  · iexists _
    iexact H3
  isplitl [HC3]
  · iexists _
    iexact HC3
  iexact HR
end Cert.Proof.Tile
-- ==== Proof.Threshold.lean ====
/-
  The word the search ends with is the row's sixty-fourth largest.
-/
module

public import proofs.«01_k».proof.Proof.Levels

@[expose] public section

noncomputable section

namespace Cert.Proof.Tile

open Cert.Kernel Cert.Kernel.Gen Cert.Proof.Counts
open Idealize.ShloMosaic

variable {F : FTy → Type} [BitOps F]

/-- Fewer than sixty-four words of the row exceed the number, and at least sixty-four reach it. -/
def Kth (w : ℕ → ℕ) (T : ℕ) : Prop := Nat.count (fun j => T < w j) 32768 < 64 ∧ 64 ≤ Nat.count (fun j => T ≤ w j) 32768

/-- Equivalent properties are counted alike. -/
theorem count_congr {p q : ℕ → Prop} [DecidablePred p] [DecidablePred q] (h : ∀ j, p j ↔ q j) (n : ℕ) : Nat.count p n = Nat.count q n := by
  induction n with
  | zero => rw [Nat.count_zero, Nat.count_zero]
  | succ n ih => rw [Nat.count_succ, Nat.count_succ, ih]; simp only [h n]

/-- A weaker property is counted no less. -/
theorem count_le_of_imp {p q : ℕ → Prop} [DecidablePred p] [DecidablePred q] (h : ∀ j, p j → q j) (n : ℕ) : Nat.count p n ≤ Nat.count q n := by
  induction n with
  | zero => rw [Nat.count_zero]; exact Nat.zero_le _
  | succ n ih =>
    rw [Nat.count_succ, Nat.count_succ]
    by_cases hp : p n
    · rw [if_pos hp, if_pos (h n hp)]; omega
    · rw [if_neg hp]; omega

/-- A property that splits in two is counted in two parts. -/
theorem count_split {p q s : ℕ → Prop} [DecidablePred p] [DecidablePred q] [DecidablePred s]
    (h : ∀ j, (p j ↔ q j ∨ s j) ∧ ¬ (q j ∧ s j)) (n : ℕ) : Nat.count p n = Nat.count q n + Nat.count s n := by
  induction n with
  | zero => simp only [Nat.count_zero]
  | succ n ih =>
    simp only [Nat.count_succ]
    rw [ih]
    obtain ⟨h1, h2⟩ := h n
    by_cases hq : q n
    · by_cases hs : s n
      · exact absurd ⟨hq, hs⟩ h2
      · rw [if_pos hq, if_neg hs, if_pos (h1.2 (Or.inl hq))]; omega
    · by_cases hs : s n
      · rw [if_neg hq, if_pos hs, if_pos (h1.2 (Or.inr hs))]; omega
      · rw [if_neg hq, if_neg hs, if_neg (fun hp => (h1.1 hp).elim hq hs)]; omega

/-- All of `n`. -/
theorem count_all (n : ℕ) : Nat.count (fun _ => True) n = n := by
  induction n with
  | zero => exact Nat.count_zero _
  | succ n ih => rw [Nat.count_succ, ih, if_pos trivial]

/-- A row has at most one 64th largest word. -/
theorem kth_unique {w : ℕ → ℕ} {T T' : ℕ} (h : Kth w T) (h' : Kth w T') : T = T' := by
  rcases lt_trichotomy T T' with hlt | e | hlt
  · have := count_le_of_imp (p := fun j => T' ≤ w j) (q := fun j => T < w j) (fun j hj => lt_of_lt_of_le hlt hj) 32768
    exact absurd (this.trans_lt h.1) (not_lt.2 h'.2)
  · exact e
  · have := count_le_of_imp (p := fun j => T ≤ w j) (q := fun j => T' < w j) (fun j hj => lt_of_lt_of_le hlt hj) 32768
    exact absurd (this.trans_lt h'.1) (not_lt.2 h.2)

/-- Positive words below a number, by the digits of the number. -/
theorem below_digits (w : ℕ → ℕ) (b c e : ℕ) (hc : c < 4096) (he : e ≤ 128) (n : ℕ) :
    Nat.count (fun j => 0 < w j ∧ w j < b * 2 ^ 19 + c * 2 ^ 7 + e) n
      = Nat.count (fun j => 0 < w j ∧ w j / 2 ^ 19 < b) n
        + (Nat.count (fun j => (w j / 2 ^ 19 = b ∧ 0 < w j) ∧ w j / 2 ^ 7 % 2 ^ 12 < c) n
          + Nat.count (fun j => (w j / 2 ^ 7 = b * 4096 + c ∧ 0 < w j) ∧ w j % 2 ^ 7 < e) n) := by
  refine (count_split (q := fun j => 0 < w j ∧ w j / 2 ^ 19 < b)
    (s := fun j => ((w j / 2 ^ 19 = b ∧ 0 < w j) ∧ w j / 2 ^ 7 % 2 ^ 12 < c) ∨ ((w j / 2 ^ 7 = b * 4096 + c ∧ 0 < w j) ∧ w j % 2 ^ 7 < e)) (fun j => ?_) n).trans
    (congrArg _ (count_split (fun j => ?_) n))
  · generalize w j = x; omega
  · generalize w j = x; omega

/-- The second level counts exactly the words of the first level's bin. -/
theorem tab1_bin {r : S32768.Idx → F .f32} (b : ℕ) : N2 r b = tab1 r 32768 b := by
  have h0 : N2 r b = Nat.count (fun j => (wd r j / 2 ^ 19 = b ∧ 0 < wd r j) ∧ wd r j / 2 ^ 7 % 2 ^ 12 < 4096) 32768 := fsum_hist _ _ _ _
  have h1 : tab1 r 32768 b = Nat.count (fun j => 0 < wd r j ∧ wd r j / 2 ^ 19 = b) 32768 := rfl
  rw [h0, h1]
  refine count_congr (fun j => ?_) _
  have : wd r j / 2 ^ 7 % 2 ^ 12 < 4096 := Nat.mod_lt _ (by norm_num)
  constructor
  · rintro ⟨⟨h1, h2⟩, _⟩; exact ⟨h2, h1⟩
  · rintro ⟨h1, h2⟩; exact ⟨⟨h2, h1⟩, this⟩

/-- The third level counts exactly the words of the second level's bin. -/
theorem tab2_bin {r : S32768.Idx → F .f32} (b c : ℕ) (hc : c < 4096) : N3 r b c = tab2 r b 32768 c := by
  have h0 : N3 r b c = Nat.count (fun j => (wd r j / 2 ^ 7 = b * 4096 + c ∧ 0 < wd r j) ∧ wd r j % 2 ^ 7 < 128) 32768 := fsum_hist _ _ _ _
  have h1 : tab2 r b 32768 c = Nat.count (fun j => (wd r j / 2 ^ 19 = b ∧ 0 < wd r j) ∧ wd r j / 2 ^ 7 % 2 ^ 12 = c) 32768 := rfl
  rw [h0, h1]
  refine count_congr (fun j => ?_) _
  generalize wd r j = x
  omega

/-- The word that the three levels find is the row's 64th largest. -/
theorem found_kth {r : S32768.Idx → F .f32} (hr : Nonneg r) {T : ℕ} (h : Found r T) : Kth (wd r) T := by
  obtain ⟨b, c, e, h1, h2, h3, rfl⟩ := h
  obtain ⟨hb, s1⟩ := h1
  obtain ⟨hc, s2⟩ := h2
  obtain ⟨he, s3⟩ := h3
  have hN1 : N1 r = Nat.count (fun j => 0 < wd r j) 32768 := by
    have h0 : N1 r = Nat.count (fun j => 0 < wd r j ∧ wd r j / 2 ^ 19 < 4096) 32768 := fsum_hist _ _ _ _
    rw [h0]
    refine count_congr (fun j => ?_) _
    have := hr j
    generalize wd r j = x at *
    omega
  have hle := below_digits (wd r) b c (e + 1) hc (by omega) 32768
  have hlt := below_digits (wd r) b c e hc (by omega) 32768
  have f1 : fsum (tab1 r 32768) b = Nat.count (fun j => 0 < wd r j ∧ wd r j / 2 ^ 19 < b) 32768 := fsum_hist _ _ _ _
  have f2 : fsum (tab2 r b 32768) c = Nat.count (fun j => (wd r j / 2 ^ 19 = b ∧ 0 < wd r j) ∧ wd r j / 2 ^ 7 % 2 ^ 12 < c) 32768 := fsum_hist _ _ _ _
  have f3 : fsum (tab3 r (b * 4096 + c) 32768) e = Nat.count (fun j => (wd r j / 2 ^ 7 = b * 4096 + c ∧ 0 < wd r j) ∧ wd r j % 2 ^ 7 < e) 32768 := fsum_hist _ _ _ _
  have f3' : fsum (tab3 r (b * 4096 + c) 32768) (e + 1) = Nat.count (fun j => (wd r j / 2 ^ 7 = b * 4096 + c ∧ 0 < wd r j) ∧ wd r j % 2 ^ 7 < e + 1) 32768 := fsum_hist _ _ _ _
  rw [← f1, ← f2, ← f3] at hlt
  rw [← f1, ← f2, ← f3'] at hle
  obtain ⟨T, hT⟩ : ∃ T, T = b * 2 ^ 19 + c * 2 ^ 7 + e := ⟨_, rfl⟩
  rw [← hT] at hlt ⊢
  have g1 : Nat.count (fun j => 0 < wd r j) 32768
      = Nat.count (fun j => 0 < wd r j ∧ wd r j < b * 2 ^ 19 + c * 2 ^ 7 + (e + 1)) 32768 + Nat.count (fun j => T < wd r j) 32768 := by
    refine count_split (fun j => ?_) _
    generalize wd r j = x
    omega
  have g2 : T = 0 ∨ Nat.count (fun j => 0 < wd r j) 32768
      = Nat.count (fun j => 0 < wd r j ∧ wd r j < T) 32768 + Nat.count (fun j => T ≤ wd r j) 32768 := by
    rcases Nat.eq_zero_or_pos T with h0 | h0
    · exact Or.inl h0
    · refine Or.inr (count_split (fun j => ?_) _)
      generalize wd r j = x
      omega
  have p1 := s1.passes
  have p2 := s2.passes
  have p3 := s3.passes
  have q1 : fsum (tab1 r 32768) (b + 1) = fsum (tab1 r 32768) b + N2 r b := by rw [tab1_bin, fsum_succ]
  have q2 : fsum (tab2 r b 32768) (c + 1) = fsum (tab2 r b 32768) c + N3 r b c := by rw [tab2_bin b c hc, fsum_succ]
  have m3 : fsum (tab3 r (b * 4096 + c) 32768) e ≤ fsum (tab3 r (b * 4096 + c) 32768) (e + 1) := fsum_mono _ (by omega)
  have z1 : b = 0 ∨ ((fsum (tab1 r 32768) b : ℕ) : ℤ) ≤ T1 r := by
    rcases Nat.eq_zero_or_pos b with h0 | h0
    · exact Or.inl h0
    · have := s1.first (b - 1) (by omega); rw [Nat.sub_add_cancel h0] at this; exact Or.inr this
  have z2 : c = 0 ∨ ((fsum (tab2 r b 32768) c : ℕ) : ℤ) ≤ T2 r b := by
    rcases Nat.eq_zero_or_pos c with h0 | h0
    · exact Or.inl h0
    · have := s2.first (c - 1) (by omega); rw [Nat.sub_add_cancel h0] at this; exact Or.inr this
  have z3 : e = 0 ∨ ((fsum (tab3 r (b * 4096 + c) 32768) e : ℕ) : ℤ) ≤ T3 r b c := by
    rcases Nat.eq_zero_or_pos e with h0 | h0
    · exact Or.inl h0
    · have := s3.first (e - 1) (by omega); rw [Nat.sub_add_cancel h0] at this; exact Or.inr this
  unfold T1 at p1 z1
  unfold T2 K1 at p2 z2
  unfold T3 K2 K1 at p3 z3
  have c0 : c = 0 → fsum (tab2 r b 32768) c = 0 := fun h => by rw [h, fsum_zero]
  have e0 : e = 0 → fsum (tab3 r (b * 4096 + c) 32768) e = 0 := fun h => by rw [h, fsum_zero]
  have all : T = 0 → Nat.count (fun j => T ≤ wd r j) 32768 = 32768 := fun h => by
    rw [h]; exact (count_congr (fun j => iff_true_intro (Nat.zero_le (wd r j))) 32768).trans (count_all 32768)
  constructor
  · omega
  · rcases g2 with h0 | g2
    · rw [all h0]; norm_num
    · by_cases hT0 : T = 0
      · rw [all hT0]; norm_num
      · have : b ≠ 0 ∨ c ≠ 0 ∨ e ≠ 0 := by omega
        omega

end Cert.Proof.Tile
-- ==== Proof.Spec.lean ====
/-
  What the call computes, as an array: the 64th largest word of each row, two rows to a row of the output; and the
  rows a tile reads and the row it writes, as sets of indices.
-/
module

public import proofs.«01_k».proof.Proof.Threshold

@[expose] public section

noncomputable section

namespace Cert.Proof.Tile

open Cert.Kernel Cert.Kernel.Gen Cert.Proof.Counts
open Idealize.ShloMosaic
open Idealize.ShloMosaic.SparseCore (S V T)

variable {F : FTy → Type} [BitOps F]

/-! ## The 64th largest word -/

open Classical in
/-- The 64th largest word of a row, if it has one. -/
def kth (r : S32768.Idx → F .f32) : ℕ := if h : ∃ T, Kth (wd r) T then h.choose else 0

/-- A word that is the 64th largest is `kth`. -/
theorem kth_eq {r : S32768.Idx → F .f32} {T : ℕ} (h : Kth (wd r) T) : kth r = T := by
  have hT : ∃ T, Kth (wd r) T := ⟨T, h⟩
  unfold kth
  rw [dif_pos hT]
  exact kth_unique hT.choose_spec h

/-- Row `n` of the input. -/
def rowOf (f : S64x32768.Idx → F .f32) (n : Fin 64) : S32768.Idx → F .f32 :=
  fun j => f (fun | 0 => n | 1 => j 0 | ⟨_ + 2, h⟩ => absurd h (Nat.not_lt.2 (Nat.le_add_left _ _)))

/-- The row of the input whose word stands in lane `l` of row `n` of the output. -/
def srcRow (n : Fin 32) (l : Fin 16) : Fin 64 := ⟨2 * n.val + if l.val = 0 then 0 else 1, by split <;> omega⟩

/-- The output of the call. -/
def outArr (f : S64x32768.Idx → F .f32) : S32x16.Idx → F .f32 :=
  bitcastToFloat .f32 (fun x : S32x16.Idx => BitVec.ofNat 32 (kth (rowOf f (srcRow (x 0) (x 1)))))

/-! ## A tile's rows -/

/-- A tile's first row is a row. -/
theorem rowA_lt (i : grid0.Coords) : 4 * (i 1).val + 2 * (i 0).val < 64 := by
  have h0 : (i 0).val < 2 := (i 0).isLt
  have h1 : (i 1).val < 16 := (i 1).isLt
  omega
/-- A tile's second row is a row. -/
theorem rowB_lt (i : grid0.Coords) : 4 * (i 1).val + 2 * (i 0).val + 1 < 64 := by
  have h0 : (i 0).val < 2 := (i 0).isLt
  have h1 : (i 1).val < 16 := (i 1).isLt
  omega
/-- A tile's output row is a row. -/
theorem outR_lt (i : grid0.Coords) : 2 * (i 1).val + (i 0).val < 32 := by
  have h0 : (i 0).val < 2 := (i 0).isLt
  have h1 : (i 1).val < 16 := (i 1).isLt
  omega

/-- Where the first row's entries lie. -/
theorem rowA_emb (i : grid0.Coords) (j : S32768.Idx) :
    (rowA i).view.emb j = (fun | 0 => ⟨_, rowA_lt i⟩ | 1 => j 0 | ⟨_ + 2, h⟩ => absurd h (Nat.not_lt.2 (Nat.le_add_left _ _)) : S64x32768.Idx) := by
  show (Rect.unit (s := S64x32768) (k0_off1 i) S1x32768.size (k0_off1_inb i)).emb (Shape.reshapeEquiv _ j) = _
  rw [Shape.reshapeEquiv_cons_one (n := 1) (d := ![32768])]
  funext a
  apply Fin.ext
  have h0 : k0_off1 i 0 = 4 * (i 1).val + 2 * (i 0).val := congrFun (k0_off1_eq i) 0
  have h1 : k0_off1 i 1 = 0 := congrFun (k0_off1_eq i) 1
  match a with
  | 0 => show k0_off1 i 0 + 1 * 0 = 4 * (i 1).val + 2 * (i 0).val; omega
  | 1 => show k0_off1 i 1 + 1 * (j 0).val = (j 0).val; omega

/-- Where the second row's entries lie. -/
theorem rowB_emb (i : grid0.Coords) (j : S32768.Idx) :
    (rowB i).view.emb j = (fun | 0 => ⟨_, rowB_lt i⟩ | 1 => j 0 | ⟨_ + 2, h⟩ => absurd h (Nat.not_lt.2 (Nat.le_add_left _ _)) : S64x32768.Idx) := by
  show (Rect.unit (s := S64x32768) (k0_off2 i) S1x32768.size (k0_off2_inb i)).emb (Shape.reshapeEquiv _ j) = _
  rw [Shape.reshapeEquiv_cons_one (n := 1) (d := ![32768])]
  funext a
  apply Fin.ext
  have h0 : k0_off2 i 0 = 4 * (i 1).val + 2 * (i 0).val + 1 := congrFun (k0_off2_eq i) 0
  have h1 : k0_off2 i 1 = 0 := congrFun (k0_off2_eq i) 1
  match a with
  | 0 => show k0_off2 i 0 + 1 * 0 = 4 * (i 1).val + 2 * (i 0).val + 1; omega
  | 1 => show k0_off2 i 1 + 1 * (j 0).val = (j 0).val; omega

/-- Where the output row's entries lie. -/
theorem outR_emb (i : grid0.Coords) (j : S16.Idx) :
    (outR i).view.emb j = (fun | 0 => ⟨_, outR_lt i⟩ | 1 => j 0 | ⟨_ + 2, h⟩ => absurd h (Nat.not_lt.2 (Nat.le_add_left _ _)) : S32x16.Idx) := by
  show (Rect.unit (s := S32x16) (k0_off28 i) S1x16.size (k0_off28_inb i)).emb (Shape.reshapeEquiv _ j) = _
  rw [Shape.reshapeEquiv_cons_one (n := 1) (d := ![16])]
  funext a
  apply Fin.ext
  have h0 : k0_off28 i 0 = 2 * (i 1).val + (i 0).val := congrFun (k0_off28_eq i) 0
  have h1 : k0_off28 i 1 = 0 := congrFun (k0_off28_eq i) 1
  match a with
  | 0 => show k0_off28 i 0 + 1 * 0 = 2 * (i 1).val + (i 0).val; omega
  | 1 => show k0_off28 i 1 + 1 * (j 0).val = (j 0).val; omega

/-- The first row a tile copies. -/
theorem read_rowA (i : grid0.Coords) (f : S64x32768.Idx → F .f32) : (rowA i).view.read (Elt F) f = rowOf f ⟨_, rowA_lt i⟩ :=
  funext fun j => ((View.read_apply _ _).trans (cast_eq _ _)).trans (congrArg f (rowA_emb i j))
/-- The second row a tile copies. -/
theorem read_rowB (i : grid0.Coords) (f : S64x32768.Idx → F .f32) : (rowB i).view.read (Elt F) f = rowOf f ⟨_, rowB_lt i⟩ :=
  funext fun j => ((View.read_apply _ _).trans (cast_eq _ _)).trans (congrArg f (rowB_emb i j))

/-! ## The elements of the rows -/

/-- The indices of the first row. -/
theorem mem_rowA (i : grid0.Coords) (x : S64x32768.Idx) : x ∈ (rowA i).view.set ↔ (x 0).val = 4 * (i 1).val + 2 * (i 0).val := by
  have e : (rowA i).view.set = (Rect.unit (s := S64x32768) (k0_off1 i) S1x32768.size (k0_off1_inb i)).set :=
    (View.set_reshape _ _).trans (View.set_slice_whole _ _)
  refine (iff_of_eq (congrArg (fun s : Finset S64x32768.Idx => x ∈ s) e)).trans ((LoadRect.mem_set _).trans ?_)
  have h0 : k0_off1 i 0 = 4 * (i 1).val + 2 * (i 0).val := congrFun (k0_off1_eq i) 0
  have h1 : k0_off1 i 1 = 0 := congrFun (k0_off1_eq i) 1
  constructor
  · intro h
    obtain ⟨j, hj, e⟩ := h 0
    have hj' : j < 1 := hj
    have e' : (x 0).val = k0_off1 i 0 + 1 * j := e
    omega
  · intro h a
    match a with
    | 0 => exact ⟨0, Nat.one_pos, by show (x 0).val = k0_off1 i 0 + 1 * 0; omega⟩
    | 1 => exact ⟨(x 1).val, (x 1).isLt, by show (x 1).val = k0_off1 i 1 + 1 * (x 1).val; omega⟩

/-- The indices of the second row. -/
theorem mem_rowB (i : grid0.Coords) (x : S64x32768.Idx) : x ∈ (rowB i).view.set ↔ (x 0).val = 4 * (i 1).val + 2 * (i 0).val + 1 := by
  have e : (rowB i).view.set = (Rect.unit (s := S64x32768) (k0_off2 i) S1x32768.size (k0_off2_inb i)).set :=
    (View.set_reshape _ _).trans (View.set_slice_whole _ _)
  refine (iff_of_eq (congrArg (fun s : Finset S64x32768.Idx => x ∈ s) e)).trans ((LoadRect.mem_set _).trans ?_)
  have h0 : k0_off2 i 0 = 4 * (i 1).val + 2 * (i 0).val + 1 := congrFun (k0_off2_eq i) 0
  have h1 : k0_off2 i 1 = 0 := congrFun (k0_off2_eq i) 1
  constructor
  · intro h
    obtain ⟨j, hj, e⟩ := h 0
    have hj' : j < 1 := hj
    have e' : (x 0).val = k0_off2 i 0 + 1 * j := e
    omega
  · intro h a
    match a with
    | 0 => exact ⟨0, Nat.one_pos, by show (x 0).val = k0_off2 i 0 + 1 * 0; omega⟩
    | 1 => exact ⟨(x 1).val, (x 1).isLt, by show (x 1).val = k0_off2 i 1 + 1 * (x 1).val; omega⟩

/-- The indices of the output row. -/
theorem mem_outR (i : grid0.Coords) (x : S32x16.Idx) : x ∈ (outR i).view.set ↔ (x 0).val = 2 * (i 1).val + (i 0).val := by
  have e : (outR i).view.set = (Rect.unit (s := S32x16) (k0_off28 i) S1x16.size (k0_off28_inb i)).set :=
    (View.set_reshape _ _).trans (View.set_slice_whole _ _)
  refine (iff_of_eq (congrArg (fun s : Finset S32x16.Idx => x ∈ s) e)).trans ((LoadRect.mem_set _).trans ?_)
  have h0 : k0_off28 i 0 = 2 * (i 1).val + (i 0).val := congrFun (k0_off28_eq i) 0
  have h1 : k0_off28 i 1 = 0 := congrFun (k0_off28_eq i) 1
  constructor
  · intro h
    obtain ⟨j, hj, e⟩ := h 0
    have hj' : j < 1 := hj
    have e' : (x 0).val = k0_off28 i 0 + 1 * j := e
    omega
  · intro h a
    match a with
    | 0 => exact ⟨0, Nat.one_pos, by show (x 0).val = k0_off28 i 0 + 1 * 0; omega⟩
    | 1 => exact ⟨(x 1).val, (x 1).isLt, by show (x 1).val = k0_off28 i 1 + 1 * (x 1).val; omega⟩

/-! ## The arrays divided among the cores and the tiles -/

/-- The elements of the input that tile `(c, s)` reads. -/
def XS (c s : ℕ) : Finset S64x32768.Idx := Finset.univ.filter fun x => (x 0).val / 2 = 2 * s + c
/-- The elements of the input that core `c` reads. -/
def XC (c : ℕ) : Finset S64x32768.Idx := Finset.univ.filter fun x => (x 0).val / 2 % 2 = c
/-- The elements of the output that tile `(c, s)` writes. -/
def OS (c s : ℕ) : Finset S32x16.Idx := Finset.univ.filter fun x => (x 0).val = 2 * s + c
/-- The elements of the output that core `c` writes. -/
def OC (c : ℕ) : Finset S32x16.Idx := Finset.univ.filter fun x => (x 0).val % 2 = c

/-- The indices of a tile's rows. -/
theorem mem_XS {c s : ℕ} {x : S64x32768.Idx} : x ∈ XS c s ↔ (x 0).val / 2 = 2 * s + c := by simp [XS]
/-- The indices of a SparseCore's rows. -/
theorem mem_XC {c : ℕ} {x : S64x32768.Idx} : x ∈ XC c ↔ (x 0).val / 2 % 2 = c := by simp [XC]
/-- The indices of a tile's output row. -/
theorem mem_OS {c s : ℕ} {x : S32x16.Idx} : x ∈ OS c s ↔ (x 0).val = 2 * s + c := by simp [OS]
/-- The indices of a SparseCore's output rows. -/
theorem mem_OC {c : ℕ} {x : S32x16.Idx} : x ∈ OC c ↔ (x 0).val % 2 = c := by simp [OC]

/-- A tile's rows are its first and its second. -/
theorem XS_eq (i : grid0.Coords) : XS (i 0).val (i 1).val = (rowA i).view.set ∪ (rowB i).view.set := by
  refine Finset.ext fun (x : S64x32768.Idx) => ?_
  refine mem_XS.trans (Iff.trans ?_ Finset.mem_union.symm)
  refine Iff.trans ?_ (or_congr (mem_rowA i x) (mem_rowB i x)).symm
  omega
/-- These two do not meet. -/
theorem rows_disjoint (i : grid0.Coords) : Disjoint (rowA i).view.set (rowB i).view.set := by
  refine Finset.disjoint_left.2 fun (x : S64x32768.Idx) ha hb => ?_
  have h1 := (mem_rowA i x).1 ha
  have h2 := (mem_rowB i x).1 hb
  omega
/-- A tile's output row, as the program slices it. -/
theorem OS_eq (i : grid0.Coords) : OS (i 0).val (i 1).val = (outR i).view.set :=
  Finset.ext fun (x : S32x16.Idx) => mem_OS.trans (mem_outR i x).symm

/-- The two SparseCores' rows are all rows. -/
theorem XC_cover : (Finset.univ : Finset S64x32768.Idx) = XC 0 ∪ XC 1 := by
  refine Finset.ext fun (x : S64x32768.Idx) => ?_
  simp only [Finset.mem_univ, Finset.mem_union, mem_XC, true_iff]; omega
/-- They do not meet. -/
theorem XC_disjoint : Disjoint (XC 0) (XC 1) :=
  Finset.disjoint_left.2 fun x h1 h2 => by have := mem_XC.1 h1; have := mem_XC.1 h2; omega
/-- The two SparseCores' output rows are all of them. -/
theorem OC_cover : (Finset.univ : Finset S32x16.Idx) = OC 0 ∪ OC 1 := by
  refine Finset.ext fun (x : S32x16.Idx) => ?_
  simp only [Finset.mem_univ, Finset.mem_union, mem_OC, true_iff]; omega
/-- They do not meet. -/
theorem OC_disjoint : Disjoint (OC 0) (OC 1) :=
  Finset.disjoint_left.2 fun x h1 h2 => by have := mem_OC.1 h1; have := mem_OC.1 h2; omega

/-- A SparseCore's rows are its tiles'. -/
theorem XS_cover (c : ℕ) (hc : c < 2) : XC c = Finset.univ.biUnion fun s : Fin 16 => XS c s.val := by
  refine Finset.ext fun (x : S64x32768.Idx) => ?_
  have hx : (x 0).val < 64 := (x 0).isLt
  simp only [Finset.mem_biUnion, Finset.mem_univ, true_and, mem_XC, mem_XS]
  constructor
  · intro h; exact ⟨⟨(x 0).val / 4, by omega⟩, by show _ = 2 * ((x 0).val / 4) + c; omega⟩
  · rintro ⟨s, hs⟩; omega
/-- Two tiles' rows do not meet. -/
theorem XS_disjoint (c : ℕ) (s s' : Fin 16) (h : s ≠ s') : Disjoint (XS c s.val) (XS c s'.val) :=
  Finset.disjoint_left.2 fun x h1 h2 => by
    have := mem_XS.1 h1; have := mem_XS.1 h2; exact h (Fin.ext (by omega))
/-- A SparseCore's output rows are its tiles'. -/
theorem OS_cover (c : ℕ) (hc : c < 2) : OC c = Finset.univ.biUnion fun s : Fin 16 => OS c s.val := by
  refine Finset.ext fun (x : S32x16.Idx) => ?_
  have hx : (x 0).val < 32 := (x 0).isLt
  simp only [Finset.mem_biUnion, Finset.mem_univ, true_and, mem_OC, mem_OS]
  constructor
  · intro h; exact ⟨⟨(x 0).val / 2, by omega⟩, by show _ = 2 * ((x 0).val / 2) + c; omega⟩
  · rintro ⟨s, hs⟩; omega
/-- Two tiles' output rows do not meet. -/
theorem OS_disjoint (c : ℕ) (s s' : Fin 16) (h : s ≠ s') : Disjoint (OS c s.val) (OS c s'.val) :=
  Finset.disjoint_left.2 fun x h1 h2 => by
    have := mem_OS.1 h1; have := mem_OS.1 h2; exact h (Fin.ext (by omega))

/-! ## What a tile writes -/

/-- The vector a tile writes: the first row's word in lane 0, the second row's in the others. -/
def outVec (F : FTy → Type) [BitOps F] (a b : ℕ) : FVec F S16 .f32 :=
  bitcastToFloat .f32 (fun l : S16.Idx => BitVec.ofNat 32 (if (l 0).val = 0 then a else b))

/-- A tile's row of the output array. -/
theorem outArr_row (i : grid0.Coords) (f : S64x32768.Idx → F .f32) (g : S32x16.Idx → F .f32) (x : S32x16.Idx) (hx : x ∈ (outR i).view.set) :
    outArr f x = (outR i).view.write (Elt F) g (outVec F (kth (rowOf f ⟨_, rowA_lt i⟩)) (kth (rowOf f ⟨_, rowB_lt i⟩))) Finset.univ x := by
  have e : x = (outR i).view.emb (fun a => match a with | ⟨0, _⟩ => x 1) := by
    rw [outR_emb]
    funext a
    match a with
    | 0 => exact Fin.ext ((mem_outR i x).1 hx)
    | 1 => rfl
  refine Eq.trans ?_ (congrArg ((outR i).view.write (Elt F) g _ Finset.univ) e.symm)
  refine Eq.trans ?_ ((View.write_emb_of_mem (Val := Elt F) (v := (outR i).view) g (outVec F _ _) (Finset.mem_univ _)).trans (cast_eq _ _)).symm
  show FloatOps.ofBits .f32 _ = FloatOps.ofBits .f32 _
  refine congrArg _ (congrArg (BitVec.ofNat 32) ?_)
  have h0 := (mem_outR i x).1 hx
  show kth (rowOf f (srcRow (x 0) (x 1))) = if (x 1).val = 0 then _ else _
  by_cases hl : (x 1).val = 0
  · rw [if_pos hl]
    refine congrArg (fun n => kth (rowOf f n)) (Fin.ext ?_)
    show 2 * (x 0).val + (if (x 1).val = 0 then 0 else 1) = _
    rw [if_pos hl]; show _ = 4 * (i 1).val + 2 * (i 0).val; omega
  · rw [if_neg hl]
    refine congrArg (fun n => kth (rowOf f n)) (Fin.ext ?_)
    show 2 * (x 0).val + (if (x 1).val = 0 then 0 else 1) = _
    rw [if_neg hl]; show _ = 4 * (i 1).val + 2 * (i 0).val + 1; omega

end Cert.Proof.Tile

end
-- ==== Proof.Tile.lean ====
/-
  One tile's run: the four stretches of its body, then the two words written to its row of the output.
-/
module

public import proofs.«01_k».proof.Proof.Run234
public import proofs.«01_k».proof.Proof.Run235
public import proofs.«01_k».proof.Proof.Run236
public import proofs.«01_k».proof.Proof.Run237
public import proofs.«01_k».proof.Proof.Spec

@[expose] public section

noncomputable section

namespace Cert.Proof.Tile

open Cert.Kernel Cert.Kernel.Gen Cert.Proof.Counts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

/-- The vector the body selects its two words into. -/
theorem sel_outVec (a b : ℕ) :
    (bitcastToFloat .f32 (select (cmpi .eq lane (broadcast S16 0#32)) (addi (muli lane (broadcast S16 0#32)) (broadcast S16 (BitVec.ofNat 32 a)))
      (addi (muli lane (broadcast S16 0#32)) (broadcast S16 (BitVec.ofNat 32 b)))) : FVec F S16 .f32) = outVec F a b := by
  rw [key_eq (n := a) rfl, key_eq (n := b) rfl]
  refine congrArg (bitcastToFloat (F := F) .f32 (s := S16)) (funext fun l => ?_)
  have hl : (l 0).val < 16 := (l 0).isLt
  show Scalar.select (IntOp.cmpi .eq (lane l) 0#32) (BitVec.ofNat 32 a) (BitVec.ofNat 32 b) = BitVec.ofNat 32 (if (l 0).val = 0 then a else b)
  rw [lane_apply, show (0#32 : BitVec 32) = BitVec.ofNat 32 0 from rfl, eq_ofNat (by omega) (by omega)]
  by_cases h : (l 0).val = 0
  · simp [h, Scalar.select]
  · simp [h, Scalar.select]

/-- What a full store leaves, read back. -/
theorem read_T (d : Dev nD) (i : grid0.Coords) (f : Buf (Elt F) (View.loc (thr d i) mT.view)) (w : FVec F S16 .f32) :
    mT.view.read (Elt F) (mT.view.writes (Elt F) f [⟨Rect.unit (s := S16) ![0] S16.size inb_S16_S16_0, w⟩]) = w := by
  funext j
  have e : (Rect.unit (s := S16) ![0] S16.size inb_S16_S16_0).emb j = j := by
    funext a; apply Fin.ext
    match a with
    | 0 => show 0 + 1 * (j 0).val = _; omega
  refine Eq.trans ?_ (View.read_writes_cons_emb mT.view f (Rect.unit (s := S16) ![0] S16.size inb_S16_S16_0) w [] j)
  rw [e]

/-- A row copied whole is a row written. -/
theorem out_writes (i : grid0.Coords) (g : S32x16.Idx → F .f32) (w : FVec F S16 .f32) (x : S32x16.Idx) (hx : x ∈ (outR i).view.set) :
    (outR i).view.writes (Elt F) g [⟨Rect.whole S16, w⟩] x = (outR i).view.write (Elt F) g w Finset.univ x := by
  obtain ⟨j, -, rfl⟩ := Finset.mem_map.1 hx
  have h1 := View.read_writes_cons_emb (Val := Elt F) (outR i).view g (Rect.whole S16) w [] j
  rw [Rect.emb_whole_apply] at h1
  have h2 := congrFun (View.read_write_univ (Val := Elt F) (v := (outR i).view) g w) j
  exact (cast_eq _ _).symm.trans ((h1.trans h2.symm).trans (cast_eq _ _))

/-! ## The body, stretch by stretch -/

/-- The end of the body: the two words selected into a vector and copied to the tile's row of the output. -/
def tail (d : Dev nD) (i : grid0.Coords) (v2 : IVec S16 32) (v4549 v9082 c0 : BitVec 32) :
    Prog (TpuEff nD τ sig (Elt F) Λ₀ (thr d i).2) PUnit := do
  have v9083 : IVec S16 32 := broadcast S16 c0
  have v9084 : IVec S16 1 := cmpi .eq v2 v9083
  let c0_i32_3469 : BitVec 32 := 0#32
  have v9085 : IVec S16 32 := broadcast S16 c0_i32_3469
  have v9086 : IVec S16 32 := muli v2 v9085
  have v9087 : IVec S16 32 := broadcast S16 v4549
  have v9088 : IVec S16 32 := addi v9086 v9087
  let c0_i32_3470 : BitVec 32 := 0#32
  have v9089 : IVec S16 32 := broadcast S16 c0_i32_3470
  have v9090 : IVec S16 32 := muli v2 v9089
  have v9091 : IVec S16 32 := broadcast S16 v9082
  have v9092 : IVec S16 32 := addi v9090 v9091
  have v9093 : IVec S16 32 := select v9084 v9088 v9092
  have v9094 : FVec F S16 .f32 := bitcastToFloat .f32 v9093
  let c0_3471 : Index := 0#32
  let v9095 : Vec F S16 .f32 ← Prog.lift (.load mT (Rect.unit (s := S16) ![0] S16.size inb_S16_S16_0).toLoadRect (View.loadsAt_vmem h_S16))
  Prog.lift (.store mT (Rect.unit (s := S16) ![0] S16.size inb_S16_S16_0) v9094 Finset.univ (View.stores_vmem_bits_univ h_S16 rfl) (.inl rfl))
  let c0_i32_3472_r0 : BitVec 32 := 0#32
  let v9097_r0 : Memref sig .scVector .hbm S1x16 .f32 := mO.slice (Rect.unit (s := S32x16) (k0_off28 i) S1x16.size (k0_off28_inb i)) (fun _ => rfl)
  let v9098_r0 : Memref sig .scVector .hbm S16 .f32 := v9097_r0.squeeze S16 squeezes_S1x16_S16
  let c0_i32_3473_r0 : BitVec 32 := 0#32
  let v9099_r0 : Memref sig .scVector .hbm S1x16 .f32 := mO.slice (Rect.unit (s := S32x16) (k0_off28 i) S1x16.size (k0_off28_inb i)) (fun _ => rfl)
  let v9100_r0 : Memref sig .scVector .hbm S16 .f32 := v9099_r0.squeeze S16 squeezes_S1x16_S16
  Prog.lift (.enqueueDma mT (.here v9100_r0) (.dma cc0_scoped0.sem) (Memref.isWhole_whole cc0_scratch8).wordExact ((View.wordExact_bits rfl).reshape _ _) ⟨Or.inl rfl, trivial⟩)
  let c0_i32_3474_r0 : BitVec 32 := 0#32
  let v9101_r0 : Memref sig .scVector .hbm S1x16 .f32 := mO.slice (Rect.unit (s := S32x16) (k0_off28 i) S1x16.size (k0_off28_inb i)) (fun _ => rfl)
  let v9102_r0 : Memref sig .scVector .hbm S16 .f32 := v9101_r0.squeeze S16 squeezes_S1x16_S16
  let c0_i32_3475_r0 : BitVec 32 := 0#32
  let v9103_r0 : Memref sig .scVector .hbm S1x16 .f32 := mO.slice (Rect.unit (s := S32x16) (k0_off28 i) S1x16.size (k0_off28_inb i)) (fun _ => rfl)
  let v9104_r0 : Memref sig .scVector .hbm S16 .f32 := v9103_r0.squeeze S16 squeezes_S1x16_S16
  Prog.lift (.waitDma2 cc0_scoped0.sem mT v9104_r0 (Memref.isWhole_whole cc0_scratch8).wordExact ((View.wordExact_bits rfl).reshape _ _))
  pure ⟨⟩

/-- The body from its fourth stretch on. -/
def cont3 (d : Dev nD) (i : grid0.Coords) (v2 v6 : IVec S16 32) (a : BitVec 32) (r : (_ : BitVec 32) ×' (_ : BitVec 32) ×' (_ : IVec S16 32) ×' (_ : IVec S16 32) ×' (_ : IVec S16 32) ×' BitVec 32) :
    Prog (TpuEff nD τ sig (Elt F) Λ₀ (thr d i).2) PUnit :=
  k0_part237 i mX (Memref.isWhole_whole _) mO (Memref.isWhole_whole _) mA (Memref.isWhole_whole _) mB (Memref.isWhole_whole _)
    mH1 (Memref.isWhole_whole _) mC1 (Memref.isWhole_whole _) mH2 (Memref.isWhole_whole _) mC2 (Memref.isWhole_whole _) mH3 (Memref.isWhole_whole _) mC3 (Memref.isWhole_whole _) mT (Memref.isWhole_whole _) cc0_scratch9 cc0_scratch10 cc0_scoped0
    v2 v6 r.1 r.2.1 r.2.2.1 r.2.2.2.1 r.2.2.2.2.1 r.2.2.2.2.2 >>= fun q => tail d i v2 a q.1 q.2

/-- The body from its third stretch on. -/
def cont2 (d : Dev nD) (i : grid0.Coords) (v2 v6 : IVec S16 32) (r : (_ : BitVec 32) ×' (_ : IVec S16 32) ×' (_ : IVec S16 32) ×' Vec F S16 .i32) :
    Prog (TpuEff nD τ sig (Elt F) Λ₀ (thr d i).2) PUnit :=
  k0_part236 i mX (Memref.isWhole_whole _) mO (Memref.isWhole_whole _) mA (Memref.isWhole_whole _) mB (Memref.isWhole_whole _)
    mH1 (Memref.isWhole_whole _) mC1 (Memref.isWhole_whole _) mH2 (Memref.isWhole_whole _) mC2 (Memref.isWhole_whole _) mH3 (Memref.isWhole_whole _) mC3 (Memref.isWhole_whole _) mT (Memref.isWhole_whole _) cc0_scratch9 cc0_scratch10 cc0_scoped0
    v2 v6 r.2.1 r.2.2.1 r.2.2.2 >>= cont3 d i v2 v6 r.1

/-- The body from its second stretch on. -/
def cont1 (d : Dev nD) (i : grid0.Coords) (r : (_ : IVec S16 32) ×' (_ : IVec S16 32) ×' (_ : BitVec 32) ×' (_ : BitVec 32) ×' (_ : IVec S16 32) ×' IVec S16 32) :
    Prog (TpuEff nD τ sig (Elt F) Λ₀ (thr d i).2) PUnit :=
  k0_part235 i mX (Memref.isWhole_whole _) mO (Memref.isWhole_whole _) mA (Memref.isWhole_whole _) mB (Memref.isWhole_whole _)
    mH1 (Memref.isWhole_whole _) mC1 (Memref.isWhole_whole _) mH2 (Memref.isWhole_whole _) mC2 (Memref.isWhole_whole _) mH3 (Memref.isWhole_whole _) mC3 (Memref.isWhole_whole _) mT (Memref.isWhole_whole _) cc0_scratch9 cc0_scratch10 cc0_scoped0
    r.1 r.2.1 r.2.2.1 r.2.2.2.1 r.2.2.2.2.1 r.2.2.2.2.2 >>= cont2 d i r.1 r.2.1

/-- The body is its four stretches and the tail, one after the other. -/
theorem body_eq (d : Dev nD) (i : grid0.Coords) :
    (cc0__sc_thresh_body i mX (Memref.isWhole_whole _) mO (Memref.isWhole_whole _) mA (Memref.isWhole_whole _) mB (Memref.isWhole_whole _)
    mH1 (Memref.isWhole_whole _) mC1 (Memref.isWhole_whole _) mH2 (Memref.isWhole_whole _) mC2 (Memref.isWhole_whole _) mH3 (Memref.isWhole_whole _) mC3 (Memref.isWhole_whole _) mT (Memref.isWhole_whole _) cc0_scratch9 cc0_scratch10 cc0_scoped0 :
      Prog (TpuEff nD τ sig (Elt F) Λ₀ (thr d i).2) PUnit)
      = (k0_part234 i mX (Memref.isWhole_whole _) mO (Memref.isWhole_whole _) mA (Memref.isWhole_whole _) mB (Memref.isWhole_whole _)
    mH1 (Memref.isWhole_whole _) mC1 (Memref.isWhole_whole _) mH2 (Memref.isWhole_whole _) mC2 (Memref.isWhole_whole _) mH3 (Memref.isWhole_whole _) mC3 (Memref.isWhole_whole _) mT (Memref.isWhole_whole _) cc0_scratch9 cc0_scratch10 cc0_scoped0 >>= cont1 d i) := rfl

/-- What the tile holds at its end. -/
abbrev tileEnd (d : Dev nD) (i : grid0.Coords) (rA rB : Vec F S32768 .f32) (fX : Buf (Elt F) (mX.view.loc (thr d i))) (fO : Buf (Elt F) (mO.view.loc (thr d i)))
    (O : CellTallies nD τ sig (HIx 1)) (W : Waits sig (HIx 1)) : sProp (𝕄 F) :=
  iprop(∃ TA TB : ℕ, ⌜Found rA TA⌝ ∗ ⌜Found rB TB⌝
      ∗ ((rowA i).view.loc (thr d i) ↦[(rowA i).view.set]{fullShare} fX)
      ∗ ((rowB i).view.loc (thr d i) ↦[(rowB i).view.set]{fullShare} fX)
      ∗ ((outR i).view.loc (thr d i) ↦[(outR i).view.set]{fullShare} ((outR i).view.write (Elt F) fO (outVec F TA TB) Finset.univ : Buf (Elt F) (mO.view.loc (thr d i))))
      ∗ (∃ f, mA.view.loc (thr d i) ↦{fullShare} f)
      ∗ (∃ f, mB.view.loc (thr d i) ↦{fullShare} f)
      ∗ (∃ f, mH1.view.loc (thr d i) ↦{fullShare} f)
      ∗ (∃ f, mC1.view.loc (thr d i) ↦{fullShare} f)
      ∗ (∃ f, mH2.view.loc (thr d i) ↦{fullShare} f)
      ∗ (∃ f, mC2.view.loc (thr d i) ↦{fullShare} f)
      ∗ (∃ f, mH3.view.loc (thr d i) ↦{fullShare} f)
      ∗ (∃ f, mC3.view.loc (thr d i) ↦{fullShare} f)
      ∗ (∃ f, mT.view.loc (thr d i) ↦{fullShare} f)
      ∗ semVal (thr d i, SemLoc.dma cc0_scratch9.sem) 0
      ∗ semVal (thr d i, SemLoc.dma cc0_scratch10.sem) 0
      ∗ semVal (thr d i, SemLoc.dma cc0_scoped0.sem) 0
      ∗ ∃ W', ⌜∀ p ∈ W', p ∈ W ∨ p.2 = none⌝ ∗ owes (thr d i) O W')

/-- What the tile holds besides its scratch arrays and rows. -/
abbrev side (d : Dev nD) (i : grid0.Coords) (f12 : Buf (Elt F) (mT.view.loc (thr d i))) (fO : Buf (Elt F) (mO.view.loc (thr d i))) : sProp (𝕄 F) :=
  iprop((mT.view.loc (thr d i) ↦{fullShare} f12) ∗ ((outR i).view.loc (thr d i) ↦[(outR i).view.set]{fullShare} fO)
    ∗ semVal (thr d i, SemLoc.dma cc0_scoped0.sem) 0)

/-- A run of one stretch and then the rest. -/
theorem wp_seq (d : Dev nD) (i : grid0.Coords) {α : Type} {p : Prog (TpuEff nD τ sig (Elt F) Λ₀ (thr d i).2) α} {k : α → Prog (TpuEff nD τ sig (Elt F) Λ₀ (thr d i).2) PUnit} {P : sProp (𝕄 F)} {Q : PUnit → sProp (𝕄 F)}
    (h : P ⊢ wp frame (wpE (defs₀ (F := F)) 𝒱₀ (thr d i) none) Set.univ p fun r => wp frame (wpE (defs₀ (F := F)) 𝒱₀ (thr d i) none) Set.univ (k r) Q) :
    P ⊢ wp frame (wpE (defs₀ (F := F)) 𝒱₀ (thr d i) none) Set.univ (p >>= k) Q := by
  rw [wp_bind]; exact h

set_option maxHeartbeats 1600000 in
/-- The tail: the two words put in one vector and copied to the tile's output row. -/
theorem run_tail (d : Dev nD) (i : grid0.Coords) (rA rB : Vec F S32768 .f32) (fX : Buf (Elt F) (mX.view.loc (thr d i)))
    (f12 : Buf (Elt F) (mT.view.loc (thr d i))) (fO : Buf (Elt F) (mO.view.loc (thr d i)))
    (O : CellTallies nD τ sig (HIx 1)) (W : Waits sig (HIx 1)) (TA TB : ℕ) (hTA : Found rA TA) (hTB : Found rB TB) :
    mid4 d i (kept d i rA fX O W (side d i f12 fO))
      ⊢ wp frame (wpE (defs₀ (F := F)) 𝒱₀ (thr d i) none) Set.univ (tail d i lane (BitVec.ofNat 32 TA) (BitVec.ofNat 32 TB) 0#32) fun _ => tileEnd d i rA rB fX fO O W := by
  dsimp -zeta -proj only [tail]
  iintro ⟨HB, H1, HC1, H2, HC2, H3, HC3, Hmw, HXA, HXB, HA, Hs9, Hs10, HO, HT, Hout, Hs0⟩
  sl_exec
  sl_step
  unfold run_tail.sl.dma2
  have hw : ReadAs.same.apply (mT.view.read (Elt F) (mT.view.writes (Elt F) f12 (run_tail.sl.HT_1 TA TB))) = outVec F TA TB :=
    (read_T (F := F) d i f12 _).trans (sel_outVec TA TB)
  ihave Hout := (Entails.of_eq (pointsTo_congr (fun x hx => (congrArg (fun w => (outR i).view.writes (Elt F) fO [⟨Rect.whole S16, w⟩] x) hw).trans (out_writes i fO _ x hx)))) $$ Hout
  unfold tileEnd
  iexists TA, TB
  isplitr
  · ipureintro; exact hTA
  isplitr
  · ipureintro; exact hTB
  isplitl [HXA]; · iexact HXA
  isplitl [HXB]; · iexact HXB
  isplitl [Hout]; · iexact Hout
  isplitl [HA]
  · iexists _
    iexact HA
  isplitl [HB]; · iexact HB
  isplitl [H1]; · iexact H1
  isplitl [HC1]; · iexact HC1
  isplitl [H2]; · iexact H2
  isplitl [HC2]; · iexact HC2
  isplitl [H3]; · iexact H3
  isplitl [HC3]; · iexact HC3
  isplitl [HT]
  · iexists _
    iexact HT
  isplitl [Hs9]; · iexact Hs9
  isplitl [Hs10]; · iexact Hs10
  isplitl [Hs0]; · iexact Hs0
  iexists _
  isplitr
  swap
  · iexact HO
  · ipureintro
    intro p hp
    rcases Finset.mem_insert.1 hp with rfl | hp
    · exact .inr rfl
    rcases Finset.mem_insert.1 hp with rfl | hp
    · exact .inr rfl
    rcases Finset.mem_insert.1 hp with rfl | hp
    · exact .inr rfl
    · exact .inl hp

/-- The fourth stretch and the tail. -/
theorem run_cont3 (d : Dev nD) (i : grid0.Coords) (rB : Vec F S32768 .f32) (hB : Nonneg rB) (R : sProp (𝕄 F)) (Q : PUnit → sProp (𝕄 F)) (TA : ℕ)
    (hQ : ∀ TB, Found rB TB → mid4 d i R ⊢ wp frame (wpE (defs₀ (F := F)) 𝒱₀ (thr d i) none) Set.univ (tail d i lane (BitVec.ofNat 32 TA) (BitVec.ofNat 32 TB) 0#32) Q)
    (b1 : ℕ) (g : Buf (Elt F) (mC2.view.loc (thr d i))) (f11 : Buf (Elt F) (mC3.view.loc (thr d i))) (hL1 : Lev1 rB b1) (hg : Below (coarse (tab2 rB b1 32768)) 48 (mC2.view.read (Elt F) g)) :
    mid3 d i rB R b1 g f11 ⊢ wp frame (wpE (defs₀ (F := F)) 𝒱₀ (thr d i) none) Set.univ (cont3 d i lane ones (BitVec.ofNat 32 TA) (out3 F rB b1)) Q := by
  unfold cont3
  refine wp_seq d i ?_
  dsimp -zeta -proj only [out3]
  have h := run237 d i rB hB b1 hL1 g hg f11 R (fun r => wp frame (wpE (defs₀ (F := F)) 𝒱₀ (thr d i) none) Set.univ (tail d i lane (BitVec.ofNat 32 TA) r.1 r.2) Q) hQ
  with_reducible exact h

/-- The third stretch and what follows. -/
theorem run_cont2 (d : Dev nD) (i : grid0.Coords) (rB : Vec F S32768 .f32) (hB : Nonneg rB) (R : sProp (𝕄 F)) (Q : PUnit → sProp (𝕄 F)) (TA : ℕ)
    (hQ : ∀ TB, Found rB TB → mid4 d i R ⊢ wp frame (wpE (defs₀ (F := F)) 𝒱₀ (thr d i) none) Set.univ (tail d i lane (BitVec.ofNat 32 TA) (BitVec.ofNat 32 TB) 0#32) Q)
    (g : Buf (Elt F) (mC1.view.loc (thr d i))) (f9 : Buf (Elt F) (mC2.view.loc (thr d i))) (f11 : Buf (Elt F) (mC3.view.loc (thr d i)))
    (hg : Below (coarse (tab1 rB 32768)) 16 (mC1.view.read (Elt F) g)) :
    mid2 d i rB R g f9 f11 ⊢ wp frame (wpE (defs₀ (F := F)) 𝒱₀ (thr d i) none) Set.univ (cont2 d i lane ones (out2 F TA rB)) Q := by
  unfold cont2
  refine wp_seq d i ?_
  dsimp -zeta -proj only [out2]
  have h := run236 d i rB hB g hg f9 f11 R (fun r => wp frame (wpE (defs₀ (F := F)) 𝒱₀ (thr d i) none) Set.univ (cont3 d i lane ones (BitVec.ofNat 32 TA) r) Q) (fun b1 g hL1 hg => run_cont3 d i rB hB R Q TA hQ b1 g f11 hL1 hg)
  with_reducible exact h

/-- The second stretch and what follows. -/
theorem run_cont1 (d : Dev nD) (i : grid0.Coords) (rA rB : Vec F S32768 .f32) (hA : Nonneg rA) (hB : Nonneg rB) (fX : Buf (Elt F) (mX.view.loc (thr d i)))
    (O : CellTallies nD τ sig (HIx 1)) (W : Waits sig (HIx 1)) (R : sProp (𝕄 F)) (Q : PUnit → sProp (𝕄 F))
    (hQ : ∀ TA TB, Found rA TA → Found rB TB → mid4 d i (kept d i rA fX O W R) ⊢ wp frame (wpE (defs₀ (F := F)) 𝒱₀ (thr d i) none) Set.univ (tail d i lane (BitVec.ofNat 32 TA) (BitVec.ofNat 32 TB) 0#32) Q)
    (b1 : ℕ) (g : Buf (Elt F) (mC2.view.loc (thr d i))) (f11 : Buf (Elt F) (mC3.view.loc (thr d i))) (hL1 : Lev1 rA b1) (hg : Below (coarse (tab2 rA b1 32768)) 16 (mC2.view.read (Elt F) g)) :
    mid1 d i rA rB fX O W R b1 g f11 ⊢ wp frame (wpE (defs₀ (F := F)) 𝒱₀ (thr d i) none) Set.univ (cont1 d i (out1 F rA b1)) Q := by
  unfold cont1
  refine wp_seq d i ?_
  dsimp -zeta -proj only [out1]
  have h := run235 d i rA rB hA hB fX b1 hL1 g hg f11 O W R (fun r => wp frame (wpE (defs₀ (F := F)) 𝒱₀ (thr d i) none) Set.univ (cont2 d i lane ones r) Q)
    (fun TA g f9 f11 hTA hg => run_cont2 d i rB hB (kept d i rA fX O W R) Q TA (fun TB hTB => hQ TA TB hTA hTB) g f9 f11 hg)
  with_reducible exact h

/-- The tile's body, from its two rows of the input and its row of the output to that row at the two words. -/
theorem tile_run (d : Dev nD) (i : grid0.Coords) (rA rB : Vec F S32768 .f32) (hA : Nonneg rA) (hB : Nonneg rB) (fX : Buf (Elt F) (mX.view.loc (thr d i)))
    (hrA : (rowA i).view.read (Elt F) fX = rA) (hrB : (rowB i).view.read (Elt F) fX = rB)
    (f4 : Buf (Elt F) (mA.view.loc (thr d i))) (f5 : Buf (Elt F) (mB.view.loc (thr d i)))
    (f6 : Buf (Elt F) (mH1.view.loc (thr d i))) (f7 : Buf (Elt F) (mC1.view.loc (thr d i))) (f8 : Buf (Elt F) (mH2.view.loc (thr d i)))
    (f9 : Buf (Elt F) (mC2.view.loc (thr d i))) (f10 : Buf (Elt F) (mH3.view.loc (thr d i))) (f11 : Buf (Elt F) (mC3.view.loc (thr d i)))
    (f12 : Buf (Elt F) (mT.view.loc (thr d i))) (fO : Buf (Elt F) (mO.view.loc (thr d i)))
    (O : CellTallies nD τ sig (HIx 1)) (W : Waits sig (HIx 1)) :
    iprop(Transfers.MayWaits (thr d i) (none : HIx 1) O ∗ ((rowA i).view.loc (thr d i) ↦[(rowA i).view.set]{fullShare} fX)
    ∗ ((rowB i).view.loc (thr d i) ↦[(rowB i).view.set]{fullShare} fX)
    ∗ (mA.view.loc (thr d i) ↦{fullShare} f4)
    ∗ (mB.view.loc (thr d i) ↦{fullShare} f5)
    ∗ (mH1.view.loc (thr d i) ↦{fullShare} f6)
    ∗ (mC1.view.loc (thr d i) ↦{fullShare} f7)
    ∗ (mH2.view.loc (thr d i) ↦{fullShare} f8)
    ∗ (mC2.view.loc (thr d i) ↦{fullShare} f9)
    ∗ (mH3.view.loc (thr d i) ↦{fullShare} f10)
    ∗ (mC3.view.loc (thr d i) ↦{fullShare} f11)
    ∗ semVal (thr d i, SemLoc.dma cc0_scratch9.sem) 0
    ∗ semVal (thr d i, SemLoc.dma cc0_scratch10.sem) 0
    ∗ owes (thr d i) O W
    ∗ (mT.view.loc (thr d i) ↦{fullShare} f12) ∗ ((outR i).view.loc (thr d i) ↦[(outR i).view.set]{fullShare} fO)
    ∗ semVal (thr d i, SemLoc.dma cc0_scoped0.sem) 0)
    ⊢ wp frame (wpE (defs₀ (F := F)) 𝒱₀ (thr d i) none) Set.univ
   (cc0__sc_thresh_body i mX (Memref.isWhole_whole _) mO (Memref.isWhole_whole _) mA (Memref.isWhole_whole _) mB (Memref.isWhole_whole _)
    mH1 (Memref.isWhole_whole _) mC1 (Memref.isWhole_whole _) mH2 (Memref.isWhole_whole _) mC2 (Memref.isWhole_whole _) mH3 (Memref.isWhole_whole _) mC3 (Memref.isWhole_whole _) mT (Memref.isWhole_whole _) cc0_scratch9 cc0_scratch10 cc0_scoped0)
    fun _ => tileEnd d i rA rB fX fO O W := by
  refine BI.Entails.trans ?_ (Entails.of_eq (congrArg (fun p => wp frame (wpE (defs₀ (F := F)) 𝒱₀ (thr d i) none) Set.univ p fun _ => tileEnd d i rA rB fX fO O W) (body_eq d i).symm))
  have h := run234 d i rA rB hA fX hrA hrB f4 f5 f6 f7 f8 f9 f10 f11 O W (side d i f12 fO)
    (fun r => wp frame (wpE (defs₀ (F := F)) 𝒱₀ (thr d i) none) Set.univ (cont1 d i r) fun _ => tileEnd d i rA rB fX fO O W) fun b1 g hL1 hg =>
    run_cont1 d i rA rB hA hB fX O W (side d i f12 fO) _ (fun TA TB hTA hTB => run_tail d i rA rB fX f12 fO O W TA TB hTA hTB) b1 g f11 hL1 hg
  exact wp_seq d i h

end Cert.Proof.Tile

end
-- ==== Proof.Launch.lean ====
/-
  The launch: what the handshakes carry between the TensorCore, the SparseCores and their tiles, and what each tile
  leaves. Every tile gives back its rows of the input as they were and its row of the output at the array's value.
-/
module

public import proofs.«01_k».proof.Proof.Tile

@[expose] public section

noncomputable section

namespace Cert.Proof.Tile

open Cert.Kernel Cert.Kernel.Gen Cert.Proof.Counts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

/-- The launch semaphores are distinct and unscoped, and no buffer a tile shares is a core's own. -/
theorem facts : (K F).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-- The input's array on device `d`. -/
abbrev xLoc (d : Dev nD) : Loc nD τ sig := (SparseCore.T d).loc main_arg0
/-- The call's output on device `d`. -/
abbrev oLoc (d : Dev nD) : Loc nD τ sig := (SparseCore.T d).loc main_v0

/-- The input's words all have their sign bit clear. -/
def PreOK : Prop := ∀ (d : Dev nD) (n : Fin 64), Nonneg (rowOf (m (xLoc d)) n)

/-! ## What the handshakes carry -/

/-- What core `c` takes: the rows its tiles read, and the rows they write. -/
abbrev forCore (d : Dev nD) (c : ℕ) (f : Buf (Elt F) (oLoc d)) : sProp (𝕄 F) :=
  iprop((xLoc d ↦[XC c]{fullShare} m (xLoc d)) ∗ (oLoc d ↦[OC c]{fullShare} f))
/-- What tile `s` of core `c` takes: the rows it reads, and the row it writes. -/
abbrev forTile (d : Dev nD) (c s : ℕ) (f : Buf (Elt F) (oLoc d)) : sProp (𝕄 F) :=
  iprop((xLoc d ↦[XS c s]{fullShare} m (xLoc d)) ∗ (oLoc d ↦[OS c s]{fullShare} f))

/-- The call's resources: each core's and each tile's rows, out at their launch contents and back with the output's at
    the array's value. -/
def P : (K F).Pay (nD := nD) (Val := Elt F) (Name := ℕ) (U := UU) where
  st := fun q d c => match q with | 0 => forCore m d c.val (m (oLoc d))
  dn := fun q d c => match q with | 0 => forCore m d c.val (outArr (m (xLoc d)))
  go := fun q d c i => match q with | 0 => forTile m d c.val i.val (m (oLoc d))
  td := fun q d c i => match q with | 0 => forTile m d c.val i.val (outArr (m (xLoc d)))
  x := fun _ _ => iprop(emp)

instance P_storable : (P (F := F) m).IsStorable where
  st q d c := match q with
    | 0 => (inferInstance : BI.Storable (upEmb : UEmb _ (𝕄 F)) (forCore m d c.val (m (oLoc d))))
  dn q d c := match q with
    | 0 => (inferInstance : BI.Storable (upEmb : UEmb _ (𝕄 F)) (forCore m d c.val (outArr (m (xLoc d)))))
  go q d c i := match q with
    | 0 => (inferInstance : BI.Storable (upEmb : UEmb _ (𝕄 F)) (forTile m d c.val i.val (m (oLoc d))))
  td q d c i := match q with
    | 0 => (inferInstance : BI.Storable (upEmb : UEmb _ (𝕄 F)) (forTile m d c.val i.val (outArr (m (xLoc d)))))

/-! ## A tile's own buffers and semaphores -/

/-- A product over a set, with the members of a list taken out one after the other. -/
theorem bigSep_list {ι : Type} [DecidableEq ι] (Φ : ι → sProp (𝕄 F)) : ∀ (l : List ι) (s : Finset ι), l.Nodup → (∀ x ∈ l, x ∈ s) →
    ∃ R : sProp (𝕄 F), bigSep s Φ = l.foldr (fun x Q => iprop(Φ x ∗ Q)) R
  | [], s, _, _ => ⟨bigSep s Φ, rfl⟩
  | x :: l, s, hn, hs => by
    obtain ⟨R, hR⟩ := bigSep_list Φ l (s.erase x) (List.nodup_cons.1 hn).2 fun y hy =>
      Finset.mem_erase.2 ⟨fun e => (List.nodup_cons.1 hn).1 (e ▸ hy), hs y (List.mem_cons_of_mem _ hy)⟩
    exact ⟨R, (SparseCore.bigSep_erase' (hs x List.mem_cons_self)).trans (congrArg (fun Q => iprop(Φ x ∗ Q)) hR)⟩

/-- The tile's scratch buffers. -/
def scratchRefs : List (Ref sig .scVector) :=
  [cc0_scratch0, cc0_scratch1, cc0_scratch2, cc0_scratch3, cc0_scratch4, cc0_scratch5, cc0_scratch6, cc0_scratch7, cc0_scratch8]
/-- The tile's transfer semaphores. -/
def scratchSems : List (SemLoc sig) := [.dma cc0_scratch9.sem, .dma cc0_scratch10.sem, .dma cc0_scoped0.sem]

/-- A tile's own buffers are its scratch buffers and the rest. -/
theorem ownBufs_V (d : Dev nD) (i : grid0.Coords) : ∃ R : sProp (𝕄 F), (ownBufs (thr d i) : sProp (𝕄 F))
    = iprop((∃ f, mA.view.loc (thr d i) ↦{fullShare} f) ∗ (∃ f, mB.view.loc (thr d i) ↦{fullShare} f) ∗ (∃ f, mH1.view.loc (thr d i) ↦{fullShare} f)
        ∗ (∃ f, mC1.view.loc (thr d i) ↦{fullShare} f) ∗ (∃ f, mH2.view.loc (thr d i) ↦{fullShare} f) ∗ (∃ f, mC2.view.loc (thr d i) ↦{fullShare} f)
        ∗ (∃ f, mH3.view.loc (thr d i) ↦{fullShare} f) ∗ (∃ f, mC3.view.loc (thr d i) ↦{fullShare} f) ∗ (∃ f, mT.view.loc (thr d i) ↦{fullShare} f) ∗ R) := by
  obtain ⟨R, h⟩ := bigSep_list (F := F) (fun b => iprop(∃ f, (((thr d i).1, b) : Loc nD τ sig) ↦{fullShare} f))
    (scratchRefs.map (Proc.scVector (cV i) (jV i)).devRef) (ownRefs (τ := τ) (.scVector (cV i) (jV i)))
    (List.Nodup.map (Proc.devRef_injective _) (show scratchRefs.Nodup by decide)) (by
      intro x hx
      obtain ⟨r, hr, rfl⟩ := List.mem_map.1 hx
      refine SparseCore.Cfg.mem_ownRefs_of_owner ?_
      fin_cases hr <;> rfl)
  exact ⟨R, h⟩

/-- A tile's own semaphores are its transfers' and the rest. -/
theorem ownSems0_V (d : Dev nD) (i : grid0.Coords) : ∃ R : sProp (𝕄 F), (ownSems0 (thr d i) : sProp (𝕄 F))
    = iprop(semVal (thr d i, SemLoc.dma cc0_scratch9.sem) 0 ∗ semVal (thr d i, SemLoc.dma cc0_scratch10.sem) 0 ∗ semVal (thr d i, SemLoc.dma cc0_scoped0.sem) 0 ∗ R) := by
  obtain ⟨R, h⟩ := bigSep_list (F := F) (fun g => semVal g 0) (scratchSems.map fun s => ((thr d i, s) : GSem nD τ sig)) (ownCells (thr d i))
    (List.Nodup.map (fun _ _ e => (Prod.mk.inj e).2) (show scratchSems.Nodup by decide)) (by
      intro x hx
      obtain ⟨r, hr, rfl⟩ := List.mem_map.1 hx
      have hall : ∀ r ∈ scratchSems, r.isScoped .scVector = true := by decide
      exact mem_ownCells.2 ⟨rfl, hall r hr⟩)
  exact ⟨R, h⟩

/-! ## The tile -/

/-- A tile's part of the input is its two rows. -/
theorem pts_rows (d : Dev nD) (i : grid0.Coords) (f : Buf (Elt F) (xLoc d)) :
    (xLoc d ↦[XS (i 0).val (i 1).val]{fullShare} f : sProp (𝕄 F))
      = iprop(((rowA i).view.loc (thr d i) ↦[(rowA i).view.set]{fullShare} f) ∗ ((rowB i).view.loc (thr d i) ↦[(rowB i).view.set]{fullShare} f)) := by
  have h : (xLoc d ↦[(rowA i).view.set ∪ (rowB i).view.set]{fullShare} f : sProp (𝕄 F)) ⊣⊢ iprop((xLoc d ↦[(rowA i).view.set]{fullShare} f) ∗ (xLoc d ↦[(rowB i).view.set]{fullShare} f)) :=
    pointsTo_union (rows_disjoint i)
  exact (congrArg (fun I => (xLoc d ↦[I]{fullShare} f : sProp (𝕄 F))) (XS_eq i)).trans (BI.Entails.antisymm h.1 h.2)
/-- A tile's part of the output is its row. -/
theorem pts_out (d : Dev nD) (i : grid0.Coords) (f : Buf (Elt F) (oLoc d)) :
    (oLoc d ↦[OS (i 0).val (i 1).val]{fullShare} f : sProp (𝕄 F)) = ((outR i).view.loc (thr d i) ↦[(outR i).view.set]{fullShare} f) :=
  congrArg (fun I => (oLoc d ↦[I]{fullShare} f : sProp (𝕄 F))) (OS_eq i)

/-- The task on tile `i` of device `d`: from its rows, its buffers and its semaphores, to the same with its row of the
    output at the array's value. -/
theorem tile_body (hpre : PreOK m) (d : Dev nD) (i : grid0.Coords) (O : CellTallies nD τ sig (HIx 1)) (W : Waits sig (HIx 1)) (hO : ∀ g, O g none = 0) :
    iprop(levAts (K F).L (K F).lev ∗ emp ∗ forTile m d (i 0).val (i 1).val (m (oLoc d))
        ∗ scopedBufs (thr d i) ∗ scopedSems0 (thr d i) ∗ owes (thr d i) O W)
      ⊢ wp frame (wpE (defs₀ (F := F)) 𝒱₀ (thr d i) none) Set.univ
          (cc0__sc_thresh_body i mX (Memref.isWhole_whole _) mO (Memref.isWhole_whole _) mA (Memref.isWhole_whole _) mB (Memref.isWhole_whole _)
            mH1 (Memref.isWhole_whole _) mC1 (Memref.isWhole_whole _) mH2 (Memref.isWhole_whole _) mC2 (Memref.isWhole_whole _) mH3 (Memref.isWhole_whole _) mC3 (Memref.isWhole_whole _) mT (Memref.isWhole_whole _) cc0_scratch9 cc0_scratch10 cc0_scoped0)
          fun _ => (iprop(forTile m d (i 0).val (i 1).val (outArr (m (xLoc d)))
            ∗ scopedBufs (thr d i) ∗ scopedSems0 (thr d i)
            ∗ ∃ W', ⌜∀ p ∈ W', p ∈ W ∨ p.2 = none⌝ ∗ owes (thr d i) O W') : sProp (𝕄 F)) := by
  obtain ⟨RB, hB⟩ := ownBufs_V (F := F) d i
  obtain ⟨RS, hS⟩ := ownSems0_V (F := F) d i
  have hrun := fun f4 f5 f6 f7 f8 f9 f10 f11 f12 => tile_run d i (rowOf (m (xLoc d)) ⟨_, rowA_lt i⟩) (rowOf (m (xLoc d)) ⟨_, rowB_lt i⟩) (hpre d _) (hpre d _)
    (m (xLoc d)) (read_rowA i _) (read_rowB i _) f4 f5 f6 f7 f8 f9 f10 f11 f12 (m (oLoc d)) O W
  rw [(K F).scopedBufs_V facts d (cV i) (jV i), SparseCore.Cfg.scopedSems0_V (Val := Elt F) d (cV i) (jV i), hS, hB]
  unfold forTile
  rw [pts_rows, pts_out, pts_out]
  iintro ⟨#Hlv, -, ⟨⟨HXA, HXB⟩, Ho⟩, ⟨⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, Hbufs⟩, ⟨Hs9, Hs10, Hs0, Hsems⟩, HO⟩
  ihave Hmw := (show levAts (K F).L (K F).lev ⊢ Transfers.MayWaits (thr d i) (none : HIx 1) O from
    (K F).mayWaits_none (thr := thr d i) hO) $$ Hlv
  iapply (wp_wand_r frame _ _)
  isplitr [Hbufs Hsems]
  · iapply (hrun f4 f5 f6 f7 f8 f9 f10 f11 f12)
    isplitl [Hmw]; · iexact Hmw
    isplitl [HXA]; · iexact HXA
    isplitl [HXB]; · iexact HXB
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hs9]; · iexact Hs9
    isplitl [Hs10]; · iexact Hs10
    isplitl [HO]; · iexact HO
    isplitl [H12]; · iexact H12
    isplitl [Ho]; · iexact Ho
    iexact Hs0
  iintro %_ H
  unfold tileEnd
  icases H with ⟨%TA, %TB, %hTA, %hTB, HXA, HXB, Ho, H4, H5, H6, H7, H8, H9, H10, H11, H12, Hs9, Hs10, Hs0, HO⟩
  have eA : kth (rowOf (m (xLoc d)) ⟨_, rowA_lt i⟩) = TA := kth_eq (found_kth (hpre d _) hTA)
  have eB : kth (rowOf (m (xLoc d)) ⟨_, rowB_lt i⟩) = TB := kth_eq (found_kth (hpre d _) hTB)
  subst eA eB
  ihave Ho' := (Entails.of_eq (pointsTo_congr (fun x hx => (outArr_row i (m (xLoc d)) (m (oLoc d)) x hx).symm))) $$ Ho
  isplitl [HXA HXB Ho']
  · isplitl [HXA HXB]
    · isplitl [HXA]; · iexact HXA
      iexact HXB
    iexact Ho'
  isplitl [H4 H5 H6 H7 H8 H9 H10 H11 H12 Hbufs]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact Hbufs
  isplitl [Hs9 Hs10 Hs0 Hsems]
  · isplitl [Hs9]; · iexact Hs9
    isplitl [Hs10]; · iexact Hs10
    isplitl [Hs0]; · iexact Hs0
    iexact Hsems
  iexact HO

/-! ## The obligation -/

/-- The coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The function that a tile runs is the body at the tile's grid position. -/
theorem defs₀_vector (c : Fin τ.nSC) (s : Fin τ.nSub) :
    defs₀ (F := F) (.scVector c s) 0 ()
      = SparseCore.onTile hcore0 hsub0 (fun c s => cc0__sc_thresh_body (coordsV c s) mX (Memref.isWhole_whole _) mO (Memref.isWhole_whole _) mA (Memref.isWhole_whole _) mB (Memref.isWhole_whole _)
            mH1 (Memref.isWhole_whole _) mC1 (Memref.isWhole_whole _) mH2 (Memref.isWhole_whole _) mC2 (Memref.isWhole_whole _) mH3 (Memref.isWhole_whole _) mC3 (Memref.isWhole_whole _) mT (Memref.isWhole_whole _) cc0_scratch9 cc0_scratch10 cc0_scoped0) ⟨⟩ c s := rfl

/-- The waits a task records are among those the launch allows. -/
theorem obl_post {t : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- What the launch asks of the tiles. -/
theorem tileObl (hpre : PreOK m) : (K F).TileObl (D F) 𝒱 (P m) v₀ 0 := by
  intro d c i O W hO _ _
  simp only [show (P m).ox = fun _ _ => 0 from rfl, add_zero]
  have hci : ((K F).core 0 c).val < grid0.bound 0 ∧ ((K F).sub 0 i).val < grid0.bound 1 := ⟨c.isLt, i.isLt⟩
  change _ ⊢ wp _ _ _ (Pipeline.liftProg (defs₀ (F := F) (.scVector ((K F).core 0 c) ((K F).sub 0 i)) 0 ())) _
  refine BI.Entails.trans ?_ (Pipeline.wp_liftProg (D F) (Pipeline.defs_kernel pcfgs defs₀) 𝒱₀ _ Set.univ none _ _)
  rw [defs₀_vector]; simp only [SparseCore.onTile, hci, and_self, ↓reduceDIte]
  exact (tile_body m hpre d (coordsV ⟨_, hci.1⟩ ⟨_, hci.2⟩) O W hO).trans (wp_mono frame _ _ fun _ => obl_post)

/-! ## The rows split among the tiles and joined -/

/-- The tiles of a SparseCore, counted from 0 to 15. -/
theorem bigSep_tiles (Φ : ℕ → sProp (𝕄 F)) :
    (bigSep Finset.univ fun i : Fin ((K F).nSub 0) => Φ i.val) = bigSep Finset.univ fun s : Fin 16 => Φ s.val := rfl

/-- A SparseCore's part of the input, split among its tiles. -/
theorem pts_XC (d : Dev nD) (c : ℕ) (hc : c < 2) (f : Buf (Elt F) (xLoc d)) :
    (xLoc d ↦[XC c]{fullShare} f : sProp (𝕄 F)) = bigSep Finset.univ fun s : Fin 16 => xLoc d ↦[XS c s.val]{fullShare} f := by
  rw [← pointsTo_biUnion Finset.univ (ℓ := xLoc d) (fun s : Fin 16 => XS c s.val) (fun s _ s' _ h => XS_disjoint c s s' h)]
  exact congrArg (fun I => (xLoc d ↦[I]{fullShare} f : sProp (𝕄 F))) (XS_cover c hc)
/-- A SparseCore's part of the output, split among its tiles. -/
theorem pts_OC (d : Dev nD) (c : ℕ) (hc : c < 2) (f : Buf (Elt F) (oLoc d)) :
    (oLoc d ↦[OC c]{fullShare} f : sProp (𝕄 F)) = bigSep Finset.univ fun s : Fin 16 => oLoc d ↦[OS c s.val]{fullShare} f := by
  rw [← pointsTo_biUnion Finset.univ (ℓ := oLoc d) (fun s : Fin 16 => OS c s.val) (fun s _ s' _ h => OS_disjoint c s s' h)]
  exact congrArg (fun I => (oLoc d ↦[I]{fullShare} f : sProp (𝕄 F))) (OS_cover c hc)

/-- A core's rows are its tiles' rows. -/
theorem forCore_eq (d : Dev nD) (c : ℕ) (hc : c < 2) (f : Buf (Elt F) (oLoc d)) :
    forCore m d c f = bigSep Finset.univ fun s : Fin 16 => forTile m d c s.val f := by
  unfold forCore forTile
  rw [pts_XC d c hc, pts_OC d c hc, bigSep_sep']

/-- A core hands its rows to its tiles and takes them back. -/
theorem vecSplit : (K F).VecSplit' (P m) 0 := by
  intro d c
  show forCore m d c.val (m (oLoc d)) ⊢ |={Set.univ}=> iprop(
      (bigSep Finset.univ fun i : Fin ((K F).nSub 0) => forTile m d c.val i.val (m (oLoc d)))
      ∗ ((bigSep Finset.univ fun i : Fin ((K F).nSub 0) => forTile m d c.val i.val (outArr (m (xLoc d))))
          -∗ forCore m d c.val (outArr (m (xLoc d)))))
  rw [bigSep_tiles (F := F) (fun i => forTile m d c.val i (m (oLoc d))), bigSep_tiles (F := F) (fun i => forTile m d c.val i (outArr (m (xLoc d)))),
    forCore_eq m d c.val c.isLt, forCore_eq m d c.val c.isLt]
  iintro H; imodintro
  isplitl [H]; · iexact H
  iintro H
  iexact H

end Cert.Proof.Tile

end
-- ==== Proof.Main.lean ====
/-
  The program's run: the call from the input and the output array, the slice, the reshape and the broadcast after it;
  the input ends unchanged, the result is the call's array through those three.
-/
module

public import proofs.«01_k».proof.Proof.Launch

@[expose] public section

noncomputable section

namespace Cert.Proof.Tile

open Cert.Kernel Cert.Kernel.Gen Cert.Proof.Counts
open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]
variable (m : (ℓ : Loc nD τ sig) → Buf (Elt F) ℓ) (ρ : Dev nD → PrngReg)

/-! ## The launch's ghost state -/

/-- The handshakes' cells and tokens; no transfer counted yet. -/
def u₀ : UU := (initOf (K F).hsCells (K F).hsToks, 1)

/-- Nothing, many times over, is nothing. -/
theorem bigSep_emp' {I : Type} (s : Finset I) : (bigSep s fun _ => iprop(emp)) = (iprop(emp) : sProp (𝕄 F)) := bigSep_emp_const s

/-- The launch element gives the handshakes' cells and tokens. -/
theorem hu₀ : (ownU (u₀ (F := F)) : sProp (𝕄 F))
    ⊢ |={Set.univ}=> iprop(BI.own ((EH F) (initOf (K F).hsCells (K F).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K F).hsCells (K F).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's arrays -/

/-- The input. -/
abbrev bX : DevRef τ sig := Proc.devRef .tc (main_arg0 : Ref sig .tc)
/-- The call's output. -/
abbrev b0 : DevRef τ sig := Proc.devRef .tc (main_v0 : Ref sig .tc)
/-- Its first two columns. -/
abbrev b1 : DevRef τ sig := Proc.devRef .tc (main_v1 : Ref sig .tc)
/-- Those as one column. -/
abbrev b2 : DevRef τ sig := Proc.devRef .tc (main_v2 : Ref sig .tc)
/-- The result. -/
abbrev b3 : DevRef τ sig := Proc.devRef .tc (main_v3 : Ref sig .tc)
/-- The result's array on device `d`. -/
abbrev rLoc (d : Dev nD) : Loc nD τ sig := (SparseCore.T d).loc main_v3

/-- The slice after the call. -/
abbrev opSlice : HloOp τ sig (Elt F) :=
  StableHlo.unary main_v0 main_v1 ((extractStridedSlice S32x2 ![0, 0] · slices_S32x16_S32x2_0_0) : (⟨S32x16, .f32⟩ : BufTy).Contents (Elt F) → (⟨S32x2, .f32⟩ : BufTy).Contents (Elt F))
/-- The reshape after it. -/
abbrev opReshape : HloOp τ sig (Elt F) := StableHlo.reshape main_v1 main_v2 (rfl : (.f32 : EltTy) = .f32) shapeCasts_S32x2_S64x1
/-- The broadcast after that. -/
abbrev opBcast : HloOp τ sig (Elt F) :=
  StableHlo.unary main_v2 main_v3 (broadcastInDim S64x128 ![0, 1] bcast_S64x1_S64x128_0_1 : (⟨S64x1, .f32⟩ : BufTy).Contents (Elt F) → (⟨S64x128, .f32⟩ : BufTy).Contents (Elt F))

/-- The program's result: the call's first two columns, one word to a row, along the row. -/
def resArr (f : S64x32768.Idx → F .f32) : S64x128.Idx → F .f32 :=
  broadcastInDim S64x128 ![0, 1] bcast_S64x1_S64x128_0_1 (shapeCast S64x1 (extractStridedSlice S32x2 ![0, 0] (outArr f) slices_S32x16_S32x2_0_0) shapeCasts_S32x2_S64x1)

/-- The arrays of the program. -/
abbrev S5 : Finset (DevRef τ sig) := {bX, b0, b1, b2, b3}

/-- The five arrays, one by one. -/
theorem held_S5 (d : Dev nD) (W : Valuation τ sig (Elt F)) :
    (held (T d) S5 W : sProp (𝕄 F)) = iprop((xLoc d ↦{fullShare} W bX) ∗ (oLoc d ↦{fullShare} W b0) ∗ ((SparseCore.T d).loc main_v1 ↦{fullShare} W b1)
      ∗ ((SparseCore.T d).loc main_v2 ↦{fullShare} W b2) ∗ rLoc d ↦{fullShare} W b3) := by
  unfold held S5
  rw [SparseCore.bigSep_insert' (by decide), SparseCore.bigSep_insert' (by decide), SparseCore.bigSep_insert' (by decide), SparseCore.bigSep_insert' (by decide), bigSep_singleton]

/-- The arrays that a launch hands over, one by one. -/
theorem unscopedBufs_eq (d : Dev nD) (W : (b : Ref sig .tc) → Buf (Elt F) ((d.tc : Thread nD τ).loc b)) :
    (unscopedBufs d W : sProp (𝕄 F)) = iprop((xLoc d ↦{fullShare} W main_arg0) ∗ (oLoc d ↦{fullShare} W main_v0) ∗ ((SparseCore.T d).loc main_v1 ↦{fullShare} W main_v1)
      ∗ ((SparseCore.T d).loc main_v2 ↦{fullShare} W main_v2) ∗ rLoc d ↦{fullShare} W main_v3) := by
  unfold unscopedBufs
  rw [show (Finset.univ.filter fun b : Ref sig .tc => ¬ b.isScoped) = {main_arg0, main_v0, main_v1, main_v2, main_v3} by decide,
    SparseCore.bigSep_insert' (by decide), SparseCore.bigSep_insert' (by decide), SparseCore.bigSep_insert' (by decide), SparseCore.bigSep_insert' (by decide), bigSep_singleton]

/-- The arrays at the launch; after the call; after each operation. -/
def V0 (d : Dev nD) : Valuation τ sig (Elt F) := fun b => m (d, b)
/-- The arrays after the call. -/
def V1 (d : Dev nD) : Valuation τ sig (Elt F) := Function.update (V0 m d) b0 (outArr (m (xLoc d)))
/-- After the slice. -/
def V2 (d : Dev nD) : Valuation τ sig (Elt F) := (opSlice (F := F)).result (V1 m d)
/-- After the reshape. -/
def V3 (d : Dev nD) : Valuation τ sig (Elt F) := (opReshape (F := F)).result (V2 m d)
/-- After the broadcast. -/
def V4 (d : Dev nD) : Valuation τ sig (Elt F) := (opBcast (F := F)).result (V3 m d)

/-- The arrays that the launch hands over are at their initial contents. -/
theorem unscoped_held (d : Dev nD) : (unscopedBufs d (fun b => m ((SparseCore.T d).loc b)) : sProp (𝕄 F)) = held (T d) S5 (V0 m d) := by
  rw [unscopedBufs_eq, held_S5]; rfl

/-- After the call its output is in place. -/
theorem V1_b0 (d : Dev nD) : V1 m d b0 = outArr (m (xLoc d)) := Function.update_self _ _ _
/-- The call changes no other array. -/
theorem V1_ne (d : Dev nD) {b : DevRef τ sig} (h : b ≠ b0) : V1 m d b = m (d, b) := Function.update_of_ne h _ _

/-- The input is as it was. -/
theorem V4_x (d : Dev nD) : V4 m d bX = m (xLoc d) := by
  have h4 : V4 m d bX = V3 m d bX := HloOp.result_of_not_mem _ _ (show bX ∉ ({b3} : Finset (DevRef τ sig)) by decide)
  have h3 : V3 m d bX = V2 m d bX := HloOp.result_of_not_mem _ _ (show bX ∉ ({b2} : Finset (DevRef τ sig)) by decide)
  have h2 : V2 m d bX = V1 m d bX := HloOp.result_of_not_mem _ _ (show bX ∉ ({b1} : Finset (DevRef τ sig)) by decide)
  rw [h4, h3, h2, V1_ne m d (by decide)]
/-- The result. -/
theorem V4_r (d : Dev nD) : V4 m d b3 = resArr (m (xLoc d)) := by
  have h4 : V4 m d b3 = broadcastInDim S64x128 ![0, 1] bcast_S64x1_S64x128_0_1 (V3 m d b2) := StableHlo.unary_result _ _ _ _ _ _
  have h3 : V3 m d b2 = shapeCast S64x1 (V2 m d b1) shapeCasts_S32x2_S64x1 := StableHlo.reshape_result _ _ _ _ _ _ _
  have h2 : V2 m d b1 = extractStridedSlice S32x2 ![0, 0] (V1 m d b0) slices_S32x16_S32x2_0_0 := StableHlo.unary_result _ _ _ _ _ _
  rw [h4, h3, h2, V1_b0]; rfl

/-- The arrays at the end, one by one. -/
theorem held_V4 (d : Dev nD) : (held (T d) S5 ((opBcast (F := F)).result (V3 m d)) : sProp (𝕄 F))
    = iprop((xLoc d ↦{fullShare} m (xLoc d)) ∗ (oLoc d ↦{fullShare} V4 m d b0) ∗ ((SparseCore.T d).loc main_v1 ↦{fullShare} V4 m d b1)
      ∗ ((SparseCore.T d).loc main_v2 ↦{fullShare} V4 m d b2) ∗ rLoc d ↦{fullShare} resArr (m (xLoc d))) := by
  rw [← V4_r m d, ← V4_x m d]
  exact held_S5 d (V4 m d)

/-- The slice touches only these arrays. -/
theorem hSlice : (opSlice (F := F)).bufs ⊆ S5 := show ({b0, b1} : Finset (DevRef τ sig)) ⊆ S5 by decide
/-- So does the reshape. -/
theorem hReshape : (opReshape (F := F)).bufs ⊆ S5 := show ({b1, b2} : Finset (DevRef τ sig)) ⊆ S5 by decide
/-- So does the broadcast. -/
theorem hBcast : (opBcast (F := F)).bufs ⊆ S5 := show ({b2, b3} : Finset (DevRef τ sig)) ⊆ S5 by decide

/-! ## What the call takes and gives back -/

/-- Four assertions regrouped. -/
theorem sep_swap (A B C E : sProp (𝕄 F)) : iprop((A ∗ B) ∗ C ∗ E) ⊢ iprop((A ∗ C) ∗ B ∗ E) := by
  iintro ⟨⟨Ha, Hb⟩, Hc, Hd⟩
  isplitl [Ha Hc]
  · isplitl [Ha]; · iexact Ha
    iexact Hc
  · isplitl [Hb]; · iexact Hb
    iexact Hd

/-- The two SparseCores' parts are the whole input and output. -/
theorem pts_cores (d : Dev nD) (f : Buf (Elt F) (oLoc d)) :
    iprop(forCore m d 0 f ∗ forCore m d 1 f) = iprop((xLoc d ↦{fullShare} m (xLoc d)) ∗ (oLoc d ↦{fullShare} f)) := by
  have hx : (xLoc d ↦[XC 0 ∪ XC 1]{fullShare} m (xLoc d) : sProp (𝕄 F)) ⊣⊢ iprop((xLoc d ↦[XC 0]{fullShare} m (xLoc d)) ∗ (xLoc d ↦[XC 1]{fullShare} m (xLoc d))) :=
    pointsTo_union XC_disjoint
  have ho : (oLoc d ↦[OC 0 ∪ OC 1]{fullShare} f : sProp (𝕄 F)) ⊣⊢ iprop((oLoc d ↦[OC 0]{fullShare} f) ∗ (oLoc d ↦[OC 1]{fullShare} f)) :=
    pointsTo_union OC_disjoint
  have ex : (xLoc d ↦{fullShare} m (xLoc d) : sProp (𝕄 F)) = iprop((xLoc d ↦[XC 0]{fullShare} m (xLoc d)) ∗ (xLoc d ↦[XC 1]{fullShare} m (xLoc d))) :=
    (congrArg (fun I => (xLoc d ↦[I]{fullShare} m (xLoc d) : sProp (𝕄 F))) XC_cover).trans (BI.Entails.antisymm hx.1 hx.2)
  have eo : (oLoc d ↦{fullShare} f : sProp (𝕄 F)) = iprop((oLoc d ↦[OC 0]{fullShare} f) ∗ (oLoc d ↦[OC 1]{fullShare} f)) :=
    (congrArg (fun I => (oLoc d ↦[I]{fullShare} f : sProp (𝕄 F))) OC_cover).trans (BI.Entails.antisymm ho.1 ho.2)
  rw [ex, eo]
  unfold forCore
  exact BI.Entails.antisymm (sep_swap _ _ _ _) (sep_swap _ _ _ _)

/-- What the call takes: the input and the output as they were. -/
theorem st0_eq (d : Dev nD) : (bigSep Finset.univ fun c : Fin ((K F).nCore 0) => (P m).st 0 d c)
    = iprop((xLoc d ↦{fullShare} m (xLoc d)) ∗ (oLoc d ↦{fullShare} m (oLoc d))) := by
  show (bigSep (Finset.univ : Finset (Fin 2)) fun c => forCore m d c.val (m (oLoc d))) = _
  rw [show (Finset.univ : Finset (Fin 2)) = {0, 1} by decide, SparseCore.bigSep_insert' (by decide), bigSep_singleton]
  exact pts_cores m d _
/-- What the call gives back: the input as it was, the output filled. -/
theorem dn0_eq (d : Dev nD) : (bigSep Finset.univ fun c : Fin ((K F).nCore 0) => (P m).dn 0 d c)
    = iprop((xLoc d ↦{fullShare} m (xLoc d)) ∗ (oLoc d ↦{fullShare} outArr (m (xLoc d)))) := by
  show (bigSep (Finset.univ : Finset (Fin 2)) fun c => forCore m d c.val (outArr (m (xLoc d)))) = _
  rw [show (Finset.univ : Finset (Fin 2)) = {0, 1} by decide, SparseCore.bigSep_insert' (by decide), bigSep_singleton]
  exact pts_cores m d _

/-! ## The program on the TensorCore -/

/-- What the program ends with: the input unchanged, the result. -/
abbrev FIN (d : Dev nD) : sProp (𝕄 F) := iprop((xLoc d ↦{fullShare} m (xLoc d)) ∗ (rLoc d ↦{fullShare} resArr (m (xLoc d))))

/-- The program on device `d`: the call, the slice, the reshape, the broadcast. -/
theorem hmain (κ : GSem nD τ sig → ℕ) (d : Dev nD) :
    iprop((K F).ctx (EH F) (P m) κ ∗ (K F).tcSt (EH F) d 0 ∗ (K F).tcRes m ρ d ∗ emp)
      ⊢ wp frame (wpE ((K F).defs (D F)) 𝒱 (SparseCore.T d) none) Set.univ (main d)
          fun _ => iprop((K F).tcSt (EH F) d 1 ∗ FIN m d ∗ (K F).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  ihave Hh := (Entails.of_eq (held_S5 (F := F) d _)) $$ Hheld
  icases Hh with ⟨Hx, Ho, H1, H2, H3⟩
  iapply ((K F).wp_run (D F) 𝒱 (EH := EH F) (P := P m) κ d 0) $$ [Hst Hx Ho Hb H1 H2 H3 Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opSlice) (S := S5) hSlice (V := V1 m d)) $$ [Hb Hx Ho H1 H2 H3]
  · isplitl [Hb]; · iexact Hb
    rw [held_S5, V1_b0, V1_ne m d (by decide), V1_ne m d (by decide), V1_ne m d (by decide), V1_ne m d (by decide)]
    isplitl [Hx]; · iexact Hx
    isplitl [Ho]; · iexact Ho
    isplitl [H1]; · iexact H1
    isplitl [H2]; · iexact H2
    iexact H3
  iintro ⟨Hb, Hheld⟩
  rw [wp_ret]; imodintro
  iapply (wp_hlo_within 𝒱 (SparseCore.T d) none Set.univ (op := opReshape) (S := S5) hReshape (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := opBcast) (S := S5) hBcast (V := V3 m d)) $$ [Hb Hheld]
  · isplitl [Hb]; · iexact Hb
    iexact Hheld
  iintro ⟨Hb, Hheld⟩
  ihave Hh := (Entails.of_eq (held_V4 (F := F) m d)) $$ Hheld
  icases Hh with ⟨Hx, -, -, -, H3⟩
  rw [wp_ret]; imodintro; imodintro
  isplitl [Hst]; · iexact Hst
  isplitr [Hb Hts]
  · isplitl [Hx]; · iexact Hx
    iexact H3
  isplitl [Hb] <;> iassumption

/-- A final state's input and result on device `d`. -/
def fq (d : Dev nD) (s' : Phys nD τ sig (Elt F)) : Prop := s'.mem.mem (xLoc d) = m (xLoc d) ∧ s'.mem.mem (rLoc d) = resArr (m (xLoc d))

set_option maxRecDepth 16384 in
/-- What the program ends with is what the final memory holds. -/
theorem hfin (d : Dev nD) (s' : Phys nD τ sig (Elt F)) : iprop(FIN m d ∗ SI s') ⊢ (⌜fq m d s'⌝ : sProp (𝕄 F)) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := rLoc d) (I := Finset.univ) (q := fullShare) (f := resArr (m (xLoc d)))) $$ [HSI Hr]
  · isplitl [HSI] <;> iassumption
  icases H with %h2
  ipureintro; exact ⟨funext fun i => h1 i (Finset.mem_univ i), funext fun i => h2 i (Finset.mem_univ i)⟩

/-! ## The run -/

/-- Every device's input unchanged and result in place, every semaphore at zero. -/
def QC : PUnit × MemSt nD τ sig (Elt F) → Prop := fun r => (∀ c : Dev nD, r.2.mem (xLoc c) = m (xLoc c) ∧ r.2.mem (rLoc c) = resArr (m (xLoc c))) ∧ r.2.sem = fun _ => 0

/-- The program runs, ends quiescent, its input unchanged, its result `resArr`. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc_quiescent (K := K F) (D := D F) (𝒱 := 𝒱) (EH := EH F) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tile

end
-- ==== Proof.Ref.lean ====
/-
  What the reference computes: the 64th entry of a row sorted downwards is the row's 64th largest word.
-/
module

public import proofs.«01_k».proof.Proof.Spec
public import Idealize.ShloMosaic.Lib.SortFacts
public import Idealize.ShloMosaic.Lib.SortKey
public import Mathlib.Order.Interval.Finset.Fin

@[expose] public section

noncomputable section

namespace Cert.Proof.Tile

open Cert.Kernel Cert.Proof.Counts
open Idealize.ShloMosaic

/-! ## The 64th of the positions sorted by their words -/

/-- The order by which `top_k` sorts a row of words: the larger word first. -/
def larger (w : ℕ → ℕ) (a b : Fin 32768) : Bool := decide (w b.val < w a.val)

/-- Along the sorted positions the words do not grow. -/
theorem sorted_le (w : ℕ → ℕ) {i j : Fin 32768} (h : i < j) :
    w (sortedFrom (larger w) j).val ≤ w (sortedFrom (larger w) i).val := by
  have e := sortedFrom_noInversion (larger w) (larger w)
    (fun a b hab => by unfold larger at *; simp only [decide_eq_true_eq, decide_eq_false_iff_not] at *; omega)
    (fun _ _ hab => hab)
    (fun a b c hab hbc => by unfold larger at *; simp only [decide_eq_false_iff_not] at *; omega) i j h
  unfold larger at e
  rw [decide_eq_false_iff_not] at e
  exact Nat.not_lt.1 e

/-- The word at the 64th sorted position has fewer than 64 words above it and at least 64 not below it. -/
theorem sorted_kth (w : ℕ → ℕ) : Kth w (w (sortedFrom (larger w) ⟨63, by decide⟩).val) := by
  have hinj : Function.Injective fun k : Fin 32768 => (sortedFrom (larger w) k).val :=
    fun a b h => sortedFrom_injective (larger w) (Fin.ext h)
  unfold Kth
  rw [Nat.count_eq_card_filter_range, Nat.count_eq_card_filter_range]
  constructor
  · have hsub : (Finset.range 32768).filter (fun j => w (sortedFrom (larger w) ⟨63, by decide⟩).val < w j)
        ⊆ (Finset.Iio (⟨63, by decide⟩ : Fin 32768)).image fun k => (sortedFrom (larger w) k).val := by
      intro j hj
      rw [Finset.mem_filter, Finset.mem_range] at hj
      obtain ⟨k, hk⟩ := sortedFrom_surjective (larger w) ⟨j, hj.1⟩
      refine Finset.mem_image.2 ⟨k, Finset.mem_Iio.2 ?_, by rw [hk]⟩
      rcases lt_trichotomy k ⟨63, by decide⟩ with h | h | h
      · exact h
      · exfalso; rw [← h, hk] at hj; exact Nat.lt_irrefl _ hj.2
      · exfalso; have e := sorted_le w h; rw [hk] at e; exact Nat.not_lt.2 e hj.2
    refine Nat.lt_of_le_of_lt ((Finset.card_le_card hsub).trans Finset.card_image_le) ?_
    rw [Fin.card_Iio]
    decide
  · have hsub : ((Finset.Iic (⟨63, by decide⟩ : Fin 32768)).image fun k => (sortedFrom (larger w) k).val)
        ⊆ (Finset.range 32768).filter (fun j => w (sortedFrom (larger w) ⟨63, by decide⟩).val ≤ w j) := by
      intro j hj
      obtain ⟨k, hk, rfl⟩ := Finset.mem_image.1 hj
      refine Finset.mem_filter.2 ⟨Finset.mem_range.2 (Fin.isLt _), ?_⟩
      rcases lt_or_eq_of_le (Finset.mem_Iic.1 hk) with h | h
      · exact sorted_le w h
      · rw [h]
    have e := Finset.card_le_card hsub
    rw [Finset.card_image_of_injective _ hinj, Fin.card_Iic] at e
    exact e

/-! ## The comparator -/

/-- Between floats with the sign bit clear the total order's "greater" compares the words. -/
theorem cmp_words (a b : BitVec 32) (ha : a.toNat < 2 ^ 31) (hb : b.toNat < 2 ^ 31) :
    (FloatOps.cmpfTotal (F := Bits) (φ := .f32) .gt a b == 1#1) = decide (b.toNat < a.toNat) := by
  have ma : BitVec.msb (n := 32) a = false := by rw [BitVec.msb_eq_false_iff_two_mul_lt]; omega
  have mb : BitVec.msb (n := 32) b = false := by rw [BitVec.msb_eq_false_iff_two_mul_lt]; omega
  rw [cmpfTotal_f32_eq_cmpi_sortableKey, sortableKey_of_msb_false a ma, sortableKey_of_msb_false b mb]
  show (BitVec.ofBool (BitVec.slt b a) == 1#1) = _
  rw [BitVec.slt_eq_ult, ma, mb]
  by_cases h : b.toNat < a.toNat
  · have : BitVec.ult b a = true := by rw [BitVec.ult]; exact decide_eq_true h
    rw [this, decide_eq_true h]; rfl
  · have : BitVec.ult b a = false := by rw [BitVec.ult]; exact decide_eq_false h
    rw [this, decide_eq_false h]; rfl

/-! ## `top_k`'s last column -/

/-- The word at position `k` of row `n`. -/
theorem wd_row (f : S64x32768.Idx → Bits .f32) (n : Fin 64) (k : Fin 32768) :
    wd (rowOf f n) k.val = (f (fun | 0 => n | 1 => k | ⟨_ + 2, h⟩ => absurd h (Nat.not_lt.2 (Nat.le_add_left _ _)))).toNat := by
  unfold wd
  rw [dif_pos k.isLt]
  rfl

/-- The position at column `k` of row `n`. -/
def at_ (n : Fin 64) (k : Fin 32768) : S64x32768.Idx := fun | 0 => n | 1 => k | ⟨_ + 2, h⟩ => absurd h (Nat.not_lt.2 (Nat.le_add_left _ _))

/-- Moving along a row. -/
theorem along_at (J : S64x32768.Idx) (n : Fin 64) (h0 : J 0 = n) (k : Fin 32768) : J.along (⟨1, Nat.one_lt_two⟩ : Fin S64x32768.rank) k = at_ n k := by
  funext a
  match a with
  | 0 => exact h0
  | 1 => rfl

/-- A row sorted by the total order's "greater", read at the 64th column. -/
theorem sort_last (f : S64x32768.Idx → Bits .f32) (g : S64x32768.Idx → BitVec 32) (hf : ∀ n, Nonneg (rowOf f n)) (J : S64x32768.Idx) (n : Fin 64) (h0 : J 0 = n) (h1 : (J 1).val = 63) :
    (Host.sort2 S64x32768 1 (fun l r => FloatOps.cmpfTotal (F := Bits) (φ := .f32) .gt l.1 r.1) f g).1 J = BitVec.ofNat 32 (kth (rowOf f n)) := by
  have nat : ∀ k : Fin 32768, (f (at_ n k)).toNat = wd (rowOf f n) k.val := fun k => (wd_row f n k).symm
  have small : ∀ k : Fin 32768, (f (at_ n k)).toNat < 2 ^ 31 := fun k => by rw [nat]; exact hf n k.val
  have hB : (fun k k' : Fin 32768 => FloatOps.cmpfTotal (F := Bits) (φ := .f32) .gt (f (at_ n k)) (f (at_ n k')) == 1#1) = larger (wd (rowOf f n)) := by
    funext k k'
    rw [cmp_words _ _ (small k) (small k'), nat, nat]
    rfl
  have e1 : J 1 = (⟨63, by decide⟩ : Fin 32768) := Fin.ext h1
  have key : (Host.sort2 S64x32768 1 (fun l r => FloatOps.cmpfTotal (F := Bits) (φ := .f32) .gt l.1 r.1) f g).1 J
      = f (at_ n (sortedFrom (larger (wd (rowOf f n))) ⟨63, by decide⟩)) := by
    rw [← hB, ← along_at J n h0]
    simp only [← along_at J n h0]
    rw [← e1]
    rfl
  rw [key, kth_eq (sorted_kth (wd (rowOf f n))), ← nat]
  exact (BitVec.ofNat_toNat 32 _).symm ▸ (BitVec.setWidth_eq _).symm

/-- The values of `top_k` in the last of 64 columns are the rows' 64th largest words. -/
theorem topK_last (f : S64x32768.Idx → Bits .f32) (hf : ∀ n, Nonneg (rowOf f n)) (h : S64x32768.Slices (fun _ => 0) ⟨2, ![64, 64]⟩)
    (j : Shape.Idx ⟨2, ![64, 64]⟩) (n : Fin 64) (h0 : (j 0).val = n.val) (h1 : (j 1).val = 63) :
    (Host.topK (⟨2, ![64, 64]⟩ : Shape) 1 (FloatOps.cmpfTotal (F := Bits) (φ := .f32) .gt) f h).1 j = BitVec.ofNat 32 (kth (rowOf f n)) := by
  unfold Host.topK extractStridedSlice
  exact sort_last f (fun i => if hd : 1 < S64x32768.rank then iotaInDim S64x32768 32 ⟨1, hd⟩ i else 0#32) hf _ n (Fin.ext ((Nat.zero_add _).trans h0)) ((Nat.zero_add _).trans h1)

end Cert.Proof.Tile

end
-- ==== Proof.Equal.lean ====
/-
  The two results are equal: the call's array, sliced, reshaped and broadcast, is `top_k`'s last column broadcast, on
  rows of words with the sign bit clear; and the precondition says that they are.
-/
module

public import proofs.«01_k».proof.Proof.Main
public import proofs.«01_k».proof.Proof.Ref
public import proofs.«01_k».proof.Proof.Gen.Pre_nonneg
public import proofs.«01_k».proof.Proof.Gen.Reference.Run
public import proofs.«01_k».proof.Defs
public import Idealize.ShloMosaic.Lib.ReduceAll
public import Idealize.ShloMosaic.Lib.Pipeline.Value

@[expose] public section

noncomputable section

namespace Cert.Proof.Tile

open Cert.Kernel Cert.Kernel.Gen
open Idealize.ShloMosaic

/-! ## The kernel's result, index by index -/

/-- Row `r` of the result is the 64th largest word of row `r` of the input. -/
theorem resArr_apply (f : S64x32768.Idx → Bits .f32) (j : S64x128.Idx) (n : Fin 64) (hn : (j 0).val = n.val) :
    resArr (F := Bits) f j = BitVec.ofNat 32 (kth (rowOf f n)) := by
  have hlt : n.val < 64 := n.isLt
  let i : S64x1.Idx := fun | 0 => n | 1 => (0 : Fin 1) | ⟨_ + 2, h⟩ => absurd h (Nat.not_lt.2 (Nat.le_add_left _ _))
  let k : S32x2.Idx := fun | 0 => (⟨n.val / 2, by omega⟩ : Fin 32) | 1 => (⟨n.val % 2, by omega⟩ : Fin 2) | ⟨_ + 2, h⟩ => absurd h (Nat.not_lt.2 (Nat.le_add_left _ _))
  have hrm : (S32x2.rowMajor k).val = (S64x1.rowMajor i).val := by
    rw [Shape.rowMajor_val_two, Shape.rowMajor_val_two]
    show n.val / 2 * 2 + n.val % 2 = n.val * 1 + 0
    omega
  have h1 : resArr (F := Bits) f j = shapeCast S64x1 (extractStridedSlice S32x2 ![0, 0] (outArr (F := Bits) f) slices_S32x16_S32x2_0_0) shapeCasts_S32x2_S64x1 i := by
    unfold resArr broadcastInDim
    congr 1
    funext a
    match a with
    | 0 => exact Fin.ext hn
    | 1 => rfl
  rw [h1, shapeCast_apply _ _ i k hrm]
  show BitVec.ofNat 32 (kth (rowOf f (srcRow _ _))) = _
  refine congrArg (fun r => BitVec.ofNat 32 (kth (rowOf f r))) (Fin.ext ?_)
  show 2 * (0 + n.val / 2) + (if 0 + n.val % 2 = 0 then 0 else 1) = n.val
  split <;> omega

/-! ## The equation -/

/-- The kernel's result is the reference's. -/
theorem resArr_eq (f : S64x32768.Idx → Bits .f32) (hf : ∀ n, Nonneg (rowOf f n)) :
    resArr (F := Bits) f = broadcastInDim Cert.Reference.S64x128 ![0, 1] Cert.Reference.Gen.bcast_S64x1_S64x128_0_1
      (extractStridedSlice Cert.Reference.S64x1 ![0, 63]
        ((Host.topK Cert.Reference.S64x64 1 (FloatOps.cmpfTotal (F := Bits) (φ := .f32) .gt) f Cert.Reference.Gen.sliceFits_S64x32768_S64x64).1)
        Cert.Reference.Gen.slices_S64x64_S64x1_0_63) := by
  funext j
  rw [resArr_apply f j (j 0) rfl]
  refine (topK_last f hf _ _ (j 0) ?_ ?_).symm
  · exact Nat.zero_add _
  · rfl

/-! ## The precondition -/

/-- A word that is not negative as a signed number is below 2³¹. -/
theorem toNat_lt_of_sle (w : BitVec 32) (h : BitVec.sle (0#32) w = true) : w.toNat < 2 ^ 31 := by
  have h' := BitVec.sle_iff_toInt_le.1 h
  rw [BitVec.toInt_zero] at h'
  have e := BitVec.toInt_eq_toNat_cond w
  have hlt := w.isLt
  split at e <;> omega

/-- Where `nonneg` is all ones every word of every row has its sign bit clear. -/
theorem nonneg_of_pre (f : S64x32768.Idx → Bits .f32) (h : Cert.Pre_nonneg.fn (F := Bits) f = fun _ => 1#1) (n : Fin 64) : Nonneg (rowOf f n) := by
  intro k
  unfold wd
  split
  · rename_i hk
    have e := Host.reduce_andi_all _ _ _ _ (fun a => Fin.elim0 a) (congrFun h (fun a => Fin.elim0 a)) (at_ n ⟨k, hk⟩)
    have e' : BitVec.ofBool (BitVec.sle (0#32) (f (at_ n ⟨k, hk⟩))) = 1#1 := e
    have e2 : BitVec.sle (0#32) (f (at_ n ⟨k, hk⟩)) = true := by
      cases hb : BitVec.sle (0#32) (f (at_ n ⟨k, hk⟩))
      · rw [hb] at e'; exact absurd e' (by decide)
      · rfl
    exact toNat_lt_of_sle _ e2
  · norm_num

/-- The precondition on the program's memory. -/
theorem ok_of_pre (m : (ℓ : Loc nD τ sig) → Buf (Elt Bits) ℓ) (h : Cert.Pre_Kernel m) : PreOK (F := Bits) m :=
  fun d n => nonneg_of_pre (m (xLoc d)) (h d) n

end Cert.Proof.Tile

end
-- ==== Proof.Encode.lean ====
/-
  The encoder's call: grid point `t` computes columns 2048·t … 2048·t + 2047 of the hidden layer, so the call's result is
  `relu (x · W_encᵀ + b_enc)`, entry by entry, over the extended reals.
-/
module

public import proofs.«01_k».proof.Defs
public import proofs.«01_k».proof.Proof.Gen.EncodeIdeal.Value
public import proofs.«01_k».proof.Proof.Gen.EncodeRefIdeal.Read
public import Idealize.ShloMosaic.Lib.MatmulPlain
public import Idealize.ShloMosaic.Lib.ValueLayout

@[expose] public section

noncomputable section

namespace Cert.Proof.Encode

open Cert.EncodeIdeal Cert.EncodeIdeal.Gen Cert.EncodeIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The offsets of a whole block are zero. -/
theorem hz : (![0, 0] : Fin 2 → Nat) = fun _ => 0 := funext fun a => by fin_cases a <;> rfl

/-- The input `x`. -/
abbrev aX (c : Dev nD) : FVec Ideal S64x1024 .f32 := m ((c : Thread nD τ).loc main_arg0)
/-- The encoder's weights. -/
abbrev aW (c : Dev nD) : FVec Ideal S32768x1024 .f32 := m ((c : Thread nD τ).loc main_arg1)
/-- The encoder's bias. -/
abbrev aB (c : Dev nD) : FVec Ideal S32768 .f32 := m ((c : Thread nD τ).loc main_arg2)

/-- The body leaves its payload of the whole input blocks. -/
theorem out_eq (x0 : Vec Ideal S64x1024 .f32) (x1 : Vec Ideal S2048x1024 .f32) (x2 : Vec Ideal S1x2048 .f32) :
    out0_3 x0 x1 x2 = k0_pay1 x0 x1 x2 := by
  unfold out0_3
  rw [View.canon_unit_zero hz]
  rw [View.ld_unit_zero (S := S64x1024) hz, View.ld_unit_zero (S := S2048x1024) hz, View.ld_unit_zero (S := S1x2048) hz]

/-- An entry of the payload: the row's product with the weight row, the bias, and the maximum with 0. -/
theorem pay_apply (x0 : Vec Ideal S64x1024 .f32) (x1 : Vec Ideal S2048x1024 .f32) (x2 : Vec Ideal S1x2048 .f32) (r : Fin 64) (k : Fin 2048) :
    k0_pay1 (F := Ideal) x0 x1 x2 (ix2 r k)
      = FloatOps.maximumf (FloatOps.addf (∑ l : Fin 1024, x0 (ix2 r l) * x1 (ix2 k l)) (x2 (ix2 0 k))) (FloatOps.ofBits .f32 0x00000000#32) := by
  have e1 : matmul (F := Ideal) (φ₁ := .f32) (φ₂ := .f32) dot_S64x1024_S2048x1024_S64x2048_1_1_0_0_n_n none x0 x1 (constant (F := Ideal) S64x2048 .f32 0x00000000#32) (ix2 r k)
      = ∑ l : Fin 1024, x0 (ix2 r l) * x1 (ix2 k l) := by
    refine (Ideal.matmul_transposedRhs_apply none x0 x1 _ r k).trans ?_
    show Ideal.ofBits .f32 0x00000000#32 + _ = _
    rw [Ideal.ofBits_zero_f32, zero_add]
  have e2 : broadcastTo S64x2048 (shapeCast S1x2048 x2 shapeCasts_S1x2048_S1x2048) broadcasts_S1x2048_S64x2048 (ix2 r k) = x2 (ix2 0 k) := by
    rw [shapeCast_self]; exact broadcastTo_1b_ab_apply _ _ _ _
  unfold k0_pay1
  show FloatOps.maximumf (FloatOps.addf (matmul (F := Ideal) (φ₁ := .f32) (φ₂ := .f32) dot_S64x1024_S2048x1024_S64x2048_1_1_0_0_n_n none x0 x1 (constant S64x2048 .f32 0x00000000#32) (ix2 r k)) (broadcastTo S64x2048 (shapeCast S1x2048 x2 shapeCasts_S1x2048_S1x2048) broadcasts_S1x2048_S64x2048 (ix2 r k))) _ = _
  rw [e1, e2]; rfl

/-- Where the windows stand at point `t`. -/
theorem idx : ∀ t : Fin grid0.N, (win0_0.index t 0 = 0 ∧ win0_0.index t 1 = 0) ∧ (win0_1.index t 0 = t.val ∧ win0_1.index t 1 = 0)
    ∧ (win0_2.index t 0 = 0 ∧ win0_2.index t 1 = t.val) ∧ (win0_3.index t 0 = 0 ∧ win0_3.index t 1 = t.val) := by decide +kernel

/-- The column of the hidden layer that point `t` computes as its column `k`. -/
def col (t : Fin grid0.N) (k : Fin 2048) : Fin 32768 := ⟨2048 * t.val + k.val, by have := t.isLt; have := N_0; omega⟩

/-- The first window's block is all of `x`. -/
theorem blk0 (c : Dev nD) (t : Fin cfg0.N) (r : Fin 64) (l : Fin 1024) : (iblk m c 0 t : Vec Ideal S64x1024 .f32) (ix2 r l) = aX m c (ix2 r l) := by
  have hi := (idx t).1
  unfold iblk
  rw [View.read_apply]
  show V m c main_arg0 _ = _
  rw [V_main_arg0]
  congr 1
  funext a
  apply Fin.ext
  match a with
  | ⟨0, _⟩ => show win0_0.index t 0 * 64 + 1 * r.val = r.val; rw [hi.1]; omega
  | ⟨1, _⟩ => show win0_0.index t 1 * 1024 + 1 * l.val = l.val; rw [hi.2]; omega

/-- The second window's block is 2048 rows of the weights. -/
theorem blk1 (c : Dev nD) (t : Fin cfg0.N) (k : Fin 2048) (l : Fin 1024) : (iblk m c 1 t : Vec Ideal S2048x1024 .f32) (ix2 k l) = aW m c (ix2 (col t k) l) := by
  have hi := (idx t).2.1
  unfold iblk
  rw [View.read_apply]
  show V m c main_arg1 _ = _
  rw [V_main_arg1]
  congr 1
  funext a
  apply Fin.ext
  match a with
  | ⟨0, _⟩ => show win0_1.index t 0 * 2048 + 1 * k.val = 2048 * t.val + k.val; rw [hi.1]; omega
  | ⟨1, _⟩ => show win0_1.index t 1 * 1024 + 1 * l.val = l.val; rw [hi.2]; omega

/-- The bias as the call finds it: one row. -/
theorem bias (c : Dev nD) : V m c main_v0 = shapeCast S1x32768 (aB m c) shapeCasts_S32768_S1x32768 := by
  unfold V hostOps0
  after_results
  rfl

/-- The third window's block is 2048 entries of the bias. -/
theorem blk2 (c : Dev nD) (t : Fin cfg0.N) (k : Fin 2048) : (iblk m c 2 t : Vec Ideal S1x2048 .f32) (ix2 0 k) = aB m c (ix1 (col t k)) := by
  have hi := (idx t).2.2.1
  unfold iblk
  rw [View.read_apply]
  show V m c main_v0 _ = _
  rw [bias]
  refine (congrArg _ (?_ : _ = ix2 (n0 := 1) 0 (col t k))).trans (shapeCast_a_1a_apply _ _ 0 (col t k))
  · funext a
    apply Fin.ext
    match a with
    | ⟨0, _⟩ => show win0_2.index t 0 * 1 + 1 * 0 = 0; rw [hi.1]
    | ⟨1, _⟩ => show win0_2.index t 1 * 2048 + 1 * k.val = 2048 * t.val + k.val; rw [hi.2]; omega

/-- The hidden layer of the reference. -/
abbrev hid (c : Dev nD) : FVec Ideal S64x32768 .f32 :=
  Cert.EncodeRefIdeal.Read.val_main_v5 (F := Ideal) (aX m c) (aW m c) (aB m c)

/-- An entry of the reference's hidden layer. -/
theorem hid_apply (c : Dev nD) (r : Fin 64) (k : Fin 32768) : hid m c (ix2 r k)
    = FloatOps.maximumf (FloatOps.addf (∑ l : Fin 1024, aX m c (ix2 r l) * aW m c (ix2 k l)) (aB m c (ix1 k))) (FloatOps.ofBits .f32 0x00000000#32) := by
  unfold hid
  rw [Cert.EncodeRefIdeal.Read.val_main_v5_apply, Cert.EncodeRefIdeal.Read.val_main_v4_apply, Cert.EncodeRefIdeal.Read.val_main_v1_apply,
    Cert.EncodeRefIdeal.Read.val_main_v3_apply, Cert.EncodeRefIdeal.Read.val_main_v2_apply, Cert.EncodeRefIdeal.Read.val_main_call0_v0_apply, Cert.EncodeRefIdeal.Read.val_main_call0_cst_apply]
  refine congrArg₂ _ (congrArg₂ _ (Finset.sum_congr rfl fun l _ => ?_) (congrArg _ (eq_ix1 _))) rfl
  rw [Cert.EncodeRefIdeal.Read.val_main_v0_apply]
  exact congrArg₂ (· * ·) (congrArg _ (eq_ix2 _)) (congrArg _ (eq_ix2 _))

/-- What point `t` writes back is its block of the reference's hidden layer. -/
theorem flushed_eq (c : Dev nD) (t : Fin cfg0.N) : (dats m 0 c).flushed 3 t = ((cfg0.win 3).blk t).view.read (Elt Ideal) (hid m c) := by
  have hi := (idx t).2.2.2
  rw [flushed3, out_eq]
  funext j
  obtain ⟨r, k, rfl⟩ : ∃ (r : Fin 64) (k : Fin 2048), j = ix2 r k := ⟨j 0, j 1, eq_ix2 j⟩
  rw [View.read_apply]
  show k0_pay1 (F := Ideal) _ _ _ (ix2 r k) = hid m c _
  refine (pay_apply _ _ _ r k).trans (Eq.trans ?_ (congrArg (hid m c) (?_ : ix2 r (col t k) = _)))
  · rw [hid_apply, blk2]
    refine congrArg₂ _ (congrArg₂ _ (Finset.sum_congr rfl fun l _ => ?_) rfl) rfl
    rw [blk0, blk1]
  · funext a
    apply Fin.ext
    match a with
    | ⟨0, _⟩ => show r.val = win0_3.index t 0 * 64 + 1 * r.val; rw [hi.1]; omega
    | ⟨1, _⟩ => show 2048 * t.val + k.val = win0_3.index t 1 * 2048 + 1 * k.val; rw [hi.2]; omega

/-- So the call's result is the reference's hidden layer. -/
theorem final (c : Dev nD) : (dats m 0 c).arrAt 3 cfg0.N = hid m c :=
  (dats m 0 c).arrAt_eq_of_cover 3 (hid m c) (fun t _ => flushed_eq m c t) fun i => by
    have h0 : (i 0 : Nat) < 64 := (i 0).isLt
    have h1 : (i 1 : Nat) < 32768 := (i 1).isLt
    have ht : (i 1 : Nat) / 2048 < grid0.N := by rw [N_0]; omega
    refine ⟨⟨(i 1 : Nat) / 2048, ht⟩, flush0_3 _, ?_⟩
    have hi := (idx ⟨(i 1 : Nat) / 2048, ht⟩).2.2.2
    show i ∈ ((View.whole main_v1).slice (win0_3.rect ⟨(i 1 : Nat) / 2048, ht⟩)).set
    rw [View.set_slice_whole, Rect.mem_set_unit]
    intro a
    match a with
    | ⟨0, _⟩ => show win0_3.index ⟨(i 1 : Nat) / 2048, ht⟩ 0 * 64 ≤ (i 0 : Nat) ∧ (i 0 : Nat) < win0_3.index ⟨(i 1 : Nat) / 2048, ht⟩ 0 * 64 + 64
                rw [hi.1]; omega
    | ⟨1, _⟩ => show win0_3.index ⟨(i 1 : Nat) / 2048, ht⟩ 1 * 2048 ≤ (i 1 : Nat) ∧ (i 1 : Nat) < win0_3.index ⟨(i 1 : Nat) / 2048, ht⟩ 1 * 2048 + 2048
                rw [hi.2]; dsimp only; omega

/-- The encoder's call and the reference end with equal results. -/
theorem algebraic : Cert.algebraic_EncodeIdeal_EncodeRefIdeal (hEncodeIdeal := Cert.EncodeIdeal.Gen.facts) (hEncodeRefIdeal := Cert.EncodeRefIdeal.Gen.facts) := by
  intro m g m' g' _ hm
  refine ⟨fun c => hid m c, (θ_run _ _ _).mono (fun _ h c => ?_) (run_blocks m g), (θ_run _ _ _).mono (fun _ h c => ?_) (Cert.EncodeRefIdeal.Value.run m' g')⟩
  · exact ⟨(h c).1.trans (final m c), (h c).2⟩
  · refine ⟨(h c).1.trans ?_, (h c).2⟩
    rw [(hm c).1, (hm c).2.1, (hm c).2.2]
    exact Cert.EncodeRefIdeal.Read.val_main_v5_eq _ _ _

end Cert.Proof.Encode

end
-- ==== Proof.Decode.lean ====
/-
  The decoder's call: grid point `t` masks columns 2048·t … 2048·t + 2047 of the hidden layer by the row's threshold and
  adds their product with the same columns of the decoder's weights to the one block of the second result, which the
  first point starts with the bias.  So the results are the masked layer, entry by entry, and its whole product with the
  weights, with the bias, over the extended reals.
-/
module

public import proofs.«01_k».proof.Defs
public import proofs.«01_k».proof.Proof.Gen.DecodeIdeal.Value
public import proofs.«01_k».proof.Proof.Gen.DecodeRefIdeal.Read
public import Idealize.ShloMosaic.Lib.MatmulPlain
public import Idealize.ShloMosaic.Lib.ValueLayout

@[expose] public section

noncomputable section

namespace Cert.Proof.Decode

open Cert.DecodeIdeal Cert.DecodeIdeal.Gen Cert.DecodeIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The offsets of a whole block are zero. -/
theorem hz : (![0, 0] : Fin 2 → Nat) = fun _ => 0 := funext fun a => by fin_cases a <;> rfl

/-- The hidden layer. -/
abbrev aH (c : Dev nD) : FVec Ideal S64x32768 .f32 := m ((c : Thread nD τ).loc main_arg0)
/-- The rows' thresholds, one per row in column 0. -/
abbrev aT (c : Dev nD) : FVec Ideal S64x128 .f32 := m ((c : Thread nD τ).loc main_arg1)
/-- The decoder's weights. -/
abbrev aW (c : Dev nD) : FVec Ideal S1024x32768 .f32 := m ((c : Thread nD τ).loc main_arg2)
/-- The decoder's bias. -/
abbrev aB (c : Dev nD) : FVec Ideal S1024 .f32 := m ((c : Thread nD τ).loc main_arg3)

/-! ## What one point computes -/

/-- The column of thresholds the body loads. -/
abbrev thr (x1 : Vec Ideal S64x128 .f32) : Vec Ideal S64x1 .f32 :=
  View.ld x1 (Rect.unit (s := S64x128) ![0, 0] S64x1.size inb_S64x128_S64x1_0_0)

/-- The first point's first result: the masked block. -/
theorem out_A_4 (c : Dev nD) (i : grid0.Coords)
    (a1 : Memref sig .tc .vmem S64x2048 .f32) (h1 : a1.IsWhole)
    (a2 : Memref sig .tc .vmem S64x128 .f32) (h2 : a2.IsWhole)
    (a3 : Memref sig .tc .vmem S1024x2048 .f32) (h3 : a3.IsWhole)
    (a4 : Memref sig .tc .vmem S1x1024 .f32) (h4 : a4.IsWhole)
    (a5 : Memref sig .tc .vmem S64x2048 .f32) (h5 : a5.IsWhole)
    (a6 : Memref sig .tc .vmem S64x1024 .f32) (h6 : a6.IsWhole)
    (hc0 : cond0_0 i) (hc1 : ¬cond0_1 i) (x0 : Vec Ideal S64x2048 .f32) (x1 : Vec Ideal S64x128 .f32) (x2 : Vec Ideal S1024x2048 .f32) (x3 : Vec Ideal S1x1024 .f32) :
    out0_A_4 c i a1 h1 a2 h2 a3 h3 a4 h4 a5 h5 a6 h6 hc0 hc1 x0 x1 x2 x3 = k0_pay1 x0 (thr x1) := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  rw [View.canon_unit_zero hz]
  simp only [View.readAt_eq_ld, Memref.IsWhole.read_unread, View.ld_unit_zero (S := S64x2048) hz, View.ld_unit_zero (S := S1024x2048) hz,
    View.ld_unit_zero (S := S1x1024) hz, View.ld_unit_zero (S := S64x1024) hz]

/-- A later point's first result: the masked block. -/
theorem out_B_4 (c : Dev nD) (i : grid0.Coords)
    (a1 : Memref sig .tc .vmem S64x2048 .f32) (h1 : a1.IsWhole)
    (a2 : Memref sig .tc .vmem S64x128 .f32) (h2 : a2.IsWhole)
    (a3 : Memref sig .tc .vmem S1024x2048 .f32) (h3 : a3.IsWhole)
    (a4 : Memref sig .tc .vmem S1x1024 .f32) (h4 : a4.IsWhole)
    (a5 : Memref sig .tc .vmem S64x2048 .f32) (h5 : a5.IsWhole)
    (a6 : Memref sig .tc .vmem S64x1024 .f32) (h6 : a6.IsWhole)
    (hc0 : ¬cond0_0 i) (hc1 : cond0_1 i) (x0 : Vec Ideal S64x2048 .f32) (x1 : Vec Ideal S64x128 .f32) (x2 : Vec Ideal S1024x2048 .f32) (x3 : Vec Ideal S1x1024 .f32) (xo : Vec Ideal S64x1024 .f32) :
    out0_B_4 c i a1 h1 a2 h2 a3 h3 a4 h4 a5 h5 a6 h6 hc0 hc1 x0 x1 x2 x3 xo = k0_pay1 x0 (thr x1) := by
  unfold out0_B_4
  rw [View.read_writes_eq_canon _ _ _ (cover0_B_4 c i a1 h1 a2 h2 a3 h3 a4 h4 a5 h5 a6 h6 hc0 hc1 x0 x1 x2 x3 xo)]
  unfold kernelRun0_B
  dsimp only
  rw [View.canon_unit_zero hz]
  simp only [View.readAt_eq_ld, Memref.IsWhole.read_unread, View.ld_unit_zero (S := S64x2048) hz, View.ld_unit_zero (S := S1024x2048) hz,
    View.ld_unit_zero (S := S1x1024) hz, View.ld_unit_zero (S := S64x1024) hz]

/-- The first point's second result: the block's product, with the bias. -/
theorem out_A_5 (c : Dev nD) (i : grid0.Coords)
    (a1 : Memref sig .tc .vmem S64x2048 .f32) (h1 : a1.IsWhole)
    (a2 : Memref sig .tc .vmem S64x128 .f32) (h2 : a2.IsWhole)
    (a3 : Memref sig .tc .vmem S1024x2048 .f32) (h3 : a3.IsWhole)
    (a4 : Memref sig .tc .vmem S1x1024 .f32) (h4 : a4.IsWhole)
    (a5 : Memref sig .tc .vmem S64x2048 .f32) (h5 : a5.IsWhole)
    (a6 : Memref sig .tc .vmem S64x1024 .f32) (h6 : a6.IsWhole)
    (hc0 : cond0_0 i) (hc1 : ¬cond0_1 i) (x0 : Vec Ideal S64x2048 .f32) (x1 : Vec Ideal S64x128 .f32) (x2 : Vec Ideal S1024x2048 .f32) (x3 : Vec Ideal S1x1024 .f32) :
    out0_A_5 c i a1 h1 a2 h2 a3 h3 a4 h4 a5 h5 a6 h6 hc0 hc1 x0 x1 x2 x3 = k0_pay3 x0 (thr x1) x2 x3 := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  rw [View.canon_unit_zero hz]
  simp only [View.readAt_eq_ld, Memref.IsWhole.read_unread, View.ld_unit_zero (S := S64x2048) hz, View.ld_unit_zero (S := S1024x2048) hz,
    View.ld_unit_zero (S := S1x1024) hz, View.ld_unit_zero (S := S64x1024) hz]

/-- A later point's second result: the block's product added to what the point before left. -/
theorem out_B_5 (c : Dev nD) (i : grid0.Coords)
    (a1 : Memref sig .tc .vmem S64x2048 .f32) (h1 : a1.IsWhole)
    (a2 : Memref sig .tc .vmem S64x128 .f32) (h2 : a2.IsWhole)
    (a3 : Memref sig .tc .vmem S1024x2048 .f32) (h3 : a3.IsWhole)
    (a4 : Memref sig .tc .vmem S1x1024 .f32) (h4 : a4.IsWhole)
    (a5 : Memref sig .tc .vmem S64x2048 .f32) (h5 : a5.IsWhole)
    (a6 : Memref sig .tc .vmem S64x1024 .f32) (h6 : a6.IsWhole)
    (hc0 : ¬cond0_0 i) (hc1 : cond0_1 i) (x0 : Vec Ideal S64x2048 .f32) (x1 : Vec Ideal S64x128 .f32) (x2 : Vec Ideal S1024x2048 .f32) (x3 : Vec Ideal S1x1024 .f32) (xo : Vec Ideal S64x1024 .f32) :
    out0_B_5 c i a1 h1 a2 h2 a3 h3 a4 h4 a5 h5 a6 h6 hc0 hc1 x0 x1 x2 x3 xo = k0_pay4 x0 (thr x1) x2 xo := by
  unfold out0_B_5
  rw [View.read_writes_eq_canon _ _ _ (cover0_B_5 c i a1 h1 a2 h2 a3 h3 a4 h4 a5 h5 a6 h6 hc0 hc1 x0 x1 x2 x3 xo)]
  unfold kernelRun0_B
  dsimp only
  rw [View.canon_unit_zero hz]
  simp only [View.readAt_eq_ld, Memref.IsWhole.read_unread, View.ld_unit_zero (S := S64x2048) hz, View.ld_unit_zero (S := S1024x2048) hz,
    View.ld_unit_zero (S := S1x1024) hz, View.ld_unit_zero (S := S64x1024) hz]

/-- The mask: an entry not below its row's threshold is kept, any other becomes 0. -/
def msk (h t : Ideal .f32) : Ideal .f32 := Scalar.select (FloatOps.cmpf .oge h t) h (FloatOps.ofBits .f32 0x00000000#32)

/-- The threshold column's entry of row `r`. -/
theorem thr_apply (x1 : Vec Ideal S64x128 .f32) (r : Fin 64) : thr x1 (ix2 r 0) = x1 (ix2 r 0) := by
  unfold thr
  rw [View.ld_unit]
  refine extractStridedSlice_apply _ _ _ _ _ fun a => ?_
  match a with
  | ⟨0, _⟩ => show r.val = 0 + r.val; omega
  | ⟨1, _⟩ => rfl

/-- An entry of the masked block. -/
theorem pay1_apply (x0 : Vec Ideal S64x2048 .f32) (x1 : Vec Ideal S64x128 .f32) (r : Fin 64) (k : Fin 2048) :
    k0_pay1 (F := Ideal) x0 (thr x1) (ix2 r k) = msk (x0 (ix2 r k)) (x1 (ix2 r 0)) := by
  have e : broadcastTo (α := Ideal .f32) S64x2048 (thr x1) broadcasts_S64x1_S64x2048 (ix2 r k) = x1 (ix2 r 0) := by
    refine (broadcastTo_apply _ _ _ (ix2 (n0 := 64) (n1 := 1) r 0) fun a => ?_).trans (thr_apply x1 r)
    match a with
    | ⟨0, _⟩ => rfl
    | ⟨1, _⟩ => rfl
  unfold k0_pay1
  show Scalar.select (FloatOps.cmpf .oge (x0 (ix2 r k)) (broadcastTo (α := Ideal .f32) S64x2048 (thr x1) broadcasts_S64x1_S64x2048 (ix2 r k))) (x0 (ix2 r k)) _ = _
  rw [e]; rfl

/-- An entry of the block's product. -/
theorem pay2_apply (x0 : Vec Ideal S64x2048 .f32) (x1 : Vec Ideal S64x128 .f32) (x2 : Vec Ideal S1024x2048 .f32) (r : Fin 64) (d : Fin 1024) :
    k0_pay2 (F := Ideal) x0 (thr x1) x2 (ix2 r d) = (∑ l : Fin 2048, (msk (x0 (ix2 r l)) (x1 (ix2 r 0)) : EReal) * (x2 (ix2 d l) : EReal) : EReal) := by
  unfold k0_pay2
  refine (Ideal.matmul_transposedRhs_apply (φ₁ := .bf16) (φ₂ := .bf16) none _ _ _ r d).trans ?_
  show Ideal.ofBits .f32 0x00000000#32 + _ = _
  rw [Ideal.ofBits_zero_f32, zero_add]
  refine Finset.sum_congr rfl fun l _ => ?_
  rw [← pay1_apply]
  rfl

/-- An entry of the first point's second result. -/
theorem pay3_apply (x0 : Vec Ideal S64x2048 .f32) (x1 : Vec Ideal S64x128 .f32) (x2 : Vec Ideal S1024x2048 .f32) (x3 : Vec Ideal S1x1024 .f32) (r : Fin 64) (d : Fin 1024) :
    k0_pay3 (F := Ideal) x0 (thr x1) x2 x3 (ix2 r d)
      = ((∑ l : Fin 2048, (msk (x0 (ix2 r l)) (x1 (ix2 r 0)) : EReal) * (x2 (ix2 d l) : EReal)) + (x3 (ix2 0 d) : EReal) : EReal) := by
  have e : broadcastTo S64x1024 (shapeCast S1x1024 x3 shapeCasts_S1x1024_S1x1024) broadcasts_S1x1024_S64x1024 (ix2 r d) = x3 (ix2 0 d) := by
    rw [shapeCast_self]; exact broadcastTo_1b_ab_apply _ _ _ _
  unfold k0_pay3
  exact congrArg₂ (fun a b : EReal => a + b) (pay2_apply x0 x1 x2 r d) e

/-- An entry of a later point's second result. -/
theorem pay4_apply (x0 : Vec Ideal S64x2048 .f32) (x1 : Vec Ideal S64x128 .f32) (x2 : Vec Ideal S1024x2048 .f32) (xo : Vec Ideal S64x1024 .f32) (r : Fin 64) (d : Fin 1024) :
    k0_pay4 (F := Ideal) x0 (thr x1) x2 xo (ix2 r d)
      = ((xo (ix2 r d) : EReal) + ∑ l : Fin 2048, (msk (x0 (ix2 r l)) (x1 (ix2 r 0)) : EReal) * (x2 (ix2 d l) : EReal) : EReal) := by
  unfold k0_pay4
  rw [shapeCast_self]
  exact congrArg (fun b : EReal => (xo (ix2 r d) : EReal) + b) (pay2_apply x0 x1 x2 r d)

/-! ## The blocks -/

/-- Where the windows stand at point `t`. -/
theorem idx : ∀ t : Fin grid0.N, (win0_0.index t 0 = 0 ∧ win0_0.index t 1 = t.val) ∧ (win0_1.index t 0 = 0 ∧ win0_1.index t 1 = 0)
    ∧ (win0_2.index t 0 = 0 ∧ win0_2.index t 1 = t.val) ∧ (win0_3.index t 0 = 0 ∧ win0_3.index t 1 = 0)
    ∧ (win0_4.index t 0 = 0 ∧ win0_4.index t 1 = t.val) ∧ (win0_5.index t 0 = 0 ∧ win0_5.index t 1 = 0) := by decide +kernel

/-- The column of the hidden layer that point `t` handles as its column `k`. -/
def col (t : Fin grid0.N) (k : Fin 2048) : Fin 32768 := ⟨2048 * t.val + k.val, by have := t.isLt; have := N_0; omega⟩

/-- The first window's block is 2048 columns of the hidden layer. -/
theorem blk0 (c : Dev nD) (t : Fin cfg0.N) (r : Fin 64) (k : Fin 2048) : (iblk m c 0 t : Vec Ideal S64x2048 .f32) (ix2 r k) = aH m c (ix2 r (col t k)) := by
  have hi := (idx t).1
  unfold iblk
  rw [View.read_apply]
  show V m c main_arg0 _ = _
  rw [V_main_arg0]
  congr 1
  funext a
  apply Fin.ext
  match a with
  | ⟨0, _⟩ => show win0_0.index t 0 * 64 + 1 * r.val = r.val; rw [hi.1]; omega
  | ⟨1, _⟩ => show win0_0.index t 1 * 2048 + 1 * k.val = 2048 * t.val + k.val; rw [hi.2]; omega

/-- The second window's block is all the thresholds. -/
theorem blk1 (c : Dev nD) (t : Fin cfg0.N) (r : Fin 64) (k : Fin 128) : (iblk m c 1 t : Vec Ideal S64x128 .f32) (ix2 r k) = aT m c (ix2 r k) := by
  have hi := (idx t).2.1
  unfold iblk
  rw [View.read_apply]
  show V m c main_arg1 _ = _
  rw [V_main_arg1]
  congr 1
  funext a
  apply Fin.ext
  match a with
  | ⟨0, _⟩ => show win0_1.index t 0 * 64 + 1 * r.val = r.val; rw [hi.1]; omega
  | ⟨1, _⟩ => show win0_1.index t 1 * 128 + 1 * k.val = k.val; rw [hi.2]; omega

/-- The third window's block is 2048 columns of the weights. -/
theorem blk2 (c : Dev nD) (t : Fin cfg0.N) (d : Fin 1024) (k : Fin 2048) : (iblk m c 2 t : Vec Ideal S1024x2048 .f32) (ix2 d k) = aW m c (ix2 d (col t k)) := by
  have hi := (idx t).2.2.1
  unfold iblk
  rw [View.read_apply]
  show V m c main_arg2 _ = _
  rw [V_main_arg2]
  congr 1
  funext a
  apply Fin.ext
  match a with
  | ⟨0, _⟩ => show win0_2.index t 0 * 1024 + 1 * d.val = d.val; rw [hi.1]; omega
  | ⟨1, _⟩ => show win0_2.index t 1 * 2048 + 1 * k.val = 2048 * t.val + k.val; rw [hi.2]; omega

/-- The bias as the call finds it: one row. -/
theorem bias (c : Dev nD) : V m c main_v0 = shapeCast S1x1024 (aB m c) shapeCasts_S1024_S1x1024 := by
  unfold V hostOps0
  after_results
  rfl

/-- The fourth window's block is the bias. -/
theorem blk3 (c : Dev nD) (t : Fin cfg0.N) (d : Fin 1024) : (iblk m c 3 t : Vec Ideal S1x1024 .f32) (ix2 0 d) = aB m c (ix1 d) := by
  have hi := (idx t).2.2.2.1
  unfold iblk
  rw [View.read_apply]
  show V m c main_v0 _ = _
  rw [bias]
  refine (congrArg _ (?_ : _ = ix2 (n0 := 1) 0 d)).trans (shapeCast_a_1a_apply _ _ 0 d)
  funext a
  apply Fin.ext
  match a with
  | ⟨0, _⟩ => show win0_3.index t 0 * 1 + 1 * 0 = 0; rw [hi.1]
  | ⟨1, _⟩ => show win0_3.index t 1 * 1024 + 1 * d.val = d.val; rw [hi.2]; omega

/-! ## The masked layer -/

/-- The masked layer of the reference. -/
abbrev top (c : Dev nD) : FVec Ideal S64x32768 .f32 := Cert.DecodeRefIdeal.Read.val_main_v4 (F := Ideal) (aH m c) (aT m c)

/-- An entry of the reference's masked layer. -/
theorem top_apply (c : Dev nD) (r : Fin 64) (k : Fin 32768) : top m c (ix2 r k) = msk (aH m c (ix2 r k)) (aT m c (ix2 r 0)) := by
  unfold top
  rw [Cert.DecodeRefIdeal.Read.val_main_v4_apply, Cert.DecodeRefIdeal.Read.val_main_v2_apply, Cert.DecodeRefIdeal.Read.val_main_v1_apply,
    Cert.DecodeRefIdeal.Read.val_main_v0_apply, Cert.DecodeRefIdeal.Read.val_main_v3_apply, Cert.DecodeRefIdeal.Read.val_main_cst_apply]
  unfold msk
  rw [show Cert.DecodeRefIdeal.Read.idx_main_v0 (Cert.DecodeRefIdeal.Read.idx_main_v1 (ix2 r k)) = ix2 r 0 from eq_ix2 _]

/-- What point `t` leaves of the first result: its block, masked. -/
theorem outs1 (c : Dev nD) (t : Fin cfg0.N) : (outsAt0 m c t.val t.isLt).1 = k0_pay1 (iblk m c 0 t) (thr (iblk m c 1 t)) := by
  have hN : t.val < 16 := lt_of_lt_of_eq t.isLt N_0
  by_cases h : t.val % 16 = 0
  · rw [outsAt0_A m c t h (by omega)]; dsimp only; rw [out_A_4]
  · rw [outsAt0_B m c t h (by omega)]; dsimp only; rw [out_B_4]

/-- What point `t` writes back to the first result is its block of the reference's masked layer. -/
theorem flushed4_eq (c : Dev nD) (t : Fin cfg0.N) : (dats m 0 c).flushed 4 t = ((cfg0.win 4).blk t).view.read (Elt Ideal) (top m c) := by
  have hi := (idx t).2.2.2.2.1
  rw [flushed4, outs1]
  funext j
  obtain ⟨r, k, rfl⟩ : ∃ (r : Fin 64) (k : Fin 2048), j = ix2 r k := ⟨j 0, j 1, eq_ix2 j⟩
  rw [View.read_apply]
  show k0_pay1 (F := Ideal) _ _ (ix2 r k) = top m c _
  refine (pay1_apply _ _ r k).trans (Eq.trans ?_ (congrArg (top m c) (?_ : ix2 r (col t k) = _)))
  · rw [top_apply, blk0, blk1]
  · funext a
    apply Fin.ext
    match a with
    | ⟨0, _⟩ => show r.val = win0_4.index t 0 * 64 + 1 * r.val; rw [hi.1]; omega
    | ⟨1, _⟩ => show 2048 * t.val + k.val = win0_4.index t 1 * 2048 + 1 * k.val; rw [hi.2]; omega

/-- So the call's first result is the reference's masked layer. -/
theorem final4 (c : Dev nD) : (dats m 0 c).arrAt 4 cfg0.N = top m c :=
  (dats m 0 c).arrAt_eq_of_cover 4 (top m c) (fun t _ => flushed4_eq m c t) fun i => by
    have h0 : (i 0 : Nat) < 64 := (i 0).isLt
    have h1 : (i 1 : Nat) < 32768 := (i 1).isLt
    have ht : (i 1 : Nat) / 2048 < grid0.N := by rw [N_0]; omega
    refine ⟨⟨(i 1 : Nat) / 2048, ht⟩, flush0_4 _, ?_⟩
    have hi := (idx ⟨(i 1 : Nat) / 2048, ht⟩).2.2.2.2.1
    show i ∈ ((View.whole main_v1_0).slice (win0_4.rect ⟨(i 1 : Nat) / 2048, ht⟩)).set
    rw [View.set_slice_whole, Rect.mem_set_unit]
    intro a
    match a with
    | ⟨0, _⟩ => show win0_4.index ⟨(i 1 : Nat) / 2048, ht⟩ 0 * 64 ≤ (i 0 : Nat) ∧ (i 0 : Nat) < win0_4.index ⟨(i 1 : Nat) / 2048, ht⟩ 0 * 64 + 64
                rw [hi.1]; omega
    | ⟨1, _⟩ => show win0_4.index ⟨(i 1 : Nat) / 2048, ht⟩ 1 * 2048 ≤ (i 1 : Nat) ∧ (i 1 : Nat) < win0_4.index ⟨(i 1 : Nat) / 2048, ht⟩ 1 * 2048 + 2048
                rw [hi.2]; dsimp only; omega

/-! ## The product -/

/-- Term `k` of the product's entry (r, d): the masked layer's entry times the weight (0 past the last column). -/
def trm (c : Dev nD) (r : Fin 64) (d : Fin 1024) (k : ℕ) : EReal :=
  if h : k < 32768 then (top m c (ix2 r ⟨k, h⟩) : EReal) * (aW m c (ix2 d ⟨k, h⟩) : EReal) else 0

/-- A point's block product is its 2048 terms. -/
theorem blk_sum (c : Dev nD) (t : Fin cfg0.N) (r : Fin 64) (d : Fin 1024) :
    (∑ l : Fin 2048, (msk ((iblk m c 0 t : Vec Ideal S64x2048 .f32) (ix2 r l)) ((iblk m c 1 t : Vec Ideal S64x128 .f32) (ix2 r 0)) : EReal)
        * ((iblk m c 2 t : Vec Ideal S1024x2048 .f32) (ix2 d l) : EReal) : EReal)
      = ∑ l ∈ Finset.range 2048, trm m c r d (2048 * t.val + l) := by
  rw [← Fin.sum_univ_eq_sum_range (fun l => trm m c r d (2048 * t.val + l))]
  refine Finset.sum_congr rfl fun l _ => ?_
  rw [blk0, blk1, blk2, ← top_apply]
  unfold trm
  rw [dif_pos (show 2048 * t.val + l.val < 32768 from (col t l).isLt)]
  rfl

/-- The bias after the terms of points 0 … n: what point `n` leaves of the second result. -/
theorem acc (c : Dev nD) (r : Fin 64) (d : Fin 1024) : ∀ (n : ℕ) (h : n < cfg0.N),
    (outsAt0 m c n h).2 (ix2 r d) = ((∑ k ∈ Finset.range (2048 * (n + 1)), trm m c r d k) + (aB m c (ix1 d) : EReal) : EReal)
  | 0, h => by
    rw [outsAt0_A m c ⟨0, h⟩ rfl (by simp)]
    dsimp only
    rw [out_A_5]
    refine (pay3_apply _ _ _ _ r d).trans ?_
    rw [blk_sum, blk3]
    simp only [Nat.mul_zero, Nat.zero_add, Nat.mul_one]
  | n + 1, h => by
    have hN : n + 1 < 16 := lt_of_lt_of_eq h N_0
    rw [outsAt0_B m c ⟨n + 1, h⟩ (by dsimp only; omega) (by dsimp only; omega)]
    dsimp only
    rw [out_B_5]
    refine (pay4_apply _ _ _ _ r d).trans ?_
    rw [blk_sum]
    refine (congrArg (fun a : EReal => a + _) (acc c r d n (Nat.lt_of_succ_lt h))).trans ?_
    rw [show 2048 * (n + 1 + 1) = 2048 * (n + 1) + 2048 from by omega, Finset.sum_range_add]
    exact add_right_comm _ _ _

/-- The reference's second result. -/
abbrev rec (c : Dev nD) : FVec Ideal S64x1024 .f32 := Cert.DecodeRefIdeal.Read.val_main_v9 (F := Ideal) (aH m c) (aT m c) (aW m c) (aB m c)

/-- An entry of the reference's second result: all the terms, and the bias. -/
theorem rec_apply (c : Dev nD) (r : Fin 64) (d : Fin 1024) :
    rec m c (ix2 r d) = ((∑ k ∈ Finset.range 32768, trm m c r d k) + (aB m c (ix1 d) : EReal) : EReal) := by
  unfold rec
  rw [Cert.DecodeRefIdeal.Read.val_main_v9_apply, Cert.DecodeRefIdeal.Read.val_main_v6_apply, Cert.DecodeRefIdeal.Read.val_main_v8_apply,
    Cert.DecodeRefIdeal.Read.val_main_v7_apply, ← Fin.sum_univ_eq_sum_range]
  refine congrArg₂ (fun a b : EReal => a + b) (Finset.sum_congr rfl fun k _ => ?_) (congrArg _ (eq_ix1 _))
  rw [Cert.DecodeRefIdeal.Read.val_main_v5_apply]
  refine Eq.trans ?_ (dif_pos k.isLt).symm
  exact congrArg₂ (fun a b : EReal => a * b) (congrArg (top m c) (eq_ix2 _)) (congrArg (aW m c) (eq_ix2 _))

/-- What the last point writes back to the second result is the reference's. -/
theorem flushed5_eq (c : Dev nD) (t : Fin cfg0.N) (hf : (cfg0.win 5).flush t = true) :
    (dats m 0 c).flushed 5 t = ((cfg0.win 5).blk t).view.read (Elt Ideal) (rec m c) := by
  have hi := (idx t).2.2.2.2.2
  have hN : t.val < 16 := lt_of_lt_of_eq t.isLt N_0
  have ht : t.val = 15 := by have := (flush0_5 t).mp hf; omega
  rw [flushed5]
  funext j
  obtain ⟨r, d, rfl⟩ : ∃ (r : Fin 64) (d : Fin 1024), j = ix2 r d := ⟨j 0, j 1, eq_ix2 j⟩
  rw [View.read_apply]
  show (outsAt0 m c t.val t.isLt).2 (ix2 r d) = rec m c _
  refine (acc m c r d t.val t.isLt).trans (Eq.trans ?_ (congrArg (rec m c) (?_ : ix2 r d = _)))
  · rw [rec_apply, ht]
  · funext a
    apply Fin.ext
    match a with
    | ⟨0, _⟩ => show r.val = win0_5.index t 0 * 64 + 1 * r.val; rw [hi.1]; omega
    | ⟨1, _⟩ => show d.val = win0_5.index t 1 * 1024 + 1 * d.val; rw [hi.2]; omega

/-- So the call's second result is the reference's. -/
theorem final5 (c : Dev nD) : (dats m 0 c).arrAt 5 cfg0.N = rec m c :=
  (dats m 0 c).arrAt_eq_of_cover 5 (rec m c) (fun t hf => flushed5_eq m c t hf) fun i => by
    have h0 : (i 0 : Nat) < 64 := (i 0).isLt
    have h1 : (i 1 : Nat) < 1024 := (i 1).isLt
    have ht : 15 < grid0.N := by rw [N_0]; omega
    refine ⟨⟨15, ht⟩, (flush0_5 _).mpr rfl, ?_⟩
    have hi := (idx ⟨15, ht⟩).2.2.2.2.2
    show i ∈ ((View.whole main_v1_1).slice (win0_5.rect ⟨15, ht⟩)).set
    rw [View.set_slice_whole, Rect.mem_set_unit]
    intro a
    match a with
    | ⟨0, _⟩ => show win0_5.index ⟨15, ht⟩ 0 * 64 ≤ (i 0 : Nat) ∧ (i 0 : Nat) < win0_5.index ⟨15, ht⟩ 0 * 64 + 64
                rw [hi.1]; omega
    | ⟨1, _⟩ => show win0_5.index ⟨15, ht⟩ 1 * 1024 ≤ (i 1 : Nat) ∧ (i 1 : Nat) < win0_5.index ⟨15, ht⟩ 1 * 1024 + 1024
                rw [hi.2]; omega

/-- The decoder's call and the reference end with equal results. -/
theorem algebraic : Cert.algebraic_DecodeIdeal_DecodeRefIdeal (hDecodeIdeal := Cert.DecodeIdeal.Gen.facts) (hDecodeRefIdeal := Cert.DecodeRefIdeal.Gen.facts) := by
  intro m g m' g' _ hm
  refine ⟨fun c => rec m c, fun c => top m c, (θ_run _ _ _).mono (fun _ h c => ?_) (run_blocks m g), (θ_run _ _ _).mono (fun _ h c => ?_) (Cert.DecodeRefIdeal.Value.run m' g')⟩
  · exact ⟨(h c).2.1.trans (final5 m c), (h c).1.trans (final4 m c), (h c).2.2⟩
  · refine ⟨(h c).1.trans ?_, (h c).2.1.trans ?_, (h c).2.2⟩
    · rw [(hm c).1, (hm c).2.1, (hm c).2.2.1, (hm c).2.2.2]
      exact Cert.DecodeRefIdeal.Read.val_main_v9_eq _ _ _ _
    · rw [(hm c).1, (hm c).2.1]
      exact Cert.DecodeRefIdeal.Read.val_main_v4_eq _ _

end Cert.Proof.Decode

end
-- ==== Proof.lean ====
/-
  The certificate's claims.  The SparseCore call (`Kernel`) and its reference run and end quiescent with their input
  unchanged, and on inputs whose words have the sign bit clear the call's result is the reference's, bit for bit.  The two
  TensorCore calls (`Encode`, `Decode`) and their references do the same, and over the extended reals each call's results
  are its reference's.
-/
module

public import proofs.«01_k».proof.Defs
public import proofs.«01_k».proof.Proof.Gen.Kernel
public import proofs.«01_k».proof.Proof.Gen.Kernel.Skeleton
public import proofs.«01_k».proof.Proof.Gen.Pre_nonneg
public import proofs.«01_k».proof.Proof.Gen.Reference.Run
public import proofs.«01_k».proof.Proof.Gen.Encode
public import proofs.«01_k».proof.Proof.Gen.Encode.Frame
public import proofs.«01_k».proof.Proof.Gen.EncodeIdeal
public import proofs.«01_k».proof.Proof.Gen.EncodeIdeal.Frame
public import proofs.«01_k».proof.Proof.Gen.EncodeIdeal.Value
public import proofs.«01_k».proof.Proof.Gen.EncodeRefIdeal
public import proofs.«01_k».proof.Proof.Gen.EncodeRefIdeal.Run
public import proofs.«01_k».proof.Proof.Gen.EncodeRefIdeal.Read
public import proofs.«01_k».proof.Proof.Gen.Decode
public import proofs.«01_k».proof.Proof.Gen.Decode.Frame
public import proofs.«01_k».proof.Proof.Gen.DecodeIdeal
public import proofs.«01_k».proof.Proof.Gen.DecodeIdeal.Frame
public import proofs.«01_k».proof.Proof.Gen.DecodeIdeal.Value
public import proofs.«01_k».proof.Proof.Gen.DecodeRefIdeal
public import proofs.«01_k».proof.Proof.Gen.DecodeRefIdeal.Run
public import proofs.«01_k».proof.Proof.Gen.DecodeRefIdeal.Read
public import proofs.«01_k».proof.Proof.Equal
public import proofs.«01_k».proof.Proof.Encode
public import proofs.«01_k».proof.Proof.Decode
public import Idealize.ShloMosaic.Lib.Quiescent

@[expose] public section

noncomputable section

namespace Cert.Proof

open Idealize.ShloMosaic Idealize.SL.Sem Cert.Proof.Tile

/-- The kernel runs, its input ends unchanged, every semaphore ends at zero. -/
theorem frame_kernel : Cert.quiescent_Kernel (hKernel := Cert.Kernel.Gen.facts) (hPre_nonneg := Cert.Pre_nonneg.Gen.facts) := fun m g hpre =>
  (θ_run _ _ _).mono (fun _ h => ⟨fun c => (h.1 c).1, h.2⟩) (run_main m g (ok_of_pre m hpre))

/-- The reference runs, its input ends unchanged; it has no semaphore. -/
theorem frame_reference : Cert.quiescent_Reference (hReference := Cert.Reference.Gen.facts) := fun m g _ =>
  (θ_run _ _ _).mono (fun r h => ⟨fun c => (h c).2, sem_eq_zero_of_no_sems (by decide) r.2⟩) (Cert.Reference.Value.run m g)

/-- The same on inputs of which the precondition holds. -/
theorem frame_reference_pre : Cert.quiescent_Reference_pre_nonneg (hReference := Cert.Reference.Gen.facts) (hPre_nonneg := Cert.Pre_nonneg.Gen.facts) :=
  fun m g _ => frame_reference m g trivial

/-- The kernel's result is the reference's, bit for bit. -/
theorem equal : Cert.bitexact_Kernel_Reference (hKernel := Cert.Kernel.Gen.facts) (hReference := Cert.Reference.Gen.facts) (hPre_nonneg := Cert.Pre_nonneg.Gen.facts) :=
  fun m g m' g' hpre hm => ⟨fun c => resArr (F := Bits) (m (xLoc c)),
    (θ_run _ _ _).mono (fun _ h c => ⟨(h.1 c).2, (h.1 c).1⟩) (run_main m g (ok_of_pre m hpre)),
    (θ_run _ _ _).mono (fun _ h c => ⟨(h c).1.trans (by rw [hm c]; exact (resArr_eq _ (ok_of_pre m hpre c)).symm), (h c).2⟩) (Cert.Reference.Value.run m' g')⟩

/-- The encoder's call runs, its arguments end unchanged, every semaphore ends at zero. -/
theorem frame_encode : Cert.quiescent_Encode (hEncode := Cert.Encode.Gen.facts) := fun m g _ => Cert.Encode.Gen.frame m g

/-- The same over the extended reals. -/
theorem frame_encode_ideal : Cert.quiescent_EncodeIdeal (hEncodeIdeal := Cert.EncodeIdeal.Gen.facts) := fun m g _ => Cert.EncodeIdeal.Gen.frame m g

/-- The encoder's reference runs, its arguments end unchanged; it has no semaphore. -/
theorem frame_encode_ref : Cert.quiescent_EncodeRefIdeal (hEncodeRefIdeal := Cert.EncodeRefIdeal.Gen.facts) := fun m g _ =>
  (θ_run _ _ _).mono (fun r h => ⟨fun c => (h c).2, sem_eq_zero_of_no_sems (by decide) r.2⟩) (Cert.EncodeRefIdeal.Value.run m g)

/-- The decoder's call runs, its arguments end unchanged, every semaphore ends at zero. -/
theorem frame_decode : Cert.quiescent_Decode (hDecode := Cert.Decode.Gen.facts) := fun m g _ => Cert.Decode.Gen.frame m g

/-- The same over the extended reals. -/
theorem frame_decode_ideal : Cert.quiescent_DecodeIdeal (hDecodeIdeal := Cert.DecodeIdeal.Gen.facts) := fun m g _ => Cert.DecodeIdeal.Gen.frame m g

/-- The decoder's reference runs, its arguments end unchanged; it has no semaphore. -/
theorem frame_decode_ref : Cert.quiescent_DecodeRefIdeal (hDecodeRefIdeal := Cert.DecodeRefIdeal.Gen.facts) := fun m g _ =>
  (θ_run _ _ _).mono (fun r h => ⟨fun c => (h c).2.2, sem_eq_zero_of_no_sems (by decide) r.2⟩) (Cert.DecodeRefIdeal.Value.run m g)

/-- All the claims. -/
theorem claim : Cert.Claim := ⟨Cert.Kernel.Gen.facts, Cert.Reference.Gen.facts, Cert.Encode.Gen.facts, Cert.EncodeIdeal.Gen.facts, Cert.EncodeRefIdeal.Gen.facts,
  Cert.Decode.Gen.facts, Cert.DecodeIdeal.Gen.facts, Cert.DecodeRefIdeal.Gen.facts, Cert.Pre_nonneg.Gen.facts,
  frame_kernel, frame_reference, frame_reference_pre, frame_encode, frame_encode_ideal, frame_encode_ref, frame_decode, frame_decode_ideal, frame_decode_ref,
  equal, trivial, Encode.algebraic, trivial, Decode.algebraic⟩

end Cert.Proof

end
